-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2.2.2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)) (v2 : (c : Dev Cert.KernelIdeal.nD) → Buf (Elt Ideal) ((c.tc : Thread Cert.KernelIdeal.nD Cert.KernelIdeal.τ).loc Cert.KernelIdeal.main_v51_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_v51_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)) (v2 : (c : Dev Cert.Kernel2Ideal.nD) → Buf (Elt Ideal) ((c.tc : Thread Cert.Kernel2Ideal.nD Cert.Kernel2Ideal.τ).loc Cert.Kernel2Ideal.main_v17_2)) (v3 : (c : Dev Cert.Kernel2Ideal.nD) → Buf (Elt Ideal) ((c.tc : Thread Cert.Kernel2Ideal.nD Cert.Kernel2Ideal.τ).loc Cert.Kernel2Ideal.main_v17_3)) (v4 : (c : Dev Cert.Kernel2Ideal.nD) → Buf (Elt Ideal) ((c.tc : Thread Cert.Kernel2Ideal.nD Cert.Kernel2Ideal.τ).loc Cert.Kernel2Ideal.main_v17_4)) (v5 : (c : Dev Cert.Kernel2Ideal.nD) → Buf (Elt Ideal) ((c.tc : Thread Cert.Kernel2Ideal.nD Cert.Kernel2Ideal.τ).loc Cert.Kernel2Ideal.main_v17_5)) (v6 : (c : Dev Cert.Kernel2Ideal.nD) → Buf (Elt Ideal) ((c.tc : Thread Cert.Kernel2Ideal.nD Cert.Kernel2Ideal.τ).loc Cert.Kernel2Ideal.main_v17_6)) (v7 : (c : Dev Cert.Kernel2Ideal.nD) → Buf (Elt Ideal) ((c.tc : Thread Cert.Kernel2Ideal.nD Cert.Kernel2Ideal.τ).loc Cert.Kernel2Ideal.main_v17_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_v17_2) = v2 c
          ∧ r.2.mem ((c.tc : Thread Cert.Kernel2Ideal.nD Cert.Kernel2Ideal.τ).loc Cert.Kernel2Ideal.main_v17_3) = v3 c
          ∧ r.2.mem ((c.tc : Thread Cert.Kernel2Ideal.nD Cert.Kernel2Ideal.τ).loc Cert.Kernel2Ideal.main_v17_4) = v4 c
          ∧ r.2.mem ((c.tc : Thread Cert.Kernel2Ideal.nD Cert.Kernel2Ideal.τ).loc Cert.Kernel2Ideal.main_v17_5) = v5 c
          ∧ r.2.mem ((c.tc : Thread Cert.Kernel2Ideal.nD Cert.Kernel2Ideal.τ).loc Cert.Kernel2Ideal.main_v17_6) = v6 c
          ∧ r.2.mem ((c.tc : Thread Cert.Kernel2Ideal.nD Cert.Kernel2Ideal.τ).loc Cert.Kernel2Ideal.main_v17_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v251) = v0 c
          ∧ r.2.mem ((c.tc : Thread Cert.Reference2Ideal.nD Cert.Reference2Ideal.τ).loc Cert.Reference2Ideal.main_v253) = v1 c
          ∧ r.2.mem ((c.tc : Thread Cert.Reference2Ideal.nD Cert.Reference2Ideal.τ).loc Cert.Reference2Ideal.main_v136) = v2 c
          ∧ r.2.mem ((c.tc : Thread Cert.Reference2Ideal.nD Cert.Reference2Ideal.τ).loc Cert.Reference2Ideal.main_v254) = v3 c
          ∧ r.2.mem ((c.tc : Thread Cert.Reference2Ideal.nD Cert.Reference2Ideal.τ).loc Cert.Reference2Ideal.main_v255) = v4 c
          ∧ r.2.mem ((c.tc : Thread Cert.Reference2Ideal.nD Cert.Reference2Ideal.τ).loc Cert.Reference2Ideal.main_v157) = v5 c
          ∧ r.2.mem ((c.tc : Thread Cert.Reference2Ideal.nD Cert.Reference2Ideal.τ).loc Cert.Reference2Ideal.main_v245) = v6 c
          ∧ r.2.mem ((c.tc : Thread Cert.Reference2Ideal.nD Cert.Reference2Ideal.τ).loc Cert.Reference2Ideal.main_v257) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)) (v3 : (c : Dev Cert.Kernel4Ideal.nD) → Buf (Elt Ideal) ((c.tc : Thread Cert.Kernel4Ideal.nD Cert.Kernel4Ideal.τ).loc Cert.Kernel4Ideal.main_v9_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_v9_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v43) = v1 c
          ∧ r.2.mem ((c.tc : Thread Cert.Reference4Ideal.nD Cert.Reference4Ideal.τ).loc Cert.Reference4Ideal.main_v45) = v2 c
          ∧ r.2.mem ((c.tc : Thread Cert.Reference4Ideal.nD Cert.Reference4Ideal.τ).loc Cert.Reference4Ideal.main_v47) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v14_0)) (v1 : (c : Dev Cert.Kernel6Ideal.nD) → Buf (Elt Ideal) ((c.tc : Thread Cert.Kernel6Ideal.nD Cert.Kernel6Ideal.τ).loc Cert.Kernel6Ideal.main_v14_1)) (v2 : (c : Dev Cert.Kernel6Ideal.nD) → Buf (Elt Ideal) ((c.tc : Thread Cert.Kernel6Ideal.nD Cert.Kernel6Ideal.τ).loc Cert.Kernel6Ideal.main_v14_2)) (v3 : (c : Dev Cert.Kernel6Ideal.nD) → Buf (Elt Ideal) ((c.tc : Thread Cert.Kernel6Ideal.nD Cert.Kernel6Ideal.τ).loc Cert.Kernel6Ideal.main_v14_3)) (v4 : (c : Dev Cert.Kernel6Ideal.nD) → Buf (Elt Ideal) ((c.tc : Thread Cert.Kernel6Ideal.nD Cert.Kernel6Ideal.τ).loc Cert.Kernel6Ideal.main_v14_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14_0) = v0 c
          ∧ r.2.mem ((c.tc : Thread Cert.Kernel6Ideal.nD Cert.Kernel6Ideal.τ).loc Cert.Kernel6Ideal.main_v14_1) = v1 c
          ∧ r.2.mem ((c.tc : Thread Cert.Kernel6Ideal.nD Cert.Kernel6Ideal.τ).loc Cert.Kernel6Ideal.main_v14_2) = v2 c
          ∧ r.2.mem ((c.tc : Thread Cert.Kernel6Ideal.nD Cert.Kernel6Ideal.τ).loc Cert.Kernel6Ideal.main_v14_3) = v3 c
          ∧ r.2.mem ((c.tc : Thread Cert.Kernel6Ideal.nD Cert.Kernel6Ideal.τ).loc Cert.Kernel6Ideal.main_v14_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v28) = v1 c
          ∧ r.2.mem ((c.tc : Thread Cert.Reference6Ideal.nD Cert.Reference6Ideal.τ).loc Cert.Reference6Ideal.main_v9) = v2 c
          ∧ r.2.mem ((c.tc : Thread Cert.Reference6Ideal.nD Cert.Reference6Ideal.τ).loc Cert.Reference6Ideal.main_v15) = v3 c
          ∧ r.2.mem ((c.tc : Thread Cert.Reference6Ideal.nD Cert.Reference6Ideal.τ).loc Cert.Reference6Ideal.main_v30) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4096x1024 : Shape := ⟨2, ![4096, 1024]⟩
abbrev S1024 : Shape := ⟨1, ![1024]⟩
abbrev S3072 : Shape := ⟨1, ![3072]⟩
abbrev S1024x6144 : Shape := ⟨2, ![1024, 6144]⟩
abbrev S31x1024 : Shape := ⟨2, ![31, 1024]⟩
abbrev S4096x6144 : Shape := ⟨2, ![4096, 6144]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S3072 : S_.BroadcastsInDim S3072 (![] : Fin 0 → Fin S3072.rank)
  bcast_S_S1024x6144 : S_.BroadcastsInDim S1024x6144 (![] : Fin 0 → Fin S1024x6144.rank)
  bcast_S_S4096x6144 : S_.BroadcastsInDim S4096x6144 (![] : Fin 0 → Fin S4096x6144.rank)

variable [Facts]

def fn {F : FTy → Type} [FloatOps F] (main_arg0 : FVec F S4096x1024 .f32) (main_arg1 : FVec F S1024 .f32) (main_arg2 : FVec F S3072 .f32) (main_arg3 : FVec F S1024x6144 .f32) (main_arg4 : FVec F S31x1024 .f32) (main_arg5 : FVec F S1024 .f32) (main_arg6 : FVec F S4096x1024 .f32) (main_arg7 : FVec F S4096x6144 .f32) (main_arg8 : FVec F S4096x1024 .f32) : IVec S4096x1024 1 × IVec S1024 1 × IVec S3072 1 × IVec S1024x6144 1 × IVec S4096x6144 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S3072 .f32 := Host.absf main_arg2
  let main_cst_1 : FVec F S_ .f32 := constant S_ .f32 0x7F800000#32
  let main_v7 : FVec F S3072 .f32 := broadcastInDim S3072 ![] bcast_S_S3072 main_cst_1
  let main_v8 : IVec S3072 1 := cmpf .olt main_v6 main_v7
  let main_v9 : FVec F S1024x6144 .f32 := Host.absf main_arg3
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  let main_v12 : FVec F S4096x6144 .f32 := Host.absf main_arg7
  let main_cst_3 : FVec F S_ .f32 := constant S_ .f32 0x7F800000#32
  let main_v13 : FVec F S4096x6144 .f32 := broadcastInDim S4096x6144 ![] bcast_S_S4096x6144 main_cst_3
  let main_v14 : IVec S4096x6144 1 := cmpf .olt main_v12 main_v13
  (main_v2, main_v5, main_v8, main_v11, main_v14)
-- ==== Pre_finite2.lean ====
abbrev S4096x1024 : Shape := ⟨2, ![4096, 1024]⟩
abbrev S4096x6144 : Shape := ⟨2, ![4096, 6144]⟩
abbrev S1024 : Shape := ⟨1, ![1024]⟩
abbrev S3072 : Shape := ⟨1, ![3072]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩
abbrev S4096x4096 : Shape := ⟨2, ![4096, 4096]⟩

class Facts : Prop where
  bcast_S_S4096x1024 : S_.BroadcastsInDim S4096x1024 (![] : Fin 0 → Fin S4096x1024.rank)
  slices_S4096x6144_S4096x4096_0_2048 : S4096x6144.Slices ![0, 2048] S4096x4096
  bcast_S_S4096x4096 : S_.BroadcastsInDim S4096x4096 (![] : Fin 0 → Fin S4096x4096.rank)
  bcast_S_S1024 : S_.BroadcastsInDim S1024 (![] : Fin 0 → Fin S1024.rank)
  slices_S3072_S1024_2048 : S3072.Slices ![2048] S1024
  bcast_S_S8x128x128 : S_.BroadcastsInDim S8x128x128 (![] : Fin 0 → Fin S8x128x128.rank)
  bcast_S_S8x128 : S_.BroadcastsInDim S8x128 (![] : Fin 0 → Fin S8x128.rank)
  bcast_S_S2048x1024 : S_.BroadcastsInDim S2048x1024 (![] : Fin 0 → Fin S2048x1024.rank)

variable [Facts]

def fn_part2 {F : FTy → Type} [FloatOps F] (main_arg12 : FVec F S2048x1024 .f32) (main_v2 : IVec S4096x1024 1) (main_v6 : IVec S4096x4096 1) (main_v9 : IVec S4096x1024 1) (main_v12 : IVec S4096x1024 1) (main_v15 : IVec S1024 1) (main_v18 : IVec S1024 1) (main_v21 : IVec S1024 1) (main_v24 : IVec S1024 1) (main_v27 : IVec S1024 1) (main_v31 : IVec S1024 1) (main_v34 : IVec S8x128x128 1) (main_v35 : FVec F S8x128 .f32) (main_cst_10 : FVec F S_ .f32) : IVec S4096x1024 1 × IVec S4096x4096 1 × IVec S4096x1024 1 × IVec S4096x1024 1 × IVec S1024 1 × IVec S1024 1 × IVec S1024 1 × IVec S1024 1 × IVec S1024 1 × IVec S1024 1 × IVec S8x128x128 1 × IVec S8x128 1 × IVec S2048x1024 1 :=
  let main_v36 : FVec F S8x128 .f32 := broadcastInDim S8x128 ![] bcast_S_S8x128 main_cst_10
  let main_v37 : IVec S8x128 1 := cmpf .olt main_v35 main_v36
  let main_v38 : FVec F S2048x1024 .f32 := Host.absf main_arg12
  let main_cst_11 : FVec F S_ .f32 := constant S_ .f32 0x7F800000#32
  let main_v39 : FVec F S2048x1024 .f32 := broadcastInDim S2048x1024 ![] bcast_S_S2048x1024 main_cst_11
  let main_v40 : IVec S2048x1024 1 := cmpf .olt main_v38 main_v39
  (main_v2, main_v6, main_v9, main_v12, main_v15, main_v18, main_v21, main_v24, main_v27, main_v31, main_v34, main_v37, main_v40)

def fn_part1 {F : FTy → Type} [FloatOps F] (main_arg6 : FVec F S1024 .f32) (main_arg7 : FVec F S1024 .f32) (main_arg8 : FVec F S1024 .f32) (main_arg9 : FVec F S3072 .f32) (main_arg10 : FVec F S8x128x128 .f32) (main_arg11 : FVec F S8x128 .f32) (main_arg12 : FVec F S2048x1024 .f32) (main_v2 : IVec S4096x1024 1) (main_v6 : IVec S4096x4096 1) (main_v9 : IVec S4096x1024 1) (main_v12 : IVec S4096x1024 1) (main_v15 : IVec S1024 1) (main_v16 : FVec F S1024 .f32) (main_v17 : FVec F S1024 .f32) : IVec S4096x1024 1 × IVec S4096x4096 1 × IVec S4096x1024 1 × IVec S4096x1024 1 × IVec S1024 1 × IVec S1024 1 × IVec S1024 1 × IVec S1024 1 × IVec S1024 1 × IVec S1024 1 × IVec S8x128x128 1 × IVec S8x128 1 × IVec S2048x1024 1 :=
  let main_v18 : IVec S1024 1 := cmpf .olt main_v16 main_v17
  let main_v19 : FVec F S1024 .f32 := Host.absf main_arg6
  let main_cst_5 : FVec F S_ .f32 := constant S_ .f32 0x7F800000#32
  let main_v20 : FVec F S1024 .f32 := broadcastInDim S1024 ![] bcast_S_S1024 main_cst_5
  let main_v21 : IVec S1024 1 := cmpf .olt main_v19 main_v20
  let main_v22 : FVec F S1024 .f32 := Host.absf main_arg7
  let main_cst_6 : FVec F S_ .f32 := constant S_ .f32 0x7F800000#32
  let main_v23 : FVec F S1024 .f32 := broadcastInDim S1024 ![] bcast_S_S1024 main_cst_6
  let main_v24 : IVec S1024 1 := cmpf .olt main_v22 main_v23
  let main_v25 : FVec F S1024 .f32 := Host.absf main_arg8
  let main_cst_7 : FVec F S_ .f32 := constant S_ .f32 0x7F800000#32
  let main_v26 : FVec F S1024 .f32 := broadcastInDim S1024 ![] bcast_S_S1024 main_cst_7
  let main_v27 : IVec S1024 1 := cmpf .olt main_v25 main_v26
  let main_v28 : FVec F S1024 .f32 := (extractStridedSlice S1024 ![2048] · slices_S3072_S1024_2048) main_arg9
  let main_v29 : FVec F S1024 .f32 := Host.absf main_v28
  let main_cst_8 : FVec F S_ .f32 := constant S_ .f32 0x7F800000#32
  let main_v30 : FVec F S1024 .f32 := broadcastInDim S1024 ![] bcast_S_S1024 main_cst_8
  let main_v31 : IVec S1024 1 := cmpf .olt main_v29 main_v30
  let main_v32 : FVec F S8x128x128 .f32 := Host.absf main_arg10
  let main_cst_9 : FVec F S_ .f32 := constant S_ .f32 0x7F800000#32
  let main_v33 : FVec F S8x128x128 .f32 := broadcastInDim S8x128x128 ![] bcast_S_S8x128x128 main_cst_9
  let main_v34 : IVec S8x128x128 1 := cmpf .olt main_v32 main_v33
  let main_v35 : FVec F S8x128 .f32 := Host.absf main_arg11
  let main_cst_10 : FVec F S_ .f32 := constant S_ .f32 0x7F800000#32
  fn_part2 (F := F) main_arg12 main_v2 main_v6 main_v9 main_v12 main_v15 main_v18 main_v21 main_v24 main_v27 main_v31 main_v34 main_v35 main_cst_10

def fn {F : FTy → Type} [FloatOps F] (main_arg0 : FVec F S4096x1024 .f32) (main_arg1 : FVec F S4096x6144 .f32) (main_arg2 : FVec F S4096x1024 .f32) (main_arg3 : FVec F S4096x1024 .f32) (main_arg4 : FVec F S1024 .f32) (main_arg5 : FVec F S1024 .f32) (main_arg6 : FVec F S1024 .f32) (main_arg7 : FVec F S1024 .f32) (main_arg8 : FVec F S1024 .f32) (main_arg9 : FVec F S3072 .f32) (main_arg10 : FVec F S8x128x128 .f32) (main_arg11 : FVec F S8x128 .f32) (main_arg12 : FVec F S2048x1024 .f32) : IVec S4096x1024 1 × IVec S4096x4096 1 × IVec S4096x1024 1 × IVec S4096x1024 1 × IVec S1024 1 × IVec S1024 1 × IVec S1024 1 × IVec S1024 1 × IVec S1024 1 × IVec S1024 1 × IVec S8x128x128 1 × IVec S8x128 1 × IVec S2048x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x4096 .f32 := (extractStridedSlice S4096x4096 ![0, 2048] · slices_S4096x6144_S4096x4096_0_2048) main_arg1
  let main_v4 : FVec F S4096x4096 .f32 := Host.absf main_v3
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : FVec F S4096x1024 .f32 := Host.absf main_arg3
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_v13 : FVec F S1024 .f32 := Host.absf main_arg4
  let main_cst_3 : FVec F S_ .f32 := constant S_ .f32 0x7F800000#32
  let main_v14 : FVec F S1024 .f32 := broadcastInDim S1024 ![] bcast_S_S1024 main_cst_3
  let main_v15 : IVec S1024 1 := cmpf .olt main_v13 main_v14
  let main_v16 : FVec F S1024 .f32 := Host.absf main_arg5
  let main_cst_4 : FVec F S_ .f32 := constant S_ .f32 0x7F800000#32
  let main_v17 : FVec F S1024 .f32 := broadcastInDim S1024 ![] bcast_S_S1024 main_cst_4
  fn_part1 (F := F) main_arg6 main_arg7 main_arg8 main_arg9 main_arg10 main_arg11 main_arg12 main_v2 main_v6 main_v9 main_v12 main_v15 main_v16 main_v17
-- ==== Kernel.lean ====
abbrev S4096x1024 : Shape := ⟨2, ![4096, 1024]⟩
abbrev S1024 : Shape := ⟨1, ![1024]⟩
abbrev S3072 : Shape := ⟨1, ![3072]⟩
abbrev S1024x6144 : Shape := ⟨2, ![1024, 6144]⟩
abbrev S31x1024 : Shape := ⟨2, ![31, 1024]⟩
abbrev S4096x6144 : Shape := ⟨2, ![4096, 6144]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x8x128 : Shape := ⟨3, ![4096, 8, 128]⟩
abbrev S8x4096x128 : Shape := ⟨3, ![8, 4096, 128]⟩
abbrev S4096x6x1024 : Shape := ⟨3, ![4096, 6, 1024]⟩
abbrev S4096x4x1024 : Shape := ⟨3, ![4096, 4, 1024]⟩
abbrev S4x4096x1024 : Shape := ⟨3, ![4, 4096, 1024]⟩
abbrev S4096x2x1024 : Shape := ⟨3, ![4096, 2, 1024]⟩
abbrev S4096x2x8x128 : Shape := ⟨4, ![4096, 2, 8, 128]⟩
abbrev S8x2x4096x128 : Shape := ⟨4, ![8, 2, 4096, 128]⟩
abbrev S1024x12x512 : Shape := ⟨3, ![1024, 12, 512]⟩
abbrev S12x1024x512 : Shape := ⟨3, ![12, 1024, 512]⟩
abbrev S1x3072 : Shape := ⟨2, ![1, 3072]⟩
abbrev S8x1024 : Shape := ⟨2, ![8, 1024]⟩
abbrev S32x1024 : Shape := ⟨2, ![32, 1024]⟩
abbrev S4x256x1024 : Shape := ⟨3, ![4, 256, 1024]⟩
abbrev S8x2x256x128 : Shape := ⟨4, ![8, 2, 256, 128]⟩
abbrev S256x1024 : Shape := ⟨2, ![256, 1024]⟩
abbrev S1x4096x128 : Shape := ⟨3, ![1, 4096, 128]⟩
abbrev S32x128 : Shape := ⟨2, ![32, 128]⟩
abbrev S8x8x1024 : Shape := ⟨3, ![8, 8, 1024]⟩
abbrev S1x4128x128 : Shape := ⟨3, ![1, 4128, 128]⟩
abbrev S1x32x8x128 : Shape := ⟨4, ![1, 32, 8, 128]⟩
abbrev S16x128 : Shape := ⟨2, ![16, 128]⟩
abbrev S1x16x128 : Shape := ⟨3, ![1, 16, 128]⟩
abbrev S4096x128 : Shape := ⟨2, ![4096, 128]⟩
abbrev S1x256x512 : Shape := ⟨3, ![1, 256, 512]⟩
abbrev S256x512 : Shape := ⟨2, ![256, 512]⟩
abbrev S1x1024x512 : Shape := ⟨3, ![1, 1024, 512]⟩
abbrev S1024x512 : Shape := ⟨2, ![1024, 512]⟩
abbrev S1x128x128 : Shape := ⟨3, ![1, 128, 128]⟩
abbrev S128x128 : Shape := ⟨2, ![128, 128]⟩
abbrev S1x1x8x128 : Shape := ⟨4, ![1, 1, 8, 128]⟩
abbrev S8x128 : Shape := ⟨2, ![8, 128]⟩
abbrev S16x8x128 : Shape := ⟨3, ![16, 8, 128]⟩
abbrev S1x1x256x128 : Shape := ⟨4, ![1, 1, 256, 128]⟩
abbrev S256x128 : Shape := ⟨2, ![256, 128]⟩
abbrev S128 : Shape := ⟨1, ![128]⟩
abbrev S1x128 : Shape := ⟨2, ![1, 128]⟩
abbrev S16x1024 : Shape := ⟨2, ![16, 1024]⟩
abbrev S16 : Shape := ⟨1, ![16]⟩
abbrev S16x1 : Shape := ⟨2, ![16, 1]⟩
abbrev S1x8x1024 : Shape := ⟨3, ![1, 8, 1024]⟩
abbrev S2x8x1024 : Shape := ⟨3, ![2, 8, 1024]⟩

abbrev nBuf : Space → Nat
  | .hbm => 70
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S3072, .f32⟩
  | .hbm, ⟨3, _⟩ => ⟨S1024x6144, .f32⟩
  | .hbm, ⟨4, _⟩ => ⟨S31x1024, .f32⟩
  | .hbm, ⟨5, _⟩ => ⟨S1024, .f32⟩
  | .hbm, ⟨6, _⟩ => ⟨S4096x1024, .f32⟩
  | .hbm, ⟨7, _⟩ => ⟨S4096x6144, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x6144, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x8x128, .f32⟩
  | .hbm, ⟨52, _⟩ => ⟨S8x4096x128, .f32⟩
  | .hbm, ⟨53, _⟩ => ⟨S4096x6144, .bf16⟩
  | .hbm, ⟨54, _⟩ => ⟨S4096x6x1024, .bf16⟩
  | .hbm, ⟨55, _⟩ => ⟨S4096x4x1024, .bf16⟩
  | .hbm, ⟨56, _⟩ => ⟨S4x4096x1024, .bf16⟩
  | .hbm, ⟨57, _⟩ => ⟨S4096x2x1024, .bf16⟩
  | .hbm, ⟨58, _⟩ => ⟨S4096x2x8x128, .bf16⟩
  | .hbm, ⟨59, _⟩ => ⟨S8x2x4096x128, .bf16⟩
  | .hbm, ⟨60, _⟩ => ⟨S1024x6144, .bf16⟩
  | .hbm, ⟨61, _⟩ => ⟨S1024x12x512, .bf16⟩
  | .hbm, ⟨62, _⟩ => ⟨S12x1024x512, .bf16⟩
  | .hbm, ⟨63, _⟩ => ⟨S1x3072, .f32⟩
  | .hbm, ⟨64, _⟩ => ⟨S1x1024, .f32⟩
  | .hbm, ⟨65, _⟩ => ⟨S4096x8x128, .f32⟩
  | .hbm, ⟨66, _⟩ => ⟨S8x4096x128, .f32⟩
  | .hbm, ⟨67, _⟩ => ⟨S4096x1024, .f32⟩
  | .hbm, ⟨68, _⟩ => ⟨S8x1024, .f32⟩
  | .hbm, ⟨69, _⟩ => ⟨S32x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S8x2x256x128, .bf16⟩
  | .local _ .vmem, ⟨3, _⟩ => ⟨S8x2x256x128, .bf16⟩
  | .local _ .vmem, ⟨4, _⟩ => ⟨S12x1024x512, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x3072, .f32⟩
  | .local _ .vmem, ⟨10, _⟩ => ⟨S1x1024, .f32⟩
  | .local _ .vmem, ⟨11, _⟩ => ⟨S1x4096x128, .f32⟩
  | .local _ .vmem, ⟨12, _⟩ => ⟨S1x4096x128, .f32⟩
  | .local _ .vmem, ⟨13, _⟩ => ⟨S1x4096x128, .f32⟩
  | .local _ .vmem, ⟨14, _⟩ => ⟨S1x4096x128, .f32⟩
  | .local _ .vmem, ⟨15, _⟩ => ⟨S256x1024, .f32⟩
  | .local _ .vmem, ⟨16, _⟩ => ⟨S256x1024, .f32⟩
  | .local _ .vmem, ⟨17, _⟩ => ⟨S8x1024, .f32⟩
  | .local _ .vmem, ⟨18, _⟩ => ⟨S32x128, .f32⟩
  | .local _ .vmem, ⟨19, _⟩ => ⟨S32x128, .f32⟩
  | .local _ .vmem, ⟨20, _⟩ => ⟨S256x1024, .f32⟩
  | .local _ .vmem, ⟨21, _⟩ => ⟨S8x8x1024, .f32⟩
  | .local _ .vmem, ⟨22, _⟩ => ⟨S1x4128x128, .f32⟩
  | .local _ .vmem, ⟨23, _⟩ => ⟨S1x32x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51_0 : Ref sig .tc := ⟨.hbm, 67, rfl⟩
abbrev main_v51_1 : Ref sig .tc := ⟨.hbm, 68, rfl⟩
abbrev main_v51_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32 : BitVec 32 := 16#32
  let v23 : BitVec 32 := Scalar.muli v9 c16_i32
  let c0_i32_12 : BitVec 32 := 0#32
  let v24 : BitVec 32 := Scalar.addi v23 c0_i32_12
  let c128_i32 : BitVec 32 := 128#32
  let v25 : BitVec 32 := Scalar.muli v24 c128_i32
  v25
def k0_off1 (i : grid0.Coords) (c0_i32_12 : BitVec 32) : Fin 3 → Nat :=
  let c0_13 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32 : BitVec 32 := 16#32
  let v23 : BitVec 32 := Scalar.muli v9 c16_i32
  let v24 : BitVec 32 := Scalar.addi v23 c0_i32_12
  let c128_i32 : BitVec 32 := 128#32
  let v25 : BitVec 32 := Scalar.muli v24 c128_i32
  let v26 : BitVec 32 := v25
  let v27 : Index := Scalar.indexCast v26
  let c0_14 : Index := 0#32
  ![0, v27.toNat, 0]
def k0_off2 (i : grid0.Coords) (c0_i32_12 : BitVec 32) (c1_i32_19 : BitVec 32) : Fin 3 → Nat :=
  let c0_20 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32 : BitVec 32 := 16#32
  let v23 : BitVec 32 := Scalar.muli v9 c16_i32
  let v24 : BitVec 32 := Scalar.addi v23 c0_i32_12
  let c128_i32 : BitVec 32 := 128#32
  let v25 : BitVec 32 := Scalar.muli v24 c128_i32
  let v26 : BitVec 32 := v25
  let v32 : BitVec 32 := Scalar.addi v26 c1_i32_19
  let v33 : Index := Scalar.indexCast v32
  let c0_21 : Index := 0#32
  ![0, v33.toNat, 0]
def k0_mult2 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32_344 : BitVec 32 := 16#32
  let v447 : BitVec 32 := Scalar.muli v9 c16_i32_344
  let c1_i32_345 : BitVec 32 := 1#32
  let v448 : BitVec 32 := Scalar.addi v447 c1_i32_345
  let c128_i32_346 : BitVec 32 := 128#32
  let v449 : BitVec 32 := Scalar.muli v448 c128_i32_346
  v449
def k0_mult3 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32_737 : BitVec 32 := 16#32
  let v871 : BitVec 32 := Scalar.muli v9 c16_i32_737
  let c2_i32_738 : BitVec 32 := 2#32
  let v872 : BitVec 32 := Scalar.addi v871 c2_i32_738
  let c128_i32_739 : BitVec 32 := 128#32
  let v873 : BitVec 32 := Scalar.muli v872 c128_i32_739
  v873
def k0_mult4 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32_1123 : BitVec 32 := 16#32
  let v1289 : BitVec 32 := Scalar.muli v9 c16_i32_1123
  let c3_i32_1124 : BitVec 32 := 3#32
  let v1290 : BitVec 32 := Scalar.addi v1289 c3_i32_1124
  let c128_i32_1125 : BitVec 32 := 128#32
  let v1291 : BitVec 32 := Scalar.muli v1290 c128_i32_1125
  v1291
def k0_mult5 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32_1516 : BitVec 32 := 16#32
  let v1713 : BitVec 32 := Scalar.muli v9 c16_i32_1516
  let c4_i32_1517 : BitVec 32 := 4#32
  let v1714 : BitVec 32 := Scalar.addi v1713 c4_i32_1517
  let c128_i32_1518 : BitVec 32 := 128#32
  let v1715 : BitVec 32 := Scalar.muli v1714 c128_i32_1518
  v1715
def k0_mult6 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32_1909 : BitVec 32 := 16#32
  let v2137 : BitVec 32 := Scalar.muli v9 c16_i32_1909
  let c5_i32_1910 : BitVec 32 := 5#32
  let v2138 : BitVec 32 := Scalar.addi v2137 c5_i32_1910
  let c128_i32_1911 : BitVec 32 := 128#32
  let v2139 : BitVec 32 := Scalar.muli v2138 c128_i32_1911
  v2139
def k0_mult7 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32_2302 : BitVec 32 := 16#32
  let v2561 : BitVec 32 := Scalar.muli v9 c16_i32_2302
  let c6_i32_2303 : BitVec 32 := 6#32
  let v2562 : BitVec 32 := Scalar.addi v2561 c6_i32_2303
  let c128_i32_2304 : BitVec 32 := 128#32
  let v2563 : BitVec 32 := Scalar.muli v2562 c128_i32_2304
  v2563
def k0_mult8 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32_2688 : BitVec 32 := 16#32
  let v2979 : BitVec 32 := Scalar.muli v9 c16_i32_2688
  let c7_i32_2689 : BitVec 32 := 7#32
  let v2980 : BitVec 32 := Scalar.addi v2979 c7_i32_2689
  let c128_i32_2690 : BitVec 32 := 128#32
  let v2981 : BitVec 32 := Scalar.muli v2980 c128_i32_2690
  v2981
def k0_mult9 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32_3081 : BitVec 32 := 16#32
  let v3403 : BitVec 32 := Scalar.muli v9 c16_i32_3081
  let c8_i32_3082 : BitVec 32 := 8#32
  let v3404 : BitVec 32 := Scalar.addi v3403 c8_i32_3082
  let c128_i32_3083 : BitVec 32 := 128#32
  let v3405 : BitVec 32 := Scalar.muli v3404 c128_i32_3083
  v3405
def k0_mult10 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32_3474 : BitVec 32 := 16#32
  let v3827 : BitVec 32 := Scalar.muli v9 c16_i32_3474
  let c9_i32_3475 : BitVec 32 := 9#32
  let v3828 : BitVec 32 := Scalar.addi v3827 c9_i32_3475
  let c128_i32_3476 : BitVec 32 := 128#32
  let v3829 : BitVec 32 := Scalar.muli v3828 c128_i32_3476
  v3829
def k0_mult11 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32_3880 : BitVec 32 := 16#32
  let v4258 : BitVec 32 := Scalar.muli v9 c16_i32_3880
  let c10_i32_3881 : BitVec 32 := 10#32
  let v4259 : BitVec 32 := Scalar.addi v4258 c10_i32_3881
  let c128_i32_3882 : BitVec 32 := 128#32
  let v4260 : BitVec 32 := Scalar.muli v4259 c128_i32_3882
  v4260
def k0_mult12 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32_4266 : BitVec 32 := 16#32
  let v4676 : BitVec 32 := Scalar.muli v9 c16_i32_4266
  let c11_i32_4267 : BitVec 32 := 11#32
  let v4677 : BitVec 32 := Scalar.addi v4676 c11_i32_4267
  let c128_i32_4268 : BitVec 32 := 128#32
  let v4678 : BitVec 32 := Scalar.muli v4677 c128_i32_4268
  v4678
def k0_mult13 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32_4672 : BitVec 32 := 16#32
  let v5107 : BitVec 32 := Scalar.muli v9 c16_i32_4672
  let c12_i32_4673 : BitVec 32 := 12#32
  let v5108 : BitVec 32 := Scalar.addi v5107 c12_i32_4673
  let c128_i32_4674 : BitVec 32 := 128#32
  let v5109 : BitVec 32 := Scalar.muli v5108 c128_i32_4674
  v5109
def k0_mult14 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32_5078 : BitVec 32 := 16#32
  let v5538 : BitVec 32 := Scalar.muli v9 c16_i32_5078
  let c13_i32_5079 : BitVec 32 := 13#32
  let v5539 : BitVec 32 := Scalar.addi v5538 c13_i32_5079
  let c128_i32_5080 : BitVec 32 := 128#32
  let v5540 : BitVec 32 := Scalar.muli v5539 c128_i32_5080
  v5540
def k0_mult15 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32_5484 : BitVec 32 := 16#32
  let v5969 : BitVec 32 := Scalar.muli v9 c16_i32_5484
  let c14_i32_5485 : BitVec 32 := 14#32
  let v5970 : BitVec 32 := Scalar.addi v5969 c14_i32_5485
  let c128_i32_5486 : BitVec 32 := 128#32
  let v5971 : BitVec 32 := Scalar.muli v5970 c128_i32_5486
  v5971
def k0_mult16 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32_5870 : BitVec 32 := 16#32
  let v6387 : BitVec 32 := Scalar.muli v9 c16_i32_5870
  let c15_i32_5871 : BitVec 32 := 15#32
  let v6388 : BitVec 32 := Scalar.addi v6387 c15_i32_5871
  let c128_i32_5872 : BitVec 32 := 128#32
  let v6389 : BitVec 32 := Scalar.muli v6388 c128_i32_5872
  v6389
def k0_mult17 : BitVec 32 :=
  let c0_i32_6264 : BitVec 32 := 0#32
  let c16_i32_6265 : BitVec 32 := 16#32
  let v6817 : BitVec 32 := Scalar.muli c0_i32_6264 c16_i32_6265
  v6817
def k0_off3 (c0_i32_6264 : BitVec 32) : Fin 2 → Nat :=
  let c16_i32_6265 : BitVec 32 := 16#32
  let v6817 : BitVec 32 := Scalar.muli c0_i32_6264 c16_i32_6265
  let v6818 : BitVec 32 := v6817
  let v6819 : Index := Scalar.indexCast v6818
  let c0_6266 : Index := 0#32
  ![v6819.toNat, 0]
def k0_mult18 : BitVec 32 :=
  let c1_i32_6296 : BitVec 32 := 1#32
  let c16_i32_6297 : BitVec 32 := 16#32
  let v6881 : BitVec 32 := Scalar.muli c1_i32_6296 c16_i32_6297
  v6881
def k0_mult19 : BitVec 32 :=
  let c2_i32_6328 : BitVec 32 := 2#32
  let c16_i32_6329 : BitVec 32 := 16#32
  let v6945 : BitVec 32 := Scalar.muli c2_i32_6328 c16_i32_6329
  v6945
def k0_mult20 : BitVec 32 :=
  let c3_i32_6360 : BitVec 32 := 3#32
  let c16_i32_6361 : BitVec 32 := 16#32
  let v7009 : BitVec 32 := Scalar.muli c3_i32_6360 c16_i32_6361
  v7009
def k0_mult21 : BitVec 32 :=
  let c4_i32_6392 : BitVec 32 := 4#32
  let c16_i32_6393 : BitVec 32 := 16#32
  let v7073 : BitVec 32 := Scalar.muli c4_i32_6392 c16_i32_6393
  v7073
def k0_mult22 : BitVec 32 :=
  let c5_i32_6424 : BitVec 32 := 5#32
  let c16_i32_6425 : BitVec 32 := 16#32
  let v7137 : BitVec 32 := Scalar.muli c5_i32_6424 c16_i32_6425
  v7137
def k0_mult23 : BitVec 32 :=
  let c6_i32_6456 : BitVec 32 := 6#32
  let c16_i32_6457 : BitVec 32 := 16#32
  let v7201 : BitVec 32 := Scalar.muli c6_i32_6456 c16_i32_6457
  v7201
def k0_mult24 : BitVec 32 :=
  let c7_i32_6488 : BitVec 32 := 7#32
  let c16_i32_6489 : BitVec 32 := 16#32
  let v7265 : BitVec 32 := Scalar.muli c7_i32_6488 c16_i32_6489
  v7265
def k0_mult25 : BitVec 32 :=
  let c8_i32_6520 : BitVec 32 := 8#32
  let c16_i32_6521 : BitVec 32 := 16#32
  let v7329 : BitVec 32 := Scalar.muli c8_i32_6520 c16_i32_6521
  v7329
def k0_mult26 : BitVec 32 :=
  let c9_i32_6552 : BitVec 32 := 9#32
  let c16_i32_6553 : BitVec 32 := 16#32
  let v7393 : BitVec 32 := Scalar.muli c9_i32_6552 c16_i32_6553
  v7393
def k0_mult27 : BitVec 32 :=
  let c10_i32_6584 : BitVec 32 := 10#32
  let c16_i32_6585 : BitVec 32 := 16#32
  let v7457 : BitVec 32 := Scalar.muli c10_i32_6584 c16_i32_6585
  v7457
def k0_mult28 : BitVec 32 :=
  let c11_i32_6616 : BitVec 32 := 11#32
  let c16_i32_6617 : BitVec 32 := 16#32
  let v7521 : BitVec 32 := Scalar.muli c11_i32_6616 c16_i32_6617
  v7521
def k0_mult29 : BitVec 32 :=
  let c12_i32_6648 : BitVec 32 := 12#32
  let c16_i32_6649 : BitVec 32 := 16#32
  let v7585 : BitVec 32 := Scalar.muli c12_i32_6648 c16_i32_6649
  v7585
def k0_mult30 : BitVec 32 :=
  let c13_i32_6680 : BitVec 32 := 13#32
  let c16_i32_6681 : BitVec 32 := 16#32
  let v7649 : BitVec 32 := Scalar.muli c13_i32_6680 c16_i32_6681
  v7649
def k0_mult31 : BitVec 32 :=
  let c14_i32_6712 : BitVec 32 := 14#32
  let c16_i32_6713 : BitVec 32 := 16#32
  let v7713 : BitVec 32 := Scalar.muli c14_i32_6712 c16_i32_6713
  v7713
def k0_mult32 : BitVec 32 :=
  let c15_i32_6744 : BitVec 32 := 15#32
  let c16_i32_6745 : BitVec 32 := 16#32
  let v7777 : BitVec 32 := Scalar.muli c15_i32_6744 c16_i32_6745
  v7777
def k0_cond4 (i : grid0.Coords) : BitVec 1 :=
  let arg0 : BitVec 32 := BitVec.ofNat 32 (i 0).val
  let c15_i32_6777 : BitVec 32 := 15#32
  let v7841 : BitVec 1 := Scalar.cmpi .eq arg0 c15_i32_6777
  let v7842 : BitVec 32 := Scalar.extui v7841
  let c0_i32_6778 : BitVec 32 := 0#32
  let v7843 : BitVec 1 := Scalar.cmpi .ne v7842 c0_i32_6778
  v7843

def k0_cond3 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_6258 : BitVec 32 := 1#32
  let v6808 : BitVec 1 := Scalar.cmpi .eq v9 c1_i32_6258
  let v6809 : BitVec 32 := Scalar.extui v6808
  let c0_i32_6259 : BitVec 32 := 0#32
  let v6810 : BitVec 1 := Scalar.cmpi .ne v6809 c0_i32_6259
  v6810

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4096x1024 : Shape := ⟨2, ![4096, 1024]⟩
abbrev S1024 : Shape := ⟨1, ![1024]⟩
abbrev S3072 : Shape := ⟨1, ![3072]⟩
abbrev S1024x6144 : Shape := ⟨2, ![1024, 6144]⟩
abbrev S31x1024 : Shape := ⟨2, ![31, 1024]⟩
abbrev S4096x6144 : Shape := ⟨2, ![4096, 6144]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4126x1024 : Shape := ⟨2, ![4126, 1024]⟩
abbrev S31 : Shape := ⟨1, ![31]⟩
abbrev S31x1 : Shape := ⟨2, ![31, 1]⟩
abbrev S1x4096 : Shape := ⟨2, ![1, 4096]⟩
abbrev S31x4096 : Shape := ⟨2, ![31, 4096]⟩
abbrev S31x4096x1 : Shape := ⟨3, ![31, 4096, 1]⟩
abbrev S31x4096x1024 : Shape := ⟨3, ![31, 4096, 1024]⟩
abbrev S31x1x1024 : Shape := ⟨3, ![31, 1, 1024]⟩
abbrev S3x1024 : Shape := ⟨2, ![3, 1024]⟩
abbrev S5x1024 : Shape := ⟨2, ![5, 1024]⟩
abbrev S8x1024 : Shape := ⟨2, ![8, 1024]⟩
abbrev S32x1024 : Shape := ⟨2, ![32, 1024]⟩

abbrev nBuf : Space → Nat
  | .hbm => 135
  | .vmem => 0
  | .smem => 0
  | _ => 0

abbrev hbmTy0_0 (i : Nat) : BufTy := match i % 128 with
  | 0 => ⟨S4096x1024, .f32⟩
  | 1 => ⟨S1024, .f32⟩
  | 2 => ⟨S3072, .f32⟩
  | 3 => ⟨S1024x6144, .f32⟩
  | 4 => ⟨S31x1024, .f32⟩
  | 5 => ⟨S1024, .f32⟩
  | 6 => ⟨S4096x1024, .f32⟩
  | 7 => ⟨S4096x6144, .f32⟩
  | 8 => ⟨S4096x1024, .f32⟩
  | 9 => ⟨S1024, .f32⟩
  | 10 => ⟨S1024, .f32⟩
  | 11 => ⟨S1024, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1024, .f32⟩
  | 28 => ⟨S4096x1024, .f32⟩
  | 29 => ⟨S1x1024, .f32⟩
  | 30 => ⟨S4096x1024, .f32⟩
  | 31 => ⟨S4096x1024, .f32⟩
  | 32 => ⟨S_, .f32⟩
  | 33 => ⟨S1024, .f32⟩
  | 34 => ⟨S1024, .f32⟩
  | 35 => ⟨S1x1024, .f32⟩
  | 36 => ⟨S4096x1024, .f32⟩
  | 37 => ⟨S4096x1024, .f32⟩
  | 38 => ⟨S1x1024, .f32⟩
  | 39 => ⟨S4096x1024, .f32⟩
  | 40 => ⟨S4096x1024, .f32⟩
  | 41 => ⟨S4096x6144, .f32⟩
  | 42 => ⟨S4096x1024, .f32⟩
  | 43 => ⟨S_, .f32⟩
  | 44 => ⟨S1024, .f32⟩
  | 45 => ⟨S1x1024, .f32⟩
  | 46 => ⟨S_, .f32⟩
  | 47 => ⟨S1024, .f32⟩
  | 48 => ⟨S4096x1024, .f32⟩
  | 49 => ⟨S_, .f32⟩
  | 50 => ⟨S1024, .f32⟩
  | 51 => ⟨S1x1024, .f32⟩
  | 52 => ⟨S4096x1024, .f32⟩
  | 53 => ⟨S4096x1024, .f32⟩
  | 54 => ⟨S_, .f32⟩
  | 55 => ⟨S1024, .f32⟩
  | 56 => ⟨S4096x1024, .f32⟩
  | 57 => ⟨S_, .f32⟩
  | 58 => ⟨S1024, .f32⟩
  | 59 => ⟨S1x1024, .f32⟩
  | 60 => ⟨S4096x1024, .f32⟩
  | 61 => ⟨S4096x1024, .f32⟩
  | 62 => ⟨S_, .f32⟩
  | 63 => ⟨S1024, .f32⟩
  | 64 => ⟨S4096x1024, .f32⟩
  | 65 => ⟨S_, .f32⟩
  | 66 => ⟨S4096, .f32⟩
  | 67 => ⟨S4096x1, .f32⟩
  | 68 => ⟨S4096x1024, .f32⟩
  | 69 => ⟨S4096x1024, .f32⟩
  | 70 => ⟨S4096x1024, .f32⟩
  | 71 => ⟨S4096x1, .f32⟩
  | 72 => ⟨S_, .f32⟩
  | 73 => ⟨S4096x1, .f32⟩
  | 74 => ⟨S4096x1, .f32⟩
  | 75 => ⟨S_, .f32⟩
  | 76 => ⟨S4096, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S4096x1024, .f32⟩
  | 86 => ⟨S_, .f32⟩
  | 87 => ⟨S4096x1024, .f32⟩
  | 88 => ⟨S4096x1024, .f32⟩
  | 89 => ⟨S_, .f32⟩
  | 90 => ⟨S4096x1024, .f32⟩
  | 91 => ⟨S4096x1024, .f32⟩
  | 92 => ⟨S4096x1024, .f32⟩
  | 93 => ⟨S_, .i32⟩
  | 94 => ⟨S_, .f32⟩
  | 95 => ⟨S4126x1024, .f32⟩
  | 96 => ⟨S31, .i32⟩
  | 97 => ⟨S31x1, .i32⟩
  | 98 => ⟨S4096, .i32⟩
  | 99 => ⟨S1x4096, .i32⟩
  | 100 => ⟨S31x4096, .i32⟩
  | 101 => ⟨S31x4096, .i32⟩
  | 102 => ⟨S31x4096, .i32⟩
  | 103 => ⟨S31x4096x1, .i32⟩
  | 104 => ⟨S31x4096x1024, .f32⟩
  | 105 => ⟨S31x1x1024, .f32⟩
  | 106 => ⟨S31x4096x1024, .f32⟩
  | 107 => ⟨S31x4096x1024, .f32⟩
  | 108 => ⟨S_, .f32⟩
  | 109 => ⟨S4096x1024, .f32⟩
  | 110 => ⟨S1x1024, .f32⟩
  | 111 => ⟨S4096x1024, .f32⟩
  | 112 => ⟨S4096x1024, .f32⟩
  | 113 => ⟨S4096x1024, .f32⟩
  | 114 => ⟨S_, .f32⟩
  | 115 => ⟨S1024, .f32⟩
  | 116 => ⟨S1x1024, .f32⟩
  | 117 => ⟨S_, .f32⟩
  | 118 => ⟨S1024, .f32⟩
  | 119 => ⟨S31x4096x1024, .f32⟩
  | 120 => ⟨S31x4096x1024, .f32⟩
  | 121 => ⟨S_, .f32⟩
  | 122 => ⟨S31x1024, .f32⟩
  | 123 => ⟨S31x1x1024, .f32⟩
  | 124 => ⟨S_, .f32⟩
  | 125 => ⟨S31x1024, .f32⟩
  | 126 => ⟨S1x1024, .f32⟩
  | 127 => ⟨S1x1024, .f32⟩
  | _ => ⟨S4096x1024, .f32⟩

abbrev hbmTy0_1 (i : Nat) : BufTy := match i % 128 with
  | 0 => ⟨S1x1024, .f32⟩
  | 1 => ⟨S3x1024, .f32⟩
  | 2 => ⟨S_, .f32⟩
  | 3 => ⟨S5x1024, .f32⟩
  | 4 => ⟨S8x1024, .f32⟩
  | 5 => ⟨S1x1024, .f32⟩
  | 6 => ⟨S32x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c : Ref sig .tc := ⟨.hbm, 93, rfl⟩
abbrev main_call0_v0 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_call1_v0 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_16 : Ref sig .tc := ⟨.hbm, 114, rfl⟩
abbrev main_v85 : Ref sig .tc := ⟨.hbm, 115, rfl⟩
abbrev main_v86 : Ref sig .tc := ⟨.hbm, 116, rfl⟩
abbrev main_cst_17 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_18 : Ref sig .tc := ⟨.hbm, 121, rfl⟩
abbrev main_v90 : Ref sig .tc := ⟨.hbm, 122, rfl⟩
abbrev main_v91 : Ref sig .tc := ⟨.hbm, 123, rfl⟩
abbrev main_cst_19 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_20 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩

abbrev nD : Nat := 1
abbrev τ : Topo := Topo.v7x

variable {F : FTy → Type} [FloatOps F]
-- ==== Kernel2.lean ====
abbrev S4096x1024 : Shape := ⟨2, ![4096, 1024]⟩
abbrev S4096x6144 : Shape := ⟨2, ![4096, 6144]⟩
abbrev S1024 : Shape := ⟨1, ![1024]⟩
abbrev S3072 : Shape := ⟨1, ![3072]⟩
abbrev S8x128x128 : Shape := ⟨3, ![8, 128, 128]⟩
abbrev S8x128 : Shape := ⟨2, ![8, 128]⟩
abbrev S2048x1024 : Shape := ⟨2, ![2048, 1024]⟩
abbrev S4096x6x1024 : Shape := ⟨3, ![4096, 6, 1024]⟩
abbrev S6x4096x1024 : Shape := ⟨3, ![6, 4096, 1024]⟩
abbrev S4x4096x1024 : Shape := ⟨3, ![4, 4096, 1024]⟩
abbrev S2x4096x1024 : Shape := ⟨3, ![2, 4096, 1024]⟩
abbrev S4096x8x128 : Shape := ⟨3, ![4096, 8, 128]⟩
abbrev S8x4096x128 : Shape := ⟨3, ![8, 4096, 128]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S1x3072 : Shape := ⟨2, ![1, 3072]⟩
abbrev S4096x2048 : Shape := ⟨2, ![4096, 2048]⟩
abbrev S8x1024 : Shape := ⟨2, ![8, 1024]⟩
abbrev S128x128 : Shape := ⟨2, ![128, 128]⟩
abbrev S256x1024 : Shape := ⟨2, ![256, 1024]⟩
abbrev S4x256x1024 : Shape := ⟨3, ![4, 256, 1024]⟩
abbrev S8x256x128 : Shape := ⟨3, ![8, 256, 128]⟩
abbrev S256x2048 : Shape := ⟨2, ![256, 2048]⟩
abbrev S8x8x1024 : Shape := ⟨3, ![8, 8, 1024]⟩
abbrev S5x256x1024 : Shape := ⟨3, ![5, 256, 1024]⟩
abbrev S2x256x1 : Shape := ⟨3, ![2, 256, 1]⟩
abbrev S1x16x128 : Shape := ⟨3, ![1, 16, 128]⟩
abbrev S16x128 : Shape := ⟨2, ![16, 128]⟩
abbrev S16x1024 : Shape := ⟨2, ![16, 1024]⟩
abbrev S16 : Shape := ⟨1, ![16]⟩
abbrev S16x1 : Shape := ⟨2, ![16, 1]⟩
abbrev S1x16x1024 : Shape := ⟨3, ![1, 16, 1024]⟩
abbrev S1x16x1 : Shape := ⟨3, ![1, 16, 1]⟩
abbrev S1x128x128 : Shape := ⟨3, ![1, 128, 128]⟩
abbrev S1x8x1024 : Shape := ⟨3, ![1, 8, 1024]⟩
abbrev S2x8x1024 : Shape := ⟨3, ![2, 8, 1024]⟩
abbrev S128 : Shape := ⟨1, ![128]⟩
abbrev S128x1 : Shape := ⟨2, ![128, 1]⟩

abbrev nBuf : Space → Nat
  | .hbm => 38
  | .vmem => 40
  | .smem => 0
  | _ => 0

abbrev bufTy : (tb : Table) → Fin (tcTables nBuf tb) → BufTy
  | .hbm, ⟨0, _⟩ => ⟨S4096x1024, .f32⟩
  | .hbm, ⟨1, _⟩ => ⟨S4096x6144, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S3072, .f32⟩
  | .hbm, ⟨10, _⟩ => ⟨S8x128x128, .f32⟩
  | .hbm, ⟨11, _⟩ => ⟨S8x128, .f32⟩
  | .hbm, ⟨12, _⟩ => ⟨S2048x1024, .f32⟩
  | .hbm, ⟨13, _⟩ => ⟨S4096x6x1024, .f32⟩
  | .hbm, ⟨14, _⟩ => ⟨S6x4096x1024, .f32⟩
  | .hbm, ⟨15, _⟩ => ⟨S4x4096x1024, .f32⟩
  | .hbm, ⟨16, _⟩ => ⟨S2x4096x1024, .f32⟩
  | .hbm, ⟨17, _⟩ => ⟨S6x4096x1024, .f32⟩
  | .hbm, ⟨18, _⟩ => ⟨S4096x8x128, .f32⟩
  | .hbm, ⟨19, _⟩ => ⟨S8x4096x128, .f32⟩
  | .hbm, ⟨20, _⟩ => ⟨S128x8, .f32⟩
  | .hbm, ⟨21, _⟩ => ⟨S128x8x128, .f32⟩
  | .hbm, ⟨22, _⟩ => ⟨S128x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x3072, .f32⟩
  | .hbm, ⟨29, _⟩ => ⟨S2048x1024, .bf16⟩
  | .hbm, ⟨30, _⟩ => ⟨S4x4096x1024, .bf16⟩
  | .hbm, ⟨31, _⟩ => ⟨S8x4096x128, .f32⟩
  | .hbm, ⟨32, _⟩ => ⟨S4096x1024, .f32⟩
  | .hbm, ⟨33, _⟩ => ⟨S4096x2048, .bf16⟩
  | .hbm, ⟨34, _⟩ => ⟨S4096x1024, .bf16⟩
  | .hbm, ⟨35, _⟩ => ⟨S8x128x128, .f32⟩
  | .hbm, ⟨36, _⟩ => ⟨S8x1024, .f32⟩
  | .hbm, ⟨37, _⟩ => ⟨S128x128, .f32⟩
  | .local _ .vmem, ⟨0, _⟩ => ⟨S256x1024, .f32⟩
  | .local _ .vmem, ⟨1, _⟩ => ⟨S256x1024, .f32⟩
  | .local _ .vmem, ⟨2, _⟩ => ⟨S4x256x1024, .f32⟩
  | .local _ .vmem, ⟨3, _⟩ => ⟨S4x256x1024, .f32⟩
  | .local _ .vmem, ⟨4, _⟩ => ⟨S8x256x128, .f32⟩
  | .local _ .vmem, ⟨5, _⟩ => ⟨S8x256x128, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x3072, .f32⟩
  | .local _ .vmem, ⟨14, _⟩ => ⟨S8x128x128, .f32⟩
  | .local _ .vmem, ⟨15, _⟩ => ⟨S128x1024, .f32⟩
  | .local _ .vmem, ⟨16, _⟩ => ⟨S2048x1024, .bf16⟩
  | .local _ .vmem, ⟨17, _⟩ => ⟨S4x256x1024, .bf16⟩
  | .local _ .vmem, ⟨18, _⟩ => ⟨S4x256x1024, .bf16⟩
  | .local _ .vmem, ⟨19, _⟩ => ⟨S8x256x128, .f32⟩
  | .local _ .vmem, ⟨20, _⟩ => ⟨S8x256x128, .f32⟩
  | .local _ .vmem, ⟨21, _⟩ => ⟨S256x1024, .f32⟩
  | .local _ .vmem, ⟨22, _⟩ => ⟨S256x1024, .f32⟩
  | .local _ .vmem, ⟨23, _⟩ => ⟨S256x2048, .bf16⟩
  | .local _ .vmem, ⟨24, _⟩ => ⟨S256x2048, .bf16⟩
  | .local _ .vmem, ⟨25, _⟩ => ⟨S256x1024, .bf16⟩
  | .local _ .vmem, ⟨26, _⟩ => ⟨S256x1024, .bf16⟩
  | .local _ .vmem, ⟨27, _⟩ => ⟨S8x128x128, .f32⟩
  | .local _ .vmem, ⟨28, _⟩ => ⟨S8x1024, .f32⟩
  | .local _ .vmem, ⟨29, _⟩ => ⟨S128x128, .f32⟩
  | .local _ .vmem, ⟨30, _⟩ => ⟨S256x1024, .bf16⟩
  | .local _ .vmem, ⟨31, _⟩ => ⟨S256x1024, .f32⟩
  | .local _ .vmem, ⟨32, _⟩ => ⟨S256x1024, .f32⟩
  | .local _ .vmem, ⟨33, _⟩ => ⟨S256x2048, .f32⟩
  | .local _ .vmem, ⟨34, _⟩ => ⟨S256x1024, .bf16⟩
  | .local _ .vmem, ⟨35, _⟩ => ⟨S256x1024, .f32⟩
  | .local _ .vmem, ⟨36, _⟩ => ⟨S8x8x1024, .f32⟩
  | .local _ .vmem, ⟨37, _⟩ => ⟨S128x1024, .f32⟩
  | .local _ .vmem, ⟨38, _⟩ => ⟨S5x256x1024, .f32⟩
  | .local _ .vmem, ⟨39, _⟩ => ⟨S2x256x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev main_v17_3 : Ref sig .tc := ⟨.hbm, 33, rfl⟩
abbrev main_v17_4 : Ref sig .tc := ⟨.hbm, 34, rfl⟩
abbrev main_v17_5 : Ref sig .tc := ⟨.hbm, 35, rfl⟩
abbrev main_v17_6 : Ref sig .tc := ⟨.hbm, 36, rfl⟩
abbrev main_v17_7 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_scratch7 : Ref sig .tc := ⟨.vmem, 37, rfl⟩
abbrev cc0_scratch8 : Ref sig .tc := ⟨.vmem, 38, rfl⟩
abbrev cc0_scratch9 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem19_0 : DmaSem sig := 28
abbrev cc0_sem20_0 : DmaSem sig := 29

abbrev nD : Nat := 1
abbrev τ : Topo := Topo.v7x

variable {F : FTy → Type} [FloatOps F]

abbrev grid0 : Pipeline.Grid := ⟨1, ![16], ![false]⟩

def k0_mult1 : BitVec 32 :=
  let c0_i32_11 : BitVec 32 := 0#32
  let c16_i32 : BitVec 32 := 16#32
  let v15 : BitVec 32 := Scalar.muli c0_i32_11 c16_i32
  v15
def k0_off1 (c0_i32_11 : BitVec 32) : Fin 3 → Nat :=
  let c0_12 : Index := 0#32
  let c16_i32 : BitVec 32 := 16#32
  let v15 : BitVec 32 := Scalar.muli c0_i32_11 c16_i32
  let v16 : BitVec 32 := v15
  let v17 : Index := Scalar.indexCast v16
  let c0_13 : Index := 0#32
  ![0, v17.toNat, 0]
def k0_off2 (c0_i32_11 : BitVec 32) : Fin 3 → Nat :=
  let c1 : Index := 1#32
  let c16_i32 : BitVec 32 := 16#32
  let v15 : BitVec 32 := Scalar.muli c0_i32_11 c16_i32
  let v16 : BitVec 32 := v15
  let v20 : Index := Scalar.indexCast v16
  let c0_14 : Index := 0#32
  ![1, v20.toNat, 0]
def k0_off3 (c0_i32_11 : BitVec 32) : Fin 3 → Nat :=
  let c2 : Index := 2#32
  let c16_i32 : BitVec 32 := 16#32
  let v15 : BitVec 32 := Scalar.muli c0_i32_11 c16_i32
  let v16 : BitVec 32 := v15
  let v23 : Index := Scalar.indexCast v16
  let c0_15 : Index := 0#32
  ![2, v23.toNat, 0]
def k0_off4 (c0_i32_11 : BitVec 32) : Fin 3 → Nat :=
  let c3 : Index := 3#32
  let c16_i32 : BitVec 32 := 16#32
  let v15 : BitVec 32 := Scalar.muli c0_i32_11 c16_i32
  let v16 : BitVec 32 := v15
  let v26 : Index := Scalar.indexCast v16
  let c0_16 : Index := 0#32
  ![3, v26.toNat, 0]
def k0_off5 (c0_i32_11 : BitVec 32) : Fin 3 → Nat :=
  let c4 : Index := 4#32
  let c16_i32 : BitVec 32 := 16#32
  let v15 : BitVec 32 := Scalar.muli c0_i32_11 c16_i32
  let v16 : BitVec 32 := v15
  let v29 : Index := Scalar.indexCast v16
  let c0_17 : Index := 0#32
  ![4, v29.toNat, 0]
def k0_off6 (c0_i32_11 : BitVec 32) : Fin 3 → Nat :=
  let c5 : Index := 5#32
  let c16_i32 : BitVec 32 := 16#32
  let v15 : BitVec 32 := Scalar.muli c0_i32_11 c16_i32
  let v16 : BitVec 32 := v15
  let v32 : Index := Scalar.indexCast v16
  let c0_18 : Index := 0#32
  ![5, v32.toNat, 0]
def k0_off7 (c0_i32_11 : BitVec 32) : Fin 3 → Nat :=
  let c6 : Index := 6#32
  let c16_i32 : BitVec 32 := 16#32
  let v15 : BitVec 32 := Scalar.muli c0_i32_11 c16_i32
  let v16 : BitVec 32 := v15
  let v35 : Index := Scalar.indexCast v16
  let c0_19 : Index := 0#32
  ![6, v35.toNat, 0]
def k0_off8 (c0_i32_11 : BitVec 32) : Fin 3 → Nat :=
  let c7 : Index := 7#32
  let c16_i32 : BitVec 32 := 16#32
  let v15 : BitVec 32 := Scalar.muli c0_i32_11 c16_i32
  let v16 : BitVec 32 := v15
  let v38 : Index := Scalar.indexCast v16
  let c0_20 : Index := 0#32
  ![7, v38.toNat, 0]
def k0_off9 (c0_i32_11 : BitVec 32) : Fin 3 → Nat :=
  let c0_25 : Index := 0#32
  let c16_i32 : BitVec 32 := 16#32
  let v15 : BitVec 32 := Scalar.muli c0_i32_11 c16_i32
  let v16 : BitVec 32 := v15
  let v62 : Index := Scalar.indexCast v16
  let c0_26 : Index := 0#32
  ![0, v62.toNat, 0]
def k0_off10 (c0_i32_11 : BitVec 32) : Fin 2 → Nat :=
  let c16_i32 : BitVec 32 := 16#32
  let v15 : BitVec 32 := Scalar.muli c0_i32_11 c16_i32
  let v16 : BitVec 32 := v15
  let v83 : Index := Scalar.indexCast v16
  let c0_33 : Index := 0#32
  ![v83.toNat, 0]
def k0_off11 (c0_i32_11 : BitVec 32) : Fin 3 → Nat :=
  let c2_34 : Index := 2#32
  let c16_i32 : BitVec 32 := 16#32
  let v15 : BitVec 32 := Scalar.muli c0_i32_11 c16_i32
  let v16 : BitVec 32 := v15
  let v85 : Index := Scalar.indexCast v16
  let c0_35 : Index := 0#32
  ![2, v85.toNat, 0]
def k0_off12 (c0_i32_11 : BitVec 32) : Fin 2 → Nat :=
  let c16_i32 : BitVec 32 := 16#32
  let v15 : BitVec 32 := Scalar.muli c0_i32_11 c16_i32
  let v16 : BitVec 32 := v15
  let v109 : Index := Scalar.indexCast v16
  let c0_41 : Index := 0#32
  ![v109.toNat, 0]
def k0_off13 (c0_i32_11 : BitVec 32) : Fin 3 → Nat :=
  let c0_42 : Index := 0#32
  let c16_i32 : BitVec 32 := 16#32
  let v15 : BitVec 32 := Scalar.muli c0_i32_11 c16_i32
  let v16 : BitVec 32 := v15
  let v113 : Index := Scalar.indexCast v16
  let c0_43 : Index := 0#32
  ![0, v113.toNat, 0]
def k0_off14 (c0_i32_11 : BitVec 32) : Fin 3 → Nat :=
  let c1_44 : Index := 1#32
  let c16_i32 : BitVec 32 := 16#32
  let v15 : BitVec 32 := Scalar.muli c0_i32_11 c16_i32
  let v16 : BitVec 32 := v15
  let v117 : Index := Scalar.indexCast v16
  let c0_45 : Index := 0#32
  ![1, v117.toNat, 0]
def k0_off15 (c0_i32_11 : BitVec 32) : Fin 3 → Nat :=
  let c2_46 : Index := 2#32
  let c16_i32 : BitVec 32 := 16#32
  let v15 : BitVec 32 := Scalar.muli c0_i32_11 c16_i32
  let v16 : BitVec 32 := v15
  let v121 : Index := Scalar.indexCast v16
  let c0_47 : Index := 0#32
  ![2, v121.toNat, 0]
def k0_off16 (c0_i32_11 : BitVec 32) : Fin 3 → Nat :=
  let c3_48 : Index := 3#32
  let c16_i32 : BitVec 32 := 16#32
  let v15 : BitVec 32 := Scalar.muli c0_i32_11 c16_i32
  let v16 : BitVec 32 := v15
  let v125 : Index := Scalar.indexCast v16
  let c0_49 : Index := 0#32
  ![3, v125.toNat, 0]
def k0_off17 (c0_i32_11 : BitVec 32) : Fin 3 → Nat :=
  let c0_50 : Index := 0#32
  let c16_i32 : BitVec 32 := 16#32
  let v15 : BitVec 32 := Scalar.muli c0_i32_11 c16_i32
  let v16 : BitVec 32 := v15
  let v129 : Index := Scalar.indexCast v16
  let c0_51 : Index := 0#32
  ![0, v129.toNat, 0]
def k0_off18 (c0_i32_11 : BitVec 32) : Fin 3 → Nat :=
  let c1_52 : Index := 1#32
  let c16_i32 : BitVec 32 := 16#32
  let v15 : BitVec 32 := Scalar.muli c0_i32_11 c16_i32
  let v16 : BitVec 32 := v15
  let v133 : Index := Scalar.indexCast v16
  let c0_53 : Index := 0#32
  ![1, v133.toNat, 0]
def k0_mult2 : BitVec 32 :=
  let c1_i32 : BitVec 32 := 1#32
  let c16_i32_54 : BitVec 32 := 16#32
  let v137 : BitVec 32 := Scalar.muli c1_i32 c16_i32_54
  v137
def k0_mult3 : BitVec 32 :=
  let c2_i32 : BitVec 32 := 2#32
  let c16_i32_105 : BitVec 32 := 16#32
  let v259 : BitVec 32 := Scalar.muli c2_i32 c16_i32_105
  v259
def k0_mult4 : BitVec 32 :=
  let c3_i32 : BitVec 32 := 3#32
  let c16_i32_156 : BitVec 32 := 16#32
  let v381 : BitVec 32 := Scalar.muli c3_i32 c16_i32_156
  v381
def k0_mult5 : BitVec 32 :=
  let c4_i32 : BitVec 32 := 4#32
  let c16_i32_207 : BitVec 32 := 16#32
  let v503 : BitVec 32 := Scalar.muli c4_i32 c16_i32_207
  v503
def k0_mult6 : BitVec 32 :=
  let c5_i32 : BitVec 32 := 5#32
  let c16_i32_258 : BitVec 32 := 16#32
  let v625 : BitVec 32 := Scalar.muli c5_i32 c16_i32_258
  v625
def k0_mult7 : BitVec 32 :=
  let c6_i32 : BitVec 32 := 6#32
  let c16_i32_309 : BitVec 32 := 16#32
  let v747 : BitVec 32 := Scalar.muli c6_i32 c16_i32_309
  v747
def k0_mult8 : BitVec 32 :=
  let c7_i32 : BitVec 32 := 7#32
  let c16_i32_360 : BitVec 32 := 16#32
  let v869 : BitVec 32 := Scalar.muli c7_i32 c16_i32_360
  v869
def k0_mult9 : BitVec 32 :=
  let c8_i32 : BitVec 32 := 8#32
  let c16_i32_411 : BitVec 32 := 16#32
  let v991 : BitVec 32 := Scalar.muli c8_i32 c16_i32_411
  v991
def k0_mult10 : BitVec 32 :=
  let c9_i32 : BitVec 32 := 9#32
  let c16_i32_462 : BitVec 32 := 16#32
  let v1113 : BitVec 32 := Scalar.muli c9_i32 c16_i32_462
  v1113
def k0_mult11 : BitVec 32 :=
  let c10_i32 : BitVec 32 := 10#32
  let c16_i32_513 : BitVec 32 := 16#32
  let v1235 : BitVec 32 := Scalar.muli c10_i32 c16_i32_513
  v1235
def k0_mult12 : BitVec 32 :=
  let c11_i32 : BitVec 32 := 11#32
  let c16_i32_564 : BitVec 32 := 16#32
  let v1357 : BitVec 32 := Scalar.muli c11_i32 c16_i32_564
  v1357
def k0_mult13 : BitVec 32 :=
  let c12_i32 : BitVec 32 := 12#32
  let c16_i32_615 : BitVec 32 := 16#32
  let v1479 : BitVec 32 := Scalar.muli c12_i32 c16_i32_615
  v1479
def k0_mult14 : BitVec 32 :=
  let c13_i32 : BitVec 32 := 13#32
  let c16_i32_666 : BitVec 32 := 16#32
  let v1601 : BitVec 32 := Scalar.muli c13_i32 c16_i32_666
  v1601
def k0_mult15 : BitVec 32 :=
  let c14_i32 : BitVec 32 := 14#32
  let c16_i32_717 : BitVec 32 := 16#32
  let v1723 : BitVec 32 := Scalar.muli c14_i32 c16_i32_717
  v1723
def k0_mult16 : BitVec 32 :=
  let c15_i32 : BitVec 32 := 15#32
  let c16_i32_768 : BitVec 32 := 16#32
  let v1845 : BitVec 32 := Scalar.muli c15_i32 c16_i32_768
  v1845
def k0_mult17 : BitVec 32 :=
  let c0_i32_973 : BitVec 32 := 0#32
  let c16_i32_974 : BitVec 32 := 16#32
  let v2143 : BitVec 32 := Scalar.muli c0_i32_973 c16_i32_974
  v2143
def k0_off19 (c0_i32_973 : BitVec 32) : Fin 3 → Nat :=
  let c3_975 : Index := 3#32
  let c16_i32_974 : BitVec 32 := 16#32
  let v2143 : BitVec 32 := Scalar.muli c0_i32_973 c16_i32_974
  let v2144 : BitVec 32 := v2143
  let v2145 : Index := Scalar.indexCast v2144
  let c0_976 : Index := 0#32
  ![3, v2145.toNat, 0]
def k0_off20 (c0_i32_973 : BitVec 32) : Fin 3 → Nat :=
  let c4_980 : Index := 4#32
  let c16_i32_974 : BitVec 32 := 16#32
  let v2143 : BitVec 32 := Scalar.muli c0_i32_973 c16_i32_974
  let v2144 : BitVec 32 := v2143
  let v2155 : Index := Scalar.indexCast v2144
  let c0_981 : Index := 0#32
  ![4, v2155.toNat, 0]
def k0_off21 (c0_i32_973 : BitVec 32) : Fin 3 → Nat :=
  let c1_982 : Index := 1#32
  let c16_i32_974 : BitVec 32 := 16#32
  let v2143 : BitVec 32 := Scalar.muli c0_i32_973 c16_i32_974
  let v2144 : BitVec 32 := v2143
  let v2159 : Index := Scalar.indexCast v2144
  let c0_983 : Index := 0#32
  ![1, v2159.toNat, 0]
def k0_off22 (c0_i32_973 : BitVec 32) : Fin 2 → Nat :=
  let c16_i32_974 : BitVec 32 := 16#32
  let v2143 : BitVec 32 := Scalar.muli c0_i32_973 c16_i32_974
  let v2144 : BitVec 32 := v2143
  let v2168 : Index := Scalar.indexCast v2144
  let c1024 : Index := 1024#32
  ![v2168.toNat, 1024]
def k0_mult18 : BitVec 32 :=
  let c1_i32_985 : BitVec 32 := 1#32
  let c16_i32_986 : BitVec 32 := 16#32
  let v2170 : BitVec 32 := Scalar.muli c1_i32_985 c16_i32_986
  v2170
def k0_mult19 : BitVec 32 :=
  let c2_i32_998 : BitVec 32 := 2#32
  let c16_i32_999 : BitVec 32 := 16#32
  let v2197 : BitVec 32 := Scalar.muli c2_i32_998 c16_i32_999
  v2197
def k0_mult20 : BitVec 32 :=
  let c3_i32_1011 : BitVec 32 := 3#32
  let c16_i32_1012 : BitVec 32 := 16#32
  let v2224 : BitVec 32 := Scalar.muli c3_i32_1011 c16_i32_1012
  v2224
def k0_mult21 : BitVec 32 :=
  let c4_i32_1024 : BitVec 32 := 4#32
  let c16_i32_1025 : BitVec 32 := 16#32
  let v2251 : BitVec 32 := Scalar.muli c4_i32_1024 c16_i32_1025
  v2251
def k0_mult22 : BitVec 32 :=
  let c5_i32_1037 : BitVec 32 := 5#32
  let c16_i32_1038 : BitVec 32 := 16#32
  let v2278 : BitVec 32 := Scalar.muli c5_i32_1037 c16_i32_1038
  v2278
def k0_mult23 : BitVec 32 :=
  let c6_i32_1050 : BitVec 32 := 6#32
  let c16_i32_1051 : BitVec 32 := 16#32
  let v2305 : BitVec 32 := Scalar.muli c6_i32_1050 c16_i32_1051
  v2305
def k0_mult24 : BitVec 32 :=
  let c7_i32_1063 : BitVec 32 := 7#32
  let c16_i32_1064 : BitVec 32 := 16#32
  let v2332 : BitVec 32 := Scalar.muli c7_i32_1063 c16_i32_1064
  v2332
def k0_mult25 : BitVec 32 :=
  let c8_i32_1076 : BitVec 32 := 8#32
  let c16_i32_1077 : BitVec 32 := 16#32
  let v2359 : BitVec 32 := Scalar.muli c8_i32_1076 c16_i32_1077
  v2359
def k0_mult26 : BitVec 32 :=
  let c9_i32_1089 : BitVec 32 := 9#32
  let c16_i32_1090 : BitVec 32 := 16#32
  let v2386 : BitVec 32 := Scalar.muli c9_i32_1089 c16_i32_1090
  v2386
def k0_mult27 : BitVec 32 :=
  let c10_i32_1102 : BitVec 32 := 10#32
  let c16_i32_1103 : BitVec 32 := 16#32
  let v2413 : BitVec 32 := Scalar.muli c10_i32_1102 c16_i32_1103
  v2413
def k0_mult28 : BitVec 32 :=
  let c11_i32_1115 : BitVec 32 := 11#32
  let c16_i32_1116 : BitVec 32 := 16#32
  let v2440 : BitVec 32 := Scalar.muli c11_i32_1115 c16_i32_1116
  v2440
def k0_mult29 : BitVec 32 :=
  let c12_i32_1128 : BitVec 32 := 12#32
  let c16_i32_1129 : BitVec 32 := 16#32
  let v2467 : BitVec 32 := Scalar.muli c12_i32_1128 c16_i32_1129
  v2467
def k0_mult30 : BitVec 32 :=
  let c13_i32_1141 : BitVec 32 := 13#32
  let c16_i32_1142 : BitVec 32 := 16#32
  let v2494 : BitVec 32 := Scalar.muli c13_i32_1141 c16_i32_1142
  v2494
def k0_mult31 : BitVec 32 :=
  let c14_i32_1154 : BitVec 32 := 14#32
  let c16_i32_1155 : BitVec 32 := 16#32
  let v2521 : BitVec 32 := Scalar.muli c14_i32_1154 c16_i32_1155
  v2521
def k0_mult32 : BitVec 32 :=
  let c15_i32_1167 : BitVec 32 := 15#32
  let c16_i32_1168 : BitVec 32 := 16#32
  let v2548 : BitVec 32 := Scalar.muli c15_i32_1167 c16_i32_1168
  v2548
def k0_mult33 : BitVec 32 :=
  let c0_i32_1188 : BitVec 32 := 0#32
  let c16_i32_1189 : BitVec 32 := 16#32
  let v2583 : BitVec 32 := Scalar.muli c0_i32_1188 c16_i32_1189
  v2583
def k0_mult34 : BitVec 32 :=
  let c1_i32_1222 : BitVec 32 := 1#32
  let c16_i32_1223 : BitVec 32 := 16#32
  let v2655 : BitVec 32 := Scalar.muli c1_i32_1222 c16_i32_1223
  v2655
def k0_mult35 : BitVec 32 :=
  let c2_i32_1256 : BitVec 32 := 2#32
  let c16_i32_1257 : BitVec 32 := 16#32
  let v2727 : BitVec 32 := Scalar.muli c2_i32_1256 c16_i32_1257
  v2727
def k0_mult36 : BitVec 32 :=
  let c3_i32_1290 : BitVec 32 := 3#32
  let c16_i32_1291 : BitVec 32 := 16#32
  let v2799 : BitVec 32 := Scalar.muli c3_i32_1290 c16_i32_1291
  v2799
def k0_mult37 : BitVec 32 :=
  let c4_i32_1324 : BitVec 32 := 4#32
  let c16_i32_1325 : BitVec 32 := 16#32
  let v2871 : BitVec 32 := Scalar.muli c4_i32_1324 c16_i32_1325
  v2871
def k0_mult38 : BitVec 32 :=
  let c5_i32_1358 : BitVec 32 := 5#32
  let c16_i32_1359 : BitVec 32 := 16#32
  let v2943 : BitVec 32 := Scalar.muli c5_i32_1358 c16_i32_1359
  v2943
def k0_mult39 : BitVec 32 :=
  let c6_i32_1392 : BitVec 32 := 6#32
  let c16_i32_1393 : BitVec 32 := 16#32
  let v3015 : BitVec 32 := Scalar.muli c6_i32_1392 c16_i32_1393
  v3015
def k0_mult40 : BitVec 32 :=
  let c7_i32_1426 : BitVec 32 := 7#32
  let c16_i32_1427 : BitVec 32 := 16#32
  let v3087 : BitVec 32 := Scalar.muli c7_i32_1426 c16_i32_1427
  v3087
def k0_mult41 : BitVec 32 :=
  let c8_i32_1460 : BitVec 32 := 8#32
  let c16_i32_1461 : BitVec 32 := 16#32
  let v3159 : BitVec 32 := Scalar.muli c8_i32_1460 c16_i32_1461
  v3159
def k0_mult42 : BitVec 32 :=
  let c9_i32_1494 : BitVec 32 := 9#32
  let c16_i32_1495 : BitVec 32 := 16#32
  let v3231 : BitVec 32 := Scalar.muli c9_i32_1494 c16_i32_1495
  v3231
def k0_mult43 : BitVec 32 :=
  let c10_i32_1528 : BitVec 32 := 10#32
  let c16_i32_1529 : BitVec 32 := 16#32
  let v3303 : BitVec 32 := Scalar.muli c10_i32_1528 c16_i32_1529
  v3303
def k0_mult44 : BitVec 32 :=
  let c11_i32_1562 : BitVec 32 := 11#32
  let c16_i32_1563 : BitVec 32 := 16#32
  let v3375 : BitVec 32 := Scalar.muli c11_i32_1562 c16_i32_1563
  v3375
def k0_mult45 : BitVec 32 :=
  let c12_i32_1596 : BitVec 32 := 12#32
  let c16_i32_1597 : BitVec 32 := 16#32
  let v3447 : BitVec 32 := Scalar.muli c12_i32_1596 c16_i32_1597
  v3447
def k0_mult46 : BitVec 32 :=
  let c13_i32_1630 : BitVec 32 := 13#32
  let c16_i32_1631 : BitVec 32 := 16#32
  let v3519 : BitVec 32 := Scalar.muli c13_i32_1630 c16_i32_1631
  v3519
def k0_mult47 : BitVec 32 :=
  let c14_i32_1664 : BitVec 32 := 14#32
  let c16_i32_1665 : BitVec 32 := 16#32
  let v3591 : BitVec 32 := Scalar.muli c14_i32_1664 c16_i32_1665
  v3591
def k0_mult48 : BitVec 32 :=
  let c15_i32_1698 : BitVec 32 := 15#32
  let c16_i32_1699 : BitVec 32 := 16#32
  let v3663 : BitVec 32 := Scalar.muli c15_i32_1698 c16_i32_1699
  v3663
def k0_mult49 : BitVec 32 :=
  let c0_i32_1740 : BitVec 32 := 0#32
  let c16_i32_1741 : BitVec 32 := 16#32
  let v3743 : BitVec 32 := Scalar.muli c0_i32_1740 c16_i32_1741
  v3743
def k0_mult50 : BitVec 32 :=
  let c0_i32_1740 : BitVec 32 := 0#32
  let c16_i32_1741 : BitVec 32 := 16#32
  let v3743 : BitVec 32 := Scalar.muli c0_i32_1740 c16_i32_1741
  let v3744 : BitVec 32 := v3743
  let c128_i32 : BitVec 32 := 128#32
  let c0_i32_1757 : BitVec 32 := 0#32
  let v3787 : BitVec 1 := Scalar.cmpi .eq c128_i32 c0_i32_1757
  let c1_i32_1758 : BitVec 32 := 1#32
  let v3788 : BitVec 32 := Scalar.select v3787 c1_i32_1758 c128_i32
  let v3789 : BitVec 32 := Scalar.remsi v3744 v3788
  let c0_i32_1760 : BitVec 32 := 0#32
  let v3791 : BitVec 1 := Scalar.cmpi .slt v3789 c0_i32_1760
  let c0_i32_1761 : BitVec 32 := 0#32
  let v3792 : BitVec 1 := Scalar.cmpi .slt v3788 c0_i32_1761
  let v3793 : BitVec 1 := Scalar.xori v3791 v3792
  let c0_i32_1759 : BitVec 32 := 0#32
  let v3790 : BitVec 1 := Scalar.cmpi .ne v3789 c0_i32_1759
  let v3794 : BitVec 1 := Scalar.andi v3793 v3790
  let v3795 : BitVec 32 := Scalar.addi v3789 v3788
  let v3796 : BitVec 32 := Scalar.select v3794 v3795 v3789
  v3796
def k0_off23 (c0_i32_1740 : BitVec 32) : Fin 2 → Nat :=
  let c16_i32_1741 : BitVec 32 := 16#32
  let v3743 : BitVec 32 := Scalar.muli c0_i32_1740 c16_i32_1741
  let v3744 : BitVec 32 := v3743
  let c128_i32 : BitVec 32 := 128#32
  let c0_i32_1757 : BitVec 32 := 0#32
  let v3787 : BitVec 1 := Scalar.cmpi .eq c128_i32 c0_i32_1757
  let c1_i32_1758 : BitVec 32 := 1#32
  let v3788 : BitVec 32 := Scalar.select v3787 c1_i32_1758 c128_i32
  let v3789 : BitVec 32 := Scalar.remsi v3744 v3788
  let c0_i32_1760 : BitVec 32 := 0#32
  let v3791 : BitVec 1 := Scalar.cmpi .slt v3789 c0_i32_1760
  let c0_i32_1761 : BitVec 32 := 0#32
  let v3792 : BitVec 1 := Scalar.cmpi .slt v3788 c0_i32_1761
  let v3793 : BitVec 1 := Scalar.xori v3791 v3792
  let c0_i32_1759 : BitVec 32 := 0#32
  let v3790 : BitVec 1 := Scalar.cmpi .ne v3789 c0_i32_1759
  let v3794 : BitVec 1 := Scalar.andi v3793 v3790
  let v3795 : BitVec 32 := Scalar.addi v3789 v3788
  let v3796 : BitVec 32 := Scalar.select v3794 v3795 v3789
  let v3797 : BitVec 32 := v3796
  let v3798 : Index := Scalar.indexCast v3797
  let c0_1762 : Index := 0#32
  ![v3798.toNat, 0]
def k0_mult51 : BitVec 32 :=
  let c1_i32_1764 : BitVec 32 := 1#32
  let c16_i32_1765 : BitVec 32 := 16#32
  let v3805 : BitVec 32 := Scalar.muli c1_i32_1764 c16_i32_1765
  v3805
def k0_mult52 : BitVec 32 :=
  let c1_i32_1764 : BitVec 32 := 1#32
  let c16_i32_1765 : BitVec 32 := 16#32
  let v3805 : BitVec 32 := Scalar.muli c1_i32_1764 c16_i32_1765
  let v3806 : BitVec 32 := v3805
  let c128_i32_1781 : BitVec 32 := 128#32
  let c0_i32_1782 : BitVec 32 := 0#32
  let v3849 : BitVec 1 := Scalar.cmpi .eq c128_i32_1781 c0_i32_1782
  let c1_i32_1783 : BitVec 32 := 1#32
  let v3850 : BitVec 32 := Scalar.select v3849 c1_i32_1783 c128_i32_1781
  let v3851 : BitVec 32 := Scalar.remsi v3806 v3850
  let c0_i32_1785 : BitVec 32 := 0#32
  let v3853 : BitVec 1 := Scalar.cmpi .slt v3851 c0_i32_1785
  let c0_i32_1786 : BitVec 32 := 0#32
  let v3854 : BitVec 1 := Scalar.cmpi .slt v3850 c0_i32_1786
  let v3855 : BitVec 1 := Scalar.xori v3853 v3854
  let c0_i32_1784 : BitVec 32 := 0#32
  let v3852 : BitVec 1 := Scalar.cmpi .ne v3851 c0_i32_1784
  let v3856 : BitVec 1 := Scalar.andi v3855 v3852
  let v3857 : BitVec 32 := Scalar.addi v3851 v3850
  let v3858 : BitVec 32 := Scalar.select v3856 v3857 v3851
  v3858
def k0_mult53 : BitVec 32 :=
  let c2_i32_1789 : BitVec 32 := 2#32
  let c16_i32_1790 : BitVec 32 := 16#32
  let v3867 : BitVec 32 := Scalar.muli c2_i32_1789 c16_i32_1790
  v3867
def k0_mult54 : BitVec 32 :=
  let c2_i32_1789 : BitVec 32 := 2#32
  let c16_i32_1790 : BitVec 32 := 16#32
  let v3867 : BitVec 32 := Scalar.muli c2_i32_1789 c16_i32_1790
  let v3868 : BitVec 32 := v3867
  let c128_i32_1806 : BitVec 32 := 128#32
  let c0_i32_1807 : BitVec 32 := 0#32
  let v3911 : BitVec 1 := Scalar.cmpi .eq c128_i32_1806 c0_i32_1807
  let c1_i32_1808 : BitVec 32 := 1#32
  let v3912 : BitVec 32 := Scalar.select v3911 c1_i32_1808 c128_i32_1806
  let v3913 : BitVec 32 := Scalar.remsi v3868 v3912
  let c0_i32_1810 : BitVec 32 := 0#32
  let v3915 : BitVec 1 := Scalar.cmpi .slt v3913 c0_i32_1810
  let c0_i32_1811 : BitVec 32 := 0#32
  let v3916 : BitVec 1 := Scalar.cmpi .slt v3912 c0_i32_1811
  let v3917 : BitVec 1 := Scalar.xori v3915 v3916
  let c0_i32_1809 : BitVec 32 := 0#32
  let v3914 : BitVec 1 := Scalar.cmpi .ne v3913 c0_i32_1809
  let v3918 : BitVec 1 := Scalar.andi v3917 v3914
  let v3919 : BitVec 32 := Scalar.addi v3913 v3912
  let v3920 : BitVec 32 := Scalar.select v3918 v3919 v3913
  v3920
def k0_mult55 : BitVec 32 :=
  let c3_i32_1814 : BitVec 32 := 3#32
  let c16_i32_1815 : BitVec 32 := 16#32
  let v3929 : BitVec 32 := Scalar.muli c3_i32_1814 c16_i32_1815
  v3929
def k0_mult56 : BitVec 32 :=
  let c3_i32_1814 : BitVec 32 := 3#32
  let c16_i32_1815 : BitVec 32 := 16#32
  let v3929 : BitVec 32 := Scalar.muli c3_i32_1814 c16_i32_1815
  let v3930 : BitVec 32 := v3929
  let c128_i32_1831 : BitVec 32 := 128#32
  let c0_i32_1832 : BitVec 32 := 0#32
  let v3973 : BitVec 1 := Scalar.cmpi .eq c128_i32_1831 c0_i32_1832
  let c1_i32_1833 : BitVec 32 := 1#32
  let v3974 : BitVec 32 := Scalar.select v3973 c1_i32_1833 c128_i32_1831
  let v3975 : BitVec 32 := Scalar.remsi v3930 v3974
  let c0_i32_1835 : BitVec 32 := 0#32
  let v3977 : BitVec 1 := Scalar.cmpi .slt v3975 c0_i32_1835
  let c0_i32_1836 : BitVec 32 := 0#32
  let v3978 : BitVec 1 := Scalar.cmpi .slt v3974 c0_i32_1836
  let v3979 : BitVec 1 := Scalar.xori v3977 v3978
  let c0_i32_1834 : BitVec 32 := 0#32
  let v3976 : BitVec 1 := Scalar.cmpi .ne v3975 c0_i32_1834
  let v3980 : BitVec 1 := Scalar.andi v3979 v3976
  let v3981 : BitVec 32 := Scalar.addi v3975 v3974
  let v3982 : BitVec 32 := Scalar.select v3980 v3981 v3975
  v3982
def k0_mult57 : BitVec 32 :=
  let c4_i32_1839 : BitVec 32 := 4#32
  let c16_i32_1840 : BitVec 32 := 16#32
  let v3991 : BitVec 32 := Scalar.muli c4_i32_1839 c16_i32_1840
  v3991
def k0_mult58 : BitVec 32 :=
  let c4_i32_1839 : BitVec 32 := 4#32
  let c16_i32_1840 : BitVec 32 := 16#32
  let v3991 : BitVec 32 := Scalar.muli c4_i32_1839 c16_i32_1840
  let v3992 : BitVec 32 := v3991
  let c128_i32_1856 : BitVec 32 := 128#32
  let c0_i32_1857 : BitVec 32 := 0#32
  let v4035 : BitVec 1 := Scalar.cmpi .eq c128_i32_1856 c0_i32_1857
  let c1_i32_1858 : BitVec 32 := 1#32
  let v4036 : BitVec 32 := Scalar.select v4035 c1_i32_1858 c128_i32_1856
  let v4037 : BitVec 32 := Scalar.remsi v3992 v4036
  let c0_i32_1860 : BitVec 32 := 0#32
  let v4039 : BitVec 1 := Scalar.cmpi .slt v4037 c0_i32_1860
  let c0_i32_1861 : BitVec 32 := 0#32
  let v4040 : BitVec 1 := Scalar.cmpi .slt v4036 c0_i32_1861
  let v4041 : BitVec 1 := Scalar.xori v4039 v4040
  let c0_i32_1859 : BitVec 32 := 0#32
  let v4038 : BitVec 1 := Scalar.cmpi .ne v4037 c0_i32_1859
  let v4042 : BitVec 1 := Scalar.andi v4041 v4038
  let v4043 : BitVec 32 := Scalar.addi v4037 v4036
  let v4044 : BitVec 32 := Scalar.select v4042 v4043 v4037
  v4044
def k0_mult59 : BitVec 32 :=
  let c5_i32_1864 : BitVec 32 := 5#32
  let c16_i32_1865 : BitVec 32 := 16#32
  let v4053 : BitVec 32 := Scalar.muli c5_i32_1864 c16_i32_1865
  v4053
def k0_mult60 : BitVec 32 :=
  let c5_i32_1864 : BitVec 32 := 5#32
  let c16_i32_1865 : BitVec 32 := 16#32
  let v4053 : BitVec 32 := Scalar.muli c5_i32_1864 c16_i32_1865
  let v4054 : BitVec 32 := v4053
  let c128_i32_1881 : BitVec 32 := 128#32
  let c0_i32_1882 : BitVec 32 := 0#32
  let v4097 : BitVec 1 := Scalar.cmpi .eq c128_i32_1881 c0_i32_1882
  let c1_i32_1883 : BitVec 32 := 1#32
  let v4098 : BitVec 32 := Scalar.select v4097 c1_i32_1883 c128_i32_1881
  let v4099 : BitVec 32 := Scalar.remsi v4054 v4098
  let c0_i32_1885 : BitVec 32 := 0#32
  let v4101 : BitVec 1 := Scalar.cmpi .slt v4099 c0_i32_1885
  let c0_i32_1886 : BitVec 32 := 0#32
  let v4102 : BitVec 1 := Scalar.cmpi .slt v4098 c0_i32_1886
  let v4103 : BitVec 1 := Scalar.xori v4101 v4102
  let c0_i32_1884 : BitVec 32 := 0#32
  let v4100 : BitVec 1 := Scalar.cmpi .ne v4099 c0_i32_1884
  let v4104 : BitVec 1 := Scalar.andi v4103 v4100
  let v4105 : BitVec 32 := Scalar.addi v4099 v4098
  let v4106 : BitVec 32 := Scalar.select v4104 v4105 v4099
  v4106
def k0_mult61 : BitVec 32 :=
  let c6_i32_1889 : BitVec 32 := 6#32
  let c16_i32_1890 : BitVec 32 := 16#32
  let v4115 : BitVec 32 := Scalar.muli c6_i32_1889 c16_i32_1890
  v4115
def k0_mult62 : BitVec 32 :=
  let c6_i32_1889 : BitVec 32 := 6#32
  let c16_i32_1890 : BitVec 32 := 16#32
  let v4115 : BitVec 32 := Scalar.muli c6_i32_1889 c16_i32_1890
  let v4116 : BitVec 32 := v4115
  let c128_i32_1906 : BitVec 32 := 128#32
  let c0_i32_1907 : BitVec 32 := 0#32
  let v4159 : BitVec 1 := Scalar.cmpi .eq c128_i32_1906 c0_i32_1907
  let c1_i32_1908 : BitVec 32 := 1#32
  let v4160 : BitVec 32 := Scalar.select v4159 c1_i32_1908 c128_i32_1906
  let v4161 : BitVec 32 := Scalar.remsi v4116 v4160
  let c0_i32_1910 : BitVec 32 := 0#32
  let v4163 : BitVec 1 := Scalar.cmpi .slt v4161 c0_i32_1910
  let c0_i32_1911 : BitVec 32 := 0#32
  let v4164 : BitVec 1 := Scalar.cmpi .slt v4160 c0_i32_1911
  let v4165 : BitVec 1 := Scalar.xori v4163 v4164
  let c0_i32_1909 : BitVec 32 := 0#32
  let v4162 : BitVec 1 := Scalar.cmpi .ne v4161 c0_i32_1909
  let v4166 : BitVec 1 := Scalar.andi v4165 v4162
  let v4167 : BitVec 32 := Scalar.addi v4161 v4160
  let v4168 : BitVec 32 := Scalar.select v4166 v4167 v4161
  v4168
def k0_mult63 : BitVec 32 :=
  let c7_i32_1914 : BitVec 32 := 7#32
  let c16_i32_1915 : BitVec 32 := 16#32
  let v4177 : BitVec 32 := Scalar.muli c7_i32_1914 c16_i32_1915
  v4177
def k0_mult64 : BitVec 32 :=
  let c7_i32_1914 : BitVec 32 := 7#32
  let c16_i32_1915 : BitVec 32 := 16#32
  let v4177 : BitVec 32 := Scalar.muli c7_i32_1914 c16_i32_1915
  let v4178 : BitVec 32 := v4177
  let c128_i32_1931 : BitVec 32 := 128#32
  let c0_i32_1932 : BitVec 32 := 0#32
  let v4221 : BitVec 1 := Scalar.cmpi .eq c128_i32_1931 c0_i32_1932
  let c1_i32_1933 : BitVec 32 := 1#32
  let v4222 : BitVec 32 := Scalar.select v4221 c1_i32_1933 c128_i32_1931
  let v4223 : BitVec 32 := Scalar.remsi v4178 v4222
  let c0_i32_1935 : BitVec 32 := 0#32
  let v4225 : BitVec 1 := Scalar.cmpi .slt v4223 c0_i32_1935
  let c0_i32_1936 : BitVec 32 := 0#32
  let v4226 : BitVec 1 := Scalar.cmpi .slt v4222 c0_i32_1936
  let v4227 : BitVec 1 := Scalar.xori v4225 v4226
  let c0_i32_1934 : BitVec 32 := 0#32
  let v4224 : BitVec 1 := Scalar.cmpi .ne v4223 c0_i32_1934
  let v4228 : BitVec 1 := Scalar.andi v4227 v4224
  let v4229 : BitVec 32 := Scalar.addi v4223 v4222
  let v4230 : BitVec 32 := Scalar.select v4228 v4229 v4223
  v4230
def k0_mult65 : BitVec 32 :=
  let c8_i32_1939 : BitVec 32 := 8#32
  let c16_i32_1940 : BitVec 32 := 16#32
  let v4239 : BitVec 32 := Scalar.muli c8_i32_1939 c16_i32_1940
  v4239
def k0_mult66 : BitVec 32 :=
  let c8_i32_1939 : BitVec 32 := 8#32
  let c16_i32_1940 : BitVec 32 := 16#32
  let v4239 : BitVec 32 := Scalar.muli c8_i32_1939 c16_i32_1940
  let v4240 : BitVec 32 := v4239
  let c128_i32_1956 : BitVec 32 := 128#32
  let c0_i32_1957 : BitVec 32 := 0#32
  let v4283 : BitVec 1 := Scalar.cmpi .eq c128_i32_1956 c0_i32_1957
  let c1_i32_1958 : BitVec 32 := 1#32
  let v4284 : BitVec 32 := Scalar.select v4283 c1_i32_1958 c128_i32_1956
  let v4285 : BitVec 32 := Scalar.remsi v4240 v4284
  let c0_i32_1960 : BitVec 32 := 0#32
  let v4287 : BitVec 1 := Scalar.cmpi .slt v4285 c0_i32_1960
  let c0_i32_1961 : BitVec 32 := 0#32
  let v4288 : BitVec 1 := Scalar.cmpi .slt v4284 c0_i32_1961
  let v4289 : BitVec 1 := Scalar.xori v4287 v4288
  let c0_i32_1959 : BitVec 32 := 0#32
  let v4286 : BitVec 1 := Scalar.cmpi .ne v4285 c0_i32_1959
  let v4290 : BitVec 1 := Scalar.andi v4289 v4286
  let v4291 : BitVec 32 := Scalar.addi v4285 v4284
  let v4292 : BitVec 32 := Scalar.select v4290 v4291 v4285
  v4292
def k0_mult67 : BitVec 32 :=
  let c9_i32_1964 : BitVec 32 := 9#32
  let c16_i32_1965 : BitVec 32 := 16#32
  let v4301 : BitVec 32 := Scalar.muli c9_i32_1964 c16_i32_1965
  v4301
def k0_mult68 : BitVec 32 :=
  let c9_i32_1964 : BitVec 32 := 9#32
  let c16_i32_1965 : BitVec 32 := 16#32
  let v4301 : BitVec 32 := Scalar.muli c9_i32_1964 c16_i32_1965
  let v4302 : BitVec 32 := v4301
  let c128_i32_1981 : BitVec 32 := 128#32
  let c0_i32_1982 : BitVec 32 := 0#32
  let v4345 : BitVec 1 := Scalar.cmpi .eq c128_i32_1981 c0_i32_1982
  let c1_i32_1983 : BitVec 32 := 1#32
  let v4346 : BitVec 32 := Scalar.select v4345 c1_i32_1983 c128_i32_1981
  let v4347 : BitVec 32 := Scalar.remsi v4302 v4346
  let c0_i32_1985 : BitVec 32 := 0#32
  let v4349 : BitVec 1 := Scalar.cmpi .slt v4347 c0_i32_1985
  let c0_i32_1986 : BitVec 32 := 0#32
  let v4350 : BitVec 1 := Scalar.cmpi .slt v4346 c0_i32_1986
  let v4351 : BitVec 1 := Scalar.xori v4349 v4350
  let c0_i32_1984 : BitVec 32 := 0#32
  let v4348 : BitVec 1 := Scalar.cmpi .ne v4347 c0_i32_1984
  let v4352 : BitVec 1 := Scalar.andi v4351 v4348
  let v4353 : BitVec 32 := Scalar.addi v4347 v4346
  let v4354 : BitVec 32 := Scalar.select v4352 v4353 v4347
  v4354
def k0_mult69 : BitVec 32 :=
  let c10_i32_1989 : BitVec 32 := 10#32
  let c16_i32_1990 : BitVec 32 := 16#32
  let v4363 : BitVec 32 := Scalar.muli c10_i32_1989 c16_i32_1990
  v4363
def k0_mult70 : BitVec 32 :=
  let c10_i32_1989 : BitVec 32 := 10#32
  let c16_i32_1990 : BitVec 32 := 16#32
  let v4363 : BitVec 32 := Scalar.muli c10_i32_1989 c16_i32_1990
  let v4364 : BitVec 32 := v4363
  let c128_i32_2006 : BitVec 32 := 128#32
  let c0_i32_2007 : BitVec 32 := 0#32
  let v4407 : BitVec 1 := Scalar.cmpi .eq c128_i32_2006 c0_i32_2007
  let c1_i32_2008 : BitVec 32 := 1#32
  let v4408 : BitVec 32 := Scalar.select v4407 c1_i32_2008 c128_i32_2006
  let v4409 : BitVec 32 := Scalar.remsi v4364 v4408
  let c0_i32_2010 : BitVec 32 := 0#32
  let v4411 : BitVec 1 := Scalar.cmpi .slt v4409 c0_i32_2010
  let c0_i32_2011 : BitVec 32 := 0#32
  let v4412 : BitVec 1 := Scalar.cmpi .slt v4408 c0_i32_2011
  let v4413 : BitVec 1 := Scalar.xori v4411 v4412
  let c0_i32_2009 : BitVec 32 := 0#32
  let v4410 : BitVec 1 := Scalar.cmpi .ne v4409 c0_i32_2009
  let v4414 : BitVec 1 := Scalar.andi v4413 v4410
  let v4415 : BitVec 32 := Scalar.addi v4409 v4408
  let v4416 : BitVec 32 := Scalar.select v4414 v4415 v4409
  v4416
def k0_mult71 : BitVec 32 :=
  let c11_i32_2014 : BitVec 32 := 11#32
  let c16_i32_2015 : BitVec 32 := 16#32
  let v4425 : BitVec 32 := Scalar.muli c11_i32_2014 c16_i32_2015
  v4425
def k0_mult72 : BitVec 32 :=
  let c11_i32_2014 : BitVec 32 := 11#32
  let c16_i32_2015 : BitVec 32 := 16#32
  let v4425 : BitVec 32 := Scalar.muli c11_i32_2014 c16_i32_2015
  let v4426 : BitVec 32 := v4425
  let c128_i32_2031 : BitVec 32 := 128#32
  let c0_i32_2032 : BitVec 32 := 0#32
  let v4469 : BitVec 1 := Scalar.cmpi .eq c128_i32_2031 c0_i32_2032
  let c1_i32_2033 : BitVec 32 := 1#32
  let v4470 : BitVec 32 := Scalar.select v4469 c1_i32_2033 c128_i32_2031
  let v4471 : BitVec 32 := Scalar.remsi v4426 v4470
  let c0_i32_2035 : BitVec 32 := 0#32
  let v4473 : BitVec 1 := Scalar.cmpi .slt v4471 c0_i32_2035
  let c0_i32_2036 : BitVec 32 := 0#32
  let v4474 : BitVec 1 := Scalar.cmpi .slt v4470 c0_i32_2036
  let v4475 : BitVec 1 := Scalar.xori v4473 v4474
  let c0_i32_2034 : BitVec 32 := 0#32
  let v4472 : BitVec 1 := Scalar.cmpi .ne v4471 c0_i32_2034
  let v4476 : BitVec 1 := Scalar.andi v4475 v4472
  let v4477 : BitVec 32 := Scalar.addi v4471 v4470
  let v4478 : BitVec 32 := Scalar.select v4476 v4477 v4471
  v4478
def k0_mult73 : BitVec 32 :=
  let c12_i32_2039 : BitVec 32 := 12#32
  let c16_i32_2040 : BitVec 32 := 16#32
  let v4487 : BitVec 32 := Scalar.muli c12_i32_2039 c16_i32_2040
  v4487
def k0_mult74 : BitVec 32 :=
  let c12_i32_2039 : BitVec 32 := 12#32
  let c16_i32_2040 : BitVec 32 := 16#32
  let v4487 : BitVec 32 := Scalar.muli c12_i32_2039 c16_i32_2040
  let v4488 : BitVec 32 := v4487
  let c128_i32_2056 : BitVec 32 := 128#32
  let c0_i32_2057 : BitVec 32 := 0#32
  let v4531 : BitVec 1 := Scalar.cmpi .eq c128_i32_2056 c0_i32_2057
  let c1_i32_2058 : BitVec 32 := 1#32
  let v4532 : BitVec 32 := Scalar.select v4531 c1_i32_2058 c128_i32_2056
  let v4533 : BitVec 32 := Scalar.remsi v4488 v4532
  let c0_i32_2060 : BitVec 32 := 0#32
  let v4535 : BitVec 1 := Scalar.cmpi .slt v4533 c0_i32_2060
  let c0_i32_2061 : BitVec 32 := 0#32
  let v4536 : BitVec 1 := Scalar.cmpi .slt v4532 c0_i32_2061
  let v4537 : BitVec 1 := Scalar.xori v4535 v4536
  let c0_i32_2059 : BitVec 32 := 0#32
  let v4534 : BitVec 1 := Scalar.cmpi .ne v4533 c0_i32_2059
  let v4538 : BitVec 1 := Scalar.andi v4537 v4534
  let v4539 : BitVec 32 := Scalar.addi v4533 v4532
  let v4540 : BitVec 32 := Scalar.select v4538 v4539 v4533
  v4540
def k0_mult75 : BitVec 32 :=
  let c13_i32_2064 : BitVec 32 := 13#32
  let c16_i32_2065 : BitVec 32 := 16#32
  let v4549 : BitVec 32 := Scalar.muli c13_i32_2064 c16_i32_2065
  v4549
def k0_mult76 : BitVec 32 :=
  let c13_i32_2064 : BitVec 32 := 13#32
  let c16_i32_2065 : BitVec 32 := 16#32
  let v4549 : BitVec 32 := Scalar.muli c13_i32_2064 c16_i32_2065
  let v4550 : BitVec 32 := v4549
  let c128_i32_2081 : BitVec 32 := 128#32
  let c0_i32_2082 : BitVec 32 := 0#32
  let v4593 : BitVec 1 := Scalar.cmpi .eq c128_i32_2081 c0_i32_2082
  let c1_i32_2083 : BitVec 32 := 1#32
  let v4594 : BitVec 32 := Scalar.select v4593 c1_i32_2083 c128_i32_2081
  let v4595 : BitVec 32 := Scalar.remsi v4550 v4594
  let c0_i32_2085 : BitVec 32 := 0#32
  let v4597 : BitVec 1 := Scalar.cmpi .slt v4595 c0_i32_2085
  let c0_i32_2086 : BitVec 32 := 0#32
  let v4598 : BitVec 1 := Scalar.cmpi .slt v4594 c0_i32_2086
  let v4599 : BitVec 1 := Scalar.xori v4597 v4598
  let c0_i32_2084 : BitVec 32 := 0#32
  let v4596 : BitVec 1 := Scalar.cmpi .ne v4595 c0_i32_2084
  let v4600 : BitVec 1 := Scalar.andi v4599 v4596
  let v4601 : BitVec 32 := Scalar.addi v4595 v4594
  let v4602 : BitVec 32 := Scalar.select v4600 v4601 v4595
  v4602
def k0_mult77 : BitVec 32 :=
  let c14_i32_2089 : BitVec 32 := 14#32
  let c16_i32_2090 : BitVec 32 := 16#32
  let v4611 : BitVec 32 := Scalar.muli c14_i32_2089 c16_i32_2090
  v4611
def k0_mult78 : BitVec 32 :=
  let c14_i32_2089 : BitVec 32 := 14#32
  let c16_i32_2090 : BitVec 32 := 16#32
  let v4611 : BitVec 32 := Scalar.muli c14_i32_2089 c16_i32_2090
  let v4612 : BitVec 32 := v4611
  let c128_i32_2106 : BitVec 32 := 128#32
  let c0_i32_2107 : BitVec 32 := 0#32
  let v4655 : BitVec 1 := Scalar.cmpi .eq c128_i32_2106 c0_i32_2107
  let c1_i32_2108 : BitVec 32 := 1#32
  let v4656 : BitVec 32 := Scalar.select v4655 c1_i32_2108 c128_i32_2106
  let v4657 : BitVec 32 := Scalar.remsi v4612 v4656
  let c0_i32_2110 : BitVec 32 := 0#32
  let v4659 : BitVec 1 := Scalar.cmpi .slt v4657 c0_i32_2110
  let c0_i32_2111 : BitVec 32 := 0#32
  let v4660 : BitVec 1 := Scalar.cmpi .slt v4656 c0_i32_2111
  let v4661 : BitVec 1 := Scalar.xori v4659 v4660
  let c0_i32_2109 : BitVec 32 := 0#32
  let v4658 : BitVec 1 := Scalar.cmpi .ne v4657 c0_i32_2109
  let v4662 : BitVec 1 := Scalar.andi v4661 v4658
  let v4663 : BitVec 32 := Scalar.addi v4657 v4656
  let v4664 : BitVec 32 := Scalar.select v4662 v4663 v4657
  v4664
def k0_mult79 : BitVec 32 :=
  let c15_i32_2114 : BitVec 32 := 15#32
  let c16_i32_2115 : BitVec 32 := 16#32
  let v4673 : BitVec 32 := Scalar.muli c15_i32_2114 c16_i32_2115
  v4673
def k0_mult80 : BitVec 32 :=
  let c15_i32_2114 : BitVec 32 := 15#32
  let c16_i32_2115 : BitVec 32 := 16#32
  let v4673 : BitVec 32 := Scalar.muli c15_i32_2114 c16_i32_2115
  let v4674 : BitVec 32 := v4673
  let c128_i32_2131 : BitVec 32 := 128#32
  let c0_i32_2132 : BitVec 32 := 0#32
  let v4717 : BitVec 1 := Scalar.cmpi .eq c128_i32_2131 c0_i32_2132
  let c1_i32_2133 : BitVec 32 := 1#32
  let v4718 : BitVec 32 := Scalar.select v4717 c1_i32_2133 c128_i32_2131
  let v4719 : BitVec 32 := Scalar.remsi v4674 v4718
  let c0_i32_2135 : BitVec 32 := 0#32
  let v4721 : BitVec 1 := Scalar.cmpi .slt v4719 c0_i32_2135
  let c0_i32_2136 : BitVec 32 := 0#32
  let v4722 : BitVec 1 := Scalar.cmpi .slt v4718 c0_i32_2136
  let v4723 : BitVec 1 := Scalar.xori v4721 v4722
  let c0_i32_2134 : BitVec 32 := 0#32
  let v4720 : BitVec 1 := Scalar.cmpi .ne v4719 c0_i32_2134
  let v4724 : BitVec 1 := Scalar.andi v4723 v4720
  let v4725 : BitVec 32 := Scalar.addi v4719 v4718
  let v4726 : BitVec 32 := Scalar.select v4724 v4725 v4719
  v4726
def k0_mult81 : BitVec 32 :=
  let c0_i32_2412 : BitVec 32 := 0#32
  let c16_i32_2413 : BitVec 32 := 16#32
  let v4991 : BitVec 32 := Scalar.muli c0_i32_2412 c16_i32_2413
  v4991
def k0_mult82 : BitVec 32 :=
  let c1_i32_2490 : BitVec 32 := 1#32
  let c16_i32_2491 : BitVec 32 := 16#32
  let v5160 : BitVec 32 := Scalar.muli c1_i32_2490 c16_i32_2491
  v5160
def k0_mult83 : BitVec 32 :=
  let c2_i32_2568 : BitVec 32 := 2#32
  let c16_i32_2569 : BitVec 32 := 16#32
  let v5329 : BitVec 32 := Scalar.muli c2_i32_2568 c16_i32_2569
  v5329
def k0_mult84 : BitVec 32 :=
  let c3_i32_2646 : BitVec 32 := 3#32
  let c16_i32_2647 : BitVec 32 := 16#32
  let v5498 : BitVec 32 := Scalar.muli c3_i32_2646 c16_i32_2647
  v5498
def k0_mult85 : BitVec 32 :=
  let c4_i32_2724 : BitVec 32 := 4#32
  let c16_i32_2725 : BitVec 32 := 16#32
  let v5667 : BitVec 32 := Scalar.muli c4_i32_2724 c16_i32_2725
  v5667
def k0_mult86 : BitVec 32 :=
  let c5_i32_2802 : BitVec 32 := 5#32
  let c16_i32_2803 : BitVec 32 := 16#32
  let v5836 : BitVec 32 := Scalar.muli c5_i32_2802 c16_i32_2803
  v5836
def k0_mult87 : BitVec 32 :=
  let c6_i32_2880 : BitVec 32 := 6#32
  let c16_i32_2881 : BitVec 32 := 16#32
  let v6005 : BitVec 32 := Scalar.muli c6_i32_2880 c16_i32_2881
  v6005
def k0_mult88 : BitVec 32 :=
  let c7_i32_2958 : BitVec 32 := 7#32
  let c16_i32_2959 : BitVec 32 := 16#32
  let v6174 : BitVec 32 := Scalar.muli c7_i32_2958 c16_i32_2959
  v6174
def k0_mult89 : BitVec 32 :=
  let c8_i32_3036 : BitVec 32 := 8#32
  let c16_i32_3037 : BitVec 32 := 16#32
  let v6343 : BitVec 32 := Scalar.muli c8_i32_3036 c16_i32_3037
  v6343
def k0_mult90 : BitVec 32 :=
  let c9_i32_3114 : BitVec 32 := 9#32
  let c16_i32_3115 : BitVec 32 := 16#32
  let v6512 : BitVec 32 := Scalar.muli c9_i32_3114 c16_i32_3115
  v6512
def k0_mult91 : BitVec 32 :=
  let c10_i32_3192 : BitVec 32 := 10#32
  let c16_i32_3193 : BitVec 32 := 16#32
  let v6681 : BitVec 32 := Scalar.muli c10_i32_3192 c16_i32_3193
  v6681
def k0_mult92 : BitVec 32 :=
  let c11_i32_3270 : BitVec 32 := 11#32
  let c16_i32_3271 : BitVec 32 := 16#32
  let v6850 : BitVec 32 := Scalar.muli c11_i32_3270 c16_i32_3271
  v6850
def k0_mult93 : BitVec 32 :=
  let c12_i32_3348 : BitVec 32 := 12#32
  let c16_i32_3349 : BitVec 32 := 16#32
  let v7019 : BitVec 32 := Scalar.muli c12_i32_3348 c16_i32_3349
  v7019
def k0_mult94 : BitVec 32 :=
  let c13_i32_3426 : BitVec 32 := 13#32
  let c16_i32_3427 : BitVec 32 := 16#32
  let v7188 : BitVec 32 := Scalar.muli c13_i32_3426 c16_i32_3427
  v7188
def k0_mult95 : BitVec 32 :=
  let c14_i32_3504 : BitVec 32 := 14#32
  let c16_i32_3505 : BitVec 32 := 16#32
  let v7357 : BitVec 32 := Scalar.muli c14_i32_3504 c16_i32_3505
  v7357
def k0_mult96 : BitVec 32 :=
  let c15_i32_3582 : BitVec 32 := 15#32
  let c16_i32_3583 : BitVec 32 := 16#32
  let v7526 : BitVec 32 := Scalar.muli c15_i32_3582 c16_i32_3583
  v7526
def k0_cond2 (i : grid0.Coords) : BitVec 1 :=
  let arg0 : BitVec 32 := BitVec.ofNat 32 (i 0).val
  let c15_i32_3661 : BitVec 32 := 15#32
  let v7695 : BitVec 1 := Scalar.cmpi .eq arg0 c15_i32_3661
  let v7696 : BitVec 32 := Scalar.extui v7695
  let c0_i32_3662 : BitVec 32 := 0#32
  let v7697 : BitVec 1 := Scalar.cmpi .ne v7696 c0_i32_3662
  v7697

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference2Ideal.lean ====
abbrev S4096x1024 : Shape := ⟨2, ![4096, 1024]⟩
abbrev S4096x6144 : Shape := ⟨2, ![4096, 6144]⟩
abbrev S1024 : Shape := ⟨1, ![1024]⟩
abbrev S3072 : Shape := ⟨1, ![3072]⟩
abbrev S8x128x128 : Shape := ⟨3, ![8, 128, 128]⟩
abbrev S8x128 : Shape := ⟨2, ![8, 128]⟩
abbrev S2048x1024 : Shape := ⟨2, ![2048, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S4096x2048 : Shape := ⟨2, ![4096, 2048]⟩
abbrev S8x1024 : Shape := ⟨2, ![8, 1024]⟩
abbrev S1x4096x1024 : Shape := ⟨3, ![1, 4096, 1024]⟩
abbrev S4x4096x1024 : Shape := ⟨3, ![4, 4096, 1024]⟩
abbrev S4096x8x128 : Shape := ⟨3, ![4096, 8, 128]⟩
abbrev S8x4096x128 : Shape := ⟨3, ![8, 4096, 128]⟩
abbrev S128x128 : Shape := ⟨2, ![128, 128]⟩

abbrev nBuf : Space → Nat
  | .hbm => 379
  | .vmem => 0
  | .smem => 0
  | _ => 0

abbrev hbmTy0_0 (i : Nat) : BufTy := match i % 128 with
  | 0 => ⟨S4096x1024, .f32⟩
  | 1 => ⟨S4096x6144, .f32⟩
  | 2 => ⟨S4096x1024, .f32⟩
  | 3 => ⟨S4096x1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S3072, .f32⟩
  | 10 => ⟨S8x128x128, .f32⟩
  | 11 => ⟨S8x128, .f32⟩
  | 12 => ⟨S2048x1024, .f32⟩
  | 13 => ⟨S1024, .f32⟩
  | 14 => ⟨S1024, .f32⟩
  | 15 => ⟨S1024, .f32⟩
  | 16 => ⟨S4096x4096, .f32⟩
  | 17 => ⟨S4096x1024, .f32⟩
  | 18 => ⟨S4096x1024, .f32⟩
  | 19 => ⟨S4096x1024, .f32⟩
  | 20 => ⟨S4096x1024, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S4096x1024, .f32⟩
  | 40 => ⟨S4096x1024, .f32⟩
  | 41 => ⟨S_, .f32⟩
  | 42 => ⟨S4096x1, .f32⟩
  | 43 => ⟨S4096x1, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1024, .f32⟩
  | 50 => ⟨S4096x1024, .f32⟩
  | 51 => ⟨S1x1024, .f32⟩
  | 52 => ⟨S4096x1024, .f32⟩
  | 53 => ⟨S4096x1024, .f32⟩
  | 54 => ⟨S1x1024, .f32⟩
  | 55 => ⟨S4096x1024, .f32⟩
  | 56 => ⟨S4096x1024, .f32⟩
  | 57 => ⟨S4096x1024, .f32⟩
  | 58 => ⟨S4096x1024, .f32⟩
  | 59 => ⟨S_, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S_, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S_, .f32⟩
  | 85 => ⟨S4096, .f32⟩
  | 86 => ⟨S4096x1, .f32⟩
  | 87 => ⟨S_, .f32⟩
  | 88 => ⟨S4096x1, .f32⟩
  | 89 => ⟨S4096x1, .f32⟩
  | 90 => ⟨S4096x1024, .f32⟩
  | 91 => ⟨S4096x1024, .f32⟩
  | 92 => ⟨S4096x1024, .f32⟩
  | 93 => ⟨S_, .f32⟩
  | 94 => ⟨S4096x1024, .f32⟩
  | 95 => ⟨S4096x1024, .f32⟩
  | 96 => ⟨S_, .f32⟩
  | 97 => ⟨S4096, .f32⟩
  | 98 => ⟨S4096x1, .f32⟩
  | 99 => ⟨S_, .f32⟩
  | 100 => ⟨S4096x1, .f32⟩
  | 101 => ⟨S4096x1, .f32⟩
  | 102 => ⟨S4096x1024, .f32⟩
  | 103 => ⟨S4096x1024, .f32⟩
  | 104 => ⟨S_, .f32⟩
  | 105 => ⟨S4096x1, .f32⟩
  | 106 => ⟨S4096x1, .f32⟩
  | 107 => ⟨S4096x1, .f32⟩
  | 108 => ⟨S4096x1, .f32⟩
  | 109 => ⟨S_, .f32⟩
  | 110 => ⟨S4096x1, .f32⟩
  | 111 => ⟨S4096x1, .f32⟩
  | 112 => ⟨S4096x1024, .f32⟩
  | 113 => ⟨S4096x1024, .f32⟩
  | 114 => ⟨S1x1024, .f32⟩
  | 115 => ⟨S4096x1024, .f32⟩
  | 116 => ⟨S4096x1024, .f32⟩
  | 117 => ⟨S1x1024, .f32⟩
  | 118 => ⟨S4096x1024, .f32⟩
  | 119 => ⟨S4096x1024, .f32⟩
  | 120 => ⟨S32x128x8x128, .f32⟩
  | 121 => ⟨S8x32x128x128, .f32⟩
  | 122 => ⟨S32x128x8x128, .f32⟩
  | 123 => ⟨S128x8, .f32⟩
  | 124 => ⟨S1x128x8x1, .f32⟩
  | 125 => ⟨S32x128x8x128, .f32⟩
  | 126 => ⟨S32x128x8x128, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S_, .f32⟩
  | 4 => ⟨S4096x1024, .f32⟩
  | 5 => ⟨S4096x1024, .f32⟩
  | 6 => ⟨S_, .f32⟩
  | 7 => ⟨S4096x1024, .f32⟩
  | 8 => ⟨S4096x1024, .f32⟩
  | 9 => ⟨S_, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x2048, .f32⟩
  | 16 => ⟨S4096x1024, .f32⟩
  | 17 => ⟨S1x1024, .f32⟩
  | 18 => ⟨S4096x1024, .f32⟩
  | 19 => ⟨S4096x1024, .f32⟩
  | 20 => ⟨S4096x1024, .f32⟩
  | 21 => ⟨S4096x1024, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S_, .f32⟩
  | 29 => ⟨S4096x1, .f32⟩
  | 30 => ⟨S4096x1, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096x1024, .f32⟩
  | 37 => ⟨S4096x1024, .f32⟩
  | 38 => ⟨S1x1024, .f32⟩
  | 39 => ⟨S4096x1024, .f32⟩
  | 40 => ⟨S4096x1024, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S_, .f32⟩
  | 47 => ⟨S4096, .f32⟩
  | 48 => ⟨S_, .f32⟩
  | 49 => ⟨S4096, .f32⟩
  | 50 => ⟨S4096, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S4096, .f32⟩
  | 59 => ⟨S_, .f32⟩
  | 60 => ⟨S4096, .f32⟩
  | 61 => ⟨S4096, .f32⟩
  | 62 => ⟨S4096x1024, .f32⟩
  | 63 => ⟨S4096x1024, .f32⟩
  | 64 => ⟨S4096x1024, .f32⟩
  | 65 => ⟨S_, .f32⟩
  | 66 => ⟨S1024, .f32⟩
  | 67 => ⟨S1x1024, .f32⟩
  | 68 => ⟨S4096x1024, .f32⟩
  | 69 => ⟨S4096x1024, .f32⟩
  | 70 => ⟨S_, .f32⟩
  | 71 => ⟨S1024, .f32⟩
  | 72 => ⟨S4096x1024, .f32⟩
  | 73 => ⟨S_, .f32⟩
  | 74 => ⟨S4096, .f32⟩
  | 75 => ⟨S4096x1, .f32⟩
  | 76 => ⟨S4096x1024, .f32⟩
  | 77 => ⟨S4096x1024, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S_, .f32⟩
  | 93 => ⟨S1024, .f32⟩
  | 94 => ⟨S1x1024, .f32⟩
  | 95 => ⟨S_, .f32⟩
  | 96 => ⟨S1024, .f32⟩
  | 97 => ⟨S4096x2048, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S32x128x8x128, .f32⟩
  | 109 => ⟨S_, .f32⟩
  | 110 => ⟨S128x8, .f32⟩
  | 111 => ⟨S1x128x8x1, .f32⟩
  | 112 => ⟨S_, .f32⟩
  | 113 => ⟨S128x8, .f32⟩
  | 114 => ⟨S8x128, .f32⟩
  | 115 => ⟨S8x32x128x128, .f32⟩
  | 116 => ⟨S8x128x128, .f32⟩
  | 117 => ⟨S8x32x128x128, .f32⟩
  | 118 => ⟨S32x128x8x128, .f32⟩
  | 119 => ⟨S4096x1024, .f32⟩
  | 120 => ⟨S_, .f32⟩
  | 121 => ⟨S1024, .f32⟩
  | 122 => ⟨S1x1024, .f32⟩
  | 123 => ⟨S_, .f32⟩
  | 124 => ⟨S1024, .f32⟩
  | 125 => ⟨S4096x1024, .f32⟩
  | 126 => ⟨S_, .f32⟩
  | 127 => ⟨S1024, .f32⟩
  | _ => ⟨S4096x1024, .f32⟩

abbrev hbmTy0_2 (i : Nat) : BufTy := match i % 128 with
  | 0 => ⟨S1x1024, .f32⟩
  | 1 => ⟨S4096x1024, .f32⟩
  | 2 => ⟨S4096x1024, .f32⟩
  | 3 => ⟨S_, .f32⟩
  | 4 => ⟨S1024, .f32⟩
  | 5 => ⟨S4096x1024, .f32⟩
  | 6 => ⟨S_, .f32⟩
  | 7 => ⟨S4096, .f32⟩
  | 8 => ⟨S4096x1, .f32⟩
  | 9 => ⟨S4096x1024, .f32⟩
  | 10 => ⟨S4096x1024, .f32⟩
  | 11 => ⟨S4096x1, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096, .f32⟩
  | 21 => ⟨S4096x1024, .f32⟩
  | 22 => ⟨S4096x1024, .f32⟩
  | 23 => ⟨S4096x1024, .f32⟩
  | 24 => ⟨S_, .f32⟩
  | 25 => ⟨S4096, .f32⟩
  | 26 => ⟨S4096x1, .f32⟩
  | 27 => ⟨S4096x1024, .f32⟩
  | 28 => ⟨S4096x1, .f32⟩
  | 29 => ⟨S_, .f32⟩
  | 30 => ⟨S4096x1, .f32⟩
  | 31 => ⟨S4096x1, .f32⟩
  | 32 => ⟨S_, .f32⟩
  | 33 => ⟨S4096, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S_, .f32⟩
  | 47 => ⟨S1024, .f32⟩
  | 48 => ⟨S1x1024, .f32⟩
  | 49 => ⟨S_, .f32⟩
  | 50 => ⟨S1024, .f32⟩
  | 51 => ⟨S4096x1024, .f32⟩
  | 52 => ⟨S_, .f32⟩
  | 53 => ⟨S1024, .f32⟩
  | 54 => ⟨S1x1024, .f32⟩
  | 55 => ⟨S4096x1024, .f32⟩
  | 56 => ⟨S4096x1024, .f32⟩
  | 57 => ⟨S_, .f32⟩
  | 58 => ⟨S1024, .f32⟩
  | 59 => ⟨S4096x1024, .f32⟩
  | 60 => ⟨S_, .f32⟩
  | 61 => ⟨S4096, .f32⟩
  | 62 => ⟨S4096x1, .f32⟩
  | 63 => ⟨S4096x1024, .f32⟩
  | 64 => ⟨S4096x1024, .f32⟩
  | 65 => ⟨S4096x1, .f32⟩
  | 66 => ⟨S4096x1024, .f32⟩
  | 67 => ⟨S_, .f32⟩
  | 68 => ⟨S4096, .f32⟩
  | 69 => ⟨S4096x1, .f32⟩
  | 70 => ⟨S_, .f32⟩
  | 71 => ⟨S4096x1, .f32⟩
  | 72 => ⟨S4096x1, .f32⟩
  | 73 => ⟨S_, .f32⟩
  | 74 => ⟨S4096, .f32⟩
  | 75 => ⟨S4096x1024, .f32⟩
  | 76 => ⟨S4096x1024, .f32⟩
  | 77 => ⟨S4096x1024, .f32⟩
  | 78 => ⟨S_, .f32⟩
  | 79 => ⟨S4096, .f32⟩
  | 80 => ⟨S4096x1, .f32⟩
  | 81 => ⟨S4096x1024, .f32⟩
  | 82 => ⟨S4096x1, .f32⟩
  | 83 => ⟨S_, .f32⟩
  | 84 => ⟨S4096x1, .f32⟩
  | 85 => ⟨S4096x1, .f32⟩
  | 86 => ⟨S_, .f32⟩
  | 87 => ⟨S4096, .f32⟩
  | 88 => ⟨S4096x1024, .f32⟩
  | 89 => ⟨S4096x1024, .f32⟩
  | 90 => ⟨S_, .f32⟩
  | 91 => ⟨S1024, .f32⟩
  | 92 => ⟨S_, .f32⟩
  | 93 => ⟨S1024, .f32⟩
  | 94 => ⟨S1024, .f32⟩
  | 95 => ⟨S_, .f32⟩
  | 96 => ⟨S1024, .f32⟩
  | 97 => ⟨S1024, .f32⟩
  | 98 => ⟨S_, .f32⟩
  | 99 => ⟨S1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S1x1024, .f32⟩
  | 107 => ⟨S1x1024, .f32⟩
  | 108 => ⟨S8x1024, .f32⟩
  | 109 => ⟨S1x4096x1024, .f32⟩
  | 110 => ⟨S1x4096x1024, .f32⟩
  | 111 => ⟨S1x4096x1024, .f32⟩
  | 112 => ⟨S1x4096x1024, .f32⟩
  | 113 => ⟨S4x4096x1024, .f32⟩
  | 114 => ⟨S4x4096x1024, .bf16⟩
  | 115 => ⟨S4096x8x128, .f32⟩
  | 116 => ⟨S8x4096x128, .f32⟩
  | 117 => ⟨S4096x2048, .bf16⟩
  | 118 => ⟨S4096x1024, .bf16⟩
  | 119 => ⟨S128x8, .f32⟩
  | 120 => ⟨S_, .i32⟩
  | 121 => ⟨S_, .f32⟩
  | 122 => ⟨S128x128, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v37_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v37_1 : Ref sig .tc := ⟨.hbm, 68, rfl⟩
abbrev main_v37_0 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_v38_2 : Ref sig .tc := ⟨.hbm, 77, rfl⟩
abbrev main_call1_cst_1 : Ref sig .tc := ⟨.hbm, 78, rfl⟩
abbrev main_call1_v6 : Ref sig .tc := ⟨.hbm, 79, rfl⟩
abbrev main_call1_v7 : Ref sig .tc := ⟨.hbm, 80, rfl⟩
abbrev main_v38_1 : Ref sig .tc := ⟨.hbm, 81, rfl⟩
abbrev main_v38_0 : Ref sig .tc := ⟨.hbm, 82, rfl⟩
abbrev main_v39 : Ref sig .tc := ⟨.hbm, 83, rfl⟩
abbrev main_cst_6 : Ref sig .tc := ⟨.hbm, 84, rfl⟩
abbrev main_v40 : Ref sig .tc := ⟨.hbm, 85, rfl⟩
abbrev main_v41 : Ref sig .tc := ⟨.hbm, 86, rfl⟩
abbrev main_cst_7 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_8 : Ref sig .tc := ⟨.hbm, 93, rfl⟩
abbrev main_v47 : Ref sig .tc := ⟨.hbm, 94, rfl⟩
abbrev main_v48 : Ref sig .tc := ⟨.hbm, 95, rfl⟩
abbrev main_cst_9 : Ref sig .tc := ⟨.hbm, 96, rfl⟩
abbrev main_v49 : Ref sig .tc := ⟨.hbm, 97, rfl⟩
abbrev main_v50 : Ref sig .tc := ⟨.hbm, 98, rfl⟩
abbrev main_cst_10 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_cst_11 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_12 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_call2_v0 : Ref sig .tc := ⟨.hbm, 129, rfl⟩
abbrev main_call2_v1 : Ref sig .tc := ⟨.hbm, 130, rfl⟩
abbrev main_call2_cst : Ref sig .tc := ⟨.hbm, 131, rfl⟩
abbrev main_call2_v2 : Ref sig .tc := ⟨.hbm, 132, rfl⟩
abbrev main_call2_v3 : Ref sig .tc := ⟨.hbm, 133, rfl⟩
abbrev main_call2_cst_0 : Ref sig .tc := ⟨.hbm, 134, rfl⟩
abbrev main_call2_v4 : Ref sig .tc := ⟨.hbm, 135, rfl⟩
abbrev main_v78_2 : Ref sig .tc := ⟨.hbm, 136, rfl⟩
abbrev main_call2_cst_1 : Ref sig .tc := ⟨.hbm, 137, rfl⟩
abbrev main_call2_v6 : Ref sig .tc := ⟨.hbm, 138, rfl⟩
abbrev main_call2_v7 : Ref sig .tc := ⟨.hbm, 139, rfl⟩
abbrev main_v78_1 : Ref sig .tc := ⟨.hbm, 140, rfl⟩
abbrev main_v78_0 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_cst_13 : Ref sig .tc := ⟨.hbm, 150, rfl⟩
abbrev main_v87 : Ref sig .tc := ⟨.hbm, 151, rfl⟩
abbrev main_v88 : Ref sig .tc := ⟨.hbm, 152, rfl⟩
abbrev main_cst_14 : Ref sig .tc := ⟨.hbm, 153, rfl⟩
abbrev main_v89 : Ref sig .tc := ⟨.hbm, 154, rfl⟩
abbrev main_v90 : Ref sig .tc := ⟨.hbm, 155, rfl⟩
abbrev main_cst_15 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_cst_16 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_17 : Ref sig .tc := ⟨.hbm, 171, rfl⟩
abbrev main_v104 : Ref sig .tc := ⟨.hbm, 172, rfl⟩
abbrev main_v105 : Ref sig .tc := ⟨.hbm, 173, rfl⟩
abbrev main_cst_18 : Ref sig .tc := ⟨.hbm, 174, rfl⟩
abbrev main_v106 : Ref sig .tc := ⟨.hbm, 175, rfl⟩
abbrev main_cst_19 : Ref sig .tc := ⟨.hbm, 176, rfl⟩
abbrev main_v107 : Ref sig .tc := ⟨.hbm, 177, rfl⟩
abbrev main_v108 : Ref sig .tc := ⟨.hbm, 178, rfl⟩
abbrev main_cst_20 : Ref sig .tc := ⟨.hbm, 179, rfl⟩
abbrev main_v109 : Ref sig .tc := ⟨.hbm, 180, rfl⟩
abbrev main_cst_21 : Ref sig .tc := ⟨.hbm, 181, rfl⟩
abbrev main_v110 : Ref sig .tc := ⟨.hbm, 182, rfl⟩
abbrev main_cst_22 : Ref sig .tc := ⟨.hbm, 183, rfl⟩
abbrev main_cst_23 : Ref sig .tc := ⟨.hbm, 184, rfl⟩
abbrev main_v111 : Ref sig .tc := ⟨.hbm, 185, rfl⟩
abbrev main_v112 : Ref sig .tc := ⟨.hbm, 186, rfl⟩
abbrev main_cst_24 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_cst_25 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_cst_26 : Ref sig .tc := ⟨.hbm, 198, rfl⟩
abbrev main_v122 : Ref sig .tc := ⟨.hbm, 199, rfl⟩
abbrev main_v123 : Ref sig .tc := ⟨.hbm, 200, rfl⟩
abbrev main_cst_27 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_cst_28 : Ref sig .tc := ⟨.hbm, 207, rfl⟩
abbrev main_v129 : Ref sig .tc := ⟨.hbm, 208, rfl⟩
abbrev main_v130 : Ref sig .tc := ⟨.hbm, 209, rfl⟩
abbrev main_cst_29 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_cst_30 : Ref sig .tc := ⟨.hbm, 220, rfl⟩
abbrev main_v140 : Ref sig .tc := ⟨.hbm, 221, rfl⟩
abbrev main_v141 : Ref sig .tc := ⟨.hbm, 222, rfl⟩
abbrev main_cst_31 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_call3_v0 : Ref sig .tc := ⟨.hbm, 230, rfl⟩
abbrev main_call3_v1 : Ref sig .tc := ⟨.hbm, 231, rfl⟩
abbrev main_call3_v2 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_32 : Ref sig .tc := ⟨.hbm, 237, rfl⟩
abbrev main_v152 : Ref sig .tc := ⟨.hbm, 238, rfl⟩
abbrev main_v153 : Ref sig .tc := ⟨.hbm, 239, rfl⟩
abbrev main_cst_33 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_cst_34 : Ref sig .tc := ⟨.hbm, 248, rfl⟩
abbrev main_v161 : Ref sig .tc := ⟨.hbm, 249, rfl⟩
abbrev main_v162 : Ref sig .tc := ⟨.hbm, 250, rfl⟩
abbrev main_cst_35 : Ref sig .tc := ⟨.hbm, 251, rfl⟩
abbrev main_v163 : Ref sig .tc := ⟨.hbm, 252, rfl⟩
abbrev main_v164 : Ref sig .tc := ⟨.hbm, 253, rfl⟩
abbrev main_cst_36 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_cst_37 : Ref sig .tc := ⟨.hbm, 259, rfl⟩
abbrev main_v169 : Ref sig .tc := ⟨.hbm, 260, rfl⟩
abbrev main_v170 : Ref sig .tc := ⟨.hbm, 261, rfl⟩
abbrev main_cst_38 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_cst_39 : Ref sig .tc := ⟨.hbm, 269, rfl⟩
abbrev main_v177 : Ref sig .tc := ⟨.hbm, 270, rfl⟩
abbrev main_v178 : Ref sig .tc := ⟨.hbm, 271, rfl⟩
abbrev main_cst_40 : Ref sig .tc := ⟨.hbm, 272, rfl⟩
abbrev main_v179 : Ref sig .tc := ⟨.hbm, 273, rfl⟩
abbrev main_v180 : Ref sig .tc := ⟨.hbm, 274, rfl⟩
abbrev main_cst_41 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_cst_42 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_cst_43 : Ref sig .tc := ⟨.hbm, 285, rfl⟩
abbrev main_v189 : Ref sig .tc := ⟨.hbm, 286, rfl⟩
abbrev main_v190 : Ref sig .tc := ⟨.hbm, 287, rfl⟩
abbrev main_cst_44 : Ref sig .tc := ⟨.hbm, 288, rfl⟩
abbrev main_v191 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_call4_v0 : Ref sig .tc := ⟨.hbm, 294, rfl⟩
abbrev main_call4_v1 : Ref sig .tc := ⟨.hbm, 295, rfl⟩
abbrev main_call4_v2 : Ref sig .tc := ⟨.hbm, 296, rfl⟩
abbrev main_v196 : Ref sig .tc := ⟨.hbm, 297, rfl⟩
abbrev main_call5_v0 : Ref sig .tc := ⟨.hbm, 298, rfl⟩
abbrev main_call5_v1 : Ref sig .tc := ⟨.hbm, 299, rfl⟩
abbrev main_call5_v2 : Ref sig .tc := ⟨.hbm, 300, rfl⟩
abbrev main_v197 : Ref sig .tc := ⟨.hbm, 301, rfl⟩
abbrev main_cst_45 : Ref sig .tc := ⟨.hbm, 302, rfl⟩
abbrev main_v198 : Ref sig .tc := ⟨.hbm, 303, rfl⟩
abbrev main_v199 : Ref sig .tc := ⟨.hbm, 304, rfl⟩
abbrev main_cst_46 : Ref sig .tc := ⟨.hbm, 305, rfl⟩
abbrev main_v200 : Ref sig .tc := ⟨.hbm, 306, rfl⟩
abbrev main_v201 : Ref sig .tc := ⟨.hbm, 307, rfl⟩
abbrev main_cst_47 : Ref sig .tc := ⟨.hbm, 308, rfl⟩
abbrev main_v202 : Ref sig .tc := ⟨.hbm, 309, rfl⟩
abbrev main_v203 : Ref sig .tc := ⟨.hbm, 310, rfl⟩
abbrev main_v204 : Ref sig .tc := ⟨.hbm, 311, rfl⟩
abbrev main_v205 : Ref sig .tc := ⟨.hbm, 312, rfl⟩
abbrev main_cst_48 : Ref sig .tc := ⟨.hbm, 313, rfl⟩
abbrev main_v206 : Ref sig .tc := ⟨.hbm, 314, rfl⟩
abbrev main_v207 : Ref sig .tc := ⟨.hbm, 315, rfl⟩
abbrev main_cst_49 : Ref sig .tc := ⟨.hbm, 316, rfl⟩
abbrev main_v208 : Ref sig .tc := ⟨.hbm, 317, rfl⟩
abbrev main_v209 : Ref sig .tc := ⟨.hbm, 318, rfl⟩
abbrev main_v210 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_cst_50 : Ref sig .tc := ⟨.hbm, 323, rfl⟩
abbrev main_v214 : Ref sig .tc := ⟨.hbm, 324, rfl⟩
abbrev main_v215 : Ref sig .tc := ⟨.hbm, 325, rfl⟩
abbrev main_cst_51 : Ref sig .tc := ⟨.hbm, 326, rfl⟩
abbrev main_v216 : Ref sig .tc := ⟨.hbm, 327, rfl⟩
abbrev main_v217 : Ref sig .tc := ⟨.hbm, 328, rfl⟩
abbrev main_cst_52 : Ref sig .tc := ⟨.hbm, 329, rfl⟩
abbrev main_v218 : Ref sig .tc := ⟨.hbm, 330, rfl⟩
abbrev main_v219 : Ref sig .tc := ⟨.hbm, 331, rfl⟩
abbrev main_v220 : Ref sig .tc := ⟨.hbm, 332, rfl⟩
abbrev main_v221 : Ref sig .tc := ⟨.hbm, 333, rfl⟩
abbrev main_cst_53 : Ref sig .tc := ⟨.hbm, 334, rfl⟩
abbrev main_v222 : Ref sig .tc := ⟨.hbm, 335, rfl⟩
abbrev main_v223 : Ref sig .tc := ⟨.hbm, 336, rfl⟩
abbrev main_v224 : Ref sig .tc := ⟨.hbm, 337, rfl⟩
abbrev main_v225 : Ref sig .tc := ⟨.hbm, 338, rfl⟩
abbrev main_cst_54 : Ref sig .tc := ⟨.hbm, 339, rfl⟩
abbrev main_v226 : Ref sig .tc := ⟨.hbm, 340, rfl⟩
abbrev main_v227 : Ref sig .tc := ⟨.hbm, 341, rfl⟩
abbrev main_cst_55 : Ref sig .tc := ⟨.hbm, 342, rfl⟩
abbrev main_v228 : Ref sig .tc := ⟨.hbm, 343, rfl⟩
abbrev main_v229 : Ref sig .tc := ⟨.hbm, 344, rfl⟩
abbrev main_v230 : Ref sig .tc := ⟨.hbm, 345, rfl⟩
abbrev main_cst_56 : Ref sig .tc := ⟨.hbm, 346, rfl⟩
abbrev main_v231 : Ref sig .tc := ⟨.hbm, 347, rfl⟩
abbrev main_cst_57 : Ref sig .tc := ⟨.hbm, 348, rfl⟩
abbrev main_v232 : Ref sig .tc := ⟨.hbm, 349, rfl⟩
abbrev main_v233 : Ref sig .tc := ⟨.hbm, 350, rfl⟩
abbrev main_cst_58 : Ref sig .tc := ⟨.hbm, 351, rfl⟩
abbrev main_v234 : Ref sig .tc := ⟨.hbm, 352, rfl⟩
abbrev main_v235 : Ref sig .tc := ⟨.hbm, 353, rfl⟩
abbrev main_cst_59 : Ref sig .tc := ⟨.hbm, 354, rfl⟩
abbrev main_v236 : Ref sig .tc := ⟨.hbm, 355, rfl⟩
abbrev main_v237 : Ref sig .tc := ⟨.hbm, 356, rfl⟩
abbrev main_v238 : Ref sig .tc := ⟨.hbm, 357, rfl⟩
abbrev main_v239 : Ref sig .tc := ⟨.hbm, 358, rfl⟩
abbrev main_v240 : Ref sig .tc := ⟨.hbm, 359, rfl⟩
abbrev main_v241 : Ref sig .tc := ⟨.hbm, 360, rfl⟩
abbrev main_v242 : Ref sig .tc := ⟨.hbm, 361, rfl⟩
abbrev main_v243 : Ref sig .tc := ⟨.hbm, 362, rfl⟩
abbrev main_v244 : Ref sig .tc := ⟨.hbm, 363, rfl⟩
abbrev main_v245 : Ref sig .tc := ⟨.hbm, 364, rfl⟩
abbrev main_v246 : Ref sig .tc := ⟨.hbm, 365, rfl⟩
abbrev main_v247 : Ref sig .tc := ⟨.hbm, 366, rfl⟩
abbrev main_v248 : Ref sig .tc := ⟨.hbm, 367, rfl⟩
abbrev main_v249 : Ref sig .tc := ⟨.hbm, 368, rfl⟩
abbrev main_v250 : Ref sig .tc := ⟨.hbm, 369, rfl⟩
abbrev main_v251 : Ref sig .tc := ⟨.hbm, 370, rfl⟩
abbrev main_v252 : Ref sig .tc := ⟨.hbm, 371, rfl⟩
abbrev main_v253 : Ref sig .tc := ⟨.hbm, 372, rfl⟩
abbrev main_v254 : Ref sig .tc := ⟨.hbm, 373, rfl⟩
abbrev main_v255 : Ref sig .tc := ⟨.hbm, 374, rfl⟩
abbrev main_v256 : Ref sig .tc := ⟨.hbm, 375, rfl⟩
abbrev main_c : Ref sig .tc := ⟨.hbm, 376, rfl⟩
abbrev main_call6_v0 : Ref sig .tc := ⟨.hbm, 377, rfl⟩
abbrev main_v257 : Ref sig .tc := ⟨.hbm, 378, rfl⟩

abbrev nD : Nat := 1
abbrev τ : Topo := Topo.v7x

variable {F : FTy → Type} [FloatOps F]
-- ==== Kernel3.lean ====
abbrev S4096x1024 : Shape := ⟨2, ![4096, 1024]⟩
abbrev S31x1024 : Shape := ⟨2, ![31, 1024]⟩
abbrev S1024 : Shape := ⟨1, ![1024]⟩
abbrev S_ : Shape := ⟨0, ![]⟩
abbrev S32x1024 : Shape := ⟨2, ![32, 1024]⟩
abbrev S32x4x256 : Shape := ⟨3, ![32, 4, 256]⟩
abbrev S4x32x256 : Shape := ⟨3, ![4, 32, 256]⟩
abbrev S4096x8x128 : Shape := ⟨3, ![4096, 8, 128]⟩
abbrev S8x4096x128 : Shape := ⟨3, ![8, 4096, 128]⟩
abbrev S8x2x4096x128 : Shape := ⟨4, ![8, 2, 4096, 128]⟩
abbrev S1x4096x128 : Shape := ⟨3, ![1, 4096, 128]⟩
abbrev S1x32x128 : Shape := ⟨3, ![1, 32, 128]⟩
abbrev S1x2x4096x128 : Shape := ⟨4, ![1, 2, 4096, 128]⟩
abbrev S4128x128 : Shape := ⟨2, ![4128, 128]⟩
abbrev S16x128 : Shape := ⟨2, ![16, 128]⟩
abbrev S4096x128 : Shape := ⟨2, ![4096, 128]⟩
abbrev S32x128 : Shape := ⟨2, ![32, 128]⟩
abbrev S128x128 : Shape := ⟨2, ![128, 128]⟩
abbrev S1x128 : Shape := ⟨2, ![1, 128]⟩
abbrev S1x128x128 : Shape := ⟨3, ![1, 128, 128]⟩
abbrev S1x1x128x128 : Shape := ⟨4, ![1, 1, 128, 128]⟩

abbrev nBuf : Space → Nat
  | .hbm => 32
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S31x1024, .f32⟩
  | .hbm, ⟨3, _⟩ => ⟨S1024, .f32⟩
  | .hbm, ⟨4, _⟩ => ⟨S4096x1024, .f32⟩
  | .hbm, ⟨5, _⟩ => ⟨S_, .i32⟩
  | .hbm, ⟨6, _⟩ => ⟨S_, .f32⟩
  | .hbm, ⟨7, _⟩ => ⟨S32x1024, .f32⟩
  | .hbm, ⟨8, _⟩ => ⟨S32x4x256, .f32⟩
  | .hbm, ⟨9, _⟩ => ⟨S4x32x256, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x8x128, .f32⟩
  | .hbm, ⟨22, _⟩ => ⟨S8x4096x128, .f32⟩
  | .hbm, ⟨23, _⟩ => ⟨S4096x8x128, .f32⟩
  | .hbm, ⟨24, _⟩ => ⟨S8x4096x128, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x8x128, .f32⟩
  | .hbm, ⟨30, _⟩ => ⟨S8x4096x128, .f32⟩
  | .hbm, ⟨31, _⟩ => ⟨S8x2x4096x128, .bf16⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x32x128, .f32⟩
  | .local _ .vmem, ⟨7, _⟩ => ⟨S1x32x128, .f32⟩
  | .local _ .vmem, ⟨8, _⟩ => ⟨S1x2x4096x128, .bf16⟩
  | .local _ .vmem, ⟨9, _⟩ => ⟨S1x2x4096x128, .bf16⟩
  | .local _ .vmem, ⟨10, _⟩ => ⟨S4128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4096x1024 : Shape := ⟨2, ![4096, 1024]⟩
abbrev S31x1024 : Shape := ⟨2, ![31, 1024]⟩
abbrev S1024 : Shape := ⟨1, ![1024]⟩
abbrev S_ : Shape := ⟨0, ![]⟩
abbrev S15x1024 : Shape := ⟨2, ![15, 1024]⟩
abbrev S4126x1024 : Shape := ⟨2, ![4126, 1024]⟩
abbrev S31 : Shape := ⟨1, ![31]⟩
abbrev S31x1 : Shape := ⟨2, ![31, 1]⟩
abbrev S4096 : Shape := ⟨1, ![4096]⟩
abbrev S1x4096 : Shape := ⟨2, ![1, 4096]⟩
abbrev S31x4096 : Shape := ⟨2, ![31, 4096]⟩
abbrev S31x4096x1 : Shape := ⟨3, ![31, 4096, 1]⟩
abbrev S31x4096x1024 : Shape := ⟨3, ![31, 4096, 1024]⟩
abbrev S31x1x1024 : Shape := ⟨3, ![31, 1, 1024]⟩
abbrev S1x1024 : Shape := ⟨2, ![1, 1024]⟩
abbrev S1 : Shape := ⟨1, ![1]⟩
abbrev S4096x8x128 : Shape := ⟨3, ![4096, 8, 128]⟩
abbrev S8x4096x128 : Shape := ⟨3, ![8, 4096, 128]⟩
abbrev S8x1x4096x128 : Shape := ⟨4, ![8, 1, 4096, 128]⟩
abbrev S8x2x4096x128 : Shape := ⟨4, ![8, 2, 4096, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S31x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S15x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4126x1024, .f32⟩
  | .hbm, ⟨21, _⟩ => ⟨S_, .f32⟩
  | .hbm, ⟨22, _⟩ => ⟨S15x1024, .f32⟩
  | .hbm, ⟨23, _⟩ => ⟨S_, .f32⟩
  | .hbm, ⟨24, _⟩ => ⟨S15x1024, .f32⟩
  | .hbm, ⟨25, _⟩ => ⟨S31, .i32⟩
  | .hbm, ⟨26, _⟩ => ⟨S31x1, .i32⟩
  | .hbm, ⟨27, _⟩ => ⟨S4096, .i32⟩
  | .hbm, ⟨28, _⟩ => ⟨S1x4096, .i32⟩
  | .hbm, ⟨29, _⟩ => ⟨S31x4096, .i32⟩
  | .hbm, ⟨30, _⟩ => ⟨S31x4096, .i32⟩
  | .hbm, ⟨31, _⟩ => ⟨S31x4096, .i32⟩
  | .hbm, ⟨32, _⟩ => ⟨S31x4096x1, .i32⟩
  | .hbm, ⟨33, _⟩ => ⟨S31x4096x1024, .f32⟩
  | .hbm, ⟨34, _⟩ => ⟨S31x1x1024, .f32⟩
  | .hbm, ⟨35, _⟩ => ⟨S31x4096x1024, .f32⟩
  | .hbm, ⟨36, _⟩ => ⟨S31x4096x1024, .f32⟩
  | .hbm, ⟨37, _⟩ => ⟨S_, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S31x4096x1024, .f32⟩
  | .hbm, ⟨43, _⟩ => ⟨S31x4096x1024, .f32⟩
  | .hbm, ⟨44, _⟩ => ⟨S31x4096x1024, .f32⟩
  | .hbm, ⟨45, _⟩ => ⟨S_, .f32⟩
  | .hbm, ⟨46, _⟩ => ⟨S4126x1024, .f32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S1, .i32⟩
  | .hbm, ⟨51, _⟩ => ⟨S31x4096x1, .i32⟩
  | .hbm, ⟨52, _⟩ => ⟨S_, .i32⟩
  | .hbm, ⟨53, _⟩ => ⟨S31x4096x1, .i32⟩
  | .hbm, ⟨54, _⟩ => ⟨S31x4096x1, .i32⟩
  | .hbm, ⟨55, _⟩ => ⟨S4126x1024, .f32⟩
  | .hbm, ⟨56, _⟩ => ⟨S15x1024, .f32⟩
  | .hbm, ⟨57, _⟩ => ⟨S4096x1024, .f32⟩
  | .hbm, ⟨58, _⟩ => ⟨S15x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x8x128, .f32⟩
  | .hbm, ⟨63, _⟩ => ⟨S8x4096x128, .f32⟩
  | .hbm, ⟨64, _⟩ => ⟨S4096x8x128, .f32⟩
  | .hbm, ⟨65, _⟩ => ⟨S8x4096x128, .f32⟩
  | .hbm, ⟨66, _⟩ => ⟨S8x1x4096x128, .f32⟩
  | .hbm, ⟨67, _⟩ => ⟨S8x1x4096x128, .f32⟩
  | .hbm, ⟨68, _⟩ => ⟨S8x2x4096x128, .f32⟩
  | .hbm, ⟨69, _⟩ => ⟨S8x2x4096x128, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_1 : Ref sig .tc := ⟨.hbm, 32, rfl⟩
abbrev main_v21_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call1_cst : Ref sig .tc := ⟨.hbm, 45, rfl⟩
abbrev main_call1_v0 : Ref sig .tc := ⟨.hbm, 46, rfl⟩
abbrev main_call1_c : Ref sig .tc := ⟨.hbm, 47, rfl⟩
abbrev main_call1_c_0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_c_1 : Ref sig .tc := ⟨.hbm, 52, rfl⟩
abbrev main_call1_v4 : Ref sig .tc := ⟨.hbm, 53, rfl⟩
abbrev main_call1_v5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]
-- ==== Kernel4.lean ====
abbrev S4096x6144 : Shape := ⟨2, ![4096, 6144]⟩
abbrev S31x1024 : Shape := ⟨2, ![31, 1024]⟩
abbrev S1024 : Shape := ⟨1, ![1024]⟩
abbrev S4096x6x1024 : Shape := ⟨3, ![4096, 6, 1024]⟩
abbrev S6x4096x1024 : Shape := ⟨3, ![6, 4096, 1024]⟩
abbrev S4x4096x1024 : Shape := ⟨3, ![4, 4096, 1024]⟩
abbrev S2x4096x1024 : Shape := ⟨3, ![2, 4096, 1024]⟩
abbrev S_ : Shape := ⟨0, ![]⟩
abbrev S32x1024 : Shape := ⟨2, ![32, 1024]⟩
abbrev S32x4x256 : Shape := ⟨3, ![32, 4, 256]⟩
abbrev S4x32x256 : Shape := ⟨3, ![4, 32, 256]⟩
abbrev S1x1024 : Shape := ⟨2, ![1, 1024]⟩
abbrev S8x4096x128 : Shape := ⟨3, ![8, 4096, 128]⟩
abbrev S2x4096x128 : Shape := ⟨3, ![2, 4096, 128]⟩
abbrev S1x32x128 : Shape := ⟨3, ![1, 32, 128]⟩
abbrev S1x128 : Shape := ⟨2, ![1, 128]⟩
abbrev S1x4096x128 : Shape := ⟨3, ![1, 4096, 128]⟩
abbrev S4128x128 : Shape := ⟨2, ![4128, 128]⟩
abbrev S16x128 : Shape := ⟨2, ![16, 128]⟩
abbrev S1x128x128 : Shape := ⟨3, ![1, 128, 128]⟩
abbrev S128x128 : Shape := ⟨2, ![128, 128]⟩
abbrev S32x128 : Shape := ⟨2, ![32, 128]⟩

abbrev nBuf : Space → Nat
  | .hbm => 18
  | .vmem => 15
  | .smem => 0
  | _ => 0

abbrev bufTy : (tb : Table) → Fin (tcTables nBuf tb) → BufTy
  | .hbm, ⟨0, _⟩ => ⟨S4096x6144, .f32⟩
  | .hbm, ⟨1, _⟩ => ⟨S31x1024, .f32⟩
  | .hbm, ⟨2, _⟩ => ⟨S1024, .f32⟩
  | .hbm, ⟨3, _⟩ => ⟨S4096x6x1024, .f32⟩
  | .hbm, ⟨4, _⟩ => ⟨S6x4096x1024, .f32⟩
  | .hbm, ⟨5, _⟩ => ⟨S4x4096x1024, .f32⟩
  | .hbm, ⟨6, _⟩ => ⟨S2x4096x1024, .f32⟩
  | .hbm, ⟨7, _⟩ => ⟨S6x4096x1024, .f32⟩
  | .hbm, ⟨8, _⟩ => ⟨S_, .i32⟩
  | .hbm, ⟨9, _⟩ => ⟨S_, .f32⟩
  | .hbm, ⟨10, _⟩ => ⟨S32x1024, .f32⟩
  | .hbm, ⟨11, _⟩ => ⟨S32x4x256, .f32⟩
  | .hbm, ⟨12, _⟩ => ⟨S4x32x256, .f32⟩
  | .hbm, ⟨13, _⟩ => ⟨S1x1024, .f32⟩
  | .hbm, ⟨14, _⟩ => ⟨S8x4096x128, .f32⟩
  | .hbm, ⟨15, _⟩ => ⟨S8x4096x128, .f32⟩
  | .hbm, ⟨16, _⟩ => ⟨S8x4096x128, .f32⟩
  | .hbm, ⟨17, _⟩ => ⟨S8x4096x128, .f32⟩
  | .local _ .vmem, ⟨0, _⟩ => ⟨S2x4096x128, .f32⟩
  | .local _ .vmem, ⟨1, _⟩ => ⟨S2x4096x128, .f32⟩
  | .local _ .vmem, ⟨2, _⟩ => ⟨S1x32x128, .f32⟩
  | .local _ .vmem, ⟨3, _⟩ => ⟨S1x32x128, .f32⟩
  | .local _ .vmem, ⟨4, _⟩ => ⟨S1x128, .f32⟩
  | .local _ .vmem, ⟨5, _⟩ => ⟨S1x128, .f32⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S1x4096x128, .f32⟩
  | .local _ .vmem, ⟨13, _⟩ => ⟨S1x4096x128, .f32⟩
  | .local _ .vmem, ⟨14, _⟩ => ⟨S4128x128, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v7 : BitVec 32 := Scalar.addi c0_i32 c32_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v13 : BitVec 32 := Scalar.muli arg9 c128_i32
  v13
def k0_off1 (k0_t1 : Fin k0_t1_loop.trips) : Fin 3 → Nat :=
  let c1 : Index := 1#32
  let c0_i32 : BitVec 32 := 0#32
  let c1_i32 : BitVec 32 := 1#32
  let arg9 : BitVec 32 := Scf.iv c0_i32 c1_i32 k0_t1
  let c128_i32 : BitVec 32 := 128#32
  let v13 : BitVec 32 := Scalar.muli arg9 c128_i32
  let v14 : BitVec 32 := v13
  let v15 : Index := Scalar.indexCast v14
  let c0_12 : Index := 0#32
  ![1, v15.toNat, 0]
def k0_off2 (k0_t1 : Fin k0_t1_loop.trips) : Fin 3 → Nat :=
  let c0_16 : Index := 0#32
  let c0_i32 : BitVec 32 := 0#32
  let c1_i32 : BitVec 32 := 1#32
  let arg9 : BitVec 32 := Scf.iv c0_i32 c1_i32 k0_t1
  let c128_i32 : BitVec 32 := 128#32
  let v13 : BitVec 32 := Scalar.muli arg9 c128_i32
  let v14 : BitVec 32 := v13
  let v25 : Index := Scalar.indexCast v14
  let c0_17 : Index := 0#32
  ![0, v25.toNat, 0]
def k0_off3 (k0_t1 : Fin k0_t1_loop.trips) : Fin 2 → Nat :=
  let c16_i32 : BitVec 32 := 16#32
  let c0_i32 : BitVec 32 := 0#32
  let c1_i32 : BitVec 32 := 1#32
  let arg9 : BitVec 32 := Scf.iv c0_i32 c1_i32 k0_t1
  let c128_i32 : BitVec 32 := 128#32
  let v13 : BitVec 32 := Scalar.muli arg9 c128_i32
  let v14 : BitVec 32 := v13
  let v29 : BitVec 32 := Scalar.addi c16_i32 v14
  let v30 : Index := Scalar.indexCast v29
  let c0_18 : Index := 0#32
  ![v30.toNat, 0]
def k0_off4 (k0_t1 : Fin k0_t1_loop.trips) : Fin 3 → Nat :=
  let c0_19 : Index := 0#32
  let c0_i32 : BitVec 32 := 0#32
  let c1_i32 : BitVec 32 := 1#32
  let arg9 : BitVec 32 := Scf.iv c0_i32 c1_i32 k0_t1
  let c128_i32 : BitVec 32 := 128#32
  let v13 : BitVec 32 := Scalar.muli arg9 c128_i32
  let v14 : BitVec 32 := v13
  let v34 : Index := Scalar.indexCast v14
  let c0_20 : Index := 0#32
  ![0, v34.toNat, 0]
@[reducible] def k0_t2_loop : Scf.Loop 32 :=
  let c0_i32_8 : BitVec 32 := 0#32
  let c32_i32_9 : BitVec 32 := 32#32
  let v12 : BitVec 32 := Scalar.addi c0_i32_8 c32_i32_9
  let c1_i32_10 : BitVec 32 := 1#32
  ⟨c0_i32_8, v12, c1_i32_10⟩
def k0_mult2 (k0_t2 : Fin k0_t2_loop.trips) : BitVec 32 :=
  let c0_i32_8 : BitVec 32 := 0#32
  let c1_i32_10 : BitVec 32 := 1#32
  let arg9 : BitVec 32 := Scf.iv c0_i32_8 c1_i32_10 k0_t2
  let c128_i32 : BitVec 32 := 128#32
  let v13 : BitVec 32 := Scalar.muli arg9 c128_i32
  v13
def k0_off5 (k0_t2 : Fin k0_t2_loop.trips) (c1_i32_12 : BitVec 32) : Fin 2 → Nat :=
  let c0_i32_8 : BitVec 32 := 0#32
  let c1_i32_10 : BitVec 32 := 1#32
  let arg9 : BitVec 32 := Scf.iv c0_i32_8 c1_i32_10 k0_t2
  let c128_i32 : BitVec 32 := 128#32
  let v13 : BitVec 32 := Scalar.muli arg9 c128_i32
  let v14 : BitVec 32 := v13
  let v18 : BitVec 32 := Scalar.addi v14 c1_i32_12
  let v19 : Index := Scalar.indexCast v18
  let c0_13 : Index := 0#32
  ![v19.toNat, 0]
def k0_off6 (k0_t2 : Fin k0_t2_loop.trips) : Fin 3 → Nat :=
  let c0_44 : Index := 0#32
  let c0_i32_8 : BitVec 32 := 0#32
  let c1_i32_10 : BitVec 32 := 1#32
  let arg9 : BitVec 32 := Scf.iv c0_i32_8 c1_i32_10 k0_t2
  let c128_i32 : BitVec 32 := 128#32
  let v13 : BitVec 32 := Scalar.muli arg9 c128_i32
  let v14 : BitVec 32 := v13
  let v234 : Index := Scalar.indexCast v14
  let c0_45 : Index := 0#32
  ![0, v234.toNat, 0]
def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4096x6144 : Shape := ⟨2, ![4096, 6144]⟩
abbrev S31x1024 : Shape := ⟨2, ![31, 1024]⟩
abbrev S1024 : Shape := ⟨1, ![1024]⟩
abbrev S4096x1024 : Shape := ⟨2, ![4096, 1024]⟩
abbrev S_ : Shape := ⟨0, ![]⟩
abbrev S15x1024 : Shape := ⟨2, ![15, 1024]⟩
abbrev S4126x1024 : Shape := ⟨2, ![4126, 1024]⟩
abbrev S31 : Shape := ⟨1, ![31]⟩
abbrev S31x1 : Shape := ⟨2, ![31, 1]⟩
abbrev S4096 : Shape := ⟨1, ![4096]⟩
abbrev S1x4096 : Shape := ⟨2, ![1, 4096]⟩
abbrev S31x4096 : Shape := ⟨2, ![31, 4096]⟩
abbrev S31x4096x1 : Shape := ⟨3, ![31, 4096, 1]⟩
abbrev S31x4096x1024 : Shape := ⟨3, ![31, 4096, 1024]⟩
abbrev S31x1x1024 : Shape := ⟨3, ![31, 1, 1024]⟩
abbrev S1x1024 : Shape := ⟨2, ![1, 1024]⟩
abbrev S4096x8x128 : Shape := ⟨3, ![4096, 8, 128]⟩
abbrev S8x4096x128 : Shape := ⟨3, ![8, 4096, 128]⟩

abbrev nBuf : Space → Nat
  | .hbm => 60
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S31x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S15x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4126x1024, .f32⟩
  | .hbm, ⟨30, _⟩ => ⟨S31, .i32⟩
  | .hbm, ⟨31, _⟩ => ⟨S31x1, .i32⟩
  | .hbm, ⟨32, _⟩ => ⟨S4096, .i32⟩
  | .hbm, ⟨33, _⟩ => ⟨S1x4096, .i32⟩
  | .hbm, ⟨34, _⟩ => ⟨S31x4096, .i32⟩
  | .hbm, ⟨35, _⟩ => ⟨S31x4096, .i32⟩
  | .hbm, ⟨36, _⟩ => ⟨S31x4096, .i32⟩
  | .hbm, ⟨37, _⟩ => ⟨S31x4096x1, .i32⟩
  | .hbm, ⟨38, _⟩ => ⟨S31x4096x1024, .f32⟩
  | .hbm, ⟨39, _⟩ => ⟨S31x1x1024, .f32⟩
  | .hbm, ⟨40, _⟩ => ⟨S31x4096x1024, .f32⟩
  | .hbm, ⟨41, _⟩ => ⟨S31x4096x1024, .f32⟩
  | .hbm, ⟨42, _⟩ => ⟨S_, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x8x128, .f32⟩
  | .hbm, ⟨53, _⟩ => ⟨S8x4096x128, .f32⟩
  | .hbm, ⟨54, _⟩ => ⟨S4096x8x128, .f32⟩
  | .hbm, ⟨55, _⟩ => ⟨S8x4096x128, .f32⟩
  | .hbm, ⟨56, _⟩ => ⟨S4096x8x128, .f32⟩
  | .hbm, ⟨57, _⟩ => ⟨S8x4096x128, .f32⟩
  | .hbm, ⟨58, _⟩ => ⟨S4096x8x128, .f32⟩
  | .hbm, ⟨59, _⟩ => ⟨S8x4096x128, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S3072 : Shape := ⟨1, ![3072]⟩
abbrev S1024x6144 : Shape := ⟨2, ![1024, 6144]⟩
abbrev S2x512x12x512 : Shape := ⟨4, ![2, 512, 12, 512]⟩
abbrev S12x2x512x512 : Shape := ⟨4, ![12, 2, 512, 512]⟩
abbrev S1x3072 : Shape := ⟨2, ![1, 3072]⟩
abbrev S1x1024 : Shape := ⟨2, ![1, 1024]⟩
abbrev S6x4096x1024 : Shape := ⟨3, ![6, 4096, 1024]⟩
abbrev S512x1024 : Shape := ⟨2, ![512, 1024]⟩
abbrev S1x2048x512 : Shape := ⟨3, ![1, 2048, 512]⟩
abbrev S16x1024 : Shape := ⟨2, ![16, 1024]⟩
abbrev S16 : Shape := ⟨1, ![16]⟩
abbrev S16x1 : Shape := ⟨2, ![16, 1]⟩
abbrev S2048x1024 : Shape := ⟨2, ![2048, 1024]⟩
abbrev S1x2x512x512 : Shape := ⟨4, ![1, 2, 512, 512]⟩
abbrev S2x512x512 : Shape := ⟨3, ![2, 512, 512]⟩
abbrev S1024x512 : Shape := ⟨2, ![1024, 512]⟩
abbrev S2048x512 : Shape := ⟨2, ![2048, 512]⟩

abbrev nBuf : Space → Nat
  | .hbm => 11
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S3072, .f32⟩
  | .hbm, ⟨3, _⟩ => ⟨S1024x6144, .f32⟩
  | .hbm, ⟨4, _⟩ => ⟨S1024x6144, .bf16⟩
  | .hbm, ⟨5, _⟩ => ⟨S2x512x12x512, .bf16⟩
  | .hbm, ⟨6, _⟩ => ⟨S12x2x512x512, .bf16⟩
  | .hbm, ⟨7, _⟩ => ⟨S1x3072, .f32⟩
  | .hbm, ⟨8, _⟩ => ⟨S1x1024, .f32⟩
  | .hbm, ⟨9, _⟩ => ⟨S4096x1024, .bf16⟩
  | .hbm, ⟨10, _⟩ => ⟨S6x4096x1024, .f32⟩
  | .local _ .vmem, ⟨0, _⟩ => ⟨S512x1024, .f32⟩
  | .local _ .vmem, ⟨1, _⟩ => ⟨S512x1024, .f32⟩
  | .local _ .vmem, ⟨2, _⟩ => ⟨S1x3072, .f32⟩
  | .local _ .vmem, ⟨3, _⟩ => ⟨S1x1024, .f32⟩
  | .local _ .vmem, ⟨4, _⟩ => ⟨S12x2x512x512, .bf16⟩
  | .local _ .vmem, ⟨5, _⟩ => ⟨S512x1024, .bf16⟩
  | .local _ .vmem, ⟨6, _⟩ => ⟨S512x1024, .bf16⟩
  | .local _ .vmem, ⟨7, _⟩ => ⟨S1x2048x512, .f32⟩
  | .local _ .vmem, ⟨8, _⟩ => ⟨S1x2048x512, .f32⟩
  | .local _ .vmem, ⟨9, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

@[reducible] def k0_t1_loop : Scf.Loop 32 :=
  let c0_i32_6 : BitVec 32 := 0#32
  let c32_i32 : BitVec 32 := 32#32
  let v15 : BitVec 32 := Scalar.addi c0_i32_6 c32_i32
  let c1_i32 : BitVec 32 := 1#32
  ⟨c0_i32_6, v15, c1_i32⟩
def k0_mult1 (k0_t1 : Fin k0_t1_loop.trips) : BitVec 32 :=
  let c0_i32_6 : BitVec 32 := 0#32
  let c1_i32 : BitVec 32 := 1#32
  let arg8 : BitVec 32 := Scf.iv c0_i32_6 c1_i32 k0_t1
  let c16_i32 : BitVec 32 := 16#32
  let v16 : BitVec 32 := Scalar.muli arg8 c16_i32
  v16
def k0_off1 (k0_t1 : Fin k0_t1_loop.trips) : Fin 2 → Nat :=
  let c0_i32_6 : BitVec 32 := 0#32
  let c1_i32 : BitVec 32 := 1#32
  let arg8 : BitVec 32 := Scf.iv c0_i32_6 c1_i32 k0_t1
  let c16_i32 : BitVec 32 := 16#32
  let v16 : BitVec 32 := Scalar.muli arg8 c16_i32
  let v17 : BitVec 32 := v16
  let v18 : Index := Scalar.indexCast v17
  let c0_8 : Index := 0#32
  ![v18.toNat, 0]
def k0_mult2 (i : grid0.Coords) (k0_t1 : Fin k0_t1_loop.trips) : BitVec 32 :=
  let arg0 : BitVec 32 := BitVec.ofNat 32 (i 0).val
  let c512_i32 : BitVec 32 := 512#32
  let v14 : BitVec 32 := Scalar.muli arg0 c512_i32
  let c0_i32_6 : BitVec 32 := 0#32
  let c1_i32 : BitVec 32 := 1#32
  let arg8 : BitVec 32 := Scf.iv c0_i32_6 c1_i32 k0_t1
  let c16_i32 : BitVec 32 := 16#32
  let v16 : BitVec 32 := Scalar.muli arg8 c16_i32
  let v17 : BitVec 32 := v16
  let v39 : BitVec 32 := Scalar.addi v14 v17
  v39
def k0_off2 (i : grid0.Coords) (k0_t1 : Fin k0_t1_loop.trips) : Fin 2 → Nat :=
  let arg0 : BitVec 32 := BitVec.ofNat 32 (i 0).val
  let c512_i32 : BitVec 32 := 512#32
  let v14 : BitVec 32 := Scalar.muli arg0 c512_i32
  let c0_i32_6 : BitVec 32 := 0#32
  let c1_i32 : BitVec 32 := 1#32
  let arg8 : BitVec 32 := Scf.iv c0_i32_6 c1_i32 k0_t1
  let c16_i32 : BitVec 32 := 16#32
  let v16 : BitVec 32 := Scalar.muli arg8 c16_i32
  let v17 : BitVec 32 := v16
  let v39 : BitVec 32 := Scalar.addi v14 v17
  let v40 : BitVec 32 := v39
  let v41 : Index := Scalar.indexCast v40
  let c0_13 : Index := 0#32
  ![v41.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def k0_mult3 (i : grid0.Coords) : BitVec 32 :=
  let arg0 : BitVec 32 := BitVec.ofNat 32 (i 0).val
  let c8_i32_2 : BitVec 32 := 8#32
  let v6 : BitVec 32 := Scalar.subi arg0 c8_i32_2
  let c2_i32_8 : BitVec 32 := 2#32
  let c0_i32_9 : BitVec 32 := 0#32
  let v24 : BitVec 1 := Scalar.cmpi .eq c2_i32_8 c0_i32_9
  let c1_i32_10 : BitVec 32 := 1#32
  let v25 : BitVec 32 := Scalar.select v24 c1_i32_10 c2_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c2048_i32 : BitVec 32 := 2048#32
  let v75 : BitVec 32 := Scalar.muli v33 c2048_i32
  v75
def k0_off3 (i : grid0.Coords) : Fin 2 → Nat :=
  let arg0 : BitVec 32 := BitVec.ofNat 32 (i 0).val
  let c8_i32_2 : BitVec 32 := 8#32
  let v6 : BitVec 32 := Scalar.subi arg0 c8_i32_2
  let c2_i32_8 : BitVec 32 := 2#32
  let c0_i32_9 : BitVec 32 := 0#32
  let v24 : BitVec 1 := Scalar.cmpi .eq c2_i32_8 c0_i32_9
  let c1_i32_10 : BitVec 32 := 1#32
  let v25 : BitVec 32 := Scalar.select v24 c1_i32_10 c2_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c2048_i32 : BitVec 32 := 2048#32
  let v75 : BitVec 32 := Scalar.muli v33 c2048_i32
  let v76 : BitVec 32 := v75
  let v77 : Index := Scalar.indexCast v76
  let c0 : Index := 0#32
  ![v77.toNat, 0]
def k0_off4 (i : grid0.Coords) : Fin 4 → Nat :=
  let arg0 : BitVec 32 := BitVec.ofNat 32 (i 0).val
  let c8_i32_2 : BitVec 32 := 8#32
  let v6 : BitVec 32 := Scalar.subi arg0 c8_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c2_i32 : BitVec 32 := 2#32
  let c0_i32_5 : BitVec 32 := 0#32
  let v13 : BitVec 1 := Scalar.cmpi .sgt c2_i32 c0_i32_5
  let v14 : BitVec 32 := Scalar.extui v13
  let c0_i32_6 : BitVec 32 := 0#32
  let v15 : BitVec 1 := Scalar.cmpi .slt c2_i32 c0_i32_6
  let v16 : BitVec 32 := Scalar.extui v15
  let v17 : BitVec 32 := Scalar.subi v14 v16
  let v18 : BitVec 1 := Scalar.cmpi .ne v12 v17
  let v19 : BitVec 32 := Scalar.remsi v6 c2_i32
  let c0_i32_7 : BitVec 32 := 0#32
  let v20 : BitVec 1 := Scalar.cmpi .ne v19 c0_i32_7
  let v21 : BitVec 1 := Scalar.andi v18 v20
  let v7 : BitVec 32 := Scalar.divsi v6 c2_i32
  let c1_i32 : BitVec 32 := 1#32
  let v22 : BitVec 32 := Scalar.subi v7 c1_i32
  let v23 : BitVec 32 := Scalar.select v21 v22 v7
  let c3_i32_31 : BitVec 32 := 3#32
  let v68 : BitVec 1 := Scalar.cmpi .slt v23 c3_i32_31
  let c0_i32_32 : BitVec 32 := 0#32
  let v69 : BitVec 32 := Scalar.addi c0_i32_32 v23
  let c3_i32_35 : BitVec 32 := 3#32
  let c0_i32_34 : BitVec 32 := 0#32
  let c3_i32 : BitVec 32 := 3#32
  let v34 : BitVec 32 := Scalar.subi v23 c3_i32
  let c0_i32_14 : BitVec 32 := 0#32
  let v35 : BitVec 32 := Scalar.maxsi v34 c0_i32_14
  let c6_i32 : BitVec 32 := 6#32
  let v36 : BitVec 1 := Scalar.cmpi .slt v35 c6_i32
  let c2_i32_15 : BitVec 32 := 2#32
  let c0_i32_16 : BitVec 32 := 0#32
  let v37 : BitVec 1 := Scalar.cmpi .eq c2_i32_15 c0_i32_16
  let c1_i32_17 : BitVec 32 := 1#32
  let v38 : BitVec 32 := Scalar.select v37 c1_i32_17 c2_i32_15
  let v39 : BitVec 32 := Scalar.remsi v35 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let c2_i32_21 : BitVec 32 := 2#32
  let v47 : BitVec 32 := Scalar.select v36 v46 c2_i32_21
  let c1_i32_33 : BitVec 32 := 1#32
  let v70 : BitVec 32 := Scalar.addi v47 c1_i32_33
  let v71 : BitVec 32 := Scalar.xori c0_i32_34 v70
  let v72 : BitVec 32 := Scalar.muli c3_i32_35 v71
  let c6_i32_22 : BitVec 32 := 6#32
  let v48 : BitVec 1 := Scalar.cmpi .slt v35 c6_i32_22
  let c0_i32_24 : BitVec 32 := 0#32
  let v50 : BitVec 1 := Scalar.cmpi .sgt v35 c0_i32_24
  let v51 : BitVec 32 := Scalar.extui v50
  let c0_i32_25 : BitVec 32 := 0#32
  let v52 : BitVec 1 := Scalar.cmpi .slt v35 c0_i32_25
  let v53 : BitVec 32 := Scalar.extui v52
  let v54 : BitVec 32 := Scalar.subi v51 v53
  let c2_i32_23 : BitVec 32 := 2#32
  let c0_i32_26 : BitVec 32 := 0#32
  let v55 : BitVec 1 := Scalar.cmpi .sgt c2_i32_23 c0_i32_26
  let v56 : BitVec 32 := Scalar.extui v55
  let c0_i32_27 : BitVec 32 := 0#32
  let v57 : BitVec 1 := Scalar.cmpi .slt c2_i32_23 c0_i32_27
  let v58 : BitVec 32 := Scalar.extui v57
  let v59 : BitVec 32 := Scalar.subi v56 v58
  let v60 : BitVec 1 := Scalar.cmpi .ne v54 v59
  let v61 : BitVec 32 := Scalar.remsi v35 c2_i32_23
  let c0_i32_28 : BitVec 32 := 0#32
  let v62 : BitVec 1 := Scalar.cmpi .ne v61 c0_i32_28
  let v63 : BitVec 1 := Scalar.andi v60 v62
  let v49 : BitVec 32 := Scalar.divsi v35 c2_i32_23
  let c1_i32_29 : BitVec 32 := 1#32
  let v64 : BitVec 32 := Scalar.subi v49 c1_i32_29
  let v65 : BitVec 32 := Scalar.select v63 v64 v49
  let c6_i32_30 : BitVec 32 := 6#32
  let v66 : BitVec 32 := Scalar.subi v35 c6_i32_30
  let v67 : BitVec 32 := Scalar.select v48 v65 v66
  let v73 : BitVec 32 := Scalar.addi v72 v67
  let v74 : BitVec 32 := Scalar.select v68 v69 v73
  let v79 : Index := Scalar.indexCast v74
  let c0_36 : Index := 0#32
  let c0_37 : Index := 0#32
  let c0_38 : Index := 0#32
  ![v79.toNat, 0, 0, 0]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c3_i32 : BitVec 32 := 3#32
  let v19 : BitVec 32 := Scalar.subi v18 c3_i32
  let c0_i32_5 : BitVec 32 := 0#32
  let v20 : BitVec 32 := Scalar.maxsi v19 c0_i32_5
  let c6_i32 : BitVec 32 := 6#32
  let v21 : BitVec 1 := Scalar.cmpi .slt v20 c6_i32
  let c2_i32_6 : BitVec 32 := 2#32
  let c0_i32_7 : BitVec 32 := 0#32
  let v22 : BitVec 1 := Scalar.cmpi .eq c2_i32_6 c0_i32_7
  let c1_i32_8 : BitVec 32 := 1#32
  let v23 : BitVec 32 := Scalar.select v22 c1_i32_8 c2_i32_6
  let v24 : BitVec 32 := Scalar.remsi v20 v23
  let c0_i32_9 : BitVec 32 := 0#32
  let v25 : BitVec 1 := Scalar.cmpi .ne v24 c0_i32_9
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let v29 : BitVec 1 := Scalar.andi v28 v25
  let v30 : BitVec 32 := Scalar.addi v24 v23
  let v31 : BitVec 32 := Scalar.select v29 v30 v24
  let c2_i32_12 : BitVec 32 := 2#32
  let v32 : BitVec 32 := Scalar.select v21 v31 c2_i32_12
  let c6_i32_13 : BitVec 32 := 6#32
  let v33 : BitVec 1 := Scalar.cmpi .slt v20 c6_i32_13
  let c2_i32_14 : BitVec 32 := 2#32
  let v34 : BitVec 32 := Scalar.divsi v20 c2_i32_14
  let c0_i32_15 : BitVec 32 := 0#32
  let v35 : BitVec 1 := Scalar.cmpi .sgt v20 c0_i32_15
  let v36 : BitVec 32 := Scalar.extui v35
  let c0_i32_16 : BitVec 32 := 0#32
  let v37 : BitVec 1 := Scalar.cmpi .slt v20 c0_i32_16
  let v38 : BitVec 32 := Scalar.extui v37
  let v39 : BitVec 32 := Scalar.subi v36 v38
  let c0_i32_17 : BitVec 32 := 0#32
  let v40 : BitVec 1 := Scalar.cmpi .sgt c2_i32_14 c0_i32_17
  let v41 : BitVec 32 := Scalar.extui v40
  let c0_i32_18 : BitVec 32 := 0#32
  let v42 : BitVec 1 := Scalar.cmpi .slt c2_i32_14 c0_i32_18
  let v43 : BitVec 32 := Scalar.extui v42
  let v44 : BitVec 32 := Scalar.subi v41 v43
  let v45 : BitVec 1 := Scalar.cmpi .ne v39 v44
  let v46 : BitVec 32 := Scalar.remsi v20 c2_i32_14
  let c0_i32_19 : BitVec 32 := 0#32
  let v47 : BitVec 1 := Scalar.cmpi .ne v46 c0_i32_19
  let v48 : BitVec 1 := Scalar.andi v45 v47
  let c1_i32_20 : BitVec 32 := 1#32
  let v49 : BitVec 32 := Scalar.subi v34 c1_i32_20
  let v50 : BitVec 32 := Scalar.select v48 v49 v34
  let c6_i32_21 : BitVec 32 := 6#32
  let v51 : BitVec 32 := Scalar.subi v20 c6_i32_21
  let v52 : BitVec 32 := Scalar.select v33 v50 v51
  let c3_i32_22 : BitVec 32 := 3#32
  let v53 : BitVec 1 := Scalar.cmpi .slt v18 c3_i32_22
  let c0_i32_23 : BitVec 32 := 0#32
  let v54 : BitVec 32 := Scalar.addi c0_i32_23 v18
  let c1_i32_24 : BitVec 32 := 1#32
  let v55 : BitVec 32 := Scalar.addi v32 c1_i32_24
  let c0_i32_25 : BitVec 32 := 0#32
  let v56 : BitVec 32 := Scalar.xori c0_i32_25 v55
  let c3_i32_26 : BitVec 32 := 3#32
  let v57 : BitVec 32 := Scalar.muli c3_i32_26 v56
  let v58 : BitVec 32 := Scalar.addi v57 v52
  let v59 : BitVec 32 := Scalar.select v53 v54 v58
  let c2_i32_27 : BitVec 32 := 2#32
  let v60 : BitVec 32 := Scalar.divsi v59 c2_i32_27
  let c0_i32_28 : BitVec 32 := 0#32
  let v61 : BitVec 1 := Scalar.cmpi .sgt v59 c0_i32_28
  let v62 : BitVec 32 := Scalar.extui v61
  let c0_i32_29 : BitVec 32 := 0#32
  let v63 : BitVec 1 := Scalar.cmpi .slt v59 c0_i32_29
  let v64 : BitVec 32 := Scalar.extui v63
  let v65 : BitVec 32 := Scalar.subi v62 v64
  let c0_i32_30 : BitVec 32 := 0#32
  let v66 : BitVec 1 := Scalar.cmpi .sgt c2_i32_27 c0_i32_30
  let v67 : BitVec 32 := Scalar.extui v66
  let c0_i32_31 : BitVec 32 := 0#32
  let v68 : BitVec 1 := Scalar.cmpi .slt c2_i32_27 c0_i32_31
  let v69 : BitVec 32 := Scalar.extui v68
  let v70 : BitVec 32 := Scalar.subi v67 v69
  let v71 : BitVec 1 := Scalar.cmpi .ne v65 v70
  let v72 : BitVec 32 := Scalar.remsi v59 c2_i32_27
  let c0_i32_32 : BitVec 32 := 0#32
  let v73 : BitVec 1 := Scalar.cmpi .ne v72 c0_i32_32
  let v74 : BitVec 1 := Scalar.andi v71 v73
  let c1_i32_33 : BitVec 32 := 1#32
  let v75 : BitVec 32 := Scalar.subi v60 c1_i32_33
  let v76 : BitVec 32 := Scalar.select v74 v75 v60
  let c4_i32 : BitVec 32 := 4#32
  let v77 : BitVec 32 := Scalar.addi v76 c4_i32
  let c6_i32_34 : BitVec 32 := 6#32
  let c0_i32_35 : BitVec 32 := 0#32
  let v78 : BitVec 1 := Scalar.cmpi .eq c6_i32_34 c0_i32_35
  let c1_i32_36 : BitVec 32 := 1#32
  let v79 : BitVec 32 := Scalar.select v78 c1_i32_36 c6_i32_34
  let v80 : BitVec 32 := Scalar.remsi v77 v79
  let c0_i32_37 : BitVec 32 := 0#32
  let v81 : BitVec 1 := Scalar.cmpi .ne v80 c0_i32_37
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let v85 : BitVec 1 := Scalar.andi v84 v81
  let v86 : BitVec 32 := Scalar.addi v80 v79
  let v87 : BitVec 32 := Scalar.select v85 v86 v80
  let c2_i32_40 : BitVec 32 := 2#32
  let c0_i32_41 : BitVec 32 := 0#32
  let v88 : BitVec 1 := Scalar.cmpi .eq c2_i32_40 c0_i32_41
  let c1_i32_42 : BitVec 32 := 1#32
  let v89 : BitVec 32 := Scalar.select v88 c1_i32_42 c2_i32_40
  let v90 : BitVec 32 := Scalar.remsi v1 v89
  let c0_i32_43 : BitVec 32 := 0#32
  let v91 : BitVec 1 := Scalar.cmpi .ne v90 c0_i32_43
  let c0_i32_44 : BitVec 32 := 0#32
  let v92 : BitVec 1 := Scalar.cmpi .slt v90 c0_i32_44
  let c0_i32_45 : BitVec 32 := 0#32
  let v93 : BitVec 1 := Scalar.cmpi .slt v89 c0_i32_45
  let v94 : BitVec 1 := Scalar.xori v92 v93
  let v95 : BitVec 1 := Scalar.andi v94 v91
  let v96 : BitVec 32 := Scalar.addi v90 v89
  let v97 : BitVec 32 := Scalar.select v95 v96 v90
  let c2_i32_46 : BitVec 32 := 2#32
  let c0_i32_47 : BitVec 32 := 0#32
  let v98 : BitVec 1 := Scalar.cmpi .eq c2_i32_46 c0_i32_47
  let c1_i32_48 : BitVec 32 := 1#32
  let v99 : BitVec 32 := Scalar.select v98 c1_i32_48 c2_i32_46
  let v100 : BitVec 32 := Scalar.remsi v59 v99
  let c0_i32_49 : BitVec 32 := 0#32
  let v101 : BitVec 1 := Scalar.cmpi .ne v100 c0_i32_49
  let c0_i32_50 : BitVec 32 := 0#32
  let v102 : BitVec 1 := Scalar.cmpi .slt v100 c0_i32_50
  let c0_i32_51 : BitVec 32 := 0#32
  let v103 : BitVec 1 := Scalar.cmpi .slt v99 c0_i32_51
  let v104 : BitVec 1 := Scalar.xori v102 v103
  let v105 : BitVec 1 := Scalar.andi v104 v101
  let v106 : BitVec 32 := Scalar.addi v100 v99
  let v107 : BitVec 32 := Scalar.select v105 v106 v100
  let c0_i32_52 : BitVec 32 := 0#32
  ![v87.toNat, v97.toNat, v107.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x2x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4096x1024 : Shape := ⟨2, ![4096, 1024]⟩
abbrev S1024 : Shape := ⟨1, ![1024]⟩
abbrev S3072 : Shape := ⟨1, ![3072]⟩
abbrev S1024x6144 : Shape := ⟨2, ![1024, 6144]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x6144 : Shape := ⟨2, ![4096, 6144]⟩
abbrev S4096x6x1024 : Shape := ⟨3, ![4096, 6, 1024]⟩
abbrev S6x4096x1024 : Shape := ⟨3, ![6, 4096, 1024]⟩
abbrev S4x4096x1024 : Shape := ⟨3, ![4, 4096, 1024]⟩
abbrev S2x4096x1024 : Shape := ⟨3, ![2, 4096, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S3072, .f32⟩
  | .hbm, ⟨3, _⟩ => ⟨S1024x6144, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x6144, .f32⟩
  | .hbm, ⟨33, _⟩ => ⟨S4096x6x1024, .f32⟩
  | .hbm, ⟨34, _⟩ => ⟨S6x4096x1024, .f32⟩
  | .hbm, ⟨35, _⟩ => ⟨S4096x1024, .bf16⟩
  | .hbm, ⟨36, _⟩ => ⟨S4x4096x1024, .f32⟩
  | .hbm, ⟨37, _⟩ => ⟨S2x4096x1024, .f32⟩
  | .hbm, ⟨38, _⟩ => ⟨S6x4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel6.lean ====
abbrev S8x1024 : Shape := ⟨2, ![8, 1024]⟩
abbrev S8x3072 : Shape := ⟨2, ![8, 3072]⟩
abbrev S1024x768 : Shape := ⟨2, ![1024, 768]⟩
abbrev S_ : Shape := ⟨0, ![]⟩
abbrev S16x1024 : Shape := ⟨2, ![16, 1024]⟩
abbrev S24x1024 : Shape := ⟨2, ![24, 1024]⟩
abbrev S1x3072 : Shape := ⟨2, ![1, 3072]⟩
abbrev S8x256 : Shape := ⟨2, ![8, 256]⟩
abbrev S256x768 : Shape := ⟨2, ![256, 768]⟩
abbrev S8x768 : Shape := ⟨2, ![8, 768]⟩
abbrev S3072 : Shape := ⟨1, ![3072]⟩

abbrev nBuf : Space → Nat
  | .hbm => 28
  | .vmem => 21
  | .smem => 0
  | _ => 0

abbrev bufTy : (tb : Table) → Fin (tcTables nBuf tb) → BufTy
  | .hbm, ⟨0, _⟩ => ⟨S8x1024, .f32⟩
  | .hbm, ⟨1, _⟩ => ⟨S8x3072, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S16x1024, .f32⟩
  | .hbm, ⟨22, _⟩ => ⟨S24x1024, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S1024x768, .f32⟩
  | .hbm, ⟨27, _⟩ => ⟨S1x3072, .f32⟩
  | .local _ .vmem, ⟨0, _⟩ => ⟨S8x256, .f32⟩
  | .local _ .vmem, ⟨1, _⟩ => ⟨S8x256, .f32⟩
  | .local _ .vmem, ⟨2, _⟩ => ⟨S16x1024, .f32⟩
  | .local _ .vmem, ⟨3, _⟩ => ⟨S24x1024, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | .local _ .vmem, ⟨18, _⟩ => ⟨S1x3072, .f32⟩
  | .local _ .vmem, ⟨19, _⟩ => ⟨S8x3072, .f32⟩
  | .local _ .vmem, ⟨20, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference6Ideal.lean ====
abbrev S8x1024 : Shape := ⟨2, ![8, 1024]⟩
abbrev S8x3072 : Shape := ⟨2, ![8, 3072]⟩
abbrev S1024x768 : Shape := ⟨2, ![1024, 768]⟩
abbrev S_ : Shape := ⟨0, ![]⟩
abbrev S8x768 : Shape := ⟨2, ![8, 768]⟩
abbrev S768x1024 : Shape := ⟨2, ![768, 1024]⟩
abbrev S3072 : Shape := ⟨1, ![3072]⟩
abbrev S1x3072 : Shape := ⟨2, ![1, 3072]⟩

abbrev nBuf : Space → Nat
  | .hbm => 54
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x3072, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x768, .f32⟩
  | .hbm, ⟨15, _⟩ => ⟨S8x768, .f32⟩
  | .hbm, ⟨16, _⟩ => ⟨S768x1024, .f32⟩
  | .hbm, ⟨17, _⟩ => ⟨S1024x768, .f32⟩
  | .hbm, ⟨18, _⟩ => ⟨S_, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S1024x768, .f32⟩
  | .hbm, ⟨25, _⟩ => ⟨S_, .f32⟩
  | .hbm, ⟨26, _⟩ => ⟨S1024x768, .f32⟩
  | .hbm, ⟨27, _⟩ => ⟨S1024x768, .f32⟩
  | .hbm, ⟨28, _⟩ => ⟨S1024x768, .f32⟩
  | .hbm, ⟨29, _⟩ => ⟨S_, .f32⟩
  | .hbm, ⟨30, _⟩ => ⟨S1024x768, .f32⟩
  | .hbm, ⟨31, _⟩ => ⟨S1024x768, .f32⟩
  | .hbm, ⟨32, _⟩ => ⟨S1024x768, .f32⟩
  | .hbm, ⟨33, _⟩ => ⟨S_, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | .hbm, ⟨39, _⟩ => ⟨S1024x768, .f32⟩
  | .hbm, ⟨40, _⟩ => ⟨S_, .f32⟩
  | .hbm, ⟨41, _⟩ => ⟨S1024x768, .f32⟩
  | .hbm, ⟨42, _⟩ => ⟨S1024x768, .f32⟩
  | .hbm, ⟨43, _⟩ => ⟨S1024x768, .f32⟩
  | .hbm, ⟨44, _⟩ => ⟨S_, .f32⟩
  | .hbm, ⟨45, _⟩ => ⟨S1024x768, .f32⟩
  | .hbm, ⟨46, _⟩ => ⟨S1024x768, .f32⟩
  | .hbm, ⟨47, _⟩ => ⟨S1024x768, .f32⟩
  | .hbm, ⟨48, _⟩ => ⟨S_, .f32⟩
  | .hbm, ⟨49, _⟩ => ⟨S1024x768, .f32⟩
  | .hbm, ⟨50, _⟩ => ⟨S1024x768, .f32⟩
  | .hbm, ⟨51, _⟩ => ⟨S_, .f32⟩
  | .hbm, ⟨52, _⟩ => ⟨S3072, .f32⟩
  | .hbm, ⟨53, _⟩ => ⟨S1x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_cst_8 : Ref sig .tc := ⟨.hbm, 51, rfl⟩
abbrev main_v29 : Ref sig .tc := ⟨.hbm, 52, rfl⟩
abbrev main_v30 : Ref sig .tc := ⟨.hbm, 53, rfl⟩

abbrev nD : Nat := 1
abbrev τ : Topo := Topo.v7x

variable {F : FTy → Type} [FloatOps F]
-- ==== Proof.Lib.Mem.lean ====
/- A kernel body that only loads from and stores into a fixed family of memrefs, as a function on their contents.

   `Mem` is the syntax of such a body (a load, a store, a result), `Mem.toProg` the program it stands for and `Mem.run`
   what it computes: its result and the family's contents after it. `Mem.sound` says that the program does what `run`
   says, for every body at once; a proof about a kernel then only has to reason about `run`.
   Before it, some facts on indices; after it, words for what a run leaves. -/
module

public import Idealize.ShloMosaic.Lib.ValueIdxCore
public import Idealize.ShloMosaic.Lib.Claim

@[expose] public section

noncomputable section

namespace Cert.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

/-! ## Indices by their coordinates -/

theorem two {a b : ℕ} (j : (⟨2, ![a, b]⟩ : Shape).Idx) : ∃ x y, j = ix2 x y := ⟨_, _, eq_ix2 j⟩

theorem three {a b c : ℕ} (j : (⟨3, ![a, b, c]⟩ : Shape).Idx) : ∃ x y z, j = ix3 x y z := ⟨_, _, _, eq_ix3 j⟩

theorem four {a b c d : ℕ} (j : (⟨4, ![a, b, c, d]⟩ : Shape).Idx) : ∃ x y z w, j = ix4 x y z w := ⟨_, _, _, _, eq_ix4 j⟩

theorem emb_eq {s : Shape} {r : Rect s} {j : r.shape.Idx} {i : s.Idx}
    (h : ∀ a, (r.off a + r.stride a * j a : ℕ) = (i a).val) : r.emb j = i := funext fun a => Fin.ext (h a)

/-! ## Banks of memrefs and programs on them -/

/-- A family of memrefs of a TensorCore's vector memory, indexed by `B`. -/
structure Bank (sig : RefSig) (B : Type) where
  /-- Each memref's shape, -/
  shape : B → Shape
  /-- its element type, -/
  elt : B → EltTy
  /-- and the memref. -/
  mem : (b : B) → Memref sig .tc .vmem (shape b) (elt b)

variable {nD : Nat} {τ : Topo} {sig : RefSig} {Val : EltTy → Type} {B : Type}

/-- What every memref of a bank holds. -/
abbrev Bank.St (A : Bank sig B) (Val : EltTy → Type) : Type := (b : B) → (A.shape b).Idx → Val (A.elt b)

/-- A body that loads from and stores into the bank `A`. -/
inductive Mem (A : Bank sig B) (Val : EltTy → Type) (α : Type) : Type where
  | ret : α → Mem A Val α
  | load (b : B) (r : Rect (A.shape b)) (hl : (A.mem b).view.LoadsAt r.toLoadRect)
      (k : (r.shape.Idx → Val (A.elt b)) → Mem A Val α) : Mem A Val α
  | store (b : B) (r : Rect (A.shape b)) (w : r.shape.Idx → Val (A.elt b))
      (hs : ((A.mem b).access r).Stores Finset.univ) (k : Mem A Val α) : Mem A Val α

namespace Mem

variable {A : Bank sig B} {α β : Type}

/-- One body after another. -/
protected def bind (p : Mem A Val α) (q : α → Mem A Val β) : Mem A Val β :=
  Mem.rec (motive := fun _ => Mem A Val β) (fun a => q a) (fun b r hl _ ih => .load b r hl ih)
    (fun b r w hs _ ih => .store b r w hs ih) p

instance : Monad (Mem A Val) where
  pure := .ret
  bind := Mem.bind

/-- Read a rectangle of one memref. -/
@[reducible] def rd (b : B) (r : Rect (A.shape b)) (hl : (A.mem b).view.LoadsAt r.toLoadRect) :
    Mem A Val (r.shape.Idx → Val (A.elt b)) := .load b r hl .ret

/-- Overwrite a rectangle of one memref. -/
@[reducible] def wr (b : B) (r : Rect (A.shape b)) (w : r.shape.Idx → Val (A.elt b))
    (hs : ((A.mem b).access r).Stores Finset.univ) : Mem A Val PUnit := .store b r w hs (.ret ⟨⟩)

/-- `f` at the last `n` of `N` steps, in order. -/
def stepsFrom {N : ℕ} (f : Fin N → Mem A Val PUnit) : (n : ℕ) → n ≤ N → Mem A Val PUnit :=
  fun n => Nat.rec (motive := fun n => n ≤ N → Mem A Val PUnit) (fun _ => .ret ⟨⟩)
    (fun n ih h => Mem.bind (f ⟨N - (n + 1), by omega⟩) fun _ => ih (by omega)) n

/-- `f` at each of `N` steps, in order. -/
def steps {N : ℕ} (f : Fin N → Mem A Val PUnit) : Mem A Val PUnit := stepsFrom f N le_rfl

section Run

variable [DecidableEq B]

/-- The contents with one memref's rectangle overwritten. -/
def upd (S : A.St Val) (b : B) (r : Rect (A.shape b)) (w : r.shape.Idx → Val (A.elt b)) : A.St Val :=
  Function.update S b (r.overlay (S b) w)

/-- What a body computes: its result and the contents after it. -/
def run (p : Mem A Val α) : A.St Val → α × A.St Val :=
  Mem.rec (motive := fun _ => A.St Val → α × A.St Val) (fun a S => (a, S))
    (fun b r _ _ ih S => ih (fun x => S b (r.emb x)) S) (fun b r w _ _ ih S => ih (upd S b r w)) p

@[simp] theorem run_pure (a : α) (S : A.St Val) : run (pure a : Mem A Val α) S = (a, S) := rfl
@[simp] theorem run_ret (a : α) (S : A.St Val) : run (.ret a : Mem A Val α) S = (a, S) := rfl
@[simp] theorem run_load (b : B) (r : Rect (A.shape b)) (hl) (k : _ → Mem A Val α) (S : A.St Val) :
    run (.load b r hl k) S = run (k fun x => S b (r.emb x)) S := rfl
@[simp] theorem run_store (b : B) (r : Rect (A.shape b)) (w) (hs) (k : Mem A Val α) (S : A.St Val) :
    run (.store b r w hs k) S = run k (upd S b r w) := rfl

theorem run_bind' (p : Mem A Val α) (q : α → Mem A Val β) (S : A.St Val) :
    run (Mem.bind p q) S = run (q (run p S).1) (run p S).2 := by
  induction p generalizing S with
  | ret a => rfl
  | load b r hl k ih => exact ih _ S
  | store b r w hs k ih => exact ih _

@[simp] theorem run_bind (p : Mem A Val α) (q : α → Mem A Val β) (S : A.St Val) :
    run (p >>= q) S = run (q (run p S).1) (run p S).2 := run_bind' p q S

/-- A run of steps keeps to `I`, the contents before each step, if every step does. -/
theorem run_steps {N : ℕ} (f : Fin N → Mem A Val PUnit) (I : ℕ → A.St Val)
    (h : ∀ k : Fin N, (run (f k) (I k.val)).2 = I (k.val + 1)) : (run (steps f) (I 0)).2 = I N := by
  have key : ∀ (n : ℕ) (hn : n ≤ N), (run (stepsFrom f n hn) (I (N - n))).2 = I N := by
    intro n
    induction n with
    | zero => intro _; rfl
    | succ n ih =>
      intro hn
      have e : stepsFrom f (n + 1) hn = Mem.bind (f ⟨N - (n + 1), by omega⟩) fun _ => stepsFrom f n (by omega) := rfl
      rw [e, run_bind', h ⟨N - (n + 1), by omega⟩]
      show (run (stepsFrom f n _) (I (N - (n + 1) + 1))).2 = I N
      rw [show N - (n + 1) + 1 = N - n by omega]
      exact ih (by omega)
  simpa [steps] using key N le_rfl

end Run

section Prog

variable {Λ : Labels}

/-- The program a body stands for. -/
def toProg (p : Mem A Val α) : Prog (TpuEff nD τ sig Val Λ .tc) α :=
  Mem.rec (motive := fun _ => Prog (TpuEff nD τ sig Val Λ .tc) α) (fun a => .ret a)
    (fun b r hl _ ih => .op (.load (A.mem b) r.toLoadRect hl) ih)
    (fun b r w hs _ ih => .op (.store (A.mem b) r w Finset.univ hs (.inl rfl)) fun _ => ih) p

end Prog

section Sound

variable {Ix : Type} [DecidableEq Ix] {Name : Type} [DecidableEq Name] {U : Type} [URA U] {Lvl : Type} {Λ : Labels}
variable [Preorder Lvl] {defs : Defs nD τ sig Val Λ} (𝒱 : Variants) (c : Dev nD) (bd : Option 𝒱.V) (E : Set Name)
variable [Fintype B] [DecidableEq B]

/-- The bank held whole at the contents `S`. -/
def held (A : Bank sig B) (c : Dev nD) (S : A.St Val) : sProp (MT nD τ sig Ix Val Name U Lvl) :=
  bigSep Finset.univ fun b : B => owns (c : Thread nD τ) (A.mem b) fullShare (S b)

theorem held_split (b : B) (S : A.St Val) : (held A c S : sProp (MT nD τ sig Ix Val Name U Lvl))
    = iprop(owns (c : Thread nD τ) (A.mem b) fullShare (S b)
      ∗ bigSep (Finset.univ.erase b) fun b' : B => owns (c : Thread nD τ) (A.mem b') fullShare (S b')) := by
  unfold held
  rw [bigSep_univ_split b]
  rfl

theorem owns_load {s : Shape} {e : EltTy} (m : Memref sig .tc .vmem s e) (r : Rect s)
    (hl : m.view.LoadsAt r.toLoadRect) (X : s.Idx → Val e) {k : (r.shape.Idx → Val e) → Prog (TpuEff nD τ sig Val Λ .tc) β}
    {Q : β → sProp (MT nD τ sig Ix Val Name U Lvl)} :
    (owns (c : Thread nD τ) m fullShare X : sProp (MT nD τ sig Ix Val Name U Lvl))
      ⊢ iprop((owns (c : Thread nD τ) m fullShare X -∗ wp frame (wpE defs 𝒱 (c : Thread nD τ) bd) E (k fun x => X (r.emb x)) Q)
        -∗ wp frame (wpE defs 𝒱 (c : Thread nD τ) bd) E (.op (.load m r.toLoadRect hl) k) Q) := by
  unfold owns
  iintro ⟨%f, %hf, Hf⟩ HK
  iapply (wp_load (defs := defs) 𝒱 (c : Thread nD τ) bd E (m := m) (r := r.toLoadRect) (hl := hl) (k := k) (S := m.view.set) (q := fullShare) (f := f)
    (m.view.setOn_subset_set _)) $$ Hf
  iintro Hf
  have e1 : m.view.readAt Val r.toLoadRect f = fun x => X (r.emb x) := by rw [← hf]; rfl
  rw [e1]
  iapply HK
  iexists f
  isplitr
  · ipureintro; exact hf
  iexact Hf

theorem owns_store {s : Shape} {e : EltTy} (m : Memref sig .tc .vmem s e) (r : Rect s) (w : r.shape.Idx → Val e)
    (hs : (m.access r).Stores Finset.univ) (hm) (X : s.Idx → Val e) {k : PUnit → Prog (TpuEff nD τ sig Val Λ .tc) β}
    {Q : β → sProp (MT nD τ sig Ix Val Name U Lvl)} :
    (owns (c : Thread nD τ) m fullShare X : sProp (MT nD τ sig Ix Val Name U Lvl))
      ⊢ iprop((owns (c : Thread nD τ) m fullShare (r.overlay X w) -∗ wp frame (wpE defs 𝒱 (c : Thread nD τ) bd) E (k ⟨⟩) Q)
        -∗ wp frame (wpE defs 𝒱 (c : Thread nD τ) bd) E (.op (.store m r w Finset.univ hs hm) k) Q) := by
  unfold owns
  iintro ⟨%f, %hf, Hf⟩ HK
  iapply (wp_store (defs := defs) 𝒱 (c : Thread nD τ) bd E (m := m) (r := r) (w := w) (Mk := Finset.univ) (hx := hs) (hm := hm) (k := k)
    (S := m.view.set) (f := f) (m.setOn_access_subset r Finset.univ)) $$ Hf
  iintro Hf
  iapply HK
  iexists ((m.access r).write Val f w Finset.univ)
  isplitr
  · ipureintro
    funext j
    by_cases hj : j ∈ r.set
    · obtain ⟨i, rfl⟩ := r.exists_idx_of_mem hj
      change m.view.read Val _ (r.emb i) = r.overlay _ _ (r.emb i)
      rw [Rect.overlay_emb]
      exact m.view.read_slice_write_emb r f w (Finset.mem_univ _)
    · rw [Rect.overlay_of_not_mem _ _ _ hj, ← hf]
      exact m.view.read_slice_write_of_not_mem r f w Finset.univ (by rw [Rect.map_emb_univ]; exact hj)
  iexact Hf

/-- The program of a body does what `run` says: from the bank held at `S`, it ends at `run`'s result with the bank
    held at `run`'s contents. -/
theorem sound (p : Mem A Val α) (S : A.St Val) {k : α → Prog (TpuEff nD τ sig Val Λ .tc) β}
    {Q : β → sProp (MT nD τ sig Ix Val Name U Lvl)} :
    (held A c S : sProp (MT nD τ sig Ix Val Name U Lvl))
      ⊢ iprop((held A c (run p S).2 -∗ wp frame (wpE defs 𝒱 (c : Thread nD τ) bd) E (k (run p S).1) Q)
        -∗ wp frame (wpE defs 𝒱 (c : Thread nD τ) bd) E ((toProg p : Prog (TpuEff nD τ sig Val Λ .tc) α) >>= k) Q) := by
  induction p generalizing S with
  | ret a => iintro H HK; iapply HK; iexact H
  | load b r hl q ih =>
    show _ ⊢ iprop(_ -∗ wp frame (wpE defs 𝒱 (c : Thread nD τ) bd) E
      (.op (.load (A.mem b) r.toLoadRect hl) fun x => (toProg (q x) : Prog (TpuEff nD τ sig Val Λ .tc) α) >>= k) Q)
    rw [run_load]
    rw [held_split c b S]
    iintro ⟨Hb, Hr⟩ HK
    iapply (owns_load (defs := defs) 𝒱 c bd E (A.mem b) r hl (S b)) $$ Hb
    iintro Hb
    iapply (ih (fun x => S b (r.emb x)) S) $$ [Hb Hr]
    · rw [held_split c b S]
      iframe
    iexact HK
  | store b r w hs q ih =>
    show _ ⊢ iprop(_ -∗ wp frame (wpE defs 𝒱 (c : Thread nD τ) bd) E
      (.op (.store (A.mem b) r w Finset.univ hs (.inl rfl)) fun _ => (toProg q : Prog (TpuEff nD τ sig Val Λ .tc) α) >>= k) Q)
    rw [run_store]
    have e : (held A c (upd S b r w) : sProp (MT nD τ sig Ix Val Name U Lvl))
        = iprop(owns (c : Thread nD τ) (A.mem b) fullShare (r.overlay (S b) w)
          ∗ bigSep (Finset.univ.erase b) fun b' : B => owns (c : Thread nD τ) (A.mem b') fullShare (S b')) := by
      rw [held_split c b]
      congr 1
      · unfold upd; rw [Function.update_self]
      · refine bigSep_congr fun i hi => ?_
        unfold upd; rw [Function.update_of_ne (Finset.ne_of_mem_erase hi)]
    rw [held_split c b S]
    iintro ⟨Hb, Hr⟩ HK
    iapply (owns_store (defs := defs) 𝒱 c bd E (A.mem b) r w hs (.inl rfl) (S b)) $$ Hb
    iintro Hb
    iapply (ih (upd S b r w)) $$ [Hb Hr]
    · rw [e]
      iframe
    iexact HK

/-- The same for a body that is the whole program. -/
theorem sound_all (p : Mem A Val α) (S : A.St Val) {Q : α → sProp (MT nD τ sig Ix Val Name U Lvl)} :
    (held A c S : sProp (MT nD τ sig Ix Val Name U Lvl))
      ⊢ iprop((held A c (run p S).2 -∗ Q (run p S).1)
        -∗ wp frame (wpE defs 𝒱 (c : Thread nD τ) bd) E (toProg p : Prog (TpuEff nD τ sig Val Λ .tc) α) Q) := by
  have h := sound (defs := defs) 𝒱 c bd E p S (k := fun x => (pure x : Prog (TpuEff nD τ sig Val Λ .tc) α)) (Q := Q)
  rw [bind_pure] at h
  iintro H HK
  iapply h $$ H
  iintro H
  rw [show (pure (run p S).1 : Prog (TpuEff nD τ sig Val Λ .tc) α) = .ret (run p S).1 from rfl, wp_ret]
  imodintro
  iapply HK
  iexact H

end Sound

end Mem

/-! ## What a run leaves in a buffer -/

/-- A buffer of device `c` after a run. -/
abbrev left (r : PUnit × MemSt nD τ sig Val) (c : Dev nD) (b : Ref sig .tc) : Buf Val ((c.tc : Thread nD τ).loc b) :=
  r.2.mem ((c.tc : Thread nD τ).loc b)

/-- A buffer of device `c` is in `m'` as it is in `m`. -/
abbrev Same (m m' : (ℓ : Loc nD τ sig) → Buf Val ℓ) (c : Dev nD) (b : Ref sig .tc) : Prop :=
  m' ((c.tc : Thread nD τ).loc b) = m ((c.tc : Thread nD τ).loc b)

end Cert.Hand

end
-- ==== Proof.BwdIn.Body.lean ====
/- The body of the kernel as a function on the contents of its blocks and scratch arrays, written with the loops that
   the printed program spells out. `body_eq` says that the two are one program. -/
module

public import proofs.«01_k».proof.Proof.Gen.KernelIdeal
public import proofs.«01_k».proof.Proof.Lib.Mem

@[expose] public section

noncomputable section

namespace Cert.BwdIn

open Idealize.ShloMosaic Idealize.SL.Sem Cert.KernelIdeal Cert.Hand Cert.Hand.Mem
open Cert.KernelIdeal.Facts₀ Cert.KernelIdeal.Facts

variable {F : FTy → Type} [FloatOps F]

/-- The grid's points. -/
def point (n : Fin 16) : grid0.Coords := fun a => ⟨n.val, by obtain rfl : a = 0 := Subsingleton.elim _ _; exact n.2⟩

/-- The body's memrefs. -/
inductive Slot where
  | dz | dzc | w | x | dx2 | mod | g | dq | p | gx | sm | dcw | dh | acc | ppad | wacc
  deriving DecidableEq

instance : Fintype Slot :=
  ⟨{.dz, .dzc, .w, .x, .dx2, .mod, .g, .dq, .p, .gx, .sm, .dcw, .dh, .acc, .ppad, .wacc}, fun b => by cases b <;> decide⟩

/-- Each memref's shape -/
@[reducible] def Slot.shape : Slot → Shape
  | .dz => S4x256x1024 | .dzc => S8x2x256x128 | .w => S12x1024x512 | .x => S256x1024 | .dx2 => S256x1024
  | .mod => S1x3072 | .g => S1x1024 | .dq => S1x4096x128 | .p => S1x4096x128 | .gx => S256x1024 | .sm => S8x1024
  | .dcw => S32x128 | .dh => S256x1024 | .acc => S8x8x1024 | .ppad => S1x4128x128 | .wacc => S1x32x8x128

/-- and element type. -/
@[reducible] def Slot.elt : Slot → EltTy
  | .dz => .bf16 | .dzc => .bf16 | .w => .bf16 | .x => .f32 | .dx2 => .f32
  | .mod => .f32 | .g => .f32 | .dq => .f32 | .p => .f32 | .gx => .f32 | .sm => .f32
  | .dcw => .f32 | .dh => .f32 | .acc => .f32 | .ppad => .f32 | .wacc => .f32

/-- The memrefs one run of the body is given. -/
abbrev Args : Type := (b : Slot) → Memref sig .tc .vmem b.shape b.elt

/-- They are one bank. -/
@[reducible] def bank (R : Args) : Bank sig Slot := ⟨Slot.shape, Slot.elt, R⟩

/-- A body on that bank. -/
abbrev Code (F : FTy → Type) (R : Args) (α : Type) : Type := Mem (bank R) (Elt F) α

variable (R : Args) (i : grid0.Coords)

/-! ## The rectangles -/

theorem inb_wacc (o : Fin 32) : ∀ a, (![0, o.val, 0, 0] : Fin 4 → Nat) a + S1x1x8x128.size a ≤ S1x32x8x128.size a := by
  revert o; decide

theorem inb_acc (q : Fin 8) : ∀ a, (![q.val, 0, 0] : Fin 3 → Nat) a + S1x8x1024.size a ≤ S8x8x1024.size a := by
  revert q; decide

theorem inb_w (n : Fin 12) : ∀ a, (![n.val, 0, 0] : Fin 3 → Nat) a + S1x1024x512.size a ≤ S12x1024x512.size a := by
  revert n; decide

theorem inb_dz (j : Fin 4) (h : Fin 2) :
    ∀ a, (![j.val, 0, h.val * 512] : Fin 3 → Nat) a + S1x256x512.size a ≤ S4x256x1024.size a := by
  revert j h; decide

theorem inb_dzc (c : Fin 8) (h : Fin 2) :
    ∀ a, (![c.val, h.val, 0, 0] : Fin 4 → Nat) a + S1x1x256x128.size a ≤ S8x2x256x128.size a := by
  revert c h; decide

theorem inb_dcw (k : Fin 32) : ∀ a, (![k.val, 0] : Fin 2 → Nat) a + S1x128.size a ≤ S32x128.size a := by
  revert k; decide

theorem inb_sm (q : Fin 8) : ∀ a, (![q.val, 0] : Fin 2 → Nat) a + S1x1024.size a ≤ S8x1024.size a := by
  revert q; decide

/-- Row group `o` of the tap sums. -/
@[reducible] def rWacc (o : Fin 32) : Rect S1x32x8x128 := Rect.unit (s := S1x32x8x128) ![0, o.val, 0, 0] S1x1x8x128.size (inb_wacc o)
/-- Row group `q` of the column sums. -/
@[reducible] def rAcc (q : Fin 8) : Rect S8x8x1024 := Rect.unit (s := S8x8x1024) ![q.val, 0, 0] S1x8x1024.size (inb_acc q)
/-- Column block `n` of the weights. -/
@[reducible] def rW (n : Fin 12) : Rect S12x1024x512 := Rect.unit (s := S12x1024x512) ![n.val, 0, 0] S1x1024x512.size (inb_w n)
/-- One half of one of the four gradients. -/
@[reducible] def rDz (j : Fin 4) (h : Fin 2) : Rect S4x256x1024 :=
  Rect.unit (s := S4x256x1024) ![j.val, 0, h.val * 512] S1x256x512.size (inb_dz j h)
/-- One channel block of one of the two gradients kept by channel blocks. -/
@[reducible] def rDzc (c : Fin 8) (h : Fin 2) : Rect S8x2x256x128 :=
  Rect.unit (s := S8x2x256x128) ![c.val, h.val, 0, 0] S1x1x256x128.size (inb_dzc c h)
/-- A tile of 128 rows. -/
@[reducible] def rTile (t : Fin 16) : Rect S1x4096x128 :=
  Rect.unit (s := S1x4096x128) (k0_off1 i (BitVec.ofNat 32 t.val)) S1x128x128.size (k0_off1_inb i t)
/-- The tile shifted by a tap. -/
@[reducible] def rTap (t : Fin 16) (o : Fin 31) : Rect S1x4128x128 :=
  Rect.unit (s := S1x4128x128) (k0_off2 i (BitVec.ofNat 32 t.val) (BitVec.ofNat 32 (1 + o.val))) S1x128x128.size (k0_off2_inb i t o)
/-- Sixteen rows. -/
@[reducible] def rRows (r : Fin 16) : Rect S256x1024 :=
  Rect.unit (s := S256x1024) (k0_off3 (BitVec.ofNat 32 r.val)) S16x1024.size (k0_off3_inb r)
/-- A row of the tap sums' output. -/
@[reducible] def rDcw (k : Fin 32) : Rect S32x128 := Rect.unit (s := S32x128) ![k.val, 0] S1x128.size (inb_dcw k)
/-- A row of the column sums' output. -/
@[reducible] def rSm (q : Fin 8) : Rect S8x1024 := Rect.unit (s := S8x1024) ![q.val, 0] S1x1024.size (inb_sm q)

/-- A load of a rectangle of a memref. -/
@[reducible] def ld (b : Slot) (r : Rect b.shape) (h : 0 < r.shape.numel) : Code F R (r.shape.Idx → Elt F b.elt) :=
  rd (A := bank R) b r (View.loadsAt_vmem h)

/-- A store over a rectangle of a memref. -/
@[reducible] def st (b : Slot) (r : Rect b.shape) (w : r.shape.Idx → Elt F b.elt) (h : 0 < r.shape.numel)
    (he : b.elt.bits = 32) : Code F R PUnit :=
  wr (A := bank R) b r w (View.stores_vmem_bits_univ h he)

/-! ## The parts of the body -/

/-- Before the first point the column sums are zero. -/
def zeroAcc : Code F R PUnit := do
  let _ ← ld R .acc (Rect.unit (s := S8x8x1024) ![0, 0, 0] S8x8x1024.size inb_S8x8x1024_S8x8x1024_0_0_0) h_S8x8x1024
  st R .acc (Rect.unit (s := S8x8x1024) ![0, 0, 0] S8x8x1024.size inb_S8x8x1024_S8x8x1024_0_0_0)
    (shapeCast S8x8x1024 (broadcast S8x8x1024 (Scalar.ofBits .f32 0x00000000#32)) shapeCasts_S8x8x1024_S8x8x1024)
    h_S8x8x1024 rfl

/-- At a channel block's first point its rows are staged between zero rows and its tap sums are zero. -/
def stage : Code F R PUnit := do
  let _ ← ld R .ppad (Rect.unit (s := S1x4128x128) ![0, 0, 0] S1x16x128.size inb_S1x4128x128_S1x16x128_0_0_0) h_S1x16x128
  st R .ppad (Rect.unit (s := S1x4128x128) ![0, 0, 0] S1x16x128.size inb_S1x4128x128_S1x16x128_0_0_0)
    (shapeCast S1x16x128 (broadcast S16x128 (Scalar.ofBits .f32 0x00000000#32)) shapeCasts_S16x128_S1x16x128)
    h_S1x16x128 rfl
  let _ ← ld R .ppad (Rect.unit (s := S1x4128x128) ![0, 4112, 0] S1x16x128.size inb_S1x4128x128_S1x16x128_0_4112_0) h_S1x16x128
  st R .ppad (Rect.unit (s := S1x4128x128) ![0, 4112, 0] S1x16x128.size inb_S1x4128x128_S1x16x128_0_4112_0)
    (shapeCast S1x16x128 (broadcast S16x128 (Scalar.ofBits .f32 0x00000000#32)) shapeCasts_S16x128_S1x16x128)
    h_S1x16x128 rfl
  let v ← ld R .p (Rect.unit (s := S1x4096x128) ![0, 0, 0] S1x4096x128.size inb_S1x4096x128_S1x4096x128_0_0_0) h_S1x4096x128
  let _ ← ld R .ppad (Rect.unit (s := S1x4128x128) ![0, 16, 0] S1x4096x128.size inb_S1x4128x128_S1x4096x128_0_16_0) h_S1x4096x128
  st R .ppad (Rect.unit (s := S1x4128x128) ![0, 16, 0] S1x4096x128.size inb_S1x4128x128_S1x4096x128_0_16_0)
    (shapeCast S1x4096x128 (shapeCast S4096x128 v shapeCasts_S1x4096x128_S4096x128) shapeCasts_S4096x128_S1x4096x128)
    h_S1x4096x128 rfl
  let _ ← ld R .wacc (Rect.unit (s := S1x32x8x128) ![0, 0, 0, 0] S1x32x8x128.size inb_S1x32x8x128_S1x32x8x128_0_0_0_0) h_S1x32x8x128
  st R .wacc (Rect.unit (s := S1x32x8x128) ![0, 0, 0, 0] S1x32x8x128.size inb_S1x32x8x128_S1x32x8x128_0_0_0_0)
    (shapeCast S1x32x8x128 (broadcast S1x32x8x128 (Scalar.ofBits .f32 0x00000000#32)) shapeCasts_S1x32x8x128_S1x32x8x128)
    h_S1x32x8x128 rfl

/-- A tile's rows added up by groups of sixteen onto eight rows. -/
def fold8 (v : FVec F S128x128 .f32) : FVec F S8x128 .f32 :=
  multiReduction .add [0] S8x128 (shapeCast S16x8x128 v shapeCasts_S128x128_S16x8x128) 0x00000000#32 reduces_S16x8x128_S8x128 (.inl rfl) rfl

/-- One tap of one tile: the tile's products with the shifted rows, added to the tap's sums. -/
def tap (t : Fin 16) (d : FVec F S128x128 .f32) (o : Fin 31) : Code F R PUnit := do
  let a ← ld R .wacc (rWacc o.castSucc) h_S1x1x8x128
  let b ← ld R .ppad (rTap i t o) h_S1x128x128
  let _ ← ld R .wacc (rWacc o.castSucc) h_S1x1x8x128
  st R .wacc (rWacc o.castSucc)
    (shapeCast S1x1x8x128 (addf (shapeCast S8x128 a shapeCasts_S1x1x8x128_S8x128)
      (fold8 (mulf d (shapeCast S128x128 b shapeCasts_S1x128x128_S128x128)))) shapeCasts_S8x128_S1x1x8x128)
    h_S1x1x8x128 rfl

/-- The last row group sums the tile itself. -/
def tapBias (d : FVec F S128x128 .f32) : Code F R PUnit := do
  let a ← ld R .wacc (rWacc 31) h_S1x1x8x128
  let _ ← ld R .wacc (rWacc 31) h_S1x1x8x128
  st R .wacc (rWacc 31)
    (shapeCast S1x1x8x128 (addf (shapeCast S8x128 a shapeCasts_S1x1x8x128_S8x128) (fold8 d)) shapeCasts_S8x128_S1x1x8x128)
    h_S1x1x8x128 rfl

/-- One tile: its taps, and its own sum. -/
def tile (t : Fin 16) : Code F R PUnit := do
  let v ← ld R .dq (rTile i t) h_S1x128x128
  steps (tap R i t (shapeCast S128x128 v shapeCasts_S1x128x128_S128x128))
  tapBias R (shapeCast S128x128 v shapeCasts_S1x128x128_S128x128)

/-- The gradient a product takes, from the four kept by rows, -/
def lhsRow (j : Fin 4) (h : Fin 2) : Code F R (FVec F S256x512 .bf16) := do
  let v ← ld R .dz (rDz j h) h_S1x256x512
  pure (shapeCast S256x512 v shapeCasts_S1x256x512_S256x512)

/-- and from the two kept by channel blocks. -/
def lhsCol (q h : Fin 2) : Code F R (FVec F S256x512 .bf16) := do
  let a ← ld R .dzc (rDzc ⟨4 * h.val + 0, by omega⟩ q) h_S1x1x256x128
  let b ← ld R .dzc (rDzc ⟨4 * h.val + 1, by omega⟩ q) h_S1x1x256x128
  let c ← ld R .dzc (rDzc ⟨4 * h.val + 2, by omega⟩ q) h_S1x1x256x128
  let d ← ld R .dzc (rDzc ⟨4 * h.val + 3, by omega⟩ q) h_S1x1x256x128
  pure (concatenate S256x512 1 [⟨S256x128, shapeCast S256x128 a shapeCasts_S1x1x256x128_S256x128⟩,
    ⟨S256x128, shapeCast S256x128 b shapeCasts_S1x1x256x128_S256x128⟩, ⟨S256x128, shapeCast S256x128 c shapeCasts_S1x1x256x128_S256x128⟩,
    ⟨S256x128, shapeCast S256x128 d shapeCasts_S1x1x256x128_S256x128⟩] concatenates_S256x128_S256x128_S256x128_S256x128_S256x512_d1)

/-- A product with a column block of the weights, added to what the products before it gave. -/
def dot (n : Fin 12) (l : Code F R (FVec F S256x512 .bf16)) (dh : FVec F S256x1024 .f32) : Code F R (FVec F S256x1024 .f32) := do
  let a ← l
  let b ← ld R .w (rW n) h_S1x1024x512
  pure (addf dh (matmul dot_S256x512_S1024x512_S256x1024_1_1_0_0_n_n none a
    (shapeCast S1024x512 b shapeCasts_S1x1024x512_S1024x512) (constant S256x1024 .f32 0x00000000#32)))

/-- The twelve products, the sixteen tiles between them. -/
def products : Code F R (FVec F S256x1024 .f32) := do
  let d ← dot R 4 (lhsRow R 0 0) (broadcast S256x1024 (Scalar.ofBits .f32 0x00000000#32))
  tile R i 0
  let d ← dot R 5 (lhsRow R 0 1) d
  tile R i 1
  let d ← dot R 6 (lhsRow R 1 0) d
  tile R i 2
  tile R i 3
  let d ← dot R 7 (lhsRow R 1 1) d
  tile R i 4
  let d ← dot R 8 (lhsRow R 2 0) d
  tile R i 5
  let d ← dot R 9 (lhsRow R 2 1) d
  tile R i 6
  tile R i 7
  let d ← dot R 10 (lhsRow R 3 0) d
  tile R i 8
  let d ← dot R 11 (lhsRow R 3 1) d
  tile R i 9
  let d ← dot R 0 (lhsCol R 0 0) d
  tile R i 10
  tile R i 11
  let d ← dot R 1 (lhsCol R 0 1) d
  tile R i 12
  let d ← dot R 2 (lhsCol R 1 0) d
  tile R i 13
  let d ← dot R 3 (lhsCol R 1 1) d
  tile R i 14
  tile R i 15
  pure d

/-- What the products gave is kept. -/
def keep (d : FVec F S256x1024 .f32) : Code F R PUnit := do
  let _ ← ld R .dh (Rect.unit (s := S256x1024) ![0, 0] S256x1024.size inb_S256x1024_S256x1024_0_0) h_S256x1024
  st R .dh (Rect.unit (s := S256x1024) ![0, 0] S256x1024.size inb_S256x1024_S256x1024_0_0)
    (shapeCast S256x1024 d shapeCasts_S256x1024_S256x1024) h_S256x1024 rfl

/-- A channel block's tap sums are written at its last point, a row each. -/
def outDcw (k : Fin 32) : Code F R PUnit := do
  let a ← ld R .wacc (rWacc k) h_S1x1x8x128
  let _ ← ld R .dcw (rDcw k) h_S1x128
  st R .dcw (rDcw k)
    (shapeCast S1x128 (multiReduction .add [0] S128 (shapeCast S8x128 a shapeCasts_S1x1x8x128_S8x128) 0x00000000#32 reduces_S8x128_S128 (.inl rfl) rfl)
      shapeCasts_S128_S1x128) h_S1x128 rfl

/-- The column sums are written at the last point, a row each. -/
def outSm (q : Fin 8) : Code F R PUnit := do
  let a ← ld R .acc (rAcc q) h_S1x8x1024
  let _ ← ld R .sm (rSm q) h_S1x1024
  st R .sm (rSm q)
    (shapeCast S1x1024 (multiReduction .add [0] S1024 (shapeCast S8x1024 a shapeCasts_S1x8x1024_S8x1024) 0x00000000#32 reduces_S8x1024_S1024 (.inl rfl) rfl)
      shapeCasts_S1024_S1x1024) h_S1x1024 rfl

/-- A row of the modulation spread over sixteen. -/
def spread (v : FVec F S1x1024 .f32) : FVec F S16x1024 .f32 := broadcastTo S16x1024 v broadcasts_S1x1024_S16x1024

/-- A value per row spread over its columns. -/
def across (v : FVec F S16x1 .f32) : FVec F S16x1024 .f32 := broadcastTo S16x1024 v broadcasts_S16x1_S16x1024

/-- The mean of each of sixteen rows. -/
def mean (v : FVec F S16x1024 .f32) : FVec F S16x1 .f32 :=
  divf (shapeCast S16x1 (multiReduction .add [1] S16 v 0x00000000#32 reduces_S16x1024_S16 (.inl rfl) rfl) shapeCasts_S16_S16x1)
    (broadcast S16x1 (Scalar.ofBits .f32 0x44800000#32))

/-- One over the root mean square of each of sixteen rows. -/
def invRms (x : FVec F S16x1024 .f32) : FVec F S16x1 .f32 :=
  rsqrt (addf (mean (mulf x x)) (broadcast S16x1 (Scalar.ofBits .f32 0x358637BD#32)))

/-- Sixteen rows added to the column sums `q`. -/
def addCols (q : Fin 8) (v : FVec F S16x1024 .f32) : Code F R PUnit := do
  let a ← ld R .acc (rAcc q) h_S1x8x1024
  let _ ← ld R .acc (rAcc q) h_S1x8x1024
  st R .acc (rAcc q)
    (shapeCast S1x8x1024 (addf (shapeCast S8x1024 a shapeCasts_S1x8x1024_S8x1024)
      (multiReduction .add [0] S8x1024 (shapeCast S2x8x1024 v shapeCasts_S16x1024_S2x8x1024) 0x00000000#32 reduces_S2x8x1024_S8x1024 (.inl rfl) rfl))
      shapeCasts_S8x1024_S1x8x1024) h_S1x8x1024 rfl

/-- The gradient of sixteen rows through the norm. -/
def gradRows (x dh dx2 : FVec F S16x1024 .f32) (s1 g : FVec F S1x1024 .f32) : FVec F S16x1024 .f32 :=
  addf dx2 (mulf (across (invRms x)) (subf (mulf dh (spread (mulf g s1)))
    (mulf (mulf x (across (invRms x))) (across (mean (mulf (mulf dh (spread (mulf g s1))) (mulf x (across (invRms x)))))))))

/-- Sixteen rows: their share of the column sums, and their gradient. -/
def rowStep (s1 g : FVec F S1x1024 .f32) (r : Fin 16) : Code F R PUnit := do
  let x ← ld R .x (rRows r) h_S16x1024
  let dh ← ld R .dh (rRows r) h_S16x1024
  addCols R 0 dh
  addCols R 1 (mulf dh (mulf (mulf x (across (invRms x))) (spread g)))
  addCols R 2 (mulf (mulf dh (spread s1)) (mulf x (across (invRms x))))
  let dx2 ← ld R .dx2 (rRows r) h_S16x1024
  let _ ← ld R .gx (rRows r) h_S16x1024
  st R .gx (rRows r) (gradRows x dh dx2 s1 g) h_S16x1024 rfl

/-- All rows of the block. -/
def rows : Code F R PUnit := do
  let s ← ld R .mod (Rect.unit (s := S1x3072) ![0, 1024] S1x1024.size inb_S1x3072_S1x1024_0_1024) h_S1x1024
  let g ← ld R .g (Rect.unit (s := S1x1024) ![0, 0] S1x1024.size inb_S1x1024_S1x1024_0_0) h_S1x1024
  steps (rowStep R (addf (broadcast S1x1024 (Scalar.ofBits .f32 0x3F800000#32)) (shapeCast S1x1024 s shapeCasts_S1x1024_S1x1024))
    (shapeCast S1x1024 g shapeCasts_S1x1024_S1x1024))

/-- The body. -/
def code : Code F R PUnit := do
  if (i 0).val = 0 then zeroAcc R else pure ⟨⟩
  if (i 0).val % 2 = 0 then stage R else pure ⟨⟩
  let d ← products R i
  keep R d
  if (i 0).val % 2 = 1 then steps (outDcw R) else pure ⟨⟩
  rows R
  if (i 0).val = 15 then steps (outSm R) else pure ⟨⟩

/-! ## Where the tiles lie, at each grid point -/

theorem off1_eq : ∀ n t : Fin 16, k0_off1 (point n) (BitVec.ofNat 32 t.val) = ![0, (n.val % 2 * 16 + t.val) * 128, 0] := by
  decide +kernel

theorem off2_eq : ∀ (n t : Fin 16) (o : Fin 31), k0_off2 (point n) (BitVec.ofNat 32 t.val) (BitVec.ofNat 32 (1 + o.val))
    = ![0, (n.val % 2 * 16 + t.val) * 128 + o.val + 1, 0] := by
  decide +kernel

theorem off3_eq : ∀ r : Fin 16, k0_off3 (BitVec.ofNat 32 r.val) = ![r.val * 16, 0] := by
  decide +kernel

/-! ## The printed body is the body with loops -/

/-- What the printed body is to be at a point. -/
def IsCode (F : FTy → Type) [FloatOps F] (i : grid0.Coords) : Prop :=
  ∀ (R : Args) (h : ∀ b, (R b).IsWhole),
    cc0_bwd_in (F := F) i (R .dz) (h _) (R .dzc) (h _) (R .w) (h _) (R .x) (h _) (R .dx2) (h _) (R .mod) (h _) (R .g) (h _)
      (R .dq) (h _) (R .p) (h _) (R .gx) (h _) (R .sm) (h _) (R .dcw) (h _) (R .dh) (h _) (R .acc) (h _) (R .ppad) (h _) (R .wacc) (h _)
      = toProg (code R i)

theorem body_eq (n : Fin 16) : IsCode F (point n) := by
  fin_cases n <;> (intro R h; sl_kernel_rfl)

end Cert.BwdIn

end
-- ==== Proof.Lib.Steps.lean ====
/- A rectangle of an array overwritten at every step of a run, the steps' rectangles apart from each other. -/
module

public import proofs.«01_k».proof.Proof.Lib.Mem

@[expose] public section

noncomputable section

namespace Cert.Hand

open Idealize.ShloMosaic

/-- `X` is an array before each of `N` steps, the `k`-th of which writes `w k` over the rectangle `r k`. If every step
    writes there what `G` holds whenever the rectangle still holds what it held at the start, and `G` is the start
    outside the rectangles, the array ends as `G`. -/
theorem overlay_steps {s : Shape} {V : Type} {N : ℕ} (r : Fin N → Rect s) (X : ℕ → s.Idx → V)
    (w : (k : Fin N) → (s.Idx → V) → (r k).shape.Idx → V) (G : s.Idx → V)
    (hX : ∀ k : Fin N, X (k.val + 1) = (r k).overlay (X k.val) (w k (X k.val)))
    (hw : ∀ (k : Fin N) (Y : s.Idx → V), (∀ x, Y ((r k).emb x) = X 0 ((r k).emb x)) → ∀ x, w k Y x = G ((r k).emb x))
    (apart : ∀ (k k' : Fin N) x x', (r k).emb x = (r k').emb x' → k = k')
    (cover : ∀ j, (∃ k x, (r k).emb x = j) ∨ G j = X 0 j) : X N = G := by
  have key : ∀ n, n ≤ N → ∀ j, X n j = if (∃ (k : Fin N) (x : _), k.val < n ∧ (r k).emb x = j) then G j else X 0 j := by
    classical
    intro n
    induction n with
    | zero => intro _ j; rw [if_neg]; rintro ⟨k, x, h, -⟩; exact absurd h (Nat.not_lt_zero _)
    | succ n ih =>
      intro hn j
      have hk := hX ⟨n, hn⟩
      dsimp only at hk
      rw [hk]
      by_cases hj : ∃ x, (r ⟨n, hn⟩).emb x = j
      · obtain ⟨x, rfl⟩ := hj
        rw [Rect.overlay_emb, if_pos ⟨⟨n, hn⟩, x, Nat.lt_succ_self n, rfl⟩]
        refine hw _ _ (fun y => ?_) x
        rw [ih (by omega), if_neg]
        rintro ⟨k, x', h, e⟩
        have := congrArg Fin.val (apart _ _ _ _ e)
        dsimp only at this
        omega
      · rw [Rect.overlay_of_not_mem, ih (by omega)]
        · congr 1
          apply propext
          constructor
          · rintro ⟨k, x, h, e⟩; exact ⟨k, x, by omega, e⟩
          · rintro ⟨k, x, h, e⟩
            refine ⟨k, x, ?_, e⟩
            rcases Nat.lt_succ_iff_lt_or_eq.mp h with h | h
            · exact h
            · obtain rfl : k = ⟨n, hn⟩ := Fin.ext h
              exact absurd ⟨x, e⟩ hj
        · intro h
          obtain ⟨x, e⟩ := (r ⟨n, hn⟩).exists_idx_of_mem h
          exact hj ⟨x, e⟩
  funext j
  classical
  rw [key N le_rfl]
  split
  · rfl
  · rename_i h
    rcases cover j with ⟨k, x, e⟩ | h'
    · exact absurd ⟨k, x, k.2, e⟩ h
    · exact h'.symm

/-- One rectangle that covers the array. -/
theorem overlay_all {s : Shape} {V : Type} (r : Rect s) (X : s.Idx → V) (w : r.shape.Idx → V) (G : s.Idx → V)
    (h : ∀ x, w x = G (r.emb x)) (cover : ∀ j, ∃ x, r.emb x = j) : r.overlay X w = G := by
  funext j
  obtain ⟨x, rfl⟩ := cover j
  rw [Rect.overlay_emb, h]

/-- One rectangle, the rest of the array as it was. -/
theorem overlay_eq {s : Shape} {V : Type} (r : Rect s) (X : s.Idx → V) (w : r.shape.Idx → V) (G : s.Idx → V)
    (h : ∀ x, w x = G (r.emb x)) (rest : ∀ j, j ∉ r.set → X j = G j) : r.overlay X w = G := by
  funext j
  by_cases hj : j ∈ r.set
  · obtain ⟨x, rfl⟩ := r.exists_idx_of_mem hj
    change r.overlay X w (r.emb x) = G (r.emb x)
    rw [Rect.overlay_emb, h]
  · rw [Rect.overlay_of_not_mem _ _ _ hj, rest j hj]

end Cert.Hand

end
-- ==== Proof.BwdIn.Run.lean ====
/- What the body leaves in each memref, as a function of what it finds there. -/
module

public import proofs.«01_k».proof.Proof.BwdIn.Body
public import proofs.«01_k».proof.Proof.Lib.Steps
public import Idealize.ShloMosaic.Lib.PointwiseCore

@[expose] public section

noncomputable section

namespace Cert.BwdIn

open Idealize.ShloMosaic Idealize.SL.Sem Cert.KernelIdeal Cert.Hand Cert.Hand.Mem
open Cert.KernelIdeal.Facts₀ Cert.KernelIdeal.Facts

variable {F : FTy → Type} [FloatOps F]

/-- What the memrefs hold. -/
abbrev St (F : FTy → Type) : Type := (b : Slot) → b.shape.Idx → Elt F b.elt

/-- Zero. -/
abbrev zero : F .f32 := Scalar.ofBits .f32 0x00000000#32

/-! ## The taps of a channel block -/

/-- A tile of a channel block -/
def tileOf (n t : Fin 16) (X : S1x4096x128.Idx → F .f32) : FVec F S128x128 .f32 :=
  fun j => X (ix3 0 ⟨(n.val % 2 * 16 + t.val) * 128 + (j 0).val, by have := (j 0).isLt; change (j 0).val < 128 at this; omega⟩ (j 1))

/-- and of the staged rows at a tap's shift. -/
def shiftOf (n t : Fin 16) (o : Fin 31) (X : S1x4128x128.Idx → F .f32) : FVec F S128x128 .f32 :=
  fun j => X (ix3 0 ⟨(n.val % 2 * 16 + t.val) * 128 + o.val + 1 + (j 0).val, by have := (j 0).isLt; change (j 0).val < 128 at this; omega⟩ (j 1))

/-- What a tile adds to row group `o`. -/
def tileSum (n t : Fin 16) (d : FVec F S128x128 .f32) (P : S1x4128x128.Idx → F .f32) (o : Fin 32) : FVec F S8x128 .f32 :=
  if h : o.val < 31 then fold8 (mulf d (shiftOf n t ⟨o.val, h⟩ P)) else fold8 d

/-- The tap sums after a tile. -/
def tileStep (n t : Fin 16) (dq : S1x4096x128.Idx → F .f32) (P : S1x4128x128.Idx → F .f32) (W : S1x32x8x128.Idx → F .f32) :
    S1x32x8x128.Idx → F .f32 :=
  fun j => FloatOps.addf (W j) (tileSum n t (tileOf n t dq) P (j 1) (ix2 (j 2) (j 3)))

/-- The tap sums after the first `k` tiles. -/
def tapsAt (n : Fin 16) (dq : S1x4096x128.Idx → F .f32) (P : S1x4128x128.Idx → F .f32) (W : S1x32x8x128.Idx → F .f32) :
    ℕ → S1x32x8x128.Idx → F .f32
  | 0 => W
  | k + 1 => if h : k < 16 then tileStep n ⟨k, h⟩ dq P (tapsAt n dq P W k) else tapsAt n dq P W k

variable (R : Args) (S : St F)

theorem emb_wacc (o : Fin 32) (x : S1x1x8x128.Idx) : (rWacc o).emb x = ix4 0 o (x 2) (x 3) := by
  funext a
  apply Fin.ext
  rw [Rect.emb_apply]
  idx_vars x
  fin_cases a <;> simp [ix4] <;> rfl

theorem tile_eq (n t : Fin 16) (X : S1x4096x128.Idx → F .f32) :
    shapeCast S128x128 (fun x : S1x128x128.Idx => X ((rTile (point n) t).emb x)) shapeCasts_S1x128x128_S128x128 = tileOf n t X := by
  funext j
  pointwise [tileOf]
  congr 1
  funext a
  apply Fin.ext
  rw [Rect.emb_apply, Rect.off_unit, off1_eq]
  fin_cases a <;> simp [ix3] <;> rfl

theorem shift_eq (n t : Fin 16) (o : Fin 31) (X : S1x4128x128.Idx → F .f32) :
    shapeCast S128x128 (fun x : S1x128x128.Idx => X ((rTap (point n) t o).emb x)) shapeCasts_S1x128x128_S128x128 = shiftOf n t o X := by
  funext j
  pointwise [shiftOf]
  congr 1
  funext a
  apply Fin.ext
  rw [Rect.emb_apply, Rect.off_unit, off2_eq]
  fin_cases a <;> simp [ix3] <;> rfl

/-- What row group `o` is overwritten with. -/
def tapW (n t : Fin 16) (d : FVec F S128x128 .f32) (P : S1x4128x128.Idx → F .f32) (o : Fin 32) (Y : S1x32x8x128.Idx → F .f32) :
    S1x1x8x128.Idx → F .f32 :=
  shapeCast S1x1x8x128 (addf (shapeCast S8x128 (fun x : S1x1x8x128.Idx => Y ((rWacc o).emb x)) shapeCasts_S1x1x8x128_S8x128) (tileSum n t d P o))
    shapeCasts_S8x128_S1x1x8x128

/-- The tap sums after the first `k` row groups of a tile. -/
def tapX (n t : Fin 16) (d : FVec F S128x128 .f32) (P : S1x4128x128.Idx → F .f32) (W : S1x32x8x128.Idx → F .f32) : ℕ → S1x32x8x128.Idx → F .f32
  | 0 => W
  | k + 1 => if h : k < 32 then (rWacc ⟨k, h⟩).overlay (tapX n t d P W k) (tapW n t d P ⟨k, h⟩ (tapX n t d P W k)) else tapX n t d P W k

theorem run_tap (n t : Fin 16) (d : FVec F S128x128 .f32) (o : Fin 31) :
    (run (tap R (point n) t d o) S).2 = Function.update S .wacc
      ((rWacc o.castSucc).overlay (S .wacc) (tapW n t d (S .ppad) o.castSucc (S .wacc))) := by
  unfold tapW tileSum
  rw [dif_pos (show o.castSucc.val < 31 from o.2), ← shift_eq]
  rfl

theorem run_tapBias (n t : Fin 16) (d : FVec F S128x128 .f32) :
    (run (tapBias R d) S).2 = Function.update S .wacc ((rWacc 31).overlay (S .wacc) (tapW n t d (S .ppad) 31 (S .wacc))) := by
  unfold tapW tileSum
  rw [dif_neg (by decide)]
  rfl

theorem tapX_end (n t : Fin 16) (dq : S1x4096x128.Idx → F .f32) (P : S1x4128x128.Idx → F .f32) (W : S1x32x8x128.Idx → F .f32) :
    tapX n t (tileOf n t dq) P W 32 = tileStep n t dq P W := by
  refine overlay_steps (N := 32) rWacc _ (fun k Y => tapW n t (tileOf n t dq) P k Y) _ (fun k => ?_) (fun k Y hY x => ?_) (fun k k' x x' h => ?_) (fun j => ?_)
  · rw [tapX, dif_pos k.2]
  · change tapW n t (tileOf n t dq) P k Y x = _
    unfold tapW
    rw [show (fun x : S1x1x8x128.Idx => Y ((rWacc k).emb x)) = fun x : S1x1x8x128.Idx => W ((rWacc k).emb x) from funext hY]
    rw [emb_wacc]
    pointwise [tileStep, emb_wacc]
  · have := congrFun h 1
    rw [emb_wacc, emb_wacc] at this
    exact this
  · obtain ⟨a, b, c, d, rfl⟩ := four j
    exact .inl ⟨b, ix4 0 0 c d, by rw [emb_wacc, Subsingleton.elim a 0]; rfl⟩

theorem run_taps (n t : Fin 16) (d : FVec F S128x128 .f32) :
    (run (steps (tap R (point n) t d)) S).2 = Function.update S .wacc (tapX n t d (S .ppad) (S .wacc) 31) := by
  have h0 : Function.update S Slot.wacc (tapX n t d (S .ppad) (S .wacc) 0) = S := Function.update_eq_self _ _
  have := run_steps (tap R (point n) t d) (fun k => Function.update S Slot.wacc (tapX n t d (S .ppad) (S .wacc) k)) (fun k => by
    dsimp only
    rw [run_tap, Function.update_idem, Function.update_self, Function.update_of_ne (show Slot.ppad ≠ Slot.wacc by decide),
      tapX, dif_pos (show k.val < 32 by omega)]
    rfl)
  dsimp only at this
  rwa [h0] at this

theorem run_tile (n t : Fin 16) :
    (run (tile R (point n) t) S).2 = Function.update S .wacc (tileStep n t (S .dq) (S .ppad) (S .wacc)) := by
  have h : (run (tile R (point n) t) S).2 = (run (tapBias R (shapeCast S128x128 (fun x : S1x128x128.Idx => S .dq ((rTile (point n) t).emb x)) shapeCasts_S1x128x128_S128x128))
      (run (steps (tap R (point n) t (shapeCast S128x128 (fun x : S1x128x128.Idx => S .dq ((rTile (point n) t).emb x)) shapeCasts_S1x128x128_S128x128))) S).2).2 := by
    unfold tile
    rw [run_bind, run_bind]
    rfl
  rw [h, tile_eq, run_taps, run_tapBias R _ n t, Function.update_idem, Function.update_self,
    Function.update_of_ne (show Slot.ppad ≠ Slot.wacc by decide), ← tapX_end]
  conv_rhs => rw [tapX, dif_pos (by decide)]
  rfl

end Cert.BwdIn

end
-- ==== Proof.BwdIn.Run2.lean ====
/- The rest of the body's parts: the products, the staging, the rows and the two outputs of sums. -/
module

public import proofs.«01_k».proof.Proof.BwdIn.Run

@[expose] public section

noncomputable section

namespace Cert.BwdIn

open Idealize.ShloMosaic Idealize.SL.Sem Cert.KernelIdeal Cert.Hand Cert.Hand.Mem
open Cert.KernelIdeal.Facts₀ Cert.KernelIdeal.Facts

variable {F : FTy → Type} [FloatOps F]
variable (R : Args) (S : St F)

/-! ## The products -/

/-- One product added to those before it. -/
def dotStep (m : Fin 12) (l : FVec F S256x512 .bf16) (Wt : S12x1024x512.Idx → F .bf16) (d : FVec F S256x1024 .f32) : FVec F S256x1024 .f32 :=
  addf d (matmul dot_S256x512_S1024x512_S256x1024_1_1_0_0_n_n none l
    (shapeCast S1024x512 (fun x : S1x1024x512.Idx => Wt ((rW m).emb x)) shapeCasts_S1x1024x512_S1024x512) (constant S256x1024 .f32 0x00000000#32))

/-- Its left factor, from the four gradients kept by rows, -/
def rowL (j : Fin 4) (h : Fin 2) (Z : S4x256x1024.Idx → F .bf16) : FVec F S256x512 .bf16 :=
  shapeCast S256x512 (fun x : S1x256x512.Idx => Z ((rDz j h).emb x)) shapeCasts_S1x256x512_S256x512

/-- and from the two kept by channel blocks. -/
def colL (q h : Fin 2) (Z : S8x2x256x128.Idx → F .bf16) : FVec F S256x512 .bf16 :=
  concatenate S256x512 1 [
    ⟨S256x128, shapeCast S256x128 (fun x : S1x1x256x128.Idx => Z ((rDzc ⟨4 * h.val + 0, by omega⟩ q).emb x)) shapeCasts_S1x1x256x128_S256x128⟩,
    ⟨S256x128, shapeCast S256x128 (fun x : S1x1x256x128.Idx => Z ((rDzc ⟨4 * h.val + 1, by omega⟩ q).emb x)) shapeCasts_S1x1x256x128_S256x128⟩,
    ⟨S256x128, shapeCast S256x128 (fun x : S1x1x256x128.Idx => Z ((rDzc ⟨4 * h.val + 2, by omega⟩ q).emb x)) shapeCasts_S1x1x256x128_S256x128⟩,
    ⟨S256x128, shapeCast S256x128 (fun x : S1x1x256x128.Idx => Z ((rDzc ⟨4 * h.val + 3, by omega⟩ q).emb x)) shapeCasts_S1x1x256x128_S256x128⟩]
    concatenates_S256x128_S256x128_S256x128_S256x128_S256x512_d1

/-- What the twelve products give. -/
def dhOf (Z : S4x256x1024.Idx → F .bf16) (C : S8x2x256x128.Idx → F .bf16) (Wt : S12x1024x512.Idx → F .bf16) : FVec F S256x1024 .f32 :=
  dotStep 3 (colL 1 1 C) Wt <| dotStep 2 (colL 1 0 C) Wt <| dotStep 1 (colL 0 1 C) Wt <| dotStep 0 (colL 0 0 C) Wt <|
  dotStep 11 (rowL 3 1 Z) Wt <| dotStep 10 (rowL 3 0 Z) Wt <| dotStep 9 (rowL 2 1 Z) Wt <| dotStep 8 (rowL 2 0 Z) Wt <|
  dotStep 7 (rowL 1 1 Z) Wt <| dotStep 6 (rowL 1 0 Z) Wt <| dotStep 5 (rowL 0 1 Z) Wt <| dotStep 4 (rowL 0 0 Z) Wt <|
  broadcast S256x1024 zero

theorem run_dotRow (m : Fin 12) (j : Fin 4) (h : Fin 2) (d : FVec F S256x1024 .f32) :
    run (dot R m (lhsRow R j h) d) S = (dotStep m (rowL j h (S .dz)) (S .w) d, S) := rfl

theorem run_dotCol (m : Fin 12) (q h : Fin 2) (d : FVec F S256x1024 .f32) :
    run (dot R m (lhsCol R q h) d) S = (dotStep m (colL q h (S .dzc)) (S .w) d, S) := rfl

theorem upd_ne {b : Slot} (X : b.shape.Idx → Elt F b.elt) (b' : Slot) (h : b' ≠ b) : Function.update S b X b' = S b' :=
  Function.update_of_ne h _ _

theorem run_products (n : Fin 16) : run (products R (point n)) S
    = (dhOf (S .dz) (S .dzc) (S .w), Function.update S .wacc (tapsAt n (S .dq) (S .ppad) (S .wacc) 16)) := by
  unfold products
  simp only [run_bind, run_dotRow, run_dotCol, run_tile, run_pure, Function.update_idem, Function.update_self,
    upd_ne S _ .dz (show Slot.dz ≠ .wacc by decide), upd_ne S _ .dzc (show Slot.dzc ≠ .wacc by decide), upd_ne S _ .w (show Slot.w ≠ .wacc by decide),
    upd_ne S _ .dq (show Slot.dq ≠ .wacc by decide), upd_ne S _ .ppad (show Slot.ppad ≠ .wacc by decide)]
  rfl

/-! ## The start of a run and of a channel block -/

theorem run_zeroAcc : (run (zeroAcc R) S).2 = Function.update S .acc (fun _ => zero) := by
  refine (show (run (zeroAcc R) S).2 = Function.update S .acc (Rect.overlay _ (S .acc) _) from rfl).trans (congrArg (Function.update S .acc) ?_)
  refine overlay_all _ _ _ _ (fun x => ?_) (fun j => ⟨j, ?_⟩)
  · pointwise
  · refine emb_eq fun a => ?_; fin_cases a <;> simp

/-- A channel block's rows between zero rows. -/
def stagedOf (X : S1x4096x128.Idx → F .f32) : S1x4128x128.Idx → F .f32 :=
  fun j => if h : 16 ≤ (j 1).val ∧ (j 1).val < 4112 then X (ix3 0 ⟨(j 1).val - 16, by omega⟩ (j 2)) else zero

theorem staged (X : S1x4096x128.Idx → F .f32) (Y : S1x4128x128.Idx → F .f32) (z1 z2 : S1x16x128.Idx → F .f32) (w : S1x4096x128.Idx → F .f32)
    (h1 : ∀ x, z1 x = zero) (h2 : ∀ x, z2 x = zero) (hw : ∀ x, w x = X x) :
    (Rect.unit (s := S1x4128x128) ![0, 16, 0] S1x4096x128.size inb_S1x4128x128_S1x4096x128_0_16_0).overlay
      ((Rect.unit (s := S1x4128x128) ![0, 4112, 0] S1x16x128.size inb_S1x4128x128_S1x16x128_0_4112_0).overlay
        ((Rect.unit (s := S1x4128x128) ![0, 0, 0] S1x16x128.size inb_S1x4128x128_S1x16x128_0_0_0).overlay Y z1) z2) w = stagedOf X := by
  refine overlay_eq _ _ _ _ (fun x => ?_) (fun j hj => ?_)
  · rw [hw]
    obtain ⟨a, b, c, rfl⟩ : ∃ (a : Fin 1) (b : Fin 4096) (c : Fin 128), x = ix3 a b c := ⟨x 0, x 1, x 2, eq_ix3 x⟩
    have e : (Rect.unit (s := S1x4128x128) ![0, 16, 0] S1x4096x128.size inb_S1x4128x128_S1x4096x128_0_16_0).emb (ix3 a b c)
        = ix3 0 ⟨16 + b.val, by omega⟩ c := by
      funext k; apply Fin.ext; rw [Rect.emb_apply]; fin_cases k <;> simp [ix3]
    rw [e]
    unfold stagedOf
    rw [dif_pos ⟨by simp [ix3], by simp only [ix3]; omega⟩]
    congr 1
    funext k; apply Fin.ext; fin_cases k <;> simp [ix3]
  · obtain ⟨a, b, c, rfl⟩ : ∃ (a : Fin 1) (b : Fin 4128) (c : Fin 128), j = ix3 a b c := ⟨j 0, j 1, j 2, eq_ix3 j⟩
    have hb : ¬ (16 ≤ b.val ∧ b.val < 4112) := by
      rintro ⟨p, q⟩
      refine hj (Rect.mem_set_unit.mpr fun k => ?_)
      fin_cases k <;> simp [ix3] <;> omega
    have hs : stagedOf X (ix3 a b c) = zero := dif_neg hb
    rw [hs]
    by_cases p : 4112 ≤ b.val
    · have e : ix3 a b c = (Rect.unit (s := S1x4128x128) ![0, 4112, 0] S1x16x128.size inb_S1x4128x128_S1x16x128_0_4112_0).emb
          (ix3 0 (⟨b.val - 4112, by omega⟩ : Fin 16) c) := by
        funext k; apply Fin.ext; rw [Rect.emb_apply]; fin_cases k <;> simp [ix3]; omega
      rw [e, Rect.overlay_emb, h2]
    · rw [Rect.overlay_of_not_mem]
      · have e : ix3 a b c = (Rect.unit (s := S1x4128x128) ![0, 0, 0] S1x16x128.size inb_S1x4128x128_S1x16x128_0_0_0).emb
            (ix3 0 (⟨b.val, by omega⟩ : Fin 16) c) := by
          funext k; apply Fin.ext; rw [Rect.emb_apply]; fin_cases k <;> simp [ix3]
        rw [e, Rect.overlay_emb, h1]
      · intro h
        have := (Rect.mem_set_unit.mp h 1).1
        simp [ix3] at this
        omega

theorem run_stage : (run (stage R) S).2
    = Function.update (Function.update S .ppad (stagedOf (S .p))) .wacc (fun _ => zero) := by
  refine (show (run (stage R) S).2 = Function.update (Function.update (Function.update (Function.update S .ppad (Rect.overlay _ (S .ppad) _)) .ppad
    (Rect.overlay _ (Rect.overlay _ (S .ppad) _) _)) .ppad (Rect.overlay _ (Rect.overlay _ (Rect.overlay _ (S .ppad) _) _) _)) .wacc (Rect.overlay _ (S .wacc) _) from rfl).trans ?_
  rw [Function.update_idem, Function.update_idem]
  congr 1
  · congr 1
    refine staged (S .p) _ _ _ _ (fun x => ?_) (fun x => ?_) (fun x => ?_)
    · pointwise
    · pointwise
    · pointwise
      refine congrArg (S .p) ?_
      refine emb_eq fun a => ?_; idx_vars x; fin_cases a <;> simp [ix3]
  · refine overlay_all _ _ _ _ (fun x => ?_) (fun j => ⟨j, ?_⟩)
    · pointwise
    · refine emb_eq fun a => ?_; fin_cases a <;> simp

theorem run_keep (d : FVec F S256x1024 .f32) : (run (keep R d) S).2 = Function.update S .dh d := by
  refine (show (run (keep R d) S).2 = Function.update S .dh (Rect.overlay _ (S .dh) _) from rfl).trans (congrArg (Function.update S .dh) ?_)
  refine overlay_all _ _ _ _ (fun x => ?_) (fun j => ⟨j, ?_⟩)
  · pointwise
    refine congrArg d ?_
    funext a; apply Fin.ext; rw [Rect.emb_apply]; idx_vars x; fin_cases a <;> simp [ix2]
  · refine emb_eq fun a => ?_; fin_cases a <;> simp

end Cert.BwdIn

end
-- ==== Proof.BwdIn.Run3.lean ====
/- The rows of a block, the two outputs of sums, and with them the whole body. -/
module

public import proofs.«01_k».proof.Proof.BwdIn.Run2

@[expose] public section

noncomputable section

namespace Cert.BwdIn

open Idealize.ShloMosaic Idealize.SL.Sem Cert.KernelIdeal Cert.Hand Cert.Hand.Mem
open Cert.KernelIdeal.Facts₀ Cert.KernelIdeal.Facts

variable {F : FTy → Type} [FloatOps F]
variable (R : Args) (S : St F)

/-- Steps that each change one memref. -/
theorem run_steps_one {N : ℕ} (b : Slot) (f : Fin N → Code F R PUnit) (X : ℕ → b.shape.Idx → Elt F b.elt) (h0 : X 0 = S b)
    (h : ∀ k : Fin N, (run (f k) (Function.update S b (X k.val))).2 = Function.update S b (X (k.val + 1))) :
    (run (steps f) S).2 = Function.update S b (X N) := by
  have := run_steps f (fun k => Function.update S b (X k)) h
  dsimp only at this
  rwa [h0, Function.update_eq_self] at this

/-! ## The outputs of sums -/

theorem emb_dcw (k : Fin 32) (x : S1x128.Idx) : (rDcw k).emb x = ix2 k (x 1) := by
  funext a
  apply Fin.ext
  rw [Rect.emb_apply]
  idx_vars x
  fin_cases a <;> simp [ix2] <;> rfl

theorem emb_sm (q : Fin 8) (x : S1x1024.Idx) : (rSm q).emb x = ix2 q (x 1) := by
  funext a
  apply Fin.ext
  rw [Rect.emb_apply]
  idx_vars x
  fin_cases a <;> simp [ix2] <;> rfl

theorem emb_acc (q : Fin 8) (x : S1x8x1024.Idx) : (rAcc q).emb x = ix3 q (x 1) (x 2) := by
  funext a
  apply Fin.ext
  rw [Rect.emb_apply]
  idx_vars x
  fin_cases a <;> simp [ix3] <;> rfl

/-- The sum of row group `k` of the tap sums, -/
def dcwRow (W : S1x32x8x128.Idx → F .f32) (k : Fin 32) : FVec F S128 .f32 :=
  multiReduction .add [0] S128 (shapeCast S8x128 (fun x : S1x1x8x128.Idx => W ((rWacc k).emb x)) shapeCasts_S1x1x8x128_S8x128)
    0x00000000#32 reduces_S8x128_S128 (.inl rfl) rfl

/-- and all of them. -/
def dcwOf (W : S1x32x8x128.Idx → F .f32) : S32x128.Idx → F .f32 := fun j => dcwRow W (j 0) (ix1 (j 1))

/-- The sum of row group `q` of the column sums, -/
def smRow (A : S8x8x1024.Idx → F .f32) (q : Fin 8) : FVec F S1024 .f32 :=
  multiReduction .add [0] S1024 (shapeCast S8x1024 (fun x : S1x8x1024.Idx => A ((rAcc q).emb x)) shapeCasts_S1x8x1024_S8x1024)
    0x00000000#32 reduces_S8x1024_S1024 (.inl rfl) rfl

/-- and all of them. -/
def smOf (A : S8x8x1024.Idx → F .f32) : S8x1024.Idx → F .f32 := fun j => smRow A (j 0) (ix1 (j 1))

/-- The tap sums' output after the first `k` rows. -/
def dcwX (W : S1x32x8x128.Idx → F .f32) (Y : S32x128.Idx → F .f32) : ℕ → S32x128.Idx → F .f32
  | 0 => Y
  | k + 1 => if h : k < 32 then (rDcw ⟨k, h⟩).overlay (dcwX W Y k) (shapeCast S1x128 (dcwRow W ⟨k, h⟩) shapeCasts_S128_S1x128) else dcwX W Y k

/-- The column sums' output after the first `k` rows. -/
def smX (A : S8x8x1024.Idx → F .f32) (Y : S8x1024.Idx → F .f32) : ℕ → S8x1024.Idx → F .f32
  | 0 => Y
  | k + 1 => if h : k < 8 then (rSm ⟨k, h⟩).overlay (smX A Y k) (shapeCast S1x1024 (smRow A ⟨k, h⟩) shapeCasts_S1024_S1x1024) else smX A Y k

theorem run_outDcw : (run (steps (outDcw R)) S).2 = Function.update S .dcw (dcwOf (S .wacc)) := by
  rw [run_steps_one R S .dcw (outDcw R) (dcwX (S .wacc) (S .dcw)) rfl fun k => ?_]
  · congr 1
    refine overlay_steps (N := 32) rDcw _ (fun k _ => shapeCast S1x128 (dcwRow (S .wacc) k) shapeCasts_S128_S1x128) _ (fun k => ?_) (fun k Y _ x => ?_)
      (fun k k' x x' h => ?_) (fun j => ?_)
    · rw [dcwX, dif_pos k.2]
    · rw [emb_dcw]
      pointwise [dcwOf]
    · have := congrFun h 0
      rw [emb_dcw, emb_dcw] at this
      exact this
    · exact .inl ⟨j 0, ix2 0 (j 1), (emb_dcw _ _).trans (eq_ix2 j).symm⟩
  · rw [dcwX, dif_pos k.2]
    refine (show _ = Function.update (Function.update S Slot.dcw (dcwX (S .wacc) (S .dcw) k.val)) Slot.dcw (Rect.overlay (rDcw k) (dcwX (S .wacc) (S .dcw) k.val) _) from rfl).trans ?_
    rw [Function.update_idem]
    rfl

theorem run_outSm : (run (steps (outSm R)) S).2 = Function.update S .sm (smOf (S .acc)) := by
  rw [run_steps_one R S .sm (outSm R) (smX (S .acc) (S .sm)) rfl fun k => ?_]
  · congr 1
    refine overlay_steps (N := 8) rSm _ (fun k _ => shapeCast S1x1024 (smRow (S .acc) k) shapeCasts_S1024_S1x1024) _ (fun k => ?_) (fun k Y _ x => ?_)
      (fun k k' x x' h => ?_) (fun j => ?_)
    · rw [smX, dif_pos k.2]
    · rw [emb_sm]
      pointwise [smOf]
    · have := congrFun h 0
      rw [emb_sm, emb_sm] at this
      exact this
    · exact .inl ⟨j 0, ix2 0 (j 1), (emb_sm _ _).trans (eq_ix2 j).symm⟩
  · rw [smX, dif_pos k.2]
    refine (show _ = Function.update (Function.update S Slot.sm (smX (S .acc) (S .sm) k.val)) Slot.sm (Rect.overlay (rSm k) (smX (S .acc) (S .sm) k.val) _) from rfl).trans ?_
    rw [Function.update_idem]
    rfl

/-! ## The rows -/

/-- Sixteen rows of a block. -/
def rowOf (r : Fin 16) (X : S256x1024.Idx → F .f32) : FVec F S16x1024 .f32 :=
  fun j => X (ix2 ⟨r.val * 16 + (j 0).val, by have := (j 0).isLt; change (j 0).val < 16 at this; omega⟩ (j 1))

theorem emb_rows (r : Fin 16) (x : S16x1024.Idx) :
    (rRows r).emb x = ix2 ⟨r.val * 16 + (x 0).val, by have := (x 0).isLt; change (x 0).val < 16 at this; omega⟩ (x 1) := by
  funext a
  apply Fin.ext
  rw [Rect.emb_apply, Rect.off_unit, off3_eq]
  fin_cases a <;> simp [ix2]

theorem row_eq (r : Fin 16) (X : S256x1024.Idx → F .f32) : (fun x : S16x1024.Idx => X ((rRows r).emb x)) = rowOf r X :=
  funext fun x => congrArg X (emb_rows r x)

/-- What sixteen rows add to each of the column sums. -/
def rowVals (s1 g : FVec F S1x1024 .f32) (x dh : FVec F S16x1024 .f32) : Fin 3 → FVec F S16x1024 .f32
  | 0 => dh
  | 1 => mulf dh (mulf (mulf x (across (invRms x))) (spread g))
  | 2 => mulf (mulf dh (spread s1)) (mulf x (across (invRms x)))

/-- Sixteen rows folded to eight. -/
def fold2 (v : FVec F S16x1024 .f32) : FVec F S8x1024 .f32 :=
  multiReduction .add [0] S8x1024 (shapeCast S2x8x1024 v shapeCasts_S16x1024_S2x8x1024) 0x00000000#32 reduces_S2x8x1024_S8x1024 (.inl rfl) rfl

/-- What a row group of the column sums is overwritten with. -/
def addW (q : Fin 8) (v : FVec F S16x1024 .f32) (Y : S8x8x1024.Idx → F .f32) : S1x8x1024.Idx → F .f32 :=
  shapeCast S1x8x1024 (addf (shapeCast S8x1024 (fun x : S1x8x1024.Idx => Y ((rAcc q).emb x)) shapeCasts_S1x8x1024_S8x1024) (fold2 v))
    shapeCasts_S8x1024_S1x8x1024

theorem run_addCols (q : Fin 8) (v : FVec F S16x1024 .f32) :
    (run (addCols R q v) S) = (⟨⟩, Function.update S .acc ((rAcc q).overlay (S .acc) (addW q v (S .acc)))) := rfl

/-- The column sums after sixteen rows. -/
def accStep (s1 g : FVec F S1x1024 .f32) (x dh : FVec F S16x1024 .f32) (A : S8x8x1024.Idx → F .f32) : S8x8x1024.Idx → F .f32 :=
  fun j => if h : (j 0).val < 3 then FloatOps.addf (A j) (fold2 (rowVals s1 g x dh ⟨(j 0).val, h⟩) (ix2 (j 1) (j 2))) else A j

theorem accStep_ix (s1 g : FVec F S1x1024 .f32) (x dh : FVec F S16x1024 .f32) (A : S8x8x1024.Idx → F .f32) (k : Fin 3) (b : Fin 8) (c : Fin 1024) :
    accStep s1 g x dh A (ix3 ⟨k.val, by omega⟩ b c) = FloatOps.addf (A (ix3 ⟨k.val, by omega⟩ b c)) (fold2 (rowVals s1 g x dh k) (ix2 b c)) :=
  dif_pos k.2

/-- The column sums after the first `k` of a row step's three. -/
def accX (v : Fin 3 → FVec F S16x1024 .f32) (A : S8x8x1024.Idx → F .f32) : ℕ → S8x8x1024.Idx → F .f32
  | 0 => A
  | k + 1 => if h : k < 3 then (rAcc ⟨k, by omega⟩).overlay (accX v A k) (addW ⟨k, by omega⟩ (v ⟨k, h⟩) (accX v A k)) else accX v A k

theorem accX_end (s1 g : FVec F S1x1024 .f32) (x dh : FVec F S16x1024 .f32) (A : S8x8x1024.Idx → F .f32) :
    accX (rowVals s1 g x dh) A 3 = accStep s1 g x dh A := by
  refine overlay_steps (N := 3) (fun k => rAcc ⟨k.val, by omega⟩) _ (fun k Y => addW ⟨k.val, by omega⟩ (rowVals s1 g x dh k) Y) _ (fun k => ?_)
    (fun k Y hY y => ?_) (fun k k' y y' h => ?_) (fun j => ?_)
  · rw [accX, dif_pos k.2]
  · change addW _ _ Y y = _
    unfold addW
    rw [show (fun x : S1x8x1024.Idx => Y ((rAcc ⟨k.val, by omega⟩).emb x)) = fun x : S1x8x1024.Idx => A ((rAcc ⟨k.val, by omega⟩).emb x) from funext hY]
    refine Eq.trans ?_ ((congrArg (accStep s1 g x dh A) (emb_acc ⟨k.val, by omega⟩ y)).trans (accStep_ix s1 g x dh A k (y 1) (y 2))).symm
    pointwise [emb_acc]
  · have := congrFun h 0
    rw [emb_acc, emb_acc] at this
    exact Fin.ext (congrArg (fun z : Fin 8 => z.val) this)
  · by_cases h : (j 0).val < 3
    · exact .inl ⟨⟨(j 0).val, h⟩, ix3 0 (j 1) (j 2), (emb_acc _ _).trans (eq_ix3 j).symm⟩
    · exact .inr (by unfold accStep; rw [dif_neg h]; rfl)

/-- The column sums after the first `k` row steps of a block. -/
def accAt (s1 g : FVec F S1x1024 .f32) (X DH : S256x1024.Idx → F .f32) (A : S8x8x1024.Idx → F .f32) : ℕ → S8x8x1024.Idx → F .f32
  | 0 => A
  | k + 1 => if h : k < 16 then accStep s1 g (rowOf ⟨k, h⟩ X) (rowOf ⟨k, h⟩ DH) (accAt s1 g X DH A k) else accAt s1 g X DH A k

/-- The gradient's rows after the first `k` row steps. -/
def gxX (s1 g : FVec F S1x1024 .f32) (X DH DX Y : S256x1024.Idx → F .f32) : ℕ → S256x1024.Idx → F .f32
  | 0 => Y
  | k + 1 => if h : k < 16 then (rRows ⟨k, h⟩).overlay (gxX s1 g X DH DX Y k) (gradRows (rowOf ⟨k, h⟩ X) (rowOf ⟨k, h⟩ DH) (rowOf ⟨k, h⟩ DX) s1 g)
    else gxX s1 g X DH DX Y k

/-- The gradient of a block's rows. -/
def gxOf (s1 g : FVec F S1x1024 .f32) (X DH DX : S256x1024.Idx → F .f32) : S256x1024.Idx → F .f32 :=
  fun j =>
    have hj : (j 0).val < 256 := (j 0).isLt
    gradRows (rowOf ⟨(j 0).val / 16, by omega⟩ X) (rowOf ⟨(j 0).val / 16, by omega⟩ DH) (rowOf ⟨(j 0).val / 16, by omega⟩ DX) s1 g
      (ix2 ⟨(j 0).val % 16, by omega⟩ (j 1))

theorem gxX_end (s1 g : FVec F S1x1024 .f32) (X DH DX Y : S256x1024.Idx → F .f32) :
    gxX s1 g X DH DX Y 16 = gxOf s1 g X DH DX := by
  refine overlay_steps (N := 16) rRows _ (fun k _ => gradRows (rowOf k X) (rowOf k DH) (rowOf k DX) s1 g) _ (fun k => ?_)
    (fun k Y _ y => ?_) (fun k k' y y' h => ?_) (fun j => ?_)
  · rw [gxX, dif_pos k.2]
  · obtain ⟨a, b, rfl⟩ : ∃ (a : Fin 16) (b : Fin 1024), y = ix2 a b := ⟨y 0, y 1, eq_ix2 y⟩
    have e : (⟨(k.val * 16 + a.val) / 16, by omega⟩ : Fin 16) = k := Fin.ext (by simp only; omega)
    have e' : (⟨(k.val * 16 + a.val) % 16, by omega⟩ : Fin 16) = a := Fin.ext (by simp only; omega)
    rw [emb_rows]
    change _ = gradRows (rowOf ⟨(k.val * 16 + a.val) / 16, _⟩ X) (rowOf ⟨(k.val * 16 + a.val) / 16, _⟩ DH) (rowOf ⟨(k.val * 16 + a.val) / 16, _⟩ DX) s1 g
      (ix2 ⟨(k.val * 16 + a.val) % 16, _⟩ b)
    rw [e, e']
  · have := congrArg Fin.val (congrFun h 0)
    rw [emb_rows, emb_rows] at this
    change k.val * 16 + (y 0).val = k'.val * 16 + (y' 0).val at this
    have h1 : (y 0).val < 16 := (y 0).isLt
    have h2 : (y' 0).val < 16 := (y' 0).isLt
    exact Fin.ext (by omega)
  · have hj : (j 0).val < 256 := (j 0).isLt
    refine .inl ⟨⟨(j 0).val / 16, by omega⟩, ix2 ⟨(j 0).val % 16, by omega⟩ (j 1), ?_⟩
    rw [emb_rows]
    refine (congrArg (fun a : Fin 256 => (ix2 a (j 1) : S256x1024.Idx)) (Fin.ext ?_)).trans (eq_ix2 j).symm
    change (j 0).val / 16 * 16 + (j 0).val % 16 = (j 0).val
    omega

theorem run_rowStep (s1 g : FVec F S1x1024 .f32) (r : Fin 16) : (run (rowStep R s1 g r) S).2
    = Function.update (Function.update S .acc (accStep s1 g (rowOf r (S .x)) (rowOf r (S .dh)) (S .acc))) .gx
        ((rRows r).overlay (S .gx) (gradRows (rowOf r (S .x)) (rowOf r (S .dh)) (rowOf r (S .dx2)) s1 g)) := by
  rw [← accX_end, ← row_eq, ← row_eq, ← row_eq]
  unfold rowStep
  simp only [run_bind, run_load, run_addCols, run_store, run_pure, run_ret, Function.update_idem, Function.update_self]
  rfl

/-- One plus the scale, -/
def s1Of (M : S1x3072.Idx → F .f32) : FVec F S1x1024 .f32 :=
  addf (broadcast S1x1024 (Scalar.ofBits .f32 0x3F800000#32))
    (shapeCast S1x1024 (fun x : S1x1024.Idx => M ((Rect.unit (s := S1x3072) ![0, 1024] S1x1024.size inb_S1x3072_S1x1024_0_1024).emb x)) shapeCasts_S1x1024_S1x1024)

/-- and the norm's weight. -/
def gOf (G : S1x1024.Idx → F .f32) : FVec F S1x1024 .f32 :=
  shapeCast S1x1024 (fun x : S1x1024.Idx => G ((Rect.unit (s := S1x1024) ![0, 0] S1x1024.size inb_S1x1024_S1x1024_0_0).emb x)) shapeCasts_S1x1024_S1x1024

theorem run_rowSteps (s1 g : FVec F S1x1024 .f32) : (run (steps (rowStep R s1 g)) S).2
    = Function.update (Function.update S .acc (accAt s1 g (S .x) (S .dh) (S .acc) 16)) .gx (gxOf s1 g (S .x) (S .dh) (S .dx2)) := by
  have := run_steps (rowStep R s1 g)
    (fun k => Function.update (Function.update S .acc (accAt s1 g (S .x) (S .dh) (S .acc) k)) .gx (gxX s1 g (S .x) (S .dh) (S .dx2) (S .gx) k)) (fun k => by
    dsimp only
    rw [run_rowStep, accAt, gxX, dif_pos k.2, dif_pos k.2]
    simp only [Function.update_self, upd_ne _ _ .x (show Slot.x ≠ .gx by decide), upd_ne _ _ .x (show Slot.x ≠ .acc by decide),
      upd_ne _ _ .dh (show Slot.dh ≠ .gx by decide), upd_ne _ _ .dh (show Slot.dh ≠ .acc by decide),
      upd_ne _ _ .dx2 (show Slot.dx2 ≠ .gx by decide), upd_ne _ _ .dx2 (show Slot.dx2 ≠ .acc by decide), upd_ne _ _ .acc (show Slot.acc ≠ .gx by decide)]
    rw [Function.update_comm (show Slot.gx ≠ .acc by decide), Function.update_idem, Function.update_idem])
  have h0 : Function.update (Function.update S .acc (S .acc)) .gx (S .gx) = S := by rw [Function.update_eq_self, Function.update_eq_self]
  rw [← gxX_end s1 g (S .x) (S .dh) (S .dx2) (S .gx), ← this]
  exact congrArg (fun T => (run (steps (rowStep R s1 g)) T).2) h0.symm

theorem run_rows : (run (rows R) S).2 = Function.update
    (Function.update S .acc (accAt (s1Of (S .mod)) (gOf (S .g)) (S .x) (S .dh) (S .acc) 16)) .gx (gxOf (s1Of (S .mod)) (gOf (S .g)) (S .x) (S .dh) (S .dx2)) := by
  unfold rows
  simp only [run_bind, run_load, run_ret]
  exact run_rowSteps R S (s1Of (S .mod)) (gOf (S .g))

end Cert.BwdIn

end
-- ==== Proof.BwdIn.Run4.lean ====
/- What the whole body leaves. -/
module

public import proofs.«01_k».proof.Proof.BwdIn.Run3

@[expose] public section

noncomputable section

namespace Cert.BwdIn

open Idealize.ShloMosaic Idealize.SL.Sem Cert.KernelIdeal Cert.Hand Cert.Hand.Mem

variable {F : FTy → Type} [FloatOps F]
variable (R : Args) (S : St F)

/-- The staged rows at a point, -/
def ppadNext (n : Fin 16) (P : S1x4096x128.Idx → F .f32) (Y : S1x4128x128.Idx → F .f32) : S1x4128x128.Idx → F .f32 :=
  if n.val % 2 = 0 then stagedOf P else Y

/-- the tap sums after it, -/
def waccNext (n : Fin 16) (dq : S1x4096x128.Idx → F .f32) (P : S1x4128x128.Idx → F .f32) (W : S1x32x8x128.Idx → F .f32) : S1x32x8x128.Idx → F .f32 :=
  tapsAt n dq P (if n.val % 2 = 0 then fun _ => zero else W) 16

/-- and the column sums after it. -/
def accNext (n : Fin 16) (M : S1x3072.Idx → F .f32) (G : S1x1024.Idx → F .f32) (X DH : S256x1024.Idx → F .f32) (A : S8x8x1024.Idx → F .f32) :
    S8x8x1024.Idx → F .f32 :=
  accAt (s1Of M) (gOf G) X DH (if n.val = 0 then fun _ => zero else A) 16

/-- What the memrefs hold after the body. -/
def next (n : Fin 16) : St F
  | .gx => gxOf (s1Of (S .mod)) (gOf (S .g)) (S .x) (dhOf (S .dz) (S .dzc) (S .w)) (S .dx2)
  | .sm => if n.val = 15 then smOf (accNext n (S .mod) (S .g) (S .x) (dhOf (S .dz) (S .dzc) (S .w)) (S .acc)) else S .sm
  | .dcw => if n.val % 2 = 1 then dcwOf (waccNext n (S .dq) (ppadNext n (S .p) (S .ppad)) (S .wacc)) else S .dcw
  | .dh => dhOf (S .dz) (S .dzc) (S .w)
  | .acc => accNext n (S .mod) (S .g) (S .x) (dhOf (S .dz) (S .dzc) (S .w)) (S .acc)
  | .ppad => ppadNext n (S .p) (S .ppad)
  | .wacc => waccNext n (S .dq) (ppadNext n (S .p) (S .ppad)) (S .wacc)
  | .dz => S .dz | .dzc => S .dzc | .w => S .w | .x => S .x | .dx2 => S .dx2 | .mod => S .mod | .g => S .g | .dq => S .dq | .p => S .p

theorem run_code (n : Fin 16) : (run (code R (point n)) S).2 = next S n := by
  unfold code
  have e : (point n 0).val = n.val := rfl
  simp only [e]
  by_cases h0 : n.val = 0
  · have h1 : n.val % 2 = 0 := by omega
    have h2 : ¬ n.val % 2 = 1 := by omega
    have h3 : ¬ n.val = 15 := by omega
    simp only [if_pos h0, if_pos h1, if_neg h2, if_neg h3, run_bind, run_pure, run_zeroAcc, run_stage, run_products, run_keep, run_outDcw, run_rows, run_outSm]
    funext b
    cases b <;> simp [next, accNext, waccNext, ppadNext, h0, Function.update]
  · by_cases h1 : n.val % 2 = 0
    · have h2 : ¬ n.val % 2 = 1 := by omega
      have h3 : ¬ n.val = 15 := by omega
      simp only [if_neg h0, if_pos h1, if_neg h2, if_neg h3, run_bind, run_pure, run_zeroAcc, run_stage, run_products, run_keep, run_outDcw, run_rows, run_outSm]
      funext b
      cases b <;> simp [next, accNext, waccNext, ppadNext, h0, h1, h3, Function.update]
    · have h2 : n.val % 2 = 1 := by omega
      by_cases h3 : n.val = 15
      · simp only [if_neg h0, if_neg h1, if_pos h2, if_pos h3, run_bind, run_pure, run_zeroAcc, run_stage, run_products, run_keep, run_outDcw, run_rows, run_outSm]
        funext b
        cases b <;> simp [next, accNext, waccNext, ppadNext, h3, Function.update]
      · simp only [if_neg h0, if_neg h1, if_pos h2, if_neg h3, run_bind, run_pure, run_zeroAcc, run_stage, run_products, run_keep, run_outDcw, run_rows, run_outSm]
        funext b
        cases b <;> simp [next, accNext, waccNext, ppadNext, h0, h2, h3, Function.update]

end Cert.BwdIn

end
-- ==== Proof.BwdIn.Carry.lean ====
/- What every memref holds at every point of the grid. -/
module

public import proofs.«01_k».proof.Proof.BwdIn.Run4
public import proofs.«01_k».proof.Proof.Gen.KernelIdeal.Frame

@[expose] public section

noncomputable section

namespace Cert.BwdIn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.Hand Cert.Hand.Mem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks at a point -/

/-- The grid's points by number. -/
abbrev pt (t : Fin cfg0.N) : Fin 16 := t.cast N_0

theorem coords_eq (t : Fin cfg0.N) : cfg0.grid.coords t = point (pt t) := by
  revert t; decide +kernel

def dzB (c : Dev nD) (t : Fin cfg0.N) : S4x256x1024.Idx → F .bf16 := iblk m c 0 t
def dzcB (c : Dev nD) (t : Fin cfg0.N) : S8x2x256x128.Idx → F .bf16 := iblk m c 1 t
def wB (c : Dev nD) (t : Fin cfg0.N) : S12x1024x512.Idx → F .bf16 := iblk m c 2 t
def xB (c : Dev nD) (t : Fin cfg0.N) : S256x1024.Idx → F .f32 := iblk m c 3 t
def dx2B (c : Dev nD) (t : Fin cfg0.N) : S256x1024.Idx → F .f32 := iblk m c 4 t
def modB (c : Dev nD) (t : Fin cfg0.N) : S1x3072.Idx → F .f32 := iblk m c 5 t
def gB (c : Dev nD) (t : Fin cfg0.N) : S1x1024.Idx → F .f32 := iblk m c 6 t
def dqB (c : Dev nD) (t : Fin cfg0.N) : S1x4096x128.Idx → F .f32 := iblk m c 7 t
def pB (c : Dev nD) (t : Fin cfg0.N) : S1x4096x128.Idx → F .f32 := iblk m c 8 t

/-! ## What the accumulators hold after the first `k` points -/

/-- What the products give at a point. -/
def dhC (c : Dev nD) (t : Fin cfg0.N) : S256x1024.Idx → F .f32 := dhOf (dzB m c t) (dzcB m c t) (wB m c t)

/-- The column sums. -/
def accC (c : Dev nD) : ℕ → S8x8x1024.Idx → F .f32
  | 0 => fun _ => zero
  | k + 1 => if h : k < cfg0.N then accNext (pt ⟨k, h⟩) (modB m c ⟨k, h⟩) (gB m c ⟨k, h⟩) (xB m c ⟨k, h⟩) (dhC m c ⟨k, h⟩) (accC c k) else accC c k

/-- The staged rows. -/
def ppadC (c : Dev nD) : ℕ → S1x4128x128.Idx → F .f32
  | 0 => fun _ => zero
  | k + 1 => if h : k < cfg0.N then ppadNext (pt ⟨k, h⟩) (pB m c ⟨k, h⟩) (ppadC c k) else ppadC c k

/-- The tap sums. -/
def waccC (c : Dev nD) : ℕ → S1x32x8x128.Idx → F .f32
  | 0 => fun _ => zero
  | k + 1 => if h : k < cfg0.N then waccNext (pt ⟨k, h⟩) (dqB m c ⟨k, h⟩) (ppadC m c (k + 1)) (waccC c k) else waccC c k

theorem accC_succ (c : Dev nD) (t : Fin cfg0.N) :
    accC m c (t.val + 1) = accNext (pt t) (modB m c t) (gB m c t) (xB m c t) (dhC m c t) (accC m c t.val) := by
  rw [accC, dif_pos t.2]

theorem ppadC_succ (c : Dev nD) (t : Fin cfg0.N) : ppadC m c (t.val + 1) = ppadNext (pt t) (pB m c t) (ppadC m c t.val) := by
  rw [ppadC, dif_pos t.2]

theorem waccC_succ (c : Dev nD) (t : Fin cfg0.N) :
    waccC m c (t.val + 1) = waccNext (pt t) (dqB m c t) (ppadC m c (t.val + 1)) (waccC m c t.val) := by
  rw [waccC, dif_pos t.2]

/-- The input gradient's rows at a point. -/
def gxC (c : Dev nD) (t : Fin cfg0.N) : S256x1024.Idx → F .f32 :=
  gxOf (s1Of (modB m c t)) (gOf (gB m c t)) (xB m c t) (dhC m c t) (dx2B m c t)

/-! ## The proof data -/

/-- What the body carries between points: before the first point anything. -/
def carried (c : Dev nD) (k : ℕ) : sProp 𝕄 :=
  iprop(∃ (a : S8x8x1024.Idx → F .f32) (p : S1x4128x128.Idx → F .f32) (w : S1x32x8x128.Idx → F .f32) (d : S256x1024.Idx → F .f32),
    ⌜k ≠ 0 → a = accC m c k ∧ p = ppadC m c k ∧ w = waccC m c k⌝
    ∗ owns (c : Thread nD τ) (Memref.whole cc0_scratch0) fullShare d ∗ owns (c : Thread nD τ) (Memref.whole cc0_scratch1) fullShare a
    ∗ owns (c : Thread nD τ) (Memref.whole cc0_scratch2) fullShare p ∗ owns (c : Thread nD τ) (Memref.whole cc0_scratch3) fullShare w
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => gxC m c t
    | ⟨10, _⟩ => smOf (accC m c (t.val + 1))
    | ⟨11, _⟩ => dcwOf (waccC m c (t.val + 1))
  Φ t := carried m c t.val
  q _ := fullShare
  owed _ := 0

theorem A_eq (c : Dev nD) (w : Fin cfg0.W) : (dats m 0 c).A w = V m c (Pipeline.arrRef spec0 w) := by dsimp only [dats]

/-- The body's memrefs at a point. -/
def args (t : Fin cfg0.N) : Args
  | .dz => st0_0 t | .dzc => st0_1 t | .w => st0_2 t | .x => st0_3 t | .dx2 => st0_4 t | .mod => st0_5 t | .g => st0_6 t
  | .dq => st0_7 t | .p => st0_8 t | .gx => st0_9 t | .sm => st0_10 t | .dcw => st0_11 t
  | .dh => Memref.whole cc0_scratch0 | .acc => Memref.whole cc0_scratch1 | .ppad => Memref.whole cc0_scratch2 | .wacc => Memref.whole cc0_scratch3

theorem args_whole (t : Fin cfg0.N) (b : Slot) : (args t b).IsWhole := by
  cases b
  · exact hstage0_0 _
  · exact hstage0_1 _
  · exact hstage0_2 _
  · exact hstage0_3 _
  · exact hstage0_4 _
  · exact hstage0_5 _
  · exact hstage0_6 _
  · exact hstage0_7 _
  · exact hstage0_8 _
  · exact hstage0_9 _
  · exact hstage0_10 _
  · exact hstage0_11 _
  all_goals exact Memref.isWhole_whole _

theorem body_code (t : Fin cfg0.N) : bodyAt0 (F := F) t = toProg (code (args t) (point (pt t))) := by
  have h := body_eq (F := F) (pt t) (args t) (args_whole t)
  rw [← coords_eq] at h ⊢
  exact h

theorem held_eq (t : Fin cfg0.N) (c : Dev nD) (S : St F) : (held (bank (args t)) c S : sProp 𝕄)
    = iprop(owns (c : Thread nD τ) (st0_0 t) fullShare (S .dz) ∗ owns (c : Thread nD τ) (st0_1 t) fullShare (S .dzc)
      ∗ owns (c : Thread nD τ) (st0_2 t) fullShare (S .w) ∗ owns (c : Thread nD τ) (st0_3 t) fullShare (S .x)
      ∗ owns (c : Thread nD τ) (st0_4 t) fullShare (S .dx2) ∗ owns (c : Thread nD τ) (st0_5 t) fullShare (S .mod)
      ∗ owns (c : Thread nD τ) (st0_6 t) fullShare (S .g) ∗ owns (c : Thread nD τ) (st0_7 t) fullShare (S .dq)
      ∗ owns (c : Thread nD τ) (st0_8 t) fullShare (S .p) ∗ owns (c : Thread nD τ) (st0_9 t) fullShare (S .gx)
      ∗ owns (c : Thread nD τ) (st0_10 t) fullShare (S .sm) ∗ owns (c : Thread nD τ) (st0_11 t) fullShare (S .dcw)
      ∗ owns (c : Thread nD τ) (Memref.whole cc0_scratch0) fullShare (S .dh) ∗ owns (c : Thread nD τ) (Memref.whole cc0_scratch1) fullShare (S .acc)
      ∗ owns (c : Thread nD τ) (Memref.whole cc0_scratch2) fullShare (S .ppad) ∗ owns (c : Thread nD τ) (Memref.whole cc0_scratch3) fullShare (S .wacc)) := by
  unfold held
  exact bigSep_univ_eq_bigSepL [Slot.dz, .dzc, .w, .x, .dx2, .mod, .g, .dq, .p, .gx, .sm, .dcw, .dh, .acc, .ppad, .wacc] (by decide) (by decide) _

/-! ## The body's triple -/

/-- What the memrefs hold when the body starts at `t`. -/
def found (c : Dev nD) (t : Fin cfg0.N) (gx : S256x1024.Idx → F .f32) (sm : S8x1024.Idx → F .f32) (dcw : S32x128.Idx → F .f32)
    (d : S256x1024.Idx → F .f32) (a : S8x8x1024.Idx → F .f32) (p : S1x4128x128.Idx → F .f32) (w : S1x32x8x128.Idx → F .f32) : St F
  | .dz => dzB m c t | .dzc => dzcB m c t | .w => wB m c t | .x => xB m c t | .dx2 => dx2B m c t | .mod => modB m c t | .g => gB m c t
  | .dq => dqB m c t | .p => pB m c t | .gx => gx | .sm => sm | .dcw => dcw | .dh => d | .acc => a | .ppad => p | .wacc => w

theorem accNext_first (n : Fin 16) (h : n.val = 0) (M : S1x3072.Idx → F .f32) (G : S1x1024.Idx → F .f32) (X DH : S256x1024.Idx → F .f32)
    (A A' : S8x8x1024.Idx → F .f32) : accNext n M G X DH A = accNext n M G X DH A' := by
  unfold accNext; rw [if_pos h, if_pos h]

theorem next_acc (c : Dev nD) (t : Fin cfg0.N) (a : S8x8x1024.Idx → F .f32) (h : t.val ≠ 0 → a = accC m c t.val) :
    accNext (pt t) (modB m c t) (gB m c t) (xB m c t) (dhC m c t) a = accC m c (t.val + 1) := by
  rw [accC_succ]
  by_cases h0 : t.val = 0
  · exact accNext_first _ h0 _ _ _ _ _ _
  · rw [h h0]

theorem next_ppad (c : Dev nD) (t : Fin cfg0.N) (p : S1x4128x128.Idx → F .f32) (h : t.val ≠ 0 → p = ppadC m c t.val) :
    ppadNext (pt t) (pB m c t) p = ppadC m c (t.val + 1) := by
  rw [ppadC_succ]
  by_cases h0 : t.val = 0
  · unfold ppadNext
    have : (pt t).val % 2 = 0 := by change t.val % 2 = 0; omega
    rw [if_pos this, if_pos this]
  · rw [h h0]

theorem next_wacc (c : Dev nD) (t : Fin cfg0.N) (w : S1x32x8x128.Idx → F .f32) (h : t.val ≠ 0 → w = waccC m c t.val) :
    waccNext (pt t) (dqB m c t) (ppadC m c (t.val + 1)) w = waccC m c (t.val + 1) := by
  rw [waccC_succ]
  by_cases h0 : t.val = 0
  · unfold waccNext
    have : (pt t).val % 2 = 0 := by change t.val % 2 = 0; omega
    rw [if_pos this, if_pos this]
  · rw [h h0]

theorem idle_sm (t : Fin cfg0.N) : cfg0.idle 10 (cfg0.grid.coords t) = !decide ((pt t).val = 15) := by
  revert t; decide +kernel

theorem idle_dcw (t : Fin cfg0.N) : cfg0.idle 11 (cfg0.grid.coords t) = !decide ((pt t).val % 2 = 1) := by
  revert t; decide +kernel

/-- The column sums' output is left at its sums at the last point, and as it was at the others. -/
theorem leaves_sm (c : Dev nD) (t : Fin cfg0.N) (d) : (owns (c : Thread nD τ) (st0_10 t) fullShare
      (if (pt t).val = 15 then smOf (accC m c (t.val + 1)) else (dats m 0 c).before 10 t d) : sProp 𝕄)
    ⊢ (dats m 0 c).leavesExact 10 t := by
  by_cases h : (pt t).val = 15
  · rw [if_pos h]
    unfold Dat.leavesExact
    rw [idle_sm, h]
    exact .rfl
  · rw [if_neg h]
    have hf : (cfg0.win 10).flush t = false := by
      rw [Bool.eq_false_iff]
      intro e
      have := (flush0_10 t).mp e
      have ht := (pt t).2
      exact h (by change t.val = 15; change t.val < 16 at ht; omega)
    rw [Dat.leavesExact_idle _ _ _ (by rw [idle_sm]; simpa using h) hf]
    iintro H
    iexists d
    iexact H

/-- The tap sums' output is left at its sums at a channel block's last point, and as it was at its first. -/
theorem leaves_dcw (c : Dev nD) (t : Fin cfg0.N) (d) : (owns (c : Thread nD τ) (st0_11 t) fullShare
      (if (pt t).val % 2 = 1 then dcwOf (waccC m c (t.val + 1)) else (dats m 0 c).before 11 t d) : sProp 𝕄)
    ⊢ (dats m 0 c).leavesExact 11 t := by
  by_cases h : (pt t).val % 2 = 1
  · rw [if_pos h]
    unfold Dat.leavesExact
    rw [idle_dcw, h]
    exact .rfl
  · rw [if_neg h]
    have hf : (cfg0.win 11).flush t = false := by
      rw [Bool.eq_false_iff]
      intro e
      exact h ((flush0_11 t).mp e)
    rw [Dat.leavesExact_idle _ _ _ (by rw [idle_dcw]; simpa using h) hf]
    iintro H
    iexists d
    iexact H

end Cert.BwdIn

end
-- ==== Proof.BwdIn.Blocks.lean ====
/- What the blocks of the body's operands hold, as elements of the arguments. -/
module

public import proofs.«01_k».proof.Proof.BwdIn.Carry
public import Idealize.ShloMosaic.Lib.Pipeline.ValueKit

@[expose] public section

noncomputable section

namespace Cert.BwdIn

open Idealize.ShloMosaic Idealize.ShloMosaic.TcCoe Cert.KernelIdeal Cert.KernelIdeal.Gen Cert.Hand

variable (m : (ℓ : Loc nD τ sig) → Buf (Elt Ideal) ℓ) (c : Dev nD)

/-- The blocks' places in their arrays. -/
theorem places : ∀ t : Fin cfg0.N,
    win0_0.index t = ![0, t.val, 0] ∧ win0_1.index t = ![0, 0, t.val, 0] ∧ win0_2.index t = ![0, 0, 0]
    ∧ win0_3.index t = ![t.val, 0] ∧ win0_4.index t = ![t.val, 0] ∧ win0_5.index t = ![0, 0] ∧ win0_6.index t = ![0, 0]
    ∧ win0_7.index t = ![t.val / 2, 0, 0] ∧ win0_8.index t = ![t.val / 2, 0, 0] := by decide +kernel

theorem dzB_read (t : Fin cfg0.N) (j : Fin 4) (a : Fin 256) (k : Fin 1024) :
    dzB m c t (ix3 j a k) = V m c main_v40 (ix3 j ⟨t.val * 256 + a.val, by have := (pt t).isLt; change t.val < 16 at this; omega⟩ k) := by
  unfold dzB
  blk_ext [iblk, places t]

theorem dzcB_read (t : Fin cfg0.N) (b : Fin 8) (q : Fin 2) (a : Fin 256) (l : Fin 128) :
    dzcB m c t (ix4 b q a l) = V m c main_v43 (ix4 b q ⟨t.val * 256 + a.val, by have := (pt t).isLt; change t.val < 16 at this; omega⟩ l) := by
  unfold dzcB
  blk_ext [iblk, places t]

theorem wB_read (t : Fin cfg0.N) (n : Fin 12) (k : Fin 1024) (l : Fin 512) :
    wB m c t (ix3 n k l) = V m c main_v46 (ix3 n k l) := by
  unfold wB
  blk_ext [iblk, places t]

theorem xB_read (t : Fin cfg0.N) (a : Fin 256) (k : Fin 1024) :
    xB m c t (ix2 a k) = V m c main_arg0 (ix2 ⟨t.val * 256 + a.val, by have := (pt t).isLt; change t.val < 16 at this; omega⟩ k) := by
  unfold xB
  blk_ext [iblk, places t]

theorem dx2B_read (t : Fin cfg0.N) (a : Fin 256) (k : Fin 1024) :
    dx2B m c t (ix2 a k) = V m c main_arg6 (ix2 ⟨t.val * 256 + a.val, by have := (pt t).isLt; change t.val < 16 at this; omega⟩ k) := by
  unfold dx2B
  blk_ext [iblk, places t]

theorem modB_read (t : Fin cfg0.N) (k : Fin 3072) : modB m c t (ix2 0 k) = V m c main_v47 (ix2 0 k) := by
  unfold modB
  blk_ext [iblk, places t]

theorem gB_read (t : Fin cfg0.N) (k : Fin 1024) : gB m c t (ix2 0 k) = V m c main_v48 (ix2 0 k) := by
  unfold gB
  blk_ext [iblk, places t]

theorem dqB_read (t : Fin cfg0.N) (n : Fin 4096) (l : Fin 128) :
    dqB m c t (ix3 0 n l) = V m c main_v50 (ix3 ⟨t.val / 2, by have := (pt t).isLt; change t.val < 16 at this; omega⟩ n l) := by
  unfold dqB
  blk_ext [iblk, places t]

theorem pB_read (t : Fin cfg0.N) (n : Fin 4096) (l : Fin 128) :
    pB m c t (ix3 0 n l) = V m c main_v36 (ix3 ⟨t.val / 2, by have := (pt t).isLt; change t.val < 16 at this; omega⟩ n l) := by
  unfold pB
  blk_ext [iblk, places t]

end Cert.BwdIn

end
-- ==== Proof.BwdIn.Spec.lean ====
/- What the backward pass computes, in plain sums over the extended reals. -/
module

public import Idealize.ShloMosaic.PureOps.Ideal

@[expose] public section

noncomputable section

namespace Cert.BwdIn

open Idealize.ShloMosaic

/-- The number of channels, as the programs write it. -/
abbrev width : EReal := Ideal.ofBits .f32 0x44800000#32
/-- What the norm adds to a mean of squares. -/
abbrev eps : EReal := Ideal.ofBits .f32 0x358637BD#32
/-- One half. -/
abbrev half : EReal := Ideal.ofBits .f32 0x3F000000#32

/-- One over the root mean square of a row. -/
def inv (x : Fin 1024 → EReal) : EReal := Ideal.rsqrt (Ideal.div (∑ k, x k * x k) width + eps)

/-- What a row adds to the three column sums. -/
def val (s1 g x dh : Fin 1024 → EReal) : Fin 3 → Fin 1024 → EReal
  | 0, c => dh c
  | 1, c => dh c * ((x c * inv x) * g c)
  | 2, c => (dh c * s1 c) * (x c * inv x)

/-- The gradient of a row through the norm. -/
def grad (s1 g x dh dx : Fin 1024 → EReal) (c : Fin 1024) : EReal :=
  dx c + inv x * (dh c * (g c * s1 c) - (x c * inv x) * Ideal.div (∑ k, (dh k * (g k * s1 k)) * (x k * inv x)) width)

/-- The gradient of the projected rows, through the projection. -/
def back (dz : Fin 4096 → Fin 6144 → EReal) (w : Fin 1024 → Fin 6144 → EReal) (n : Fin 4096) (k : Fin 1024) : EReal := ∑ e, dz n e * w k e

/-- One plus the scale. -/
def scale1 (mod : Fin 3072 → EReal) (k : Fin 1024) : EReal := 1 + mod ⟨1024 + k.val, by omega⟩

/-- A row normed and modulated, -/
def hid (x : Fin 4096 → Fin 1024 → EReal) (g : Fin 1024 → EReal) (mod : Fin 3072 → EReal) (n : Fin 4096) (k : Fin 1024) : EReal :=
  x n k * inv (x n) * g k * scale1 mod k + mod ⟨k.val, by omega⟩

/-- and projected. -/
def proj (x : Fin 4096 → Fin 1024 → EReal) (g : Fin 1024 → EReal) (mod : Fin 3072 → EReal) (w : Fin 1024 → Fin 6144 → EReal)
    (n : Fin 4096) (e : Fin 6144) : EReal := ∑ k, hid x g mod n k * w k e

/-- The gated rows that the convolution reads. -/
def glu (x : Fin 4096 → Fin 1024 → EReal) (g : Fin 1024 → EReal) (mod : Fin 3072 → EReal) (w : Fin 1024 → Fin 6144 → EReal)
    (n : Fin 4096) (k : Fin 1024) : EReal :=
  proj x g mod w n ⟨k.val, by omega⟩ * (half * Ideal.tanh (half * proj x g mod w n ⟨1024 + k.val, by omega⟩) + half)

/-- A column between fifteen zeros and fifteen zeros, at a place counted from the first of them. -/
def padded (p : Fin 4096 → EReal) (j : ℕ) : EReal := if h : 15 ≤ j ∧ j < 4111 then p ⟨j - 15, by omega⟩ else 0

/-- What a row adds to row `o` of the weight gradient: its share of tap `o`, in the last row its share of the bias. -/
def share (d p : Fin 4096 → EReal) (o : Fin 32) (n : Fin 4096) : EReal := if o.val < 31 then d n * padded p (n.val + o.val) else d n

/-! ## The three results -/

/-- The input gradient at an element, -/
def inputGrad (x : Fin 4096 → Fin 1024 → EReal) (g : Fin 1024 → EReal) (mod : Fin 3072 → EReal) (w : Fin 1024 → Fin 6144 → EReal)
    (dx : Fin 4096 → Fin 1024 → EReal) (dz : Fin 4096 → Fin 6144 → EReal) (n : Fin 4096) (k : Fin 1024) : EReal :=
  grad (scale1 mod) g (x n) (back dz w n) (dx n) k

/-- the gradients of the shift, the scale and the norm's weight, one to a row, -/
def sums (x : Fin 4096 → Fin 1024 → EReal) (g : Fin 1024 → EReal) (mod : Fin 3072 → EReal) (w : Fin 1024 → Fin 6144 → EReal)
    (dz : Fin 4096 → Fin 6144 → EReal) (q : Fin 8) (k : Fin 1024) : EReal :=
  if h : q.val < 3 then ∑ n, val (scale1 mod) g (x n) (back dz w n) ⟨q.val, h⟩ k else 0

/-- and those of the convolution's taps and bias. -/
def tapGrad (x : Fin 4096 → Fin 1024 → EReal) (g : Fin 1024 → EReal) (mod : Fin 3072 → EReal) (w : Fin 1024 → Fin 6144 → EReal)
    (dq : Fin 4096 → Fin 1024 → EReal) (o : Fin 32) (k : Fin 1024) : EReal :=
  ∑ n, share (fun i => dq i k) (fun i => glu x g mod w i k) o n

end Cert.BwdIn

end
-- ==== Proof.BwdIn.Arrays.lean ====
/- What the host's arrays hold, as elements of the arguments. -/
module

public import proofs.«01_k».proof.Proof.BwdIn.Carry
public import proofs.«01_k».proof.Proof.BwdIn.Spec
public import Idealize.ShloMosaic.Lib.StableHlo.ReadAt
public import Idealize.ShloMosaic.Lib.Pointwise

@[expose] public section

noncomputable section

namespace Cert.BwdIn

open Idealize.ShloMosaic Idealize.ShloMosaic.TcCoe Cert.KernelIdeal Cert.KernelIdeal.Gen Cert.Hand

variable (m : (ℓ : Loc nD τ sig) → Buf (Elt Ideal) ℓ) (c : Dev nD)

/-- An argument's contents. -/
abbrev arg (r : Ref sig .tc) : Buf (Elt Ideal) ((c.tc : Thread nD τ).loc r) := m ((c.tc : Thread nD τ).loc r)

/-! ## The arguments by their places -/

def xA (n : Fin 4096) (k : Fin 1024) : EReal := arg m c main_arg0 (ix2 n k)
def gA (k : Fin 1024) : EReal := arg m c main_arg1 (ix1 k)
def modA (k : Fin 3072) : EReal := arg m c main_arg2 (ix1 k)
def wA (k : Fin 1024) (e : Fin 6144) : EReal := arg m c main_arg3 (ix2 k e)
def dx2A (n : Fin 4096) (k : Fin 1024) : EReal := arg m c main_arg6 (ix2 n k)
def dzA (n : Fin 4096) (e : Fin 6144) : EReal := arg m c main_arg7 (ix2 n e)
def dqA (n : Fin 4096) (k : Fin 1024) : EReal := arg m c main_arg8 (ix2 n k)

/-! ## What the region finds -/

theorem x_at (n : Fin 4096) (k : Fin 1024) : V m c main_arg0 (ix2 n k) = arg m c main_arg0 (ix2 n k) := congrFun (V_main_arg0 m c) _

theorem dx2_at (n : Fin 4096) (k : Fin 1024) : V m c main_arg6 (ix2 n k) = arg m c main_arg6 (ix2 n k) := congrFun (V_main_arg6 m c) _

theorem dz_at (j : Fin 4) (n : Fin 4096) (k : Fin 1024) :
    V m c main_v40 (ix3 j n k) = arg m c main_arg7 (ix2 n ⟨(j.val + 2) * 1024 + k.val, by omega⟩) := by
  unfold V
  after_reads_at
  exact congrArg (arg m c main_arg7) (congrArg (ix2 n) (Fin.ext (by dsimp only; omega)))

theorem dzc_at (b : Fin 8) (q : Fin 2) (n : Fin 4096) (l : Fin 128) :
    V m c main_v43 (ix4 b q n l) = arg m c main_arg7 (ix2 n ⟨q.val * 1024 + b.val * 128 + l.val, by omega⟩) := by
  unfold V
  after_reads_at
  exact congrArg (arg m c main_arg7) (congrArg (ix2 n) (Fin.ext (by dsimp only; omega)))

theorem w_at (n : Fin 12) (k : Fin 1024) (l : Fin 512) :
    V m c main_v46 (ix3 n k l) = arg m c main_arg3 (ix2 k ⟨n.val * 512 + l.val, by omega⟩) := by
  unfold V
  after_reads_at

theorem mod_at (k : Fin 3072) : V m c main_v47 (ix2 0 k) = arg m c main_arg2 (ix1 k) := by
  unfold V
  after_reads_at

theorem g_at (k : Fin 1024) : V m c main_v48 (ix2 0 k) = arg m c main_arg1 (ix1 k) := by
  unfold V
  after_reads_at

theorem dq_at (b : Fin 8) (n : Fin 4096) (l : Fin 128) :
    V m c main_v50 (ix3 b n l) = arg m c main_arg8 (ix2 n ⟨b.val * 128 + l.val, by omega⟩) := by
  unfold V
  after_reads_at

theorem p_at (b : Fin 8) (n : Fin 4096) (l : Fin 128) : V m c main_v36 (ix3 b n l)
    = glu (xA m c) (gA m c) (modA m c) (wA m c) n ⟨b.val * 128 + l.val, by omega⟩ := by
  unfold V
  after_reads_at
  rfl

end Cert.BwdIn

end
-- ==== Proof.Lib.Sums.lean ====
/- Sums over an axis cut in pieces. -/
module

public import Mathlib.Algebra.BigOperators.Fin

@[expose] public section

namespace Cert.Hand

theorem block_lt {a b : ℕ} (i : Fin a) (j : Fin b) : i.val * b + j.val < a * b :=
  calc i.val * b + j.val < i.val * b + b := Nat.add_lt_add_left j.isLt _
    _ = (i.val + 1) * b := (Nat.succ_mul _ _).symm
    _ ≤ a * b := Nat.mul_le_mul_right b i.isLt

/-- A sum over `a * b` places is the sum over `a` blocks of the sums over their `b` places. -/
theorem sum_blocks {M : Type} [AddCommMonoid M] {n : ℕ} (a b : ℕ) (h : n = a * b) (f : Fin n → M) :
    ∑ k, f k = ∑ i : Fin a, ∑ j : Fin b, f ⟨i.val * b + j.val, h ▸ block_lt i j⟩ := by
  subst h
  rw [← finProdFinEquiv.sum_comp f, Fintype.sum_prod_type]
  refine Finset.sum_congr rfl fun i _ => Finset.sum_congr rfl fun j _ => congrArg f (Fin.ext ?_)
  change j.val + b * i.val = i.val * b + j.val
  rw [Nat.mul_comm, Nat.add_comm]

/-- A recursion that adds a term at each of its first `N` steps. -/
theorem rec_sum {M : Type} [AddCommMonoid M] (N : ℕ) (A : ℕ → M) (f : Fin N → M) (h : ∀ k : Fin N, A (k.val + 1) = A k.val + f k) :
    A N = A 0 + ∑ k, f k := by
  induction N with
  | zero => simp
  | succ n ih =>
    rw [Fin.sum_univ_castSucc, ← add_assoc, ← ih (fun k => f k.castSucc) fun k => h k.castSucc]
    exact h (Fin.last n)

end Cert.Hand
-- ==== Proof.BwdIn.Products.lean ====
/- The twelve products of a block, over the extended reals, as one sum over all the columns of the gradient. -/
module

public import proofs.«01_k».proof.Proof.BwdIn.Run2
public import proofs.«01_k».proof.Proof.Lib.Sums
public import Idealize.ShloMosaic.Lib.Pointwise

@[expose] public section

noncomputable section

namespace Cert.BwdIn

open Idealize.ShloMosaic Cert.KernelIdeal Cert.Hand

theorem emb_w (m : Fin 12) (x : S1x1024x512.Idx) : (rW m).emb x = ix3 m (x 1) (x 2) := by
  funext a
  apply Fin.ext
  rw [Rect.emb_apply]
  idx_vars x
  fin_cases a <;> simp [ix3] <;> rfl

theorem emb_dz (j : Fin 4) (h : Fin 2) (x : S1x256x512.Idx) :
    (rDz j h).emb x = ix3 j (x 1) ⟨h.val * 512 + (x 2).val, by have := (x 2).isLt; change (x 2).val < 512 at this; omega⟩ := by
  funext a
  apply Fin.ext
  rw [Rect.emb_apply]
  idx_vars x
  fin_cases a <;> simp [ix3] <;> rfl

theorem emb_dzc (b : Fin 8) (q : Fin 2) (x : S1x1x256x128.Idx) : (rDzc b q).emb x = ix4 b q (x 2) (x 3) := by
  funext a
  apply Fin.ext
  rw [Rect.emb_apply]
  idx_vars x
  fin_cases a <;> simp [ix4] <;> rfl

theorem dot_at (m : Fin 12) (L : FVec Ideal S256x512 .bf16) (Wt : S12x1024x512.Idx → Ideal .bf16) (d : FVec Ideal S256x1024 .f32)
    (a : Fin 256) (k : Fin 1024) :
    dotStep m L Wt d (ix2 a k) = d (ix2 a k) + ∑ l : Fin 512, L (ix2 a l) * Wt (ix3 m k l) := by
  unfold dotStep
  pointwise [emb_w]

theorem rowL_at (j : Fin 4) (h : Fin 2) (Z : S4x256x1024.Idx → Ideal .bf16) (a : Fin 256) (l : Fin 512) :
    rowL j h Z (ix2 a l) = Z (ix3 j a ⟨h.val * 512 + l.val, by omega⟩) := by
  unfold rowL
  pointwise [emb_dz]

theorem colL_at (q h : Fin 2) (C : S8x2x256x128.Idx → Ideal .bf16) (a : Fin 256) (l : Fin 512) :
    colL q h C (ix2 a l) = C (ix4 ⟨4 * h.val + l.val / 128, by omega⟩ q a ⟨l.val % 128, by omega⟩) := by
  unfold colL
  pointwise [emb_dzc]
  split_ifs <;> exact congrArg C (congrArg₂ (ix4 · q a ·) (Fin.ext (by dsimp only; omega)) (Fin.ext (by dsimp only; omega)))

variable (Z : S4x256x1024.Idx → Ideal .bf16) (C : S8x2x256x128.Idx → Ideal .bf16) (Wt : S12x1024x512.Idx → Ideal .bf16)
variable (D : Fin 256 → Fin 6144 → EReal) (W : Fin 1024 → Fin 6144 → EReal)

/-- Where the gradient's six groups and the weights stand in the blocks, the products are one sum over the columns. -/
theorem dh_at (hZ : ∀ (j : Fin 4) a (c : Fin 1024), Z (ix3 j a c) = D a ⟨(j.val + 2) * 1024 + c.val, by omega⟩)
    (hC : ∀ (b : Fin 8) (q : Fin 2) a (l : Fin 128), C (ix4 b q a l) = D a ⟨q.val * 1024 + b.val * 128 + l.val, by omega⟩)
    (hW : ∀ (n : Fin 12) k (l : Fin 512), Wt (ix3 n k l) = W k ⟨n.val * 512 + l.val, by omega⟩) (a : Fin 256) (k : Fin 1024) :
    dhOf Z C Wt (ix2 a k) = ∑ e, D a e * W k e := by
  have row : ∀ (n : Fin 12) (j : Fin 4) (h : Fin 2), n.val = 4 + 2 * j.val + h.val → ∀ d : FVec Ideal S256x1024 .f32,
      dotStep n (rowL j h Z) Wt d (ix2 a k) = d (ix2 a k) + ∑ l : Fin 512, D a ⟨n.val * 512 + l.val, by omega⟩ * W k ⟨n.val * 512 + l.val, by omega⟩ := by
    intro n j h e d
    rw [dot_at]
    refine congrArg (d (ix2 a k) + ·) (Finset.sum_congr rfl fun l _ => ?_)
    rw [rowL_at, hZ, hW]
    refine congrArg (D a · * _) (Fin.ext ?_)
    dsimp only
    omega
  have col : ∀ (n : Fin 12) (q h : Fin 2), n.val = 2 * q.val + h.val → ∀ d : FVec Ideal S256x1024 .f32,
      dotStep n (colL q h C) Wt d (ix2 a k) = d (ix2 a k) + ∑ l : Fin 512, D a ⟨n.val * 512 + l.val, by omega⟩ * W k ⟨n.val * 512 + l.val, by omega⟩ := by
    intro n q h e d
    rw [dot_at]
    refine congrArg (d (ix2 a k) + ·) (Finset.sum_congr rfl fun l _ => ?_)
    rw [colL_at, hC, hW]
    refine congrArg (D a · * _) (Fin.ext ?_)
    dsimp only
    omega
  rw [sum_blocks 12 512 (by norm_num)]
  unfold dhOf
  rw [col 3 1 1 rfl, col 2 1 0 rfl, col 1 0 1 rfl, col 0 0 0 rfl, row 11 3 1 rfl, row 10 3 0 rfl, row 9 2 1 rfl, row 8 2 0 rfl,
    row 7 1 1 rfl, row 6 1 0 rfl, row 5 0 1 rfl, row 4 0 0 rfl]
  have z : (broadcast S256x1024 zero : FVec Ideal S256x1024 .f32) (ix2 a k) = 0 := by pointwise
  rw [z, zero_add]
  generalize hT : (fun n : Fin 12 => ∑ l : Fin 512, D a ⟨n.val * 512 + l.val, by omega⟩ * W k ⟨n.val * 512 + l.val, by omega⟩) = T
  have e : ∀ n : Fin 12, ∑ l : Fin 512, D a ⟨n.val * 512 + l.val, by omega⟩ * W k ⟨n.val * 512 + l.val, by omega⟩ = T n := fun n => congrFun hT n
  simp only [e]
  rw [show (∑ n, T n) = T 0 + T 1 + T 2 + T 3 + T 4 + T 5 + T 6 + T 7 + T 8 + T 9 + T 10 + T 11 by simp [Fin.sum_univ_succ, add_assoc] <;> rfl]
  abel

end Cert.BwdIn

end
-- ==== Proof.BwdIn.Rows.lean ====
/- The rows of a block, over the extended reals: the gradient through the norm and the three column sums. -/
module

public import proofs.«01_k».proof.Proof.BwdIn.Run4
public import proofs.«01_k».proof.Proof.Lib.Sums
public import proofs.«01_k».proof.Proof.BwdIn.Spec
public import Idealize.ShloMosaic.Lib.Pointwise

@[expose] public section

noncomputable section

namespace Cert.BwdIn

open Idealize.ShloMosaic Cert.KernelIdeal Cert.Hand

theorem inv_at (x : FVec Ideal S16x1024 .f32) (i : Fin 16) : invRms x (ix2 i 0) = inv fun k => x (ix2 i k) := by
  unfold invRms inv
  pointwise [mean]

theorem vals_at (s1 g : FVec Ideal S1x1024 .f32) (x dh : FVec Ideal S16x1024 .f32) (q : Fin 3) (i : Fin 16) (c : Fin 1024) :
    rowVals s1 g x dh q (ix2 i c)
      = val (fun k => s1 (ix2 0 k)) (fun k => g (ix2 0 k)) (fun k => x (ix2 i k)) (fun k => dh (ix2 i k)) q c := by
  fin_cases q
  · rfl
  · change mulf dh (mulf (mulf x (across (invRms x))) (spread g)) (ix2 i c) = _
    pointwise [across, spread, val]
    rw [inv_at]
  · change mulf (mulf dh (spread s1)) (mulf x (across (invRms x))) (ix2 i c) = _
    pointwise [across, spread, val]
    rw [inv_at]

theorem grad_at (x dh dx : FVec Ideal S16x1024 .f32) (s1 g : FVec Ideal S1x1024 .f32) (i : Fin 16) (c : Fin 1024) :
    gradRows x dh dx s1 g (ix2 i c)
      = grad (fun k => s1 (ix2 0 k)) (fun k => g (ix2 0 k)) (fun k => x (ix2 i k)) (fun k => dh (ix2 i k)) (fun k => dx (ix2 i k)) c := by
  unfold gradRows grad
  pointwise [across, spread, mean]
  simp only [inv_at]

theorem fold2_at (v : FVec Ideal S16x1024 .f32) (b : Fin 8) (c : Fin 1024) :
    fold2 v (ix2 b c) = ∑ i : Fin 2, v (ix2 ⟨i.val * 8 + b.val, by omega⟩ c) := by
  unfold fold2
  pointwise

theorem row_at (r : Fin 16) (X : S256x1024.Idx → Ideal .f32) (i : Fin 16) (c : Fin 1024) :
    rowOf r X (ix2 i c) = X (ix2 ⟨r.val * 16 + i.val, by omega⟩ c) := rfl

variable (s1 g : FVec Ideal S1x1024 .f32) (X DH DX : S256x1024.Idx → Ideal .f32) (A : S8x8x1024.Idx → Ideal .f32)

theorem gx_at (a : Fin 256) (c : Fin 1024) : gxOf s1 g X DH DX (ix2 a c)
    = grad (fun k => s1 (ix2 0 k)) (fun k => g (ix2 0 k)) (fun k => X (ix2 a k)) (fun k => DH (ix2 a k)) (fun k => DX (ix2 a k)) c := by
  unfold gxOf
  refine (grad_at _ _ _ _ _ _ _).trans ?_
  have e : (⟨a.val / 16 * 16 + a.val % 16, by omega⟩ : Fin 256) = a := Fin.ext (by dsimp only; omega)
  simp only [row_at]
  conv_rhs => rw [← e]
  rfl

theorem acc_at (q : Fin 3) (b : Fin 8) (c : Fin 1024) : accAt s1 g X DH A 16 (ix3 ⟨q.val, by omega⟩ b c)
    = A (ix3 ⟨q.val, by omega⟩ b c) + ∑ r : Fin 16, ∑ i : Fin 2,
      val (fun k => s1 (ix2 0 k)) (fun k => g (ix2 0 k)) (fun k => X (ix2 ⟨r.val * 16 + (i.val * 8 + b.val), by omega⟩ k))
        (fun k => DH (ix2 ⟨r.val * 16 + (i.val * 8 + b.val), by omega⟩ k)) q c := by
  refine rec_sum 16 (fun k => accAt s1 g X DH A k (ix3 ⟨q.val, by omega⟩ b c)) _ fun k => ?_
  change accAt s1 g X DH A (k.val + 1) _ = _
  rw [accAt, dif_pos k.2, accStep_ix, fold2_at]
  simp only [vals_at, row_at]
  rfl

theorem acc_rest (k : ℕ) (q : Fin 8) (hq : 3 ≤ q.val) (b : Fin 8) (c : Fin 1024) : accAt s1 g X DH A k (ix3 q b c) = A (ix3 q b c) := by
  induction k with
  | zero => rfl
  | succ n ih =>
    rw [accAt]
    split
    · unfold accStep
      rw [dif_neg (show ¬ (ix3 q b c 0 : Fin 8).val < 3 from Nat.not_lt.2 hq)]
      exact ih
    · exact ih

/-- All the rows of the array, in the order in which a column sum meets them. -/
theorem sum_rows {M : Type} [AddCommMonoid M] (f : Fin 4096 → M) : ∑ n, f n
    = ∑ b : Fin 8, ∑ t : Fin 16, ∑ r : Fin 16, ∑ i : Fin 2, f ⟨t.val * 256 + (r.val * 16 + (i.val * 8 + b.val)), by omega⟩ := by
  rw [sum_blocks 16 256 (by norm_num)]
  conv_rhs => rw [Finset.sum_comm]
  refine Finset.sum_congr rfl fun t _ => ?_
  rw [sum_blocks 16 16 (by norm_num)]
  conv_rhs => rw [Finset.sum_comm]
  refine Finset.sum_congr rfl fun r _ => ?_
  rw [sum_blocks 2 8 (by norm_num)]
  exact Finset.sum_comm

theorem sm_at (q : Fin 8) (c : Fin 1024) : smOf A (ix2 q c) = ∑ b : Fin 8, A (ix3 q b c) := by
  change smRow A q (ix1 c) = _
  unfold smRow
  pointwise [emb_acc]

end Cert.BwdIn

end
-- ==== Proof.BwdIn.Taps.lean ====
/- The tap sums of a channel block, over the extended reals. -/
module

public import proofs.«01_k».proof.Proof.BwdIn.Run4
public import proofs.«01_k».proof.Proof.Lib.Sums
public import proofs.«01_k».proof.Proof.BwdIn.Spec
public import Idealize.ShloMosaic.Lib.Pointwise

@[expose] public section

noncomputable section

namespace Cert.BwdIn

open Idealize.ShloMosaic Cert.KernelIdeal Cert.Hand

theorem staged_at (X : S1x4096x128.Idx → Ideal .f32) (j : Fin 4128) (l : Fin 128) (k : ℕ) (h : j.val = k + 1) :
    stagedOf X (ix3 0 j l) = padded (fun n => X (ix3 0 n l)) k := by
  unfold stagedOf padded
  by_cases c : 15 ≤ k ∧ k < 4111
  · rw [dif_pos c]
    refine (dif_pos (show 16 ≤ j.val ∧ j.val < 4112 by omega)).trans ?_
    refine congrArg (fun n => X (ix3 0 n l)) (Fin.ext ?_)
    change j.val - 16 = k - 15
    omega
  · rw [dif_neg c]
    refine (dif_neg (show ¬ (16 ≤ j.val ∧ j.val < 4112) by omega)).trans ?_
    change Ideal.ofBits .f32 0x00000000#32 = 0
    pointwise

theorem fold8_at (v : FVec Ideal S128x128 .f32) (b : Fin 8) (l : Fin 128) :
    fold8 v (ix2 b l) = ∑ i : Fin 16, v (ix2 ⟨i.val * 8 + b.val, by omega⟩ l) := by
  unfold fold8
  pointwise

variable (n : Fin 16) (dq p : S1x4096x128.Idx → Ideal .f32) (W : S1x32x8x128.Idx → Ideal .f32)

theorem tileSum_at (t : Fin 16) (o : Fin 32) (b : Fin 8) (l : Fin 128) : tileSum n t (tileOf n t dq) (stagedOf p) o (ix2 b l)
    = ∑ i : Fin 16, share (fun k => dq (ix3 0 k l)) (fun k => p (ix3 0 k l)) o ⟨(n.val % 2 * 16 + t.val) * 128 + (i.val * 8 + b.val), by omega⟩ := by
  unfold tileSum
  by_cases h : o.val < 31
  · rw [dif_pos h, fold8_at]
    refine Finset.sum_congr rfl fun i _ => ?_
    unfold share
    rw [if_pos h]
    refine congrArg (dq _ * ·) ?_
    refine staged_at p _ l _ ?_
    change (n.val % 2 * 16 + t.val) * 128 + o.val + 1 + (i.val * 8 + b.val) = (n.val % 2 * 16 + t.val) * 128 + (i.val * 8 + b.val) + o.val + 1
    omega
  · rw [dif_neg h, fold8_at]
    refine Finset.sum_congr rfl fun i _ => ?_
    unfold share
    rw [if_neg h]
    rfl

theorem taps_at (o : Fin 32) (b : Fin 8) (l : Fin 128) : tapsAt n dq (stagedOf p) W 16 (ix4 0 o b l)
    = W (ix4 0 o b l) + ∑ t : Fin 16, ∑ i : Fin 16,
      share (fun k => dq (ix3 0 k l)) (fun k => p (ix3 0 k l)) o ⟨(n.val % 2 * 16 + t.val) * 128 + (i.val * 8 + b.val), by omega⟩ := by
  refine rec_sum 16 (fun k => tapsAt n dq (stagedOf p) W k (ix4 0 o b l)) _ fun k => ?_
  change tapsAt n dq (stagedOf p) W (k.val + 1) _ = _
  rw [tapsAt, dif_pos k.2]
  refine (show tileStep n k dq (stagedOf p) (tapsAt n dq (stagedOf p) W k.val) (ix4 0 o b l)
    = tapsAt n dq (stagedOf p) W k.val (ix4 0 o b l) + tileSum n k (tileOf n k dq) (stagedOf p) o (ix2 b l) from rfl).trans ?_
  rw [tileSum_at]

/-- All the rows of the array, in the order in which a tap's sum meets them. -/
theorem sum_taps {M : Type} [AddCommMonoid M] (f : Fin 4096 → M) : ∑ n, f n
    = ∑ b : Fin 8, ∑ h : Fin 2, ∑ t : Fin 16, ∑ i : Fin 16, f ⟨(h.val * 16 + t.val) * 128 + (i.val * 8 + b.val), by omega⟩ := by
  rw [sum_blocks 32 128 (by norm_num), sum_blocks 2 16 (by norm_num)]
  conv_rhs => rw [Finset.sum_comm]
  refine Finset.sum_congr rfl fun h _ => ?_
  conv_rhs => rw [Finset.sum_comm]
  refine Finset.sum_congr rfl fun t _ => ?_
  rw [sum_blocks 16 8 (by norm_num)]
  exact Finset.sum_comm

theorem dcw_at (o : Fin 32) (l : Fin 128) : dcwOf W (ix2 o l) = ∑ b : Fin 8, W (ix4 0 o b l) := by
  change dcwRow W o (ix1 l) = _
  unfold dcwRow
  pointwise [emb_wacc]

/-- The weight gradient of a channel block, after its two points. -/
theorem dcw_block (n n' : Fin 16) (h : n.val % 2 = 0) (h' : n'.val % 2 = 1) (o : Fin 32) (l : Fin 128) :
    dcwOf (waccNext n' dq (stagedOf p) (waccNext n dq (stagedOf p) W)) (ix2 o l)
      = ∑ k, share (fun k => dq (ix3 0 k l)) (fun k => p (ix3 0 k l)) o k := by
  rw [dcw_at, sum_taps]
  refine Finset.sum_congr rfl fun b _ => ?_
  unfold waccNext
  rw [if_neg (show ¬ n'.val % 2 = 0 by omega), if_pos h, taps_at, taps_at, Fin.sum_univ_two]
  have z : (zero : Ideal .f32) = 0 := by change Ideal.ofBits .f32 0x00000000#32 = 0; pointwise
  have e : ∀ (u : Fin 16) (v : Fin 2), u.val % 2 = v.val → (∑ t : Fin 16, ∑ i : Fin 16,
      share (fun k => dq (ix3 0 k l)) (fun k => p (ix3 0 k l)) o ⟨(u.val % 2 * 16 + t.val) * 128 + (i.val * 8 + b.val), by omega⟩)
      = ∑ t : Fin 16, ∑ i : Fin 16,
      share (fun k => dq (ix3 0 k l)) (fun k => p (ix3 0 k l)) o ⟨(v.val * 16 + t.val) * 128 + (i.val * 8 + b.val), by omega⟩ := by
    intro u v huv
    simp only [huv]
  rw [e n 0 h, e n' 1 h']
  refine (congrArg (· + _ + _) z).trans ?_
  rw [zero_add]

end Cert.BwdIn

end
-- ==== Proof.BwdIn.Frame.lean ====
/- The run of the pipeline over the body. -/
module

public import proofs.«01_k».proof.Proof.BwdIn.Carry

@[expose] public section

noncomputable section

namespace Cert.BwdIn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.Hand Cert.Hand.Mem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a window holds when the body starts. -/
abbrev entered (c : Dev nD) (w : Fin cfg0.W) (t : Fin cfg0.N) : sProp 𝕄 :=
  iprop(∃ d, owns (c : Thread nD τ) ((cfg0.win w).stage (cfg0.slots t w)) fullShare ((dats m 0 c).before w t d))

def bodyPre (c : Dev nD) (t : Fin cfg0.N) : sProp 𝕄 :=
  iprop((dats m 0 c).Φ t.castSucc ∗ (dats m 0 c).owesAt () t.castSucc
    ∗ entered m c 0 t ∗ entered m c 1 t ∗ entered m c 2 t ∗ entered m c 3 t ∗ entered m c 4 t ∗ entered m c 5 t ∗ entered m c 6 t
    ∗ entered m c 7 t ∗ entered m c 8 t ∗ entered m c 9 t ∗ entered m c 10 t ∗ entered m c 11 t)

/-- A window that is never idle is left at what the body leaves there. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost entered
  rw [leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 8 t rfl, leaves_live m c 9 t rfl]
  rw [body_code]
  simp only [before0_0_of m _ (A_eq m c 0) (fun _ => rfl), before0_1_of m _ (A_eq m c 1) (fun _ => rfl),
    before0_2_of m _ (A_eq m c 2) (fun _ => rfl), before0_3_of m _ (A_eq m c 3) (fun _ => rfl),
    before0_4_of m _ (A_eq m c 4) (fun _ => rfl), before0_5_of m _ (A_eq m c 5) (fun _ => rfl),
    before0_6_of m _ (A_eq m c 6) (fun _ => rfl), before0_7_of m _ (A_eq m c 7) (fun _ => rfl),
    before0_8_of m _ (A_eq m c 8) (fun _ => rfl)]
  rw [show (dats m 0 c).Φ t.castSucc = carried m c t.val from rfl, show (dats m 0 c).Φ t.succ = carried m c (t.val + 1) from rfl]
  unfold Dat.owesAt Pipeline.owesWithin
  rw [show (dats m 0 c).owed t.castSucc = 0 from rfl, show (dats m 0 c).owed t.succ = 0 from rfl]
  unfold carried
  iintro ⟨⟨%a, %p, %w, %d, %hs, Hd, Ha, Hp, Hw, Hg⟩, Howe, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have ea := next_acc m c t a fun h => (hs h).1
  have ep := next_ppad m c t p fun h => (hs h).2.1
  have ew := next_wacc m c t w fun h => (hs h).2.2
  iapply (sound_all (defs := defs₀ (F := F)) Variants.none c none Set.univ (code (args t) (point (pt t)))
    (found m c t ((dats m 0 c).before 9 t d9) ((dats m 0 c).before 10 t d10) ((dats m 0 c).before 11 t d11) d a p w)) $$ [H0 H1 H2 H3 H4 H5 H6 H7 H8 H9 H10 H11 Hd Ha Hp Hw]
  · simp only [held_eq, found, dzB, dzcB, wB, xB, dx2B, modB, gB, dqB, pB]
    iframe
  rw [run_code, held_eq]
  iintro ⟨H0, H1, H2, H3, H4, H5, H6, H7, H8, H9, H10, H11, Hd, Ha, Hp, Hw⟩
  isplitl [Hd Ha Hp Hw Hg]
  · iexists (accC m c (t.val + 1)), (ppadC m c (t.val + 1)), (waccC m c (t.val + 1)), (dhC m c t)
    isplitr
    · ipureintro; exact fun _ => ⟨rfl, rfl, rfl⟩
    iframe Hd
    isplitl [Ha]
    · rw [← ea]; iexact Ha
    isplitl [Hp]
    · rw [← ep]; iexact Hp
    isplitl [Hw]
    · rw [← ew, ← ep]; iexact Hw
    iexact Hg
  isplitl [Howe]
  · iexact Howe
  iframe H0 H1 H2 H3 H4 H5 H6 H7 H8 H9
  isplitl [H10]
  · iapply (leaves_sm m c t d10)
    rw [← ea]
    iexact H10
  · iapply (leaves_dcw m c t d11)
    rw [← ew, ← ep]
    iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem carried_in (c : Dev nD) : (Pipeline.ΦA spec0 c : sProp 𝕄) ⊢ carried m c 0 := by
  unfold Pipeline.ΦA carried
  rw [scopedRest0_eq]
  iintro ⟨⟨⟨%d, Hd⟩, ⟨%a, Ha⟩, ⟨%p, Hp⟩, ⟨%w, Hw⟩⟩, Hg⟩
  iexists a, p, w, d
  isplitr
  · ipureintro; exact fun h => absurd rfl h
  simp only [owns_whole]
  iframe

theorem carried_out (c : Dev nD) (k : ℕ) : (carried m c k : sProp 𝕄) ⊢ Pipeline.ΦA spec0 c := by
  unfold Pipeline.ΦA carried
  rw [scopedRest0_eq]
  simp only [owns_whole_eq]
  iintro ⟨%a, %p, %w, %d, -, ⟨%d', -, Hd⟩, ⟨%a', -, Ha⟩, ⟨%p', -, Hp⟩, ⟨%w', -, Hw⟩, Hg⟩
  isplitl [Hd Ha Hp Hw]
  · isplitl [Hd]
    · iexists d'; iexact Hd
    isplitl [Ha]
    · iexists a'; iexact Ha
    isplitl [Hp]
    · iexists p'; iexact Hp
    iexists w'; iexact Hw
  iexact Hg

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_in m c) (hout := fun c => carried_out m c _)

end Cert.BwdIn

end
-- ==== Proof.BwdIn.Values.lean ====
/- What the three results hold after the run, over the extended reals. -/
module

public import proofs.«01_k».proof.Proof.BwdIn.Blocks
public import proofs.«01_k».proof.Proof.BwdIn.Arrays
public import proofs.«01_k».proof.Proof.BwdIn.Products
public import proofs.«01_k».proof.Proof.BwdIn.Rows
public import proofs.«01_k».proof.Proof.BwdIn.Taps
public import proofs.«01_k».proof.Proof.BwdIn.Frame

@[expose] public section

noncomputable section

namespace Cert.BwdIn

open Idealize.ShloMosaic Idealize.ShloMosaic.TcCoe Cert.KernelIdeal Cert.KernelIdeal.Gen Cert.Hand

section Arrays

variable (m : (ℓ : Loc nD τ sig) → Buf (Elt Ideal) ℓ) (c : Dev nD)

/-- A row of the array by its block and its place there. -/
abbrev rowAt (t : Fin cfg0.N) (a : Fin 256) : Fin 4096 :=
  ⟨t.val * 256 + a.val, by have := (pt t).isLt; change t.val < 16 at this; omega⟩

theorem xRow (t : Fin cfg0.N) (a : Fin 256) : (fun k => xB m c t (ix2 a k)) = xA m c (rowAt t a) :=
  funext fun k => (xB_read m c t a k).trans (x_at m c _ k)

theorem dxRow (t : Fin cfg0.N) (a : Fin 256) : (fun k => dx2B m c t (ix2 a k)) = dx2A m c (rowAt t a) :=
  funext fun k => (dx2B_read m c t a k).trans (dx2_at m c _ k)

theorem dhRow (t : Fin cfg0.N) (a : Fin 256) : (fun k => dhC m c t (ix2 a k)) = back (dzA m c) (wA m c) (rowAt t a) :=
  funext fun k => dh_at _ _ _ (fun a => dzA m c (rowAt t a)) (wA m c) (fun j a k => (dzB_read m c t j a k).trans (dz_at m c j _ k))
    (fun b q a l => (dzcB_read m c t b q a l).trans (dzc_at m c b q _ l)) (fun n k l => (wB_read m c t n k l).trans (w_at m c n k l)) a k

theorem gRow (t : Fin cfg0.N) : (fun k => gOf (gB m c t) (ix2 0 k)) = gA m c := by
  funext k
  refine Eq.trans ?_ ((gB_read m c t k).trans (g_at m c k))
  unfold gOf
  pointwise
  refine congrArg (gB m c t) ?_
  funext a
  apply Fin.ext
  rw [Rect.emb_apply]
  fin_cases a <;> simp [ix2]

theorem s1Row (t : Fin cfg0.N) : (fun k => s1Of (modB m c t) (ix2 0 k)) = scale1 (modA m c) := by
  funext k
  have e := (modB_read m c t ⟨1024 + k.val, by omega⟩).trans (mod_at m c _)
  unfold s1Of scale1
  pointwise
  refine congrArg (1 + ·) (Eq.trans (congrArg (modB m c t) ?_) e)
  funext a
  apply Fin.ext
  rw [Rect.emb_apply]
  fin_cases a <;> simp [ix2]

/-! ## The input gradient -/

theorem places_gx : ∀ t : Fin cfg0.N, win0_9.index t = ![t.val, 0] := by decide +kernel

theorem gx_array : (dats m 0 c).arrAt 9 cfg0.N
    = fun j : S4096x1024.Idx => inputGrad (xA m c) (gA m c) (modA m c) (wA m c) (dx2A m c) (dzA m c) (j 0) (j 1) := by
  refine (dats m 0 c).arrAt_eq_of_covers 9 _ (by decide +kernel) fun t hf y => ?_
  blk_simp
  rw [show (dats m 0 c).after 9 t = gxC m c t by dsimp only [dats]]
  obtain ⟨a, k, rfl⟩ : ∃ (a : Fin 256) (k : Fin 1024), y = ix2 a k := ⟨y 0, y 1, eq_ix2 y⟩
  have e0 : (win0_9.blk t).view.emb (ix2 a k) 0 = rowAt t a := Fin.ext (by blk_simp [places_gx t])
  have e1 : (win0_9.blk t).view.emb (ix2 a k) 1 = k := Fin.ext (by blk_simp [places_gx t])
  rw [e0, e1]
  unfold gxC inputGrad
  refine (gx_at _ _ _ _ _ a k).trans ?_
  rw [xRow, dxRow, dhRow, gRow, s1Row]

/-! ## The column sums -/

/-- What a block of rows adds to a column sum, at one of the eight places of the sum. -/
def blockSum (q : Fin 3) (b : Fin 8) (k : Fin 1024) (t : Fin cfg0.N) : EReal :=
  ∑ r : Fin 16, ∑ i : Fin 2, val (scale1 (modA m c)) (gA m c) (xA m c (rowAt t ⟨r.val * 16 + (i.val * 8 + b.val), by omega⟩))
    (back (dzA m c) (wA m c) (rowAt t ⟨r.val * 16 + (i.val * 8 + b.val), by omega⟩)) q k

theorem acc_array (q : Fin 3) (b : Fin 8) (k : Fin 1024) : accC m c cfg0.N (ix3 ⟨q.val, by omega⟩ b k) = ∑ t, blockSum m c q b k t := by
  have step : ∀ t : Fin cfg0.N, (accC m c (t.val + 1) (ix3 ⟨q.val, by omega⟩ b k) : EReal)
      = accC m c t.val (ix3 ⟨q.val, by omega⟩ b k) + blockSum m c q b k t := by
    intro t
    rw [accC_succ]
    unfold accNext
    rw [acc_at]
    simp only [xRow, dhRow, gRow, s1Row]
    by_cases h : t.val = 0
    · rw [if_pos (show (pt t).val = 0 from h), h]
      rfl
    · rw [if_neg (show ¬ (pt t).val = 0 from h)]
      rfl
  refine (rec_sum cfg0.N (fun n => (accC m c n (ix3 ⟨q.val, by omega⟩ b k) : EReal)) _ step).trans ?_
  refine (congrArg (· + _) (show (zero : Ideal .f32) = (0 : EReal) from ?_)).trans (zero_add _)
  change Ideal.ofBits .f32 0x00000000#32 = 0
  pointwise

theorem acc_rest_array (n : ℕ) (q : Fin 8) (hq : 3 ≤ q.val) (b : Fin 8) (k : Fin 1024) : accC m c n (ix3 q b k) = (0 : EReal) := by
  have z : (zero : Ideal .f32) = (0 : EReal) := by
    change Ideal.ofBits .f32 0x00000000#32 = 0
    pointwise
  induction n with
  | zero => exact z
  | succ n ih =>
    rw [accC]
    split
    · unfold accNext
      rw [acc_rest _ _ _ _ _ _ _ hq]
      split
      · exact z
      · exact ih
    · exact ih

theorem sm_sum (q : Fin 8) (k : Fin 1024) : smOf (accC m c cfg0.N) (ix2 q k)
    = sums (xA m c) (gA m c) (modA m c) (wA m c) (dzA m c) q k := by
  rw [sm_at]
  unfold sums
  by_cases h : q.val < 3
  · rw [dif_pos h, sum_rows]
    refine Finset.sum_congr rfl fun b _ => (acc_array m c ⟨q.val, h⟩ b k).trans ?_
    exact (Fintype.sum_equiv (finCongr N_0) _ _ fun t => rfl)
  · rw [dif_neg h]
    exact Finset.sum_eq_zero fun b _ => acc_rest_array m c _ q (by omega) b k

theorem sm_array : (dats m 0 c).arrAt 10 cfg0.N
    = fun j : S8x1024.Idx => sums (xA m c) (gA m c) (modA m c) (wA m c) (dzA m c) (j 0) (j 1) := by
  refine (dats m 0 c).arrAt_eq_of_after_last 10 t0_15 (by decide +kernel) _ fun j => ?_
  blk_simp
  refine Eq.trans ?_ (sm_sum m c (j 0) (j 1))
  rw [show (dats m 0 c).after 10 t0_15 = smOf (accC m c (t0_15.val + 1)) by dsimp only [dats]]
  exact congrArg (smOf (accC m c cfg0.N)) (eq_ix2 (n0 := 8) (n1 := 1024) j)

/-! ## The tap sums -/

theorem places_dcw : ∀ t : Fin cfg0.N, win0_11.index t = ![0, t.val / 2] := by decide +kernel

theorem odd_dcw : ∀ t : Fin cfg0.N, (cfg0.win 11).flush t = true → t.val % 2 = 1 := by decide +kernel

theorem dcw_array : (dats m 0 c).arrAt 11 cfg0.N
    = fun j : S32x1024.Idx => tapGrad (xA m c) (gA m c) (modA m c) (wA m c) (dqA m c) (j 0) (j 1) := by
  refine (dats m 0 c).arrAt_eq_of_covers 11 _ (by decide +kernel) fun t hf y => ?_
  have ho := odd_dcw t hf
  blk_simp
  rw [show (dats m 0 c).after 11 t = dcwOf (waccC m c (t.val + 1)) by dsimp only [dats]]
  obtain ⟨o, l, rfl⟩ : ∃ (o : Fin 32) (l : Fin 128), y = ix2 o l := ⟨y 0, y 1, eq_ix2 y⟩
  have ht : t.val < 16 := (pt t).isLt
  have e0 : (win0_11.blk t).view.emb (ix2 o l) 0 = o := Fin.ext (by blk_simp [places_dcw t])
  have e1 : (win0_11.blk t).view.emb (ix2 o l) 1 = (⟨t.val / 2 * 128 + l.val, by omega⟩ : Fin 1024) := Fin.ext (by blk_simp [places_dcw t])
  rw [e0, e1]
  obtain ⟨s, hs⟩ : ∃ s : Fin cfg0.N, s.val + 1 = t.val := ⟨⟨t.val - 1, by have := t.2; omega⟩, by dsimp only; omega⟩
  have hse : (pt s).val % 2 = 0 := by change s.val % 2 = 0; omega
  have hp : ∀ u : Fin cfg0.N, u.val / 2 = t.val / 2 → (fun i l => pB m c u (ix3 0 i l)) = fun i (l : Fin 128) =>
      glu (xA m c) (gA m c) (modA m c) (wA m c) i ⟨t.val / 2 * 128 + l.val, by omega⟩ := by
    intro u hu
    funext i l
    refine (pB_read m c u i l).trans ((p_at m c _ i l).trans ?_)
    simp only [hu]
  have hd : ∀ u : Fin cfg0.N, u.val / 2 = t.val / 2 → (fun i l => dqB m c u (ix3 0 i l)) = fun i (l : Fin 128) =>
      dqA m c i ⟨t.val / 2 * 128 + l.val, by omega⟩ := by
    intro u hu
    funext i l
    refine (dqB_read m c u i l).trans ((dq_at m c _ i l).trans ?_)
    simp only [hu]
    rfl
  have same : ∀ X Y : S1x4096x128.Idx → Ideal .f32, (fun i l => X (ix3 0 i l)) = (fun (i : Fin 4096) (l : Fin 128) => Y (ix3 0 i l)) → X = Y := by
    intro X Y h
    funext j
    have hj : j = ix3 0 (j 1) (j 2) := by
      rw [← Fin.eq_zero (j 0 : Fin 1)]
      exact eq_ix3 j
    rw [hj]
    exact congrFun (congrFun h (j 1)) (j 2)
  have hs2 : s.val / 2 = t.val / 2 := by omega
  have k1 : ppadC m c (s.val + 1) = stagedOf (pB m c s) := (ppadC_succ m c s).trans (if_pos hse)
  have k2 : ppadC m c (t.val + 1) = stagedOf (pB m c s) :=
    ((ppadC_succ m c t).trans (if_neg (show ¬ t.val % 2 = 0 by omega))).trans ((congrArg (ppadC m c) hs.symm).trans k1)
  have k3 : waccC m c t.val = waccNext (pt s) (dqB m c t) (stagedOf (pB m c s)) (waccC m c s.val) := by
    refine (congrArg (waccC m c) hs.symm).trans ((waccC_succ m c s).trans ?_)
    rw [k1, same _ _ ((hd s hs2).trans (hd t rfl).symm)]
  rw [waccC_succ, k2, k3]
  refine (dcw_block _ _ _ _ _ hse ho o l).trans ?_
  unfold tapGrad
  refine Finset.sum_congr rfl fun n _ => ?_
  have e2 := funext fun i => congrFun (congrFun (hp s hs2) i) l
  have e3 := funext fun i => congrFun (congrFun (hd t rfl) i) l
  dsimp only at e2 e3
  rw [e2, e3]

end Arrays

/-! ## The kernel's runs: the arguments as they were, the counters at zero, and over the extended reals the three results -/

open Idealize.SL.Sem

/-- The arguments end as they were. -/
def Kept {F : FTy → Type} (m m' : (ℓ : Loc nD τ sig) → Buf (Elt F) ℓ) (c : Dev nD) : Prop :=
  Same m m' c main_arg0 ∧ Same m m' c main_arg1 ∧ Same m m' c main_arg2 ∧ Same m m' c main_arg3 ∧ Same m m' c main_arg4
    ∧ Same m m' c main_arg5 ∧ Same m m' c main_arg6 ∧ Same m m' c main_arg7 ∧ Same m m' c main_arg8

section
variable {F : FTy → Type} [FloatOps F] (m : (ℓ : Loc nD τ sig) → Buf (Elt F) ℓ) (ρ : Dev nD → PrngReg)

theorem rest {b : Ref sig .tc} {c : Dev nD} {r : PUnit × MemSt nD τ sig (Elt F)} (h : Pipeline.FramePost cfgs (dats m) 0 (V m) r)
    (hV : V m c b = m ((c.tc : Thread nD τ).loc b))
    (hb : b ∈ Pipeline.restRefs sig spec0 := by exact Pipeline.mem_restRefs_of _ (by decide) (by decide)) : Same m r.2.mem c b :=
  ((h c).2 b hb).trans hV

theorem kept (r : PUnit × MemSt nD τ sig (Elt F)) (h : Pipeline.FramePost cfgs (dats m) 0 (V m) r) (c : Dev nD) : Kept m r.2.mem c :=
  ⟨((h c).1 3).trans (((dats m 0 c).arrAt_in 3 rfl _).trans ((A_eq m c 3).trans (V_main_arg0 m c))),
    rest m h (V_main_arg1 m c),
    rest m h (V_main_arg2 m c),
    rest m h (V_main_arg3 m c),
    rest m h (V_main_arg4 m c),
    rest m h (V_main_arg5 m c),
    ((h c).1 4).trans (((dats m 0 c).arrAt_in 4 rfl _).trans ((A_eq m c 4).trans (V_main_arg6 m c))),
    rest m h (V_main_arg7 m c),
    rest m h (V_main_arg8 m c)⟩

/-- Every run ends with the arguments as they were and every counter at zero. -/
theorem run_frame : θ_run defs (onTc (τ := τ) (main (F := F))) ⟨m, fun _ => 0, ρ⟩
    (fun r => (∀ c : Dev nD, Kept m r.2.mem c) ∧ r.2.sem = fun _ => 0) :=
  (θ_run defs _ _).mono (fun r h => ⟨kept m r h.1, h.2⟩) (run_main m ρ)

end

/-- Over the extended reals every run ends with the three results, too. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      left r c main_v51_0
        = (fun j => inputGrad (xA m c) (gA m c) (modA m c) (wA m c) (dx2A m c) (dzA m c) (j 0) (j 1))
      ∧ left r c main_v51_1
        = (fun j => sums (xA m c) (gA m c) (modA m c) (wA m c) (dzA m c) (j 0) (j 1))
      ∧ left r c main_v51_2
        = (fun j => tapGrad (xA m c) (gA m c) (modA m c) (wA m c) (dqA m c) (j 0) (j 1))
      ∧ Kept m r.2.mem c :=
  (θ_run defs _ _).mono (fun r h c => ⟨((h.1 c).1 9).trans (gx_array m c), ((h.1 c).1 10).trans (sm_array m c),
    ((h.1 c).1 11).trans (dcw_array m c), kept m r h.1 c⟩) (run_main m ρ)

end Cert.BwdIn

end
-- ==== Proof.Lib.Reals.lean ====
/- Extended reals that are real: sums of them, the programs' constants, and the sigmoid. -/
module

public import Idealize.ShloMosaic.PureOps.Ideal
public import Mathlib.Tactic.Ring
public import Mathlib.Tactic.FieldSimp
public import Mathlib.Tactic.Positivity
public import Mathlib.Analysis.SpecialFunctions.Trigonometric.DerivHyp

@[expose] public section

noncomputable section

namespace Cert.Hand

open Idealize.ShloMosaic

/-- A sum of reals is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- Division of reals by a real that is not zero. -/
theorem div_coe (x y : ℝ) (h : y ≠ 0) : Ideal.div (x : EReal) (y : EReal) = ((x / y : ℝ) : EReal) := by
  unfold Ideal.div
  rw [if_neg (fun e => h (EReal.coe_eq_zero.mp e)), ← EReal.coe_inv, ← EReal.coe_mul, div_eq_mul_inv]

theorem half_eq : Ideal.ofBits .f32 0x3F000000#32 = ((1 / 2 : ℝ) : EReal) := by
  simp [Ideal.ofBits, Ideal.ieee, -EReal.coe_mul]; norm_num

theorem neg_half_eq : Ideal.ofBits .f32 0xBF000000#32 = ((-(1 / 2) : ℝ) : EReal) := by
  simp [Ideal.ofBits, Ideal.ieee, -EReal.coe_mul, -EReal.coe_neg]; norm_num

theorem width_eq : Ideal.ofBits .f32 0x44800000#32 = ((1024 : ℝ) : EReal) := by
  simp [Ideal.ofBits, Ideal.ieee, -EReal.coe_mul]; norm_num

theorem eps_eq : ∃ e : ℝ, 0 < e ∧ Ideal.ofBits .f32 0x358637BD#32 = (e : EReal) := by
  refine ⟨8796093 / 2 ^ 43, by positivity, ?_⟩
  simp [Ideal.ofBits, Ideal.ieee, -EReal.coe_mul]; norm_num

/-- The sigmoid by the hyperbolic tangent and by the exponential. -/
theorem sigmoid_eq (u : EReal) : Ideal.ofBits .f32 0x3F000000#32 * Ideal.tanh (Ideal.ofBits .f32 0x3F000000#32 * u) + Ideal.ofBits .f32 0x3F000000#32
    = Ideal.div 1 (1 + Ideal.exp (-u)) := by
  rw [half_eq]
  have hh : (0 : ℝ) < 1 / 2 := by norm_num
  induction u using EReal.rec with
  | bot =>
    rw [EReal.coe_mul_bot_of_pos hh, EReal.neg_bot]
    change ((1 / 2 : ℝ) : EReal) * (-1) + _ = Ideal.div 1 (1 + ⊤)
    rw [show (-1 : EReal) = ((-1 : ℝ) : EReal) by rw [EReal.coe_neg, EReal.coe_one], ← EReal.coe_mul, ← EReal.coe_add, EReal.add_top_of_ne_bot (by decide)]
    unfold Ideal.div
    rw [if_neg (by decide), EReal.inv_top, mul_zero]
    norm_num
  | top =>
    rw [EReal.coe_mul_top_of_pos hh, EReal.neg_top]
    change ((1 / 2 : ℝ) : EReal) * 1 + _ = Ideal.div 1 (1 + 0)
    rw [mul_one, add_zero, ← EReal.coe_add, show (1 : EReal) = ((1 : ℝ) : EReal) by norm_cast, div_coe _ _ one_ne_zero]
    norm_num
  | coe r =>
    change ((1 / 2 : ℝ) : EReal) * Ideal.tanh (((1 / 2 : ℝ) : EReal) * (r : EReal)) + _ = Ideal.div 1 (1 + Ideal.exp (-(r : EReal)))
    rw [← EReal.coe_mul, ← EReal.coe_neg]
    change ((1 / 2 : ℝ) : EReal) * (Real.tanh (1 / 2 * r) : EReal) + _ = Ideal.div 1 (1 + (Real.exp (-r) : EReal))
    have e : (0 : ℝ) < 1 + Real.exp (-r) := by positivity
    rw [show (1 : EReal) = ((1 : ℝ) : EReal) by norm_cast, ← EReal.coe_add, div_coe _ _ e.ne', ← EReal.coe_mul, ← EReal.coe_add]
    refine congrArg _ ?_
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    rw [h1]
    have p1 := Real.exp_pos (1 / 2 * r)
    have p2 := Real.exp_pos (-(1 / 2 * r))
    generalize Real.exp (1 / 2 * r) = a at *
    generalize Real.exp (-(1 / 2 * r)) = b at *
    obtain rfl : a = b⁻¹ := eq_inv_of_mul_eq_one_left h2
    field_simp
    ring

end Cert.Hand

end
-- ==== Proof.BwdIn.Norm.lean ====
/- The gradient through the norm, as the kernel arranges it and as the derivative gives it, where the numbers are real. -/
module

public import proofs.«01_k».proof.Proof.BwdIn.Spec
public import proofs.«01_k».proof.Proof.Lib.Reals

@[expose] public section

noncomputable section

namespace Cert.BwdIn

open Idealize.ShloMosaic Cert.Hand

/-- What the derivative multiplies the row by, twice: the part of the gradient that goes through the root mean square. -/
def through (s1 g x dh : Fin 1024 → EReal) : EReal :=
  Ideal.div ((∑ k, x k * ((dh k * s1 k) * g k)) * (Ideal.ofBits .f32 0xBF000000#32 * Ideal.div (inv x) (Ideal.div (∑ k, x k * x k) width + eps))) width

/-- The gradient of a row as the derivative gives it. -/
def chain (s1 g x dh dx : Fin 1024 → EReal) (c : Fin 1024) : EReal :=
  dx c + ((dh c * s1 c) * g c) * inv x + x c * through s1 g x dh + through s1 g x dh * x c

theorem grad_eq (s1 g x dh dx : Fin 1024 → EReal) (hs : ∀ k, ∃ r : ℝ, s1 k = r) (hg : ∀ k, ∃ r : ℝ, g k = r) (hx : ∀ k, ∃ r : ℝ, x k = r)
    (hd : ∀ k, ∃ r : ℝ, dh k = r) (c : Fin 1024) : grad s1 g x dh dx c = chain s1 g x dh dx c := by
  choose s hs using hs
  choose w hg using hg
  choose y hx using hx
  choose d hd using hd
  obtain rfl : s1 = fun k => (s k : EReal) := funext hs
  obtain rfl : g = fun k => (w k : EReal) := funext hg
  obtain rfl : x = fun k => (y k : EReal) := funext hx
  obtain rfl : dh = fun k => (d k : EReal) := funext hd
  obtain ⟨e, he, hev⟩ := eps_eq
  have hm : Ideal.div (∑ k : Fin 1024, (y k : EReal) * (y k : EReal)) width + eps = (((∑ k, y k * y k) / 1024 + e : ℝ) : EReal) := by
    simp only [width, eps, width_eq, hev, ← EReal.coe_mul, coe_sum]
    rw [div_coe _ _ (by norm_num), ← EReal.coe_add]
  have hv : 0 < (∑ k, y k * y k) / 1024 + e := add_pos_of_nonneg_of_pos (div_nonneg (Finset.sum_nonneg fun k _ => mul_self_nonneg _) (by norm_num)) he
  generalize (∑ k, y k * y k) / 1024 + e = v at hm hv
  have hi : inv (fun k => (y k : EReal)) = (((Real.sqrt v)⁻¹ : ℝ) : EReal) := by
    unfold inv
    rw [hm]
    change (if v < 0 then (⊥ : EReal) else if v = 0 then ⊤ else (((Real.sqrt v)⁻¹ : ℝ) : EReal)) = _
    rw [if_neg (not_lt.mpr hv.le), if_neg hv.ne']
  unfold grad chain through
  rw [hm, hi]
  simp only [width, width_eq, neg_half_eq, ← EReal.coe_mul, coe_sum]
  rw [div_coe _ _ hv.ne']
  simp only [← EReal.coe_mul, div_coe _ _ (show (1024 : ℝ) ≠ 0 by norm_num), ← EReal.coe_sub, add_assoc, ← EReal.coe_add]
  refine congrArg (dx c + ·) (congrArg _ ?_)
  have h2 : Real.sqrt v * Real.sqrt v = v := Real.mul_self_sqrt hv.le
  have h3 : Real.sqrt v ≠ 0 := fun h => hv.ne' (by rw [← h2, h, mul_zero])
  have e1 : ∑ k, d k * (w k * s k) * (y k * (Real.sqrt v)⁻¹) = (∑ k, y k * (d k * s k * w k)) * (Real.sqrt v)⁻¹ := by
    rw [Finset.sum_mul]
    exact Finset.sum_congr rfl fun k _ => by ring
  rw [e1]
  generalize ∑ k, y k * (d k * s k * w k) = S
  rw [show (Real.sqrt v)⁻¹ / v = (Real.sqrt v)⁻¹ / (Real.sqrt v * Real.sqrt v) by rw [h2]]
  generalize Real.sqrt v = q at *
  field_simp
  ring

end Cert.BwdIn

end
-- ==== Proof.Lib.Gather.lean ====
/- A gather of whole rows, read at an index. -/
module

public import Idealize.ShloMosaic.Lib.Pointwise

@[expose] public section

noncomputable section

namespace Cert.Hand

open Idealize.ShloMosaic

variable {α : Type} {N C A B w : Nat}

/-- The gather that takes a row of an `[N, C]` array for each of `[A, B]` start indices. -/
abbrev rowDims (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Place `(o, n, k)` holds column `k` of the row that start index `(o, n)` names, held within the array. -/
theorem gather_row (hN : 0 < N) (wf : GatherDims.WF ⟨2, ![N, C]⟩ ⟨3, ![A, B, 1]⟩ ⟨3, ![A, B, C]⟩ [2] [0] [] [0] [] 2 ![1, C])
    (x : (⟨2, ![N, C]⟩ : Shape).Idx → α) (s : IVec ⟨3, ![A, B, 1]⟩ w) (o : Fin A) (n : Fin B) (k : Fin C) :
    Host.gather (rowDims wf) x s (ix3 o n k) = x (ix2 ⟨min (s (ix3 o n 0)).toInt.toNat (N - 1), by omega⟩ k) := by
  unfold Host.gather
  congr 1
  funext a
  refine Fin.ext ?_
  change (rowDims wf).start (ix3 o n k) s a + (rowDims wf).batchCoord (ix3 o n k) a + (rowDims wf).offCoord (ix3 o n k) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims wf).startIndexMap from List.mem_singleton.mpr rfl)]
    have hs : (rowDims wf).siIdx (ix3 o n k) ⟨List.idxOf (0 : Fin 2) (rowDims wf).startIndexMap,
        List.idxOf_lt_length_iff.2 (List.mem_singleton.mpr rfl)⟩ = ix3 o n 0 := by
      funext b
      refine Fin.ext ?_
      match b with
      | ⟨0, _⟩ => rfl
      | ⟨1, _⟩ => rfl
      | ⟨2, _⟩ => rfl
    rw [hs]
    rfl
  · have h0 : (rowDims wf).start (ix3 o n k) s 1 = 0 := by
      unfold GatherDims.start
      rw [dif_neg (show ¬ (1 : Fin 2) ∈ (rowDims wf).startIndexMap from by simp)]
    rw [h0, Nat.zero_add]
    rfl

end Cert.Hand

end
-- ==== Proof.BwdIn.Reference.lean ====
/- The reference's results, as elements of its arguments. -/
module

public import proofs.«01_k».proof.Proof.Lib.Mem
public import proofs.«01_k».proof.Proof.BwdIn.Norm
public import proofs.«01_k».proof.Proof.Gen.ReferenceIdeal.Run
public import proofs.«01_k».proof.Proof.Lib.Gather
public import Idealize.ShloMosaic.Lib.StableHlo.ReadAt

@[expose] public section

set_option maxRecDepth 16384

noncomputable section

namespace Cert.BwdIn.Ref

open Idealize.ShloMosaic Idealize.ShloMosaic.TcCoe Idealize.SL.Sem Cert.ReferenceIdeal Cert.ReferenceIdeal.Gen Cert.ReferenceIdeal.Value Cert.Hand

variable (m : (ℓ : Loc nD τ sig) → Buf (Elt Ideal) ℓ) (c : Dev nD)

/-- An argument's contents. -/
abbrev arg (r : Ref sig .tc) : Buf (Elt Ideal) ((c.tc : Thread nD τ).loc r) := m ((c.tc : Thread nD τ).loc r)

/-! ## The arguments by their places -/

def xA (n : Fin 4096) (k : Fin 1024) : EReal := arg m c main_arg0 (ix2 n k)
def gA (k : Fin 1024) : EReal := arg m c main_arg1 (ix1 k)
def modA (k : Fin 3072) : EReal := arg m c main_arg2 (ix1 k)
def wA (k : Fin 1024) (e : Fin 6144) : EReal := arg m c main_arg3 (ix2 k e)
def dx2A (n : Fin 4096) (k : Fin 1024) : EReal := arg m c main_arg6 (ix2 n k)
def dzA (n : Fin 4096) (e : Fin 6144) : EReal := arg m c main_arg7 (ix2 n e)
def dqA (n : Fin 4096) (k : Fin 1024) : EReal := arg m c main_arg8 (ix2 n k)

/-! ## The results -/

theorem gx_at (n : Fin 4096) (k : Fin 1024) : (res_main_v58 m c (ix2 n k) : EReal)
    = chain (scale1 (modA m c)) (gA m c) (xA m c n) (back (dzA m c) (wA m c) n) (dx2A m c n) k := by
  unfold res_main_v58
  pointwise
  simp only [Fin.sum_univ_one, Finset.univ_unique, Finset.sum_singleton]
  rfl

theorem small_word (o : Fin 31) (n : Fin 4096) : (IntOp.addi (BitVec.ofNat 32 o.val) (BitVec.ofNat 32 n.val)).toInt.toNat = n.val + o.val := by
  have h : (IntOp.addi (BitVec.ofNat 32 o.val) (BitVec.ofNat 32 n.val)).toNat = n.val + o.val := by
    change (BitVec.ofNat 32 o.val + BitVec.ofNat 32 n.val).toNat = _
    rw [BitVec.toNat_add, BitVec.toNat_ofNat, BitVec.toNat_ofNat]
    omega
  rw [BitVec.toInt_eq_toNat_cond, h, if_pos (by omega)]
  rfl

/-- The rows the taps read: the gated rows between fifteen rows of zeros and fifteen rows of zeros. -/
theorem rows_at (X : S4096x1024.Idx → Ideal .f32) (n : Fin 4096) (k : Fin 1024) (o : Fin 31) :
    (Host.gather (α := Ideal .f32) gather_S4126x1024_S31x4096x1_S31x4096x1024_2_0_n_n_0_2_11024
      (pad S4126x1024 ![15, 0] ![15, 0] ![0, 0] X (sitofp (F := Ideal) .f32 (constantI S_ 32 0#32)) pads_S4096x1024_S4126x1024_15150_000 h_S_)
      (broadcastInDim S31x4096x1 ![0, 1] bcast_S31x4096_S31x4096x1_0_1
        (addi (broadcastInDim S31x4096 ![0, 1] bcast_S31x1_S31x4096_0_1 (broadcastInDim S31x1 ![0] bcast_S31_S31x1_0 (iotaInDim S31 32 0)))
          (broadcastInDim S31x4096 ![0, 1] bcast_S1x4096_S31x4096_0_1 (broadcastInDim S1x4096 ![1] bcast_S4096_S1x4096_1 (iotaInDim S4096 32 0)))))
      (ix3 o n k) : EReal) = padded (fun i => X (ix2 i k)) (n.val + o.val) := by
  refine (gather_row (by decide) gather_S4126x1024_S31x4096x1_S31x4096x1024_2_0_n_n_0_2_11024_wf _ _ o n k).trans ?_
  pointwise
  simp only [small_word, show min (n.val + o.val) 4125 = n.val + o.val by omega]
  unfold padded
  by_cases h : 15 ≤ n.val + o.val ∧ n.val + o.val < 4111
  · rw [dif_pos h]
    exact dif_pos ⟨h.1, by omega⟩
  · rw [dif_neg h]
    refine (dif_neg (by omega)).trans ?_
    change (((0#32 : BitVec 32).toInt : ℝ) : EReal) = 0
    simp

theorem tap_at (o : Fin 31) (k : Fin 1024) : (res_main_v100 m c (ix2 ⟨o.val, by omega⟩ k) : EReal)
    = tapGrad (xA m c) (gA m c) (modA m c) (wA m c) (dqA m c) ⟨o.val, by omega⟩ k := by
  unfold res_main_v100
  pointwise
  simp only [Fin.sum_univ_one, Finset.univ_unique, Finset.sum_singleton]
  unfold tapGrad
  refine Finset.sum_congr (M := EReal) rfl fun n _ => ?_
  unfold share
  rw [if_pos (show o.val < 31 from o.2)]
  refine (mul_comm _ _).trans (congrArg (dqA m c n k * ·) ((rows_at _ n k o).trans (congrArg (fun p => padded p (n.val + o.val)) (funext fun i => ?_))))
  unfold glu
  rw [sigmoid_eq]
  pointwise
  rfl

theorem bias_at (k : Fin 1024) : (res_main_v100 m c (ix2 31 k) : EReal) = tapGrad (xA m c) (gA m c) (modA m c) (wA m c) (dqA m c) 31 k := by
  unfold res_main_v100
  pointwise
  simp only [Fin.sum_univ_one, Finset.univ_unique, Finset.sum_singleton]
  rfl

theorem taps_at (o : Fin 32) (k : Fin 1024) : (res_main_v100 m c (ix2 o k) : EReal)
    = tapGrad (xA m c) (gA m c) (modA m c) (wA m c) (dqA m c) o k := by
  by_cases h : o.val < 31
  · exact tap_at m c ⟨o.val, h⟩ k
  · obtain rfl : o = 31 := Fin.ext (by have := o.2; change o.val = 31; omega)
    exact bias_at m c k

/-- The arguments end as they were. -/
def Kept (m m' : (ℓ : Loc nD τ sig) → Buf (Elt Ideal) ℓ) (c : Dev nD) : Prop :=
  Same m m' c main_arg0 ∧ Same m m' c main_arg1 ∧ Same m m' c main_arg2 ∧ Same m m' c main_arg3 ∧ Same m m' c main_arg4
    ∧ Same m m' c main_arg5 ∧ Same m m' c main_arg6 ∧ Same m m' c main_arg7 ∧ Same m m' c main_arg8

/-- Every run ends with the arguments as they were and every counter at zero. -/
theorem run_frame (ρ : Dev nD → PrngReg) : θ_run defs (onTc (τ := τ) (main (F := Ideal))) ⟨m, fun _ => 0, ρ⟩
    fun r => (∀ c : Dev nD, Kept m r.2.mem c) ∧ r.2.sem = fun _ => 0 := by
  exact (θ_run defs _ _).mono (fun r h => ⟨fun c => (h c).2.2.2, sem_eq_zero_of_no_sems (by decide) r.2⟩) (run m ρ)

/-- Every run ends with the three results at the derivative's values and the arguments as they were. -/
theorem run_values (ρ : Dev nD → PrngReg) :
    θ_run defs (onTc (τ := τ) (main (F := Ideal))) ⟨m, fun _ => 0, ρ⟩ fun r => ∀ c : Dev nD,
      left r c main_v58
        = (fun j => chain (scale1 (modA m c)) (gA m c) (xA m c (j 0)) (back (dzA m c) (wA m c) (j 0)) (dx2A m c (j 0)) (j 1))
      ∧ left r c main_v98
        = (fun j => sums (xA m c) (gA m c) (modA m c) (wA m c) (dzA m c) (j 0) (j 1))
      ∧ left r c main_v100
        = (fun j => tapGrad (xA m c) (gA m c) (modA m c) (wA m c) (dqA m c) (j 0) (j 1))
      ∧ Kept m r.2.mem c := by
  refine (θ_run defs _ _).mono (fun r h c => ?_) (run m ρ)
  obtain ⟨h0, h1, h2, ha⟩ := h c
  refine ⟨h0.trans (funext fun j => ?_), h1.trans (funext fun j => ?_), h2.trans (funext fun j => ?_), ha⟩
  · exact (congrArg (res_main_v58 m c) (eq_ix2 j)).trans (gx_at m c (j 0) (j 1))
  · obtain ⟨q, k, rfl⟩ := two j
    change _ = sums (xA m c) (gA m c) (modA m c) (wA m c) (dzA m c) q k
    fin_cases q
    all_goals dsimp only
    all_goals pointwise
    all_goals unfold sums
    all_goals
      first
      | (refine Eq.trans ?_ (dif_pos ?_).symm
         · simp only [Fin.sum_univ_one, Finset.univ_unique, Finset.sum_singleton]
           refine Finset.sum_congr (M := EReal) rfl fun n _ => ?_
           first
           | rfl
           | exact mul_comm _ _
         · decide)
      | skip
    all_goals
      refine Eq.trans ?_ (dif_neg ?_).symm
      · rfl
      · decide
  · exact (congrArg (res_main_v100 m c) (eq_ix2 j)).trans (taps_at m c (j 0) (j 1))

end Cert.BwdIn.Ref

end
-- ==== Proof.BwdIn.Equal.lean ====
/- Where the arguments are real, the kernel's input gradient is the derivative's. -/
module

public import proofs.«01_k».proof.Defs
public import proofs.«01_k».proof.Proof.BwdIn.Values
public import proofs.«01_k».proof.Proof.BwdIn.Reference

@[expose] public section

noncomputable section

namespace Cert.BwdIn

open Idealize.ShloMosaic Idealize.ShloMosaic.TcCoe Cert.Hand

/-- The conditions the precondition's operations take. -/
instance finite_facts : Cert.Pre_finite.Facts where
  bcast_S_S4096x1024 := by decide
  bcast_S_S1024 := by decide
  bcast_S_S3072 := by decide
  bcast_S_S1024x6144 := by decide
  bcast_S_S4096x6144 := by decide

/-- A number whose magnitude compares below the largest word is real. -/
theorem real_of_lt (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  have hl := (Ideal.cmp_olt_eq_one _ _).mp h
  induction x using EReal.rec with
  | bot => simp at hl
  | top => simp at hl
  | coe r => exact ⟨r, rfl⟩

variable (m : (ℓ : Loc Cert.KernelIdeal.nD Cert.KernelIdeal.τ Cert.KernelIdeal.sig) → Buf (Elt Ideal) ℓ)

/-- The input gradients agree. -/
theorem grads_agree (h : Cert.Pre_KernelIdeal_finite m) (c : Dev Cert.KernelIdeal.nD) (n : Fin 4096) (k : Fin 1024) :
    inputGrad (xA m c) (gA m c) (modA m c) (wA m c) (dx2A m c) (dzA m c) n k
      = chain (scale1 (modA m c)) (gA m c) (xA m c n) (back (dzA m c) (wA m c) n) (dx2A m c n) k := by
  obtain ⟨hx, hg, hm, hw, hz⟩ := h c
  have rx : ∀ n k, ∃ r : ℝ, xA m c n k = r := fun n k => real_of_lt _ (congrFun hx (ix2 n k))
  have rg : ∀ k, ∃ r : ℝ, gA m c k = r := fun k => real_of_lt _ (congrFun hg (ix1 k))
  have rm : ∀ k, ∃ r : ℝ, modA m c k = r := fun k => real_of_lt _ (congrFun hm (ix1 k))
  have rw' : ∀ k e, ∃ r : ℝ, wA m c k e = r := fun k e => real_of_lt _ (congrFun hw (ix2 k e))
  have rz : ∀ n e, ∃ r : ℝ, dzA m c n e = r := fun n e => real_of_lt _ (congrFun hz (ix2 n e))
  refine grad_eq _ _ _ _ _ (fun k => ?_) rg (rx n) (fun k => ?_) k
  · obtain ⟨r, hr⟩ := rm ⟨1024 + k.val, by omega⟩
    exact ⟨1 + r, by unfold scale1; rw [hr, EReal.coe_add, EReal.coe_one]⟩
  · choose w hw using rw' k
    choose z hz using rz n
    refine ⟨∑ e, z e * w e, ?_⟩
    unfold back
    rw [← coe_sum]
    exact Finset.sum_congr rfl fun e _ => by rw [hw, hz, EReal.coe_mul]

end Cert.BwdIn

end
-- ==== Proof.Middle.Rows.lean ====
/- What the middle kernel computes of sixteen rows, of a tile and of a block: its functions on vectors. -/
module

public import proofs.«01_k».proof.Proof.Gen.Kernel2Ideal
public import Idealize.ShloMosaic.Lib.Tactic

@[expose] public section

noncomputable section

namespace Cert.Middle

open Idealize.ShloMosaic Idealize.SL.Sem Cert.Kernel2Ideal
open Cert.Kernel2Ideal.Facts₀ Cert.Kernel2Ideal.Facts

variable {F : FTy → Type} [FloatOps F]

/-- Sixteen rows. -/
abbrev V16 (F : FTy → Type) : Type := FVec F S16x1024 .f32

/-- A number in all places of sixteen rows. -/
def lit (b : BitVec 32) : V16 F := broadcast S16x1024 (Scalar.ofBits .f32 b)

/-- A row spread over sixteen. -/
def spread (v : FVec F S1x1024 .f32) : V16 F := broadcastTo S16x1024 v broadcasts_S1x1024_S16x1024

/-- A value per row spread over its columns. -/
def across (v : FVec F S16x1 .f32) : V16 F := broadcastTo S16x1024 v broadcasts_S16x1_S16x1024

/-- The mean of each of sixteen rows. -/
def mean (v : V16 F) : FVec F S16x1 .f32 :=
  divf (shapeCast S16x1 (multiReduction .add [1] S16 v 0x00000000#32 reduces_S16x1024_S16 (.inl rfl) rfl) shapeCasts_S16_S16x1)
    (broadcast S16x1 (Scalar.ofBits .f32 0x44800000#32))

/-- Rows less their means. -/
def cen (v : V16 F) : V16 F := subf v (across (mean v))

/-- One over the root of the mean square of each row. -/
def invRms (v : V16 F) : FVec F S16x1 .f32 :=
  rsqrt (addf (mean (mulf v v)) (broadcast S16x1 (Scalar.ofBits .f32 0x358637BD#32)))

/-- Rows of mean zero and mean square one. -/
def hat (v : V16 F) : V16 F := mulf (cen v) (across (invRms (cen v)))

/-- A gain and an offset. -/
def affine (n : V16 F) (g b : FVec F S1x1024 .f32) : V16 F := addf (mulf n (spread g)) (spread b)

/-- The logistic function. -/
def logistic (v : V16 F) : V16 F := addf (mulf (lit 0x3F000000#32) (tanh (mulf (lit 0x3F000000#32) v))) (lit 0x3F000000#32)

/-- The slope of `v` times the logistic function of `v`, whose logistic value is `s`. -/
def dsilu (v s : V16 F) : V16 F :=
  mulf s (addf (lit 0x3F800000#32) (mulf v (subf (lit 0x3F800000#32) s)))

/-- Sixteen rows added up onto eight. -/
def fold8 (v : V16 F) : FVec F S8x1024 .f32 :=
  multiReduction .add [0] S8x1024 (shapeCast S2x8x1024 v shapeCasts_S16x1024_S2x8x1024) 0x00000000#32 reduces_S2x8x1024_S8x1024 (.inl rfl) rfl

/-- The convolution's rows from their eight channel blocks. -/
def join8 (q : Fin 8 → FVec F S1x16x128 .f32) : V16 F :=
  concatenate S16x1024 1 [⟨S16x128, shapeCast S16x128 (q 0) shapeCasts_S1x16x128_S16x128⟩, ⟨S16x128, shapeCast S16x128 (q 1) shapeCasts_S1x16x128_S16x128⟩,
    ⟨S16x128, shapeCast S16x128 (q 2) shapeCasts_S1x16x128_S16x128⟩, ⟨S16x128, shapeCast S16x128 (q 3) shapeCasts_S1x16x128_S16x128⟩,
    ⟨S16x128, shapeCast S16x128 (q 4) shapeCasts_S1x16x128_S16x128⟩, ⟨S16x128, shapeCast S16x128 (q 5) shapeCasts_S1x16x128_S16x128⟩,
    ⟨S16x128, shapeCast S16x128 (q 6) shapeCasts_S1x16x128_S16x128⟩, ⟨S16x128, shapeCast S16x128 (q 7) shapeCasts_S1x16x128_S16x128⟩]
    concatenates_S16x128_S16x128_S16x128_S16x128_S16x128_S16x128_S16x128_S16x128_S16x1024_d1

/-- A plane of sixteen rows as a matrix, -/
def flat {t : FTy} (v : FVec F S1x16x1024 t) : FVec F S16x1024 t := shapeCast S16x1024 v shapeCasts_S1x16x1024_S16x1024
/-- and back. -/
def lift {t : FTy} (v : FVec F S16x1024 t) : FVec F S1x16x1024 t := shapeCast S1x16x1024 v shapeCasts_S16x1024_S1x16x1024
/-- A value per row as a matrix, -/
def flat1 (v : FVec F S1x16x1 .f32) : FVec F S16x1 .f32 := shapeCast S16x1 v shapeCasts_S1x16x1_S16x1
/-- and back. -/
def lift1 (v : FVec F S16x1 .f32) : FVec F S1x16x1 .f32 := shapeCast S1x16x1 v shapeCasts_S16x1_S1x16x1
/-- A parameter's row. -/
def row (v : FVec F S1x1024 .f32) : FVec F S1x1024 .f32 := shapeCast S1x1024 v shapeCasts_S1x1024_S1x1024
/-- Rows rounded. -/
def round16 (v : V16 F) : FVec F S16x1024 .bf16 := truncf .bf16 v bitsLt_bf16_f32

/-- One branch: the normalised convolution, gated twice. -/
def ya (ln sl gz sg : V16 F) : V16 F := mulf (mulf ln sl) (mulf gz sg)

/-- The other branch: a product, gated. -/
def yb (u vm bg sb : V16 F) : V16 F := mulf (mulf u vm) (mulf bg sb)

/-- The residual stream. -/
def resid (x y : V16 F) (gm : FVec F S1x1024 .f32) : V16 F := addf x (mulf (spread gm) y)

/-- Its rows of mean square one, -/
def xn2 (x2 : V16 F) : V16 F := mulf x2 (across (invRms x2))

/-- and how far they are from the target. -/
def err (x2 t : V16 F) (fg : FVec F S1x1024 .f32) : V16 F := subf (mulf (xn2 x2) (spread fg)) t

/-- The loss's gradient at the prediction. -/
def dout (x2 t : V16 F) (fg : FVec F S1x1024 .f32) : V16 F := mulf (err x2 t fg) (lit 0x3A800000#32)

/-- A gradient `d` with the part along the normalised rows `n` taken off, times the root. -/
def unscale (n d : V16 F) (r : FVec F S16x1 .f32) : V16 F := mulf (across r) (subf d (mulf n (across (mean (mulf d n)))))

/-- The same with the mean taken off as well. -/
def uncentre (n d : V16 F) (r : FVec F S16x1 .f32) : V16 F := mulf (across r) (subf (subf d (across (mean d))) (mulf n (across (mean (mulf d n)))))

/-- The gradient at the residual stream. -/
def dx2 (x2 t : V16 F) (fg : FVec F S1x1024 .f32) : V16 F := unscale (xn2 x2) (mulf (dout x2 t fg) (spread fg)) (invRms x2)

/-- A head's weights, rounded. -/
def head (w : FVec F S1x128x128 .f32) : FVec F S128x128 .bf16 :=
  truncf .bf16 (shapeCast S128x128 w shapeCasts_S1x128x128_S128x128) bitsLt_bf16_f32

/-- One head mixing one chunk. -/
def mix (w : FVec F S1x128x128 .f32) (v : FVec F S128x128 .bf16) (b : FVec F S128x128 .f32) : FVec F S128x128 .f32 :=
  shapeCast S128x128 (addf (matmul dot_S128x128_S128x128_S128x128_1_0_0_1_n_n none (head w) v (constant S128x128 .f32 0x00000000#32))
    (shapeCast S128x128 b shapeCasts_S128x128_S128x128)) shapeCasts_S128x128_S128x128

/-- One chunk's share of a head's weight gradient, added to what there is. -/
def addHead (a : FVec F S1x128x128 .f32) (d v : FVec F S128x128 .bf16) : FVec F S1x128x128 .f32 :=
  shapeCast S1x128x128 (addf (shapeCast S128x128 a shapeCasts_S1x128x128_S128x128)
    (matmul dot_S128x128_S128x128_S128x128_1_1_0_0_n_n none d v (constant S128x128 .f32 0x00000000#32))) shapeCasts_S128x128_S1x128x128

/-- The gradient one head hands back. -/
def unmix (w : FVec F S1x128x128 .f32) (d : FVec F S128x128 .bf16) : FVec F S128x128 .f32 :=
  shapeCast S128x128 (matmul dot_S128x128_S128x128_S128x128_0_0_1_1_n_n none (head w) d (constant S128x128 .f32 0x00000000#32)) shapeCasts_S128x128_S128x128

/-- The projection of a block, -/
def project (a : FVec F S256x2048 .bf16) (w : FVec F S2048x1024 .bf16) : FVec F S256x1024 .f32 :=
  shapeCast S256x1024 (matmul dot_S256x2048_S2048x1024_S256x1024_1_0_0_1_n_n none (shapeCast S256x2048 a shapeCasts_S256x2048_S256x2048)
    (shapeCast S2048x1024 w shapeCasts_S2048x1024_S2048x1024) (constant S256x1024 .f32 0x00000000#32)) shapeCasts_S256x1024_S256x1024

/-- and its gradient at its input. -/
def unproject (d : FVec F S256x1024 .bf16) (w : FVec F S2048x1024 .bf16) : FVec F S256x2048 .f32 :=
  shapeCast S256x2048 (matmul dot_S256x1024_S2048x1024_S256x2048_1_1_0_0_n_n none (shapeCast S256x1024 d shapeCasts_S256x1024_S256x1024)
    (shapeCast S2048x1024 w shapeCasts_S2048x1024_S2048x1024) (constant S256x2048 .f32 0x00000000#32)) shapeCasts_S256x2048_S256x2048

/-- A row group of the column sums with a share added. -/
def addSum (a : FVec F S1x8x1024 .f32) (c : V16 F) : FVec F S1x8x1024 .f32 :=
  shapeCast S1x8x1024 (addf (shapeCast S8x1024 a shapeCasts_S1x8x1024_S8x1024) (fold8 c)) shapeCasts_S8x1024_S1x8x1024

/-- Sixteen rows of the bias gradient with a share added. -/
def addRows (a c : V16 F) : V16 F := shapeCast S16x1024 (addf a c) shapeCasts_S16x1024_S16x1024

/-- What a row group of the column sums comes to, times a number. -/
def total (b : BitVec 32) (a : FVec F S1x8x1024 .f32) : FVec F S1x1024 .f32 :=
  mulf (shapeCast S1x1024 (multiReduction .add [0] S1024 (shapeCast S8x1024 a shapeCasts_S1x8x1024_S8x1024) 0x00000000#32 reduces_S8x1024_S1024 (.inl rfl) rfl)
    shapeCasts_S1024_S1x1024) (broadcast S1x1024 (Scalar.ofBits .f32 b))

/-- A head's bias gradient put into its column. -/
def putCol (h : BitVec 32) (a t : FVec F S128x128 .f32) : FVec F S128x128 .f32 :=
  select (cmpi .eq (iota .tc S128x128 32 [1] iota_S128x128_d1_w32 : IVec S128x128 32) (broadcast S128x128 h : IVec S128x128 32))
    (broadcastTo S128x128 (shapeCast S128x1 (shapeCast S128x1 (multiReduction .add [1] S128 a 0x00000000#32 reduces_S128x128_S128 (.inl rfl) rfl)
      shapeCasts_S128_S128x1) shapeCasts_S128x1_S128x1) broadcasts_S128x1_S128x128) t

end Cert.Middle

end
-- ==== Proof.Middle.Body.lean ====
/- The body of the middle kernel as a function on the contents of its blocks and scratch arrays, written with the loops
   that the printed program spells out. `body_eq` says that the two are one program. -/
module

public import proofs.«01_k».proof.Proof.Middle.Rows
public import proofs.«01_k».proof.Proof.Lib.Mem

@[expose] public section

noncomputable section

namespace Cert.Middle

open Idealize.ShloMosaic Idealize.SL.Sem Cert.Kernel2Ideal Cert.Hand Cert.Hand.Mem
open Cert.Kernel2Ideal.Facts₀ Cert.Kernel2Ideal.Facts

variable {F : FTy → Type} [FloatOps F]

/-- The grid's points. -/
def point (n : Fin 16) : grid0.Coords := fun a => ⟨n.val, by obtain rfl : a = 0 := Subsingleton.elim _ _; exact n.2⟩

/-- The body's memrefs: its input blocks, its output blocks and its scratch arrays. -/
inductive Slot where
  | x | z | q | tg | cg | cb | sg | sb | fg | mod | ws | bs | wo
  | dz | dq | dx | yc | dy | dw | sm | db
  | vl | vm | y | dyc | dvm | dvl | acc | dba | keep | rs
  deriving DecidableEq

instance : Fintype Slot :=
  ⟨{.x, .z, .q, .tg, .cg, .cb, .sg, .sb, .fg, .mod, .ws, .bs, .wo, .dz, .dq, .dx, .yc, .dy, .dw, .sm, .db,
    .vl, .vm, .y, .dyc, .dvm, .dvl, .acc, .dba, .keep, .rs}, fun b => by cases b <;> decide⟩

/-- Each memref's shape -/
@[reducible] def Slot.shape : Slot → Shape
  | .x => S256x1024 | .z => S4x256x1024 | .q => S8x256x128 | .tg => S256x1024 | .cg => S1x1024 | .cb => S1x1024
  | .sg => S1x1024 | .sb => S1x1024 | .fg => S1x1024 | .mod => S1x3072 | .ws => S8x128x128 | .bs => S128x1024 | .wo => S2048x1024
  | .dz => S4x256x1024 | .dq => S8x256x128 | .dx => S256x1024 | .yc => S256x2048 | .dy => S256x1024 | .dw => S8x128x128
  | .sm => S8x1024 | .db => S128x128
  | .vl => S256x1024 | .vm => S256x1024 | .y => S256x1024 | .dyc => S256x2048 | .dvm => S256x1024 | .dvl => S256x1024
  | .acc => S8x8x1024 | .dba => S128x1024 | .keep => S5x256x1024 | .rs => S2x256x1

/-- and element type. -/
@[reducible] def Slot.elt : Slot → EltTy
  | .x => .f32 | .z => .f32 | .q => .f32 | .tg => .f32 | .cg => .f32 | .cb => .f32
  | .sg => .f32 | .sb => .f32 | .fg => .f32 | .mod => .f32 | .ws => .f32 | .bs => .f32 | .wo => .bf16
  | .dz => .bf16 | .dq => .f32 | .dx => .f32 | .yc => .bf16 | .dy => .bf16 | .dw => .f32
  | .sm => .f32 | .db => .f32
  | .vl => .bf16 | .vm => .f32 | .y => .f32 | .dyc => .f32 | .dvm => .bf16 | .dvl => .f32
  | .acc => .f32 | .dba => .f32 | .keep => .f32 | .rs => .f32

/-- The memrefs one run of the body is given. -/
abbrev Args : Type := (b : Slot) → Memref sig .tc .vmem b.shape b.elt

/-- They are one bank. -/
@[reducible] def bank (R : Args) : Bank sig Slot := ⟨Slot.shape, Slot.elt, R⟩

/-- A body on that bank. -/
abbrev Code (F : FTy → Type) (R : Args) (α : Type) : Type := Mem (bank R) (Elt F) α

variable (R : Args) (hR : ∀ b, (R b).IsWhole)

/-! ## The rectangles -/

theorem inb_row (k : Fin 16) : ∀ a, (![16 * k.val, 0] : Fin 2 → Nat) a + S16x1024.size a ≤ S256x1024.size a := by
  revert k; decide
theorem inb_low (k : Fin 16) : ∀ a, (![16 * k.val, 0] : Fin 2 → Nat) a + S16x1024.size a ≤ S256x2048.size a := by
  revert k; decide
theorem inb_high (k : Fin 16) : ∀ a, (![16 * k.val, 1024] : Fin 2 → Nat) a + S16x1024.size a ≤ S256x2048.size a := by
  revert k; decide
theorem inb_z (j : Fin 4) (k : Fin 16) : ∀ a, (![j.val, 16 * k.val, 0] : Fin 3 → Nat) a + S1x16x1024.size a ≤ S4x256x1024.size a := by
  revert j k; decide
theorem inb_keep (j : Fin 5) (k : Fin 16) : ∀ a, (![j.val, 16 * k.val, 0] : Fin 3 → Nat) a + S1x16x1024.size a ≤ S5x256x1024.size a := by
  revert j k; decide
theorem inb_rs (j : Fin 2) (k : Fin 16) : ∀ a, (![j.val, 16 * k.val, 0] : Fin 3 → Nat) a + S1x16x1.size a ≤ S2x256x1.size a := by
  revert j k; decide
theorem inb_q (j : Fin 8) (k : Fin 16) : ∀ a, (![j.val, 16 * k.val, 0] : Fin 3 → Nat) a + S1x16x128.size a ≤ S8x256x128.size a := by
  revert j k; decide
theorem inb_acc (q : Fin 8) : ∀ a, (![q.val, 0, 0] : Fin 3 → Nat) a + S1x8x1024.size a ≤ S8x8x1024.size a := by
  revert q; decide
theorem inb_head (h : Fin 8) : ∀ a, (![h.val, 0, 0] : Fin 3 → Nat) a + S1x128x128.size a ≤ S8x128x128.size a := by
  revert h; decide
theorem inb_unit (u : Fin 16) : ∀ a, (![128 * (u.val / 8), 128 * (u.val % 8)] : Fin 2 → Nat) a + S128x128.size a ≤ S256x1024.size a := by
  revert u; decide
theorem inb_bias (h : Fin 8) : ∀ a, (![0, 128 * h.val] : Fin 2 → Nat) a + S128x128.size a ≤ S128x1024.size a := by
  revert h; decide
theorem inb_dba (k : Fin 16) : ∀ a, (![16 * (k.val % 8), 0] : Fin 2 → Nat) a + S16x1024.size a ≤ S128x1024.size a := by
  revert k; decide
theorem inb_sm (q : Fin 8) : ∀ a, (![q.val, 0] : Fin 2 → Nat) a + S1x1024.size a ≤ S8x1024.size a := by
  revert q; decide

/-- Sixteen rows of a block. -/
@[reducible] def rRow (k : Fin 16) : Rect S256x1024 := Rect.unit (s := S256x1024) ![16 * k.val, 0] S16x1024.size (inb_row k)
/-- The lower half of sixteen rows of the branches, -/
@[reducible] def rLow (k : Fin 16) : Rect S256x2048 := Rect.unit (s := S256x2048) ![16 * k.val, 0] S16x1024.size (inb_low k)
/-- and the upper half. -/
@[reducible] def rHigh (k : Fin 16) : Rect S256x2048 := Rect.unit (s := S256x2048) ![16 * k.val, 1024] S16x1024.size (inb_high k)
/-- Sixteen rows of one of the four projections. -/
@[reducible] def rZ (j : Fin 4) (k : Fin 16) : Rect S4x256x1024 := Rect.unit (s := S4x256x1024) ![j.val, 16 * k.val, 0] S1x16x1024.size (inb_z j k)
/-- Sixteen rows of one of the five values kept. -/
@[reducible] def rKeep (j : Fin 5) (k : Fin 16) : Rect S5x256x1024 := Rect.unit (s := S5x256x1024) ![j.val, 16 * k.val, 0] S1x16x1024.size (inb_keep j k)
/-- Sixteen rows of one of the two roots kept. -/
@[reducible] def rRs (j : Fin 2) (k : Fin 16) : Rect S2x256x1 := Rect.unit (s := S2x256x1) ![j.val, 16 * k.val, 0] S1x16x1.size (inb_rs j k)
/-- Sixteen rows of one channel block. -/
@[reducible] def rQ (j : Fin 8) (k : Fin 16) : Rect S8x256x128 := Rect.unit (s := S8x256x128) ![j.val, 16 * k.val, 0] S1x16x128.size (inb_q j k)
/-- Row group `q` of the column sums. -/
@[reducible] def rAcc (q : Fin 8) : Rect S8x8x1024 := Rect.unit (s := S8x8x1024) ![q.val, 0, 0] S1x8x1024.size (inb_acc q)
/-- One head. -/
@[reducible] def rHead (h : Fin 8) : Rect S8x128x128 := Rect.unit (s := S8x128x128) ![h.val, 0, 0] S1x128x128.size (inb_head h)
/-- One chunk's columns of one head: unit `u` is chunk `u / 8`, head `u % 8`. -/
@[reducible] def rUnit (u : Fin 16) : Rect S256x1024 := Rect.unit (s := S256x1024) ![128 * (u.val / 8), 128 * (u.val % 8)] S128x128.size (inb_unit u)
/-- The columns of one head in the biases. -/
@[reducible] def rBias (h : Fin 8) : Rect S128x1024 := Rect.unit (s := S128x1024) ![0, 128 * h.val] S128x128.size (inb_bias h)
/-- The bias gradient's sixteen rows that sixteen rows of the block add to. -/
@[reducible] def rDba (k : Fin 16) : Rect S128x1024 := Rect.unit (s := S128x1024) ![16 * (k.val % 8), 0] S16x1024.size (inb_dba k)
/-- A row of the sums' output. -/
@[reducible] def rSm (q : Fin 8) : Rect S8x1024 := Rect.unit (s := S8x1024) ![q.val, 0] S1x1024.size (inb_sm q)

theorem packed_row (k : Fin 16) : (rRow k).PackedRows (EltTy.packing .bf16) := by revert k; decide +kernel
theorem packed_low (k : Fin 16) : (rLow k).PackedRows (EltTy.packing .bf16) := by revert k; decide +kernel
theorem packed_high (k : Fin 16) : (rHigh k).PackedRows (EltTy.packing .bf16) := by revert k; decide +kernel
theorem packed_z (j : Fin 4) (k : Fin 16) : (rZ j k).PackedRows (EltTy.packing .bf16) := by revert j k; decide +kernel

/-- A load of a rectangle of a memref. -/
@[reducible] def ld (b : Slot) (r : Rect b.shape) (h : 0 < r.shape.numel) : Code F R (r.shape.Idx → Elt F b.elt) :=
  rd (A := bank R) b r (View.loadsAt_vmem h)

/-- A store over a rectangle of a memref of words. -/
@[reducible] def st (b : Slot) (r : Rect b.shape) (w : r.shape.Idx → Elt F b.elt) (h : 0 < r.shape.numel)
    (he : b.elt.bits = 32) : Code F R PUnit :=
  wr (A := bank R) b r w (View.stores_vmem_bits_univ h he)

/-- A store over packed rows of a memref. -/
@[reducible] def stp (b : Slot) (r : Rect b.shape) (w : r.shape.Idx → Elt F b.elt) (h : 0 < r.shape.numel)
    (hp : r.PackedRows b.elt.packing) : Code F R PUnit :=
  wr (A := bank R) b r w (View.stores_vmem h ((hR b).storeExact_slice rfl _ hp) (fun _ => rfl))

/-! ## The parts of the body -/

/-- Before the first point the sums are zero. -/
def zero : Code F R PUnit := do
  let _ ← ld R .acc (Rect.unit (s := S8x8x1024) ![0, 0, 0] S8x8x1024.size inb_S8x8x1024_S8x8x1024_0_0_0) h_S8x8x1024
  st R .acc (Rect.unit (s := S8x8x1024) ![0, 0, 0] S8x8x1024.size inb_S8x8x1024_S8x8x1024_0_0_0)
    (shapeCast S8x8x1024 (broadcast S8x8x1024 (Scalar.ofBits .f32 0x00000000#32)) shapeCasts_S8x8x1024_S8x8x1024) h_S8x8x1024 rfl
  let _ ← ld R .dba (Rect.unit (s := S128x1024) ![0, 0] S128x1024.size inb_S128x1024_S128x1024_0_0) h_S128x1024
  st R .dba (Rect.unit (s := S128x1024) ![0, 0] S128x1024.size inb_S128x1024_S128x1024_0_0)
    (shapeCast S128x1024 (broadcast S128x1024 (Scalar.ofBits .f32 0x00000000#32)) shapeCasts_S128x1024_S128x1024) h_S128x1024 rfl
  let _ ← ld R .dw (Rect.unit (s := S8x128x128) ![0, 0, 0] S8x128x128.size inb_S8x128x128_S8x128x128_0_0_0) h_S8x128x128
  st R .dw (Rect.unit (s := S8x128x128) ![0, 0, 0] S8x128x128.size inb_S8x128x128_S8x128x128_0_0_0)
    (broadcast S8x128x128 (Scalar.ofBits .f32 0x00000000#32)) h_S8x128x128 rfl

/-- Sixteen rows of a projection. -/
def zRows (j : Fin 4) (k : Fin 16) : Code F R (V16 F) := do
  let v ← ld R .z (rZ j k) h_S1x16x1024
  pure (flat v)

/-- Sixteen rows of a value kept. -/
def kept (j : Fin 5) (k : Fin 16) : Code F R (V16 F) := do
  let v ← ld R .keep (rKeep j k) h_S1x16x1024
  pure (flat v)

/-- Sixteen rows kept. -/
def keepRows (j : Fin 5) (k : Fin 16) (v : V16 F) : Code F R PUnit := do
  let _ ← ld R .keep (rKeep j k) h_S1x16x1024
  st R .keep (rKeep j k) (lift v) h_S1x16x1024 rfl

/-- Sixteen roots kept. -/
def keepRs (j : Fin 2) (k : Fin 16) (v : FVec F S16x1 .f32) : Code F R PUnit := do
  let _ ← ld R .rs (rRs j k) h_S1x16x1
  st R .rs (rRs j k) (lift1 v) h_S1x16x1 rfl

/-- Sixteen rows of a gradient of a projection. -/
def outZ (j : Fin 4) (k : Fin 16) (v : V16 F) : Code F R PUnit := do
  let _ ← ld R .dz (rZ j k) h_S1x16x1024
  stp R hR .dz (rZ j k) (lift (round16 v)) h_S1x16x1024 (packed_z j k)

/-- Sixteen rows added to the column sums `q`. -/
def addCols (q : Fin 8) (v : V16 F) : Code F R PUnit := do
  let a ← ld R .acc (rAcc q) h_S1x8x1024
  let _ ← ld R .acc (rAcc q) h_S1x8x1024
  st R .acc (rAcc q) (addSum a v) h_S1x8x1024 rfl

/-- The convolution's sixteen rows. -/
def qRows (k : Fin 16) : Code F R (V16 F) := do
  let a ← ld R .q (rQ 0 k) h_S1x16x128
  let b ← ld R .q (rQ 1 k) h_S1x16x128
  let c ← ld R .q (rQ 2 k) h_S1x16x128
  let d ← ld R .q (rQ 3 k) h_S1x16x128
  let e ← ld R .q (rQ 4 k) h_S1x16x128
  let f ← ld R .q (rQ 5 k) h_S1x16x128
  let g ← ld R .q (rQ 6 k) h_S1x16x128
  let h ← ld R .q (rQ 7 k) h_S1x16x128
  pure (join8 ![a, b, c, d, e, f, g, h])

/-- The norms and the first branch. -/
def norms (cg cb sg sb : FVec F S1x1024 .f32) (k : Fin 16) : Code F R PUnit := do
  let q ← qRows R k
  let gz ← zRows R 0 k
  let _ ← ld R .yc (rLow k) h_S16x1024
  stp R hR .yc (rLow k) (round16 (ya (affine (hat q) cg cb) (logistic (affine (hat q) cg cb)) gz (logistic gz))) h_S16x1024 (packed_low k)
  let v ← zRows R 2 k
  let _ ← ld R .vl (rRow k) h_S16x1024
  stp R hR .vl (rRow k) (shapeCast S16x1024 (round16 (affine (hat v) sg sb)) shapeCasts_S16x1024_S16x1024) h_S16x1024 (packed_row k)
  keepRows R 0 k (hat q)
  keepRows R 1 k (hat v)
  keepRows R 2 k (logistic (affine (hat q) cg cb))
  keepRows R 3 k (logistic gz)
  keepRs R 0 k (invRms (cen q))
  keepRs R 1 k (invRms (cen v))

/-- One head of one chunk mixed. -/
def mixUnit (u : Fin 16) : Code F R PUnit := do
  let w ← ld R .ws (rHead ⟨u.val % 8, Nat.mod_lt _ (by decide)⟩) h_S1x128x128
  let v ← ld R .vl (rUnit u) h_S128x128
  let b ← ld R .bs (rBias ⟨u.val % 8, Nat.mod_lt _ (by decide)⟩) h_S128x128
  let _ ← ld R .vm (rUnit u) h_S128x128
  st R .vm (rUnit u) (mix w v b) h_S128x128 rfl

/-- The second branch. -/
def gate (k : Fin 16) : Code F R PUnit := do
  let bg ← zRows R 3 k
  keepRows R 4 k (logistic bg)
  let u ← zRows R 1 k
  let vm ← ld R .vm (rRow k) h_S16x1024
  let _ ← ld R .yc (rHigh k) h_S16x1024
  stp R hR .yc (rHigh k) (round16 (yb u vm bg (logistic bg))) h_S16x1024 (packed_high k)

/-- The projection of the block. -/
def projectAll : Code F R PUnit := do
  let a ← ld R .yc (Rect.unit (s := S256x2048) ![0, 0] S256x2048.size inb_S256x2048_S256x2048_0_0) h_S256x2048
  let w ← ld R .wo (Rect.unit (s := S2048x1024) ![0, 0] S2048x1024.size inb_S2048x1024_S2048x1024_0_0) h_S2048x1024
  let _ ← ld R .y (Rect.unit (s := S256x1024) ![0, 0] S256x1024.size inb_S256x1024_S256x1024_0_0) h_S256x1024
  st R .y (Rect.unit (s := S256x1024) ![0, 0] S256x1024.size inb_S256x1024_S256x1024_0_0) (project a w) h_S256x1024 rfl

/-- The loss, and its gradient back to the residual stream. -/
def lossRows (fg gm : FVec F S1x1024 .f32) (k : Fin 16) : Code F R PUnit := do
  let y ← ld R .y (rRow k) h_S16x1024
  let x ← ld R .x (rRow k) h_S16x1024
  let t ← ld R .tg (rRow k) h_S16x1024
  addCols R 6 (mulf (err (resid x y gm) t fg) (err (resid x y gm) t fg))
  addCols R 0 (mulf (dout (resid x y gm) t fg) (xn2 (resid x y gm)))
  let _ ← ld R .dx (rRow k) h_S16x1024
  st R .dx (rRow k) (dx2 (resid x y gm) t fg) h_S16x1024 rfl
  addCols R 1 (mulf (dx2 (resid x y gm) t fg) y)
  let _ ← ld R .dy (rRow k) h_S16x1024
  stp R hR .dy (rRow k) (round16 (mulf (dx2 (resid x y gm) t fg) (spread gm))) h_S16x1024 (packed_row k)

/-- The gradient back through the projection. -/
def unprojectAll : Code F R PUnit := do
  let a ← ld R .dy (Rect.unit (s := S256x1024) ![0, 0] S256x1024.size inb_S256x1024_S256x1024_0_0) h_S256x1024
  let w ← ld R .wo (Rect.unit (s := S2048x1024) ![0, 0] S2048x1024.size inb_S2048x1024_S2048x1024_0_0) h_S2048x1024
  let _ ← ld R .dyc (Rect.unit (s := S256x2048) ![0, 0] S256x2048.size inb_S256x2048_S256x2048_0_0) h_S256x2048
  st R .dyc (Rect.unit (s := S256x2048) ![0, 0] S256x2048.size inb_S256x2048_S256x2048_0_0) (unproject a w) h_S256x2048 rfl

/-- The gradient at the second branch's factors. -/
def ungate (k : Fin 16) : Code F R PUnit := do
  let d ← ld R .dyc (rHigh k) h_S16x1024
  let u ← zRows R 1 k
  let bg ← zRows R 3 k
  let vm ← ld R .vm (rRow k) h_S16x1024
  let sb ← kept R 4 k
  outZ R hR 1 k (mulf (mulf d vm) (mulf bg sb))
  outZ R hR 3 k (mulf (mulf (mulf d u) vm) (dsilu bg sb))
  let _ ← ld R .dvm (rRow k) h_S16x1024
  stp R hR .dvm (rRow k) (shapeCast S16x1024 (round16 (mulf (mulf d u) (mulf bg sb))) shapeCasts_S16x1024_S16x1024) h_S16x1024 (packed_row k)
  let a ← ld R .dba (rDba k) h_S16x1024
  let _ ← ld R .dba (rDba k) h_S16x1024
  st R .dba (rDba k) (addRows a (mulf (mulf d u) (mulf bg sb))) h_S16x1024 rfl

/-- One head of one chunk: its share of the weight gradient, and the gradient it hands back. -/
def unmixUnit (u : Fin 16) : Code F R PUnit := do
  let d ← ld R .dvm (rUnit u) h_S128x128
  let a ← ld R .dw (rHead ⟨u.val % 8, Nat.mod_lt _ (by decide)⟩) h_S1x128x128
  let v ← ld R .vl (rUnit u) h_S128x128
  let _ ← ld R .dw (rHead ⟨u.val % 8, Nat.mod_lt _ (by decide)⟩) h_S1x128x128
  st R .dw (rHead ⟨u.val % 8, Nat.mod_lt _ (by decide)⟩) (addHead a d v) h_S1x128x128 rfl
  let w ← ld R .ws (rHead ⟨u.val % 8, Nat.mod_lt _ (by decide)⟩) h_S1x128x128
  let _ ← ld R .dvl (rUnit u) h_S128x128
  st R .dvl (rUnit u) (unmix w d) h_S128x128 rfl

/-- Sixteen rows of the convolution's gradient, a channel block. -/
def outQ (j : Fin 8) (k : Fin 16) (o : Fin 2 → Nat) (hs : S16x1024.Slices o S16x128) (v : V16 F) : Code F R PUnit := do
  let _ ← ld R .dq (rQ j k) h_S1x16x128
  st R .dq (rQ j k) (shapeCast S1x16x128 (extractStridedSlice S16x128 o v hs) shapeCasts_S16x128_S1x16x128) h_S1x16x128 rfl

/-- The gradient back through the norms. -/
def unnorms (cg cb sg : FVec F S1x1024 .f32) (k : Fin 16) : Code F R PUnit := do
  let vh ← kept R 1 k
  let rv ← ld R .rs (rRs 1 k) h_S1x16x1
  let d ← ld R .dvl (rRow k) h_S16x1024
  addCols R 4 (mulf d vh)
  addCols R 5 d
  outZ R hR 2 k (uncentre vh (mulf d (spread sg)) (flat1 rv))
  let qh ← kept R 0 k
  let rq ← ld R .rs (rRs 0 k) h_S1x16x1
  let sl ← kept R 2 k
  let gz ← zRows R 0 k
  let sz ← kept R 3 k
  let e ← ld R .dyc (rLow k) h_S16x1024
  outZ R hR 0 k (mulf (mulf e (mulf (affine qh cg cb) sl)) (dsilu gz sz))
  addCols R 2 (mulf (mulf (mulf e (mulf gz sz)) (dsilu (affine qh cg cb) sl)) qh)
  addCols R 3 (mulf (mulf e (mulf gz sz)) (dsilu (affine qh cg cb) sl))
  let w : V16 F := uncentre qh (mulf (mulf (mulf e (mulf gz sz)) (dsilu (affine qh cg cb) sl)) (spread cg)) (flat1 rq)
  outQ R 0 k ![0, 0] slices_S16x1024_o0_0_S16x128 w
  outQ R 1 k ![0, 128] slices_S16x1024_o0_128_S16x128 w
  outQ R 2 k ![0, 256] slices_S16x1024_o0_256_S16x128 w
  outQ R 3 k ![0, 384] slices_S16x1024_o0_384_S16x128 w
  outQ R 4 k ![0, 512] slices_S16x1024_o0_512_S16x128 w
  outQ R 5 k ![0, 640] slices_S16x1024_o0_640_S16x128 w
  outQ R 6 k ![0, 768] slices_S16x1024_o0_768_S16x128 w
  outQ R 7 k ![0, 896] slices_S16x1024_o0_896_S16x128 w

/-- The column sums are written at the last point, a row each; the squared error's is halved and averaged. -/
def outSm (q : Fin 8) : Code F R PUnit := do
  let a ← ld R .acc (rAcc q) h_S1x8x1024
  let _ ← ld R .sm (rSm q) h_S1x1024
  st R .sm (rSm q) (total (![0x3F800000#32, 0x3F800000#32, 0x3F800000#32, 0x3F800000#32, 0x3F800000#32, 0x3F800000#32, 0x3A000000#32, 0x3F800000#32] q) a)
    h_S1x1024 rfl

/-- The bias gradients are written at the last point, a column each. -/
def outDb : Code F R PUnit := do
  let a ← ld R .dba (rBias 0) h_S128x128
  let b ← ld R .dba (rBias 1) h_S128x128
  let c ← ld R .dba (rBias 2) h_S128x128
  let d ← ld R .dba (rBias 3) h_S128x128
  let e ← ld R .dba (rBias 4) h_S128x128
  let f ← ld R .dba (rBias 5) h_S128x128
  let g ← ld R .dba (rBias 6) h_S128x128
  let h ← ld R .dba (rBias 7) h_S128x128
  let _ ← ld R .db (Rect.unit (s := S128x128) ![0, 0] S128x128.size inb_S128x128_S128x128_0_0) h_S128x128
  st R .db (Rect.unit (s := S128x128) ![0, 0] S128x128.size inb_S128x128_S128x128_0_0)
    (putCol 7#32 h (putCol 6#32 g (putCol 5#32 f (putCol 4#32 e (putCol 3#32 d (putCol 2#32 c (putCol 1#32 b (putCol 0#32 a
      (broadcast S128x128 (Scalar.ofBits .f32 0x00000000#32)))))))))) h_S128x128 rfl

/-- The body. -/
def code (i : grid0.Coords) : Code F R PUnit := do
  if (i 0).val = 0 then zero R else pure ⟨⟩
  let cg ← ld R .cg (Rect.unit (s := S1x1024) ![0, 0] S1x1024.size inb_S1x1024_S1x1024_0_0) h_S1x1024
  let cb ← ld R .cb (Rect.unit (s := S1x1024) ![0, 0] S1x1024.size inb_S1x1024_S1x1024_0_0) h_S1x1024
  let sg ← ld R .sg (Rect.unit (s := S1x1024) ![0, 0] S1x1024.size inb_S1x1024_S1x1024_0_0) h_S1x1024
  let sb ← ld R .sb (Rect.unit (s := S1x1024) ![0, 0] S1x1024.size inb_S1x1024_S1x1024_0_0) h_S1x1024
  let fg ← ld R .fg (Rect.unit (s := S1x1024) ![0, 0] S1x1024.size inb_S1x1024_S1x1024_0_0) h_S1x1024
  let gm ← ld R .mod (Rect.unit (s := S1x3072) ![0, 2048] S1x1024.size inb_S1x3072_S1x1024_0_2048) h_S1x1024
  steps (norms R hR (row cg) (row cb) (row sg) (row sb))
  steps (mixUnit R)
  steps (gate R hR)
  projectAll R
  steps (lossRows R hR (row fg) (row gm))
  unprojectAll R
  steps (ungate R hR)
  steps (unmixUnit R)
  steps (unnorms R hR (row cg) (row cb) (row sg))
  if (i 0).val = 15 then (do steps (outSm R); outDb R) else pure ⟨⟩

/-! ## The printed body is the body with loops -/

/-- What the printed body is to be at a point. -/
def IsCode (F : FTy → Type) [FloatOps F] (i : grid0.Coords) : Prop :=
  ∀ (R : Args) (h : ∀ b, (R b).IsWhole),
    cc0_middle (F := F) i (R .x) (h _) (R .z) (h _) (R .q) (h _) (R .tg) (h _) (R .cg) (h _) (R .cb) (h _) (R .sg) (h _) (R .sb) (h _)
      (R .fg) (h _) (R .mod) (h _) (R .ws) (h _) (R .bs) (h _) (R .wo) (h _) (R .dz) (h _) (R .dq) (h _) (R .dx) (h _) (R .yc) (h _)
      (R .dy) (h _) (R .dw) (h _) (R .sm) (h _) (R .db) (h _) (R .vl) (h _) (R .vm) (h _) (R .y) (h _) (R .dyc) (h _) (R .dvm) (h _)
      (R .dvl) (h _) (R .acc) (h _) (R .dba) (h _) (R .keep) (h _) (R .rs) (h _)
      = toProg (code R h i)

theorem body_eq (n : Fin 16) : IsCode F (point n) := by
  fin_cases n <;> (intro R h; sl_kernel_rfl)

end Cert.Middle

end
-- ==== Proof.Lib.Progress.lean ====
/- An array on its way from one content to another: each place is rewritten at its own time. -/
module

public import proofs.«01_k».proof.Proof.Lib.Steps

@[expose] public section

noncomputable section

namespace Cert.Hand

open Idealize.ShloMosaic

variable {s : Shape} {V : Type}

/-- The array at time `n`: `T` where the time `g` has passed, else still `X`. -/
def prog (g : s.Idx → ℕ) (T X : s.Idx → V) (n : ℕ) : s.Idx → V := fun j => if g j < n then T j else X j

theorem prog_zero (g : s.Idx → ℕ) (T X : s.Idx → V) : prog g T X 0 = X := by
  funext j; exact if_neg (Nat.not_lt_zero _)

theorem prog_end (g : s.Idx → ℕ) (T X : s.Idx → V) (n : ℕ) (h : ∀ j, g j < n ∨ X j = T j) : prog g T X n = T := by
  funext j
  unfold prog
  split
  · rfl
  · rename_i h'; exact (h j).resolve_left h'

theorem prog_of_lt (g : s.Idx → ℕ) (T X : s.Idx → V) (n : ℕ) (j : s.Idx) (h : g j < n) : prog g T X n j = T j := if_pos h

/-- A rectangle written at its time. -/
theorem prog_step (r : Rect s) (g : s.Idx → ℕ) (T X : s.Idx → V) (n : ℕ) (w : r.shape.Idx → V)
    (hg : ∀ j, g j = n ↔ j ∈ r.set) (hw : ∀ x, w x = T (r.emb x)) :
    r.overlay (prog g T X n) w = prog g T X (n + 1) := by
  refine overlay_eq r _ w _ (fun x => ?_) (fun j hj => ?_)
  · rw [hw, prog_of_lt _ _ _ _ _ (by rw [(hg (r.emb x)).mpr (r.idx_mem x)]; exact Nat.lt_succ_self n)]
  · have hn : g j ≠ n := fun h => hj ((hg j).mp h)
    unfold prog
    by_cases h : g j < n
    · rw [if_pos h, if_pos (by omega)]
    · rw [if_neg h, if_neg (by omega)]

end Cert.Hand

end
-- ==== Proof.Middle.Places.lean ====
/- Where the rectangles of the middle kernel's body sit, and arrays put together from their rectangles. -/
module

public import proofs.«01_k».proof.Proof.Middle.Body
public import proofs.«01_k».proof.Proof.Lib.Progress
public import Idealize.ShloMosaic.Lib.PointwiseCore

@[expose] public section

noncomputable section

namespace Cert.Middle

open Idealize.ShloMosaic Idealize.SL.Sem Cert.Kernel2Ideal Cert.Hand Cert.Hand.Mem
open Cert.Kernel2Ideal.Facts₀ Cert.Kernel2Ideal.Facts

variable {α : Type}

theorem idx2_lt0 {m n : ℕ} (j : (⟨2, ![m, n]⟩ : Shape).Idx) : (j 0).val < m := (j 0).isLt
theorem idx2_lt1 {m n : ℕ} (j : (⟨2, ![m, n]⟩ : Shape).Idx) : (j 1).val < n := (j 1).isLt
theorem idx3_lt0 {l m n : ℕ} (j : (⟨3, ![l, m, n]⟩ : Shape).Idx) : (j 0).val < l := (j 0).isLt
theorem idx3_lt1 {l m n : ℕ} (j : (⟨3, ![l, m, n]⟩ : Shape).Idx) : (j 1).val < m := (j 1).isLt
theorem idx3_lt2 {l m n : ℕ} (j : (⟨3, ![l, m, n]⟩ : Shape).Idx) : (j 2).val < n := (j 2).isLt

/-! ## The places -/

theorem emb_row (k : Fin 16) (x : S16x1024.Idx) : (rRow k).emb x = ix2 ⟨16 * k.val + (x 0).val, by have := idx2_lt0 x; omega⟩ (x 1) := by
  refine emb_eq fun a => ?_
  fin_cases a <;> simp [ix2] <;> rfl
theorem emb_low (k : Fin 16) (x : S16x1024.Idx) : (rLow k).emb x = ix2 ⟨16 * k.val + (x 0).val, by have := idx2_lt0 x; omega⟩ ⟨(x 1).val, by have := idx2_lt1 x; omega⟩ := by
  refine emb_eq fun a => ?_
  fin_cases a <;> simp [ix2] <;> rfl
theorem emb_high (k : Fin 16) (x : S16x1024.Idx) : (rHigh k).emb x = ix2 ⟨16 * k.val + (x 0).val, by have := idx2_lt0 x; omega⟩ ⟨1024 + (x 1).val, by have := idx2_lt1 x; omega⟩ := by
  refine emb_eq fun a => ?_
  fin_cases a <;> simp [ix2] <;> rfl
theorem emb_z (j : Fin 4) (k : Fin 16) (x : S1x16x1024.Idx) : (rZ j k).emb x = ix3 j ⟨16 * k.val + (x 1).val, by have := idx3_lt1 x; omega⟩ (x 2) := by
  refine emb_eq fun a => ?_
  idx_vars x
  fin_cases a <;> simp [ix3] <;> rfl
theorem emb_keep (j : Fin 5) (k : Fin 16) (x : S1x16x1024.Idx) : (rKeep j k).emb x = ix3 j ⟨16 * k.val + (x 1).val, by have := idx3_lt1 x; omega⟩ (x 2) := by
  refine emb_eq fun a => ?_
  idx_vars x
  fin_cases a <;> simp [ix3] <;> rfl
theorem emb_rs (j : Fin 2) (k : Fin 16) (x : S1x16x1.Idx) : (rRs j k).emb x = ix3 j ⟨16 * k.val + (x 1).val, by have := idx3_lt1 x; omega⟩ (x 2) := by
  refine emb_eq fun a => ?_
  idx_vars x
  fin_cases a <;> simp [ix3] <;> rfl
theorem emb_q (j : Fin 8) (k : Fin 16) (x : S1x16x128.Idx) : (rQ j k).emb x = ix3 j ⟨16 * k.val + (x 1).val, by have := idx3_lt1 x; omega⟩ (x 2) := by
  refine emb_eq fun a => ?_
  idx_vars x
  fin_cases a <;> simp [ix3] <;> rfl
theorem emb_acc (q : Fin 8) (x : S1x8x1024.Idx) : (rAcc q).emb x = ix3 q (x 1) (x 2) := by
  refine emb_eq fun a => ?_
  idx_vars x
  fin_cases a <;> simp [ix3] <;> rfl
theorem emb_head (h : Fin 8) (x : S1x128x128.Idx) : (rHead h).emb x = ix3 h (x 1) (x 2) := by
  refine emb_eq fun a => ?_
  idx_vars x
  fin_cases a <;> simp [ix3] <;> rfl
theorem emb_unit (u : Fin 16) (x : S128x128.Idx) : (rUnit u).emb x = ix2 ⟨128 * (u.val / 8) + (x 0).val, by have := idx2_lt0 x; omega⟩
    ⟨128 * (u.val % 8) + (x 1).val, by have := idx2_lt1 x; omega⟩ := by
  refine emb_eq fun a => ?_
  fin_cases a <;> simp [ix2] <;> rfl
theorem emb_bias (h : Fin 8) (x : S128x128.Idx) : (rBias h).emb x = ix2 (x 0) ⟨128 * h.val + (x 1).val, by have := idx2_lt1 x; omega⟩ := by
  refine emb_eq fun a => ?_
  fin_cases a <;> simp [ix2] <;> rfl
theorem emb_dba (k : Fin 16) (x : S16x1024.Idx) : (rDba k).emb x = ix2 ⟨16 * (k.val % 8) + (x 0).val, by have := idx2_lt0 x; omega⟩ (x 1) := by
  refine emb_eq fun a => ?_
  fin_cases a <;> simp [ix2] <;> rfl
theorem emb_sm (q : Fin 8) (x : S1x1024.Idx) : (rSm q).emb x = ix2 q (x 1) := by
  refine emb_eq fun a => ?_
  idx_vars x
  fin_cases a <;> simp [ix2] <;> rfl

/-! ## Putting arrays together -/

/-- Rows in groups of sixteen. -/
def glue (f : Fin 16 → S16x1024.Idx → α) : S256x1024.Idx → α :=
  fun j => f ⟨(j 0).val / 16, by have := idx2_lt0 j; omega⟩ (ix2 ⟨(j 0).val % 16, by omega⟩ (j 1))

/-- Several of them. -/
def glue3 {n : ℕ} (f : Fin n → Fin 16 → S16x1024.Idx → α) : (⟨3, ![n, 256, 1024]⟩ : Shape).Idx → α :=
  fun j => f (j 0) ⟨(j 1).val / 16, by have := idx3_lt1 j; omega⟩ (ix2 ⟨(j 1).val % 16, by omega⟩ (j 2))

/-- Values per row. -/
def glue1 (f : Fin 2 → Fin 16 → S16x1.Idx → α) : S2x256x1.Idx → α :=
  fun j => f (j 0) ⟨(j 1).val / 16, by have := idx3_lt1 j; omega⟩ (ix2 ⟨(j 1).val % 16, by omega⟩ (j 2))

/-- Two halves of the columns. -/
def glue2 (f g : Fin 16 → S16x1024.Idx → α) : S256x2048.Idx → α :=
  fun j => if h : (j 1).val < 1024 then f ⟨(j 0).val / 16, by have := idx2_lt0 j; omega⟩ (ix2 ⟨(j 0).val % 16, by omega⟩ ⟨(j 1).val, h⟩)
    else g ⟨(j 0).val / 16, by have := idx2_lt0 j; omega⟩ (ix2 ⟨(j 0).val % 16, by omega⟩ ⟨(j 1).val - 1024, by have := idx2_lt1 j; omega⟩)

/-- Columns in channel blocks. -/
def glueQ (f : Fin 8 → Fin 16 → S16x128.Idx → α) : S8x256x128.Idx → α :=
  fun j => f (j 0) ⟨(j 1).val / 16, by have := idx3_lt1 j; omega⟩ (ix2 ⟨(j 1).val % 16, by omega⟩ (j 2))

/-- Chunks and heads. -/
def glueU (f : Fin 16 → S128x128.Idx → α) : S256x1024.Idx → α :=
  fun j => f ⟨8 * ((j 0).val / 128) + (j 1).val / 128, by have := idx2_lt0 j; have := idx2_lt1 j; omega⟩
    (ix2 ⟨(j 0).val % 128, by omega⟩ ⟨(j 1).val % 128, by omega⟩)

theorem app2 {n a b : ℕ} (f : Fin n → (⟨2, ![a, b]⟩ : Shape).Idx → α) {k k' : Fin n} {x x' : (⟨2, ![a, b]⟩ : Shape).Idx}
    (hk : k.val = k'.val) (h0 : (x 0).val = (x' 0).val) (h1 : (x 1).val = (x' 1).val) : f k x = f k' x' := by
  obtain rfl := Fin.ext hk
  congr 1
  funext i
  match i with
  | ⟨0, _⟩ => exact Fin.ext h0
  | ⟨1, _⟩ => exact Fin.ext h1

theorem glue_emb (f : Fin 16 → S16x1024.Idx → α) (k : Fin 16) (x : S16x1024.Idx) : glue f ((rRow k).emb x) = f k x := by
  have := idx2_lt0 x
  rw [emb_row]
  exact app2 f (by dsimp [ix2]; omega) (by dsimp [ix2]; omega) rfl

theorem glue3_emb4 (f : Fin 4 → Fin 16 → S16x1024.Idx → α) (j : Fin 4) (k : Fin 16) (x : S1x16x1024.Idx) :
    glue3 f ((rZ j k).emb x) = f j k (ix2 (x 1) (x 2)) := by
  have := idx3_lt1 x
  rw [emb_z]
  exact app2 (f j) (by dsimp [ix3]; omega) (by dsimp [ix2, ix3]; omega) rfl

theorem glue3_emb5 (f : Fin 5 → Fin 16 → S16x1024.Idx → α) (j : Fin 5) (k : Fin 16) (x : S1x16x1024.Idx) :
    glue3 f ((rKeep j k).emb x) = f j k (ix2 (x 1) (x 2)) := by
  have := idx3_lt1 x
  rw [emb_keep]
  exact app2 (f j) (by dsimp [ix3]; omega) (by dsimp [ix2, ix3]; omega) rfl

theorem glue1_emb (f : Fin 2 → Fin 16 → S16x1.Idx → α) (j : Fin 2) (k : Fin 16) (x : S1x16x1.Idx) :
    glue1 f ((rRs j k).emb x) = f j k (ix2 (x 1) (x 2)) := by
  have := idx3_lt1 x
  rw [emb_rs]
  exact app2 (f j) (by dsimp [ix3]; omega) (by dsimp [ix2, ix3]; omega) rfl

theorem glueQ_emb (f : Fin 8 → Fin 16 → S16x128.Idx → α) (j : Fin 8) (k : Fin 16) (x : S1x16x128.Idx) :
    glueQ f ((rQ j k).emb x) = f j k (ix2 (x 1) (x 2)) := by
  have := idx3_lt1 x
  rw [emb_q]
  exact app2 (f j) (by dsimp [ix3]; omega) (by dsimp [ix2, ix3]; omega) rfl

theorem glue2_low (f g : Fin 16 → S16x1024.Idx → α) (k : Fin 16) (x : S16x1024.Idx) : glue2 f g ((rLow k).emb x) = f k x := by
  have := idx2_lt0 x
  have h1 := idx2_lt1 x
  rw [emb_low]; unfold glue2
  rw [dif_pos (by dsimp [ix2]; omega)]
  exact app2 f (by dsimp [ix2]; omega) (by dsimp [ix2]; omega) rfl

theorem glue2_high (f g : Fin 16 → S16x1024.Idx → α) (k : Fin 16) (x : S16x1024.Idx) : glue2 f g ((rHigh k).emb x) = g k x := by
  have := idx2_lt0 x
  have h1 := idx2_lt1 x
  rw [emb_high]; unfold glue2
  rw [dif_neg (by dsimp [ix2]; omega)]
  exact app2 g (by dsimp [ix2]; omega) (by dsimp [ix2]; omega) (by dsimp [ix2]; omega)

theorem glueU_emb (f : Fin 16 → S128x128.Idx → α) (u : Fin 16) (x : S128x128.Idx) : glueU f ((rUnit u).emb x) = f u x := by
  have := idx2_lt0 x
  have h1 := idx2_lt1 x
  rw [emb_unit]
  exact app2 f (by dsimp [ix2]; omega) (by dsimp [ix2]; omega) (by dsimp [ix2]; omega)

/-! ## When each place is written -/

/-- Row groups in order. -/
def tRow (j : S256x1024.Idx) : ℕ := (j 0).val / 16
/-- The lower half's row groups in order, -/
def tLow (j : S256x2048.Idx) : ℕ := if (j 1).val < 1024 then (j 0).val / 16 else 99
/-- and the upper half's. -/
def tHigh (j : S256x2048.Idx) : ℕ := if (j 1).val < 1024 then 99 else (j 0).val / 16
/-- The first four kept values in order, -/
def tKeep (j : S5x256x1024.Idx) : ℕ := if (j 0).val < 4 then 4 * ((j 1).val / 16) + (j 0).val else 99
/-- and the fifth. -/
def tKeep4 (j : S5x256x1024.Idx) : ℕ := if (j 0).val < 4 then 99 else (j 1).val / 16
/-- The two roots in order. -/
def tRs (j : S2x256x1.Idx) : ℕ := 2 * ((j 1).val / 16) + (j 0).val
/-- The second branch's two gradients in order, -/
def tZ13 (j : S4x256x1024.Idx) : ℕ := if (j 0).val = 1 then 2 * ((j 1).val / 16) else if (j 0).val = 3 then 2 * ((j 1).val / 16) + 1 else 99
/-- and the other two. -/
def tZ20 (j : S4x256x1024.Idx) : ℕ := if (j 0).val = 2 then 2 * ((j 1).val / 16) else if (j 0).val = 0 then 2 * ((j 1).val / 16) + 1 else 99
/-- The channel blocks in order. -/
def tQ (j : S8x256x128.Idx) : ℕ := 8 * ((j 1).val / 16) + (j 0).val
/-- The units in order. -/
def tUnit (j : S256x1024.Idx) : ℕ := 8 * ((j 0).val / 128) + (j 1).val / 128

theorem forall3 {P : Fin 3 → Prop} : (∀ a, P a) ↔ P 0 ∧ P 1 ∧ P 2 :=
  ⟨fun h => ⟨h 0, h 1, h 2⟩, fun h a => match a with | ⟨0, _⟩ => h.1 | ⟨1, _⟩ => h.2.1 | ⟨2, _⟩ => h.2.2⟩

theorem tRow_iff (k : Fin 16) (j : S256x1024.Idx) : tRow j = k.val ↔ j ∈ (rRow k).set := by
  have h0 := idx2_lt0 j
  have h1 := idx2_lt1 j
  rw [Rect.mem_set_unit]
  simp only [Fin.forall_fin_two, tRow, Shape.size]
  dsimp
  omega

theorem tLow_iff (k : Fin 16) (j : S256x2048.Idx) : tLow j = k.val ↔ j ∈ (rLow k).set := by
  have h0 := idx2_lt0 j
  have h1 := idx2_lt1 j
  rw [Rect.mem_set_unit]
  simp only [Fin.forall_fin_two, tLow, Shape.size]
  dsimp
  split_ifs <;> omega

theorem tHigh_iff (k : Fin 16) (j : S256x2048.Idx) : tHigh j = k.val ↔ j ∈ (rHigh k).set := by
  have h0 := idx2_lt0 j
  have h1 := idx2_lt1 j
  rw [Rect.mem_set_unit]
  simp only [Fin.forall_fin_two, tHigh, Shape.size]
  dsimp
  split_ifs <;> omega

theorem tKeep_iff (q : Fin 5) (hq : q.val < 4) (k : Fin 16) (j : S5x256x1024.Idx) : tKeep j = 4 * k.val + q.val ↔ j ∈ (rKeep q k).set := by
  have h0 := idx3_lt0 j
  have h1 := idx3_lt1 j
  have h2 := idx3_lt2 j
  rw [Rect.mem_set_unit]
  simp only [forall3, tKeep, Shape.size]
  dsimp
  split_ifs <;> omega

theorem tKeep4_iff (k : Fin 16) (j : S5x256x1024.Idx) : tKeep4 j = k.val ↔ j ∈ (rKeep 4 k).set := by
  have h0 := idx3_lt0 j
  have h1 := idx3_lt1 j
  have h2 := idx3_lt2 j
  rw [Rect.mem_set_unit]
  simp only [forall3, tKeep4, Shape.size]
  dsimp
  split_ifs <;> omega

theorem tRs_iff (q : Fin 2) (k : Fin 16) (j : S2x256x1.Idx) : tRs j = 2 * k.val + q.val ↔ j ∈ (rRs q k).set := by
  have h0 := idx3_lt0 j
  have h1 := idx3_lt1 j
  have h2 := idx3_lt2 j
  rw [Rect.mem_set_unit]
  simp only [forall3, tRs, Shape.size]
  dsimp
  omega

theorem tZ1_iff (k : Fin 16) (j : S4x256x1024.Idx) : tZ13 j = 2 * k.val ↔ j ∈ (rZ 1 k).set := by
  have h0 := idx3_lt0 j
  have h1 := idx3_lt1 j
  have h2 := idx3_lt2 j
  rw [Rect.mem_set_unit]
  simp only [forall3, tZ13, Shape.size]
  dsimp
  split_ifs <;> omega

theorem tZ3_iff (k : Fin 16) (j : S4x256x1024.Idx) : tZ13 j = 2 * k.val + 1 ↔ j ∈ (rZ 3 k).set := by
  have h0 := idx3_lt0 j
  have h1 := idx3_lt1 j
  have h2 := idx3_lt2 j
  rw [Rect.mem_set_unit]
  simp only [forall3, tZ13, Shape.size]
  dsimp
  split_ifs <;> omega

theorem tZ2_iff (k : Fin 16) (j : S4x256x1024.Idx) : tZ20 j = 2 * k.val ↔ j ∈ (rZ 2 k).set := by
  have h0 := idx3_lt0 j
  have h1 := idx3_lt1 j
  have h2 := idx3_lt2 j
  rw [Rect.mem_set_unit]
  simp only [forall3, tZ20, Shape.size]
  dsimp
  split_ifs <;> omega

theorem tZ0_iff (k : Fin 16) (j : S4x256x1024.Idx) : tZ20 j = 2 * k.val + 1 ↔ j ∈ (rZ 0 k).set := by
  have h0 := idx3_lt0 j
  have h1 := idx3_lt1 j
  have h2 := idx3_lt2 j
  rw [Rect.mem_set_unit]
  simp only [forall3, tZ20, Shape.size]
  dsimp
  split_ifs <;> omega

theorem tQ_iff (q : Fin 8) (k : Fin 16) (j : S8x256x128.Idx) : tQ j = 8 * k.val + q.val ↔ j ∈ (rQ q k).set := by
  have h0 := idx3_lt0 j
  have h1 := idx3_lt1 j
  have h2 := idx3_lt2 j
  rw [Rect.mem_set_unit]
  simp only [forall3, tQ, Shape.size]
  dsimp
  omega

theorem tUnit_iff (u : Fin 16) (j : S256x1024.Idx) : tUnit j = u.val ↔ j ∈ (rUnit u).set := by
  have h0 := idx2_lt0 j
  have h1 := idx2_lt1 j
  rw [Rect.mem_set_unit]
  simp only [Fin.forall_fin_two, tUnit, Shape.size]
  dsimp
  omega

end Cert.Middle

end
-- ==== Proof.Middle.Point.lean ====
/- What one point of the middle kernel computes from what it finds in its blocks and scratch arrays. -/
module

public import proofs.«01_k».proof.Proof.Middle.Places

@[expose] public section

noncomputable section

namespace Cert.Middle

open Idealize.ShloMosaic Idealize.SL.Sem Cert.Kernel2Ideal Cert.Hand Cert.Hand.Mem
open Cert.Kernel2Ideal.Facts₀ Cert.Kernel2Ideal.Facts

variable {F : FTy → Type} [FloatOps F]

/-- What the memrefs hold. -/
abbrev St (F : FTy → Type) : Type := (b : Slot) → b.shape.Idx → Elt F b.elt

/-- A parameter's row. -/
def par (X : S1x1024.Idx → F .f32) : FVec F S1x1024 .f32 :=
  row fun x => X ((Rect.unit (s := S1x1024) ![0, 0] S1x1024.size inb_S1x1024_S1x1024_0_0).emb x)

/-- The gate's row of the modulation. -/
def gateRow (X : S1x3072.Idx → F .f32) : FVec F S1x1024 .f32 :=
  row fun x => X ((Rect.unit (s := S1x3072) ![0, 2048] S1x1024.size inb_S1x3072_S1x1024_0_2048).emb x)

/-- The head of a unit. -/
def hd (u : Fin 16) : Fin 8 := ⟨u.val % 8, Nat.mod_lt _ (by decide)⟩

variable (S : St F) (k u : Fin 16)

/-! ## The norms and the branches -/

/-- Sixteen rows of a projection. -/
def zR (j : Fin 4) : V16 F := flat fun x => S .z ((rZ j k).emb x)
/-- Sixteen rows of the convolution. -/
def qR : V16 F := join8 ![fun x => S .q ((rQ 0 k).emb x), fun x => S .q ((rQ 1 k).emb x), fun x => S .q ((rQ 2 k).emb x), fun x => S .q ((rQ 3 k).emb x),
  fun x => S .q ((rQ 4 k).emb x), fun x => S .q ((rQ 5 k).emb x), fun x => S .q ((rQ 6 k).emb x), fun x => S .q ((rQ 7 k).emb x)]
/-- Its norm. -/
def lnR : V16 F := affine (hat (qR S k)) (par (S .cg)) (par (S .cb))
/-- The other norm, rounded. -/
def vlR : FVec F S16x1024 .bf16 := shapeCast S16x1024 (round16 (affine (hat (zR S k 2)) (par (S .sg)) (par (S .sb)))) shapeCasts_S16x1024_S16x1024
def vlA : S256x1024.Idx → F .bf16 := glue (vlR S)
/-- One head of one chunk mixed. -/
def vmU : FVec F S128x128 .f32 := mix (fun x => S .ws ((rHead (hd u)).emb x)) (fun x => vlA S ((rUnit u).emb x)) (fun x => S .bs ((rBias (hd u)).emb x))
def vmA : S256x1024.Idx → F .f32 := glueU (vmU S)
def vmR : V16 F := fun x => vmA S ((rRow k).emb x)
/-- The branches, rounded. -/
def yaR : FVec F S16x1024 .bf16 := round16 (ya (lnR S k) (logistic (lnR S k)) (zR S k 0) (logistic (zR S k 0)))
def ybR : FVec F S16x1024 .bf16 := round16 (yb (zR S k 1) (vmR S k) (zR S k 3) (logistic (zR S k 3)))
def ycA : S256x2048.Idx → F .bf16 := glue2 (yaR S) (ybR S)
/-- The values kept, -/
def keepR (j : Fin 5) (k : Fin 16) : V16 F := ![hat (qR S k), hat (zR S k 2), logistic (lnR S k), logistic (zR S k 0), logistic (zR S k 3)] j
/-- the roots kept. -/
def rsR (j : Fin 2) (k : Fin 16) : FVec F S16x1 .f32 := ![invRms (cen (qR S k)), invRms (cen (zR S k 2))] j

/-! ## The loss and its gradient -/

/-- The projection. -/
def yA : S256x1024.Idx → F .f32 := project (fun x => ycA S ((Rect.unit (s := S256x2048) ![0, 0] S256x2048.size inb_S256x2048_S256x2048_0_0).emb x))
  (fun x => S .wo ((Rect.unit (s := S2048x1024) ![0, 0] S2048x1024.size inb_S2048x1024_S2048x1024_0_0).emb x))
def yR : V16 F := fun x => yA S ((rRow k).emb x)
/-- The residual stream, -/
def x2R : V16 F := resid (fun x => S .x ((rRow k).emb x)) (yR S k) (gateRow (S .mod))
/-- the target, -/
def tR : V16 F := fun x => S .tg ((rRow k).emb x)
/-- the error, -/
def errR : V16 F := err (x2R S k) (tR S k) (par (S .fg))
/-- its gradient at the residual stream -/
def dxR : V16 F := dx2 (x2R S k) (tR S k) (par (S .fg))
def dxA : S256x1024.Idx → F .f32 := glue (dxR S)
/-- and at the projection, rounded. -/
def dyR : FVec F S16x1024 .bf16 := round16 (mulf (dxR S k) (spread (gateRow (S .mod))))
def dyA : S256x1024.Idx → F .bf16 := glue (dyR S)

/-! ## Back through the branches -/

def dycA : S256x2048.Idx → F .f32 := unproject (fun x => dyA S ((Rect.unit (s := S256x1024) ![0, 0] S256x1024.size inb_S256x1024_S256x1024_0_0).emb x))
  (fun x => S .wo ((Rect.unit (s := S2048x1024) ![0, 0] S2048x1024.size inb_S2048x1024_S2048x1024_0_0).emb x))
def dlR : V16 F := fun x => dycA S ((rLow k).emb x)
def dhR : V16 F := fun x => dycA S ((rHigh k).emb x)
/-- The gradient at the mixed rows. -/
def dmR : V16 F := mulf (mulf (dhR S k) (zR S k 1)) (mulf (zR S k 3) (logistic (zR S k 3)))
def dvmR : FVec F S16x1024 .bf16 := shapeCast S16x1024 (round16 (dmR S k)) shapeCasts_S16x1024_S16x1024
def dvmA : S256x1024.Idx → F .bf16 := glue (dvmR S)
/-- The gradient handed back by the mixing. -/
def dvlU : FVec F S128x128 .f32 := unmix (fun x => S .ws ((rHead (hd u)).emb x)) (fun x => dvmA S ((rUnit u).emb x))
def dvlA : S256x1024.Idx → F .f32 := glueU (dvlU S)
def dvlR : V16 F := fun x => dvlA S ((rRow k).emb x)
/-- The gradient at the convolution's norm. -/
def dlnR : V16 F := mulf (mulf (dlR S k) (mulf (zR S k 0) (logistic (zR S k 0)))) (dsilu (lnR S k) (logistic (lnR S k)))
/-- The gradients at the projections. -/
def dzR (j : Fin 4) (k : Fin 16) : FVec F S16x1024 .bf16 := round16 (![mulf (mulf (dlR S k) (mulf (lnR S k) (logistic (lnR S k)))) (dsilu (zR S k 0) (logistic (zR S k 0))),
  mulf (mulf (dhR S k) (vmR S k)) (mulf (zR S k 3) (logistic (zR S k 3))),
  uncentre (hat (zR S k 2)) (mulf (dvlR S k) (spread (par (S .sg)))) (invRms (cen (zR S k 2))),
  mulf (mulf (mulf (dhR S k) (zR S k 1)) (vmR S k)) (dsilu (zR S k 3) (logistic (zR S k 3)))] j)
def dzA : S4x256x1024.Idx → F .bf16 := glue3 (dzR S)
/-- The gradient at the convolution. -/
def dqR : V16 F := uncentre (hat (qR S k)) (mulf (dlnR S k) (spread (par (S .cg)))) (invRms (cen (qR S k)))
def dqB (j : Fin 8) (k : Fin 16) : S16x128.Idx → F .f32 := fun x => dqR S k (ix2 (x 0) ⟨128 * j.val + (x 1).val, by have := idx2_lt1 x; omega⟩)
def dqA : S8x256x128.Idx → F .f32 := glueQ (dqB S)

/-! ## The sums -/

/-- A share added to row group `q` of the column sums. -/
def accAdd (q : Fin 8) (c : V16 F) (A : S8x8x1024.Idx → F .f32) : S8x8x1024.Idx → F .f32 :=
  fun j => if (j 0).val = q.val then FloatOps.addf (A j) (fold8 c (ix2 (j 1) (j 2))) else A j

/-- The column sums after the first `n` row groups of the loss, -/
def acc5 : ℕ → S8x8x1024.Idx → F .f32
  | 0 => S .acc
  | n + 1 => if h : n < 16 then accAdd 1 (mulf (dxR S ⟨n, h⟩) (yR S ⟨n, h⟩)) (accAdd 0 (mulf (dout (x2R S ⟨n, h⟩) (tR S ⟨n, h⟩) (par (S .fg))) (xn2 (x2R S ⟨n, h⟩)))
      (accAdd 6 (mulf (errR S ⟨n, h⟩) (errR S ⟨n, h⟩)) (acc5 n))) else acc5 n

/-- and after those of the norms. -/
def acc9 : ℕ → S8x8x1024.Idx → F .f32
  | 0 => acc5 S 16
  | n + 1 => if h : n < 16 then accAdd 3 (dlnR S ⟨n, h⟩) (accAdd 2 (mulf (dlnR S ⟨n, h⟩) (hat (qR S ⟨n, h⟩)))
      (accAdd 5 (dvlR S ⟨n, h⟩) (accAdd 4 (mulf (dvlR S ⟨n, h⟩) (hat (zR S ⟨n, h⟩ 2))) (acc9 n)))) else acc9 n

/-- The rows of the bias gradient after the first `n` row groups. -/
def dbaN : ℕ → S128x1024.Idx → F .f32
  | 0 => S .dba
  | n + 1 => if h : n < 16 then (rDba ⟨n, h⟩).overlay (dbaN n) (addRows (fun x => dbaN n ((rDba ⟨n, h⟩).emb x)) (dmR S ⟨n, h⟩)) else dbaN n

/-- The weight gradient after the first `n` units. -/
def dwN : ℕ → S8x128x128.Idx → F .f32
  | 0 => S .dw
  | n + 1 => if h : n < 16 then (rHead (hd ⟨n, h⟩)).overlay (dwN n) (addHead (fun x => dwN n ((rHead (hd ⟨n, h⟩)).emb x))
      (fun x => dvmA S ((rUnit ⟨n, h⟩).emb x)) (fun x => vlA S ((rUnit ⟨n, h⟩).emb x))) else dwN n

end Cert.Middle

end
-- ==== Proof.Middle.Run1.lean ====
/- Each part of the body run once, from any contents. -/
module

public import proofs.«01_k».proof.Proof.Middle.Point

@[expose] public section

noncomputable section

namespace Cert.Middle

open Idealize.ShloMosaic Idealize.SL.Sem Cert.Kernel2Ideal Cert.Hand Cert.Hand.Mem
open Cert.Kernel2Ideal.Facts₀ Cert.Kernel2Ideal.Facts

variable {F : FTy → Type} [FloatOps F] (R : Args) (hR : ∀ b, (R b).IsWhole) (S X : St F) (k u : Fin 16)

theorem lift_at {t : FTy} (v : FVec F S16x1024 t) (x : S1x16x1024.Idx) : lift v x = v (ix2 (x 1) (x 2)) := by
  unfold lift
  idx_vars x
  pointwise

theorem flat_lift {t : FTy} (v : FVec F S16x1024 t) : flat (fun x => v (ix2 (x 1) (x 2))) = v := by
  funext j
  unfold flat
  idx_vars j
  pointwise

theorem lift1_at (v : FVec F S16x1 .f32) (x : S1x16x1.Idx) : lift1 v x = v (ix2 (x 1) (x 2)) := by
  unfold lift1
  idx_vars x
  pointwise
  rw [Subsingleton.elim x2 0]

theorem flat1_lift (v : FVec F S16x1 .f32) : flat1 (fun x => v (ix2 (x 1) (x 2))) = v := by
  funext j
  unfold flat1
  idx_vars j
  pointwise
  rw [Subsingleton.elim j1 0]

/-- What the norms write. -/
def normsX : St F
  | .yc => (rLow k).overlay (X .yc) (yaR X k)
  | .vl => (rRow k).overlay (X .vl) (vlR X k)
  | .keep => (rKeep 3 k).overlay ((rKeep 2 k).overlay ((rKeep 1 k).overlay ((rKeep 0 k).overlay (X .keep) (lift (keepR X 0 k))) (lift (keepR X 1 k)))
      (lift (keepR X 2 k))) (lift (keepR X 3 k))
  | .rs => (rRs 1 k).overlay ((rRs 0 k).overlay (X .rs) (lift1 (rsR X 0 k))) (lift1 (rsR X 1 k))
  | b => X b

theorem run_norms : (run (norms R hR (par (X .cg)) (par (X .cb)) (par (X .sg)) (par (X .sb)) k) X).2 = normsX X k := by
  funext b
  cases b <;> sl_kernel_rfl

/-- What one unit of the mixing writes. -/
def mixX : St F
  | .vm => (rUnit u).overlay (X .vm) (mix (fun x => X .ws ((rHead (hd u)).emb x)) (fun x => X .vl ((rUnit u).emb x)) (fun x => X .bs ((rBias (hd u)).emb x)))
  | b => X b

theorem run_mix : (run (mixUnit R u) X).2 = mixX X u := by
  funext b
  cases b <;> sl_kernel_rfl

/-- What the second branch writes. -/
def gateX : St F
  | .yc => (rHigh k).overlay (X .yc) (round16 (yb (zR X k 1) (fun x => X .vm ((rRow k).emb x)) (zR X k 3) (logistic (zR X k 3))))
  | .keep => (rKeep 4 k).overlay (X .keep) (lift (logistic (zR X k 3)))
  | b => X b

theorem run_gate : (run (gate R hR k) X).2 = gateX X k := by
  funext b
  cases b <;> sl_kernel_rfl

/-- What the projection writes. -/
def projectX : St F
  | .y => (Rect.unit (s := S256x1024) ![0, 0] S256x1024.size inb_S256x1024_S256x1024_0_0).overlay (X .y)
      (project (fun x => X .yc ((Rect.unit (s := S256x2048) ![0, 0] S256x2048.size inb_S256x2048_S256x2048_0_0).emb x))
        (fun x => X .wo ((Rect.unit (s := S2048x1024) ![0, 0] S2048x1024.size inb_S2048x1024_S2048x1024_0_0).emb x)))
  | b => X b

theorem run_project : (run (projectAll R) X).2 = projectX X := by
  funext b
  cases b <;> sl_kernel_rfl

/-- A row group of the column sums overwritten. -/
def accW (q : Fin 8) (c : V16 F) (A : S8x8x1024.Idx → F .f32) : S8x8x1024.Idx → F .f32 :=
  (rAcc q).overlay A (addSum (fun x => A ((rAcc q).emb x)) c)

/-- The residual stream read, -/
def x2X : V16 F := resid (fun x => X .x ((rRow k).emb x)) (fun x => X .y ((rRow k).emb x)) (gateRow (X .mod))

/-- and the loss's gradient there. -/
def dxX : V16 F := dx2 (x2X X k) (tR X k) (par (X .fg))

/-- What the loss writes. -/
def lossX : St F
  | .dx => (rRow k).overlay (X .dx) (dxX X k)
  | .dy => (rRow k).overlay (X .dy) (round16 (mulf (dxX X k) (spread (gateRow (X .mod)))))
  | .acc => accW 1 (mulf (dxX X k) (fun x => X .y ((rRow k).emb x))) (accW 0 (mulf (dout (x2X X k) (tR X k) (par (X .fg))) (xn2 (x2X X k)))
      (accW 6 (mulf (err (x2X X k) (tR X k) (par (X .fg))) (err (x2X X k) (tR X k) (par (X .fg)))) (X .acc)))
  | b => X b

theorem run_loss : (run (lossRows R hR (par (X .fg)) (gateRow (X .mod)) k) X).2 = lossX X k := by
  funext b
  cases b <;> sl_kernel_rfl

/-- What the gradient of the projection writes. -/
def unprojectX : St F
  | .dyc => (Rect.unit (s := S256x2048) ![0, 0] S256x2048.size inb_S256x2048_S256x2048_0_0).overlay (X .dyc)
      (unproject (fun x => X .dy ((Rect.unit (s := S256x1024) ![0, 0] S256x1024.size inb_S256x1024_S256x1024_0_0).emb x))
        (fun x => X .wo ((Rect.unit (s := S2048x1024) ![0, 0] S2048x1024.size inb_S2048x1024_S2048x1024_0_0).emb x)))
  | b => X b

theorem run_unproject : (run (unprojectAll R) X).2 = unprojectX X := by
  funext b
  cases b <;> sl_kernel_rfl

/-- A value kept, read. -/
def keptX (j : Fin 5) : V16 F := flat fun x => X .keep ((rKeep j k).emb x)

/-- The gradient at the mixed rows from what is kept. -/
def dmX : V16 F := mulf (mulf (fun x => X .dyc ((rHigh k).emb x)) (zR X k 1)) (mulf (zR X k 3) (keptX X k 4))

/-- What the gradient of the second branch writes. -/
def ungateX : St F
  | .dz => (rZ 3 k).overlay ((rZ 1 k).overlay (X .dz)
        (lift (round16 (mulf (mulf (fun x => X .dyc ((rHigh k).emb x)) (fun x => X .vm ((rRow k).emb x))) (mulf (zR X k 3) (keptX X k 4))))))
      (lift (round16 (mulf (mulf (mulf (fun x => X .dyc ((rHigh k).emb x)) (zR X k 1)) (fun x => X .vm ((rRow k).emb x))) (dsilu (zR X k 3) (keptX X k 4)))))
  | .dvm => (rRow k).overlay (X .dvm) (shapeCast S16x1024 (round16 (dmX X k)) shapeCasts_S16x1024_S16x1024)
  | .dba => (rDba k).overlay (X .dba) (addRows (fun x => X .dba ((rDba k).emb x)) (dmX X k))
  | b => X b

theorem run_ungate : (run (ungate R hR k) X).2 = ungateX X k := by
  funext b
  cases b <;> sl_kernel_rfl

/-- What one unit of the mixing's gradients writes. -/
def unmixX : St F
  | .dw => (rHead (hd u)).overlay (X .dw) (addHead (fun x => X .dw ((rHead (hd u)).emb x)) (fun x => X .dvm ((rUnit u).emb x)) (fun x => X .vl ((rUnit u).emb x)))
  | .dvl => (rUnit u).overlay (X .dvl) (unmix (fun x => X .ws ((rHead (hd u)).emb x)) (fun x => X .dvm ((rUnit u).emb x)))
  | b => X b

theorem run_unmix : (run (unmixUnit R u) X).2 = unmixX X u := by
  funext b
  cases b <;> sl_kernel_rfl

/-- The convolution's norm from what is kept, -/
def lnX : V16 F := affine (keptX X k 0) (par (X .cg)) (par (X .cb))

/-- the gradient there -/
def dlnX : V16 F := mulf (mulf (fun x => X .dyc ((rLow k).emb x)) (mulf (zR X k 0) (keptX X k 3))) (dsilu (lnX X k) (keptX X k 2))

/-- and at the convolution. -/
def dqX : V16 F := uncentre (keptX X k 0) (mulf (dlnX X k) (spread (par (X .cg)))) (flat1 fun x => X .rs ((rRs 0 k).emb x))

/-- What the gradient of the norms writes. -/
def unnormsX : St F
  | .dz => (rZ 0 k).overlay ((rZ 2 k).overlay (X .dz)
        (lift (round16 (uncentre (keptX X k 1) (mulf (fun x => X .dvl ((rRow k).emb x)) (spread (par (X .sg)))) (flat1 fun x => X .rs ((rRs 1 k).emb x))))))
      (lift (round16 (mulf (mulf (fun x => X .dyc ((rLow k).emb x)) (mulf (lnX X k) (keptX X k 2))) (dsilu (zR X k 0) (keptX X k 3)))))
  | .acc => accW 3 (dlnX X k) (accW 2 (mulf (dlnX X k) (keptX X k 0)) (accW 5 (fun x => X .dvl ((rRow k).emb x))
      (accW 4 (mulf (fun x => X .dvl ((rRow k).emb x)) (keptX X k 1)) (X .acc))))
  | .dq => (rQ 7 k).overlay ((rQ 6 k).overlay ((rQ 5 k).overlay ((rQ 4 k).overlay ((rQ 3 k).overlay ((rQ 2 k).overlay ((rQ 1 k).overlay ((rQ 0 k).overlay (X .dq)
      (shapeCast S1x16x128 (extractStridedSlice S16x128 ![0, 0] (dqX X k) slices_S16x1024_o0_0_S16x128) shapeCasts_S16x128_S1x16x128))
      (shapeCast S1x16x128 (extractStridedSlice S16x128 ![0, 128] (dqX X k) slices_S16x1024_o0_128_S16x128) shapeCasts_S16x128_S1x16x128))
      (shapeCast S1x16x128 (extractStridedSlice S16x128 ![0, 256] (dqX X k) slices_S16x1024_o0_256_S16x128) shapeCasts_S16x128_S1x16x128))
      (shapeCast S1x16x128 (extractStridedSlice S16x128 ![0, 384] (dqX X k) slices_S16x1024_o0_384_S16x128) shapeCasts_S16x128_S1x16x128))
      (shapeCast S1x16x128 (extractStridedSlice S16x128 ![0, 512] (dqX X k) slices_S16x1024_o0_512_S16x128) shapeCasts_S16x128_S1x16x128))
      (shapeCast S1x16x128 (extractStridedSlice S16x128 ![0, 640] (dqX X k) slices_S16x1024_o0_640_S16x128) shapeCasts_S16x128_S1x16x128))
      (shapeCast S1x16x128 (extractStridedSlice S16x128 ![0, 768] (dqX X k) slices_S16x1024_o0_768_S16x128) shapeCasts_S16x128_S1x16x128))
      (shapeCast S1x16x128 (extractStridedSlice S16x128 ![0, 896] (dqX X k) slices_S16x1024_o0_896_S16x128) shapeCasts_S16x128_S1x16x128)
  | b => X b

theorem run_unnorms : (run (unnorms R hR (par (X .cg)) (par (X .cb)) (par (X .sg)) k) X).2 = unnormsX X k := by
  funext b
  cases b <;> sl_kernel_rfl

/-- What the zeroing writes. -/
def zeroX : St F
  | .acc => (Rect.unit (s := S8x8x1024) ![0, 0, 0] S8x8x1024.size inb_S8x8x1024_S8x8x1024_0_0_0).overlay (X .acc)
      (shapeCast S8x8x1024 (broadcast S8x8x1024 (Scalar.ofBits .f32 0x00000000#32)) shapeCasts_S8x8x1024_S8x8x1024)
  | .dba => (Rect.unit (s := S128x1024) ![0, 0] S128x1024.size inb_S128x1024_S128x1024_0_0).overlay (X .dba)
      (shapeCast S128x1024 (broadcast S128x1024 (Scalar.ofBits .f32 0x00000000#32)) shapeCasts_S128x1024_S128x1024)
  | .dw => (Rect.unit (s := S8x128x128) ![0, 0, 0] S8x128x128.size inb_S8x128x128_S8x128x128_0_0_0).overlay (X .dw)
      (broadcast S8x128x128 (Scalar.ofBits .f32 0x00000000#32))
  | b => X b

theorem run_zero : (run (zero R) X).2 = zeroX X := by
  funext b
  cases b <;> sl_kernel_rfl

/-- The factor of a column sum. -/
def smBits (q : Fin 8) : BitVec 32 :=
  ![0x3F800000#32, 0x3F800000#32, 0x3F800000#32, 0x3F800000#32, 0x3F800000#32, 0x3F800000#32, 0x3A000000#32, 0x3F800000#32] q

/-- What a row of the sums' output is. -/
def smX (q : Fin 8) : St F
  | .sm => (rSm q).overlay (X .sm) (total (smBits q) (fun x => X .acc ((rAcc q).emb x)))
  | b => X b

theorem run_outSm (q : Fin 8) : (run (outSm R q) X).2 = smX X q := by
  funext b
  cases b <;> sl_kernel_rfl

/-- The bias gradients as columns. -/
def dbOut (A : S128x1024.Idx → F .f32) : FVec F S128x128 .f32 :=
  putCol 7#32 (fun x => A ((rBias 7).emb x)) (putCol 6#32 (fun x => A ((rBias 6).emb x)) (putCol 5#32 (fun x => A ((rBias 5).emb x))
    (putCol 4#32 (fun x => A ((rBias 4).emb x)) (putCol 3#32 (fun x => A ((rBias 3).emb x)) (putCol 2#32 (fun x => A ((rBias 2).emb x))
      (putCol 1#32 (fun x => A ((rBias 1).emb x)) (putCol 0#32 (fun x => A ((rBias 0).emb x)) (broadcast S128x128 (Scalar.ofBits .f32 0x00000000#32)))))))))

/-- What the bias gradients' output is. -/
def dbX : St F
  | .db => (Rect.unit (s := S128x128) ![0, 0] S128x128.size inb_S128x128_S128x128_0_0).overlay (X .db) (dbOut (X .dba))
  | b => X b

theorem run_outDb : (run (outDb R) X).2 = dbX X := by
  funext b
  cases b <;> sl_kernel_rfl

end Cert.Middle

end
-- ==== Proof.Middle.Run2.lean ====
/- The loops of the body: what each memref holds before each step. -/
module

public import proofs.«01_k».proof.Proof.Middle.Run1

@[expose] public section

noncomputable section

namespace Cert.Middle

open Idealize.ShloMosaic Idealize.SL.Sem Cert.Kernel2Ideal Cert.Hand Cert.Hand.Mem
open Cert.Kernel2Ideal.Facts₀ Cert.Kernel2Ideal.Facts

variable {F : FTy → Type} [FloatOps F] (R : Args) (hR : ∀ b, (R b).IsWhole) (S X : St F) (k u : Fin 16)

/-! ## Rectangles written and read -/

theorem emb_full {s : Shape} (off : Fin s.rank → ℕ) (h : ∀ a, off a = 0) (inb) (x : s.Idx) : (Rect.unit (s := s) off s.size inb).emb x = x := by
  refine emb_eq fun a => ?_; simp [h]

theorem overlay_full {s : Shape} {V : Type} (off : Fin s.rank → ℕ) (h : ∀ a, off a = 0) (inb) (Y w : s.Idx → V) :
    (Rect.unit (s := s) off s.size inb).overlay Y w = w :=
  overlay_all _ _ _ _ (fun x => congrArg w (emb_full off h inb x).symm) (fun j => ⟨j, emb_full off h inb j⟩)

theorem zeros2 : ∀ a : Fin 2, (![0, 0] : Fin 2 → ℕ) a = 0 := by decide
theorem zeros3 : ∀ a : Fin 3, (![0, 0, 0] : Fin 3 → ℕ) a = 0 := by decide

theorem keep_step (f : Fin 5 → Fin 16 → V16 F) (Y : S5x256x1024.Idx → F .f32) (q : Fin 5) (hq : q.val < 4) :
    (rKeep q k).overlay (prog tKeep (glue3 f) Y (4 * k.val + q.val)) (lift (f q k)) = prog tKeep (glue3 f) Y (4 * k.val + q.val + 1) :=
  prog_step _ _ _ _ _ _ (tKeep_iff q hq k) fun x => (lift_at (f q k) x).trans (glue3_emb5 f q k x).symm

theorem keep4_step (f : Fin 5 → Fin 16 → V16 F) (Y : S5x256x1024.Idx → F .f32) :
    (rKeep 4 k).overlay (prog tKeep4 (glue3 f) Y k.val) (lift (f 4 k)) = prog tKeep4 (glue3 f) Y (k.val + 1) :=
  prog_step _ _ _ _ _ _ (tKeep4_iff k) fun x => (lift_at (f 4 k) x).trans (glue3_emb5 f 4 k x).symm

theorem rs_step (f : Fin 2 → Fin 16 → FVec F S16x1 .f32) (Y : S2x256x1.Idx → F .f32) (q : Fin 2) :
    (rRs q k).overlay (prog tRs (glue1 f) Y (2 * k.val + q.val)) (lift1 (f q k)) = prog tRs (glue1 f) Y (2 * k.val + q.val + 1) :=
  prog_step _ _ _ _ _ _ (tRs_iff q k) fun x => (lift1_at (f q k) x).trans (glue1_emb f q k x).symm

theorem keep_steps (f : Fin 5 → Fin 16 → V16 F) (Y : S5x256x1024.Idx → F .f32) :
    (rKeep 3 k).overlay ((rKeep 2 k).overlay ((rKeep 1 k).overlay ((rKeep 0 k).overlay (prog tKeep (glue3 f) Y (4 * k.val))
      (lift (f 0 k))) (lift (f 1 k))) (lift (f 2 k))) (lift (f 3 k)) = prog tKeep (glue3 f) Y (4 * (k.val + 1)) := by
  have h0 : (rKeep 0 k).overlay (prog tKeep (glue3 f) Y (4 * k.val)) (lift (f 0 k)) = prog tKeep (glue3 f) Y (4 * k.val + 1) := keep_step k f Y 0 (by decide)
  have h1 : (rKeep 1 k).overlay (prog tKeep (glue3 f) Y (4 * k.val + 1)) (lift (f 1 k)) = prog tKeep (glue3 f) Y (4 * k.val + 2) := keep_step k f Y 1 (by decide)
  have h2 : (rKeep 2 k).overlay (prog tKeep (glue3 f) Y (4 * k.val + 2)) (lift (f 2 k)) = prog tKeep (glue3 f) Y (4 * k.val + 3) := keep_step k f Y 2 (by decide)
  have h3 : (rKeep 3 k).overlay (prog tKeep (glue3 f) Y (4 * k.val + 3)) (lift (f 3 k)) = prog tKeep (glue3 f) Y (4 * k.val + 4) := keep_step k f Y 3 (by decide)
  rw [h0, h1, h2, h3, Nat.mul_add]

theorem rs_steps (f : Fin 2 → Fin 16 → FVec F S16x1 .f32) (Y : S2x256x1.Idx → F .f32) :
    (rRs 1 k).overlay ((rRs 0 k).overlay (prog tRs (glue1 f) Y (2 * k.val)) (lift1 (f 0 k))) (lift1 (f 1 k)) = prog tRs (glue1 f) Y (2 * (k.val + 1)) := by
  have h0 : (rRs 0 k).overlay (prog tRs (glue1 f) Y (2 * k.val)) (lift1 (f 0 k)) = prog tRs (glue1 f) Y (2 * k.val + 1) := rs_step k f Y 0
  have h1 : (rRs 1 k).overlay (prog tRs (glue1 f) Y (2 * k.val + 1)) (lift1 (f 1 k)) = prog tRs (glue1 f) Y (2 * k.val + 2) := rs_step k f Y 1
  rw [h0, h1, Nat.mul_add]

theorem row_step {α : Type} (f : Fin 16 → S16x1024.Idx → α) (Y : S256x1024.Idx → α) :
    (rRow k).overlay (prog tRow (glue f) Y k.val) (f k) = prog tRow (glue f) Y (k.val + 1) :=
  prog_step _ _ _ _ _ _ (tRow_iff k) fun x => (glue_emb f k x).symm

theorem unit_step {α : Type} (f : Fin 16 → S128x128.Idx → α) (Y : S256x1024.Idx → α) :
    (rUnit u).overlay (prog tUnit (glueU f) Y u.val) (f u) = prog tUnit (glueU f) Y (u.val + 1) :=
  prog_step _ _ _ _ _ _ (tUnit_iff u) fun x => (glueU_emb f u x).symm

theorem z_step (t : S4x256x1024.Idx → ℕ) (f : Fin 4 → Fin 16 → FVec F S16x1024 .bf16) (Y : S4x256x1024.Idx → F .bf16) (q : Fin 4) (n : ℕ)
    (ht : ∀ j, t j = n ↔ j ∈ (rZ q k).set) :
    (rZ q k).overlay (prog t (glue3 f) Y n) (lift (f q k)) = prog t (glue3 f) Y (n + 1) :=
  prog_step _ _ _ _ _ _ ht fun x => (lift_at (f q k) x).trans (glue3_emb4 f q k x).symm

theorem accW_eq (q : Fin 8) (c : V16 F) (A : S8x8x1024.Idx → F .f32) : accW q c A = accAdd q c A := by
  refine overlay_eq _ _ _ _ (fun x => ?_) (fun j hj => ?_)
  · rw [emb_acc]
    unfold addSum accAdd
    idx_vars x
    pointwise [emb_acc]
  · unfold accAdd
    rw [if_neg]
    intro h
    apply hj
    have h1 := idx3_lt1 j
    have h2 := idx3_lt2 j
    rw [Rect.mem_set_unit, forall3]
    dsimp
    omega

theorem kept_eq (h : X .keep = glue3 (keepR S)) (j : Fin 5) : keptX X k j = keepR S j k := by
  unfold keptX
  rw [h]
  exact (congrArg flat (funext fun x => glue3_emb5 (keepR S) j k x)).trans (flat_lift _)

theorem rs_eq (h : X .rs = glue1 (rsR S)) (j : Fin 2) : flat1 (fun x => X .rs ((rRs j k).emb x)) = rsR S j k := by
  rw [h]
  exact (congrArg flat1 (funext fun x => glue1_emb (rsR S) j k x)).trans (flat1_lift _)

/-! ## The norms -/

/-- Before the `n`-th row group of the norms. -/
def A1 (n : ℕ) : St F
  | .yc => prog tLow (ycA S) (S .yc) n
  | .vl => prog tRow (vlA S) (S .vl) n
  | .keep => prog tKeep (glue3 (keepR S)) (S .keep) (4 * n)
  | .rs => prog tRs (glue1 (rsR S)) (S .rs) (2 * n)
  | b => S b

theorem A1_zero : A1 S 0 = S := by
  funext b
  cases b <;> first | rfl | exact prog_zero _ _ _

theorem step1 : normsX (A1 S k.val) k = A1 S (k.val + 1) := by
  funext b
  cases b
  case yc =>
    have e : normsX (A1 S k.val) k .yc = (rLow k).overlay (prog tLow (ycA S) (S .yc) k.val) (yaR S k) := by sl_kernel_rfl
    exact e.trans (prog_step _ _ _ _ _ _ (tLow_iff k) fun x => (glue2_low _ _ k x).symm)
  case vl =>
    have e : normsX (A1 S k.val) k .vl = (rRow k).overlay (prog tRow (vlA S) (S .vl) k.val) (vlR S k) := by sl_kernel_rfl
    exact e.trans (row_step k _ _)
  case keep =>
    have e : normsX (A1 S k.val) k .keep = (rKeep 3 k).overlay ((rKeep 2 k).overlay ((rKeep 1 k).overlay ((rKeep 0 k).overlay
      (prog tKeep (glue3 (keepR S)) (S .keep) (4 * k.val)) (lift (keepR S 0 k))) (lift (keepR S 1 k))) (lift (keepR S 2 k))) (lift (keepR S 3 k)) := by sl_kernel_rfl
    exact e.trans (keep_steps k _ _)
  case rs =>
    have e : normsX (A1 S k.val) k .rs = (rRs 1 k).overlay ((rRs 0 k).overlay (prog tRs (glue1 (rsR S)) (S .rs) (2 * k.val)) (lift1 (rsR S 0 k))) (lift1 (rsR S 1 k)) := by
      sl_kernel_rfl
    exact e.trans (rs_steps k _ _)
  all_goals rfl

/-! ## The mixing -/

/-- Before the `n`-th unit of the mixing. -/
def A2 (n : ℕ) : St F
  | .yc => prog tLow (ycA S) (S .yc) 16
  | .vl => vlA S
  | .keep => prog tKeep (glue3 (keepR S)) (S .keep) 64
  | .rs => glue1 (rsR S)
  | .vm => prog tUnit (vmA S) (S .vm) n
  | b => S b

theorem A1_end : A1 S 16 = A2 S 0 := by
  funext b
  cases b
  case vl => exact prog_end _ _ _ _ fun j => .inl (by have := idx2_lt0 j; unfold tRow; omega)
  case rs => exact prog_end _ _ _ _ fun j => .inl (by have := idx3_lt0 j; have := idx3_lt1 j; unfold tRs; omega)
  case vm => exact (prog_zero _ _ _).symm
  all_goals rfl

theorem step2 : mixX (A2 S u.val) u = A2 S (u.val + 1) := by
  funext b
  cases b
  case vm =>
    have e : mixX (A2 S u.val) u .vm = (rUnit u).overlay (prog tUnit (vmA S) (S .vm) u.val) (vmU S u) := by sl_kernel_rfl
    exact e.trans (unit_step u _ _)
  all_goals rfl

/-! ## The second branch -/

/-- Before the `n`-th row group of the second branch. -/
def A3 (n : ℕ) : St F
  | .yc => prog tHigh (ycA S) (prog tLow (ycA S) (S .yc) 16) n
  | .vl => vlA S
  | .keep => prog tKeep4 (glue3 (keepR S)) (prog tKeep (glue3 (keepR S)) (S .keep) 64) n
  | .rs => glue1 (rsR S)
  | .vm => vmA S
  | b => S b

theorem A2_end : A2 S 16 = A3 S 0 := by
  funext b
  cases b
  case vm => exact prog_end _ _ _ _ fun j => .inl (by have := idx2_lt0 j; have := idx2_lt1 j; unfold tUnit; omega)
  case yc => exact (prog_zero _ _ _).symm
  case keep => exact (prog_zero _ _ _).symm
  all_goals rfl

theorem step3 : gateX (A3 S k.val) k = A3 S (k.val + 1) := by
  funext b
  cases b
  case yc =>
    have e : gateX (A3 S k.val) k .yc = (rHigh k).overlay (prog tHigh (ycA S) (prog tLow (ycA S) (S .yc) 16) k.val) (ybR S k) := by sl_kernel_rfl
    exact e.trans (prog_step _ _ _ _ _ _ (tHigh_iff k) fun x => (glue2_high _ _ k x).symm)
  case keep =>
    have e : gateX (A3 S k.val) k .keep = (rKeep 4 k).overlay (prog tKeep4 (glue3 (keepR S)) (prog tKeep (glue3 (keepR S)) (S .keep) 64) k.val) (lift (keepR S 4 k)) := by
      sl_kernel_rfl
    exact e.trans (keep4_step k _ _)
  all_goals rfl

/-! ## The projection -/

/-- After the projection. -/
def A4 : St F
  | .yc => ycA S
  | .vl => vlA S
  | .keep => glue3 (keepR S)
  | .rs => glue1 (rsR S)
  | .vm => vmA S
  | .y => yA S
  | b => S b

theorem A3_yc : A3 S 16 .yc = ycA S :=
  prog_end _ _ _ _ fun j => by
    have h0 := idx2_lt0 j
    by_cases h : (j 1).val < 1024
    · exact .inr (prog_of_lt _ _ _ _ _ (by unfold tLow; rw [if_pos h]; omega))
    · exact .inl (by unfold tHigh; rw [if_neg h]; omega)

theorem A3_end : projectX (A3 S 16) = A4 S := by
  funext b
  cases b
  case yc => exact A3_yc S
  case keep =>
    exact prog_end _ _ _ _ fun j => by
      have h0 := idx3_lt0 j
      have h1 := idx3_lt1 j
      by_cases h : (j 0).val < 4
      · exact .inr (prog_of_lt _ _ _ _ _ (by unfold tKeep; rw [if_pos h]; omega))
      · exact .inl (by unfold tKeep4; rw [if_neg h]; omega)
  case y =>
    change (Rect.unit (s := S256x1024) ![0, 0] S256x1024.size inb_S256x1024_S256x1024_0_0).overlay (A3 S 16 .y)
      (project (fun x => A3 S 16 .yc ((Rect.unit (s := S256x2048) ![0, 0] S256x2048.size inb_S256x2048_S256x2048_0_0).emb x))
        (fun x => S .wo ((Rect.unit (s := S2048x1024) ![0, 0] S2048x1024.size inb_S2048x1024_S2048x1024_0_0).emb x))) = yA S
    rw [A3_yc]
    exact overlay_full _ zeros2 _ _ _
  all_goals rfl

end Cert.Middle

end
-- ==== Proof.Middle.Run3.lean ====
/- The later loops of the body: what each memref holds before each step. -/
module

public import proofs.«01_k».proof.Proof.Middle.Run2

@[expose] public section

noncomputable section

namespace Cert.Middle

open Idealize.ShloMosaic Idealize.SL.Sem Cert.Kernel2Ideal Cert.Hand Cert.Hand.Mem
open Cert.Kernel2Ideal.Facts₀ Cert.Kernel2Ideal.Facts

variable {F : FTy → Type} [FloatOps F] (R : Args) (hR : ∀ b, (R b).IsWhole) (S X : St F) (k u : Fin 16)

/-! ## The loss -/

/-- Before the `n`-th row group of the loss. -/
def A5 (n : ℕ) : St F
  | .dx => prog tRow (dxA S) (S .dx) n
  | .dy => prog tRow (dyA S) (S .dy) n
  | .acc => acc5 S n
  | b => A4 S b

theorem A4_end : A4 S = A5 S 0 := by
  funext b
  cases b
  case dx => exact (prog_zero _ _ _).symm
  case dy => exact (prog_zero _ _ _).symm
  all_goals rfl

theorem acc5_succ : acc5 S (k.val + 1) = accAdd 1 (mulf (dxR S k) (yR S k)) (accAdd 0 (mulf (dout (x2R S k) (tR S k) (par (S .fg))) (xn2 (x2R S k)))
    (accAdd 6 (mulf (errR S k) (errR S k)) (acc5 S k.val))) := by
  rw [acc5, dif_pos k.isLt]

theorem step5 : lossX (A5 S k.val) k = A5 S (k.val + 1) := by
  funext b
  cases b
  case dx =>
    have e : lossX (A5 S k.val) k .dx = (rRow k).overlay (prog tRow (dxA S) (S .dx) k.val) (dxR S k) := by sl_kernel_rfl
    exact e.trans (row_step k _ _)
  case dy =>
    have e : lossX (A5 S k.val) k .dy = (rRow k).overlay (prog tRow (dyA S) (S .dy) k.val) (dyR S k) := by sl_kernel_rfl
    exact e.trans (row_step k _ _)
  case acc =>
    have e : lossX (A5 S k.val) k .acc = accW 1 (mulf (dxR S k) (yR S k)) (accW 0 (mulf (dout (x2R S k) (tR S k) (par (S .fg))) (xn2 (x2R S k)))
      (accW 6 (mulf (errR S k) (errR S k)) (acc5 S k.val))) := by sl_kernel_rfl
    rw [e, accW_eq, accW_eq, accW_eq]
    exact (acc5_succ S k).symm
  all_goals rfl

/-! ## The gradient of the projection -/

/-- After it. -/
def A6 : St F
  | .dx => dxA S
  | .dy => dyA S
  | .acc => acc5 S 16
  | .dyc => dycA S
  | b => A4 S b

theorem rows_end {α : Type} (f Y : S256x1024.Idx → α) : prog tRow f Y 16 = f :=
  prog_end _ _ _ _ fun j => .inl (by have := idx2_lt0 j; unfold tRow; omega)

theorem units_end {α : Type} (f Y : S256x1024.Idx → α) : prog tUnit f Y 16 = f :=
  prog_end _ _ _ _ fun j => .inl (by have := idx2_lt0 j; have := idx2_lt1 j; unfold tUnit; omega)

theorem A5_end : unprojectX (A5 S 16) = A6 S := by
  funext b
  cases b
  case dx => exact rows_end _ _
  case dy => exact rows_end _ _
  case dyc =>
    change (Rect.unit (s := S256x2048) ![0, 0] S256x2048.size inb_S256x2048_S256x2048_0_0).overlay (A5 S 16 .dyc)
      (unproject (fun x => prog tRow (dyA S) (S .dy) 16 ((Rect.unit (s := S256x1024) ![0, 0] S256x1024.size inb_S256x1024_S256x1024_0_0).emb x))
        (fun x => S .wo ((Rect.unit (s := S2048x1024) ![0, 0] S2048x1024.size inb_S2048x1024_S2048x1024_0_0).emb x))) = dycA S
    rw [rows_end]
    exact overlay_full _ zeros2 _ _ _
  all_goals rfl

/-! ## Back through the second branch -/

/-- Before the `n`-th row group of it. -/
def A7 (n : ℕ) : St F
  | .dz => prog tZ13 (dzA S) (S .dz) (2 * n)
  | .dvm => prog tRow (dvmA S) (S .dvm) n
  | .dba => dbaN S n
  | b => A6 S b

theorem A6_end : A6 S = A7 S 0 := by
  funext b
  cases b
  case dz => exact (prog_zero _ _ _).symm
  case dvm => exact (prog_zero _ _ _).symm
  all_goals rfl

theorem z13_steps (f : Fin 4 → Fin 16 → FVec F S16x1024 .bf16) (Y : S4x256x1024.Idx → F .bf16) :
    (rZ 3 k).overlay ((rZ 1 k).overlay (prog tZ13 (glue3 f) Y (2 * k.val)) (lift (f 1 k))) (lift (f 3 k)) = prog tZ13 (glue3 f) Y (2 * (k.val + 1)) := by
  have h0 := z_step k tZ13 f Y 1 (2 * k.val) (tZ1_iff k)
  have h1 := z_step k tZ13 f Y 3 (2 * k.val + 1) (tZ3_iff k)
  rw [h0, h1, Nat.mul_add]

theorem z20_steps (f : Fin 4 → Fin 16 → FVec F S16x1024 .bf16) (Y : S4x256x1024.Idx → F .bf16) :
    (rZ 0 k).overlay ((rZ 2 k).overlay (prog tZ20 (glue3 f) Y (2 * k.val)) (lift (f 2 k))) (lift (f 0 k)) = prog tZ20 (glue3 f) Y (2 * (k.val + 1)) := by
  have h0 := z_step k tZ20 f Y 2 (2 * k.val) (tZ2_iff k)
  have h1 := z_step k tZ20 f Y 0 (2 * k.val + 1) (tZ0_iff k)
  rw [h0, h1, Nat.mul_add]

theorem dbaN_succ : dbaN S (k.val + 1) = (rDba k).overlay (dbaN S k.val) (addRows (fun x => dbaN S k.val ((rDba k).emb x)) (dmR S k)) := by
  rw [dbaN, dif_pos k.isLt]

theorem dm_eq (n : ℕ) : dmX (A7 S n) k = dmR S k := by
  have e : dmX (A7 S n) k = mulf (mulf (dhR S k) (zR S k 1)) (mulf (zR S k 3) (keptX (A7 S n) k 4)) := by sl_kernel_rfl
  rw [e, kept_eq S (A7 S n) k rfl 4]
  rfl

theorem step7 : ungateX (A7 S k.val) k = A7 S (k.val + 1) := by
  funext b
  cases b
  case dz =>
    have e : ungateX (A7 S k.val) k .dz = (rZ 3 k).overlay ((rZ 1 k).overlay (prog tZ13 (dzA S) (S .dz) (2 * k.val))
        (lift (round16 (mulf (mulf (dhR S k) (vmR S k)) (mulf (zR S k 3) (keptX (A7 S k.val) k 4))))))
      (lift (round16 (mulf (mulf (mulf (dhR S k) (zR S k 1)) (vmR S k)) (dsilu (zR S k 3) (keptX (A7 S k.val) k 4))))) := by sl_kernel_rfl
    rw [e, kept_eq S (A7 S k.val) k rfl 4]
    exact z13_steps k (dzR S) (S .dz)
  case dvm =>
    change (rRow k).overlay (prog tRow (dvmA S) (S .dvm) k.val) (shapeCast S16x1024 (round16 (dmX (A7 S k.val) k)) shapeCasts_S16x1024_S16x1024) = prog tRow (dvmA S) (S .dvm) (k.val + 1)
    rw [dm_eq]
    exact row_step k (dvmR S) _
  case dba =>
    change (rDba k).overlay (dbaN S k.val) (addRows (fun x => dbaN S k.val ((rDba k).emb x)) (dmX (A7 S k.val) k)) = dbaN S (k.val + 1)
    rw [dm_eq]
    exact (dbaN_succ S k).symm
  all_goals rfl

/-! ## Back through the mixing -/

/-- Before the `n`-th unit of it. -/
def A8 (n : ℕ) : St F
  | .dz => prog tZ13 (dzA S) (S .dz) 32
  | .dvm => dvmA S
  | .dba => dbaN S 16
  | .dw => dwN S n
  | .dvl => prog tUnit (dvlA S) (S .dvl) n
  | b => A6 S b

theorem A7_end : A7 S 16 = A8 S 0 := by
  funext b
  cases b
  case dvm => exact rows_end _ _
  case dvl => exact (prog_zero _ _ _).symm
  all_goals rfl

theorem dwN_succ : dwN S (u.val + 1) = (rHead (hd u)).overlay (dwN S u.val) (addHead (fun x => dwN S u.val ((rHead (hd u)).emb x))
      (fun x => dvmA S ((rUnit u).emb x)) (fun x => vlA S ((rUnit u).emb x))) := by
  rw [dwN, dif_pos u.isLt]

theorem step8 : unmixX (A8 S u.val) u = A8 S (u.val + 1) := by
  funext b
  cases b
  case dw => exact (dwN_succ S u).symm
  case dvl =>
    have e : unmixX (A8 S u.val) u .dvl = (rUnit u).overlay (prog tUnit (dvlA S) (S .dvl) u.val) (dvlU S u) := by sl_kernel_rfl
    exact e.trans (unit_step u _ _)
  all_goals rfl

/-! ## Back through the norms -/

/-- Before the `n`-th row group of them. -/
def A9 (n : ℕ) : St F
  | .dz => prog tZ20 (dzA S) (prog tZ13 (dzA S) (S .dz) 32) (2 * n)
  | .acc => acc9 S n
  | .dq => prog tQ (dqA S) (S .dq) (8 * n)
  | .dvm => dvmA S
  | .dba => dbaN S 16
  | .dw => dwN S 16
  | .dvl => dvlA S
  | b => A6 S b

theorem A8_end : A8 S 16 = A9 S 0 := by
  funext b
  cases b
  case dvl => exact units_end _ _
  case dz => exact (prog_zero _ _ _).symm
  case dq => exact (prog_zero _ _ _).symm
  all_goals rfl

theorem acc9_succ : acc9 S (k.val + 1) = accAdd 3 (dlnR S k) (accAdd 2 (mulf (dlnR S k) (hat (qR S k)))
    (accAdd 5 (dvlR S k) (accAdd 4 (mulf (dvlR S k) (hat (zR S k 2))) (acc9 S k.val)))) := by
  rw [acc9, dif_pos k.isLt]

theorem dln_eq (n : ℕ) : dlnX (A9 S n) k = dlnR S k := by
  have e : dlnX (A9 S n) k = mulf (mulf (dlR S k) (mulf (zR S k 0) (keptX (A9 S n) k 3)))
      (dsilu (affine (keptX (A9 S n) k 0) (par (S .cg)) (par (S .cb))) (keptX (A9 S n) k 2)) := by sl_kernel_rfl
  rw [e, kept_eq S (A9 S n) k rfl 3, kept_eq S (A9 S n) k rfl 0, kept_eq S (A9 S n) k rfl 2]
  sl_kernel_rfl

theorem dq_eq (n : ℕ) : dqX (A9 S n) k = dqR S k := by
  have e : dqX (A9 S n) k = uncentre (keptX (A9 S n) k 0) (mulf (dlnX (A9 S n) k) (spread (par (S .cg)))) (flat1 fun x => A9 S n .rs ((rRs 0 k).emb x)) := by sl_kernel_rfl
  rw [e, kept_eq S (A9 S n) k rfl 0, dln_eq, rs_eq S (A9 S n) k rfl 0]
  sl_kernel_rfl

theorem q_step (f : Fin 8 → Fin 16 → S16x128.Idx → F .f32) (Y : S8x256x128.Idx → F .f32) (q : Fin 8) (w : S1x16x128.Idx → F .f32)
    (hw : ∀ x, w x = f q k (ix2 (x 1) (x 2))) :
    (rQ q k).overlay (prog tQ (glueQ f) Y (8 * k.val + q.val)) w = prog tQ (glueQ f) Y (8 * k.val + q.val + 1) :=
  prog_step _ _ _ _ _ _ (tQ_iff q k) fun x => (hw x).trans (glueQ_emb f q k x).symm

/-- Eight blocks of a row group written. -/
theorem q_steps (f : Fin 8 → Fin 16 → S16x128.Idx → F .f32) (Y : S8x256x128.Idx → F .f32) (w0 w1 w2 w3 w4 w5 w6 w7 : S1x16x128.Idx → F .f32)
    (h0 : ∀ x, w0 x = f 0 k (ix2 (x 1) (x 2))) (h1 : ∀ x, w1 x = f 1 k (ix2 (x 1) (x 2))) (h2 : ∀ x, w2 x = f 2 k (ix2 (x 1) (x 2)))
    (h3 : ∀ x, w3 x = f 3 k (ix2 (x 1) (x 2))) (h4 : ∀ x, w4 x = f 4 k (ix2 (x 1) (x 2))) (h5 : ∀ x, w5 x = f 5 k (ix2 (x 1) (x 2)))
    (h6 : ∀ x, w6 x = f 6 k (ix2 (x 1) (x 2))) (h7 : ∀ x, w7 x = f 7 k (ix2 (x 1) (x 2))) :
    (rQ 7 k).overlay ((rQ 6 k).overlay ((rQ 5 k).overlay ((rQ 4 k).overlay ((rQ 3 k).overlay ((rQ 2 k).overlay ((rQ 1 k).overlay ((rQ 0 k).overlay
      (prog tQ (glueQ f) Y (8 * k.val)) w0) w1) w2) w3) w4) w5) w6) w7 = prog tQ (glueQ f) Y (8 * (k.val + 1)) := by
  have e0 : (rQ 0 k).overlay (prog tQ (glueQ f) Y (8 * k.val)) w0 = prog tQ (glueQ f) Y (8 * k.val + 1) := q_step k f Y 0 w0 h0
  have e1 : (rQ 1 k).overlay (prog tQ (glueQ f) Y (8 * k.val + 1)) w1 = prog tQ (glueQ f) Y (8 * k.val + 2) := q_step k f Y 1 w1 h1
  have e2 : (rQ 2 k).overlay (prog tQ (glueQ f) Y (8 * k.val + 2)) w2 = prog tQ (glueQ f) Y (8 * k.val + 3) := q_step k f Y 2 w2 h2
  have e3 : (rQ 3 k).overlay (prog tQ (glueQ f) Y (8 * k.val + 3)) w3 = prog tQ (glueQ f) Y (8 * k.val + 4) := q_step k f Y 3 w3 h3
  have e4 : (rQ 4 k).overlay (prog tQ (glueQ f) Y (8 * k.val + 4)) w4 = prog tQ (glueQ f) Y (8 * k.val + 5) := q_step k f Y 4 w4 h4
  have e5 : (rQ 5 k).overlay (prog tQ (glueQ f) Y (8 * k.val + 5)) w5 = prog tQ (glueQ f) Y (8 * k.val + 6) := q_step k f Y 5 w5 h5
  have e6 : (rQ 6 k).overlay (prog tQ (glueQ f) Y (8 * k.val + 6)) w6 = prog tQ (glueQ f) Y (8 * k.val + 7) := q_step k f Y 6 w6 h6
  have e7 : (rQ 7 k).overlay (prog tQ (glueQ f) Y (8 * k.val + 7)) w7 = prog tQ (glueQ f) Y (8 * k.val + 8) := q_step k f Y 7 w7 h7
  rw [e0, e1, e2, e3, e4, e5, e6, e7, Nat.mul_add]

theorem slice_at (j : Fin 8) (o : ℕ) (ho : o = 128 * j.val) (hs : S16x1024.Slices ![0, o] S16x128) (x : S1x16x128.Idx) :
    shapeCast S1x16x128 (extractStridedSlice S16x128 ![0, o] (dqR S k) hs) shapeCasts_S16x128_S1x16x128 x = dqB S j k (ix2 (x 1) (x 2)) := by
  subst ho
  unfold dqB
  idx_vars x
  pointwise

theorem step9 : unnormsX (A9 S k.val) k = A9 S (k.val + 1) := by
  funext b
  cases b
  case dz =>
    have e : unnormsX (A9 S k.val) k .dz = (rZ 0 k).overlay ((rZ 2 k).overlay (prog tZ20 (dzA S) (prog tZ13 (dzA S) (S .dz) 32) (2 * k.val))
        (lift (round16 (uncentre (keptX (A9 S k.val) k 1) (mulf (dvlR S k) (spread (par (S .sg)))) (flat1 fun x => A9 S k.val .rs ((rRs 1 k).emb x))))))
      (lift (round16 (mulf (mulf (dlR S k) (mulf (affine (keptX (A9 S k.val) k 0) (par (S .cg)) (par (S .cb))) (keptX (A9 S k.val) k 2)))
        (dsilu (zR S k 0) (keptX (A9 S k.val) k 3))))) := by sl_kernel_rfl
    rw [e, kept_eq S (A9 S k.val) k rfl 0, kept_eq S (A9 S k.val) k rfl 1, kept_eq S (A9 S k.val) k rfl 2, kept_eq S (A9 S k.val) k rfl 3, rs_eq S (A9 S k.val) k rfl 1]
    exact z20_steps k (dzR S) _
  case acc =>
    have e : unnormsX (A9 S k.val) k .acc = accW 3 (dlnX (A9 S k.val) k) (accW 2 (mulf (dlnX (A9 S k.val) k) (keptX (A9 S k.val) k 0)) (accW 5 (dvlR S k)
      (accW 4 (mulf (dvlR S k) (keptX (A9 S k.val) k 1)) (acc9 S k.val)))) := by sl_kernel_rfl
    rw [e, kept_eq S (A9 S k.val) k rfl 0, kept_eq S (A9 S k.val) k rfl 1, dln_eq, accW_eq, accW_eq, accW_eq, accW_eq]
    exact (acc9_succ S k).symm
  case dq =>
    unfold unnormsX
    dsimp only
    rw [dq_eq]
    exact q_steps k (dqB S) (S .dq) _ _ _ _ _ _ _ _ (slice_at S k 0 _ (by decide) _) (slice_at S k 1 _ (by decide) _) (slice_at S k 2 _ (by decide) _)
      (slice_at S k 3 _ (by decide) _) (slice_at S k 4 _ (by decide) _) (slice_at S k 5 _ (by decide) _) (slice_at S k 6 _ (by decide) _) (slice_at S k 7 _ (by decide) _)
  all_goals rfl

/-- After the loops. -/
def A10 : St F
  | .dz => dzA S
  | .acc => acc9 S 16
  | .dq => dqA S
  | .dvm => dvmA S
  | .dba => dbaN S 16
  | .dw => dwN S 16
  | .dvl => dvlA S
  | b => A6 S b

theorem A9_end : A9 S 16 = A10 S := by
  funext b
  cases b
  case dz =>
    exact prog_end _ _ _ _ fun j => by
      have h0 := idx3_lt0 j
      have h1 := idx3_lt1 j
      by_cases h : (j 0).val % 2 = 0
      · exact .inl (by unfold tZ20; split_ifs <;> omega)
      · exact .inr (prog_of_lt _ _ _ _ _ (by unfold tZ13; split_ifs <;> omega))
  case dq => exact prog_end _ _ _ _ fun j => .inl (by have := idx3_lt0 j; have := idx3_lt1 j; unfold tQ; omega)
  all_goals rfl

end Cert.Middle

end
-- ==== Proof.Middle.Run4.lean ====
/- What the memrefs hold after the body at a point. -/
module

public import proofs.«01_k».proof.Proof.Middle.Run3

@[expose] public section

noncomputable section

namespace Cert.Middle

open Idealize.ShloMosaic Idealize.SL.Sem Cert.Kernel2Ideal Cert.Hand Cert.Hand.Mem
open Cert.Kernel2Ideal.Facts₀ Cert.Kernel2Ideal.Facts

variable {F : FTy → Type} [FloatOps F] (R : Args) (hR : ∀ b, (R b).IsWhole) (S X : St F)

theorem run_loops1 : (run (steps (norms R hR (par (S .cg)) (par (S .cb)) (par (S .sg)) (par (S .sb)))) S).2 = A2 S 0 := by
  have h := run_steps (norms R hR (par (S .cg)) (par (S .cb)) (par (S .sg)) (par (S .sb))) (A1 S) fun k => (run_norms R hR (A1 S k.val) k).trans (step1 S k)
  rw [A1_zero] at h
  exact h.trans (A1_end S)

theorem run_loops2 : (run (steps (mixUnit R)) (A2 S 0)).2 = A3 S 0 :=
  (run_steps (mixUnit R) (A2 S) fun u => (run_mix R (A2 S u.val) u).trans (step2 S u)).trans (A2_end S)

theorem run_loops3 : (run (steps (gate R hR)) (A3 S 0)).2 = A3 S 16 :=
  run_steps (gate R hR) (A3 S) fun k => (run_gate R hR (A3 S k.val) k).trans (step3 S k)

theorem run_loops4 : (run (projectAll R) (A3 S 16)).2 = A5 S 0 :=
  (run_project R _).trans ((A3_end S).trans (A4_end S))

theorem run_loops5 : (run (steps (lossRows R hR (par (S .fg)) (gateRow (S .mod)))) (A5 S 0)).2 = A5 S 16 :=
  run_steps (lossRows R hR (par (S .fg)) (gateRow (S .mod))) (A5 S) fun k => (run_loss R hR (A5 S k.val) k).trans (step5 S k)

theorem run_loops6 : (run (unprojectAll R) (A5 S 16)).2 = A7 S 0 :=
  (run_unproject R _).trans ((A5_end S).trans (A6_end S))

theorem run_loops7 : (run (steps (ungate R hR)) (A7 S 0)).2 = A8 S 0 :=
  (run_steps (ungate R hR) (A7 S) fun k => (run_ungate R hR (A7 S k.val) k).trans (step7 S k)).trans (A7_end S)

theorem run_loops8 : (run (steps (unmixUnit R)) (A8 S 0)).2 = A9 S 0 :=
  (run_steps (unmixUnit R) (A8 S) fun u => (run_unmix R (A8 S u.val) u).trans (step8 S u)).trans (A8_end S)

theorem run_loops9 : (run (steps (unnorms R hR (par (S .cg)) (par (S .cb)) (par (S .sg)))) (A9 S 0)).2 = A10 S :=
  (run_steps (unnorms R hR (par (S .cg)) (par (S .cb)) (par (S .sg))) (A9 S) fun k => (run_unnorms R hR (A9 S k.val) k).trans (step9 S k)).trans (A9_end S)

/-! ## The ends -/

/-- Zero. -/
def zero0 : F .f32 := FloatOps.ofBits .f32 0x00000000#32

/-- The accumulators at zero. -/
def atZero : St F
  | .acc => fun _ => zero0
  | .dba => fun _ => zero0
  | .dw => fun _ => zero0
  | b => S b

theorem zeroX_eq : zeroX S = atZero S := by
  funext b
  cases b
  case acc => exact (overlay_full _ zeros3 _ _ _).trans (by funext j; unfold atZero zero0; idx_vars j; pointwise)
  case dba => exact (overlay_full _ zeros2 _ _ _).trans (by funext j; unfold atZero zero0; idx_vars j; pointwise)
  case dw => exact overlay_full _ zeros3 _ _ _
  all_goals rfl

/-- A row of the sums' output. -/
def smRow (A : S8x8x1024.Idx → F .f32) (q : Fin 8) : S1x1024.Idx → F .f32 := total (smBits q) (fun x => A ((rAcc q).emb x))

/-- The sums' output. -/
def smOf (A : S8x8x1024.Idx → F .f32) : S8x1024.Idx → F .f32 := fun j => smRow A (j 0) (ix2 0 (j 1))

/-- The rows in order. -/
def tSm (j : S8x1024.Idx) : ℕ := (j 0).val

theorem tSm_iff (q : Fin 8) (j : S8x1024.Idx) : tSm j = q.val ↔ j ∈ (rSm q).set := by
  have h1 := idx2_lt1 j
  rw [Rect.mem_set_unit, Fin.forall_fin_two]
  dsimp [tSm]
  omega

theorem sm_step (A : S8x8x1024.Idx → F .f32) (Y : S8x1024.Idx → F .f32) (q : Fin 8) :
    (rSm q).overlay (prog tSm (smOf A) Y q.val) (smRow A q) = prog tSm (smOf A) Y (q.val + 1) :=
  prog_step _ _ _ _ _ _ (tSm_iff q) fun x => by
    rw [emb_sm]
    unfold smOf
    idx_vars x
    rw [Subsingleton.elim x0 0]

theorem sm_end (A : S8x8x1024.Idx → F .f32) (Y : S8x1024.Idx → F .f32) : prog tSm (smOf A) Y 8 = smOf A :=
  prog_end _ _ _ _ fun j => .inl (idx2_lt0 j)

/-- With the first rows of the sums written. -/
def A11 (n : ℕ) : St F
  | .sm => prog tSm (smOf (X .acc)) (X .sm) n
  | b => X b

theorem step11 (q : Fin 8) : smX (A11 X q.val) q = A11 X (q.val + 1) := by
  funext b
  cases b
  case sm =>
    have e : smX (A11 X q.val) q .sm = (rSm q).overlay (prog tSm (smOf (X .acc)) (X .sm) q.val) (smRow (X .acc) q) := by sl_kernel_rfl
    exact e.trans (sm_step (X .acc) (X .sm) q)
  all_goals rfl

/-- With the outputs of the sums written. -/
def ends : St F
  | .sm => smOf (X .acc)
  | .db => dbOut (X .dba)
  | b => X b

theorem run_ends : (run (do steps (outSm R); outDb R) X).2 = ends X := by
  have h := run_steps (outSm R) (A11 X) fun q => (run_outSm R (A11 X q.val) q).trans (step11 X q)
  have h0 : A11 X 0 = X := by
    funext b
    cases b <;> first | rfl | exact prog_zero _ _ _
  rw [h0] at h
  rw [run_bind, h, run_outDb]
  funext b
  cases b
  case sm => exact sm_end _ _
  case db => exact overlay_full _ zeros2 _ _ _
  all_goals rfl

/-- What the memrefs hold before the loops at a point. -/
def start (n : Fin 16) : St F := if n.val = 0 then atZero S else S

/-- What the memrefs hold after the body. -/
def next (n : Fin 16) : St F := if n.val = 15 then ends (A10 (start S n)) else A10 (start S n)

theorem run_code (n : Fin 16) : (run (code R hR (point n)) S).2 = next S n := by
  have key : ∀ S : St F, (run (do
      let cg ← ld R .cg (Rect.unit (s := S1x1024) ![0, 0] S1x1024.size inb_S1x1024_S1x1024_0_0) h_S1x1024
      let cb ← ld R .cb (Rect.unit (s := S1x1024) ![0, 0] S1x1024.size inb_S1x1024_S1x1024_0_0) h_S1x1024
      let sg ← ld R .sg (Rect.unit (s := S1x1024) ![0, 0] S1x1024.size inb_S1x1024_S1x1024_0_0) h_S1x1024
      let sb ← ld R .sb (Rect.unit (s := S1x1024) ![0, 0] S1x1024.size inb_S1x1024_S1x1024_0_0) h_S1x1024
      let fg ← ld R .fg (Rect.unit (s := S1x1024) ![0, 0] S1x1024.size inb_S1x1024_S1x1024_0_0) h_S1x1024
      let gm ← ld R .mod (Rect.unit (s := S1x3072) ![0, 2048] S1x1024.size inb_S1x3072_S1x1024_0_2048) h_S1x1024
      steps (norms R hR (row cg) (row cb) (row sg) (row sb))
      steps (mixUnit R)
      steps (gate R hR)
      projectAll R
      steps (lossRows R hR (row fg) (row gm))
      unprojectAll R
      steps (ungate R hR)
      steps (unmixUnit R)
      steps (unnorms R hR (row cg) (row cb) (row sg))
      if (point n 0).val = 15 then (do steps (outSm R); outDb R) else pure ⟨⟩) S).2 = if n.val = 15 then ends (A10 S) else A10 S := by
    intro S
    change (run (do
      steps (norms R hR (par (S .cg)) (par (S .cb)) (par (S .sg)) (par (S .sb)))
      steps (mixUnit R)
      steps (gate R hR)
      projectAll R
      steps (lossRows R hR (par (S .fg)) (gateRow (S .mod)))
      unprojectAll R
      steps (ungate R hR)
      steps (unmixUnit R)
      steps (unnorms R hR (par (S .cg)) (par (S .cb)) (par (S .sg)))
      if n.val = 15 then (do steps (outSm R); outDb R) else pure ⟨⟩) S).2 = _
    rw [run_bind, run_loops1, run_bind, run_loops2, run_bind, run_loops3, run_bind, run_loops4, run_bind, run_loops5, run_bind, run_loops6,
      run_bind, run_loops7, run_bind, run_loops8, run_bind, run_loops9]
    split_ifs
    · exact run_ends R _
    · rfl
  unfold code
  unfold next start
  by_cases h : n.val = 0
  · rw [if_pos (show (point n 0).val = 0 from h), if_pos h, run_bind, run_zero, zeroX_eq]
    exact key _
  · rw [if_neg (show ¬ (point n 0).val = 0 from h), if_neg h]
    exact key _

end Cert.Middle

end
-- ==== Proof.Middle.Carry.lean ====
/- What every memref of the middle kernel holds at every point of the grid. -/
module

public import proofs.«01_k».proof.Proof.Middle.Run4
public import proofs.«01_k».proof.Proof.Gen.Kernel2Ideal.Frame

@[expose] public section

noncomputable section

namespace Cert.Middle

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen Cert.Hand Cert.Hand.Mem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point starts from -/

/-- The grid's points by number. -/
abbrev pt (t : Fin cfg0.N) : Fin 16 := t.cast N_0

theorem coords_eq (t : Fin cfg0.N) : cfg0.grid.coords t = point (pt t) := by
  revert t; decide +kernel

/-- The inputs' blocks at a point; the other memrefs as in `G`. -/
def found (c : Dev nD) (t : Fin cfg0.N) (G : St F) : St F
  | .x => iblk m c 0 t
  | .z => X0_1 m c t
  | .q => iblk m c 2 t
  | .tg => iblk m c 3 t
  | .cg => iblk m c 4 t
  | .cb => iblk m c 5 t
  | .sg => iblk m c 6 t
  | .sb => iblk m c 7 t
  | .fg => iblk m c 8 t
  | .mod => iblk m c 9 t
  | .ws => iblk m c 10 t
  | .bs => iblk m c 11 t
  | .wo => iblk m c 12 t
  | b => G b

/-- Some contents. -/
def some0 : St F := fun _ _ => Classical.choice inferInstance

/-- The inputs' blocks at a point, over anything. -/
def ins (c : Dev nD) (t : Fin cfg0.N) : St F := found m c t some0

/-- The accumulators set. -/
def withSums (S : St F) (A : S8x8x1024.Idx → F .f32) (D : S128x1024.Idx → F .f32) (W : S8x128x128.Idx → F .f32) : St F
  | .acc => A
  | .dba => D
  | .dw => W
  | b => S b

/-! ## What the accumulators hold after the first `k` points -/

/-- The column sums, -/
def accC (c : Dev nD) : ℕ → S8x8x1024.Idx → F .f32
  | 0 => fun _ => zero0
  | k + 1 => if h : k < cfg0.N then acc9 (withSums (ins m c ⟨k, h⟩) (accC c k) (fun _ => zero0) (fun _ => zero0)) 16 else accC c k

/-- the rows of the bias gradient, -/
def dbaC (c : Dev nD) : ℕ → S128x1024.Idx → F .f32
  | 0 => fun _ => zero0
  | k + 1 => if h : k < cfg0.N then dbaN (withSums (ins m c ⟨k, h⟩) (fun _ => zero0) (dbaC c k) (fun _ => zero0)) 16 else dbaC c k

/-- and the weight gradient. -/
def dwC (c : Dev nD) : ℕ → S8x128x128.Idx → F .f32
  | 0 => fun _ => zero0
  | k + 1 => if h : k < cfg0.N then dwN (withSums (ins m c ⟨k, h⟩) (fun _ => zero0) (fun _ => zero0) (dwC c k)) 16 else dwC c k

theorem accC_succ (c : Dev nD) (t : Fin cfg0.N) :
    accC m c (t.val + 1) = acc9 (withSums (ins m c t) (accC m c t.val) (fun _ => zero0) (fun _ => zero0)) 16 := by
  rw [accC, dif_pos t.2]

theorem dbaC_succ (c : Dev nD) (t : Fin cfg0.N) :
    dbaC m c (t.val + 1) = dbaN (withSums (ins m c t) (fun _ => zero0) (dbaC m c t.val) (fun _ => zero0)) 16 := by
  rw [dbaC, dif_pos t.2]

theorem dwC_succ (c : Dev nD) (t : Fin cfg0.N) :
    dwC m c (t.val + 1) = dwN (withSums (ins m c t) (fun _ => zero0) (fun _ => zero0) (dwC m c t.val)) 16 := by
  rw [dwC, dif_pos t.2]

/-! ## The proof data -/

/-- What the body carries between points: before the first point anything. -/
def carried (c : Dev nD) (k : ℕ) : sProp 𝕄 :=
  iprop(∃ (vl : S256x1024.Idx → F .bf16) (vm : S256x1024.Idx → F .f32) (y : S256x1024.Idx → F .f32) (dyc : S256x2048.Idx → F .f32) (dvm : S256x1024.Idx → F .bf16) (dvl : S256x1024.Idx → F .f32) (acc : S8x8x1024.Idx → F .f32) (dba : S128x1024.Idx → F .f32) (keep : S5x256x1024.Idx → F .f32) (rs : S2x256x1.Idx → F .f32),
    ⌜k ≠ 0 → acc = accC m c k ∧ dba = dbaC m c k⌝
    ∗ owns (c : Thread nD τ) (Memref.whole cc0_scratch0) fullShare vl ∗ owns (c : Thread nD τ) (Memref.whole cc0_scratch1) fullShare vm
    ∗ owns (c : Thread nD τ) (Memref.whole cc0_scratch2) fullShare y ∗ owns (c : Thread nD τ) (Memref.whole cc0_scratch3) fullShare dyc
    ∗ owns (c : Thread nD τ) (Memref.whole cc0_scratch4) fullShare dvm ∗ owns (c : Thread nD τ) (Memref.whole cc0_scratch5) fullShare dvl
    ∗ owns (c : Thread nD τ) (Memref.whole cc0_scratch6) fullShare acc ∗ owns (c : Thread nD τ) (Memref.whole cc0_scratch7) fullShare dba
    ∗ owns (c : Thread nD τ) (Memref.whole cc0_scratch8) fullShare keep ∗ owns (c : Thread nD τ) (Memref.whole cc0_scratch9) fullShare rs
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => dzA (ins m c t)
    | ⟨14, _⟩ => dqA (ins m c t)
    | ⟨15, _⟩ => dxA (ins m c t)
    | ⟨16, _⟩ => ycA (ins m c t)
    | ⟨17, _⟩ => dyA (ins m c t)
    | ⟨18, _⟩ => dwC m c (t.val + 1)
    | ⟨19, _⟩ => smOf (accC m c (t.val + 1))
    | ⟨20, _⟩ => dbOut (dbaC m c (t.val + 1))
    | ⟨n + 21, h⟩ => absurd h (show ¬ n + 21 < 21 by omega)
  Φ t := carried m c t.val
  q _ := fullShare
  owed _ := 0

theorem A_eq (c : Dev nD) (w : Fin cfg0.W) : (dats m 0 c).A w = V m c (Pipeline.arrRef spec0 w) := by dsimp only [dats]

/-- The body's memrefs at a point. -/
def args (t : Fin cfg0.N) : Args
  | .x => st0_0 t
  | .z => st0_1 t
  | .q => st0_2 t
  | .tg => st0_3 t
  | .cg => st0_4 t
  | .cb => st0_5 t
  | .sg => st0_6 t
  | .sb => st0_7 t
  | .fg => st0_8 t
  | .mod => st0_9 t
  | .ws => st0_10 t
  | .bs => st0_11 t
  | .wo => st0_12 t
  | .dz => st0_13 t
  | .dq => st0_14 t
  | .dx => st0_15 t
  | .yc => st0_16 t
  | .dy => st0_17 t
  | .dw => st0_18 t
  | .sm => st0_19 t
  | .db => st0_20 t
  | .vl => Memref.whole cc0_scratch0
  | .vm => Memref.whole cc0_scratch1
  | .y => Memref.whole cc0_scratch2
  | .dyc => Memref.whole cc0_scratch3
  | .dvm => Memref.whole cc0_scratch4
  | .dvl => Memref.whole cc0_scratch5
  | .acc => Memref.whole cc0_scratch6
  | .dba => Memref.whole cc0_scratch7
  | .keep => Memref.whole cc0_scratch8
  | .rs => Memref.whole cc0_scratch9

theorem args_whole (t : Fin cfg0.N) (b : Slot) : (args t b).IsWhole := by
  cases b
  · exact hstage0_0 _
  · exact hstage0_1 _
  · exact hstage0_2 _
  · exact hstage0_3 _
  · exact hstage0_4 _
  · exact hstage0_5 _
  · exact hstage0_6 _
  · exact hstage0_7 _
  · exact hstage0_8 _
  · exact hstage0_9 _
  · exact hstage0_10 _
  · exact hstage0_11 _
  · exact hstage0_12 _
  · exact hstage0_13 _
  · exact hstage0_14 _
  · exact hstage0_15 _
  · exact hstage0_16 _
  · exact hstage0_17 _
  · exact hstage0_18 _
  · exact hstage0_19 _
  · exact hstage0_20 _
  all_goals exact Memref.isWhole_whole _

theorem body_code (t : Fin cfg0.N) : bodyAt0 (F := F) t = toProg (code (args t) (args_whole t) (point (pt t))) := by
  have h := body_eq (F := F) (pt t) (args t) (args_whole t)
  rw [← coords_eq] at h ⊢
  exact h

theorem held_eq (t : Fin cfg0.N) (c : Dev nD) (S : St F) : (held (bank (args t)) c S : sProp 𝕄)
    = iprop(owns (c : Thread nD τ) (st0_0 t) fullShare (S .x) ∗ owns (c : Thread nD τ) (st0_1 t) fullShare (S .z)
      ∗ owns (c : Thread nD τ) (st0_2 t) fullShare (S .q) ∗ owns (c : Thread nD τ) (st0_3 t) fullShare (S .tg)
      ∗ owns (c : Thread nD τ) (st0_4 t) fullShare (S .cg) ∗ owns (c : Thread nD τ) (st0_5 t) fullShare (S .cb)
      ∗ owns (c : Thread nD τ) (st0_6 t) fullShare (S .sg) ∗ owns (c : Thread nD τ) (st0_7 t) fullShare (S .sb)
      ∗ owns (c : Thread nD τ) (st0_8 t) fullShare (S .fg) ∗ owns (c : Thread nD τ) (st0_9 t) fullShare (S .mod)
      ∗ owns (c : Thread nD τ) (st0_10 t) fullShare (S .ws) ∗ owns (c : Thread nD τ) (st0_11 t) fullShare (S .bs)
      ∗ owns (c : Thread nD τ) (st0_12 t) fullShare (S .wo) ∗ owns (c : Thread nD τ) (st0_13 t) fullShare (S .dz)
      ∗ owns (c : Thread nD τ) (st0_14 t) fullShare (S .dq) ∗ owns (c : Thread nD τ) (st0_15 t) fullShare (S .dx)
      ∗ owns (c : Thread nD τ) (st0_16 t) fullShare (S .yc) ∗ owns (c : Thread nD τ) (st0_17 t) fullShare (S .dy)
      ∗ owns (c : Thread nD τ) (st0_18 t) fullShare (S .dw) ∗ owns (c : Thread nD τ) (st0_19 t) fullShare (S .sm)
      ∗ owns (c : Thread nD τ) (st0_20 t) fullShare (S .db) ∗ owns (c : Thread nD τ) (Memref.whole cc0_scratch0) fullShare (S .vl)
      ∗ owns (c : Thread nD τ) (Memref.whole cc0_scratch1) fullShare (S .vm) ∗ owns (c : Thread nD τ) (Memref.whole cc0_scratch2) fullShare (S .y)
      ∗ owns (c : Thread nD τ) (Memref.whole cc0_scratch3) fullShare (S .dyc) ∗ owns (c : Thread nD τ) (Memref.whole cc0_scratch4) fullShare (S .dvm)
      ∗ owns (c : Thread nD τ) (Memref.whole cc0_scratch5) fullShare (S .dvl) ∗ owns (c : Thread nD τ) (Memref.whole cc0_scratch6) fullShare (S .acc)
      ∗ owns (c : Thread nD τ) (Memref.whole cc0_scratch7) fullShare (S .dba) ∗ owns (c : Thread nD τ) (Memref.whole cc0_scratch8) fullShare (S .keep)
      ∗ owns (c : Thread nD τ) (Memref.whole cc0_scratch9) fullShare (S .rs)) := by
  unfold held
  exact bigSep_univ_eq_bigSepL [Slot.x, .z, .q, .tg, .cg, .cb, .sg, .sb, .fg, .mod, .ws, .bs, .wo, .dz, .dq, .dx, .yc, .dy, .dw, .sm, .db, .vl, .vm, .y, .dyc, .dvm, .dvl, .acc, .dba, .keep, .rs] (by decide) (by decide) _

/-! ## The body's triple -/

theorem next_outs (n : Fin 16) (c : Dev nD) (t : Fin cfg0.N) (G : St F) :
    A10 (start (found m c t G) n) .dz = dzA (ins m c t) ∧ A10 (start (found m c t G) n) .dq = dqA (ins m c t) ∧ A10 (start (found m c t G) n) .dx = dxA (ins m c t)
      ∧ A10 (start (found m c t G) n) .yc = ycA (ins m c t) ∧ A10 (start (found m c t G) n) .dy = dyA (ins m c t) := by
  unfold start
  split_ifs
  · refine ⟨?_, ?_, ?_, ?_, ?_⟩ <;> sl_kernel_rfl
  · refine ⟨?_, ?_, ?_, ?_, ?_⟩ <;> sl_kernel_rfl

theorem next_acc (c : Dev nD) (t : Fin cfg0.N) (G : St F) (h : t.val ≠ 0 → G .acc = accC m c t.val) :
    A10 (start (found m c t G) (pt t)) .acc = accC m c (t.val + 1) := by
  rw [accC_succ]
  unfold start
  by_cases h0 : t.val = 0
  · rw [if_pos (show (pt t).val = 0 from h0), h0]
    sl_kernel_rfl
  · rw [if_neg (show ¬ (pt t).val = 0 from h0), ← h h0]
    sl_kernel_rfl

theorem next_dba (c : Dev nD) (t : Fin cfg0.N) (G : St F) (h : t.val ≠ 0 → G .dba = dbaC m c t.val) :
    A10 (start (found m c t G) (pt t)) .dba = dbaC m c (t.val + 1) := by
  rw [dbaC_succ]
  unfold start
  by_cases h0 : t.val = 0
  · rw [if_pos (show (pt t).val = 0 from h0), h0]
    sl_kernel_rfl
  · rw [if_neg (show ¬ (pt t).val = 0 from h0), ← h h0]
    sl_kernel_rfl

theorem next_dw (c : Dev nD) (t : Fin cfg0.N) (G : St F) (h : t.val ≠ 0 → G .dw = dwC m c t.val) :
    A10 (start (found m c t G) (pt t)) .dw = dwC m c (t.val + 1) := by
  rw [dwC_succ]
  unfold start
  by_cases h0 : t.val = 0
  · rw [if_pos (show (pt t).val = 0 from h0), h0]
    sl_kernel_rfl
  · rw [if_neg (show ¬ (pt t).val = 0 from h0), ← h h0]
    sl_kernel_rfl

theorem idle_sm (t : Fin cfg0.N) : cfg0.idle 19 (cfg0.grid.coords t) = !decide ((pt t).val = 15) := by
  revert t; decide +kernel

theorem idle_db (t : Fin cfg0.N) : cfg0.idle 20 (cfg0.grid.coords t) = !decide ((pt t).val = 15) := by
  revert t; decide +kernel

/-- The weight gradient's buffer is found as the point before left it. -/
theorem before_dw (c : Dev nD) (t : Fin cfg0.N) (h : t.val ≠ 0) (d) : (dats m 0 c).before 18 t d = dwC m c t.val := by
  have hf : (cfg0.win 18).flush ⟨t.val - 1, Nat.lt_of_le_of_lt (Nat.sub_le _ _) t.isLt⟩ = false := by
    rw [Bool.eq_false_iff]
    intro e
    have := (flush0_18 _).mp e
    have ht := t.2
    change t.val < 16 at ht
    dsimp only at this
    omega
  rw [Dat.before_out_acc _ _ rfl _ h hf (fun _ => rfl)]
  exact congrArg (dwC m c) (show t.val - 1 + 1 = t.val by omega)

/-- The sums' output is left at its sums at the last point, and as it was at the others. -/
theorem leaves_sm (c : Dev nD) (t : Fin cfg0.N) (d) : (owns (c : Thread nD τ) (st0_19 t) fullShare
      (if (pt t).val = 15 then smOf (accC m c (t.val + 1)) else (dats m 0 c).before 19 t d) : sProp 𝕄)
    ⊢ (dats m 0 c).leavesExact 19 t := by
  by_cases h : (pt t).val = 15
  · rw [if_pos h]
    unfold Dat.leavesExact
    rw [idle_sm, h]
    exact .rfl
  · rw [if_neg h]
    have hf : (cfg0.win 19).flush t = false := by
      rw [Bool.eq_false_iff]
      intro e
      have := (flush0_19 t).mp e
      have ht := (pt t).2
      exact h (by change t.val = 15; change t.val < 16 at ht; omega)
    rw [Dat.leavesExact_idle _ _ _ (by rw [idle_sm]; simpa using h) hf]
    iintro H
    iexists d
    iexact H

/-- So are the bias gradients. -/
theorem leaves_db (c : Dev nD) (t : Fin cfg0.N) (d) : (owns (c : Thread nD τ) (st0_20 t) fullShare
      (if (pt t).val = 15 then dbOut (dbaC m c (t.val + 1)) else (dats m 0 c).before 20 t d) : sProp 𝕄)
    ⊢ (dats m 0 c).leavesExact 20 t := by
  by_cases h : (pt t).val = 15
  · rw [if_pos h]
    unfold Dat.leavesExact
    rw [idle_db, h]
    exact .rfl
  · rw [if_neg h]
    have hf : (cfg0.win 20).flush t = false := by
      rw [Bool.eq_false_iff]
      intro e
      have := (flush0_20 t).mp e
      have ht := (pt t).2
      exact h (by change t.val = 15; change t.val < 16 at ht; omega)
    rw [Dat.leavesExact_idle _ _ _ (by rw [idle_db]; simpa using h) hf]
    iintro H
    iexists d
    iexact H

/-! ## What the memrefs hold after the body -/

theorem next_live (S : St F) (n : Fin 16) (b : Slot) (h : b ≠ .sm) (h' : b ≠ .db) : next S n b = A10 (start S n) b := by
  unfold next
  split_ifs
  · cases b <;> first | rfl | exact absurd rfl h | exact absurd rfl h'
  · rfl

end Cert.Middle

end
-- ==== Proof.Middle.Frame.lean ====
/- The run of the pipeline over the body. -/
module

public import proofs.«01_k».proof.Proof.Middle.Carry

@[expose] public section

noncomputable section

namespace Cert.Middle

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen Cert.Hand Cert.Hand.Mem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The inputs' blocks are as they were. -/
def next_ins (c : Dev nD) (t : Fin cfg0.N) (G : St F) : Prop :=
  next (found m c t G) (pt t) .x = iblk m c 0 t
    ∧ next (found m c t G) (pt t) .z = X0_1 m c t
    ∧ next (found m c t G) (pt t) .q = iblk m c 2 t
    ∧ next (found m c t G) (pt t) .tg = iblk m c 3 t
    ∧ next (found m c t G) (pt t) .cg = iblk m c 4 t
    ∧ next (found m c t G) (pt t) .cb = iblk m c 5 t
    ∧ next (found m c t G) (pt t) .sg = iblk m c 6 t
    ∧ next (found m c t G) (pt t) .sb = iblk m c 7 t
    ∧ next (found m c t G) (pt t) .fg = iblk m c 8 t
    ∧ next (found m c t G) (pt t) .mod = iblk m c 9 t
    ∧ next (found m c t G) (pt t) .ws = iblk m c 10 t
    ∧ next (found m c t G) (pt t) .bs = iblk m c 11 t
    ∧ next (found m c t G) (pt t) .wo = iblk m c 12 t

theorem next_ins_of (c : Dev nD) (t : Fin cfg0.N) (G : St F) : next_ins m c t G := by
  unfold next_ins next start
  split_ifs <;> exact ⟨rfl, rfl, rfl, rfl, rfl, rfl, rfl, rfl, rfl, rfl, rfl, rfl, rfl⟩

theorem next_sm (c : Dev nD) (t : Fin cfg0.N) (G : St F) (h : t.val ≠ 0 → G .acc = accC m c t.val) :
    next (found m c t G) (pt t) .sm = if (pt t).val = 15 then smOf (accC m c (t.val + 1)) else G .sm := by
  have e := next_acc m c t G h
  unfold next
  split_ifs with h15
  · rw [← e]; rfl
  · unfold start; split_ifs <;> rfl

theorem next_db (c : Dev nD) (t : Fin cfg0.N) (G : St F) (h : t.val ≠ 0 → G .dba = dbaC m c t.val) :
    next (found m c t G) (pt t) .db = if (pt t).val = 15 then dbOut (dbaC m c (t.val + 1)) else G .db := by
  have e := next_dba m c t G h
  unfold next
  split_ifs with h15
  · rw [← e]; rfl
  · unfold start; split_ifs <;> rfl

/-- What a window holds when the body starts. -/
abbrev entered (c : Dev nD) (w : Fin cfg0.W) (t : Fin cfg0.N) : sProp 𝕄 :=
  iprop(∃ d, owns (c : Thread nD τ) ((cfg0.win w).stage (cfg0.slots t w)) fullShare ((dats m 0 c).before w t d))

def bodyPre (c : Dev nD) (t : Fin cfg0.N) : sProp 𝕄 :=
  iprop((dats m 0 c).Φ t.castSucc ∗ (dats m 0 c).owesAt () t.castSucc
    ∗ entered m c 0 t ∗ entered m c 1 t ∗ entered m c 2 t ∗ entered m c 3 t ∗ entered m c 4 t ∗ entered m c 5 t ∗ entered m c 6 t
    ∗ entered m c 7 t ∗ entered m c 8 t ∗ entered m c 9 t ∗ entered m c 10 t ∗ entered m c 11 t ∗ entered m c 12 t
    ∗ entered m c 13 t ∗ entered m c 14 t ∗ entered m c 15 t ∗ entered m c 16 t ∗ entered m c 17 t ∗ entered m c 18 t
    ∗ entered m c 19 t ∗ entered m c 20 t)

/-- A window that is never idle is left at what the body leaves there. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t ∗ (dats m 0 c).leavesExact 20 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost entered
  rw [leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 8 t rfl, leaves_live m c 9 t rfl, leaves_live m c 10 t rfl, leaves_live m c 11 t rfl, leaves_live m c 12 t rfl, leaves_live m c 13 t rfl, leaves_live m c 14 t rfl, leaves_live m c 15 t rfl, leaves_live m c 16 t rfl, leaves_live m c 17 t rfl, leaves_live m c 18 t rfl]
  rw [body_code]
  simp only [before0_0_of m _ (A_eq m c 0) (fun _ => rfl), before0_1_of m _ (A_eq m c 1) (fun _ => rfl),
    before0_2_of m _ (A_eq m c 2) (fun _ => rfl), before0_3_of m _ (A_eq m c 3) (fun _ => rfl),
    before0_4_of m _ (A_eq m c 4) (fun _ => rfl), before0_5_of m _ (A_eq m c 5) (fun _ => rfl),
    before0_6_of m _ (A_eq m c 6) (fun _ => rfl), before0_7_of m _ (A_eq m c 7) (fun _ => rfl),
    before0_8_of m _ (A_eq m c 8) (fun _ => rfl), before0_9_of m _ (A_eq m c 9) (fun _ => rfl),
    before0_10_of m _ (A_eq m c 10) (fun _ => rfl), before0_11_of m _ (A_eq m c 11) (fun _ => rfl),
    before0_12_of m _ (A_eq m c 12) (fun _ => rfl)]
  rw [show (dats m 0 c).Φ t.castSucc = carried m c t.val from rfl, show (dats m 0 c).Φ t.succ = carried m c (t.val + 1) from rfl]
  unfold Dat.owesAt Pipeline.owesWithin
  rw [show (dats m 0 c).owed t.castSucc = 0 from rfl, show (dats m 0 c).owed t.succ = 0 from rfl]
  unfold carried
  iintro ⟨⟨%vl, %vm, %y, %dyc, %dvm, %dvl, %acc, %dba, %keep, %rs, %hs, K0, K1, K2, K3, K4, K5, K6, K7, K8, K9, Hg⟩, Howe, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  let G : St F := fun
    | .dz => (dats m 0 c).before 13 t d13
    | .dq => (dats m 0 c).before 14 t d14
    | .dx => (dats m 0 c).before 15 t d15
    | .yc => (dats m 0 c).before 16 t d16
    | .dy => (dats m 0 c).before 17 t d17
    | .dw => (dats m 0 c).before 18 t d18
    | .sm => (dats m 0 c).before 19 t d19
    | .db => (dats m 0 c).before 20 t d20
    | .vl => vl
    | .vm => vm
    | .y => y
    | .dyc => dyc
    | .dvm => dvm
    | .dvl => dvl
    | .acc => acc
    | .dba => dba
    | .keep => keep
    | .rs => rs
    | b => some0 b
  have eA := next_acc m c t G fun h => (hs h).1
  have eD := next_dba m c t G fun h => (hs h).2
  have eW := next_dw m c t G fun h => before_dw m c t h d18
  obtain ⟨o0, o1, o2, o3, o4⟩ := next_outs m (pt t) c t G
  iapply (sound_all (defs := defs₀ (F := F)) Variants.none c none Set.univ (code (args t) (args_whole t) (point (pt t))) (found m c t G)) $$ [H0 H1 H2 H3 H4 H5 H6 H7 H8 H9 H10 H11 H12 H13 H14 H15 H16 H17 H18 H19 H20 K0 K1 K2 K3 K4 K5 K6 K7 K8 K9]
  · simp only [held_eq, found, X0_1]
    iframe
  rw [run_code, held_eq]
  have n_eq : ∀ b : Slot, b ≠ .sm → b ≠ .db → next (found m c t G) (pt t) b = A10 (start (found m c t G) (pt t)) b := next_live _ _
  have in_eq : next_ins m c t G := next_ins_of m c t G
  obtain ⟨e0, e1, e2, e3, e4, e5, e6, e7, e8, e9, e10, e11, e12⟩ := in_eq
  have es := next_sm m c t G fun h => (hs h).1
  have eb := next_db m c t G fun h => (hs h).2
  rw [e0, e1, e2, e3, e4, e5, e6, e7, e8, e9, e10, e11, e12, n_eq .dz (by decide) (by decide), n_eq .dq (by decide) (by decide), n_eq .dx (by decide) (by decide),
    n_eq .yc (by decide) (by decide), n_eq .dy (by decide) (by decide), n_eq .dw (by decide) (by decide), n_eq .acc (by decide) (by decide), n_eq .dba (by decide) (by decide),
    o0, o1, o2, o3, o4, eW, eA, eD, es, eb]
  iintro ⟨H0, H1, H2, H3, H4, H5, H6, H7, H8, H9, H10, H11, H12, H13, H14, H15, H16, H17, H18, H19, H20, K0, K1, K2, K3, K4, K5, K6, K7, K8, K9⟩
  isplitl [K0 K1 K2 K3 K4 K5 K6 K7 K8 K9 Hg]
  · iexists _, _, _, _, _, _, _, _, _, _
    isplitr
    · ipureintro; exact fun _ => ⟨rfl, rfl⟩
    iframe
  isplitl [Howe]
  · iexact Howe
  iframe H0 H1 H2 H3 H4 H5 H6 H7 H8 H9 H10 H11 H12 H13 H14 H15 H16 H17 H18
  isplitl [H19]
  · iapply (leaves_sm m c t d19)
    iexact H19
  · iapply (leaves_db m c t d20)
    iexact H20

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem carried_in (c : Dev nD) : (Pipeline.ΦA spec0 c : sProp 𝕄) ⊢ carried m c 0 := by
  unfold Pipeline.ΦA carried
  rw [scopedRest0_eq]
  iintro ⟨⟨⟨%a0, K0⟩, ⟨%a1, K1⟩, ⟨%a2, K2⟩, ⟨%a3, K3⟩, ⟨%a4, K4⟩, ⟨%a5, K5⟩, ⟨%a6, K6⟩, ⟨%a7, K7⟩, ⟨%a8, K8⟩, ⟨%a9, K9⟩⟩, Hg⟩
  iexists a0, a1, a2, a3, a4, a5, a6, a7, a8, a9
  isplitr
  · ipureintro; exact fun h => absurd rfl h
  simp only [owns_whole]
  iframe

theorem carried_out (c : Dev nD) (k : ℕ) : (carried m c k : sProp 𝕄) ⊢ Pipeline.ΦA spec0 c := by
  unfold Pipeline.ΦA carried
  rw [scopedRest0_eq]
  simp only [owns_whole_eq]
  iintro ⟨%vl, %vm, %y, %dyc, %dvm, %dvl, %acc, %dba, %keep, %rs, -, ⟨%a0, -, K0⟩, ⟨%a1, -, K1⟩, ⟨%a2, -, K2⟩, ⟨%a3, -, K3⟩, ⟨%a4, -, K4⟩, ⟨%a5, -, K5⟩, ⟨%a6, -, K6⟩, ⟨%a7, -, K7⟩, ⟨%a8, -, K8⟩, ⟨%a9, -, K9⟩, Hg⟩
  isplitl [K0 K1 K2 K3 K4 K5 K6 K7 K8 K9]
  · isplitl [K0]
    · iexists a0; iexact K0
    isplitl [K1]
    · iexists a1; iexact K1
    isplitl [K2]
    · iexists a2; iexact K2
    isplitl [K3]
    · iexists a3; iexact K3
    isplitl [K4]
    · iexists a4; iexact K4
    isplitl [K5]
    · iexists a5; iexact K5
    isplitl [K6]
    · iexists a6; iexact K6
    isplitl [K7]
    · iexists a7; iexact K7
    isplitl [K8]
    · iexists a8; iexact K8
    iexists a9; iexact K9
  iexact Hg

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_in m c) (hout := fun c => carried_out m c _)

end Cert.Middle

end
-- ==== Proof.Middle.Kept.lean ====
/- The middle kernel's runs: the arguments as they were and the counters at zero. -/
module

public import proofs.«01_k».proof.Proof.Middle.Frame

@[expose] public section

noncomputable section

namespace Cert.Middle

open Idealize.ShloMosaic Idealize.ShloMosaic.TcCoe Idealize.SL.Sem Cert.Kernel2Ideal Cert.Kernel2Ideal.Gen Cert.Hand

/-- The arguments end as they were. -/
def Kept {F : FTy → Type} (m m' : (ℓ : Loc nD τ sig) → Buf (Elt F) ℓ) (c : Dev nD) : Prop :=
  Same m m' c main_arg0 ∧ Same m m' c main_arg1 ∧ Same m m' c main_arg2 ∧ Same m m' c main_arg3 ∧ Same m m' c main_arg4
    ∧ Same m m' c main_arg5 ∧ Same m m' c main_arg6 ∧ Same m m' c main_arg7 ∧ Same m m' c main_arg8 ∧ Same m m' c main_arg9
    ∧ Same m m' c main_arg10 ∧ Same m m' c main_arg11 ∧ Same m m' c main_arg12

variable {F : FTy → Type} [FloatOps F] (m : (ℓ : Loc nD τ sig) → Buf (Elt F) ℓ) (ρ : Dev nD → PrngReg)

theorem rest {b : Ref sig .tc} {c : Dev nD} {r : PUnit × MemSt nD τ sig (Elt F)} (h : Pipeline.FramePost cfgs (dats m) 0 (V m) r)
    (hV : V m c b = m ((c.tc : Thread nD τ).loc b))
    (hb : b ∈ Pipeline.restRefs sig spec0 := by exact Pipeline.mem_restRefs_of _ (by decide) (by decide)) : Same m r.2.mem c b :=
  ((h c).2 b hb).trans hV

theorem kept_args (r : PUnit × MemSt nD τ sig (Elt F)) (h : Pipeline.FramePost cfgs (dats m) 0 (V m) r) (c : Dev nD) : Kept m r.2.mem c :=
  ⟨((h c).1 0).trans (((dats m 0 c).arrAt_in 0 rfl _).trans ((A_eq m c 0).trans (V_main_arg0 m c))),
    rest m h (V_main_arg1 m c),
    rest m h (V_main_arg2 m c),
    ((h c).1 3).trans (((dats m 0 c).arrAt_in 3 rfl _).trans ((A_eq m c 3).trans (V_main_arg3 m c))),
    rest m h (V_main_arg4 m c),
    rest m h (V_main_arg5 m c),
    rest m h (V_main_arg6 m c),
    rest m h (V_main_arg7 m c),
    rest m h (V_main_arg8 m c),
    rest m h (V_main_arg9 m c),
    ((h c).1 10).trans (((dats m 0 c).arrAt_in 10 rfl _).trans ((A_eq m c 10).trans (V_main_arg10 m c))),
    rest m h (V_main_arg11 m c),
    rest m h (V_main_arg12 m c)⟩

/-- Every run ends with the arguments as they were and every counter at zero. -/
theorem run_frame : θ_run defs (onTc (τ := τ) (main (F := F))) ⟨m, fun _ => 0, ρ⟩
    (fun r => (∀ c : Dev nD, Kept m r.2.mem c) ∧ r.2.sem = fun _ => 0) :=
  (θ_run defs _ _).mono (fun r h => ⟨kept_args m r h.1, h.2⟩) (run_main m ρ)

end Cert.Middle

end
-- ==== Proof.Middle.Frames.lean ====
/- The frames of the middle call and of its reference. -/
module

public import proofs.«01_k».proof.Defs
public import proofs.«01_k».proof.Proof.Middle.Kept
public import proofs.«01_k».proof.Proof.Gen.Kernel2
public import proofs.«01_k».proof.Proof.Gen.Reference2Ideal.Run

@[expose] public section

noncomputable section

namespace Cert.Middle

open Idealize.ShloMosaic Idealize.ShloMosaic.TcCoe Idealize.SL.Sem

instance finite2_facts : Cert.Pre_finite2.Facts where
  bcast_S_S4096x1024 := by decide
  slices_S4096x6144_S4096x4096_0_2048 := by decide
  bcast_S_S4096x4096 := by decide
  bcast_S_S1024 := by decide
  slices_S3072_S1024_2048 := by decide
  bcast_S_S8x128x128 := by decide
  bcast_S_S8x128 := by decide
  bcast_S_S2048x1024 := by decide

/-- The kernel and its idealization are one program, at two kinds of elements: the idealization's run is the kernel's. -/
theorem same_program : Cert.quiescent_Kernel2
    = ∀ (m : (ℓ : Loc Cert.Kernel2Ideal.nD Cert.Kernel2Ideal.τ Cert.Kernel2Ideal.sig) → Buf (Elt Bits) ℓ) (ρ : Dev Cert.Kernel2Ideal.nD → PrngReg), True →
        θ_run Cert.Kernel2Ideal.defs (onTc (τ := Cert.Kernel2Ideal.τ) (Cert.Kernel2Ideal.main (F := Bits))) ⟨m, fun _ => 0, ρ⟩
          (fun r => (∀ c : Dev Cert.Kernel2Ideal.nD, Kept m r.2.mem c) ∧ r.2.sem = fun _ => 0) := by
  sl_kernel_rfl

theorem frame_kernel : Cert.quiescent_Kernel2 := same_program.mpr fun m ρ _ => run_frame (F := Bits) m ρ

theorem frame_kernelIdeal : Cert.quiescent_Kernel2Ideal := fun m ρ _ => run_frame (F := Ideal) m ρ

theorem frame_kernelIdeal_finite : Cert.quiescent_Kernel2Ideal_pre_finite2 := fun m ρ _ => run_frame (F := Ideal) m ρ

theorem frame_referenceIdeal : Cert.quiescent_Reference2Ideal := fun m ρ _ =>
  (θ_run Cert.Reference2Ideal.defs _ _).mono (fun r h => ⟨fun c => (h c).2.2.2.2.2.2.2.2, sem_eq_zero_of_no_sems (by decide) r.2⟩)
    (Cert.Reference2Ideal.Value.run m ρ)

theorem frame_referenceIdeal_finite : Cert.quiescent_Reference2Ideal_pre_finite2 := fun m ρ _ => frame_referenceIdeal m ρ trivial

end Cert.Middle

end
-- ==== Proof.Middle.Spec.lean ====
/- The middle of the step over the reals: the gated branches, the mixing, the projection, the loss, and the gradients of all of them. -/
module

public import proofs.«01_k».proof.Proof.Lib.Reals

@[expose] public section

noncomputable section

namespace Cert.Middle

/-- The values of a token's channels. -/
abbrev Row : Type := Fin 1024 → ℝ

/-! ## A row -/

def avg (r : Row) : ℝ := (∑ k, r k) / 1024

/-- What the norms add to a mean square. -/
def tiny : ℝ := 8796093 / 2 ^ 43

def power (r : Row) : ℝ := avg (fun k => r k * r k) + tiny

/-- One over the root mean square. -/
def root (r : Row) : ℝ := (Real.sqrt (power r))⁻¹

def less (r : Row) : Row := fun k => r k - avg r

/-- A row of mean zero and mean square one. -/
def unit (r : Row) : Row := fun k => less r k * root (less r)

/-- A row of mean square one. -/
def scaled (r : Row) : Row := fun k => r k * root r

def sigm (x : ℝ) : ℝ := 1 / (1 + Real.exp (-x))

/-- The slope of `x * sigm x`. -/
def slope (x : ℝ) : ℝ := sigm x * (1 + x * (1 - sigm x))

/-- A gradient through the root mean square: `n` the scaled row, `r` the root. -/
def thru (n d : Row) (r : ℝ) : Row := fun k => r * (d k - n k * avg fun e => d e * n e)

/-- A gradient through mean and root mean square. -/
def thru2 (n d : Row) (r : ℝ) : Row := fun k => r * (d k - avg d - n k * avg fun e => d e * n e)

theorem power_pos (r : Row) : 0 < power r :=
  add_pos_of_nonneg_of_pos (div_nonneg (Finset.sum_nonneg fun k _ => mul_self_nonneg _) (by norm_num)) (by unfold tiny; positivity)

theorem root_sq (r : Row) : root r * root r * power r = 1 := by
  have h := Real.mul_self_sqrt (power_pos r).le
  have h' : Real.sqrt (power r) ≠ 0 := (Real.sqrt_pos.2 (power_pos r)).ne'
  unfold root
  generalize Real.sqrt (power r) = s at *
  rw [← h]
  field_simp

theorem root_div (r : Row) : root r / power r = root r * root r * root r := by
  rw [div_eq_iff (power_pos r).ne']
  calc root r = root r * (root r * root r * power r) := by rw [root_sq, mul_one]
    _ = _ := by ring

/-- What the derivative of the root mean square multiplies the row by. -/
def push (x d : Row) : ℝ := (∑ k, x k * d k) * (-(1 / 2) * (root x / power x)) / 1024

theorem thru_eq (x d : Row) (k : Fin 1024) : d k * root x + x k * push x d + push x d * x k = thru (scaled x) d (root x) k := by
  have e : ∑ e, d e * (x e * root x) = (∑ e, x e * d e) * root x := by
    rw [Finset.sum_mul]
    exact Finset.sum_congr rfl fun e _ => by ring
  unfold thru scaled avg push
  rw [root_div, e]
  ring

theorem sum_less (r : Row) : ∑ k, less r k = 0 := by
  unfold less avg
  rw [Finset.sum_sub_distrib, Finset.sum_const, Finset.card_univ, Fintype.card_fin, nsmul_eq_mul]
  push_cast
  field_simp
  ring

theorem thru2_eq (x d : Row) (k : Fin 1024) : d k * root (less x) + push (less x) d * (2 * less x k)
      + ((∑ e, -(d e * root (less x))) + ∑ e, -(push (less x) d * (2 * less x e))) / 1024
    = thru2 (unit x) d (root (less x)) k := by
  have e1 : ∑ e, d e * (less x e * root (less x)) = (∑ e, less x e * d e) * root (less x) := by
    rw [Finset.sum_mul]
    exact Finset.sum_congr rfl fun e _ => by ring
  have e2 : ∑ e, -(push (less x) d * (2 * less x e)) = 0 := by
    have : ∑ e, -(push (less x) d * (2 * less x e)) = -(push (less x) d * 2) * ∑ e, less x e := by
      rw [Finset.mul_sum]
      exact Finset.sum_congr rfl fun e _ => by ring
    rw [this, sum_less, mul_zero]
  have e3 : ∑ e, -(d e * root (less x)) = -(∑ e, d e) * root (less x) := by
    rw [← Finset.sum_neg_distrib, Finset.sum_mul]
    exact Finset.sum_congr rfl fun e _ => by ring
  rw [e2, e3]
  unfold thru2 unit avg push
  rw [root_div, e1]
  ring

/-! ## The step's middle -/

/-- What the middle reads: the stream, the gates and values of the projection, the convolution, the target, the parameters. -/
structure Data where
  x : ℕ → Row
  z : Fin 4 → ℕ → Row
  q : ℕ → Row
  tg : ℕ → Row
  cg : Row
  cb : Row
  sg : Row
  sb : Row
  fg : Row
  gm : Row
  ws : Fin 8 → Fin 128 → Fin 128 → ℝ
  bs : Fin 8 → Fin 128 → ℝ
  wo : Fin 2048 → Row

/-- The head of a channel, -/
def hdOf (k : Fin 1024) : Fin 8 := ⟨k.val / 128, by omega⟩
/-- the channel of a head's place, -/
def chOf (h : Fin 8) (e : Fin 128) : Fin 1024 := ⟨128 * h.val + e.val, by omega⟩
/-- and the place of a token in its chunk. -/
def inChunk (n : ℕ) : Fin 128 := ⟨n % 128, Nat.mod_lt _ (by norm_num)⟩

namespace Data

variable (D : Data)

def ln (n : ℕ) : Row := fun k => unit (D.q n) k * D.cg k + D.cb k
def vl (n : ℕ) : Row := fun k => unit (D.z 2 n) k * D.sg k + D.sb k
/-- The mixing of a chunk's tokens. -/
def vm (n : ℕ) : Row := fun k => (∑ j : Fin 128, D.ws (hdOf k) (inChunk n) j * D.vl (128 * (n / 128) + j.val) k) + D.bs (hdOf k) (inChunk n)
def ya (n : ℕ) : Row := fun k => D.ln n k * sigm (D.ln n k) * (D.z 0 n k * sigm (D.z 0 n k))
def yb (n : ℕ) : Row := fun k => D.z 1 n k * D.vm n k * (D.z 3 n k * sigm (D.z 3 n k))
def yc (n : ℕ) (e : Fin 2048) : ℝ := if h : e.val < 1024 then D.ya n ⟨e.val, h⟩ else D.yb n ⟨e.val - 1024, by omega⟩
def y (n : ℕ) : Row := fun k => ∑ e, D.yc n e * D.wo e k
def x2 (n : ℕ) : Row := fun k => D.x n k + D.gm k * D.y n k
def err (n : ℕ) : Row := fun k => scaled (D.x2 n) k * D.fg k - D.tg n k
def dout (n : ℕ) : Row := fun k => D.err n k * (1 / 1024)
def dx (n : ℕ) : Row := thru (scaled (D.x2 n)) (fun k => D.dout n k * D.fg k) (root (D.x2 n))
def dy (n : ℕ) : Row := fun k => D.dx n k * D.gm k
def dyc (n : ℕ) (e : Fin 2048) : ℝ := ∑ k, D.dy n k * D.wo e k
def dl (n : ℕ) : Row := fun k => D.dyc n ⟨k.val, by omega⟩
def dh (n : ℕ) : Row := fun k => D.dyc n ⟨1024 + k.val, by omega⟩
def dm (n : ℕ) : Row := fun k => D.dh n k * D.z 1 n k * (D.z 3 n k * sigm (D.z 3 n k))
/-- The mixing's gradient at its input. -/
def dvl (n : ℕ) : Row := fun k => ∑ i : Fin 128, D.ws (hdOf k) i (inChunk n) * D.dm (128 * (n / 128) + i.val) k
def dln (n : ℕ) : Row := fun k => D.dl n k * (D.z 0 n k * sigm (D.z 0 n k)) * slope (D.ln n k)
def dz (j : Fin 4) (n : ℕ) : Row := ![
  fun k => D.dl n k * (D.ln n k * sigm (D.ln n k)) * slope (D.z 0 n k),
  fun k => D.dh n k * D.vm n k * (D.z 3 n k * sigm (D.z 3 n k)),
  thru2 (unit (D.z 2 n)) (fun k => D.dvl n k * D.sg k) (root (less (D.z 2 n))),
  fun k => D.dh n k * D.z 1 n k * D.vm n k * slope (D.z 3 n k)] j
def dq (n : ℕ) : Row := thru2 (unit (D.q n)) (fun k => D.dln n k * D.cg k) (root (less (D.q n)))

/-- What a token adds to the column sums. -/
def share (q : Fin 8) (n : ℕ) : Row := ![
  fun k => D.dout n k * scaled (D.x2 n) k,
  fun k => D.dx n k * D.y n k,
  fun k => D.dln n k * unit (D.q n) k,
  D.dln n,
  fun k => D.dvl n k * unit (D.z 2 n) k,
  D.dvl n,
  fun k => D.err n k * D.err n k,
  fun _ => 0] q

/-- The column sums, the squares of the errors with the loss's factor. -/
def sums (q : Fin 8) : Row := fun k => (∑ n ∈ Finset.range 4096, D.share q n k) * (if q = 6 then 1 / 2048 else 1)

/-- The mixing weights' gradient. -/
def dws (h : Fin 8) (i j : Fin 128) : ℝ :=
  ∑ r ∈ Finset.range 32, ∑ e : Fin 128, D.dm (128 * r + i.val) (chOf h e) * D.vl (128 * r + j.val) (chOf h e)

/-- The mixing biases' gradient. -/
def dbs (h : Fin 8) (i : Fin 128) : ℝ := ∑ r ∈ Finset.range 32, ∑ e : Fin 128, D.dm (128 * r + i.val) (chOf h e)

end Data

end Cert.Middle

end
-- ==== Proof.Middle.Vectors.lean ====
/- Arrays whose entries are real: what the kernel's functions on vectors make of them. -/
module

public import proofs.«01_k».proof.Proof.Middle.Rows
public import proofs.«01_k».proof.Proof.Middle.Spec
public import Idealize.ShloMosaic.Lib.Pointwise

@[expose] public section

noncomputable section

namespace Cert.Middle

open Idealize.ShloMosaic Cert.Kernel2Ideal Cert.Hand

/-- A matrix holds the rows of `f` from `o` on. -/
def Is {a b : ℕ} (o : ℕ) (v : (⟨2, ![a, b]⟩ : Shape).Idx → EReal) (f : ℕ → Fin b → ℝ) : Prop := ∀ (i : Fin a) (k : Fin b), v (ix2 i k) = (f (o + i.val) k : EReal)

/-- A matrix of one row. -/
def IsRow (v : S1x1024.Idx → EReal) (g : Row) : Prop := ∀ k : Fin 1024, v (ix2 0 k) = (g k : EReal)

theorem one_eq : Ideal.ofBits .f32 0x3F800000#32 = ((1 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem perWidth_eq : Ideal.ofBits .f32 0x3A800000#32 = ((1 / 1024 : ℝ) : EReal) := by
  simp [Ideal.ofBits, Ideal.ieee, -EReal.coe_mul]; norm_num
theorem halfWidth_eq : Ideal.ofBits .f32 0x3A000000#32 = ((1 / 2048 : ℝ) : EReal) := by
  simp [Ideal.ofBits, Ideal.ieee, -EReal.coe_mul]; norm_num
theorem tiny_eq : Ideal.ofBits .f32 0x358637BD#32 = (tiny : EReal) := by
  unfold tiny
  simp [Ideal.ofBits, Ideal.ieee, -EReal.coe_mul]; norm_num

theorem rsqrt_coe (v : ℝ) (h : 0 < v) : Ideal.rsqrt (v : EReal) = (((Real.sqrt v)⁻¹ : ℝ) : EReal) := by
  change (if v < 0 then (⊥ : EReal) else if v = 0 then ⊤ else (((Real.sqrt v)⁻¹ : ℝ) : EReal)) = _
  rw [if_neg (not_lt.mpr h.le), if_neg h.ne']

theorem sigm_coe (x : ℝ) : Ideal.div 1 (1 + Ideal.exp (-(x : EReal))) = (sigm x : EReal) := by
  rw [← EReal.coe_neg]
  change Ideal.div 1 (1 + (Real.exp (-x) : EReal)) = _
  have e : (0 : ℝ) < 1 + Real.exp (-x) := by positivity
  rw [show (1 : EReal) = ((1 : ℝ) : EReal) by norm_cast, ← EReal.coe_add, div_coe _ _ e.ne']
  rfl

section
variable {a b o : ℕ} {v w : FVec Ideal ⟨2, ![a, b]⟩ .f32} {f g : ℕ → Fin b → ℝ}

theorem Is.add (hv : Is o v f) (hw : Is o w g) : Is o (addf v w) fun n k => f n k + g n k :=
  fun i k => (congrArg₂ (· + ·) (hv i k) (hw i k)).trans (EReal.coe_add _ _).symm
theorem Is.sub (hv : Is o v f) (hw : Is o w g) : Is o (subf v w) fun n k => f n k - g n k :=
  fun i k => (congrArg₂ (· - ·) (hv i k) (hw i k)).trans (EReal.coe_sub _ _).symm
theorem Is.mul (hv : Is o v f) (hw : Is o w g) : Is o (mulf v w) fun n k => f n k * g n k :=
  fun i k => (congrArg₂ (· * ·) (hv i k) (hw i k)).trans (EReal.coe_mul _ _).symm
theorem Is.congr (hv : Is o v f) (h : ∀ n k, f n k = g n k) : Is o v g := fun i k => (hv i k).trans (congrArg _ (h _ _))
end

variable {o : ℕ} {v w d n : V16 Ideal} {f g e : ℕ → Row} {p : FVec Ideal S1x1024 .f32} {r : Row}

theorem is_lit (b : BitVec 32) (x : ℝ) (h : Ideal.ofBits .f32 b = (x : EReal)) : Is o (lit b : V16 Ideal) fun _ _ => x :=
  fun _ _ => h

theorem IsRow.spread (h : IsRow p r) : Is o (spread p) fun _ => r := fun i k => by
  unfold Middle.spread
  pointwise
  exact h k

theorem Is.across {c : FVec Ideal S16x1 .f32} {x : ℕ → ℝ} (h : Is o c fun n _ => x n) : Is o (across c) fun n _ => x n := fun i k => by
  unfold Middle.across
  pointwise
  exact h i 0

theorem Is.mean (h : Is o v f) : Is o (mean v) fun n _ => avg (f n) := fun i k => by
  obtain rfl : k = 0 := Fin.eq_zero k
  unfold Middle.mean
  pointwise
  simp only [h i _, width_eq, coe_sum]
  exact div_coe _ _ (by norm_num)

theorem Is.cen (h : Is o v f) : Is o (cen v) fun n => less (f n) := h.sub h.mean.across

theorem Is.invRms (h : Is o v f) : Is o (invRms v) fun n _ => root (f n) := fun i k => by
  have e : addf (Middle.mean (mulf v v)) (broadcast S16x1 (Scalar.ofBits .f32 0x358637BD#32)) (ix2 i k) = (power (f (o + i.val)) : EReal) := by
    refine (congrArg₂ (· + ·) ((h.mul h).mean i k) tiny_eq).trans (EReal.coe_add _ _).symm
  exact (congrArg Ideal.rsqrt e).trans (rsqrt_coe _ (power_pos _))

theorem Is.hat (h : Is o v f) : Is o (hat v) fun n => unit (f n) := h.cen.mul h.cen.invRms.across

theorem Is.affine {q : FVec Ideal S1x1024 .f32} {s : Row} (h : Is o v f) (hp : IsRow p r) (hq : IsRow q s) :
    Is o (affine v p q) fun n k => f n k * r k + s k := (h.mul hp.spread).add hq.spread

theorem Is.logistic (h : Is o v f) : Is o (logistic v) fun n k => sigm (f n k) := fun i k => by
  have e : Middle.logistic v (ix2 i k) = Ideal.ofBits .f32 0x3F000000#32 * Ideal.tanh (Ideal.ofBits .f32 0x3F000000#32 * v (ix2 i k)) + Ideal.ofBits .f32 0x3F000000#32 := rfl
  rw [e, sigmoid_eq, h i k, sigm_coe]

theorem Is.dsilu (h : Is o v f) (hw : Is o w fun n k => sigm (f n k)) : Is o (dsilu v w) fun n k => slope (f n k) :=
  hw.mul ((is_lit _ 1 one_eq).add (h.mul ((is_lit _ 1 one_eq).sub hw)))

theorem Is.xn2 (h : Is o v f) : Is o (xn2 v) fun n => scaled (f n) := h.mul h.invRms.across

theorem Is.unscale {c : FVec Ideal S16x1 .f32} {x : ℕ → ℝ} (hn : Is o n f) (hd : Is o d g) (hc : Is o c fun n _ => x n) :
    Is o (unscale n d c) fun m => thru (f m) (g m) (x m) := hc.across.mul (hd.sub (hn.mul (hd.mul hn).mean.across))

theorem Is.uncentre {c : FVec Ideal S16x1 .f32} {x : ℕ → ℝ} (hn : Is o n f) (hd : Is o d g) (hc : Is o c fun n _ => x n) :
    Is o (uncentre n d c) fun m => thru2 (f m) (g m) (x m) := hc.across.mul ((hd.sub hd.mean.across).sub (hn.mul (hd.mul hn).mean.across))

theorem Is.err (h : Is o v f) (hw : Is o w g) (hp : IsRow p r) : Is o (err v w p) fun n k => scaled (f n) k * r k - g n k :=
  (h.xn2.mul hp.spread).sub hw

theorem Is.dout (h : Is o v f) (hw : Is o w g) (hp : IsRow p r) : Is o (dout v w p) fun n k => (scaled (f n) k * r k - g n k) * (1 / 1024) :=
  (h.err hw hp).mul (is_lit _ _ perWidth_eq)

theorem Is.dx2 (h : Is o v f) (hw : Is o w g) (hp : IsRow p r) :
    Is o (dx2 v w p) fun n => thru (scaled (f n)) (fun k => (scaled (f n) k * r k - g n k) * (1 / 1024) * r k) (root (f n)) :=
  h.xn2.unscale ((h.dout hw hp).mul hp.spread) h.invRms

end Cert.Middle

end
-- ==== Proof.Middle.Block.lean ====
/- What a block of tokens comes to, over the reals. -/
module

public import proofs.«01_k».proof.Proof.Middle.Point
public import proofs.«01_k».proof.Proof.Middle.Vectors

@[expose] public section

noncomputable section

namespace Cert.Middle

open Idealize.ShloMosaic Cert.Kernel2Ideal Cert.Hand
open Cert.Kernel2Ideal.Facts₀ Cert.Kernel2Ideal.Facts

/-- The blocks hold the tokens from `o` on, and the parameters. -/
structure Holds (S : St Ideal) (D : Data) (o : ℕ) : Prop where
  whole : o % 128 = 0
  x : Is o (S .x) D.x
  z : ∀ (j : Fin 4) (i : Fin 256) (k : Fin 1024), S .z (ix3 j i k) = (D.z j (o + i.val) k : EReal)
  q : ∀ (j : Fin 8) (i : Fin 256) (e : Fin 128), S .q (ix3 j i e) = (D.q (o + i.val) (chOf j e) : EReal)
  tg : Is o (S .tg) D.tg
  cg : IsRow (S .cg) D.cg
  cb : IsRow (S .cb) D.cb
  sg : IsRow (S .sg) D.sg
  sb : IsRow (S .sb) D.sb
  fg : IsRow (S .fg) D.fg
  mod : ∀ k : Fin 1024, S .mod (ix2 0 ⟨2048 + k.val, by omega⟩) = (D.gm k : EReal)
  ws : ∀ (h : Fin 8) (i j : Fin 128), S .ws (ix3 h i j) = (D.ws h i j : EReal)
  bs : ∀ (i : Fin 128) (k : Fin 1024), S .bs (ix2 i k) = (D.bs (hdOf k) i : EReal)
  wo : ∀ (e : Fin 2048) (k : Fin 1024), S .wo (ix2 e k) = (D.wo e k : EReal)

/-! ## Row groups and their arrays -/

theorem Is.rows {o : ℕ} {A : S256x1024.Idx → EReal} {f : ℕ → Row} (h : Is o A f) (k : Fin 16) : Is (o + 16 * k.val) (fun x : S16x1024.Idx => A ((rRow k).emb x)) f := by
  intro i c
  dsimp only
  rw [emb_row, Nat.add_assoc]
  exact h ⟨16 * k.val + i.val, by omega⟩ c

theorem is_glue {o : ℕ} {F : Fin 16 → S16x1024.Idx → EReal} {f : ℕ → Row} (h : ∀ k, Is (o + 16 * k.val) (F k) f) : Is o (glue F) f := by
  intro i c
  refine (h ⟨i.val / 16, by omega⟩ ⟨i.val % 16, by omega⟩ c).trans ?_
  dsimp only
  rw [show o + 16 * (i.val / 16) + i.val % 16 = o + i.val by omega]

theorem Is.round {o : ℕ} {v : V16 Ideal} {f : ℕ → Row} (h : Is o v f) : Is o (round16 v) f := h

theorem Is.cast {o : ℕ} {t : FTy} {v : FVec Ideal S16x1024 t} {f : ℕ → Row} (h : Is o v f) : Is o (shapeCast S16x1024 v shapeCasts_S16x1024_S16x1024) f := by
  intro i c
  pointwise
  exact h i c

theorem isRow_par {X : S1x1024.Idx → EReal} {g : Row} (h : IsRow X g) : IsRow (par (F := Ideal) X) g := by
  intro k
  unfold par row
  pointwise
  refine (congrArg X ?_).trans (h k)
  funext a
  apply Fin.ext
  rw [Rect.emb_apply]
  fin_cases a <;> simp [ix2]

/-! ## The branches -/

variable {S : St Ideal} {D : Data} {o : ℕ} (H : Holds S D o) (k u : Fin 16)
include H

theorem gate_is : IsRow (gateRow (F := Ideal) (S .mod)) D.gm := by
  intro c
  unfold gateRow row
  pointwise
  refine (congrArg (S .mod) ?_).trans (H.mod c)
  funext a
  apply Fin.ext
  rw [Rect.emb_apply]
  fin_cases a <;> simp [ix2]

theorem z_is (j : Fin 4) : Is (o + 16 * k.val) (zR S k j) (D.z j) := by
  intro i c
  unfold zR flat
  pointwise [emb_z]
  exact (H.z j ⟨16 * k.val + i.val, by omega⟩ c).trans (congrArg (fun n => (D.z j n c : EReal)) (Nat.add_assoc ..).symm)

theorem q_is : Is (o + 16 * k.val) (qR S k) D.q := by
  intro i c
  unfold qR join8
  pointwise [emb_q]
  have e : ∀ (j : Fin 8) (l : Fin 128), 128 * j.val + l.val = c.val →
      S .q (ix3 j ⟨16 * k.val + i.val, by omega⟩ l) = (D.q (o + 16 * k.val + i.val) c : EReal) := by
    intro j l h
    rw [H.q, Nat.add_assoc, show chOf j l = c from Fin.ext h]
  split_ifs <;> first
    | exact e 0 _ (by dsimp only; omega)
    | exact e 1 _ (by dsimp only; omega)
    | exact e 2 _ (by dsimp only; omega)
    | exact e 3 _ (by dsimp only; omega)
    | exact e 4 _ (by dsimp only; omega)
    | exact e 5 _ (by dsimp only; omega)
    | exact e 6 _ (by dsimp only; omega)
    | exact e 7 _ (by dsimp only; omega)

theorem ln_is : Is (o + 16 * k.val) (lnR S k) D.ln := (q_is H k).hat.affine (isRow_par H.cg) (isRow_par H.cb)

theorem vl_is : Is o (vlA S) D.vl := is_glue fun k => (((z_is H k 2).hat.affine (isRow_par H.sg) (isRow_par H.sb)).round).cast

/-- One head mixing one chunk. -/
theorem vm_unit (i e : Fin 128) : vmU S u (ix2 i e) = (D.vm (o + 128 * (u.val / 8) + i.val) (chOf (hd u) e) : EReal) := by
  have h := H.whole
  have e1 : hdOf (chOf (hd u) e) = hd u := Fin.ext (by unfold hdOf chOf; dsimp only; omega)
  have e2 : inChunk (o + 128 * (u.val / 8) + i.val) = i := Fin.ext (by unfold inChunk; dsimp only; omega)
  have e3 : 128 * ((o + 128 * (u.val / 8) + i.val) / 128) = o + 128 * (u.val / 8) := by omega
  unfold vmU mix head
  pointwise [emb_head, emb_unit, emb_bias]
  unfold Data.vm
  rw [e1, e2, e3, EReal.coe_add, ← coe_sum]
  refine congrArg₂ (· + ·) (Finset.sum_congr rfl fun j _ => ?_) ?_
  · rw [EReal.coe_mul]
    refine congrArg₂ (· * ·) (H.ws _ _ _) ?_
    refine (vl_is H ⟨128 * (u.val / 8) + j.val, by omega⟩ (chOf (hd u) e)).trans ?_
    dsimp only
    rw [Nat.add_assoc]
  · exact (H.bs i (chOf (hd u) e)).trans (congrArg (fun q => (D.bs q i : EReal)) e1)

theorem is_glueU {F : Fin 16 → S128x128.Idx → EReal} {f : ℕ → Row}
    (h : ∀ (u : Fin 16) (i e : Fin 128), F u (ix2 i e) = (f (o + 128 * (u.val / 8) + i.val) (chOf (hd u) e) : EReal)) : Is o (glueU F) f := by
  intro i c
  refine (h ⟨8 * (i.val / 128) + c.val / 128, by omega⟩ ⟨i.val % 128, by omega⟩ ⟨c.val % 128, by omega⟩).trans ?_
  refine congrArg₂ (fun n q => (f n q : EReal)) ?_ (Fin.ext ?_)
  · dsimp only
    omega
  · unfold chOf hd
    dsimp only
    omega

theorem vm_is : Is o (vmA S) D.vm := is_glueU H (vm_unit H)

theorem silu_is {v : V16 Ideal} {f : ℕ → Row} (h : Is (o + 16 * k.val) v f) : Is (o + 16 * k.val) (mulf v (logistic v)) fun n c => f n c * sigm (f n c) :=
  h.mul h.logistic

theorem ya_is : Is (o + 16 * k.val) (yaR S k) D.ya := ((silu_is H k (ln_is H k)).mul (silu_is H k (z_is H k 0))).round
theorem yb_is : Is (o + 16 * k.val) (ybR S k) D.yb := (((z_is H k 1).mul ((vm_is H).rows k)).mul (silu_is H k (z_is H k 3))).round

theorem yc_is : Is o (ycA S) D.yc := by
  intro i e
  unfold Data.yc
  by_cases h : e.val < 1024
  · rw [dif_pos h]
    refine (dif_pos h).trans ((ya_is H ⟨i.val / 16, by omega⟩ ⟨i.val % 16, by omega⟩ ⟨e.val, h⟩).trans ?_)
    dsimp only
    rw [show o + 16 * (i.val / 16) + i.val % 16 = o + i.val by omega]
  · rw [dif_neg h]
    have he : e.val < 2048 := e.2
    refine (dif_neg h).trans ((yb_is H ⟨i.val / 16, by omega⟩ ⟨i.val % 16, by omega⟩ ⟨e.val - 1024, by omega⟩).trans ?_)
    dsimp only
    rw [show o + 16 * (i.val / 16) + i.val % 16 = o + i.val by omega]

/-! ## The loss -/

theorem y_is : Is o (yA S) D.y := by
  intro i c
  have e0 : ∀ e : Fin 2048, (Rect.unit (s := S256x2048) ![0, 0] S256x2048.size inb_S256x2048_S256x2048_0_0).emb (ix2 i e) = ix2 i e := fun e => by
    funext a
    apply Fin.ext
    rw [Rect.emb_apply]
    fin_cases a <;> simp [ix2]
  have e1 : ∀ e : Fin 2048, (Rect.unit (s := S2048x1024) ![0, 0] S2048x1024.size inb_S2048x1024_S2048x1024_0_0).emb (ix2 e c) = ix2 e c := fun e => by
    funext a
    apply Fin.ext
    rw [Rect.emb_apply]
    fin_cases a <;> simp [ix2]
  unfold yA project
  pointwise
  unfold Data.y
  rw [← coe_sum]
  refine Finset.sum_congr rfl fun e _ => ?_
  rw [EReal.coe_mul]
  exact congrArg₂ (· * ·) ((congrArg (ycA S) (e0 e)).trans (yc_is H i e)) ((congrArg (S .wo) (e1 e)).trans (H.wo e c))

theorem x2_is : Is (o + 16 * k.val) (x2R S k) D.x2 := (H.x.rows k).add ((gate_is H).spread.mul ((y_is H).rows k))
theorem err_is : Is (o + 16 * k.val) (errR S k) D.err := (x2_is H k).err (H.tg.rows k) (isRow_par H.fg)
theorem dout_is : Is (o + 16 * k.val) (dout (x2R S k) (tR S k) (par (S .fg))) D.dout := (x2_is H k).dout (H.tg.rows k) (isRow_par H.fg)
theorem dx_is : Is (o + 16 * k.val) (dxR S k) D.dx := (x2_is H k).dx2 (H.tg.rows k) (isRow_par H.fg)
theorem dy_is : Is (o + 16 * k.val) (dyR S k) D.dy := ((dx_is H k).mul (gate_is H).spread).round
theorem dy_block : Is o (dyA S) D.dy := is_glue (dy_is H)

/-! ## Back through the branches -/

theorem dyc_is : Is o (dycA S) D.dyc := by
  intro i e
  have e0 : ∀ c : Fin 1024, (Rect.unit (s := S256x1024) ![0, 0] S256x1024.size inb_S256x1024_S256x1024_0_0).emb (ix2 i c) = ix2 i c := fun c => by
    funext a
    apply Fin.ext
    rw [Rect.emb_apply]
    fin_cases a <;> simp [ix2]
  have e1 : ∀ c : Fin 1024, (Rect.unit (s := S2048x1024) ![0, 0] S2048x1024.size inb_S2048x1024_S2048x1024_0_0).emb (ix2 e c) = ix2 e c := fun c => by
    funext a
    apply Fin.ext
    rw [Rect.emb_apply]
    fin_cases a <;> simp [ix2]
  unfold dycA unproject
  pointwise
  unfold Data.dyc
  rw [← coe_sum]
  refine Finset.sum_congr rfl fun c _ => ?_
  rw [EReal.coe_mul]
  exact congrArg₂ (· * ·) ((congrArg (dyA S) (e0 c)).trans (dy_block H i c)) ((congrArg (S .wo) (e1 c)).trans (H.wo e c))

theorem dl_is : Is (o + 16 * k.val) (dlR S k) D.dl := by
  intro i c
  unfold dlR
  rw [emb_low, Nat.add_assoc]
  exact dyc_is H ⟨16 * k.val + i.val, by omega⟩ ⟨c.val, by omega⟩

theorem dh_is : Is (o + 16 * k.val) (dhR S k) D.dh := by
  intro i c
  unfold dhR
  rw [emb_high, Nat.add_assoc]
  exact dyc_is H ⟨16 * k.val + i.val, by omega⟩ ⟨1024 + c.val, by omega⟩

theorem dm_is : Is (o + 16 * k.val) (dmR S k) D.dm := ((dh_is H k).mul (z_is H k 1)).mul (silu_is H k (z_is H k 3))
theorem dm_block : Is o (dvmA S) D.dm := is_glue fun k => (dm_is H k).round.cast

theorem dvl_unit (i e : Fin 128) : dvlU S u (ix2 i e) = (D.dvl (o + 128 * (u.val / 8) + i.val) (chOf (hd u) e) : EReal) := by
  have h := H.whole
  have e1 : hdOf (chOf (hd u) e) = hd u := Fin.ext (by unfold hdOf chOf; dsimp only; omega)
  have e2 : inChunk (o + 128 * (u.val / 8) + i.val) = i := Fin.ext (by unfold inChunk; dsimp only; omega)
  have e3 : 128 * ((o + 128 * (u.val / 8) + i.val) / 128) = o + 128 * (u.val / 8) := by omega
  unfold dvlU unmix head
  pointwise [emb_head, emb_unit]
  unfold Data.dvl
  rw [e1, e2, e3, ← coe_sum]
  refine Finset.sum_congr rfl fun j _ => ?_
  rw [EReal.coe_mul]
  refine congrArg₂ (· * ·) (H.ws _ _ _) ?_
  refine (dm_block H ⟨128 * (u.val / 8) + j.val, by omega⟩ (chOf (hd u) e)).trans ?_
  dsimp only
  rw [Nat.add_assoc]

theorem dvl_is : Is o (dvlA S) D.dvl := is_glueU H (dvl_unit H)

theorem dln_is : Is (o + 16 * k.val) (dlnR S k) D.dln :=
  ((dl_is H k).mul (silu_is H k (z_is H k 0))).mul ((ln_is H k).dsilu (ln_is H k).logistic)

theorem dz_is (j : Fin 4) : Is (o + 16 * k.val) (dzR S j k) (D.dz j) := by
  fin_cases j
  · exact ((dl_is H k).mul (silu_is H k (ln_is H k))).mul ((z_is H k 0).dsilu (z_is H k 0).logistic)
  · exact ((dh_is H k).mul ((vm_is H).rows k)).mul (silu_is H k (z_is H k 3))
  · exact (z_is H k 2).hat.uncentre (((dvl_is H).rows k).mul (isRow_par H.sg).spread) (z_is H k 2).cen.invRms
  · exact (((dh_is H k).mul (z_is H k 1)).mul ((vm_is H).rows k)).mul ((z_is H k 3).dsilu (z_is H k 3).logistic)

theorem dz_block (j : Fin 4) (i : Fin 256) (c : Fin 1024) : dzA S (ix3 j i c) = (D.dz j (o + i.val) c : EReal) := is_glue (dz_is H · j) i c

theorem dq_is : Is (o + 16 * k.val) (dqR S k) D.dq :=
  (q_is H k).hat.uncentre ((dln_is H k).mul (isRow_par H.cg).spread) (q_is H k).cen.invRms

theorem dq_block (j : Fin 8) (i : Fin 256) (e : Fin 128) : dqA S (ix3 j i e) = (D.dq (o + i.val) (chOf j e) : EReal) :=
  is_glue (dq_is H) i (chOf j e)

end Cert.Middle

end
-- ==== Proof.Middle.Sums.lean ====
/- What a block of tokens adds to the sums, over the reals. -/
module

public import proofs.«01_k».proof.Proof.Middle.Block

@[expose] public section

noncomputable section

namespace Cert.Middle

open Idealize.ShloMosaic Cert.Kernel2Ideal Cert.Hand
open Cert.Kernel2Ideal.Facts₀ Cert.Kernel2Ideal.Facts

/-- The two rows of a row group that fall onto one of eight. -/
def pair (f : ℕ → Row) (o : ℕ) (s : Fin 8) (k : Fin 1024) : ℝ := f (o + s.val) k + f (o + 8 + s.val) k

section
variable {o : ℕ} {c : V16 Ideal} {f : ℕ → Row} {A : S8x8x1024.Idx → Ideal .f32} {q q' s : Fin 8} {k : Fin 1024} {x : ℝ}

theorem fold8_is (hc : Is o c f) : fold8 c (ix2 s k) = (pair f o s k : EReal) := by
  unfold fold8
  pointwise
  rw [Fin.sum_univ_two]
  unfold pair
  rw [EReal.coe_add]
  refine congrArg₂ (· + ·) (Eq.trans ?_ (hc ⟨s.val, by omega⟩ k)) (Eq.trans ?_ ((hc ⟨8 + s.val, by omega⟩ k).trans ?_))
  · exact congrArg c (congrArg (ix2 · k) (Fin.ext (by simp)))
  · exact congrArg c (congrArg (ix2 · k) (Fin.ext (by simp)))
  · rw [Nat.add_assoc]

theorem accAdd_same (hc : Is o c f) (hA : A (ix3 q s k) = (x : EReal)) : accAdd q c A (ix3 q s k) = ((x + pair f o s k : ℝ) : EReal) := by
  rw [EReal.coe_add]
  exact (if_pos rfl).trans (congrArg₂ (· + ·) hA (fold8_is hc))

theorem accAdd_other (h : q' ≠ q) (hA : A (ix3 q' s k) = (x : EReal)) : accAdd q c A (ix3 q' s k) = (x : EReal) := by
  exact (if_neg fun e => h (Fin.ext e)).trans hA
end

variable {S : St Ideal} {D : Data} {o : ℕ} (H : Holds S D o)

/-- The sums that the loss adds to, -/
def share5 (D : Data) (q : Fin 8) : ℕ → Row := ![D.share 0, D.share 1, 0, 0, 0, 0, D.share 6, 0] q
/-- and those that the norms add to. -/
def share9 (D : Data) (q : Fin 8) : ℕ → Row := ![0, 0, D.share 2, D.share 3, D.share 4, D.share 5, 0, 0] q

theorem share_split (q : Fin 8) (n : ℕ) (k : Fin 1024) : share5 D q n k + share9 D q n k = D.share q n k := by
  fin_cases q <;> simp [share5, share9, Data.share]

theorem pair_zero (o : ℕ) (s : Fin 8) (k : Fin 1024) : pair 0 o s k = 0 := by simp [pair]

variable (a : Fin 8 → Fin 8 → Row) (ha : ∀ q s k, S .acc (ix3 q s k) = (a q s k : EReal))
include H ha

theorem acc5_is (n : ℕ) (hn : n ≤ 16) (q s : Fin 8) (k : Fin 1024) :
    acc5 S n (ix3 q s k) = ((a q s k + ∑ g ∈ Finset.range n, pair (share5 D q) (o + 16 * g) s k : ℝ) : EReal) := by
  induction n with
  | zero => exact (ha q s k).trans (congrArg _ (by simp))
  | succ n ih =>
    have h : n < 16 := hn
    replace ih := ih h.le
    rw [acc5, dif_pos h, Finset.sum_range_succ, ← add_assoc]
    have h0 := (dout_is H ⟨n, h⟩).mul (x2_is H ⟨n, h⟩).xn2
    have h1 := (dx_is H ⟨n, h⟩).mul ((y_is H).rows ⟨n, h⟩)
    have h6 := (err_is H ⟨n, h⟩).mul (err_is H ⟨n, h⟩)
    fin_cases q
    · exact accAdd_other (by decide) (accAdd_same h0 (accAdd_other (by decide) ih))
    · exact accAdd_same h1 (accAdd_other (by decide) (accAdd_other (by decide) ih))
    iterate 4
      · refine (accAdd_other (by decide) (accAdd_other (by decide) (accAdd_other (by decide) ih))).trans (congrArg _ ?_)
        exact (add_zero _).symm.trans (congrArg _ (pair_zero _ s k).symm)
    · exact accAdd_other (by decide) (accAdd_other (by decide) (accAdd_same h6 ih))
    · refine (accAdd_other (by decide) (accAdd_other (by decide) (accAdd_other (by decide) ih))).trans (congrArg _ ?_)
      exact (add_zero _).symm.trans (congrArg _ (pair_zero _ s k).symm)

theorem acc9_is (n : ℕ) (hn : n ≤ 16) (q s : Fin 8) (k : Fin 1024) : acc9 S n (ix3 q s k)
    = ((a q s k + ∑ g ∈ Finset.range 16, pair (share5 D q) (o + 16 * g) s k + ∑ g ∈ Finset.range n, pair (share9 D q) (o + 16 * g) s k : ℝ) : EReal) := by
  induction n with
  | zero => exact (acc5_is H a ha 16 le_rfl q s k).trans (congrArg _ (by simp))
  | succ n ih =>
    have h : n < 16 := hn
    replace ih := ih h.le
    rw [acc9, dif_pos h, Finset.sum_range_succ _ n, ← add_assoc]
    have h2 := (dln_is H ⟨n, h⟩).mul (q_is H ⟨n, h⟩).hat
    have h3 := dln_is H ⟨n, h⟩
    have h4 := ((dvl_is H).rows ⟨n, h⟩).mul (z_is H ⟨n, h⟩ 2).hat
    have h5 := (dvl_is H).rows ⟨n, h⟩
    fin_cases q
    iterate 2
      · refine (accAdd_other (by decide) (accAdd_other (by decide) (accAdd_other (by decide) (accAdd_other (by decide) ih)))).trans (congrArg _ ?_)
        exact (add_zero _).symm.trans (congrArg _ (pair_zero _ s k).symm)
    · exact accAdd_other (by decide) (accAdd_same h2 (accAdd_other (by decide) (accAdd_other (by decide) ih)))
    · exact accAdd_same h3 (accAdd_other (by decide) (accAdd_other (by decide) (accAdd_other (by decide) ih)))
    · exact accAdd_other (by decide) (accAdd_other (by decide) (accAdd_other (by decide) (accAdd_same h4 ih)))
    · exact accAdd_other (by decide) (accAdd_other (by decide) (accAdd_same h5 (accAdd_other (by decide) ih)))
    iterate 2
      · refine (accAdd_other (by decide) (accAdd_other (by decide) (accAdd_other (by decide) (accAdd_other (by decide) ih)))).trans (congrArg _ ?_)
        exact (add_zero _).symm.trans (congrArg _ (pair_zero _ s k).symm)

/-- A block's addition to the column sums. -/
theorem acc_block (q s : Fin 8) (k : Fin 1024) :
    acc9 S 16 (ix3 q s k) = ((a q s k + ∑ g ∈ Finset.range 16, pair (D.share q) (o + 16 * g) s k : ℝ) : EReal) := by
  refine (acc9_is H a ha 16 le_rfl q s k).trans (congrArg _ ?_)
  rw [add_assoc, ← Finset.sum_add_distrib]
  refine congrArg _ (Finset.sum_congr rfl fun g _ => ?_)
  unfold pair
  rw [← share_split, ← share_split]
  ring

omit ha

/-- A block's addition to the rows of the bias gradient. -/
theorem dba_is (b : Fin 128 → Row) (hb : ∀ i k, S .dba (ix2 i k) = (b i k : EReal)) (n : ℕ) (hn : n ≤ 16) (i : Fin 128) (k : Fin 1024) : dbaN S n (ix2 i k)
    = ((b i k + (if i.val / 16 < n then D.dm (o + i.val) k else 0) + (if 8 + i.val / 16 < n then D.dm (o + 128 + i.val) k else 0) : ℝ) : EReal) := by
  induction n with
  | zero => exact (hb i k).trans (congrArg _ (by simp))
  | succ n ih =>
    have h : n < 16 := hn
    replace ih := ih h.le
    rw [dbaN, dif_pos h]
    by_cases hi : i.val / 16 = n % 8
    · obtain ⟨l, hl⟩ : ∃ l : Fin 16, ix2 i k = (rDba ⟨n, h⟩).emb (ix2 l k) := ⟨⟨i.val % 16, by omega⟩, by
        rw [emb_dba]
        exact congrArg (ix2 · k) (Fin.ext (by dsimp [ix2]; omega))⟩
      have hli : i.val = 16 * (n % 8) + l.val := congrArg (fun j : S128x1024.Idx => (j 0).val) (hl.trans (emb_dba ⟨n, h⟩ (ix2 l k)))
      have hd := dm_is H ⟨n, h⟩ l k
      dsimp only at hd
      rw [hl, Rect.overlay_emb]
      unfold addRows
      pointwise
      rw [← hl]
      refine (congrArg₂ (· + ·) ih hd).trans ((EReal.coe_add _ _).symm.trans (congrArg _ ?_))
      rcases Nat.lt_or_ge n 8 with h8 | h8
      · rw [if_neg (show ¬ i.val / 16 < n by omega), if_pos (show i.val / 16 < n + 1 by omega), if_neg (show ¬ 8 + i.val / 16 < n by omega), if_neg (show ¬ 8 + i.val / 16 < n + 1 by omega), show o + 16 * n + l.val = o + i.val by omega]
        ring
      · rw [if_pos (show i.val / 16 < n by omega), if_pos (show i.val / 16 < n + 1 by omega), if_neg (show ¬ 8 + i.val / 16 < n by omega), if_pos (show 8 + i.val / 16 < n + 1 by omega), show o + 16 * n + l.val = o + 128 + i.val by omega]
        ring
    · refine (Rect.overlay_of_not_mem _ _ _ ?_).trans (ih.trans (congrArg _ ?_))
      · intro hm
        obtain ⟨x, hx⟩ := (rDba ⟨n, h⟩).exists_idx_of_mem hm
        have h0 := congrArg (fun j : S128x1024.Idx => (j 0).val) ((emb_dba ⟨n, h⟩ x).symm.trans hx)
        have := idx2_lt0 x
        dsimp [ix2] at h0
        omega
      · have e1 : (i.val / 16 < n + 1) = (i.val / 16 < n) := propext (by omega)
        have e2 : (8 + i.val / 16 < n + 1) = (8 + i.val / 16 < n) := propext (by omega)
        simp only [e1, e2]

theorem dba_block (b : Fin 128 → Row) (hb : ∀ i k, S .dba (ix2 i k) = (b i k : EReal)) (i : Fin 128) (k : Fin 1024) :
    dbaN S 16 (ix2 i k) = ((b i k + D.dm (o + i.val) k + D.dm (o + 128 + i.val) k : ℝ) : EReal) := by
  refine (dba_is H b hb 16 le_rfl i k).trans (congrArg _ ?_)
  rw [if_pos (by omega), if_pos (by omega)]

/-- A chunk's share of the mixing weights' gradient. -/
def chunk (D : Data) (o : ℕ) (h : Fin 8) (i j : Fin 128) : ℝ := ∑ e : Fin 128, D.dm (o + i.val) (chOf h e) * D.vl (o + j.val) (chOf h e)

theorem chunk_is (u : Fin 16) (i j : Fin 128) : (∑ e : Fin 128, dvmA S ((rUnit u).emb (ix2 i e)) * vlA S ((rUnit u).emb (ix2 j e)) : EReal)
    = (chunk D (o + 128 * (u.val / 8)) (hd u) i j : EReal) := by
  unfold chunk
  rw [← coe_sum]
  refine Finset.sum_congr rfl fun e _ => ?_
  rw [emb_unit, emb_unit, EReal.coe_mul, Nat.add_assoc, Nat.add_assoc]
  exact congrArg₂ (· * ·) (dm_block H ⟨128 * (u.val / 8) + i.val, by omega⟩ (chOf (hd u) e)) (vl_is H ⟨128 * (u.val / 8) + j.val, by omega⟩ (chOf (hd u) e))

theorem dw_is (b : Fin 8 → Fin 128 → Fin 128 → ℝ) (hb : ∀ p i j, S .dw (ix3 p i j) = (b p i j : EReal)) (n : ℕ) (hn : n ≤ 16) (p : Fin 8) (i j : Fin 128) :
    dwN S n (ix3 p i j) = ((b p i j + (if p.val < n then chunk D o p i j else 0) + (if 8 + p.val < n then chunk D (o + 128) p i j else 0) : ℝ) : EReal) := by
  induction n with
  | zero => exact (hb p i j).trans (congrArg _ (by simp))
  | succ n ih =>
    have h : n < 16 := hn
    replace ih := ih h.le
    rw [dwN, dif_pos h]
    by_cases hi : p.val = n % 8
    · obtain rfl : p = hd ⟨n, h⟩ := Fin.ext hi
      have hl : ix3 (hd ⟨n, h⟩) i j = (rHead (hd ⟨n, h⟩)).emb (ix3 0 i j) := (emb_head (hd ⟨n, h⟩) (ix3 0 i j)).symm
      have hc := chunk_is H ⟨n, h⟩ i j
      dsimp only at hc
      conv_lhs => rw [hl, Rect.overlay_emb]
      unfold addHead
      pointwise
      refine (congrArg₂ (· + ·) ((congrArg (dwN S n) hl.symm).trans ih) hc).trans ((EReal.coe_add _ _).symm.trans (congrArg _ ?_))
      rcases Nat.lt_or_ge n 8 with h8 | h8
      · rw [if_neg (show ¬ (hd ⟨n, h⟩).val < n by omega), if_pos (show (hd ⟨n, h⟩).val < n + 1 by omega), if_neg (show ¬ 8 + (hd ⟨n, h⟩).val < n by omega), if_neg (show ¬ 8 + (hd ⟨n, h⟩).val < n + 1 by omega), show o + 128 * (n / 8) = o by omega]
        ring
      · rw [if_pos (show (hd ⟨n, h⟩).val < n by omega), if_pos (show (hd ⟨n, h⟩).val < n + 1 by omega), if_neg (show ¬ 8 + (hd ⟨n, h⟩).val < n by omega), if_pos (show 8 + (hd ⟨n, h⟩).val < n + 1 by omega), show o + 128 * (n / 8) = o + 128 by omega]
        ring
    · refine (Rect.overlay_of_not_mem _ _ _ ?_).trans (ih.trans (congrArg _ ?_))
      · intro hm
        obtain ⟨x, hx⟩ := (rHead (hd ⟨n, h⟩)).exists_idx_of_mem hm
        have h0 := congrArg (fun j : S8x128x128.Idx => (j 0).val) ((emb_head (hd ⟨n, h⟩) x).symm.trans hx)
        dsimp [ix3, hd] at h0
        omega
      · have e1 : (p.val < n + 1) = (p.val < n) := propext (by omega)
        have e2 : (8 + p.val < n + 1) = (8 + p.val < n) := propext (by omega)
        simp only [e1, e2]

theorem dw_block (b : Fin 8 → Fin 128 → Fin 128 → ℝ) (hb : ∀ p i j, S .dw (ix3 p i j) = (b p i j : EReal)) (p : Fin 8) (i j : Fin 128) :
    dwN S 16 (ix3 p i j) = ((b p i j + chunk D o p i j + chunk D (o + 128) p i j : ℝ) : EReal) := by
  refine (dw_is H b hb 16 le_rfl p i j).trans (congrArg _ ?_)
  rw [if_pos (by omega), if_pos (by omega)]

end Cert.Middle

end
-- ==== Proof.Middle.Given.lean ====
/- The arguments of the middle as reals. -/
module

public import proofs.«01_k».proof.Proof.Middle.Spec
public import Idealize.ShloMosaic.Lib.Pointwise

@[expose] public section

noncomputable section

namespace Cert.Middle

open Idealize.ShloMosaic

/-- The arguments hold the data. -/
structure Given (D : Data) (x : (⟨2, ![4096, 1024]⟩ : Shape).Idx → EReal) (z : (⟨2, ![4096, 6144]⟩ : Shape).Idx → EReal)
    (q tg : (⟨2, ![4096, 1024]⟩ : Shape).Idx → EReal) (cg cb sg sb fg : (⟨1, ![1024]⟩ : Shape).Idx → EReal) (mod : (⟨1, ![3072]⟩ : Shape).Idx → EReal)
    (ws : (⟨3, ![8, 128, 128]⟩ : Shape).Idx → EReal) (bs : (⟨2, ![8, 128]⟩ : Shape).Idx → EReal) (wo : (⟨2, ![2048, 1024]⟩ : Shape).Idx → EReal) : Prop where
  x : ∀ (n : Fin 4096) (k : Fin 1024), x (ix2 n k) = (D.x n.val k : EReal)
  z : ∀ (j : Fin 4) (n : Fin 4096) (k : Fin 1024), z (ix2 n ⟨2048 + (1024 * j.val + k.val), by omega⟩) = (D.z j n.val k : EReal)
  q : ∀ (n : Fin 4096) (k : Fin 1024), q (ix2 n k) = (D.q n.val k : EReal)
  tg : ∀ (n : Fin 4096) (k : Fin 1024), tg (ix2 n k) = (D.tg n.val k : EReal)
  cg : ∀ k : Fin 1024, cg (ix1 k) = (D.cg k : EReal)
  cb : ∀ k : Fin 1024, cb (ix1 k) = (D.cb k : EReal)
  sg : ∀ k : Fin 1024, sg (ix1 k) = (D.sg k : EReal)
  sb : ∀ k : Fin 1024, sb (ix1 k) = (D.sb k : EReal)
  fg : ∀ k : Fin 1024, fg (ix1 k) = (D.fg k : EReal)
  gm : ∀ k : Fin 1024, mod (ix1 ⟨2048 + k.val, by omega⟩) = (D.gm k : EReal)
  ws : ∀ (h : Fin 8) (i j : Fin 128), ws (ix3 h i j) = (D.ws h i j : EReal)
  bs : ∀ (h : Fin 8) (i : Fin 128), bs (ix2 h i) = (D.bs h i : EReal)
  wo : ∀ (e : Fin 2048) (k : Fin 1024), wo (ix2 e k) = (D.wo e k : EReal)

/-! ## The results -/

def outDz (D : Data) (j : Fin 4) (n : Fin 4096) (k : Fin 1024) : EReal := (D.dz j n.val k : EReal)
def outDq (D : Data) (j : Fin 8) (n : Fin 4096) (e : Fin 128) : EReal := (D.dq n.val (chOf j e) : EReal)
def outDx (D : Data) (n : Fin 4096) (k : Fin 1024) : EReal := (D.dx n.val k : EReal)
def outYc (D : Data) (n : Fin 4096) (e : Fin 2048) : EReal := (D.yc n.val e : EReal)
def outDy (D : Data) (n : Fin 4096) (k : Fin 1024) : EReal := (D.dy n.val k : EReal)
def outDws (D : Data) (h : Fin 8) (i j : Fin 128) : EReal := (D.dws h i j : EReal)
def outSums (D : Data) (q : Fin 8) (k : Fin 1024) : EReal := (D.sums q k : EReal)
/-- The bias gradients, a head a column. -/
def outDbs (D : Data) (i e : Fin 128) : EReal := ((if h : e.val < 8 then D.dbs ⟨e.val, h⟩ i else 0 : ℝ) : EReal)

/-- A row number's row, none beyond the last. -/
def extend (f : Fin 4096 → Row) (n : ℕ) : Row := if h : n < 4096 then f ⟨n, h⟩ else 0

theorem extend_val (f : Fin 4096 → Row) (n : Fin 4096) : extend f n.val = f n := dif_pos n.2

/-- Arguments that are real hold some data. -/
theorem exists_given {x : (⟨2, ![4096, 1024]⟩ : Shape).Idx → EReal} {z : (⟨2, ![4096, 6144]⟩ : Shape).Idx → EReal}
    {q tg : (⟨2, ![4096, 1024]⟩ : Shape).Idx → EReal} {cg cb sg sb fg : (⟨1, ![1024]⟩ : Shape).Idx → EReal} {mod : (⟨1, ![3072]⟩ : Shape).Idx → EReal}
    {ws : (⟨3, ![8, 128, 128]⟩ : Shape).Idx → EReal} {bs : (⟨2, ![8, 128]⟩ : Shape).Idx → EReal} {wo : (⟨2, ![2048, 1024]⟩ : Shape).Idx → EReal}
    (hx : ∀ (n : Fin 4096) (k : Fin 1024), ∃ r : ℝ, x (ix2 n k) = r)
    (hz : ∀ (j : Fin 4) (n : Fin 4096) (k : Fin 1024), ∃ r : ℝ, z (ix2 n ⟨2048 + (1024 * j.val + k.val), by omega⟩) = r)
    (hq : ∀ (n : Fin 4096) (k : Fin 1024), ∃ r : ℝ, q (ix2 n k) = r) (ht : ∀ (n : Fin 4096) (k : Fin 1024), ∃ r : ℝ, tg (ix2 n k) = r)
    (hcg : ∀ k : Fin 1024, ∃ r : ℝ, cg (ix1 k) = r) (hcb : ∀ k : Fin 1024, ∃ r : ℝ, cb (ix1 k) = r)
    (hsg : ∀ k : Fin 1024, ∃ r : ℝ, sg (ix1 k) = r) (hsb : ∀ k : Fin 1024, ∃ r : ℝ, sb (ix1 k) = r)
    (hfg : ∀ k : Fin 1024, ∃ r : ℝ, fg (ix1 k) = r) (hgm : ∀ k : Fin 1024, ∃ r : ℝ, mod (ix1 ⟨2048 + k.val, by omega⟩) = r)
    (hws : ∀ (h : Fin 8) (i j : Fin 128), ∃ r : ℝ, ws (ix3 h i j) = r) (hbs : ∀ (h : Fin 8) (i : Fin 128), ∃ r : ℝ, bs (ix2 h i) = r)
    (hwo : ∀ (e : Fin 2048) (k : Fin 1024), ∃ r : ℝ, wo (ix2 e k) = r) :
    ∃ D : Data, Given D x z q tg cg cb sg sb fg mod ws bs wo := by
  choose x' hx using hx
  choose z' hz using hz
  choose q' hq using hq
  choose t' ht using ht
  choose cg' hcg using hcg
  choose cb' hcb using hcb
  choose sg' hsg using hsg
  choose sb' hsb using hsb
  choose fg' hfg using hfg
  choose gm' hgm using hgm
  choose ws' hws using hws
  choose bs' hbs using hbs
  choose wo' hwo using hwo
  refine ⟨⟨extend x', fun j => extend (z' j), extend q', extend t', cg', cb', sg', sb', fg', gm', ws', bs', wo'⟩, ⟨?_, ?_, ?_, ?_, hcg, hcb, hsg, hsb, hfg, hgm, hws, hbs, hwo⟩⟩
  · exact fun n k => (hx n k).trans (congrArg (fun r : Row => (r k : EReal)) (extend_val x' n).symm)
  · exact fun j n k => (hz j n k).trans (congrArg (fun r : Row => (r k : EReal)) (extend_val (z' j) n).symm)
  · exact fun n k => (hq n k).trans (congrArg (fun r : Row => (r k : EReal)) (extend_val q' n).symm)
  · exact fun n k => (ht n k).trans (congrArg (fun r : Row => (r k : EReal)) (extend_val t' n).symm)

end Cert.Middle

end
-- ==== Proof.Middle.Inputs.lean ====
/- What the middle kernel's blocks hold, as elements of the arguments. -/
module

public import proofs.«01_k».proof.Proof.Middle.Carry
public import proofs.«01_k».proof.Proof.Middle.Sums
public import proofs.«01_k».proof.Proof.Middle.Given
public import Idealize.ShloMosaic.Lib.StableHlo.ReadAt
public import Idealize.ShloMosaic.Lib.Pipeline.ValueKit

@[expose] public section

noncomputable section

namespace Cert.Middle

open Idealize.ShloMosaic Idealize.ShloMosaic.TcCoe Cert.Kernel2Ideal Cert.Kernel2Ideal.Gen Cert.Hand

variable (m : (ℓ : Loc nD τ sig) → Buf (Elt Ideal) ℓ) (c : Dev nD)

/-- An argument's contents. -/
abbrev arg (r : Ref sig .tc) : Buf (Elt Ideal) ((c.tc : Thread nD τ).loc r) := m ((c.tc : Thread nD τ).loc r)

/-- The arguments hold the data. -/
def Holding (D : Data) : Prop := Given D (arg m c main_arg0) (arg m c main_arg1) (arg m c main_arg2) (arg m c main_arg3) (arg m c main_arg4)
  (arg m c main_arg5) (arg m c main_arg6) (arg m c main_arg7) (arg m c main_arg8) (arg m c main_arg9) (arg m c main_arg10) (arg m c main_arg11) (arg m c main_arg12)

/-! ## The host's arrays -/

theorem z_at (j : Fin 4) (n : Fin 4096) (k : Fin 1024) :
    V m c main_v4 (ix3 ⟨j.val, by omega⟩ n k) = arg m c main_arg1 (ix2 n ⟨2048 + (1024 * j.val + k.val), by omega⟩) := by
  unfold V
  after_reads_at
  exact congrArg (arg m c main_arg1) (congrArg (ix2 n) (Fin.ext (by dsimp only; omega)))

theorem q_at (j : Fin 8) (n : Fin 4096) (e : Fin 128) : V m c main_v6 (ix3 j n e) = arg m c main_arg2 (ix2 n (chOf j e)) := by
  unfold V
  after_reads_at
  exact congrArg (arg m c main_arg2) (congrArg (ix2 n) (Fin.ext (by unfold chOf; dsimp only; omega)))

theorem bs_at (i : Fin 128) (k : Fin 1024) : V m c main_v9 (ix2 i k) = arg m c main_arg11 (ix2 (hdOf k) i) := by
  unfold V
  after_reads_at
  rfl

theorem cg_at (k : Fin 1024) : V m c main_v10 (ix2 0 k) = arg m c main_arg4 (ix1 k) := by
  unfold V
  after_reads_at
theorem cb_at (k : Fin 1024) : V m c main_v11 (ix2 0 k) = arg m c main_arg5 (ix1 k) := by
  unfold V
  after_reads_at
theorem sg_at (k : Fin 1024) : V m c main_v12 (ix2 0 k) = arg m c main_arg6 (ix1 k) := by
  unfold V
  after_reads_at
theorem sb_at (k : Fin 1024) : V m c main_v13 (ix2 0 k) = arg m c main_arg7 (ix1 k) := by
  unfold V
  after_reads_at
theorem fg_at (k : Fin 1024) : V m c main_v14 (ix2 0 k) = arg m c main_arg8 (ix1 k) := by
  unfold V
  after_reads_at
theorem mod_at (k : Fin 3072) : V m c main_v15 (ix2 0 k) = arg m c main_arg9 (ix1 k) := by
  unfold V
  after_reads_at
theorem wo_at (e : Fin 2048) (k : Fin 1024) : V m c main_v16 (ix2 e k) = arg m c main_arg12 (ix2 e k) := by
  unfold V
  after_reads_at

/-! ## The blocks -/

theorem places : ∀ t : Fin cfg0.N,
    win0_0.index t = ![t.val, 0] ∧ win0_1.index t = ![0, t.val, 0] ∧ win0_2.index t = ![0, t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0, 0] ∧ win0_11.index t = ![0, 0] ∧ win0_12.index t = ![0, 0] := by decide +kernel

/-- A row of the array by its block and its place there. -/
abbrev rowAt (t : Fin cfg0.N) (i : Fin 256) : Fin 4096 := ⟨256 * t.val + i.val, by have := (pt t).isLt; change t.val < 16 at this; omega⟩

theorem x_read (t : Fin cfg0.N) (i : Fin 256) (k : Fin 1024) : ins m c t .x (ix2 i k) = V m c main_arg0 (ix2 (rowAt t i) k) := by
  change iblk m c 0 t (ix2 i k) = _
  blk_ext [iblk, places t]

theorem z_read (t : Fin cfg0.N) (j : Fin 4) (i : Fin 256) (k : Fin 1024) : ins m c t .z (ix3 j i k) = V m c main_v4 (ix3 ⟨j.val, by omega⟩ (rowAt t i) k) := by
  change X0_1 m c t (ix3 j i k) = _
  unfold X0_1 Pipeline.Window.fill
  rw [dif_pos (moved0_1 t _)]
  blk_ext [iblk, places t]

theorem q_read (t : Fin cfg0.N) (j : Fin 8) (i : Fin 256) (e : Fin 128) : ins m c t .q (ix3 j i e) = V m c main_v6 (ix3 j (rowAt t i) e) := by
  change iblk m c 2 t (ix3 j i e) = _
  blk_ext [iblk, places t]

theorem tg_read (t : Fin cfg0.N) (i : Fin 256) (k : Fin 1024) : ins m c t .tg (ix2 i k) = V m c main_arg3 (ix2 (rowAt t i) k) := by
  change iblk m c 3 t (ix2 i k) = _
  blk_ext [iblk, places t]

theorem cg_read (t : Fin cfg0.N) (k : Fin 1024) : ins m c t .cg (ix2 0 k) = V m c main_v10 (ix2 0 k) := by
  change iblk m c 4 t (ix2 0 k) = _
  blk_ext [iblk, places t]
theorem cb_read (t : Fin cfg0.N) (k : Fin 1024) : ins m c t .cb (ix2 0 k) = V m c main_v11 (ix2 0 k) := by
  change iblk m c 5 t (ix2 0 k) = _
  blk_ext [iblk, places t]
theorem sg_read (t : Fin cfg0.N) (k : Fin 1024) : ins m c t .sg (ix2 0 k) = V m c main_v12 (ix2 0 k) := by
  change iblk m c 6 t (ix2 0 k) = _
  blk_ext [iblk, places t]
theorem sb_read (t : Fin cfg0.N) (k : Fin 1024) : ins m c t .sb (ix2 0 k) = V m c main_v13 (ix2 0 k) := by
  change iblk m c 7 t (ix2 0 k) = _
  blk_ext [iblk, places t]
theorem fg_read (t : Fin cfg0.N) (k : Fin 1024) : ins m c t .fg (ix2 0 k) = V m c main_v14 (ix2 0 k) := by
  change iblk m c 8 t (ix2 0 k) = _
  blk_ext [iblk, places t]
theorem mod_read (t : Fin cfg0.N) (k : Fin 3072) : ins m c t .mod (ix2 0 k) = V m c main_v15 (ix2 0 k) := by
  change iblk m c 9 t (ix2 0 k) = _
  blk_ext [iblk, places t]
theorem ws_read (t : Fin cfg0.N) (h : Fin 8) (i j : Fin 128) : ins m c t .ws (ix3 h i j) = V m c main_arg10 (ix3 h i j) := by
  change iblk m c 10 t (ix3 h i j) = _
  blk_ext [iblk, places t]
theorem bs_read (t : Fin cfg0.N) (i : Fin 128) (k : Fin 1024) : ins m c t .bs (ix2 i k) = V m c main_v9 (ix2 i k) := by
  change iblk m c 11 t (ix2 i k) = _
  blk_ext [iblk, places t]
theorem wo_read (t : Fin cfg0.N) (e : Fin 2048) (k : Fin 1024) : ins m c t .wo (ix2 e k) = V m c main_v16 (ix2 e k) := by
  change iblk m c 12 t (ix2 e k) = _
  blk_ext [iblk, places t]

/-- At a point the blocks hold the point's tokens. -/
theorem holds {D : Data} (H : Holding m c D) (t : Fin cfg0.N) : Holds (ins m c t) D (256 * t.val) where
  whole := by omega
  x i k := (x_read m c t i k).trans ((congrFun (V_main_arg0 m c) _).trans (H.x _ k))
  z j i k := (z_read m c t j i k).trans ((z_at m c j _ k).trans (H.z j _ k))
  q j i e := (q_read m c t j i e).trans ((q_at m c j _ e).trans (H.q _ _))
  tg i k := (tg_read m c t i k).trans ((congrFun (V_main_arg3 m c) _).trans (H.tg _ k))
  cg k := (cg_read m c t k).trans ((cg_at m c k).trans (H.cg k))
  cb k := (cb_read m c t k).trans ((cb_at m c k).trans (H.cb k))
  sg k := (sg_read m c t k).trans ((sg_at m c k).trans (H.sg k))
  sb k := (sb_read m c t k).trans ((sb_at m c k).trans (H.sb k))
  fg k := (fg_read m c t k).trans ((fg_at m c k).trans (H.fg k))
  mod k := (mod_read m c t _).trans ((mod_at m c _).trans (H.gm k))
  ws h i j := (ws_read m c t h i j).trans ((congrFun (V_main_arg10 m c) _).trans (H.ws h i j))
  bs i k := (bs_read m c t i k).trans ((bs_at m c i k).trans (H.bs _ i))
  wo e k := (wo_read m c t e k).trans ((wo_at m c e k).trans (H.wo e k))

theorem holds_with {D : Data} (H : Holding m c D) (t : Fin cfg0.N) (A : S8x8x1024.Idx → Ideal .f32) (B : S128x1024.Idx → Ideal .f32) (W : S8x128x128.Idx → Ideal .f32) :
    Holds (withSums (ins m c t) A B W) D (256 * t.val) :=
  have h := holds m c H t
  ⟨h.whole, h.x, h.z, h.q, h.tg, h.cg, h.cb, h.sg, h.sb, h.fg, h.mod, h.ws, h.bs, h.wo⟩

end Cert.Middle

end
-- ==== Proof.Middle.Totals.lean ====
/- The sums over all the points of the middle kernel, over the reals. -/
module

public import proofs.«01_k».proof.Proof.Middle.Inputs

@[expose] public section

noncomputable section

namespace Cert.Middle

open Idealize.ShloMosaic Idealize.ShloMosaic.TcCoe Cert.Kernel2Ideal Cert.Kernel2Ideal.Gen Cert.Hand
open Cert.Kernel2Ideal.Facts₀ Cert.Kernel2Ideal.Facts

theorem zero0_eq : (zero0 : Ideal .f32) = ((0 : ℝ) : EReal) := by
  change Ideal.ofBits .f32 0x00000000#32 = _
  pointwise
  rfl

/-- A sum over blocks of rows, one block after another. -/
theorem sum_range_blocks (f : ℕ → ℝ) (w : ℕ) (k : ℕ) : ∑ n ∈ Finset.range (w * k), f n = ∑ t ∈ Finset.range k, ∑ i ∈ Finset.range w, f (w * t + i) := by
  induction k with
  | zero => simp
  | succ k ih => rw [Nat.mul_succ, Finset.sum_range_add, ih, Finset.sum_range_succ]

/-- The eight places of a column sum together have all its rows. -/
theorem sum_pairs (f : ℕ → Row) (k : ℕ) (c : Fin 1024) :
    ∑ s : Fin 8, ∑ t ∈ Finset.range k, ∑ g ∈ Finset.range 16, pair f (256 * t + 16 * g) s c = ∑ n ∈ Finset.range (256 * k), f n c := by
  rw [Finset.sum_comm, sum_range_blocks]
  refine Finset.sum_congr rfl fun t _ => ?_
  rw [Finset.sum_comm, show (256 : ℕ) = 16 * 16 from rfl, sum_range_blocks (fun i => f (16 * 16 * t + i) c)]
  refine Finset.sum_congr rfl fun g _ => ?_
  unfold pair
  rw [show (16 : ℕ) = 8 + 8 from rfl, Finset.sum_range_add, Finset.sum_add_distrib, Finset.sum_range, Finset.sum_range]
  refine congrArg₂ (· + ·) (Finset.sum_congr rfl fun s _ => ?_) (Finset.sum_congr rfl fun s _ => ?_)
  · exact congrArg (f · c) (by omega)
  · exact congrArg (f · c) (by omega)

variable (m : (ℓ : Loc nD τ sig) → Buf (Elt Ideal) ℓ) (c : Dev nD) {D : Data} (H : Holding m c D)
include H

theorem acc_total (n : ℕ) (hn : n ≤ cfg0.N) (q s : Fin 8) (k : Fin 1024) : accC m c n (ix3 q s k)
    = ((∑ t ∈ Finset.range n, ∑ g ∈ Finset.range 16, pair (D.share q) (256 * t + 16 * g) s k : ℝ) : EReal) := by
  induction n generalizing q s k with
  | zero => exact zero0_eq
  | succ n ih =>
    have h : n < cfg0.N := hn
    rw [accC_succ m c ⟨n, h⟩, Finset.sum_range_succ]
    exact acc_block (holds_with m c H ⟨n, h⟩ _ _ _) (fun q s k => ∑ t ∈ Finset.range n, ∑ g ∈ Finset.range 16, pair (D.share q) (256 * t + 16 * g) s k)
      (fun q s k => ih h.le q s k) q s k

theorem dba_total (n : ℕ) (hn : n ≤ cfg0.N) (i : Fin 128) (k : Fin 1024) : dbaC m c n (ix2 i k)
    = ((∑ r ∈ Finset.range (2 * n), D.dm (128 * r + i.val) k : ℝ) : EReal) := by
  induction n generalizing i k with
  | zero => exact zero0_eq
  | succ n ih =>
    have h : n < cfg0.N := hn
    rw [dbaC_succ m c ⟨n, h⟩, show 2 * (n + 1) = 2 * n + 1 + 1 by omega, Finset.sum_range_succ, Finset.sum_range_succ]
    refine (dba_block (holds_with m c H ⟨n, h⟩ _ _ _) (fun i k => ∑ r ∈ Finset.range (2 * n), D.dm (128 * r + i.val) k) (fun i k => ih h.le i k) i k).trans ?_
    rw [show 128 * (2 * n) = 256 * n by omega, show 128 * (2 * n + 1) = 256 * n + 128 by omega]

theorem dw_total (n : ℕ) (hn : n ≤ cfg0.N) (p : Fin 8) (i j : Fin 128) : dwC m c n (ix3 p i j)
    = ((∑ r ∈ Finset.range (2 * n), chunk D (128 * r) p i j : ℝ) : EReal) := by
  induction n generalizing p i j with
  | zero => exact zero0_eq
  | succ n ih =>
    have h : n < cfg0.N := hn
    rw [dwC_succ m c ⟨n, h⟩, show 2 * (n + 1) = 2 * n + 1 + 1 by omega, Finset.sum_range_succ, Finset.sum_range_succ]
    refine (dw_block (holds_with m c H ⟨n, h⟩ _ _ _) (fun p i j => ∑ r ∈ Finset.range (2 * n), chunk D (128 * r) p i j) (fun p i j => ih h.le p i j) p i j).trans ?_
    rw [show 128 * (2 * n) = 256 * n by omega, show 128 * (2 * n + 1) = 256 * n + 128 by omega]

/-! ## The results that wait for the last point -/

theorem sm_total (q : Fin 8) (k : Fin 1024) : smOf (accC m c cfg0.N) (ix2 q k) = (D.sums q k : EReal) := by
  have e : smOf (accC m c cfg0.N) (ix2 q k) = (∑ s : Fin 8, accC m c cfg0.N (ix3 q s k) : EReal) * Ideal.ofBits .f32 (smBits q) := by
    change smRow (accC m c cfg0.N) q (ix2 0 k) = _
    unfold smRow total
    pointwise [emb_acc]
  rw [e]
  simp only [acc_total m c H cfg0.N le_rfl, coe_sum]
  rw [show cfg0.N = 16 from N_0, sum_pairs]
  have hb : Ideal.ofBits .f32 (smBits q) = ((if q = 6 then 1 / 2048 else 1 : ℝ) : EReal) := by
    fin_cases q
    iterate 6
      · exact one_eq
    · exact halfWidth_eq
    · exact one_eq
  rw [hb, ← EReal.coe_mul]
  rfl

theorem dws_total (p : Fin 8) (i j : Fin 128) : dwC m c cfg0.N (ix3 p i j) = (D.dws p i j : EReal) :=
  dw_total m c H cfg0.N le_rfl p i j

/-- What the table of bias gradients holds. -/
def table (D : Data) (i e : Fin 128) : ℝ := if h : e.val < 8 then D.dbs ⟨e.val, h⟩ i else 0

omit H

theorem same_word : ∀ (e : Fin 128) (h : Fin 8), IntOp.cmpi .eq (BitVec.ofNat 32 e.val) (BitVec.ofNat 32 h.val) = if e.val = h.val then 1#1 else 0#1 := by
  decide +kernel

/-- A column of the bias gradients' table. -/
theorem putCol_at (h : Fin 8) (a t : FVec Ideal S128x128 .f32) (i e : Fin 128) :
    putCol (BitVec.ofNat 32 h.val) a t (ix2 i e) = if e.val = h.val then (∑ l : Fin 128, a (ix2 i l) : EReal) else t (ix2 i e) := by
  unfold putCol
  pointwise
  rw [same_word]
  by_cases he : e.val = h.val
  · rw [if_pos he, if_pos he]
    rfl
  · rw [if_neg he, if_neg he]
    rfl

include H

theorem bias_column (h : Fin 8) (i : Fin 128) : (∑ l : Fin 128, dbaC m c cfg0.N ((rBias h).emb (ix2 i l)) : EReal) = (D.dbs h i : EReal) := by
  unfold Data.dbs
  rw [Finset.sum_comm, ← coe_sum]
  refine Finset.sum_congr rfl fun l _ => ?_
  rw [emb_bias]
  exact dba_total m c H cfg0.N le_rfl i (chOf h l)

theorem db_total (i e : Fin 128) : dbOut (dbaC m c cfg0.N) (ix2 i e) = (table D i e : EReal) := by
  have step : ∀ (h : Fin 8) (t : FVec Ideal S128x128 .f32), t (ix2 i e) = ((if e.val < h.val then table D i e else 0 : ℝ) : EReal) →
      putCol (BitVec.ofNat 32 h.val) (fun x => dbaC m c cfg0.N ((rBias h).emb x)) t (ix2 i e) = ((if e.val < h.val + 1 then table D i e else 0 : ℝ) : EReal) := by
    intro h t ht
    rw [putCol_at]
    by_cases he : e.val = h.val
    · rw [if_pos he, if_pos (by omega)]
      refine (bias_column m c H h i).trans (congrArg _ ?_)
      unfold table
      rw [dif_pos (show e.val < 8 by omega)]
      exact congrArg (D.dbs · i) (Fin.ext he.symm)
    · rw [if_neg he, ht]
      exact congrArg _ (if_congr (by omega) rfl rfl)
  refine (step 7 _ (step 6 _ (step 5 _ (step 4 _ (step 3 _ (step 2 _ (step 1 _ (step 0 _ ?_)))))))).trans (congrArg _ ?_)
  · rw [if_neg (show ¬ e.val < (0 : Fin 8).val from Nat.not_lt_zero _)]
    exact zero0_eq
  · unfold table
    by_cases he : e.val < 8
    · rw [if_pos (show e.val < (7 : Fin 8).val + 1 from he)]
    · rw [if_neg (show ¬ e.val < (7 : Fin 8).val + 1 from he), dif_neg he]

end Cert.Middle

end
-- ==== Proof.Middle.Results.lean ====
/- What the middle kernel's results hold, over the reals. -/
module

public import proofs.«01_k».proof.Proof.Middle.Totals
public import proofs.«01_k».proof.Proof.Middle.Kept

@[expose] public section

noncomputable section

namespace Cert.Middle

open Idealize.ShloMosaic Idealize.ShloMosaic.TcCoe Idealize.SL.Sem Cert.Kernel2Ideal Cert.Kernel2Ideal.Gen Cert.Hand

variable (m : (ℓ : Loc nD τ sig) → Buf (Elt Ideal) ℓ) (c : Dev nD) {D : Data} (H : Holding m c D)

theorem spots : ∀ t : Fin cfg0.N, win0_13.index t = ![0, t.val, 0] ∧ win0_14.index t = ![0, t.val, 0] ∧ win0_15.index t = ![t.val, 0]
    ∧ win0_16.index t = ![t.val, 0] ∧ win0_17.index t = ![t.val, 0] := by decide +kernel

include H

theorem dz_array : (dats m 0 c).arrAt 13 cfg0.N = fun j : S4x4096x1024.Idx => outDz D (j 0) (j 1) (j 2) := by
  refine (dats m 0 c).arrAt_eq_of_covers 13 _ (by decide +kernel) fun t hf y => ?_
  blk_simp
  rw [show (dats m 0 c).after 13 t = dzA (ins m c t) by dsimp only [dats]]
  obtain ⟨j, i, k, rfl⟩ : ∃ (j : Fin 4) (i : Fin 256) (k : Fin 1024), y = ix3 j i k := ⟨y 0, y 1, y 2, eq_ix3 y⟩
  have e0 : (win0_13.blk t).view.emb (ix3 j i k) 0 = j := Fin.ext (by blk_simp [spots t])
  have e1 : (win0_13.blk t).view.emb (ix3 j i k) 1 = rowAt t i := Fin.ext (by blk_simp [spots t]; exact congrArg (· + i.val) (Nat.mul_comm _ _))
  have e2 : (win0_13.blk t).view.emb (ix3 j i k) 2 = k := Fin.ext (by blk_simp [spots t])
  rw [e0, e1, e2]
  exact dz_block (holds m c H t) j i k

theorem dq_array : (dats m 0 c).arrAt 14 cfg0.N = fun j : S8x4096x128.Idx => outDq D (j 0) (j 1) (j 2) := by
  refine (dats m 0 c).arrAt_eq_of_covers 14 _ (by decide +kernel) fun t hf y => ?_
  blk_simp
  rw [show (dats m 0 c).after 14 t = dqA (ins m c t) by dsimp only [dats]]
  obtain ⟨j, i, k, rfl⟩ : ∃ (j : Fin 8) (i : Fin 256) (k : Fin 128), y = ix3 j i k := ⟨y 0, y 1, y 2, eq_ix3 y⟩
  have e0 : (win0_14.blk t).view.emb (ix3 j i k) 0 = j := Fin.ext (by blk_simp [spots t])
  have e1 : (win0_14.blk t).view.emb (ix3 j i k) 1 = rowAt t i := Fin.ext (by blk_simp [spots t]; exact congrArg (· + i.val) (Nat.mul_comm _ _))
  have e2 : (win0_14.blk t).view.emb (ix3 j i k) 2 = k := Fin.ext (by blk_simp [spots t])
  rw [e0, e1, e2]
  exact dq_block (holds m c H t) j i k

theorem dx_array : (dats m 0 c).arrAt 15 cfg0.N = fun j : S4096x1024.Idx => outDx D (j 0) (j 1) := by
  refine (dats m 0 c).arrAt_eq_of_covers 15 _ (by decide +kernel) fun t hf y => ?_
  blk_simp
  rw [show (dats m 0 c).after 15 t = dxA (ins m c t) by dsimp only [dats]]
  obtain ⟨i, k, rfl⟩ : ∃ (i : Fin 256) (k : Fin 1024), y = ix2 i k := ⟨y 0, y 1, eq_ix2 y⟩
  have e0 : (win0_15.blk t).view.emb (ix2 i k) 0 = rowAt t i := Fin.ext (by blk_simp [spots t]; exact congrArg (· + i.val) (Nat.mul_comm _ _))
  have e1 : (win0_15.blk t).view.emb (ix2 i k) 1 = k := Fin.ext (by blk_simp [spots t])
  rw [e0, e1]
  exact is_glue (dx_is (holds m c H t)) i k

theorem yc_array : (dats m 0 c).arrAt 16 cfg0.N = fun j : S4096x2048.Idx => outYc D (j 0) (j 1) := by
  refine (dats m 0 c).arrAt_eq_of_covers 16 _ (by decide +kernel) fun t hf y => ?_
  blk_simp
  rw [show (dats m 0 c).after 16 t = ycA (ins m c t) by dsimp only [dats]]
  obtain ⟨i, k, rfl⟩ : ∃ (i : Fin 256) (k : Fin 2048), y = ix2 i k := ⟨y 0, y 1, eq_ix2 y⟩
  have e0 : (win0_16.blk t).view.emb (ix2 i k) 0 = rowAt t i := Fin.ext (by blk_simp [spots t]; exact congrArg (· + i.val) (Nat.mul_comm _ _))
  have e1 : (win0_16.blk t).view.emb (ix2 i k) 1 = k := Fin.ext (by blk_simp [spots t])
  rw [e0, e1]
  exact yc_is (holds m c H t) i k

theorem dy_array : (dats m 0 c).arrAt 17 cfg0.N = fun j : S4096x1024.Idx => outDy D (j 0) (j 1) := by
  refine (dats m 0 c).arrAt_eq_of_covers 17 _ (by decide +kernel) fun t hf y => ?_
  blk_simp
  rw [show (dats m 0 c).after 17 t = dyA (ins m c t) by dsimp only [dats]]
  obtain ⟨i, k, rfl⟩ : ∃ (i : Fin 256) (k : Fin 1024), y = ix2 i k := ⟨y 0, y 1, eq_ix2 y⟩
  have e0 : (win0_17.blk t).view.emb (ix2 i k) 0 = rowAt t i := Fin.ext (by blk_simp [spots t]; exact congrArg (· + i.val) (Nat.mul_comm _ _))
  have e1 : (win0_17.blk t).view.emb (ix2 i k) 1 = k := Fin.ext (by blk_simp [spots t])
  rw [e0, e1]
  exact dy_block (holds m c H t) i k

theorem dws_array : (dats m 0 c).arrAt 18 cfg0.N = fun j : S8x128x128.Idx => outDws D (j 0) (j 1) (j 2) := by
  refine (dats m 0 c).arrAt_eq_of_after_last 18 t0_15 (by decide +kernel) _ fun j => ?_
  blk_simp
  refine Eq.trans ?_ (dws_total m c H (j 0) (j 1) (j 2))
  rw [show (dats m 0 c).after 18 t0_15 = dwC m c (t0_15.val + 1) by dsimp only [dats]]
  exact congrArg (dwC m c cfg0.N) (eq_ix3 (n0 := 8) (n1 := 128) (n2 := 128) j)

theorem sm_array : (dats m 0 c).arrAt 19 cfg0.N = fun j : S8x1024.Idx => outSums D (j 0) (j 1) := by
  refine (dats m 0 c).arrAt_eq_of_after_last 19 t0_15 (by decide +kernel) _ fun j => ?_
  blk_simp
  refine Eq.trans ?_ (sm_total m c H (j 0) (j 1))
  rw [show (dats m 0 c).after 19 t0_15 = smOf (accC m c (t0_15.val + 1)) by dsimp only [dats]]
  exact congrArg (smOf (accC m c cfg0.N)) (eq_ix2 (n0 := 8) (n1 := 1024) j)

theorem db_array : (dats m 0 c).arrAt 20 cfg0.N = fun j : S128x128.Idx => outDbs D (j 0) (j 1) := by
  refine (dats m 0 c).arrAt_eq_of_after_last 20 t0_15 (by decide +kernel) _ fun j => ?_
  blk_simp
  refine Eq.trans ?_ (db_total m c H (j 0) (j 1))
  rw [show (dats m 0 c).after 20 t0_15 = dbOut (dbaC m c (t0_15.val + 1)) by dsimp only [dats]]
  exact congrArg (dbOut (dbaC m c cfg0.N)) (eq_ix2 (n0 := 128) (n1 := 128) j)

omit H

/-- Over the extended reals every run ends with the results, too. -/
theorem run_values (m : (ℓ : Loc nD τ sig) → Buf (Elt Ideal) ℓ) (ρ : Dev nD → PrngReg) {D : Dev nD → Data} (H : ∀ c, Holding m c (D c)) :
    θ_run defs (onTc (τ := τ) (main (F := Ideal))) ⟨m, fun _ => 0, ρ⟩ fun r => ∀ c : Dev nD,
      left r c main_v17_0 = (fun j => outDz (D c) (j 0) (j 1) (j 2))
      ∧ left r c main_v17_1 = (fun j => outDq (D c) (j 0) (j 1) (j 2))
      ∧ left r c main_v17_2 = (fun j => outDx (D c) (j 0) (j 1))
      ∧ left r c main_v17_3 = (fun j => outYc (D c) (j 0) (j 1))
      ∧ left r c main_v17_4 = (fun j => outDy (D c) (j 0) (j 1))
      ∧ left r c main_v17_5 = (fun j => outDws (D c) (j 0) (j 1) (j 2))
      ∧ left r c main_v17_6 = (fun j => outSums (D c) (j 0) (j 1))
      ∧ left r c main_v17_7 = (fun j => outDbs (D c) (j 0) (j 1))
      ∧ Kept m r.2.mem c :=
  (θ_run defs _ _).mono (fun r h c => ⟨((h.1 c).1 13).trans (dz_array m c (H c)), ((h.1 c).1 14).trans (dq_array m c (H c)),
    ((h.1 c).1 15).trans (dx_array m c (H c)), ((h.1 c).1 16).trans (yc_array m c (H c)), ((h.1 c).1 17).trans (dy_array m c (H c)),
    ((h.1 c).1 18).trans (dws_array m c (H c)), ((h.1 c).1 19).trans (sm_array m c (H c)), ((h.1 c).1 20).trans (db_array m c (H c)),
    kept_args m r h.1 c⟩) (run_main m ρ)

end Cert.Middle

end
-- ==== Proof.Middle.HostVec.lean ====
/- What the reference's functions on vectors make of arrays whose entries are real. -/
module

public import proofs.«01_k».proof.Proof.Middle.Vectors
public import proofs.«01_k».proof.Proof.Middle.Given
public import proofs.«01_k».proof.Proof.Gen.Reference2Ideal.Run

@[expose] public section

noncomputable section

namespace Cert.Middle.Ref

open Idealize.ShloMosaic Cert.Reference2Ideal Cert.Reference2Ideal.Gen Cert.Hand Cert.Middle
open Cert.Reference2Ideal.Facts

/-- An array of all tokens, and a column of them. -/
abbrev Full : Type := FVec Ideal S4096x1024 .f32
abbrev Col : Type := FVec Ideal S4096x1 .f32

theorem is_all {a b : ℕ} {v : (⟨2, ![a, b]⟩ : Shape).Idx → EReal} {f : ℕ → Fin b → ℝ} (h : ∀ i k, v (ix2 i k) = (f i.val k : EReal)) : Is 0 v f :=
  fun i k => (h i k).trans (congrArg (fun n => (f n k : EReal)) (Nat.zero_add _).symm)

theorem at_all {a b : ℕ} {v : (⟨2, ![a, b]⟩ : Shape).Idx → EReal} {f : ℕ → Fin b → ℝ} (h : Is 0 v f) (i : Fin a) (k : Fin b) : v (ix2 i k) = (f i.val k : EReal) :=
  (h i k).trans (congrArg (fun n => (f n k : EReal)) (Nat.zero_add _))

theorem half_eq : Ideal.ofBits .f32 0x3F000000#32 = ((1 / 2 : ℝ) : EReal) := by
  simp [Ideal.ofBits, Ideal.ieee, -EReal.coe_mul]; norm_num
theorem lessHalf_eq : Ideal.ofBits .f32 0xBF000000#32 = ((-(1 / 2) : ℝ) : EReal) := by
  simp [Ideal.ofBits, Ideal.ieee, -EReal.coe_mul, -EReal.coe_neg]; norm_num

def lit (b : BitVec 32) : Full := broadcastInDim S4096x1024 ![] bcast_S_S4096x1024 (constant S_ .f32 b)
def litC (b : BitVec 32) : Col := broadcastInDim S4096x1 ![] bcast_S_S4096x1 (constant S_ .f32 b)
def across (c : Col) : Full := broadcastInDim S4096x1024 ![0, 1] bcast_S4096x1_S4096x1024_0_1 c
def spread (r : FVec Ideal S1x1024 .f32) : Full := broadcastInDim S4096x1024 ![0, 1] bcast_S1x1024_S4096x1024_0_1 r
def asRow (r : FVec Ideal S1024 .f32) : FVec Ideal S1x1024 .f32 := broadcastInDim S1x1024 ![1] bcast_S1024_S1x1024_1 r
def sumOf (v : Full) : FVec Ideal S4096 .f32 := Host.reduceAdd v (constant S_ .f32 0x00000000#32) reducesTo_S4096x1024_S4096_d1 h_S_
def mean (v : Full) : Col := Host.divf (broadcastInDim S4096x1 ![0] bcast_S4096_S4096x1_0 (sumOf v)) (litC 0x44800000#32)
def varOf (v : Full) : Col := addf (mean (mulf v v)) (litC 0x358637BD#32)
def logistic (v : Full) : Full := Host.divf (lit 0x3F800000#32) (addf (lit 0x3F800000#32) (Host.exp (Host.negf v)))
/-- The gradient of `x * sigm x`, as the sum of its two parts. -/
def dsilu (v d s : Full) : Full := addf (mulf d s) (mulf (mulf v d) (mulf s (subf (lit 0x3F800000#32) s)))
def column (v : Full) : Col := shapeCast S4096x1 (sumOf v) shapeCasts_S4096_S4096x1
def level (c : Col) : Full := broadcastInDim S4096x1024 ![0] bcast_S4096_S4096x1024_0 (Host.reduceAdd c (constant S_ .f32 0x00000000#32) reducesTo_S4096x1_S4096_d1 h_S_)
def pushed (v d : Full) (r p : Col) : Full :=
  level (Host.divf (mulf (column (mulf v d)) (mulf (litC 0xBF000000#32) (Host.divf r p))) (litC 0x44800000#32))
def meant (v w : Full) : Full := level (Host.divf (addf (column (Host.negf v)) (column (Host.negf w))) (litC 0x44800000#32))

variable {v w d s : Full} {f g e : ℕ → Row} {c b : Col} {x y : ℕ → ℝ} {p : FVec Ideal S1x1024 .f32} {r : Row}

theorem is_lit (b : BitVec 32) (x : ℝ) (h : Ideal.ofBits .f32 b = (x : EReal)) : Is 0 (lit b) fun _ _ => x := fun i k => by
  unfold lit
  pointwise
  exact h

theorem is_litC (b : BitVec 32) (x : ℝ) (h : Ideal.ofBits .f32 b = (x : EReal)) : Is 0 (litC b) fun _ _ => x := fun i k => by
  unfold litC
  pointwise
  exact h

theorem is_across (h : Is 0 c fun n _ => x n) : Is 0 (across c) fun n _ => x n := is_all fun i k => by
  unfold across
  pointwise
  exact at_all h i 0

theorem is_spread (h : IsRow p r) : Is 0 (spread p) fun _ => r := fun i k => by
  unfold spread
  pointwise
  exact h k

theorem is_asRow {q : FVec Ideal S1024 .f32} (h : ∀ k : Fin 1024, q (ix1 k) = (r k : EReal)) : IsRow (asRow q) r := fun k => by
  unfold asRow
  pointwise
  exact h k

theorem sum_is (h : Is 0 v f) (i : Fin 4096) : sumOf v (ix1 i) = ((∑ k, f i.val k : ℝ) : EReal) := by
  unfold sumOf
  pointwise
  rw [← coe_sum]
  exact Finset.sum_congr (M := EReal) rfl fun k _ => at_all h i k

theorem is_mean (h : Is 0 v f) : Is 0 (mean v) fun n _ => avg (f n) := is_all fun i k => by
  unfold mean litC
  pointwise
  refine (congrArg₂ Ideal.div (sum_is h i) width_eq).trans (div_coe _ _ (by norm_num))

theorem is_less (h : Is 0 v f) : Is 0 (subf v (across (mean v))) fun n => less (f n) := h.sub (is_across (is_mean h))

theorem is_varOf (h : Is 0 v f) : Is 0 (varOf v) fun n _ => power (f n) := (is_mean (h.mul h)).add (is_litC _ _ tiny_eq)

theorem is_root (h : Is 0 c fun n _ => power (f n)) : Is 0 (Host.rsqrt c : Col) fun n _ => root (f n) := fun i k =>
  (congrArg Ideal.rsqrt (h i k)).trans (rsqrt_coe _ (power_pos _))

theorem is_logistic (h : Is 0 v f) : Is 0 (logistic v) fun n k => sigm (f n k) := is_all fun i k => by
  unfold logistic lit
  pointwise
  rw [at_all h i k]
  exact sigm_coe _

theorem is_dsilu (h : Is 0 v f) (hd : Is 0 d g) (hs : Is 0 s fun n k => sigm (f n k)) : Is 0 (dsilu v d s) fun n k => g n k * slope (f n k) :=
  ((hd.mul hs).add ((h.mul hd).mul (hs.mul ((is_lit _ 1 one_eq).sub hs)))).congr fun n k => by
    unfold slope
    ring

theorem is_column (h : Is 0 v f) : Is 0 (column v) fun n _ => ∑ k, f n k := is_all fun i k => by
  unfold column
  pointwise
  exact sum_is h i

theorem is_level (h : Is 0 c fun n _ => x n) : Is 0 (level c) fun n _ => x n := is_all fun i k => by
  unfold level
  pointwise
  simp only [Fin.sum_univ_one, Finset.univ_unique, Finset.sum_singleton]
  exact at_all h i 0

theorem is_neg (h : Is 0 v f) : Is 0 (Host.negf v : Full) fun n k => -f n k := fun i k => (congrArg (fun q : EReal => -q) (h i k)).trans (EReal.coe_neg _).symm

theorem is_div (h : Is 0 c fun n _ => x n) (hb : Is 0 b fun n _ => y n) (hy : ∀ n, y n ≠ 0) : Is 0 (Host.divf c b : Col) fun n _ => x n / y n :=
  fun i k => (congrArg₂ Ideal.div (h i k) (hb i k)).trans (div_coe _ _ (hy _))

theorem is_pushed (h : Is 0 v f) (hd : Is 0 d g) (hc : Is 0 c fun n _ => root (f n)) (hb : Is 0 b fun n _ => power (f n)) :
    Is 0 (pushed v d c b) fun n _ => push (f n) (g n) :=
  is_level (is_div ((is_column (h.mul hd)).mul ((is_litC _ _ lessHalf_eq).mul (is_div hc hb fun n => (power_pos _).ne'))) (is_litC _ _ width_eq) fun _ => by norm_num)

theorem is_meant (h : Is 0 v f) (hw : Is 0 w g) : Is 0 (meant v w) fun n _ => ((∑ k, -f n k) + ∑ k, -g n k) / 1024 :=
  is_level (is_div ((is_column (is_neg h)).add (is_column (is_neg hw))) (is_litC _ _ width_eq) fun _ => by norm_num)

end Cert.Middle.Ref

end
-- ==== Proof.Middle.RefForward.lean ====
/- The reference's forward pass, over the reals. -/
module

public import proofs.«01_k».proof.Proof.Middle.HostVec

@[expose] public section

noncomputable section

namespace Cert.Middle.Ref

open Idealize.ShloMosaic Cert.Reference2Ideal Cert.Reference2Ideal.Gen Cert.Reference2Ideal.Value Cert.Hand Cert.Middle
open Cert.Reference2Ideal.Facts

/-- The arguments hold the data. -/
def Hold (V : Valuation τ sig (Elt Ideal)) (D : Data) : Prop :=
  Given D (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11)) (V (Proc.devRef .tc main_arg12))

variable {V : Valuation τ sig (Elt Ideal)} {D : Data} (H : Hold V D)
include H

theorem x_is : Is 0 (V (Proc.devRef .tc main_arg0) : Full) D.x := is_all H.x
theorem q_is : Is 0 (V (Proc.devRef .tc main_arg2) : Full) D.q := is_all H.q
theorem tg_is : Is 0 (V (Proc.devRef .tc main_arg3) : Full) D.tg := is_all H.tg

theorem z_at (j : Fin 4) (n : Fin 4096) (k : Fin 1024) (e : Fin 6144) (h : e.val = 2048 + (1024 * j.val + k.val)) :
    (V (Proc.devRef .tc main_arg1) : S4096x6144.Idx → EReal) (ix2 n e) = (D.z j n.val k : EReal) := by
  exact (congrArg (fun q => V (Proc.devRef .tc main_arg1) (ix2 n q)) (Fin.ext h)).trans (H.z j n k)

theorem v4_is : Is 0 (res_main_v4 V : Full) (D.z 0) := is_all fun i k => by
  unfold res_main_v4 res_main_v3
  pointwise
  exact z_at H 0 i k _ (by dsimp only; simp)

theorem v5_is : Is 0 (res_main_v5 V : Full) (D.z 1) := is_all fun i k => by
  unfold res_main_v5 res_main_v3
  pointwise
  exact z_at H 1 i k _ (by dsimp only; simp)

theorem v6_is : Is 0 (res_main_v6 V : Full) (D.z 2) := is_all fun i k => by
  unfold res_main_v6 res_main_v3
  pointwise
  exact z_at H 2 i k _ (by dsimp only; simp)

theorem v7_is : Is 0 (res_main_v7 V : Full) (D.z 3) := is_all fun i k => by
  unfold res_main_v7 res_main_v3
  pointwise
  exact z_at H 3 i k _ (by dsimp only; simp)

/-! ## The norms -/

theorem v13_is : Is 0 (res_main_v13 V : Full) fun n => less (D.q n) := is_less (q_is H)
theorem v22_is : Is 0 (res_main_v22 V : Full) fun n => less (D.q n) := is_less (q_is H)
theorem v24_is : Is 0 (res_main_v24 V : Col) fun n _ => power (less (D.q n)) := is_varOf (v13_is H)
theorem v25_is : Is 0 (res_main_v25 V : Col) fun n _ => root (less (D.q n)) := is_root (v24_is H)
theorem v30_is : Is 0 (res_main_v30 V : Full) fun n => unit (D.q n) := (v22_is H).mul (is_across (v25_is H))
theorem v31_is : IsRow (res_main_v31 V) D.cg := is_asRow H.cg
theorem v36_is : Is 0 (res_main_v36 V : Full) D.ln := ((v30_is H).mul (is_spread (v31_is H))).add (is_spread (is_asRow H.cb))
theorem v37_2_is : Is 0 (res_main_v37_2 V : Full) fun n k => sigm (D.ln n k) := is_logistic (v36_is H)
theorem v37_0_is : Is 0 (res_main_v37_0 V : Full) fun n k => D.ln n k * sigm (D.ln n k) := (v36_is H).mul (v37_2_is H)
theorem v38_2_is : Is 0 (res_main_v38_2 V : Full) fun n k => sigm (D.z 0 n k) := is_logistic (v4_is H)
theorem v38_0_is : Is 0 (res_main_v38_0 V : Full) fun n k => D.z 0 n k * sigm (D.z 0 n k) := (v4_is H).mul (v38_2_is H)
theorem v45_is : Is 0 (res_main_v45 V : Full) fun n => less (D.z 2 n) := is_less (v6_is H)
theorem v54_is : Is 0 (res_main_v54 V : Full) fun n => less (D.z 2 n) := is_less (v6_is H)
theorem v56_is : Is 0 (res_main_v56 V : Col) fun n _ => power (less (D.z 2 n)) := is_varOf (v45_is H)
theorem v57_is : Is 0 (res_main_v57 V : Col) fun n _ => root (less (D.z 2 n)) := is_root (v56_is H)
theorem v62_is : Is 0 (res_main_v62 V : Full) fun n => unit (D.z 2 n) := (v54_is H).mul (is_across (v57_is H))
theorem v63_is : IsRow (res_main_v63 V) D.sg := is_asRow H.sg

/-! ## The mixing -/

theorem v69_at (r : Fin 32) (j : Fin 128) (h : Fin 8) (e : Fin 128) :
    (res_main_v69 V : S32x128x8x128.Idx → EReal) (ix4 r j h e) = (D.vl (128 * r.val + j.val) (chOf h e) : EReal) := by
  have hv : Is 0 (addf (mulf (res_main_v62 V) (spread (res_main_v63 V))) (spread (asRow (V (Proc.devRef .tc main_arg7)))) : Full) D.vl :=
    ((v62_is H).mul (is_spread (v63_is H))).add (is_spread (is_asRow H.sb))
  have e1 : (⟨r.val * 128 + j.val, by omega⟩ : Fin 4096) = ⟨128 * r.val + j.val, by omega⟩ := Fin.ext (by dsimp only; omega)
  have e2 : (⟨h.val * 128 + e.val, by omega⟩ : Fin 1024) = chOf h e := Fin.ext (by unfold chOf; dsimp only; omega)
  refine Eq.trans ?_ (at_all hv ⟨128 * r.val + j.val, by omega⟩ (chOf h e))
  rw [← e1, ← e2]
  unfold res_main_v69 spread asRow
  pointwise

theorem v76_is : Is 0 (res_main_v76 V : Full) D.vm := is_all fun n k => by
  have e1 : chOf ⟨k.val / 128, by omega⟩ ⟨k.val % 128, by omega⟩ = k := Fin.ext (by unfold chOf; dsimp only; omega)
  unfold res_main_v76
  pointwise
  unfold Data.vm
  rw [EReal.coe_add, ← coe_sum]
  refine congrArg₂ (· + ·) (Finset.sum_congr (M := EReal) rfl fun j _ => ?_) (H.bs _ _)
  rw [EReal.coe_mul, mul_comm]
  exact congrArg₂ (· * ·) (H.ws _ _ j) ((v69_at H _ j _ _).trans (congrArg (fun q => (D.vl (128 * (n.val / 128) + j.val) q : EReal)) e1))

theorem v77_is : Is 0 (res_main_v77 V : Full) fun n k => D.z 1 n k * D.vm n k := (v5_is H).mul (v76_is H)
theorem v78_2_is : Is 0 (res_main_v78_2 V : Full) fun n k => sigm (D.z 3 n k) := is_logistic (v7_is H)
theorem v78_0_is : Is 0 (res_main_v78_0 V : Full) fun n k => D.z 3 n k * sigm (D.z 3 n k) := (v7_is H).mul (v78_2_is H)

/-! ## The projection and the loss -/

theorem v80_is : Is 0 (res_main_v80 V : FVec Ideal S4096x2048 .f32) D.yc := is_all fun i e => by
  have ha := (v37_0_is H).mul (v38_0_is H)
  have hb := (v77_is H).mul (v78_0_is H)
  unfold res_main_v80
  pointwise
  unfold Data.yc
  by_cases h : e.val < 1024
  · rw [dif_pos h, dif_pos h]
    exact at_all ha i _
  · rw [dif_neg h, dif_neg h]
    exact at_all hb i _

theorem v81_is : Is 0 (res_main_v81 V : Full) D.y := is_all fun i k => by
  unfold res_main_v81
  pointwise
  unfold Data.y
  rw [← coe_sum]
  refine Finset.sum_congr (M := EReal) rfl fun e _ => ?_
  rw [EReal.coe_mul]
  exact congrArg₂ (· * ·) (at_all (v80_is H) i e) (H.wo e k)

theorem v82_is : IsRow (res_main_v82 V) D.gm := is_asRow fun k => by
  pointwise
  exact H.gm k

theorem v85_is : Is 0 (res_main_v85 V : Full) D.x2 := (x_is H).add ((is_spread (v82_is H)).mul (v81_is H))
theorem v92_is : Is 0 (res_main_v92 V : Col) fun n _ => power (D.x2 n) := is_varOf (v85_is H)
theorem v93_is : Is 0 (res_main_v93 V : Col) fun n _ => root (D.x2 n) := is_root (v92_is H)
theorem v98_is : Is 0 (res_main_v98 V : Full) fun n => scaled (D.x2 n) := (v85_is H).mul (is_across (v93_is H))
theorem v99_is : IsRow (res_main_v99 V) D.fg := is_asRow H.fg
theorem v102_is : Is 0 (res_main_v102 V : Full) D.err := ((v98_is H).mul (is_spread (v99_is H))).sub (tg_is H)
theorem v103_is : Is 0 (res_main_v103 V : Full) fun n k => D.err n k * D.err n k := (v102_is H).mul (v102_is H)

end Cert.Middle.Ref

end
-- ==== Proof.Middle.RefBack.lean ====
/- The reference's gradients, over the reals. -/
module

public import proofs.«01_k».proof.Proof.Middle.RefForward

@[expose] public section

noncomputable section

namespace Cert.Middle.Ref

open Idealize.ShloMosaic Cert.Reference2Ideal Cert.Reference2Ideal.Gen Cert.Reference2Ideal.Value Cert.Hand Cert.Middle
open Cert.Reference2Ideal.Facts

variable {V : Valuation τ sig (Elt Ideal)} {D : Data} (H : Hold V D)
include H

/-! ## The loss and the projection -/

theorem v116_is : Is 0 (res_main_v116 V : Full) D.dout := by
  have hl : Is 0 (broadcastInDim S4096x1024 ![0] bcast_S4096_S4096x1024_0 (Host.divf (broadcastInDim S4096 ![] bcast_S_S4096 (mulf (constant S_ .f32 0x3F000000#32) (constant S_ .f32 0x3F800000#32)))
      (broadcastInDim S4096 ![] bcast_S_S4096 (constant S_ .f32 0x44800000#32))) : Full) fun _ _ => 1 / 2 / 1024 := fun i k => by
    pointwise
    exact (congrArg₂ Ideal.div half_eq width_eq).trans (div_coe _ _ (by norm_num))
  exact (hl.mul ((is_lit _ 2 two_eq).mul (v102_is H))).congr fun n k => by
    unfold Data.dout
    ring

theorem v121_is : Is 0 (res_main_v121 V : Full) fun n k => D.dout n k * D.fg k := (v116_is H).mul (is_spread (v99_is H))
theorem v132_is : Is 0 (res_main_v132 V : Full) fun n _ => push (D.x2 n) fun k => D.dout n k * D.fg k :=
  is_pushed (v85_is H) (v121_is H) (v93_is H) (v92_is H)
theorem v136_is : Is 0 (res_main_v136 V : Full) D.dx :=
  ((((v121_is H).mul (is_across (v93_is H))).add ((v85_is H).mul (v132_is H))).add ((v132_is H).mul (v85_is H))).congr fun n k => thru_eq (D.x2 n) (fun e => D.dout n e * D.fg e) k
theorem v138_is : Is 0 (res_main_v138 V : Full) D.dy := ((is_spread (v82_is H)).mul (v136_is H)).congr fun _ _ => mul_comm _ _

theorem v143_is : Is 0 (res_main_v143 V : FVec Ideal S4096x2048 .f32) D.dyc := is_all fun i e => by
  unfold res_main_v143
  pointwise
  unfold Data.dyc
  rw [← coe_sum]
  refine Finset.sum_congr (M := EReal) rfl fun k _ => ?_
  rw [EReal.coe_mul]
  exact congrArg₂ (· * ·) (at_all (v138_is H) i k) (H.wo e k)

theorem v144_is : Is 0 (res_main_v144 V : Full) D.dl := is_all fun i k => by
  unfold res_main_v144
  pointwise
  exact (at_all (v143_is H) i _).trans (congrArg (fun q => (D.dyc i.val q : EReal)) (Fin.ext (by simp)))
theorem v145_is : Is 0 (res_main_v145 V : Full) D.dh := is_all fun i k => by
  unfold res_main_v145
  pointwise
  exact at_all (v143_is H) i _

/-! ## The gates and the mixing -/

theorem v146_is : Is 0 (res_main_v146 V : Full) fun n k => D.z 1 n k * D.vm n k * D.dh n k := (v77_is H).mul (v145_is H)
theorem v147_is : Is 0 (res_main_v147 V : Full) fun n k => D.dh n k * (D.z 3 n k * sigm (D.z 3 n k)) := (v145_is H).mul (v78_0_is H)

theorem v151_at (r : Fin 32) (j : Fin 128) (h : Fin 8) (e : Fin 128) :
    (res_main_v151 V : S32x128x8x128.Idx → EReal) (ix4 r j h e) = (D.dm (128 * r.val + j.val) (chOf h e) : EReal) := by
  have hv : Is 0 (mulf (res_main_v5 V) (res_main_v147 V) : Full) D.dm := ((v5_is H).mul (v147_is H)).congr fun n k => by
    unfold Data.dm
    ring
  have e1 : (⟨r.val * 128 + j.val, by omega⟩ : Fin 4096) = ⟨128 * r.val + j.val, by omega⟩ := Fin.ext (by dsimp only; omega)
  have e2 : (⟨h.val * 128 + e.val, by omega⟩ : Fin 1024) = chOf h e := Fin.ext (by unfold chOf; dsimp only; omega)
  refine Eq.trans ?_ (at_all hv ⟨128 * r.val + j.val, by omega⟩ (chOf h e))
  rw [← e1, ← e2]
  unfold res_main_v151
  pointwise

theorem v160_is : Is 0 (res_main_v160 V : Full) D.dvl := is_all fun n k => by
  have e1 : chOf ⟨k.val / 128, by omega⟩ ⟨k.val % 128, by omega⟩ = k := Fin.ext (by unfold chOf; dsimp only; omega)
  unfold res_main_v160 res_main_v156
  pointwise
  unfold Data.dvl
  rw [← coe_sum]
  refine Finset.sum_congr (M := EReal) rfl fun j _ => ?_
  rw [EReal.coe_mul, mul_comm]
  exact congrArg₂ (· * ·) (H.ws _ j _) ((v151_at H _ j _ _).trans (congrArg (fun q => (D.dm (128 * (n.val / 128) + j.val) q : EReal)) e1))

theorem v168_is : Is 0 (res_main_v168 V : Full) fun n k => D.dvl n k * D.sg k := (v160_is H).mul (is_spread (v63_is H))
theorem v174_is : Is 0 (res_main_v174 V : Full) fun n k => D.dvl n k * D.sg k * root (less (D.z 2 n)) := (v168_is H).mul (is_across (v57_is H))
theorem v183_is : Is 0 (res_main_v183 V : Full) fun n k => push (less (D.z 2 n)) (fun e => D.dvl n e * D.sg e) * (2 * less (D.z 2 n) k) :=
  (is_pushed (v54_is H) (v168_is H) (v57_is H) (v56_is H)).mul ((is_lit _ 2 two_eq).mul (v45_is H))

/-! ## The other branch -/

theorem v194_is : Is 0 (res_main_v194 V : Full) fun n k => D.ln n k * sigm (D.ln n k) * D.dl n k := (v37_0_is H).mul (v144_is H)
theorem v195_is : Is 0 (res_main_v195 V : Full) fun n k => D.dl n k * (D.z 0 n k * sigm (D.z 0 n k)) := (v144_is H).mul (v38_0_is H)
theorem v197_is : Is 0 (res_main_v197 V : Full) D.dln := is_dsilu (v36_is H) (v195_is H) (v37_2_is H)
theorem v205_is : Is 0 (res_main_v205 V : Full) fun n k => D.dln n k * D.cg k := (v197_is H).mul (is_spread (v31_is H))
theorem v211_is : Is 0 (res_main_v211 V : Full) fun n k => D.dln n k * D.cg k * root (less (D.q n)) := (v205_is H).mul (is_across (v25_is H))
theorem v220_is : Is 0 (res_main_v220 V : Full) fun n k => push (less (D.q n)) (fun e => D.dln n e * D.cg e) * (2 * less (D.q n) k) :=
  (is_pushed (v22_is H) (v205_is H) (v25_is H) (v24_is H)).mul ((is_lit _ 2 two_eq).mul (v13_is H))

/-! ## The gradients at the projection's columns and at the convolution -/

theorem dz0_is : Is 0 (dsilu (res_main_v4 V) (res_main_v194 V) (res_main_v38_2 V)) (D.dz 0) :=
  (is_dsilu (v4_is H) (v194_is H) (v38_2_is H)).congr fun n k => congrArg (· * slope (D.z 0 n k)) (mul_comm _ _)
theorem dz1_is : Is 0 (mulf (res_main_v147 V) (res_main_v76 V) : Full) (D.dz 1) :=
  ((v147_is H).mul (v76_is H)).congr fun n k => mul_right_comm _ _ _
theorem dz2_is : Is 0 (addf (addf (res_main_v174 V) (res_main_v183 V)) (meant (res_main_v174 V) (res_main_v183 V)) : Full) (D.dz 2) :=
  (((v174_is H).add (v183_is H)).add (is_meant (v174_is H) (v183_is H))).congr fun n k => thru2_eq (D.z 2 n) (fun e => D.dvl n e * D.sg e) k
theorem dz3_is : Is 0 (dsilu (res_main_v7 V) (res_main_v146 V) (res_main_v78_2 V)) (D.dz 3) :=
  (is_dsilu (v7_is H) (v146_is H) (v78_2_is H)).congr fun n k => congrArg (· * slope (D.z 3 n k)) ((mul_comm _ _).trans (mul_assoc _ _ _).symm)
theorem dq_is : Is 0 (addf (addf (res_main_v211 V) (res_main_v220 V)) (meant (res_main_v211 V) (res_main_v220 V)) : Full) D.dq :=
  (((v211_is H).add (v220_is H)).add (is_meant (v211_is H) (v220_is H))).congr fun n k => thru2_eq (D.q n) (fun e => D.dln n e * D.cg e) k

end Cert.Middle.Ref

end
-- ==== Proof.Lib.OuterSum.lean ====
/- A sum over the first and the last of four axes. -/
module

public import Idealize.ShloMosaic.Lib.Pointwise

@[expose] public section

noncomputable section

namespace Cert.Hand

open Idealize.ShloMosaic

variable {n0 n1 n2 n3 : ℕ}

theorem drop_outer (h : (⟨4, ![n0, n1, n2, n3]⟩ : Shape).ReducesTo [0, 3] ⟨2, ![n1, n2]⟩) (r : Fin n0) (a a' : Fin n1) (b b' : Fin n2) (e : Fin n3) :
    h.drop (ix4 r a' b' e) = ix2 a b ↔ a' = a ∧ b' = b := by
  constructor
  · intro q
    exact ⟨Fin.ext (congrArg Fin.val (congrFun q 0)), Fin.ext (congrArg Fin.val (congrFun q 1))⟩
  · rintro ⟨rfl, rfl⟩
    funext k
    fin_cases k <;> rfl

theorem sum_outer (h : (⟨4, ![n0, n1, n2, n3]⟩ : Shape).ReducesTo [0, 3] ⟨2, ![n1, n2]⟩) (x : (⟨4, ![n0, n1, n2, n3]⟩ : Shape).Idx → EReal)
    (init : EReal) (a : Fin n1) (b : Fin n2) : Ideal.hostReduceAdd h x init (ix2 a b) = init + ∑ r, ∑ e, x (ix4 r a b e) := by
  refine congrArg (init + ·) ?_
  rw [Finset.sum_filter, sum_idx4]
  refine Finset.sum_congr rfl fun r _ => ?_
  rw [Finset.sum_eq_single a, Finset.sum_eq_single b]
  · exact Finset.sum_congr rfl fun e _ => if_pos ((drop_outer h r a a b b e).2 ⟨rfl, rfl⟩)
  · intro b' _ hb
    exact Finset.sum_eq_zero fun e _ => if_neg fun q => hb ((drop_outer h r a a b b' e).1 q).2
  · exact fun q => absurd (Finset.mem_univ _) q
  · intro a' _ ha
    exact Finset.sum_eq_zero fun b' _ => Finset.sum_eq_zero fun e _ => if_neg fun q => ha ((drop_outer h r a a' b b' e).1 q).1
  · exact fun q => absurd (Finset.mem_univ _) q

end Cert.Hand

end
-- ==== Proof.Middle.RefOut.lean ====
/- The reference's results. -/
module

public import proofs.«01_k».proof.Proof.Middle.RefBack
public import proofs.«01_k».proof.Proof.Lib.OuterSum
public import Idealize.ShloMosaic.Lib.Claim

@[expose] public section

noncomputable section

namespace Cert.Middle.Ref

open Idealize.ShloMosaic Idealize.ShloMosaic.TcCoe Idealize.SL.Sem Cert.Reference2Ideal Cert.Reference2Ideal.Gen Cert.Reference2Ideal.Value Cert.Hand Cert.Middle
open Cert.Reference2Ideal.Facts

/-- An array as one of several. -/
def layer (v : Full) : FVec Ideal S1x4096x1024 .f32 := broadcastInDim S1x4096x1024 ![1, 2] bcast_S4096x1024_S1x4096x1024_1_2 v
/-- The sums of the columns, as one of several rows. -/
def colSum (v : Full) : FVec Ideal S1024 .f32 :=
  Host.reduceAdd (shapeCast S1x1024 (Host.reduceAdd v (constant S_ .f32 0x00000000#32) reducesTo_S4096x1024_S1024_d0 h_S_) shapeCasts_S1024_S1x1024)
    (constant S_ .f32 0x00000000#32) reducesTo_S1x1024_S1024_d0 h_S_

theorem colSum_at {v : Full} {f : ℕ → Row} (h : Is 0 v f) (k : Fin 1024) : colSum v (ix1 k) = ((∑ n ∈ Finset.range 4096, f n k : ℝ) : EReal) := by
  unfold colSum
  pointwise
  simp only [Fin.sum_univ_one, Finset.univ_unique, Finset.sum_singleton]
  rw [Finset.sum_range, ← coe_sum]
  exact Finset.sum_congr (M := EReal) rfl fun n _ => at_all h n k

theorem plain_sum (D : Data) (q : Fin 8) (hq : q ≠ 6) (k : Fin 1024) (x : ℕ → ℝ) (h : ∀ n, x n = D.share q n k) :
    ((∑ n ∈ Finset.range 4096, x n : ℝ) : EReal) = outSums D q k := by
  unfold outSums Data.sums
  rw [if_neg hq, mul_one, Finset.sum_congr rfl fun n _ => h n]

variable {V : Valuation τ sig (Elt Ideal)} {D : Data} (H : Hold V D)
include H

theorem dz_out : (truncf .bf16 ((concatenate S4x4096x1024 0 [⟨S1x4096x1024, layer (dsilu (res_main_v4 V) (res_main_v194 V) (res_main_v38_2 V))⟩,
      ⟨S1x4096x1024, layer (mulf (res_main_v147 V) (res_main_v76 V))⟩,
      ⟨S1x4096x1024, layer (addf (addf (res_main_v174 V) (res_main_v183 V)) (meant (res_main_v174 V) (res_main_v183 V)))⟩,
      ⟨S1x4096x1024, layer (dsilu (res_main_v7 V) (res_main_v146 V) (res_main_v78_2 V))⟩]
      concatenates_S1x4096x1024_S1x4096x1024_S1x4096x1024_S1x4096x1024_S4x4096x1024_d0 : FVec Ideal S4x4096x1024 .f32)) bitsLt_bf16_f32 : S4x4096x1024.Idx → EReal)
    = fun j => outDz D (j 0) (j 1) (j 2) := by
  have h0 := dz0_is H
  have h1 := dz1_is H
  have h2 := dz2_is H
  have h3 := dz3_is H
  generalize dsilu (res_main_v4 V) (res_main_v194 V) (res_main_v38_2 V) = a0 at h0 ⊢
  generalize (mulf (res_main_v147 V) (res_main_v76 V) : Full) = a1 at h1 ⊢
  generalize (addf (addf (res_main_v174 V) (res_main_v183 V)) (meant (res_main_v174 V) (res_main_v183 V)) : Full) = a2 at h2 ⊢
  generalize dsilu (res_main_v7 V) (res_main_v146 V) (res_main_v78_2 V) = a3 at h3 ⊢
  funext j
  idx_vars j
  unfold layer
  pointwise
  fin_cases j0
  · exact at_all h0 j1 j2
  · exact at_all h1 j1 j2
  · exact at_all h2 j1 j2
  · exact at_all h3 j1 j2

theorem dq_out : (transpose S8x4096x128 [1, 0, 2] (shapeCast S4096x8x128 (addf (addf (res_main_v211 V) (res_main_v220 V)) (meant (res_main_v211 V) (res_main_v220 V)))
      shapeCasts_S4096x1024_S4096x8x128) transposes_S4096x8x128_S8x4096x128_1_0_2 : S8x4096x128.Idx → EReal) = fun j => outDq D (j 0) (j 1) (j 2) := by
  have h := dq_is H
  generalize (addf (addf (res_main_v211 V) (res_main_v220 V)) (meant (res_main_v211 V) (res_main_v220 V)) : Full) = a at h ⊢
  funext j
  idx_vars j
  pointwise
  exact (at_all h j1 _).trans (congrArg (fun q => (D.dq j1.val q : EReal)) (Fin.ext (congrArg (· + j2.val) (Nat.mul_comm _ _))))

theorem dx_out : (res_main_v136 V : S4096x1024.Idx → EReal) = fun j => outDx D (j 0) (j 1) := by
  funext j
  idx_vars j
  exact at_all (v136_is H) _ _

theorem yc_out : (truncf .bf16 (res_main_v80 V) bitsLt_bf16_f32 : S4096x2048.Idx → EReal) = fun j => outYc D (j 0) (j 1) := by
  funext j
  idx_vars j
  exact at_all (v80_is H) _ _

theorem dy_out : (truncf .bf16 (res_main_v138 V) bitsLt_bf16_f32 : S4096x1024.Idx → EReal) = fun j => outDy D (j 0) (j 1) := by
  funext j
  idx_vars j
  exact at_all (v138_is H) _ _

theorem dws_out : (Host.dotGeneral (φ₂ := .f32) dot_S8x32x128x128_S32x128x8x128_S8x128x128_12_03_3_1_0_2 none (res_main_v156 V) (res_main_v69 V) : S8x128x128.Idx → EReal)
    = fun j => outDws D (j 0) (j 1) (j 2) := by
  funext j
  idx_vars j
  unfold res_main_v156
  pointwise
  unfold outDws Data.dws
  rw [Finset.sum_range, ← coe_sum]
  refine Finset.sum_congr (M := EReal) rfl fun r _ => ?_
  rw [← coe_sum]
  refine Finset.sum_congr (M := EReal) rfl fun e _ => ?_
  rw [EReal.coe_mul]
  exact congrArg₂ (· * ·) (v151_at H r j1 j0 e) (v69_at H r j2 j0 e)

theorem sm_out : ((concatenate S8x1024 0 [⟨S1x1024, asRow (colSum (mulf (res_main_v98 V) (res_main_v116 V)))⟩, ⟨S1x1024, asRow (colSum (mulf (res_main_v136 V) (res_main_v81 V)))⟩,
      ⟨S1x1024, asRow (colSum (mulf (res_main_v30 V) (res_main_v197 V)))⟩, ⟨S1x1024, asRow (colSum (res_main_v197 V))⟩,
      ⟨S1x1024, asRow (colSum (mulf (res_main_v62 V) (res_main_v160 V)))⟩, ⟨S1x1024, asRow (colSum (res_main_v160 V))⟩,
      ⟨S1x1024, asRow (Host.divf (mulf (broadcastInDim S1024 ![] bcast_S_S1024 (constant S_ .f32 0x3F000000#32))
        (Host.reduceAdd (res_main_v103 V) (constant S_ .f32 0x00000000#32) reducesTo_S4096x1024_S1024_d0 h_S_)) (broadcastInDim S1024 ![] bcast_S_S1024 (constant S_ .f32 0x44800000#32)))⟩,
      ⟨S1x1024, asRow (broadcastInDim S1024 ![] bcast_S_S1024 (constant S_ .f32 0x00000000#32))⟩]
      concatenates_S1x1024_S1x1024_S1x1024_S1x1024_S1x1024_S1x1024_S1x1024_S1x1024_S8x1024_d0 : FVec Ideal S8x1024 .f32) : S8x1024.Idx → EReal)
    = fun j => outSums D (j 0) (j 1) := by
  have h0 := colSum_at ((v98_is H).mul (v116_is H))
  have h1 := colSum_at ((v136_is H).mul (v81_is H))
  have h2 := colSum_at ((v30_is H).mul (v197_is H))
  have h3 := colSum_at (v197_is H)
  have h4 := colSum_at ((v62_is H).mul (v160_is H))
  have h5 := colSum_at (v160_is H)
  generalize colSum (mulf (res_main_v98 V) (res_main_v116 V)) = a0 at h0 ⊢
  generalize colSum (mulf (res_main_v136 V) (res_main_v81 V)) = a1 at h1 ⊢
  generalize colSum (mulf (res_main_v30 V) (res_main_v197 V)) = a2 at h2 ⊢
  generalize colSum (res_main_v197 V) = a3 at h3 ⊢
  generalize colSum (mulf (res_main_v62 V) (res_main_v160 V)) = a4 at h4 ⊢
  generalize colSum (res_main_v160 V) = a5 at h5 ⊢
  have h6 : Is 0 (res_main_v103 V : Full) fun n k => D.err n k * D.err n k := v103_is H
  funext j
  idx_vars j
  unfold asRow
  pointwise
  fin_cases j0
  · exact (h0 j1).trans (plain_sum D 0 (by decide) j1 _ fun n => mul_comm _ _)
  · exact (h1 j1).trans (plain_sum D 1 (by decide) j1 _ fun n => rfl)
  · exact (h2 j1).trans (plain_sum D 2 (by decide) j1 _ fun n => mul_comm _ _)
  · exact (h3 j1).trans (plain_sum D 3 (by decide) j1 _ fun n => rfl)
  · exact (h4 j1).trans (plain_sum D 4 (by decide) j1 _ fun n => mul_comm _ _)
  · exact (h5 j1).trans (plain_sum D 5 (by decide) j1 _ fun n => rfl)
  · have e : (∑ n, res_main_v103 V (ix2 n j1) : EReal) = ((∑ n ∈ Finset.range 4096, D.err n j1 * D.err n j1 : ℝ) : EReal) := by
      rw [Finset.sum_range, ← coe_sum]
      exact Finset.sum_congr (M := EReal) rfl fun n _ => at_all h6 n j1
    refine (congrArg₂ Ideal.div ((congrArg₂ (· * ·) half_eq e).trans (EReal.coe_mul _ _).symm) width_eq).trans ((div_coe _ _ (by norm_num)).trans (congrArg _ ?_))
    unfold Data.sums
    rw [if_pos (by rfl)]
    change _ = (∑ n ∈ Finset.range 4096, D.err n j1 * D.err n j1) * (1 / 2048)
    ring
  · refine Eq.trans ?_ (plain_sum D 7 (by decide) j1 (fun _ => 0) fun n => rfl)
    rw [Finset.sum_const_zero]
    rfl

theorem db_out : (pad S128x128 ![0, 0] ![0, 120] ![0, 0] (transpose S128x8 [1, 0] (transpose S8x128 [1, 0] (Host.reduceAdd (shapeCast S1x128x8x1
      (Host.reduceAdd (res_main_v151 V) (constant S_ .f32 0x00000000#32) reducesTo_S32x128x8x128_S128x8_d0_3 h_S_) shapeCasts_S128x8_S1x128x8x1)
      (constant S_ .f32 0x00000000#32) reducesTo_S1x128x8x1_S128x8_d0_3 h_S_) transposes_S128x8_S8x128_1_0) transposes_S8x128_S128x8_1_0)
      (sitofp (F := Ideal) .f32 (constantI S_ 32 0#32)) pads_S128x8_S128x128_000_01200 h_S_ : S128x128.Idx → EReal) = fun j => outDbs D (j 0) (j 1) := by
  funext j
  idx_vars j
  pointwise
  unfold outDbs
  by_cases h : j1.val < 8
  · rw [dif_pos h, dif_pos h]
    refine (sum_outer _ _ _ _ _).trans ?_
    simp only [Fin.sum_univ_one, Finset.univ_unique, Finset.sum_singleton, zero_add]
    pointwise
    refine (sum_outer _ _ _ _ _).trans ?_
    unfold Data.dbs
    rw [zero_add, Finset.sum_range, ← coe_sum]
    refine Finset.sum_congr (M := EReal) rfl fun r _ => ?_
    rw [← coe_sum]
    exact Finset.sum_congr (M := EReal) rfl fun e _ => v151_at H r j0 _ e
  · rw [dif_neg h, dif_neg h]
    change (((0#32 : BitVec 32).toInt : ℝ) : EReal) = _
    simp

end Cert.Middle.Ref

end
-- ==== Proof.Middle.Equal.lean ====
/- Where the arguments are real, the kernel's results are the reference's. -/
module

public import proofs.«01_k».proof.Proof.BwdIn.Equal
public import proofs.«01_k».proof.Proof.Middle.Frames
public import proofs.«01_k».proof.Proof.Middle.Results
public import proofs.«01_k».proof.Proof.Middle.RefOut

@[expose] public section

noncomputable section

namespace Cert.Middle

open Idealize.ShloMosaic Idealize.ShloMosaic.TcCoe Idealize.SL.Sem

section
variable (m : (ℓ : Loc Cert.Kernel2Ideal.nD Cert.Kernel2Ideal.τ Cert.Kernel2Ideal.sig) → Buf (Elt Ideal) ℓ)

/-- Finite arguments hold some data. -/
theorem exists_holding (h : Cert.Pre_Kernel2Ideal_finite2 m) (c : Dev Cert.Kernel2Ideal.nD) : ∃ D, Holding m c D := by
  obtain ⟨hx, hz, hq, ht, hcg, hcb, hsg, hsb, hfg, hm, hws, hbs, hwo⟩ := h c
  refine exists_given (fun n k => BwdIn.real_of_lt _ (congrFun hx (ix2 n k))) (fun j n k => ?_)
    (fun n k => BwdIn.real_of_lt _ (congrFun hq (ix2 n k))) (fun n k => BwdIn.real_of_lt _ (congrFun ht (ix2 n k)))
    (fun k => BwdIn.real_of_lt _ (congrFun hcg (ix1 k))) (fun k => BwdIn.real_of_lt _ (congrFun hcb (ix1 k)))
    (fun k => BwdIn.real_of_lt _ (congrFun hsg (ix1 k))) (fun k => BwdIn.real_of_lt _ (congrFun hsb (ix1 k)))
    (fun k => BwdIn.real_of_lt _ (congrFun hfg (ix1 k))) (fun k => ?_)
    (fun a i j => BwdIn.real_of_lt _ (congrFun hws (ix3 a i j))) (fun a i => BwdIn.real_of_lt _ (congrFun hbs (ix2 a i)))
    (fun e k => BwdIn.real_of_lt _ (congrFun hwo (ix2 e k)))
  · obtain ⟨r, hr⟩ := BwdIn.real_of_lt _ (congrFun hz (ix2 n ⟨1024 * j.val + k.val, by omega⟩))
    refine ⟨r, Eq.trans ?_ hr⟩
    pointwise
  · obtain ⟨r, hr⟩ := BwdIn.real_of_lt _ (congrFun hm (ix1 k))
    refine ⟨r, Eq.trans ?_ hr⟩
    pointwise
end

theorem values : Cert.algebraic_Kernel2Ideal_Reference2Ideal_pre_finite2 := by
  intro m ρ m' ρ' hpre hargs
  choose D H using exists_holding m hpre
  have H' : ∀ c, Ref.Hold (StableHlo.launchContents m' c) (D c) := by
    intro c
    obtain ⟨a0, a1, a2, a3, a4, a5, a6, a7, a8, a9, a10, a11, a12⟩ := hargs c
    unfold Ref.Hold
    have h := H c
    unfold Holding arg at h
    rw [← a0, ← a1, ← a2, ← a3, ← a4, ← a5, ← a6, ← a7, ← a8, ← a9, ← a10, ← a11, ← a12] at h
    exact h
  refine ⟨_, _, _, _, _, _, _, _, run_values m ρ H, (θ_run Cert.Reference2Ideal.defs _ _).mono (fun r h c => ?_) (Cert.Reference2Ideal.Value.run m' ρ')⟩
  obtain ⟨h0, h1, h2, h3, h4, h5, h6, h7, hk⟩ := h c
  exact ⟨h0.trans (Ref.dz_out (H' c)), h1.trans (Ref.dq_out (H' c)), h2.trans (Ref.dx_out (H' c)), h3.trans (Ref.yc_out (H' c)),
    h4.trans (Ref.dy_out (H' c)), h5.trans (Ref.dws_out (H' c)), h6.trans (Ref.sm_out (H' c)), h7.trans (Ref.db_out (H' c)), hk⟩

end Cert.Middle

end
-- ==== Proof.ConvBack.Body.lean ====
/- The body of the convolution's backward kernel as a function on the contents of its blocks and its scratch array,
   written with the loops that the printed program spells out. `body_eq` says that the two are one program. -/
module

public import proofs.«01_k».proof.Proof.Gen.Kernel3Ideal
public import proofs.«01_k».proof.Proof.Lib.Mem

@[expose] public section

noncomputable section

namespace Cert.ConvBack

open Idealize.ShloMosaic Idealize.SL.Sem Cert.Kernel3Ideal Cert.Hand Cert.Hand.Mem
open K0.Facts₀ Shapes1.Facts₀ Shapes2.Facts₀

variable {F : FTy → Type} [FloatOps F]

/-- The body's memrefs: the gradient, the two factors, the weights, the result, and the padded gradient. -/
inductive Slot where
  | dq | sg | t2 | w | dz | pad
  deriving DecidableEq

instance : Fintype Slot := ⟨{.dq, .sg, .t2, .w, .dz, .pad}, fun b => by cases b <;> decide⟩

/-- Each memref's shape -/
@[reducible] def Slot.shape : Slot → Shape
  | .dq => S1x4096x128 | .sg => S1x4096x128 | .t2 => S1x4096x128 | .w => S1x32x128 | .dz => S1x2x4096x128 | .pad => S4128x128

/-- and element type. -/
@[reducible] def Slot.elt : Slot → EltTy
  | .dq => .f32 | .sg => .f32 | .t2 => .f32 | .w => .f32 | .dz => .bf16 | .pad => .f32

/-- The memrefs one run of the body is given. -/
abbrev Args : Type := (b : Slot) → Memref sig .tc .vmem b.shape b.elt

/-- They are one bank. -/
@[reducible] def bank (R : Args) : Bank sig Slot := ⟨Slot.shape, Slot.elt, R⟩

/-- What they hold. -/
abbrev St (F : FTy → Type) : Type := (b : Slot) → b.shape.Idx → Elt F b.elt

/-- A body on that bank. -/
abbrev Code (F : FTy → Type) (R : Args) (α : Type) : Type := Mem (bank R) (Elt F) α

variable (R : Args) (hR : ∀ b, (R b).IsWhole)

/-! ## The rectangles -/

theorem inb_tap (t : Fin 32) (o : Fin 31) : ∀ a, (![128 * t.val + (1 + o.val), 0] : Fin 2 → Nat) a + S128x128.size a ≤ S4128x128.size a := by
  intro a
  have := t.2
  have := o.2
  fin_cases a
  · show 128 * t.val + (1 + o.val) + 128 ≤ 4128; omega
  · show 0 + 128 ≤ 128; omega

theorem inb_tile (t : Fin 32) : ∀ a, (![0, 128 * t.val, 0] : Fin 3 → Nat) a + S1x128x128.size a ≤ S1x4096x128.size a := by
  revert t; decide

theorem inb_out (h : Fin 2) (t : Fin 32) :
    ∀ a, (![0, h.val, 128 * t.val, 0] : Fin 4 → Nat) a + S1x1x128x128.size a ≤ S1x2x4096x128.size a := by
  revert h t; decide

/-- A tile of 128 rows shifted by a tap. -/
@[reducible] def rTap (t : Fin 32) (o : Fin 31) : Rect S4128x128 :=
  Rect.unit (s := S4128x128) ![128 * t.val + (1 + o.val), 0] S128x128.size (inb_tap t o)
/-- A tile of 128 rows. -/
@[reducible] def rTile (t : Fin 32) : Rect S1x4096x128 := Rect.unit (s := S1x4096x128) ![0, 128 * t.val, 0] S1x128x128.size (inb_tile t)
/-- A tile of one of the two results. -/
@[reducible] def rOut (h : Fin 2) (t : Fin 32) : Rect S1x2x4096x128 :=
  Rect.unit (s := S1x2x4096x128) ![0, h.val, 128 * t.val, 0] S1x1x128x128.size (inb_out h t)

theorem packed_out (h : Fin 2) (t : Fin 32) : (rOut h t).PackedRows (EltTy.packing .bf16) := by revert h t; decide +kernel

theorem slices_tap (o : Fin 31) : S32x128.Slices ![30 - o.val, 0] S1x128 := by revert o; decide

/-- A load of a rectangle of a memref. -/
@[reducible] def ld (b : Slot) (r : Rect b.shape) (h : 0 < r.shape.numel) : Code F R (r.shape.Idx → Elt F b.elt) :=
  rd (A := bank R) b r (View.loadsAt_vmem h)

/-- A store over a rectangle of a memref of words. -/
@[reducible] def st (b : Slot) (r : Rect b.shape) (w : r.shape.Idx → Elt F b.elt) (h : 0 < r.shape.numel)
    (he : b.elt.bits = 32) : Code F R PUnit :=
  wr (A := bank R) b r w (View.stores_vmem_bits_univ h he)

/-- A store over packed rows of a memref. -/
@[reducible] def stp (b : Slot) (r : Rect b.shape) (w : r.shape.Idx → Elt F b.elt) (h : 0 < r.shape.numel)
    (hp : r.PackedRows b.elt.packing) : Code F R PUnit :=
  wr (A := bank R) b r w (View.stores_vmem h ((hR b).storeExact_slice rfl _ hp) (fun _ => rfl))

/-! ## The parts of the body -/

/-- The gradient is staged between zero rows. -/
def stage : Code F R PUnit := do
  let _ ← ld R .pad (Rect.unit (s := S4128x128) ![0, 0] S16x128.size inb_S4128x128_S16x128_0_0) h_S16x128
  st R .pad (Rect.unit (s := S4128x128) ![0, 0] S16x128.size inb_S4128x128_S16x128_0_0)
    (shapeCast S16x128 (broadcast S16x128 (Scalar.ofBits .f32 0x00000000#32)) shapeCasts_S16x128_S16x128) h_S16x128 rfl
  let _ ← ld R .pad (Rect.unit (s := S4128x128) ![4112, 0] S16x128.size inb_S4128x128_S16x128_4112_0) h_S16x128
  st R .pad (Rect.unit (s := S4128x128) ![4112, 0] S16x128.size inb_S4128x128_S16x128_4112_0)
    (shapeCast S16x128 (broadcast S16x128 (Scalar.ofBits .f32 0x00000000#32)) shapeCasts_S16x128_S16x128) h_S16x128 rfl
  let v ← ld R .dq (Rect.unit (s := S1x4096x128) ![0, 0, 0] S1x4096x128.size inb_S1x4096x128_S1x4096x128_0_0_0) h_S1x4096x128
  let _ ← ld R .pad (Rect.unit (s := S4128x128) ![16, 0] S4096x128.size inb_S4128x128_S4096x128_16_0) h_S4096x128
  st R .pad (Rect.unit (s := S4128x128) ![16, 0] S4096x128.size inb_S4128x128_S4096x128_16_0)
    (shapeCast S4096x128 (shapeCast S4096x128 v shapeCasts_S1x4096x128_S4096x128) shapeCasts_S4096x128_S4096x128) h_S4096x128 rfl

/-- One tap's products with the shifted rows, added to what the taps before it gave. -/
def addTap (w : FVec F S32x128 .f32) (o : Fin 31) (acc v : FVec F S128x128 .f32) : FVec F S128x128 .f32 :=
  addf acc (mulf (broadcastTo S128x128 (extractStridedSlice S1x128 ![30 - o.val, 0] w (slices_tap o)) broadcasts_S1x128_S128x128) v)

/-- The last `n` taps of a tile. -/
def tapsFrom (t : Fin 32) (w : FVec F S32x128 .f32) : (n : ℕ) → n ≤ 31 → FVec F S128x128 .f32 → Code F R (FVec F S128x128 .f32) :=
  fun n => Nat.rec (motive := fun n => n ≤ 31 → FVec F S128x128 .f32 → Code F R (FVec F S128x128 .f32)) (fun _ acc => .ret acc)
    (fun n ih h acc => Mem.bind (ld R .pad (rTap t ⟨31 - (n + 1), by omega⟩) h_S128x128) fun v =>
      ih (by omega) (addTap w ⟨31 - (n + 1), by omega⟩ acc v)) n

/-- The tile's gradient times a factor, rounded. -/
def times (d : FVec F S128x128 .f32) (v : FVec F S1x128x128 .f32) : FVec F S1x1x128x128 .bf16 :=
  shapeCast S1x1x128x128 (truncf .bf16 (mulf d (shapeCast S128x128 v shapeCasts_S1x128x128_S128x128)) bitsLt_bf16_f32)
    shapeCasts_S128x128_S1x1x128x128

/-- A tile's two results. -/
def tileOut (t : Fin 32) (d : FVec F S128x128 .f32) : Code F R PUnit := do
  let v ← ld R .sg (rTile t) h_S1x128x128
  let _ ← ld R .dz (rOut 0 t) h_S1x1x128x128
  stp R hR .dz (rOut 0 t) (times d v) h_S1x1x128x128 (packed_out 0 t)
  let v ← ld R .t2 (rTile t) h_S1x128x128
  let _ ← ld R .dz (rOut 1 t) h_S1x1x128x128
  stp R hR .dz (rOut 1 t) (times d v) h_S1x1x128x128 (packed_out 1 t)

/-- One tile: its gradient, and its two results. -/
def tile (w : FVec F S32x128 .f32) (t : Fin 32) : Code F R PUnit := do
  let d ← tapsFrom R t w 31 le_rfl (broadcast S128x128 (Scalar.ofBits .f32 0x00000000#32))
  tileOut R hR t d

/-- The body. -/
def code : Code F R PUnit := do
  stage R
  let v ← ld R .w (Rect.unit (s := S1x32x128) ![0, 0, 0] S1x32x128.size inb_S1x32x128_S1x32x128_0_0_0) h_S1x32x128
  steps (tile R hR (shapeCast S32x128 v shapeCasts_S1x32x128_S32x128))

/-! ## The printed body of the convolution's backward kernel is the one written with loops -/

theorem body_eq (i : grid0.Coords) (R : Args) (h : ∀ b, (R b).IsWhole) :
    cc0_conv_bwd (F := F) i (R .dq) (h _) (R .sg) (h _) (R .t2) (h _) (R .w) (h _) (R .dz) (h _) (R .pad) (h _)
      = toProg (code R h) := by sl_kernel_rfl

end Cert.ConvBack

end
-- ==== Proof.ConvBack.Run.lean ====
/- What the body of the convolution's backward kernel computes. -/
module

public import proofs.«01_k».proof.Proof.ConvBack.Body
public import proofs.«01_k».proof.Proof.Lib.Progress
public import Idealize.ShloMosaic.Lib.PointwiseCore

@[expose] public section

noncomputable section

namespace Cert.ConvBack

open Idealize.ShloMosaic Idealize.SL.Sem Cert.Kernel3Ideal Cert.Hand Cert.Hand.Mem
open K0.Facts₀ Shapes1.Facts₀ Shapes2.Facts₀

variable {F : FTy → Type} [FloatOps F]

/-- Zero. -/
abbrev zero : F .f32 := Scalar.ofBits .f32 0x00000000#32

/-- The gradient between zero rows. -/
def padOf (X : S1x4096x128.Idx → F .f32) : S4128x128.Idx → F .f32 :=
  fun j => if h : 16 ≤ (j 0).val ∧ (j 0).val < 4112 then X (ix3 0 ⟨(j 0).val - 16, by omega⟩ (j 1)) else zero

/-- A tile's gradient after its first `k` taps. -/
def tapAcc (w : FVec F S32x128 .f32) (P : S4128x128.Idx → F .f32) (t : Fin 32) : ℕ → FVec F S128x128 .f32
  | 0 => broadcast S128x128 zero
  | k + 1 => if h : k < 31 then addTap w ⟨k, h⟩ (tapAcc w P t k) (fun x => P ((rTap t ⟨k, h⟩).emb x)) else tapAcc w P t k

/-- The weights of a channel block. -/
def wOf (W : S1x32x128.Idx → F .f32) : FVec F S32x128 .f32 :=
  shapeCast S32x128 (fun x => W ((Rect.unit (s := S1x32x128) ![0, 0, 0] S1x32x128.size inb_S1x32x128_S1x32x128_0_0_0).emb x)) shapeCasts_S1x32x128_S32x128

/-- The two results: the gradient times one of the two factors. -/
def outOf (dq sg t2 : S1x4096x128.Idx → F .f32) (W : S1x32x128.Idx → F .f32) : S1x2x4096x128.Idx → F .bf16 :=
  fun j => times (tapAcc (wOf W) (padOf dq) ⟨(j 2).val / 128, by have : (j 2).val < 4096 := (j 2).isLt; omega⟩ 31)
    (fun x => (if (j 1).val = 0 then sg else t2) ((rTile ⟨(j 2).val / 128, by have : (j 2).val < 4096 := (j 2).isLt; omega⟩).emb x))
    (ix4 0 0 ⟨(j 2).val % 128, by omega⟩ (j 3))

variable (R : Args) (hR : ∀ b, (R b).IsWhole) (S : St F)

/-! ## The staged rows -/

theorem staged (X : S1x4096x128.Idx → F .f32) (Y : S4128x128.Idx → F .f32) (z1 z2 : S16x128.Idx → F .f32) (w : S4096x128.Idx → F .f32)
    (h1 : ∀ x, z1 x = zero) (h2 : ∀ x, z2 x = zero) (hw : ∀ x, w x = X (ix3 0 (x 0) (x 1))) :
    (Rect.unit (s := S4128x128) ![16, 0] S4096x128.size inb_S4128x128_S4096x128_16_0).overlay
      ((Rect.unit (s := S4128x128) ![4112, 0] S16x128.size inb_S4128x128_S16x128_4112_0).overlay
        ((Rect.unit (s := S4128x128) ![0, 0] S16x128.size inb_S4128x128_S16x128_0_0).overlay Y z1) z2) w = padOf X := by
  refine overlay_eq _ _ _ _ (fun x => ?_) (fun j hj => ?_)
  · rw [hw]
    obtain ⟨b, c, rfl⟩ : ∃ (b : Fin 4096) (c : Fin 128), x = ix2 b c := ⟨x 0, x 1, eq_ix2 x⟩
    have e : (Rect.unit (s := S4128x128) ![16, 0] S4096x128.size inb_S4128x128_S4096x128_16_0).emb (ix2 b c)
        = ix2 ⟨16 + b.val, by omega⟩ c := by
      funext k; apply Fin.ext; rw [Rect.emb_apply]; fin_cases k <;> simp [ix2]
    rw [e]
    unfold padOf
    rw [dif_pos ⟨by simp [ix2], by simp only [ix2]; omega⟩]
    congr 1
    funext k; apply Fin.ext; fin_cases k <;> simp [ix3, ix2]
  · obtain ⟨b, c, rfl⟩ : ∃ (b : Fin 4128) (c : Fin 128), j = ix2 b c := ⟨j 0, j 1, eq_ix2 j⟩
    have hb : ¬ (16 ≤ b.val ∧ b.val < 4112) := by
      rintro ⟨p, q⟩
      refine hj (Rect.mem_set_unit.mpr fun k => ?_)
      fin_cases k <;> simp [ix2] <;> omega
    have hs : padOf X (ix2 b c) = zero := dif_neg hb
    rw [hs]
    by_cases p : 4112 ≤ b.val
    · have e : ix2 b c = (Rect.unit (s := S4128x128) ![4112, 0] S16x128.size inb_S4128x128_S16x128_4112_0).emb
          (ix2 (⟨b.val - 4112, by omega⟩ : Fin 16) c) := by
        funext k; apply Fin.ext; rw [Rect.emb_apply]; fin_cases k <;> simp [ix2]; omega
      rw [e, Rect.overlay_emb, h2]
    · rw [Rect.overlay_of_not_mem]
      · have e : ix2 b c = (Rect.unit (s := S4128x128) ![0, 0] S16x128.size inb_S4128x128_S16x128_0_0).emb
            (ix2 (⟨b.val, by omega⟩ : Fin 16) c) := by
          funext k; apply Fin.ext; rw [Rect.emb_apply]; fin_cases k <;> simp [ix2]
        rw [e, Rect.overlay_emb, h1]
      · intro h
        have := (Rect.mem_set_unit.mp h 0).1
        simp [ix2] at this
        omega

theorem run_stage : (run (stage R) S).2 = Function.update S .pad (padOf (S .dq)) := by
  refine (show (run (stage R) S).2 = Function.update (Function.update (Function.update S .pad (Rect.overlay _ (S .pad) _)) .pad
    (Rect.overlay _ (Rect.overlay _ (S .pad) _) _)) .pad (Rect.overlay _ (Rect.overlay _ (Rect.overlay _ (S .pad) _) _) _) from rfl).trans ?_
  rw [Function.update_idem, Function.update_idem]
  congr 1
  refine staged (S .dq) _ _ _ _ (fun x => ?_) (fun x => ?_) (fun x => ?_)
  · pointwise
  · pointwise
  · pointwise
    refine congrArg (S .dq) ?_
    refine emb_eq fun a => ?_; idx_vars x; fin_cases a <;> simp [ix3, ix2]

/-! ## The tiles -/

theorem run_taps (t : Fin 32) (w : FVec F S32x128 .f32) :
    run (tapsFrom R t w 31 le_rfl (broadcast S128x128 zero)) S = (tapAcc w (S .pad) t 31, S) := by
  have key : ∀ (n : ℕ) (hn : n ≤ 31), run (tapsFrom R t w n hn (tapAcc w (S .pad) t (31 - n))) S = (tapAcc w (S .pad) t 31, S) := by
    intro n
    induction n with
    | zero => intro _; rfl
    | succ n ih =>
      intro hn
      have e : run (tapsFrom R t w (n + 1) hn (tapAcc w (S .pad) t (31 - (n + 1)))) S
          = run (tapsFrom R t w n (by omega) (addTap w ⟨31 - (n + 1), by omega⟩ (tapAcc w (S .pad) t (31 - (n + 1)))
            (fun x => S .pad ((rTap t ⟨31 - (n + 1), by omega⟩).emb x)))) S := rfl
      have e' : tapAcc w (S .pad) t (31 - n) = addTap w ⟨31 - (n + 1), by omega⟩ (tapAcc w (S .pad) t (31 - (n + 1)))
          (fun x => S .pad ((rTap t ⟨31 - (n + 1), by omega⟩).emb x)) := by
        rw [show 31 - n = 31 - (n + 1) + 1 by omega, tapAcc, dif_pos (show 31 - (n + 1) < 31 by omega)]
      rw [e, ← e']
      exact ih (by omega)
  exact key 31 le_rfl

theorem run_tileOut (t : Fin 32) (d : FVec F S128x128 .f32) :
    (run (tileOut R hR t d) S).2 = Function.update S .dz ((rOut 1 t).overlay ((rOut 0 t).overlay (S .dz)
      (times d (fun x => S .sg ((rTile t).emb x)))) (times d (fun x => S .t2 ((rTile t).emb x)))) := by
  refine (show (run (tileOut R hR t d) S).2 = Function.update (Function.update S .dz ((rOut 0 t).overlay (S .dz)
      (times d (fun x => S .sg ((rTile t).emb x))))) .dz ((rOut 1 t).overlay ((rOut 0 t).overlay (S .dz)
      (times d (fun x => S .sg ((rTile t).emb x)))) (times d (fun x => S .t2 ((rTile t).emb x)))) from by sl_kernel_rfl).trans ?_
  rw [Function.update_idem]

theorem run_tile (w : FVec F S32x128 .f32) (t : Fin 32) :
    (run (tile R hR w t) S).2 = Function.update S .dz ((rOut 1 t).overlay ((rOut 0 t).overlay (S .dz)
      (times (tapAcc w (S .pad) t 31) (fun x => S .sg ((rTile t).emb x)))) (times (tapAcc w (S .pad) t 31) (fun x => S .t2 ((rTile t).emb x)))) := by
  unfold tile
  rw [run_bind, run_taps, run_tileOut]

/-- When a place of the results is written. -/
def tOut (j : S1x2x4096x128.Idx) : ℕ := 2 * ((j 2).val / 128) + (j 1).val

theorem tOut_iff (h : Fin 2) (t : Fin 32) (j : S1x2x4096x128.Idx) : tOut j = 2 * t.val + h.val ↔ j ∈ (rOut h t).set := by
  have h0 : (j 0).val < 1 := (j 0).isLt
  have h1 : (j 1).val < 2 := (j 1).isLt
  have h2 : (j 2).val < 4096 := (j 2).isLt
  have h3 : (j 3).val < 128 := (j 3).isLt
  rw [Rect.mem_set_unit]
  constructor
  · intro e a
    unfold tOut at e
    fin_cases a
    · show 0 ≤ (j 0).val ∧ (j 0).val < 0 + 1; omega
    · show h.val ≤ (j 1).val ∧ (j 1).val < h.val + 1; omega
    · show 128 * t.val ≤ (j 2).val ∧ (j 2).val < 128 * t.val + 128; omega
    · show 0 ≤ (j 3).val ∧ (j 3).val < 0 + 128; omega
  · intro e
    have e1 : h.val ≤ (j 1).val ∧ (j 1).val < h.val + 1 := e 1
    have e2 : 128 * t.val ≤ (j 2).val ∧ (j 2).val < 128 * t.val + 128 := e 2
    unfold tOut
    omega

theorem emb_out (h : Fin 2) (t : Fin 32) (x : S1x1x128x128.Idx) :
    (rOut h t).emb x = ix4 0 h ⟨128 * t.val + (x 2).val, by have : (x 2).val < 128 := (x 2).isLt; omega⟩ (x 3) := by
  refine emb_eq fun a => ?_
  idx_vars x
  fin_cases a <;> simp [ix4] <;> rfl

theorem out_at (dq sg t2 : S1x4096x128.Idx → F .f32) (W : S1x32x128.Idx → F .f32) (h : Fin 2) (t : Fin 32) (x : S1x1x128x128.Idx) :
    times (tapAcc (wOf W) (padOf dq) t 31) (fun y => (if h.val = 0 then sg else t2) ((rTile t).emb y)) x = outOf dq sg t2 W ((rOut h t).emb x) := by
  rw [emb_out]
  have hx : (x 2).val < 128 := (x 2).isLt
  unfold outOf
  have e : (⟨(128 * t.val + (x 2).val) / 128, by omega⟩ : Fin 32) = t := Fin.ext (by dsimp only; omega)
  have e' : x = ix4 0 0 (⟨(128 * t.val + (x 2).val) % 128, by omega⟩ : Fin 128) (x 3) := by
    idx_vars x
    funext a; apply Fin.ext
    fin_cases a <;> simp [ix4] <;> omega
  simp only [ix4, Matrix.cons_val] at *
  rw [e, ← e']
  rfl

theorem out_step0 (dq sg t2 : S1x4096x128.Idx → F .f32) (W : S1x32x128.Idx → F .f32) (X : S1x2x4096x128.Idx → F .bf16) (t : Fin 32) :
    (rOut 0 t).overlay (prog tOut (outOf dq sg t2 W) X (2 * t.val)) (times (tapAcc (wOf W) (padOf dq) t 31) (fun y => sg ((rTile t).emb y)))
      = prog tOut (outOf dq sg t2 W) X (2 * t.val + 1) := by
  refine prog_step (rOut 0 t) tOut _ _ _ _ (tOut_iff 0 t) fun x => ?_
  exact (congrArg (fun f : S1x4096x128.Idx → F .f32 => times (tapAcc (wOf W) (padOf dq) t 31) (fun y => f ((rTile t).emb y)) x)
    (if_pos (show (0 : Fin 2).val = 0 from rfl)).symm).trans (out_at dq sg t2 W 0 t x)

theorem out_step1 (dq sg t2 : S1x4096x128.Idx → F .f32) (W : S1x32x128.Idx → F .f32) (X : S1x2x4096x128.Idx → F .bf16) (t : Fin 32) :
    (rOut 1 t).overlay (prog tOut (outOf dq sg t2 W) X (2 * t.val + 1)) (times (tapAcc (wOf W) (padOf dq) t 31) (fun y => t2 ((rTile t).emb y)))
      = prog tOut (outOf dq sg t2 W) X (2 * (t.val + 1)) := by
  refine prog_step (rOut 1 t) tOut _ _ _ _ (tOut_iff 1 t) fun x => ?_
  exact (congrArg (fun f : S1x4096x128.Idx → F .f32 => times (tapAcc (wOf W) (padOf dq) t 31) (fun y => f ((rTile t).emb y)) x)
    (if_neg (show ¬ (1 : Fin 2).val = 0 by decide)).symm).trans (out_at dq sg t2 W 1 t x)

/-- The contents before tile `k`. -/
def before (W : S1x32x128.Idx → F .f32) (dq : S1x4096x128.Idx → F .f32) (k : ℕ) : St F :=
  Function.update S .dz (prog tOut (outOf dq (S .sg) (S .t2) W) (S .dz) (2 * k))

theorem before_dz (W : S1x32x128.Idx → F .f32) (dq : S1x4096x128.Idx → F .f32) (k : ℕ) :
    before S W dq k .dz = prog tOut (outOf dq (S .sg) (S .t2) W) (S .dz) (2 * k) := Function.update_self _ _ _

theorem before_rest (W : S1x32x128.Idx → F .f32) (dq : S1x4096x128.Idx → F .f32) (k : ℕ) (b : Slot) (h : b ≠ .dz) :
    before S W dq k b = S b := Function.update_of_ne h _ _

theorem run_step (W : S1x32x128.Idx → F .f32) (dq : S1x4096x128.Idx → F .f32) (hp : S .pad = padOf dq) (t : Fin 32) :
    (run (tile R hR (wOf W) t) (before S W dq t.val)).2 = before S W dq (t.val + 1) := by
  rw [run_tile, before_dz, before_rest _ _ _ _ .pad (by decide), before_rest _ _ _ _ .sg (by decide), before_rest _ _ _ _ .t2 (by decide), hp,
    out_step0, out_step1]
  unfold before
  rw [Function.update_idem]

theorem run_tiles (W : S1x32x128.Idx → F .f32) (dq : S1x4096x128.Idx → F .f32) (hp : S .pad = padOf dq) :
    (run (steps (tile R hR (wOf W))) S).2 = Function.update S .dz (outOf dq (S .sg) (S .t2) W) := by
  have h0 : before S W dq 0 = S := by
    unfold before
    rw [prog_zero]; exact Function.update_eq_self _ _
  have := run_steps (tile R hR (wOf W)) (before S W dq) (run_step R hR S W dq hp)
  rw [h0] at this
  rw [this]
  unfold before
  congr 1
  refine prog_end _ _ _ _ fun j => .inl ?_
  have h1 : (j 1).val < 2 := (j 1).isLt
  have h2 : (j 2).val < 4096 := (j 2).isLt
  unfold tOut
  omega

/-- What the memrefs hold after the body. -/
def next : St F
  | .dz => outOf (S .dq) (S .sg) (S .t2) (S .w)
  | .pad => padOf (S .dq)
  | .dq => S .dq | .sg => S .sg | .t2 => S .t2 | .w => S .w

theorem run_code : (run (code R hR) S).2 = next S := by
  have e : (run (code R hR) S).2 = (run (steps (tile R hR (wOf ((run (stage R) S).2 .w)))) (run (stage R) S).2).2 := by
    unfold code
    rw [run_bind]
    rfl
  rw [e, run_stage, Function.update_of_ne (show Slot.w ≠ Slot.pad by decide), run_tiles R hR _ (S .w) (S .dq) (Function.update_self _ _ _),
    Function.update_of_ne (show Slot.sg ≠ Slot.pad by decide), Function.update_of_ne (show Slot.t2 ≠ Slot.pad by decide)]
  funext b
  cases b <;> simp [next, Function.update]

end Cert.ConvBack

end
-- ==== Proof.ConvBack.Frame.lean ====
/- The run of the pipeline over the body of the convolution's backward kernel. -/
module

public import proofs.«01_k».proof.Proof.ConvBack.Run
public import proofs.«01_k».proof.Proof.Gen.Kernel3Ideal.Frame.Runs

@[expose] public section

noncomputable section

namespace Cert.ConvBack

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal Cert.Kernel3Ideal.Gen Cert.Hand Cert.Hand.Mem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks at a point -/

def dqB (c : Dev nD) (t : Fin cfg0.N) : S1x4096x128.Idx → F .f32 := iblk m c 0 t
def sgB (c : Dev nD) (t : Fin cfg0.N) : S1x4096x128.Idx → F .f32 := iblk m c 1 t
def t2B (c : Dev nD) (t : Fin cfg0.N) : S1x4096x128.Idx → F .f32 := iblk m c 2 t
def wB (c : Dev nD) (t : Fin cfg0.N) : S1x32x128.Idx → F .f32 := iblk m c 3 t

/-- The results' block at a point. -/
def dzC (c : Dev nD) (t : Fin cfg0.N) : S1x2x4096x128.Idx → F .bf16 := outOf (dqB m c t) (sgB m c t) (t2B m c t) (wB m c t)

/-! ## The proof data -/

/-- The scratch array is staged anew at every point: between points it holds anything. -/
def carried (c : Dev nD) : sProp 𝕄 :=
  iprop(∃ p : S4128x128.Idx → F .f32, owns (c : Thread nD τ) (Memref.whole cc0_scratch0) fullShare p ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dzC m c t
  Φ _ := carried c
  q _ := fullShare
  owed _ := 0

theorem A_eq (c : Dev nD) (w : Fin cfg0.W) : (dats m 0 c).A w = V m c (Pipeline.arrRef spec0 w) := by dsimp only [dats]

/-- The body's memrefs at a point. -/
def args (t : Fin cfg0.N) : Args
  | .dq => st0_0 t | .sg => st0_1 t | .t2 => st0_2 t | .w => st0_3 t | .dz => st0_4 t | .pad => Memref.whole cc0_scratch0

theorem args_whole (t : Fin cfg0.N) (b : Slot) : (args t b).IsWhole := by
  cases b
  · exact hstage0_0 _
  · exact hstage0_1 _
  · exact hstage0_2 _
  · exact hstage0_3 _
  · exact hstage0_4 _
  · exact Memref.isWhole_whole _

theorem body_code (t : Fin cfg0.N) : bodyAt0 (F := F) t = toProg (code (args t) (args_whole t)) :=
  body_eq (F := F) (cfg0.grid.coords t) (args t) (args_whole t)

theorem held_eq (t : Fin cfg0.N) (c : Dev nD) (S : St F) : (held (bank (args t)) c S : sProp 𝕄)
    = iprop(owns (c : Thread nD τ) (st0_0 t) fullShare (S .dq) ∗ owns (c : Thread nD τ) (st0_1 t) fullShare (S .sg)
      ∗ owns (c : Thread nD τ) (st0_2 t) fullShare (S .t2) ∗ owns (c : Thread nD τ) (st0_3 t) fullShare (S .w)
      ∗ owns (c : Thread nD τ) (st0_4 t) fullShare (S .dz) ∗ owns (c : Thread nD τ) (Memref.whole cc0_scratch0) fullShare (S .pad)) := by
  unfold held
  exact bigSep_univ_eq_bigSepL [Slot.dq, .sg, .t2, .w, .dz, .pad] (by decide) (by decide) _

/-! ## The body's triple -/

/-- What the memrefs hold when the body starts at `t`. -/
def found (c : Dev nD) (t : Fin cfg0.N) (dz : S1x2x4096x128.Idx → F .bf16) (p : S4128x128.Idx → F .f32) : St F
  | .dq => dqB m c t | .sg => sgB m c t | .t2 => t2B m c t | .w => wB m c t | .dz => dz | .pad => p

/-- What a window holds when the body starts. -/
abbrev entered (c : Dev nD) (w : Fin cfg0.W) (t : Fin cfg0.N) : sProp 𝕄 :=
  iprop(∃ d, owns (c : Thread nD τ) ((cfg0.win w).stage (cfg0.slots t w)) fullShare ((dats m 0 c).before w t d))

def bodyPre (c : Dev nD) (t : Fin cfg0.N) : sProp 𝕄 :=
  iprop((dats m 0 c).Φ t.castSucc ∗ (dats m 0 c).owesAt () t.castSucc
    ∗ entered m c 0 t ∗ entered m c 1 t ∗ entered m c 2 t ∗ entered m c 3 t ∗ entered m c 4 t)

/-- A window is left at what the body leaves there. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost entered
  rw [leaves_live m c 0 t rfl, leaves_live m c 1 t rfl, leaves_live m c 2 t rfl, leaves_live m c 3 t rfl, leaves_live m c 4 t rfl]
  rw [body_code]
  simp only [before0_0_of m _ (A_eq m c 0) (fun _ => rfl), before0_1_of m _ (A_eq m c 1) (fun _ => rfl),
    before0_2_of m _ (A_eq m c 2) (fun _ => rfl), before0_3_of m _ (A_eq m c 3) (fun _ => rfl)]
  rw [show (dats m 0 c).Φ t.castSucc = carried c from rfl, show (dats m 0 c).Φ t.succ = carried c from rfl]
  unfold Dat.owesAt Pipeline.owesWithin
  rw [show (dats m 0 c).owed t.castSucc = 0 from rfl, show (dats m 0 c).owed t.succ = 0 from rfl]
  unfold carried
  iintro ⟨⟨%p, Hp, Hg⟩, Howe, ⟨%d0, H0⟩, ⟨%d1, H1⟩, ⟨%d2, H2⟩, ⟨%d3, H3⟩, ⟨%d4, H4⟩⟩
  iapply (sound_all (defs := defs₀ (F := F)) Variants.none c none Set.univ (code (args t) (args_whole t))
    (found m c t ((dats m 0 c).before 4 t d4) p)) $$ [H0 H1 H2 H3 H4 Hp]
  · rw [held_eq]
    isplitl [H0]; · iexact H0
    isplitl [H1]; · iexact H1
    isplitl [H2]; · iexact H2
    isplitl [H3]; · iexact H3
    isplitl [H4]; · iexact H4
    iexact Hp
  rw [run_code, held_eq]
  iintro ⟨H0, H1, H2, H3, H4, Hp⟩
  isplitl [Hp Hg]
  · iexists (padOf (dqB m c t))
    isplitl [Hp]; · iexact Hp
    iexact Hg
  isplitl [Howe]; · iexact Howe
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem carried_in (c : Dev nD) : (Pipeline.ΦA spec0 c : sProp 𝕄) ⊢ carried c := by
  unfold Pipeline.ΦA carried
  rw [scopedRest0_eq]
  iintro ⟨⟨%p, Hp⟩, Hg⟩
  iexists p
  simp only [owns_whole]
  iframe

theorem carried_out (c : Dev nD) : (carried c : sProp 𝕄) ⊢ Pipeline.ΦA spec0 c := by
  unfold Pipeline.ΦA carried
  rw [scopedRest0_eq]
  simp only [owns_whole_eq]
  iintro ⟨%p, ⟨%p', -, Hp⟩, Hg⟩
  isplitl [Hp]
  · iexists p'; iexact Hp
  iexact Hg

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_in c) (hout := fun c => carried_out c)

end Cert.ConvBack

end
-- ==== Proof.ConvBack.Spec.lean ====
/- The gradient of the gated depthwise convolution, as a function of places. -/
module

public import Idealize.ShloMosaic.PureOps.Ideal

@[expose] public section

noncomputable section

namespace Cert.ConvBack

open Idealize.ShloMosaic

/-- The logistic function. -/
def gate (u : EReal) : EReal := Ideal.div 1 (1 + Ideal.exp (-u))

/-- A column with zeros on both sides, fifteen places ahead of `n` and `o` places back. -/
def slide (d : Fin 4096 → EReal) (n o : ℕ) : EReal := if h : o ≤ n + 15 ∧ n + 15 - o < 4096 then d ⟨n + 15 - o, h.2⟩ else 0

/-- What reaches the gated input: every tap carries the gradient back by its own distance. -/
def convBack (w : Fin 31 → Fin 1024 → EReal) (dq : Fin 4096 → Fin 1024 → EReal) (n : Fin 4096) (k : Fin 1024) : EReal :=
  ∑ o : Fin 31, w o k * slide (fun i => dq i k) n.val o.val

/-- The gradient of the values (`h = 0`) and of the gates (`h = 1`). -/
def halfGrad (h : Fin 2) (a g : Fin 4096 → Fin 1024 → EReal) (w : Fin 31 → Fin 1024 → EReal) (dq : Fin 4096 → Fin 1024 → EReal)
    (n : Fin 4096) (k : Fin 1024) : EReal :=
  convBack w dq n k * (if h.val = 0 then gate (g n k) else a n k * gate (g n k) * (1 - gate (g n k)))

/-- Both gradients, by block of channels. -/
def gradOf (a g : Fin 4096 → Fin 1024 → EReal) (w : Fin 31 → Fin 1024 → EReal) (dq : Fin 4096 → Fin 1024 → EReal)
    (j : (⟨4, ![8, 2, 4096, 128]⟩ : Shape).Idx) : EReal :=
  halfGrad (j 1) a g w dq (j 2) ⟨(j 0).val * 128 + (j 3).val, by
    have h0 : (j 0).val < 8 := (j 0).isLt
    have h3 : (j 3).val < 128 := (j 3).isLt
    omega⟩

end Cert.ConvBack

end
-- ==== Proof.ConvBack.Blocks.lean ====
/- What the blocks of the convolution's backward kernel hold, as elements of the arguments. -/
module

public import proofs.«01_k».proof.Proof.ConvBack.Frame
public import proofs.«01_k».proof.Proof.ConvBack.Spec
public import proofs.«01_k».proof.Proof.Lib.Reals
public import Idealize.ShloMosaic.Lib.Pipeline.ValueKit
public import Idealize.ShloMosaic.Lib.StableHlo.ReadAt

@[expose] public section

noncomputable section

namespace Cert.ConvBack

open Idealize.ShloMosaic Idealize.ShloMosaic.TcCoe Cert.Kernel3Ideal Cert.Kernel3Ideal.Gen Cert.Hand

variable (m : (ℓ : Loc nD τ sig) → Buf (Elt Ideal) ℓ) (c : Dev nD)

/-- An argument's contents. -/
abbrev arg (r : Ref sig .tc) : Buf (Elt Ideal) ((c.tc : Thread nD τ).loc r) := m ((c.tc : Thread nD τ).loc r)

/-! ## The arguments by their places -/

def aA (n : Fin 4096) (k : Fin 1024) : EReal := arg m c main_arg0 (ix2 n k)
def gA (n : Fin 4096) (k : Fin 1024) : EReal := arg m c main_arg1 (ix2 n k)
def wA (o : Fin 31) (k : Fin 1024) : EReal := arg m c main_arg2 (ix2 o k)
def dqA (n : Fin 4096) (k : Fin 1024) : EReal := arg m c main_arg4 (ix2 n k)

/-! ## What the region finds -/

theorem dq_at (b : Fin 8) (n : Fin 4096) (l : Fin 128) :
    V m c main_v12 (ix3 b n l) = dqA m c n ⟨b.val * 128 + l.val, by omega⟩ := by
  unfold V
  after_reads_at
  rfl

theorem sg_at (b : Fin 8) (n : Fin 4096) (l : Fin 128) :
    V m c main_v14 (ix3 b n l) = gate (gA m c n ⟨b.val * 128 + l.val, by omega⟩) := by
  unfold V
  after_reads_at
  exact sigmoid_eq _

theorem t2_at (b : Fin 8) (n : Fin 4096) (l : Fin 128) :
    V m c main_v19 (ix3 b n l) = aA m c n ⟨b.val * 128 + l.val, by omega⟩ * gate (gA m c n ⟨b.val * 128 + l.val, by omega⟩)
      * (1 - gate (gA m c n ⟨b.val * 128 + l.val, by omega⟩)) := by
  unfold V
  after_reads_at
  unfold gate
  rw [← sigmoid_eq]
  rfl

theorem w_at (b : Fin 4) (o : Fin 31) (l : Fin 256) :
    V m c main_v2 (ix3 b ⟨o.val, by omega⟩ l) = wA m c o ⟨b.val * 256 + l.val, by omega⟩ := by
  unfold V
  after_reads_at
  exact dif_pos (by omega)

/-! ## The blocks -/

/-- The blocks' places in their arrays. -/
theorem places : ∀ t : Fin cfg0.N,
    win0_0.index t = ![t.val, 0, 0] ∧ win0_1.index t = ![t.val, 0, 0] ∧ win0_2.index t = ![t.val, 0, 0]
    ∧ win0_3.index t = ![t.val / 2, 0, t.val % 2] := by decide +kernel

/-- A block by its number. -/
def pt (t : Fin cfg0.N) : Fin 8 := t.cast (by decide)

/-- A channel of a block. -/
def chan (t : Fin cfg0.N) (l : Fin 128) : Fin 1024 := ⟨(pt t).val * 128 + l.val, by omega⟩

theorem dqB_read (t : Fin cfg0.N) (n : Fin 4096) (l : Fin 128) : dqB m c t (ix3 0 n l) = dqA m c n (chan t l) := by
  have e : dqB m c t (ix3 0 n l) = V m c main_v12 (ix3 (pt t) n l) := by
    unfold dqB
    blk_ext [iblk, pt, places t]
    rfl
  exact e.trans (dq_at m c _ n l)

theorem sgB_read (t : Fin cfg0.N) (n : Fin 4096) (l : Fin 128) : sgB m c t (ix3 0 n l) = gate (gA m c n (chan t l)) := by
  have e : sgB m c t (ix3 0 n l) = V m c main_v14 (ix3 (pt t) n l) := by
    unfold sgB
    blk_ext [iblk, pt, places t]
    rfl
  exact e.trans (sg_at m c _ n l)

theorem t2B_read (t : Fin cfg0.N) (n : Fin 4096) (l : Fin 128) : t2B m c t (ix3 0 n l)
    = aA m c n (chan t l) * gate (gA m c n (chan t l)) * (1 - gate (gA m c n (chan t l))) := by
  have e : t2B m c t (ix3 0 n l) = V m c main_v19 (ix3 (pt t) n l) := by
    unfold t2B
    blk_ext [iblk, pt, places t]
    rfl
  exact e.trans (t2_at m c _ n l)

theorem wB_read (t : Fin cfg0.N) (o : Fin 31) (l : Fin 128) : wB m c t (ix3 0 ⟨o.val, by omega⟩ l) = wA m c o (chan t l) := by
  have ht : t.val < 8 := (pt t).isLt
  have e : wB m c t (ix3 0 ⟨o.val, by omega⟩ l)
      = V m c main_v2 (ix3 ⟨t.val / 2, by omega⟩ ⟨o.val, by omega⟩ ⟨t.val % 2 * 128 + l.val, by omega⟩) := by
    unfold wB
    blk_ext [iblk, places t]
  refine e.trans ((w_at m c _ o _).trans (congrArg (wA m c o) (Fin.ext ?_)))
  show t.val / 2 * 256 + (t.val % 2 * 128 + l.val) = t.val * 128 + l.val
  omega

end Cert.ConvBack

end
-- ==== Proof.ConvBack.Values.lean ====
/- What the convolution's backward kernel leaves, as the gradient at every place. -/
module

public import proofs.«01_k».proof.Proof.ConvBack.Blocks
public import proofs.«01_k».proof.Proof.Lib.Sums

@[expose] public section

noncomputable section

namespace Cert.ConvBack

open Idealize.ShloMosaic Idealize.ShloMosaic.TcCoe Cert.Kernel3Ideal Cert.Kernel3Ideal.Gen Cert.Hand
open K0.Facts₀ Shapes1.Facts₀ Shapes2.Facts₀

/-! ## One tile's sum of taps -/

theorem add_at (w : FVec Ideal S32x128 .f32) (o : Fin 31) (acc v : FVec Ideal S128x128 .f32) (r l : Fin 128) :
    (addTap w o acc v (ix2 r l) : EReal) = acc (ix2 r l) + w (ix2 ⟨30 - o.val, by omega⟩ l) * v (ix2 r l) := by
  unfold addTap
  pointwise

theorem tap_row (P : S4128x128.Idx → Ideal .f32) (t : Fin 32) (o : Fin 31) (r l : Fin 128) :
    P ((rTap t o).emb (ix2 r l)) = P (ix2 ⟨128 * t.val + (1 + o.val) + r.val, by omega⟩ l) := by
  refine congrArg P ?_
  refine emb_eq fun a => ?_; fin_cases a <;> simp [ix2]

theorem tap_step (w : FVec Ideal S32x128 .f32) (P : S4128x128.Idx → Ideal .f32) (t : Fin 32) (r l : Fin 128) (o : Fin 31) :
    (tapAcc w P t (o.val + 1) (ix2 r l) : EReal) = tapAcc w P t o.val (ix2 r l)
      + w (ix2 ⟨30 - o.val, by omega⟩ l) * P (ix2 ⟨128 * t.val + (1 + o.val) + r.val, by omega⟩ l) := by
  rw [tapAcc, dif_pos o.isLt, add_at]
  exact congrArg (fun z : EReal => tapAcc w P t o.val (ix2 r l) + w (ix2 ⟨30 - o.val, by omega⟩ l) * z) (tap_row P t o r l)

theorem tap_sum (w : FVec Ideal S32x128 .f32) (P : S4128x128.Idx → Ideal .f32) (t : Fin 32) (r l : Fin 128) :
    (tapAcc w P t 31 (ix2 r l) : EReal) = ∑ o : Fin 31, (w (ix2 ⟨30 - o.val, by omega⟩ l) : EReal)
      * P (ix2 ⟨128 * t.val + (1 + o.val) + r.val, by omega⟩ l) := by
  have h0 : (tapAcc w P t 0 (ix2 r l) : EReal) = 0 := by
    rw [tapAcc]
    pointwise
  refine (rec_sum 31 (fun k => (tapAcc w P t k (ix2 r l) : EReal)) _ (tap_step w P t r l)).trans ?_
  rw [h0, zero_add]

section Arrays

variable (m : (ℓ : Loc nD τ sig) → Buf (Elt Ideal) ℓ) (c : Dev nD)

theorem w_row (t : Fin cfg0.N) (o : Fin 31) (l : Fin 128) : (wOf (wB m c t) (ix2 ⟨o.val, by omega⟩ l) : EReal) = wA m c o (chan t l) := by
  refine Eq.trans ?_ (wB_read m c t o l)
  unfold wOf
  pointwise
  refine congrArg (wB m c t) ?_
  refine emb_eq fun a => ?_; fin_cases a <;> simp [ix3]

theorem pad_row (t : Fin cfg0.N) (n : ℕ) (o : Fin 31) (h : n + 1 + (30 - o.val) < 4128) (l : Fin 128) :
    (padOf (dqB m c t) (ix2 ⟨n + 1 + (30 - o.val), h⟩ l) : EReal) = slide (fun i => dqA m c i (chan t l)) n o.val := by
  unfold padOf slide
  by_cases p : o.val ≤ n + 15 ∧ n + 15 - o.val < 4096
  · rw [dif_pos p]
    refine (dif_pos (show 16 ≤ n + 1 + (30 - o.val) ∧ n + 1 + (30 - o.val) < 4112 by omega)).trans ?_
    refine (dqB_read m c t _ l).trans (congrArg (fun i => dqA m c i (chan t l)) (Fin.ext ?_))
    show n + 1 + (30 - o.val) - 16 = n + 15 - o.val
    omega
  · rw [dif_neg p]
    refine (dif_neg (show ¬ (16 ≤ n + 1 + (30 - o.val) ∧ n + 1 + (30 - o.val) < 4112) by omega)).trans ?_
    exact Ideal.ofBits_zero_f32

theorem taps_at (t : Fin cfg0.N) (b : Fin 32) (r l : Fin 128) :
    (tapAcc (wOf (wB m c t)) (padOf (dqB m c t)) b 31 (ix2 r l) : EReal)
      = convBack (wA m c) (dqA m c) ⟨128 * b.val + r.val, by omega⟩ (chan t l) := by
  rw [tap_sum]
  unfold convBack
  refine (Equiv.sum_comp Fin.revPerm _).symm.trans (Finset.sum_congr (M := EReal) rfl fun o _ => ?_)
  have e' : (Fin.revPerm o).val = 30 - o.val := by
    rw [Fin.revPerm_apply, Fin.val_rev]; omega
  have e : 30 - (Fin.revPerm o).val = o.val := by omega
  have e1 : (wOf (wB m c t) (ix2 ⟨30 - (Fin.revPerm o).val, by omega⟩ l) : EReal) = wA m c o (chan t l) := by
    simp only [e]
    exact w_row m c t o l
  have e2 : (⟨128 * b.val + (1 + (Fin.revPerm o).val) + r.val, by omega⟩ : Fin 4128)
      = ⟨128 * b.val + r.val + 1 + (30 - o.val), by omega⟩ := Fin.ext (by dsimp only; omega)
  rw [e1, e2, pad_row m c t]

/-! ## The results' block and array -/

theorem times_at (d : FVec Ideal S128x128 .f32) (v : FVec Ideal S1x128x128 .f32) (r l : Fin 128) :
    (times d v (ix4 0 0 r l) : EReal) = d (ix2 r l) * v (ix3 0 r l) := by
  unfold times
  pointwise

theorem tile_row (X : S1x4096x128.Idx → Ideal .f32) (b : Fin 32) (r l : Fin 128) :
    X ((rTile b).emb (ix3 0 r l)) = X (ix3 0 ⟨128 * b.val + r.val, by omega⟩ l) := by
  refine congrArg X ?_
  refine emb_eq fun a => ?_; fin_cases a <;> simp [ix3]

theorem out_row (dq sg t2 : S1x4096x128.Idx → Ideal .f32) (W : S1x32x128.Idx → Ideal .f32) (h : Fin 2) (n : Fin 4096) (l : Fin 128) :
    outOf dq sg t2 W (ix4 0 h n l) = times (tapAcc (wOf W) (padOf dq) ⟨n.val / 128, by omega⟩ 31)
      (fun x => (if h.val = 0 then sg else t2) ((rTile ⟨n.val / 128, by omega⟩).emb x)) (ix4 0 0 ⟨n.val % 128, by omega⟩ l) := by
  unfold outOf
  rfl

theorem block_row (d : FVec Ideal S128x128 .f32) (f : S1x4096x128.Idx → Ideal .f32) (n : Fin 4096) (l : Fin 128) :
    (times d (fun x => f ((rTile ⟨n.val / 128, by omega⟩).emb x)) (ix4 0 0 ⟨n.val % 128, by omega⟩ l) : EReal)
      = d (ix2 ⟨n.val % 128, by omega⟩ l) * f (ix3 0 n l) := by
  refine (times_at _ _ _ _).trans (congrArg (fun z : EReal => d (ix2 ⟨n.val % 128, by omega⟩ l) * z) ((tile_row _ _ _ _).trans ?_))
  exact congrArg (fun i => f (ix3 0 i l)) (Fin.ext (by dsimp only; omega))

theorem factor_at (t : Fin cfg0.N) (h : Fin 2) (n : Fin 4096) (l : Fin 128) :
    ((if h.val = 0 then sgB m c t else t2B m c t) (ix3 0 n l) : EReal) = if h.val = 0 then gate (gA m c n (chan t l))
      else aA m c n (chan t l) * gate (gA m c n (chan t l)) * (1 - gate (gA m c n (chan t l))) := by
  by_cases p : h.val = 0
  · exact (congrFun (if_pos p) _).trans ((sgB_read m c t n l).trans (if_pos p).symm)
  · exact (congrFun (if_neg p) _).trans ((t2B_read m c t n l).trans (if_neg p).symm)

theorem taps_row (t : Fin cfg0.N) (n : Fin 4096) (l : Fin 128) :
    (tapAcc (wOf (wB m c t)) (padOf (dqB m c t)) ⟨n.val / 128, by omega⟩ 31 (ix2 ⟨n.val % 128, by omega⟩ l) : EReal)
      = convBack (wA m c) (dqA m c) n (chan t l) := by
  refine (taps_at m c t _ _ l).trans ?_
  exact congrArg (fun i => convBack (wA m c) (dqA m c) i (chan t l)) (Fin.ext (by dsimp only; omega))

theorem dzC_at (t : Fin cfg0.N) (h : Fin 2) (n : Fin 4096) (l : Fin 128) :
    (dzC m c t (ix4 0 h n l) : EReal) = halfGrad h (aA m c) (gA m c) (wA m c) (dqA m c) n (chan t l) := by
  unfold dzC halfGrad
  rw [out_row, block_row, taps_row, factor_at]

theorem places_dz : ∀ t : Fin cfg0.N, win0_4.index t = ![t.val, 0, 0, 0] := by decide +kernel

theorem emb_dz (t : Fin cfg0.N) (h : Fin 2) (n : Fin 4096) (l : Fin 128) :
    (win0_4.blk t).view.emb (ix4 0 h n l) = ix4 (pt t) h n l := by
  funext a
  apply Fin.ext
  fin_cases a <;> blk_simp [places_dz t, pt] <;> rfl

theorem dz_array : (dats m 0 c).arrAt 4 cfg0.N = gradOf (aA m c) (gA m c) (wA m c) (dqA m c) := by
  refine (dats m 0 c).arrAt_eq_of_covers 4 _ (by decide +kernel) fun t hf y => ?_
  blk_simp
  rw [show (dats m 0 c).after 4 t = dzC m c t by dsimp only [dats]]
  obtain ⟨z, h, n, l, rfl⟩ := four y
  obtain rfl : z = 0 := Subsingleton.elim _ _
  exact (dzC_at m c t h n l).trans (congrArg (gradOf (aA m c) (gA m c) (wA m c) (dqA m c)) (emb_dz t h n l)).symm

end Arrays

/-! ## The runs of the convolution's backward kernel: the arguments as they were, the counters at zero, and the two gradients -/

open Idealize.SL.Sem

/-- The arguments end as they were. -/
def Kept {F : FTy → Type} (m m' : (ℓ : Loc nD τ sig) → Buf (Elt F) ℓ) (c : Dev nD) : Prop :=
  Same m m' c main_arg0 ∧ Same m m' c main_arg1 ∧ Same m m' c main_arg2 ∧ Same m m' c main_arg3 ∧ Same m m' c main_arg4

section
variable {F : FTy → Type} [FloatOps F] (m : (ℓ : Loc nD τ sig) → Buf (Elt F) ℓ) (ρ : Dev nD → PrngReg)

/-- A buffer outside the call's windows keeps what the host left there. -/
theorem rest {b : Ref sig .tc} {c : Dev nD} {r : PUnit × MemSt nD τ sig (Elt F)} (h : Pipeline.FramePost cfgs (dats m) 0 (V m) r)
    (hV : V m c b = m ((c.tc : Thread nD τ).loc b))
    (hb : b ∈ Pipeline.restRefs sig spec0 := by exact Pipeline.mem_restRefs_of _ (by decide) (by decide)) : Same m r.2.mem c b :=
  ((h c).2 b hb).trans hV

theorem kept (r : PUnit × MemSt nD τ sig (Elt F)) (h : Pipeline.FramePost cfgs (dats m) 0 (V m) r) (c : Dev nD) : Kept m r.2.mem c :=
  ⟨rest m h (V_main_arg0 m c),
    rest m h (V_main_arg1 m c),
    rest m h (V_main_arg2 m c),
    rest m h (V_main_arg3 m c),
    rest m h (V_main_arg4 m c)⟩

/-- Every run ends with the arguments as they were and every counter at zero. -/
theorem run_frame : θ_run defs (onTc (τ := τ) (main (F := F))) ⟨m, fun _ => 0, ρ⟩
    (fun r => (∀ c : Dev nD, Kept m r.2.mem c) ∧ r.2.sem = fun _ => 0) :=
  (θ_run defs _ _).mono (fun r h => ⟨kept m r h.1, h.2⟩) (run_main m ρ)

end

/-- Over the extended reals every run ends with the two gradients, too. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      left r c main_v20 = gradOf (aA m c) (gA m c) (wA m c) (dqA m c) ∧ Kept m r.2.mem c :=
  (θ_run defs _ _).mono (fun r h c => ⟨((h.1 c).1 4).trans (dz_array m c), kept m r h.1 c⟩) (run_main m ρ)

end Cert.ConvBack

end
-- ==== Proof.Lib.Scatter.lean ====
/- Rows added into an array at given rows, read at one place. -/
module

public import Idealize.ShloMosaic.Lib.Pointwise
public import Idealize.ShloMosaic.Lib.Routing.OpsPair

@[expose] public section

noncomputable section

namespace Cert.Hand

open Idealize.ShloMosaic

variable {N C A B w : Nat}

/-- The scatter that adds a row of `C` values into an `[N, C]` array for each of `[A, B]` start indices. -/
abbrev rowsAdd (wf : ScatterDims.WF ⟨2, ![N, C]⟩ ⟨3, ![A, B, 1]⟩ ⟨3, ![A, B, C]⟩ [2] [0] [0] 2) :
    ScatterDims ⟨2, ![N, C]⟩ ⟨3, ![A, B, 1]⟩ ⟨3, ![A, B, C]⟩ where
  updateWindowDims := [2]
  insertedWindowDims := [0]
  scatterDimsToOperandDims := [0]
  indexVectorDim := 2
  wf := wf

/-- Row `(o, n)` lands at the row that start index `(o, n)` names, column by column. -/
theorem lands_row (wf : ScatterDims.WF ⟨2, ![N, C]⟩ ⟨3, ![A, B, 1]⟩ ⟨3, ![A, B, C]⟩ [2] [0] [0] 2) (idx : IVec ⟨3, ![A, B, 1]⟩ w)
    (o : Fin A) (n : Fin B) (l : Fin C) (r : Fin N) (k : Fin C) :
    (rowsAdd wf).resultIdx? (ix3 o n l) idx = some (ix2 r k) ↔ (idx (ix3 o n 0)).toInt = r.val ∧ l = k := by
  have h0 : (rowsAdd wf).start (ix3 o n l) idx 0 = (idx (ix3 o n 0)).toInt := by
    unfold ScatterDims.start
    rw [dif_pos (show (0 : Fin 2) ∈ (rowsAdd wf).scatterDimsToOperandDims from List.mem_singleton.mpr rfl)]
    congr 2
    funext b
    refine Fin.ext ?_
    match b with
    | ⟨0, _⟩ => rfl
    | ⟨1, _⟩ => rfl
    | ⟨2, _⟩ => rfl
  have h1 : (rowsAdd wf).start (ix3 o n l) idx 1 = 0 := by
    unfold ScatterDims.start
    rw [dif_neg (show ¬ (1 : Fin 2) ∈ (rowsAdd wf).scatterDimsToOperandDims from by simp)]
  have w0 : (rowsAdd wf).window (ix3 o n l) 0 = 0 := by
    unfold ScatterDims.window
    rw [dif_neg fun h => (of_decide_eq_true (List.mem_filter.1 h).2) (List.mem_singleton.mpr rfl)]
  have w1 : (rowsAdd wf).window (ix3 o n l) 1 = l.val := rfl
  rw [Routing.resultIdx?_eq_some]
  refine (Fin.forall_fin_two (p := fun a : Fin 2 => (rowsAdd wf).start (ix3 o n l) idx a + ((rowsAdd wf).window (ix3 o n l) a : Int)
    = (((ix2 r k : (⟨2, ![N, C]⟩ : Shape).Idx) a).val : Int))).trans ?_
  rw [h0, h1, w0, w1]
  change _ + (0 : ℕ) = (r.val : Int) ∧ 0 + (l.val : Int) = (k.val : Int) ↔ _
  constructor
  · rintro ⟨p, q⟩
    exact ⟨by omega, Fin.ext (by omega)⟩
  · rintro ⟨p, rfl⟩
    exact ⟨by omega, by omega⟩

/-- Place `(r, k)` gains column `k` of every row whose start index names `r`. -/
theorem scatter_rows (wf : ScatterDims.WF ⟨2, ![N, C]⟩ ⟨3, ![A, B, 1]⟩ ⟨3, ![A, B, C]⟩ [2] [0] [0] 2) (x : FVec Ideal ⟨2, ![N, C]⟩ .f32)
    (idx : IVec ⟨3, ![A, B, 1]⟩ w) (upd : FVec Ideal ⟨3, ![A, B, C]⟩ .f32) (r : Fin N) (k : Fin C) :
    (Host.scatterAdd (rowsAdd wf) x idx upd (ix2 r k) : EReal)
      = x (ix2 r k) + ∑ o : Fin A, ∑ n : Fin B, (if (idx (ix3 o n 0)).toInt = r.val then upd (ix3 o n k) else 0 : EReal) := by
  change (x (ix2 r k) : EReal) + ∑ j ∈ Finset.univ.filter (fun j => (rowsAdd wf).resultIdx? j idx = some (ix2 r k)), (upd j : EReal) = _
  congr 1
  rw [Finset.sum_filter, sum_idx3]
  refine Finset.sum_congr (M := EReal) rfl fun o _ => Finset.sum_congr (M := EReal) rfl fun n _ => ?_
  simp only [lands_row]
  by_cases h : (idx (ix3 o n 0)).toInt = r.val
  · simp [h]
  · simp [h]

end Cert.Hand

end
-- ==== Proof.ConvBack.Reference.lean ====
/- The derivative of the gated convolution, as elements of the arguments. -/
module

public import proofs.«01_k».proof.Proof.Lib.Mem
public import proofs.«01_k».proof.Proof.ConvBack.Spec
public import proofs.«01_k».proof.Proof.Gen.Reference3Ideal.Run
public import proofs.«01_k».proof.Proof.Lib.Scatter
public import Idealize.ShloMosaic.Lib.StableHlo.ReadAt

@[expose] public section

noncomputable section

namespace Cert.ConvBack.Ref

open Idealize.ShloMosaic Idealize.ShloMosaic.TcCoe Idealize.SL.Sem Cert.Reference3Ideal Cert.Reference3Ideal.Gen Cert.Reference3Ideal.Value Cert.Hand

variable (m : (ℓ : Loc nD τ sig) → Buf (Elt Ideal) ℓ) (c : Dev nD)

/-- An argument's contents. -/
abbrev arg (r : Ref sig .tc) : Buf (Elt Ideal) ((c.tc : Thread nD τ).loc r) := m ((c.tc : Thread nD τ).loc r)

/-! ## The arguments by their places -/

def aA (n : Fin 4096) (k : Fin 1024) : EReal := arg m c main_arg0 (ix2 n k)
def gA (n : Fin 4096) (k : Fin 1024) : EReal := arg m c main_arg1 (ix2 n k)
def wA (o : Fin 31) (k : Fin 1024) : EReal := arg m c main_arg2 (ix2 o k)
def dqA (n : Fin 4096) (k : Fin 1024) : EReal := arg m c main_arg4 (ix2 n k)

/-! ## The rows the taps read -/

/-- The row that tap `o` of row `n` reads, of rows with fifteen before them and fifteen behind. -/
abbrev starts : IVec S31x4096x1 32 :=
  minsi (maxsi (broadcastInDim S31x4096x1 ![0, 1] bcast_S31x4096_S31x4096x1_0_1
      (addi (broadcastInDim S31x4096 ![0, 1] bcast_S31x1_S31x4096_0_1 (broadcastInDim S31x1 ![0] bcast_S31_S31x1_0 (iotaInDim S31 32 0)))
        (broadcastInDim S31x4096 ![0, 1] bcast_S1x4096_S31x4096_0_1 (broadcastInDim S1x4096 ![1] bcast_S4096_S1x4096_1 (iotaInDim S4096 32 0)))))
      (broadcastInDim S31x4096x1 ![] bcast_S_S31x4096x1 (constantI S_ 32 0#32)))
    (broadcastInDim S31x4096x1 ![2] bcast_S1_S31x4096x1_2
      (minsi (constantI S1 32 4125#32) (broadcastInDim S1 ![] bcast_S_S1 (constantI S_ 32 2147483647#32))))

/-- The words' sum is the numbers' sum, and lies inside the bounds. -/
theorem clamp_word (o : Fin 31) (n : Fin 4096) :
    (IntOp.minsi (IntOp.maxsi (IntOp.addi (BitVec.ofNat 32 o.val) (BitVec.ofNat 32 n.val)) 0#32) (IntOp.minsi 4125#32 2147483647#32)).toInt
      = n.val + o.val := by
  have h : IntOp.addi (BitVec.ofNat 32 o.val) (BitVec.ofNat 32 n.val) = BitVec.ofNat 32 (n.val + o.val) := by
    change BitVec.ofNat 32 o.val + BitVec.ofNat 32 n.val = _
    rw [← BitVec.ofNat_add, Nat.add_comm]
  have e : ∀ w : ℕ, w ≤ 4125 → (BitVec.ofNat 32 w).toInt = w := fun w hw => by
    rw [BitVec.toInt_eq_toNat_cond, BitVec.toNat_ofNat, Nat.mod_eq_of_lt (by omega), if_pos (by omega)]
  have hw := e (n.val + o.val) (by omega)
  have h1 : IntOp.maxsi (BitVec.ofNat 32 (n.val + o.val)) 0#32 = BitVec.ofNat 32 (n.val + o.val) := by
    unfold IntOp.maxsi
    by_cases p : (0#32 : BitVec 32).slt (BitVec.ofNat 32 (n.val + o.val)) = true
    · rw [if_pos p]
    · rw [if_neg p]
      rw [BitVec.slt_iff_toInt_lt, hw, show (0#32 : BitVec 32).toInt = 0 from rfl] at p
      rw [show n.val + o.val = 0 by omega]
  have h2 : IntOp.minsi 4125#32 2147483647#32 = 4125#32 := by decide
  have h3 : IntOp.minsi (BitVec.ofNat 32 (n.val + o.val)) 4125#32 = BitVec.ofNat 32 (n.val + o.val) := by
    unfold IntOp.minsi
    by_cases p : (BitVec.ofNat 32 (n.val + o.val)).slt 4125#32 = true
    · rw [if_pos p]
    · rw [if_neg p]
      rw [BitVec.slt_iff_toInt_lt, hw, show (4125#32 : BitVec 32).toInt = 4125 by decide] at p
      rw [show n.val + o.val = 4125 by omega]
  rw [h, h1, h2, h3, hw]
  push_cast
  rfl

theorem start_at (o : Fin 31) (n : Fin 4096) : (starts (ix3 o n 0)).toInt = n.val + o.val := by
  unfold starts
  pointwise
  exact clamp_word o n

/-- The rows' contributions. -/
abbrev parts : FVec Ideal S31x4096x1024 .f32 :=
  mulf (broadcastInDim S31x4096x1024 ![1, 2] bcast_S4096x1024_S31x4096x1024_1_2 (arg m c main_arg4))
    (broadcastInDim S31x4096x1024 ![0, 1, 2] bcast_S31x1x1024_S31x4096x1024_0_1_2
      (broadcastInDim S31x1x1024 ![0, 2] bcast_S31x1024_S31x1x1024_0_2 (arg m c main_arg2)))

theorem part_at (o : Fin 31) (n : Fin 4096) (k : Fin 1024) : (parts m c (ix3 o n k) : EReal) = dqA m c n k * wA m c o k := by
  unfold parts
  pointwise
  rfl

/-- The gradient of the gated input. -/
abbrev inner : FVec Ideal S4096x1024 .f32 :=
  extractStridedSlice S4096x1024 ![15, 0] (Host.scatterAdd scatter_S4126x1024_S31x4096x1_S31x4096x1024_2_0_0_2
    (broadcastInDim S4126x1024 ![] bcast_S_S4126x1024 (constant S_ .f32 0x00000000#32)) starts (parts m c)) slices_S4126x1024_S4096x1024_15_0

theorem one_tap (f : Fin 4096 → EReal) (n o : ℕ) :
    ∑ i : Fin 4096, (if (i.val + o : Int) = (n + 15 : ℕ) then f i else 0) = slide f n o := by
  unfold slide
  by_cases h : o ≤ n + 15 ∧ n + 15 - o < 4096
  · rw [dif_pos h, Finset.sum_eq_single (⟨n + 15 - o, h.2⟩ : Fin 4096)]
    · rw [if_pos (by dsimp only; omega)]
    · intro i _ hi
      rw [if_neg fun e => hi (Fin.ext (by dsimp only; omega))]
    · intro e; exact absurd (Finset.mem_univ _) e
  · rw [dif_neg h]
    refine Finset.sum_eq_zero fun i _ => if_neg fun e => h ?_
    have := i.isLt
    omega

theorem slide_mul (f : Fin 4096 → EReal) (w : EReal) (n o : ℕ) : slide (fun i => f i * w) n o = w * slide f n o := by
  unfold slide
  split
  · exact mul_comm _ _
  · rw [mul_zero]

theorem mid_at (Y : FVec Ideal S4126x1024 .f32) (n : Fin 4096) (k : Fin 1024) :
    extractStridedSlice S4096x1024 ![15, 0] Y slices_S4126x1024_S4096x1024_15_0 (ix2 n k) = Y (ix2 ⟨n.val + 15, by omega⟩ k) := by
  pointwise
  exact congrArg (fun i => Y (ix2 i k)) (Fin.ext (Nat.add_comm _ _))

theorem inner_at (n : Fin 4096) (k : Fin 1024) : (inner m c (ix2 n k) : EReal) = convBack (wA m c) (dqA m c) n k := by
  have e : (inner m c (ix2 n k) : EReal) = Host.scatterAdd scatter_S4126x1024_S31x4096x1_S31x4096x1024_2_0_0_2
      (broadcastInDim S4126x1024 ![] bcast_S_S4126x1024 (constant S_ .f32 0x00000000#32)) starts (parts m c) (ix2 ⟨n.val + 15, by omega⟩ k) := by
    exact mid_at _ n k
  refine e.trans ((scatter_rows scatter_S4126x1024_S31x4096x1_S31x4096x1024_2_0_0_2_wf _ _ _ _ k).trans ?_)
  have z : (broadcastInDim S4126x1024 ![] bcast_S_S4126x1024 (constant (F := Ideal) S_ .f32 0x00000000#32) (ix2 ⟨n.val + 15, by omega⟩ k) : EReal) = 0 := by
    pointwise
  rw [z, zero_add]
  unfold convBack
  refine Finset.sum_congr (M := EReal) rfl fun o _ => ?_
  rw [← slide_mul, ← one_tap]
  refine Finset.sum_congr (M := EReal) rfl fun i _ => ?_
  rw [start_at, part_at]

/-! ## The result -/

/-- The reference's result. -/
abbrev both : FVec Ideal S8x2x4096x128 .bf16 :=
  truncf .bf16 (concatenate S8x2x4096x128 1 [⟨S8x1x4096x128, (broadcastInDim S8x1x4096x128 ![0, 2, 3] bcast_S8x4096x128_S8x1x4096x128_0_2_3
    (transpose S8x4096x128 [1, 0, 2] (shapeCast _ (mulf (inner m c)
      (Host.divf (broadcastInDim S4096x1024 ![] bcast_S_S4096x1024 (constant S_ .f32 0x3F800000#32))
        (addf (broadcastInDim S4096x1024 ![] bcast_S_S4096x1024 (constant S_ .f32 0x3F800000#32)) (Host.exp (Host.negf (arg m c main_arg1))))))
      shapeCasts_S4096x1024_S4096x8x128) transposes_S4096x8x128_S8x4096x128_1_0_2))⟩,
    ⟨S8x1x4096x128, (broadcastInDim S8x1x4096x128 ![0, 2, 3] bcast_S8x4096x128_S8x1x4096x128_0_2_3
      (transpose S8x4096x128 [1, 0, 2] (shapeCast _ (mulf (mulf (arg m c main_arg0) (inner m c))
        (mulf (Host.divf (broadcastInDim S4096x1024 ![] bcast_S_S4096x1024 (constant S_ .f32 0x3F800000#32))
            (addf (broadcastInDim S4096x1024 ![] bcast_S_S4096x1024 (constant S_ .f32 0x3F800000#32)) (Host.exp (Host.negf (arg m c main_arg1)))))
          (subf (broadcastInDim S4096x1024 ![] bcast_S_S4096x1024 (constant S_ .f32 0x3F800000#32))
            (Host.divf (broadcastInDim S4096x1024 ![] bcast_S_S4096x1024 (constant S_ .f32 0x3F800000#32))
              (addf (broadcastInDim S4096x1024 ![] bcast_S_S4096x1024 (constant S_ .f32 0x3F800000#32)) (Host.exp (Host.negf (arg m c main_arg1))))))))
        shapeCasts_S4096x1024_S4096x8x128) transposes_S4096x8x128_S8x4096x128_1_0_2))⟩]
    concatenates_S8x1x4096x128_S8x1x4096x128_S8x2x4096x128_d1) bitsLt_bf16_f32

theorem both_at0 (b : Fin 8) (n : Fin 4096) (l : Fin 128) : (both m c (ix4 b 0 n l) : EReal)
    = inner m c (ix2 n ⟨b.val * 128 + l.val, by omega⟩) * gate (gA m c n ⟨b.val * 128 + l.val, by omega⟩) := by
  unfold both
  generalize inner m c = X
  pointwise
  rfl

theorem both_at1 (b : Fin 8) (n : Fin 4096) (l : Fin 128) : (both m c (ix4 b 1 n l) : EReal)
    = aA m c n ⟨b.val * 128 + l.val, by omega⟩ * inner m c (ix2 n ⟨b.val * 128 + l.val, by omega⟩)
      * (gate (gA m c n ⟨b.val * 128 + l.val, by omega⟩) * (1 - gate (gA m c n ⟨b.val * 128 + l.val, by omega⟩))) := by
  unfold both
  generalize inner m c = X
  pointwise
  rfl

/-! ## The run -/

theorem both_at (h : Fin 2) (b : Fin 8) (n : Fin 4096) (l : Fin 128) : (both m c (ix4 b h n l) : EReal)
    = halfGrad h (aA m c) (gA m c) (wA m c) (dqA m c) n ⟨b.val * 128 + l.val, by omega⟩ := by
  unfold halfGrad
  rw [← inner_at]
  match h with
  | ⟨0, _⟩ => exact both_at0 m c b n l
  | ⟨1, _⟩ =>
    refine (both_at1 m c b n l).trans ?_
    rw [if_neg (show ¬ (1 : ℕ) = 0 by decide), mul_comm (aA m c n _), mul_assoc, mul_assoc]

/-- The arguments end as they were. -/
def Kept (m' : (ℓ : Loc nD τ sig) → Buf (Elt Ideal) ℓ) (c : Dev nD) : Prop :=
  Same m m' c main_arg0 ∧ Same m m' c main_arg1 ∧ Same m m' c main_arg2 ∧ Same m m' c main_arg3 ∧ Same m m' c main_arg4

/-- Every run ends with the two gradients and the arguments as they were. -/
theorem run_values (ρ : Dev nD → PrngReg) :
    θ_run defs (onTc (τ := τ) (main (F := Ideal))) ⟨m, fun _ => 0, ρ⟩ fun r => ∀ c : Dev nD,
      left r c main_v46 = gradOf (aA m c) (gA m c) (wA m c) (dqA m c)
      ∧ Kept m r.2.mem c := by
  refine (θ_run defs _ _).mono (fun r h c => ⟨((h c).1.trans (show _ = both m c from rfl)).trans ?_, (h c).2⟩) (run m ρ)
  funext j
  obtain ⟨b, h, n, l, rfl⟩ := four j
  exact both_at m c h b n l

end Cert.ConvBack.Ref

end
-- ==== Proof.ConvBack.Equal.lean ====
/- The convolution's backward kernel computes the derivative: its frames, and the equality of the results. -/
module

public import proofs.«01_k».proof.Defs
public import proofs.«01_k».proof.Proof.ConvBack.Values
public import proofs.«01_k».proof.Proof.ConvBack.Reference
public import proofs.«01_k».proof.Proof.Gen.Kernel3

@[expose] public section

noncomputable section

namespace Cert.ConvBack

open Idealize.ShloMosaic Idealize.ShloMosaic.TcCoe Idealize.SL.Sem

/-- The kernel and its idealization are one program, at two kinds of elements: the idealization's run is the kernel's. -/
theorem same_program : Cert.quiescent_Kernel3
    = ∀ (m : (ℓ : Loc Cert.Kernel3Ideal.nD Cert.Kernel3Ideal.τ Cert.Kernel3Ideal.sig) → Buf (Elt Bits) ℓ) (ρ : Dev Cert.Kernel3Ideal.nD → PrngReg), True →
        θ_run Cert.Kernel3Ideal.defs (onTc (τ := Cert.Kernel3Ideal.τ) (Cert.Kernel3Ideal.main (F := Bits))) ⟨m, fun _ => 0, ρ⟩
          (fun r => (∀ c : Dev Cert.Kernel3Ideal.nD, Kept m r.2.mem c) ∧ r.2.sem = fun _ => 0) := by
  sl_kernel_rfl

theorem frame_kernel : Cert.quiescent_Kernel3 := same_program.mpr fun m ρ _ => run_frame (F := Bits) m ρ

theorem frame_kernelIdeal : Cert.quiescent_Kernel3Ideal := fun m ρ _ => run_frame (F := Ideal) m ρ

theorem frame_referenceIdeal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem values : Cert.algebraic_Kernel3Ideal_Reference3Ideal := by
  intro m ρ m' ρ' _ hargs
  have ha : ∀ c, Ref.aA m' c = aA m c := fun c => funext fun n => funext fun k => congrFun (hargs c).1 (ix2 n k)
  have hg : ∀ c, Ref.gA m' c = gA m c := fun c => funext fun n => funext fun k => congrFun (hargs c).2.1 (ix2 n k)
  have hw : ∀ c, Ref.wA m' c = wA m c := fun c => funext fun n => funext fun k => congrFun (hargs c).2.2.1 (ix2 n k)
  have hq : ∀ c, Ref.dqA m' c = dqA m c := fun c => funext fun n => funext fun k => congrFun (hargs c).2.2.2.2 (ix2 n k)
  refine ⟨_, run_values m ρ, (θ_run Cert.Reference3Ideal.defs _ _).mono (fun r h c => ?_) (Ref.run_values m' ρ')⟩
  obtain ⟨h0, hk⟩ := h c
  rw [ha, hg, hw, hq] at h0
  exact ⟨h0, hk⟩

end Cert.ConvBack

end
-- ==== Proof.ConvFwd.Body.lean ====
/- The body of the convolution's forward kernel as a function on the contents of its blocks and its scratch array,
   written with loops over its tiles and its taps. `body_eq` says that the two are one program. -/
module

public import proofs.«01_k».proof.Proof.Gen.Kernel4Ideal
public import proofs.«01_k».proof.Proof.Lib.Mem

@[expose] public section

noncomputable section

namespace Cert.ConvFwd

open Idealize.ShloMosaic Idealize.SL.Sem Cert.Kernel4Ideal Cert.Hand Cert.Hand.Mem
open Facts₀

variable {F : FTy → Type} [FloatOps F]

/-- The body's memrefs: the values and the gates, the weights, the bias; the convolution's rows, the gated rows, the gates'
logistic values, the gates' factor in the backward pass; and the padded rows. -/
inductive Slot where
  | z | w | b | q | p | sg | t2 | pad
  deriving DecidableEq

instance : Fintype Slot := ⟨{.z, .w, .b, .q, .p, .sg, .t2, .pad}, fun b => by cases b <;> decide⟩

/-- Each memref's shape -/
@[reducible] def Slot.shape : Slot → Shape
  | .z => S2x4096x128 | .w => S1x32x128 | .b => S1x128
  | .q => S1x4096x128 | .p => S1x4096x128 | .sg => S1x4096x128 | .t2 => S1x4096x128 | .pad => S4128x128

/-- and element type. -/
@[reducible] def Slot.elt : Slot → EltTy
  | .z => .f32 | .w => .f32 | .b => .f32 | .q => .f32 | .p => .f32 | .sg => .f32 | .t2 => .f32 | .pad => .f32

/-- The memrefs one run of the body is given. -/
abbrev Args : Type := (b : Slot) → Memref sig .tc .vmem b.shape b.elt

/-- They are one bank. -/
@[reducible] def bank (R : Args) : Bank sig Slot := ⟨Slot.shape, Slot.elt, R⟩

/-- What they hold. -/
abbrev St (F : FTy → Type) : Type := (b : Slot) → b.shape.Idx → Elt F b.elt

/-- A body on that bank. -/
abbrev Code (F : FTy → Type) (R : Args) (α : Type) : Type := Mem (bank R) (Elt F) α

variable (R : Args)

/-! ## The rectangles -/

theorem inb_tap (t : Fin 32) (o : Fin 31) : ∀ a, (![128 * t.val + (1 + o.val), 0] : Fin 2 → Nat) a + S128x128.size a ≤ S4128x128.size a := by
  intro a
  have := t.2
  have := o.2
  fin_cases a
  · show 128 * t.val + (1 + o.val) + 128 ≤ 4128; omega
  · show 0 + 128 ≤ 128; omega

theorem inb_fill (t : Fin 32) : ∀ a, (![16 + 128 * t.val, 0] : Fin 2 → Nat) a + S128x128.size a ≤ S4128x128.size a := by
  revert t; decide

theorem inb_half (h : Fin 2) (t : Fin 32) : ∀ a, (![h.val, 128 * t.val, 0] : Fin 3 → Nat) a + S1x128x128.size a ≤ S2x4096x128.size a := by
  revert h t; decide

theorem inb_tile (t : Fin 32) : ∀ a, (![0, 128 * t.val, 0] : Fin 3 → Nat) a + S1x128x128.size a ≤ S1x4096x128.size a := by
  revert t; decide

/-- A tile of 128 rows shifted by a tap. -/
@[reducible] def rTap (t : Fin 32) (o : Fin 31) : Rect S4128x128 :=
  Rect.unit (s := S4128x128) ![128 * t.val + (1 + o.val), 0] S128x128.size (inb_tap t o)
/-- A tile of 128 padded rows. -/
@[reducible] def rFill (t : Fin 32) : Rect S4128x128 := Rect.unit (s := S4128x128) ![16 + 128 * t.val, 0] S128x128.size (inb_fill t)
/-- A tile of the values (`h = 0`) or of the gates (`h = 1`). -/
@[reducible] def rHalf (h : Fin 2) (t : Fin 32) : Rect S2x4096x128 :=
  Rect.unit (s := S2x4096x128) ![h.val, 128 * t.val, 0] S1x128x128.size (inb_half h t)
/-- A tile of a result. -/
@[reducible] def rTile (t : Fin 32) : Rect S1x4096x128 := Rect.unit (s := S1x4096x128) ![0, 128 * t.val, 0] S1x128x128.size (inb_tile t)

theorem slices_tap (o : Fin 31) : S32x128.Slices ![o.val, 0] S1x128 := by revert o; decide

/-- A load of a rectangle of a memref. -/
@[reducible] def ld (b : Slot) (r : Rect b.shape) (h : 0 < r.shape.numel) : Code F R (r.shape.Idx → Elt F b.elt) :=
  rd (A := bank R) b r (View.loadsAt_vmem h)

/-- A store over a rectangle of a memref. -/
@[reducible] def st (b : Slot) (r : Rect b.shape) (w : r.shape.Idx → Elt F b.elt) (h : 0 < r.shape.numel)
    (he : b.elt.bits = 32) : Code F R PUnit :=
  wr (A := bank R) b r w (View.stores_vmem_bits_univ h he)

/-! ## A tile's arithmetic -/

/-- The gates' logistic values. -/
def logistic (v : FVec F S1x128x128 .f32) : FVec F S128x128 .f32 :=
  addf (mulf (broadcast S128x128 (Scalar.ofBits .f32 0x3F000000#32))
    (tanh (mulf (broadcast S128x128 (Scalar.ofBits .f32 0x3F000000#32)) (shapeCast S128x128 v shapeCasts_S1x128x128_S128x128))))
    (broadcast S128x128 (Scalar.ofBits .f32 0x3F000000#32))

/-- The gated rows. -/
def gated (u v : FVec F S1x128x128 .f32) : FVec F S128x128 .f32 :=
  mulf (shapeCast S128x128 u shapeCasts_S1x128x128_S128x128) (logistic v)

/-- The gates' factor in the backward pass. -/
def factor (u v : FVec F S1x128x128 .f32) : FVec F S128x128 .f32 :=
  mulf (gated u v) (subf (broadcast S128x128 (Scalar.ofBits .f32 0x3F800000#32)) (logistic v))

/-- A tile as a tile of a result. -/
def lift (d : FVec F S128x128 .f32) : FVec F S1x128x128 .f32 := shapeCast S1x128x128 d shapeCasts_S128x128_S1x128x128

/-- One tap's products with the shifted rows, added to what the taps before it gave. -/
def addTap (w : FVec F S32x128 .f32) (o : Fin 31) (acc v : FVec F S128x128 .f32) : FVec F S128x128 .f32 :=
  addf acc (mulf (broadcastTo S128x128 (extractStridedSlice S1x128 ![o.val, 0] w (slices_tap o)) broadcasts_S1x128_S128x128) v)

/-- The bias in every row. -/
def rows (b : FVec F S1x128 .f32) : FVec F S128x128 .f32 :=
  broadcastTo S128x128 (shapeCast S1x128 b shapeCasts_S1x128_S1x128) broadcasts_S1x128_S128x128

/-! ## The parts of the body -/

/-- Zero rows before the gated rows and behind them. -/
def edges : Code F R PUnit := do
  let _ ← ld R .pad (Rect.unit (s := S4128x128) ![0, 0] S16x128.size inb_S4128x128_S16x128_0_0) h_S16x128
  st R .pad (Rect.unit (s := S4128x128) ![0, 0] S16x128.size inb_S4128x128_S16x128_0_0)
    (shapeCast S16x128 (broadcast S16x128 (Scalar.ofBits .f32 0x00000000#32)) shapeCasts_S16x128_S16x128) h_S16x128 rfl
  let _ ← ld R .pad (Rect.unit (s := S4128x128) ![4112, 0] S16x128.size inb_S4128x128_S16x128_4112_0) h_S16x128
  st R .pad (Rect.unit (s := S4128x128) ![4112, 0] S16x128.size inb_S4128x128_S16x128_4112_0)
    (shapeCast S16x128 (broadcast S16x128 (Scalar.ofBits .f32 0x00000000#32)) shapeCasts_S16x128_S16x128) h_S16x128 rfl

/-- One tile's gated rows, the logistic values and the factor. -/
def fill (t : Fin 32) : Code F R PUnit := do
  let v ← ld R .z (rHalf 1 t) h_S1x128x128
  let u ← ld R .z (rHalf 0 t) h_S1x128x128
  let _ ← ld R .pad (rFill t) h_S128x128
  st R .pad (rFill t) (shapeCast S128x128 (gated u v) shapeCasts_S128x128_S128x128) h_S128x128 rfl
  let _ ← ld R .p (rTile t) h_S1x128x128
  st R .p (rTile t) (lift (gated u v)) h_S1x128x128 rfl
  let _ ← ld R .sg (rTile t) h_S1x128x128
  st R .sg (rTile t) (lift (logistic v)) h_S1x128x128 rfl
  let _ ← ld R .t2 (rTile t) h_S1x128x128
  st R .t2 (rTile t) (lift (factor u v)) h_S1x128x128 rfl

/-- The last `n` taps of a tile. -/
def tapsFrom (t : Fin 32) (w : FVec F S32x128 .f32) : (n : ℕ) → n ≤ 31 → FVec F S128x128 .f32 → Code F R (FVec F S128x128 .f32) :=
  fun n => Nat.rec (motive := fun n => n ≤ 31 → FVec F S128x128 .f32 → Code F R (FVec F S128x128 .f32)) (fun _ acc => .ret acc)
    (fun n ih h acc => Mem.bind (ld R .pad (rTap t ⟨31 - (n + 1), by omega⟩) h_S128x128) fun v =>
      ih (by omega) (addTap w ⟨31 - (n + 1), by omega⟩ acc v)) n

/-- One tile of the convolution. -/
def tile (w : FVec F S32x128 .f32) (b : FVec F S1x128 .f32) (t : Fin 32) : Code F R PUnit := do
  let d ← tapsFrom R t w 31 le_rfl (rows b)
  let _ ← ld R .q (rTile t) h_S1x128x128
  st R .q (rTile t) (lift d) h_S1x128x128 rfl

/-- The convolution. -/
def conv : Code F R PUnit := do
  let v ← ld R .w (Rect.unit (s := S1x32x128) ![0, 0, 0] S1x32x128.size inb_S1x32x128_S1x32x128_0_0_0) h_S1x32x128
  let u ← ld R .b (Rect.unit (s := S1x128) ![0, 0] S1x128.size inb_S1x128_S1x128_0_0) h_S1x128
  steps (tile R (shapeCast S32x128 v shapeCasts_S1x32x128_S32x128) (shapeCast S1x128 u shapeCasts_S1x128_S1x128))

/-- The body. -/
def code : Code F R PUnit := do
  edges R
  steps (fill R)
  conv R

end Cert.ConvFwd

end
-- ==== Proof.ConvFwd.Run.lean ====
/- What the body of the convolution's forward kernel computes. -/
module

public import proofs.«01_k».proof.Proof.ConvFwd.Body
public import proofs.«01_k».proof.Proof.Lib.Progress
public import Idealize.ShloMosaic.Lib.PointwiseCore

@[expose] public section

noncomputable section

namespace Cert.ConvFwd

open Idealize.ShloMosaic Idealize.SL.Sem Cert.Kernel4Ideal Cert.Hand Cert.Hand.Mem
open Facts₀

variable {F : FTy → Type} [FloatOps F]

/-- Zero. -/
abbrev zero : F .f32 := Scalar.ofBits .f32 0x00000000#32

/-- The tile of 128 rows that a row is in. -/
def tileOf (n : Fin 4096) : Fin 32 := ⟨n.val / 128, by omega⟩

/-- A row's place in its tile. -/
def within (n : Fin 4096) : Fin 128 := ⟨n.val % 128, by omega⟩

/-- An array by its tiles. -/
def ofTiles (D : Fin 32 → FVec F S1x128x128 .f32) : S1x4096x128.Idx → F .f32 := fun j => D (tileOf (j 1)) (ix3 0 (within (j 1)) (j 2))

/-- A tile of the values or of the gates. -/
abbrev half (h : Fin 2) (Z : S2x4096x128.Idx → F .f32) (t : Fin 32) : FVec F S1x128x128 .f32 := fun x => Z ((rHalf h t).emb x)

/-- The gated rows, -/
def pOut (Z : S2x4096x128.Idx → F .f32) : S1x4096x128.Idx → F .f32 := ofTiles fun t => lift (gated (half 0 Z t) (half 1 Z t))
/-- the logistic values, -/
def sgOut (Z : S2x4096x128.Idx → F .f32) : S1x4096x128.Idx → F .f32 := ofTiles fun t => lift (logistic (half 1 Z t))
/-- and the factor. -/
def t2Out (Z : S2x4096x128.Idx → F .f32) : S1x4096x128.Idx → F .f32 := ofTiles fun t => lift (factor (half 0 Z t) (half 1 Z t))

/-- Rows between zero rows. -/
def padOf (X : S1x4096x128.Idx → F .f32) : S4128x128.Idx → F .f32 :=
  fun j => if h : 16 ≤ (j 0).val ∧ (j 0).val < 4112 then X (ix3 0 ⟨(j 0).val - 16, by omega⟩ (j 1)) else zero

/-- A tile's sum after its first `k` taps. -/
def tapAcc (w : FVec F S32x128 .f32) (b : FVec F S1x128 .f32) (P : S4128x128.Idx → F .f32) (t : Fin 32) : ℕ → FVec F S128x128 .f32
  | 0 => rows b
  | k + 1 => if h : k < 31 then addTap w ⟨k, h⟩ (tapAcc w b P t k) (fun x => P ((rTap t ⟨k, h⟩).emb x)) else tapAcc w b P t k

/-- The weights of a channel block, -/
def wOf (W : S1x32x128.Idx → F .f32) : FVec F S32x128 .f32 :=
  shapeCast S32x128 (fun x => W ((Rect.unit (s := S1x32x128) ![0, 0, 0] S1x32x128.size inb_S1x32x128_S1x32x128_0_0_0).emb x)) shapeCasts_S1x32x128_S32x128

/-- and its biases. -/
def bOf (B : S1x128.Idx → F .f32) : FVec F S1x128 .f32 :=
  shapeCast S1x128 (fun x => B ((Rect.unit (s := S1x128) ![0, 0] S1x128.size inb_S1x128_S1x128_0_0).emb x)) shapeCasts_S1x128_S1x128

/-- The convolution's rows. -/
def qOut (w : FVec F S32x128 .f32) (b : FVec F S1x128 .f32) (P : S4128x128.Idx → F .f32) : S1x4096x128.Idx → F .f32 :=
  ofTiles fun t => lift (tapAcc w b P t 31)

variable (R : Args) (S : St F)

/-! ## Times and places -/

/-- When a place of a result is written. -/
def tRow (j : S1x4096x128.Idx) : ℕ := (j 1).val / 128

theorem tRow_iff (t : Fin 32) (j : S1x4096x128.Idx) : tRow j = t.val ↔ j ∈ (rTile t).set := by
  have h0 : (j 0).val < 1 := (j 0).isLt
  have h2 : (j 2).val < 128 := (j 2).isLt
  rw [Rect.mem_set_unit]
  constructor
  · intro e a
    unfold tRow at e
    fin_cases a
    · show 0 ≤ (j 0).val ∧ (j 0).val < 0 + 1; omega
    · show 128 * t.val ≤ (j 1).val ∧ (j 1).val < 128 * t.val + 128; omega
    · show 0 ≤ (j 2).val ∧ (j 2).val < 0 + 128; omega
  · intro e
    have e1 : 128 * t.val ≤ (j 1).val ∧ (j 1).val < 128 * t.val + 128 := e 1
    unfold tRow
    omega

theorem tRow_lt (j : S1x4096x128.Idx) : tRow j < 32 := by
  have h1 : (j 1).val < 4096 := (j 1).isLt
  unfold tRow
  omega

theorem tile_at (D : Fin 32 → FVec F S1x128x128 .f32) (t : Fin 32) (x : S1x128x128.Idx) : D t x = ofTiles D ((rTile t).emb x) := by
  obtain ⟨z, r, l, rfl⟩ : ∃ (z : Fin 1) (r l : Fin 128), x = ix3 z r l := ⟨x 0, x 1, x 2, eq_ix3 x⟩
  obtain rfl : z = 0 := Subsingleton.elim _ _
  have e : (rTile t).emb (ix3 0 r l) = ix3 0 ⟨128 * t.val + r.val, by omega⟩ l := by
    refine emb_eq fun a => ?_; fin_cases a <;> simp [ix3]
  rw [e]
  have e1 : tileOf ⟨128 * t.val + r.val, by omega⟩ = t := Fin.ext (by unfold tileOf; dsimp only; omega)
  have e2 : within ⟨128 * t.val + r.val, by omega⟩ = r := Fin.ext (by unfold within; dsimp only; omega)
  exact (congrArg₂ (fun a b => D a (ix3 0 b l)) e1 e2).symm

theorem row_step (D : Fin 32 → FVec F S1x128x128 .f32) (X : S1x4096x128.Idx → F .f32) (t : Fin 32) :
    (rTile t).overlay (prog tRow (ofTiles D) X t.val) (D t) = prog tRow (ofTiles D) X (t.val + 1) :=
  prog_step (rTile t) tRow _ _ _ _ (tRow_iff t) (tile_at D t)

theorem row_end (D : Fin 32 → FVec F S1x128x128 .f32) (X : S1x4096x128.Idx → F .f32) : prog tRow (ofTiles D) X 32 = ofTiles D :=
  prog_end _ _ _ _ fun j => .inl (tRow_lt j)

/-- When a padded place is written. -/
def tPad (j : S4128x128.Idx) : ℕ := if 16 ≤ (j 0).val ∧ (j 0).val < 4112 then ((j 0).val - 16) / 128 else 32

theorem tPad_iff (t : Fin 32) (j : S4128x128.Idx) : tPad j = t.val ↔ j ∈ (rFill t).set := by
  have h1 : (j 1).val < 128 := (j 1).isLt
  have ht := t.isLt
  rw [Rect.mem_set_unit]
  constructor
  · intro e a
    unfold tPad at e
    split at e
    · fin_cases a
      · show 16 + 128 * t.val ≤ (j 0).val ∧ (j 0).val < 16 + 128 * t.val + 128; omega
      · show 0 ≤ (j 1).val ∧ (j 1).val < 0 + 128; omega
    · omega
  · intro e
    have e0 : 16 + 128 * t.val ≤ (j 0).val ∧ (j 0).val < 16 + 128 * t.val + 128 := e 0
    unfold tPad
    rw [if_pos (by omega)]
    omega

theorem fill_at (Z : S2x4096x128.Idx → F .f32) (t : Fin 32) (x : S128x128.Idx) :
    shapeCast S128x128 (gated (half 0 Z t) (half 1 Z t)) shapeCasts_S128x128_S128x128 x = padOf (pOut Z) ((rFill t).emb x) := by
  obtain ⟨r, l, rfl⟩ : ∃ (r l : Fin 128), x = ix2 r l := ⟨x 0, x 1, eq_ix2 x⟩
  have e : (rFill t).emb (ix2 r l) = ix2 ⟨16 + 128 * t.val + r.val, by omega⟩ l := by
    refine emb_eq fun a => ?_; fin_cases a <;> simp [ix2]
  rw [e]
  refine Eq.symm ((dif_pos (show 16 ≤ 16 + 128 * t.val + r.val ∧ 16 + 128 * t.val + r.val < 4112 by omega)).trans ?_)
  have e' : (rTile t).emb (ix3 0 r l) = ix3 0 ⟨16 + 128 * t.val + r.val - 16, by omega⟩ l := by
    refine emb_eq fun a => ?_; fin_cases a <;> simp [ix3]; omega
  refine (congrArg (pOut Z) e').symm.trans ((tile_at (fun t => lift (gated (half 0 Z t) (half 1 Z t))) t (ix3 0 r l)).symm.trans ?_)
  unfold lift
  generalize gated (half 0 Z t) (half 1 Z t) = G
  pointwise

theorem pad_step (Z : S2x4096x128.Idx → F .f32) (X : S4128x128.Idx → F .f32) (t : Fin 32) :
    (rFill t).overlay (prog tPad (padOf (pOut Z)) X t.val) (shapeCast S128x128 (gated (half 0 Z t) (half 1 Z t)) shapeCasts_S128x128_S128x128)
      = prog tPad (padOf (pOut Z)) X (t.val + 1) :=
  prog_step (rFill t) tPad _ _ _ _ (tPad_iff t) (fill_at Z t)

/-! ## The zero rows -/

/-- The padded array with its edges zero. -/
def edged (Y : S4128x128.Idx → F .f32) : S4128x128.Idx → F .f32 :=
  (Rect.unit (s := S4128x128) ![4112, 0] S16x128.size inb_S4128x128_S16x128_4112_0).overlay
    ((Rect.unit (s := S4128x128) ![0, 0] S16x128.size inb_S4128x128_S16x128_0_0).overlay Y
      (shapeCast S16x128 (broadcast S16x128 zero) shapeCasts_S16x128_S16x128)) (shapeCast S16x128 (broadcast S16x128 zero) shapeCasts_S16x128_S16x128)

theorem zeros (x : S16x128.Idx) : shapeCast S16x128 (broadcast S16x128 (zero (F := F))) shapeCasts_S16x128_S16x128 x = zero := by pointwise

theorem edged_at (Y : S4128x128.Idx → F .f32) (j : S4128x128.Idx) (h : ¬ (16 ≤ (j 0).val ∧ (j 0).val < 4112)) : edged Y j = zero := by
  obtain ⟨b, c, rfl⟩ : ∃ (b : Fin 4128) (c : Fin 128), j = ix2 b c := ⟨j 0, j 1, eq_ix2 j⟩
  replace h : ¬ (16 ≤ b.val ∧ b.val < 4112) := h
  unfold edged
  by_cases p : 4112 ≤ b.val
  · have e : ix2 b c = (Rect.unit (s := S4128x128) ![4112, 0] S16x128.size inb_S4128x128_S16x128_4112_0).emb
        (ix2 (⟨b.val - 4112, by omega⟩ : Fin 16) c) := by
      funext k; apply Fin.ext; rw [Rect.emb_apply]; fin_cases k <;> simp [ix2]; omega
    rw [e, Rect.overlay_emb]
    exact zeros _
  · rw [Rect.overlay_of_not_mem]
    · have e : ix2 b c = (Rect.unit (s := S4128x128) ![0, 0] S16x128.size inb_S4128x128_S16x128_0_0).emb
          (ix2 (⟨b.val, by omega⟩ : Fin 16) c) := by
        funext k; apply Fin.ext; rw [Rect.emb_apply]; fin_cases k <;> simp [ix2]
      rw [e, Rect.overlay_emb]
      exact zeros _
    · intro q
      have := (Rect.mem_set_unit.mp q 0).1
      simp [ix2] at this
      omega

theorem pad_end (Z : S2x4096x128.Idx → F .f32) (Y : S4128x128.Idx → F .f32) : prog tPad (padOf (pOut Z)) (edged Y) 32 = padOf (pOut Z) := by
  refine prog_end _ _ _ _ fun j => ?_
  unfold tPad
  by_cases h : 16 ≤ (j 0).val ∧ (j 0).val < 4112
  · left
    rw [if_pos h]
    omega
  · right
    rw [edged_at Y j h]
    exact Eq.symm (show padOf (pOut Z) j = zero from dif_neg h)

theorem run_edges : (run (edges R) S).2 = Function.update S .pad (edged (S .pad)) := by
  refine (show (run (edges R) S).2 = Function.update (Function.update S .pad (Rect.overlay _ (S .pad) _)) .pad
    (Rect.overlay _ (Rect.overlay _ (S .pad) _) _) from rfl).trans ?_
  rw [Function.update_idem]
  rfl

/-! ## The first loop -/

/-- The contents before trip `k` of the first loop. -/
def before (k : ℕ) : St F
  | .z => S .z | .w => S .w | .b => S .b | .q => S .q
  | .p => prog tRow (pOut (S .z)) (S .p) k
  | .sg => prog tRow (sgOut (S .z)) (S .sg) k
  | .t2 => prog tRow (t2Out (S .z)) (S .t2) k
  | .pad => prog tPad (padOf (pOut (S .z))) (S .pad) k

/-- What one trip leaves. -/
def filled (t : Fin 32) : St F
  | .z => S .z | .w => S .w | .b => S .b | .q => S .q
  | .p => (rTile t).overlay (S .p) (lift (gated (half 0 (S .z) t) (half 1 (S .z) t)))
  | .sg => (rTile t).overlay (S .sg) (lift (logistic (half 1 (S .z) t)))
  | .t2 => (rTile t).overlay (S .t2) (lift (factor (half 0 (S .z) t) (half 1 (S .z) t)))
  | .pad => (rFill t).overlay (S .pad) (shapeCast S128x128 (gated (half 0 (S .z) t) (half 1 (S .z) t)) shapeCasts_S128x128_S128x128)

theorem run_fill (t : Fin 32) : (run (fill R t) S).2 = filled S t := by
  funext b
  cases b
  all_goals sl_kernel_rfl

theorem fill_step (t : Fin 32) : (run (fill R t) (before S t.val)).2 = before S (t.val + 1) := by
  rw [run_fill]
  funext b
  cases b
  · rfl
  · rfl
  · rfl
  · rfl
  · exact row_step (fun t => lift (gated (half 0 (S .z) t) (half 1 (S .z) t))) (S .p) t
  · exact row_step (fun t => lift (logistic (half 1 (S .z) t))) (S .sg) t
  · exact row_step (fun t => lift (factor (half 0 (S .z) t) (half 1 (S .z) t))) (S .t2) t
  · exact pad_step (S .z) (S .pad) t

/-- What the first loop leaves. -/
def gatedSt : St F
  | .z => S .z | .w => S .w | .b => S .b | .q => S .q
  | .p => pOut (S .z) | .sg => sgOut (S .z) | .t2 => t2Out (S .z) | .pad => padOf (pOut (S .z))

theorem run_fills (Y : S4128x128.Idx → F .f32) (h : S .pad = edged Y) : (run (steps (fill R)) S).2 = gatedSt S := by
  have h0 : before S 0 = S := by
    funext b
    cases b
    · rfl
    · rfl
    · rfl
    · rfl
    · exact prog_zero _ _ _
    · exact prog_zero _ _ _
    · exact prog_zero _ _ _
    · exact prog_zero _ _ _
  have := run_steps (fill R) (before S) (fill_step R S)
  rw [h0] at this
  rw [this]
  funext b
  cases b
  · rfl
  · rfl
  · rfl
  · rfl
  · exact row_end _ _
  · exact row_end _ _
  · exact row_end _ _
  · refine Eq.trans ?_ (pad_end (S .z) Y)
    rw [← h]
    rfl

/-! ## The second loop -/

theorem run_taps (t : Fin 32) (w : FVec F S32x128 .f32) (b : FVec F S1x128 .f32) :
    run (tapsFrom R t w 31 le_rfl (rows b)) S = (tapAcc w b (S .pad) t 31, S) := by
  have key : ∀ (n : ℕ) (hn : n ≤ 31), run (tapsFrom R t w n hn (tapAcc w b (S .pad) t (31 - n))) S = (tapAcc w b (S .pad) t 31, S) := by
    intro n
    induction n with
    | zero => intro _; rfl
    | succ n ih =>
      intro hn
      have e : run (tapsFrom R t w (n + 1) hn (tapAcc w b (S .pad) t (31 - (n + 1)))) S
          = run (tapsFrom R t w n (by omega) (addTap w ⟨31 - (n + 1), by omega⟩ (tapAcc w b (S .pad) t (31 - (n + 1)))
            (fun x => S .pad ((rTap t ⟨31 - (n + 1), by omega⟩).emb x)))) S := rfl
      have e' : tapAcc w b (S .pad) t (31 - n) = addTap w ⟨31 - (n + 1), by omega⟩ (tapAcc w b (S .pad) t (31 - (n + 1)))
          (fun x => S .pad ((rTap t ⟨31 - (n + 1), by omega⟩).emb x)) := by
        rw [show 31 - n = 31 - (n + 1) + 1 by omega, tapAcc, dif_pos (show 31 - (n + 1) < 31 by omega)]
      rw [e, ← e']
      exact ih (by omega)
  exact key 31 le_rfl

theorem run_tile (w : FVec F S32x128 .f32) (b : FVec F S1x128 .f32) (t : Fin 32) :
    (run (tile R w b t) S).2 = Function.update S .q ((rTile t).overlay (S .q) (lift (tapAcc w b (S .pad) t 31))) := by
  unfold tile
  rw [run_bind, run_taps]
  rfl

/-- The contents before trip `k` of the second loop. -/
def midway (w : FVec F S32x128 .f32) (b : FVec F S1x128 .f32) (k : ℕ) : St F :=
  Function.update S .q (prog tRow (qOut w b (S .pad)) (S .q) k)

theorem tile_step (w : FVec F S32x128 .f32) (b : FVec F S1x128 .f32) (t : Fin 32) :
    (run (tile R w b t) (midway S w b t.val)).2 = midway S w b (t.val + 1) := by
  rw [run_tile]
  unfold midway
  rw [Function.update_self, Function.update_of_ne (show Slot.pad ≠ Slot.q by decide), Function.update_idem]
  exact congrArg (Function.update S Slot.q) (row_step (fun t => lift (tapAcc w b (S .pad) t 31)) (S .q) t)

theorem run_tiles (w : FVec F S32x128 .f32) (b : FVec F S1x128 .f32) :
    (run (steps (tile R w b)) S).2 = Function.update S .q (qOut w b (S .pad)) := by
  have h0 : midway S w b 0 = S := by
    unfold midway
    rw [prog_zero]; exact Function.update_eq_self _ _
  have := run_steps (tile R w b) (midway S w b) (tile_step R S w b)
  rw [h0] at this
  rw [this]
  unfold midway
  exact congrArg (Function.update S Slot.q) (row_end _ _)

theorem conv_run : (run (conv R) S).2 = Function.update S .q (qOut (wOf (S .w)) (bOf (S .b)) (S .pad)) :=
  (show (run (conv R) S).2 = (run (steps (tile R (wOf (S .w)) (bOf (S .b)))) S).2 from rfl).trans (run_tiles R S _ _)

/-! ## The body -/

/-- What the memrefs hold after the body. -/
def next : St F
  | .z => S .z | .w => S .w | .b => S .b
  | .q => qOut (wOf (S .w)) (bOf (S .b)) (padOf (pOut (S .z)))
  | .p => pOut (S .z) | .sg => sgOut (S .z) | .t2 => t2Out (S .z) | .pad => padOf (pOut (S .z))

theorem run_code : (run (code R) S).2 = next S := by
  unfold code
  rw [run_bind, run_bind, conv_run, run_edges, run_fills _ _ (S .pad) (Function.update_self _ _ _)]
  funext b
  cases b <;> rfl

end Cert.ConvFwd

end
-- ==== Proof.ConvFwd.BodyEq.lean ====
/- The printed body of the convolution's forward kernel is the one written with loops over tiles and taps. -/
module

public import proofs.«01_k».proof.Proof.ConvFwd.Body
public import proofs.«01_k».proof.Proof.Gen.Kernel4Ideal.Skeleton

@[expose] public section

noncomputable section

namespace Cert.ConvFwd

open Idealize.ShloMosaic Idealize.SL.Sem Cert.Kernel4Ideal Cert.Kernel4Ideal.Gen Cert.Hand Cert.Hand.Mem

variable {F : FTy → Type} [FloatOps F]

/-- A program on the body's memrefs. -/
abbrev Run (F : FTy → Type) (α : Type) : Type 1 := Prog (TpuEff nD τ sig (Elt F) Λ₀ .tc) α

/-- The body around its two loops. -/
def around (R : Args) (A : Run F PUnit) (B : FVec F S1x32x128 .f32 → FVec F S1x128 .f32 → Run F PUnit) : Run F PUnit := do
  toProg (edges R)
  A
  let v ← toProg (ld R .w (Rect.unit (s := S1x32x128) ![0, 0, 0] S1x32x128.size inb_S1x32x128_S1x32x128_0_0_0) h_S1x32x128)
  let u ← toProg (ld R .b (Rect.unit (s := S1x128) ![0, 0] S1x128.size inb_S1x128_S1x128_0_0) h_S1x128)
  B v u
  pure ⟨⟩

/-- One trip of the first loop, -/
abbrev trip1 (i : grid0.Coords) (R : Args) (h : ∀ b, (R b).IsWhole) : Fin k0_t1_loop.trips → PUnit → Run F PUnit :=
  k0_t1_body (F := F) i (R .z) (h _) (R .w) (h _) (R .b) (h _) (R .q) (h _) (R .p) (h _) (R .sg) (h _) (R .t2) (h _) (R .pad) (h _)

/-- and of the second. -/
abbrev trip2 (i : grid0.Coords) (R : Args) (h : ∀ b, (R b).IsWhole) (v : FVec F S1x32x128 .f32) (u : FVec F S1x128 .f32) :
    Fin k0_t2_loop.trips → PUnit → Run F PUnit :=
  k0_t2_body (F := F) i (R .z) (h _) (R .w) (h _) (R .b) (h _) (R .q) (h _) (R .p) (h _) (R .sg) (h _) (R .t2) (h _) (R .pad) (h _) v u

theorem body_loops (i : grid0.Coords) (R : Args) (h : ∀ b, (R b).IsWhole) :
    cc0_conv_fwd (F := F) i (R .z) (h _) (R .w) (h _) (R .b) (h _) (R .q) (h _) (R .p) (h _) (R .sg) (h _) (R .t2) (h _) (R .pad) (h _)
      = around R (Scf.Loop.for k0_t1_loop k0_t1_ok ⟨⟩ (trip1 i R h)) (fun v u => Scf.Loop.for k0_t2_loop k0_t2_ok ⟨⟩ (trip2 i R h v u)) := by
  sl_kernel_rfl

theorem loops_code (i : grid0.Coords) (R : Args) (h : ∀ b, (R b).IsWhole) :
    around R (Scf.forFrom (trip1 (F := F) i R h) (List.finRange _) ⟨⟩) (fun v u => Scf.forFrom (trip2 i R h v u) (List.finRange _) ⟨⟩)
      = toProg (code R) := by
  sl_kernel_rfl

theorem body_eq (i : grid0.Coords) (R : Args) (h : ∀ b, (R b).IsWhole) :
    cc0_conv_fwd (F := F) i (R .z) (h _) (R .w) (h _) (R .b) (h _) (R .q) (h _) (R .p) (h _) (R .sg) (h _) (R .t2) (h _) (R .pad) (h _)
      = toProg (code R) := by
  refine (body_loops i R h).trans (Eq.trans ?_ (loops_code i R h))
  exact congrArg₂ (around R) (Scf.for_eq _ _ _ _ _ _) (funext fun v => funext fun u => Scf.for_eq _ _ _ _ _ _)

end Cert.ConvFwd

end
-- ==== Proof.ConvFwd.Frame.lean ====
/- The run of the pipeline over the body of the convolution's forward kernel. -/
module

public import proofs.«01_k».proof.Proof.ConvFwd.Run
public import proofs.«01_k».proof.Proof.ConvFwd.BodyEq
public import proofs.«01_k».proof.Proof.Gen.Kernel4Ideal.Frame.Runs

@[expose] public section

noncomputable section

namespace Cert.ConvFwd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel4Ideal Cert.Kernel4Ideal.Gen Cert.Hand Cert.Hand.Mem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks at a point -/

def zB (c : Dev nD) (t : Fin cfg0.N) : S2x4096x128.Idx → F .f32 := iblk m c 0 t
def wB (c : Dev nD) (t : Fin cfg0.N) : S1x32x128.Idx → F .f32 := iblk m c 1 t
def bB (c : Dev nD) (t : Fin cfg0.N) : S1x128.Idx → F .f32 := iblk m c 2 t

/-- The convolution's block at a point. -/
def qC (c : Dev nD) (t : Fin cfg0.N) : S1x4096x128.Idx → F .f32 := qOut (wOf (wB m c t)) (bOf (bB m c t)) (padOf (pOut (zB m c t)))

/-! ## The proof data -/

/-- The scratch array is staged anew at every point: between points it holds anything. -/
def carried (c : Dev nD) : sProp 𝕄 :=
  iprop(∃ p : S4128x128.Idx → F .f32, owns (c : Thread nD τ) (Memref.whole cc0_scratch0) fullShare p ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => qC m c t
    | ⟨4, _⟩ => pOut (zB m c t)
    | ⟨5, _⟩ => sgOut (zB m c t)
    | ⟨6, _⟩ => t2Out (zB m c t)
  Φ _ := carried c
  q _ := fullShare
  owed _ := 0

theorem A_eq (c : Dev nD) (w : Fin cfg0.W) : (dats m 0 c).A w = V m c (Pipeline.arrRef spec0 w) := by dsimp only [dats]

/-- The body's memrefs at a point. -/
def args (t : Fin cfg0.N) : Args
  | .z => st0_0 t | .w => st0_1 t | .b => st0_2 t | .q => st0_3 t | .p => st0_4 t | .sg => st0_5 t | .t2 => st0_6 t | .pad => Memref.whole cc0_scratch0

theorem args_whole (t : Fin cfg0.N) (b : Slot) : (args t b).IsWhole := by
  cases b
  · exact hstage0_0 _
  · exact hstage0_1 _
  · exact hstage0_2 _
  · exact hstage0_3 _
  · exact hstage0_4 _
  · exact hstage0_5 _
  · exact hstage0_6 _
  · exact Memref.isWhole_whole _

theorem body_code (t : Fin cfg0.N) : bodyAt0 (F := F) t = toProg (code (args t)) :=
  body_eq (F := F) (cfg0.grid.coords t) (args t) (args_whole t)

theorem held_eq (t : Fin cfg0.N) (c : Dev nD) (S : St F) : (held (bank (args t)) c S : sProp 𝕄)
    = iprop(owns (c : Thread nD τ) (st0_0 t) fullShare (S .z)
      ∗ owns (c : Thread nD τ) (st0_1 t) fullShare (S .w)
      ∗ owns (c : Thread nD τ) (st0_2 t) fullShare (S .b)
      ∗ owns (c : Thread nD τ) (st0_3 t) fullShare (S .q)
      ∗ owns (c : Thread nD τ) (st0_4 t) fullShare (S .p)
      ∗ owns (c : Thread nD τ) (st0_5 t) fullShare (S .sg)
      ∗ owns (c : Thread nD τ) (st0_6 t) fullShare (S .t2)
      ∗ owns (c : Thread nD τ) (Memref.whole cc0_scratch0) fullShare (S .pad)) := by
  unfold held
  exact bigSep_univ_eq_bigSepL [Slot.z, .w, .b, .q, .p, .sg, .t2, .pad] (by decide) (by decide) _

/-! ## The body's triple -/

/-- What the memrefs hold when the body starts at `t`. -/
def found (c : Dev nD) (t : Fin cfg0.N) (q p sg t2 : S1x4096x128.Idx → F .f32) (pad : S4128x128.Idx → F .f32) : St F
  | .z => zB m c t | .w => wB m c t | .b => bB m c t | .q => q | .p => p | .sg => sg | .t2 => t2 | .pad => pad

/-- What a window holds when the body starts. -/
abbrev entered (c : Dev nD) (w : Fin cfg0.W) (t : Fin cfg0.N) : sProp 𝕄 :=
  iprop(∃ d, owns (c : Thread nD τ) ((cfg0.win w).stage (cfg0.slots t w)) fullShare ((dats m 0 c).before w t d))

def bodyPre (c : Dev nD) (t : Fin cfg0.N) : sProp 𝕄 :=
  iprop((dats m 0 c).Φ t.castSucc ∗ (dats m 0 c).owesAt () t.castSucc
    ∗ entered m c 0 t ∗ entered m c 1 t ∗ entered m c 2 t ∗ entered m c 3 t ∗ entered m c 4 t ∗ entered m c 5 t ∗ entered m c 6 t)

/-- A window is left at what the body leaves there. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost entered
  rw [leaves_live m c 0 t rfl, leaves_live m c 1 t rfl, leaves_live m c 2 t rfl, leaves_live m c 3 t rfl, leaves_live m c 4 t rfl,
    leaves_live m c 5 t rfl, leaves_live m c 6 t rfl]
  rw [body_code]
  simp only [before0_0_of m _ (A_eq m c 0) (fun _ => rfl), before0_1_of m _ (A_eq m c 1) (fun _ => rfl),
    before0_2_of m _ (A_eq m c 2) (fun _ => rfl)]
  rw [show (dats m 0 c).Φ t.castSucc = carried c from rfl, show (dats m 0 c).Φ t.succ = carried c from rfl]
  unfold Dat.owesAt Pipeline.owesWithin
  rw [show (dats m 0 c).owed t.castSucc = 0 from rfl, show (dats m 0 c).owed t.succ = 0 from rfl]
  unfold carried
  iintro ⟨⟨%p, Hp, Hg⟩, Howe, ⟨%d0, H0⟩, ⟨%d1, H1⟩, ⟨%d2, H2⟩, ⟨%d3, H3⟩, ⟨%d4, H4⟩, ⟨%d5, H5⟩, ⟨%d6, H6⟩⟩
  iapply (sound_all (defs := defs₀ (F := F)) Variants.none c none Set.univ (code (args t))
    (found m c t ((dats m 0 c).before 3 t d3) ((dats m 0 c).before 4 t d4) ((dats m 0 c).before 5 t d5) ((dats m 0 c).before 6 t d6) p)) $$ [H0 H1 H2 H3 H4 H5 H6 Hp]
  · rw [held_eq]
    isplitl [H0]; · iexact H0
    isplitl [H1]; · iexact H1
    isplitl [H2]; · iexact H2
    isplitl [H3]; · iexact H3
    isplitl [H4]; · iexact H4
    isplitl [H5]; · iexact H5
    isplitl [H6]; · iexact H6
    iexact Hp
  rw [run_code, held_eq]
  iintro ⟨H0, H1, H2, H3, H4, H5, H6, Hp⟩
  isplitl [Hp Hg]
  · iexists (padOf (pOut (zB m c t)))
    isplitl [Hp]; · iexact Hp
    iexact Hg
  isplitl [Howe]; · iexact Howe
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem carried_in (c : Dev nD) : (Pipeline.ΦA spec0 c : sProp 𝕄) ⊢ carried c := by
  unfold Pipeline.ΦA carried
  rw [scopedRest0_eq]
  iintro ⟨⟨%p, Hp⟩, Hg⟩
  iexists p
  simp only [owns_whole]
  iframe

theorem carried_out (c : Dev nD) : (carried c : sProp 𝕄) ⊢ Pipeline.ΦA spec0 c := by
  unfold Pipeline.ΦA carried
  rw [scopedRest0_eq]
  simp only [owns_whole_eq]
  iintro ⟨%p, ⟨%p', -, Hp⟩, Hg⟩
  isplitl [Hp]
  · iexists p'; iexact Hp
  iexact Hg

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_in c) (hout := fun c => carried_out c)

end Cert.ConvFwd

end
-- ==== Proof.ConvFwd.Spec.lean ====
/- The gated depthwise convolution and what its backward pass needs of it, as functions of places. -/
module

public import proofs.«01_k».proof.Proof.BwdIn.Spec
public import proofs.«01_k».proof.Proof.ConvBack.Spec

@[expose] public section

noncomputable section

namespace Cert.ConvFwd

open Idealize.ShloMosaic Cert.BwdIn Cert.ConvBack

/-- The projected rows' values -/
def vals (z : Fin 4096 → Fin 6144 → EReal) (n : Fin 4096) (k : Fin 1024) : EReal := z n ⟨k.val, by omega⟩

/-- and their gates' logistic values. -/
def sgOf (z : Fin 4096 → Fin 6144 → EReal) (n : Fin 4096) (k : Fin 1024) : EReal := gate (z n ⟨1024 + k.val, by omega⟩)

/-- The gated rows. -/
def pOf (z : Fin 4096 → Fin 6144 → EReal) (n : Fin 4096) (k : Fin 1024) : EReal := vals z n k * sgOf z n k

/-- What the gates' gradient is multiplied by. -/
def t2Of (z : Fin 4096 → Fin 6144 → EReal) (n : Fin 4096) (k : Fin 1024) : EReal := pOf z n k * (1 - sgOf z n k)

/-- The convolution of the gated rows. -/
def qOf (z : Fin 4096 → Fin 6144 → EReal) (w : Fin 31 → Fin 1024 → EReal) (b : Fin 1024 → EReal) (n : Fin 4096) (k : Fin 1024) : EReal :=
  b k + ∑ o : Fin 31, w o k * padded (fun i => pOf z i k) (n.val + o.val)

/-- Rows by blocks of channels. -/
def byBlock (f : Fin 4096 → Fin 1024 → EReal) (j : (⟨3, ![8, 4096, 128]⟩ : Shape).Idx) : EReal :=
  f (j 1) ⟨(j 0).val * 128 + (j 2).val, by
    have h0 : (j 0).val < 8 := (j 0).isLt
    have h2 : (j 2).val < 128 := (j 2).isLt
    omega⟩

end Cert.ConvFwd

end
-- ==== Proof.ConvFwd.Blocks.lean ====
/- What the blocks of the convolution's forward kernel hold, as elements of the arguments. -/
module

public import proofs.«01_k».proof.Proof.ConvFwd.Frame
public import proofs.«01_k».proof.Proof.ConvFwd.Spec
public import proofs.«01_k».proof.Proof.Lib.Reals
public import Idealize.ShloMosaic.Lib.Pipeline.ValueKit
public import Idealize.ShloMosaic.Lib.StableHlo.ReadAt

@[expose] public section

noncomputable section

namespace Cert.ConvFwd

open Idealize.ShloMosaic Idealize.ShloMosaic.TcCoe Cert.Kernel4Ideal Cert.Kernel4Ideal.Gen Cert.Hand

variable (m : (ℓ : Loc nD τ sig) → Buf (Elt Ideal) ℓ) (c : Dev nD)

/-- An argument's contents. -/
abbrev arg (r : Ref sig .tc) : Buf (Elt Ideal) ((c.tc : Thread nD τ).loc r) := m ((c.tc : Thread nD τ).loc r)

/-! ## The arguments by their places -/

def zA (n : Fin 4096) (e : Fin 6144) : EReal := arg m c main_arg0 (ix2 n e)
def wA (o : Fin 31) (k : Fin 1024) : EReal := arg m c main_arg1 (ix2 o k)
def bA (k : Fin 1024) : EReal := arg m c main_arg2 (ix1 k)

/-! ## What the region finds -/

theorem vals_at (n : Fin 4096) (k : Fin 1024) : V m c main_v4 (ix3 4 n k) = zA m c n ⟨k.val, by omega⟩ := by
  unfold V
  after_reads_at
  rfl

theorem gates_at (n : Fin 4096) (k : Fin 1024) : V m c main_v4 (ix3 5 n k) = zA m c n ⟨1024 + k.val, by omega⟩ := by
  unfold V
  after_reads_at
  rfl

theorem w_at (b : Fin 4) (o : Fin 31) (l : Fin 256) :
    V m c main_v7 (ix3 b ⟨o.val, by omega⟩ l) = wA m c o ⟨b.val * 256 + l.val, by omega⟩ := by
  unfold V
  after_reads_at
  exact dif_pos (by omega)

theorem b_at (k : Fin 1024) : V m c main_v8 (ix2 0 k) = bA m c k := by
  unfold V
  after_reads_at
  rfl

/-! ## The blocks -/

/-- The blocks' places in their arrays. -/
theorem places : ∀ t : Fin cfg0.N,
    win0_0.index t = ![2, 0, t.val] ∧ win0_1.index t = ![t.val / 2, 0, t.val % 2] ∧ win0_2.index t = ![0, t.val] := by decide +kernel

/-- A block by its number. -/
def pt (t : Fin cfg0.N) : Fin 8 := t.cast (by decide)

/-- A channel of a block. -/
def chan (t : Fin cfg0.N) (l : Fin 128) : Fin 1024 := ⟨(pt t).val * 128 + l.val, by omega⟩

theorem zB_vals (t : Fin cfg0.N) (n : Fin 4096) (l : Fin 128) : zB m c t (ix3 0 n l) = vals (zA m c) n (chan t l) := by
  have e : zB m c t (ix3 0 n l) = V m c main_v4 (ix3 4 n (chan t l)) := by
    unfold zB
    blk_ext [iblk, chan, pt, places t]
    rfl
  exact e.trans (vals_at m c n _)

theorem zB_gates (t : Fin cfg0.N) (n : Fin 4096) (l : Fin 128) : zB m c t (ix3 1 n l) = zA m c n ⟨1024 + (chan t l).val, by omega⟩ := by
  have e : zB m c t (ix3 1 n l) = V m c main_v4 (ix3 5 n (chan t l)) := by
    unfold zB
    blk_ext [iblk, chan, pt, places t]
    rfl
  exact e.trans (gates_at m c n _)

theorem wB_read (t : Fin cfg0.N) (o : Fin 31) (l : Fin 128) : wB m c t (ix3 0 ⟨o.val, by omega⟩ l) = wA m c o (chan t l) := by
  have ht : t.val < 8 := (pt t).isLt
  have e : wB m c t (ix3 0 ⟨o.val, by omega⟩ l)
      = V m c main_v7 (ix3 ⟨t.val / 2, by omega⟩ ⟨o.val, by omega⟩ ⟨t.val % 2 * 128 + l.val, by omega⟩) := by
    unfold wB
    blk_ext [iblk, places t]
  refine e.trans ((w_at m c _ o _).trans (congrArg (wA m c o) (Fin.ext ?_)))
  show t.val / 2 * 256 + (t.val % 2 * 128 + l.val) = t.val * 128 + l.val
  omega

theorem bB_read (t : Fin cfg0.N) (l : Fin 128) : bB m c t (ix2 0 l) = bA m c (chan t l) := by
  have e : bB m c t (ix2 0 l) = V m c main_v8 (ix2 0 (chan t l)) := by
    unfold bB
    blk_ext [iblk, chan, pt, places t]
    rfl
  exact e.trans (b_at m c _)

end Cert.ConvFwd

end
-- ==== Proof.ConvFwd.Values.lean ====
/- What the convolution's forward kernel leaves, at every place. -/
module

public import proofs.«01_k».proof.Proof.ConvFwd.Blocks
public import proofs.«01_k».proof.Proof.Lib.Sums

@[expose] public section

noncomputable section

namespace Cert.ConvFwd

open Idealize.ShloMosaic Idealize.ShloMosaic.TcCoe Cert.Kernel4Ideal Cert.Kernel4Ideal.Gen Cert.Hand Cert.BwdIn

open Cert.ConvBack (gate)

/-! ## A tile's arithmetic, by places -/

theorem lift_at (d : FVec Ideal S128x128 .f32) (r l : Fin 128) : lift d (ix3 0 r l) = d (ix2 r l) := by
  unfold lift
  pointwise

theorem logistic_at (v : FVec Ideal S1x128x128 .f32) (r l : Fin 128) : (logistic v (ix2 r l) : EReal) = gate (v (ix3 0 r l)) := by
  unfold logistic
  pointwise
  exact sigmoid_eq _

theorem gated_at (u v : FVec Ideal S1x128x128 .f32) (r l : Fin 128) :
    (gated u v (ix2 r l) : EReal) = u (ix3 0 r l) * gate (v (ix3 0 r l)) := by
  have h := logistic_at v r l
  unfold gated
  generalize logistic v = L at h ⊢
  rw [← h]
  pointwise

theorem factor_at (u v : FVec Ideal S1x128x128 .f32) (r l : Fin 128) :
    (factor u v (ix2 r l) : EReal) = u (ix3 0 r l) * gate (v (ix3 0 r l)) * (1 - gate (v (ix3 0 r l))) := by
  have h := logistic_at v r l
  have h' := gated_at u v r l
  unfold factor
  generalize logistic v = L at h ⊢
  generalize gated u v = G at h' ⊢
  rw [← h', ← h]
  pointwise

theorem rows_at (b : FVec Ideal S1x128 .f32) (r l : Fin 128) : rows b (ix2 r l) = b (ix2 0 l) := by
  unfold rows
  pointwise

theorem add_at (w : FVec Ideal S32x128 .f32) (o : Fin 31) (acc v : FVec Ideal S128x128 .f32) (r l : Fin 128) :
    (addTap w o acc v (ix2 r l) : EReal) = acc (ix2 r l) + w (ix2 ⟨o.val, by omega⟩ l) * v (ix2 r l) := by
  unfold addTap
  pointwise

theorem tap_row (P : S4128x128.Idx → Ideal .f32) (t : Fin 32) (o : Fin 31) (r l : Fin 128) :
    P ((rTap t o).emb (ix2 r l)) = P (ix2 ⟨128 * t.val + (1 + o.val) + r.val, by omega⟩ l) := by
  refine congrArg P ?_
  refine emb_eq fun a => ?_; fin_cases a <;> simp [ix2]

theorem tap_step (w : FVec Ideal S32x128 .f32) (b : FVec Ideal S1x128 .f32) (P : S4128x128.Idx → Ideal .f32) (t : Fin 32) (r l : Fin 128)
    (o : Fin 31) : (tapAcc w b P t (o.val + 1) (ix2 r l) : EReal) = tapAcc w b P t o.val (ix2 r l)
      + w (ix2 ⟨o.val, by omega⟩ l) * P (ix2 ⟨128 * t.val + (1 + o.val) + r.val, by omega⟩ l) := by
  rw [tapAcc, dif_pos o.isLt, add_at]
  exact congrArg (fun z : EReal => tapAcc w b P t o.val (ix2 r l) + w (ix2 ⟨o.val, by omega⟩ l) * z) (tap_row P t o r l)

theorem tap_sum (w : FVec Ideal S32x128 .f32) (b : FVec Ideal S1x128 .f32) (P : S4128x128.Idx → Ideal .f32) (t : Fin 32) (r l : Fin 128) :
    (tapAcc w b P t 31 (ix2 r l) : EReal) = b (ix2 0 l) + ∑ o : Fin 31, (w (ix2 ⟨o.val, by omega⟩ l) : EReal)
      * P (ix2 ⟨128 * t.val + (1 + o.val) + r.val, by omega⟩ l) := by
  refine (rec_sum 31 (fun k => (tapAcc w b P t k (ix2 r l) : EReal)) _ (tap_step w b P t r l)).trans ?_
  rw [tapAcc, rows_at]

theorem half_row (Z : S2x4096x128.Idx → Ideal .f32) (h : Fin 2) (n : Fin 4096) (l : Fin 128) :
    half h Z (tileOf n) (ix3 0 (within n) l) = Z (ix3 h n l) := by
  refine congrArg Z ?_
  refine emb_eq fun a => ?_; fin_cases a <;> simp [ix3, tileOf, within]; omega

/-! ## The block's results -/

section Arrays

variable (m : (ℓ : Loc nD τ sig) → Buf (Elt Ideal) ℓ) (c : Dev nD)

theorem pOut_at (t : Fin cfg0.N) (n : Fin 4096) (l : Fin 128) : (pOut (zB m c t) (ix3 0 n l) : EReal) = pOf (zA m c) n (chan t l) := by
  refine (lift_at _ _ _).trans ((gated_at _ _ _ _).trans ?_)
  unfold pOf sgOf
  rw [← zB_vals m c t, ← zB_gates m c t]
  exact congrArg₂ (fun a b : EReal => a * gate b) (half_row _ _ _ _) (half_row _ _ _ _)

theorem sgOut_at (t : Fin cfg0.N) (n : Fin 4096) (l : Fin 128) : (sgOut (zB m c t) (ix3 0 n l) : EReal) = sgOf (zA m c) n (chan t l) := by
  refine (lift_at _ _ _).trans ((logistic_at _ _ _).trans ?_)
  unfold sgOf
  rw [← zB_gates m c t]
  exact congrArg gate (half_row _ _ _ _)

theorem t2Out_at (t : Fin cfg0.N) (n : Fin 4096) (l : Fin 128) : (t2Out (zB m c t) (ix3 0 n l) : EReal) = t2Of (zA m c) n (chan t l) := by
  refine (lift_at _ _ _).trans ((factor_at _ _ _ _).trans ?_)
  unfold t2Of pOf sgOf
  rw [← zB_vals m c t, ← zB_gates m c t]
  exact congrArg₂ (fun a b : EReal => a * gate b * (1 - gate b)) (half_row _ _ _ _) (half_row _ _ _ _)

theorem w_row (t : Fin cfg0.N) (o : Fin 31) (l : Fin 128) : (wOf (wB m c t) (ix2 ⟨o.val, by omega⟩ l) : EReal) = wA m c o (chan t l) := by
  refine Eq.trans ?_ (wB_read m c t o l)
  unfold wOf
  pointwise
  refine congrArg (wB m c t) ?_
  refine emb_eq fun a => ?_; fin_cases a <;> simp [ix3]

theorem b_row (t : Fin cfg0.N) (l : Fin 128) : (bOf (bB m c t) (ix2 0 l) : EReal) = bA m c (chan t l) := by
  refine Eq.trans ?_ (bB_read m c t l)
  unfold bOf
  pointwise
  refine congrArg (bB m c t) ?_
  refine emb_eq fun a => ?_; fin_cases a <;> simp [ix2]

theorem pad_row (t : Fin cfg0.N) (j : ℕ) (h : j + 1 < 4128) (l : Fin 128) :
    (padOf (pOut (zB m c t)) (ix2 ⟨j + 1, h⟩ l) : EReal) = padded (fun i => pOf (zA m c) i (chan t l)) j := by
  unfold padOf padded
  by_cases p : 15 ≤ j ∧ j < 4111
  · rw [dif_pos p]
    refine (dif_pos (show 16 ≤ j + 1 ∧ j + 1 < 4112 by omega)).trans ?_
    refine (pOut_at m c t _ l).trans (congrArg (fun i => pOf (zA m c) i (chan t l)) (Fin.ext ?_))
    show j + 1 - 16 = j - 15
    omega
  · rw [dif_neg p]
    refine (dif_neg (show ¬ (16 ≤ j + 1 ∧ j + 1 < 4112) by omega)).trans ?_
    exact Ideal.ofBits_zero_f32

theorem qC_at (t : Fin cfg0.N) (n : Fin 4096) (l : Fin 128) :
    (qC m c t (ix3 0 n l) : EReal) = qOf (zA m c) (wA m c) (bA m c) n (chan t l) := by
  unfold qC
  refine (lift_at _ (within n) l).trans ((tap_sum _ _ _ (tileOf n) (within n) l).trans ?_)
  unfold qOf
  rw [b_row m c t]
  refine congrArg (fun s : EReal => bA m c (chan t l) + s) (Finset.sum_congr (M := EReal) rfl fun o _ => ?_)
  have e2 : (⟨128 * (tileOf n).val + (1 + o.val) + (within n).val, by omega⟩ : Fin 4128) = ⟨n.val + o.val + 1, by omega⟩ :=
    Fin.ext (by unfold tileOf within; dsimp only; omega)
  refine congrArg₂ (fun a b : EReal => a * b) (w_row m c t o l) (Eq.trans ?_ (pad_row m c t (n.val + o.val) (by omega) l))
  exact congrArg (fun i => (padOf (pOut (zB m c t)) (ix2 i l) : EReal)) e2

/-! ## The results' arrays -/

theorem places_out : ∀ t : Fin cfg0.N, win0_3.index t = ![t.val, 0, 0] ∧ win0_4.index t = ![t.val, 0, 0]
    ∧ win0_5.index t = ![t.val, 0, 0] ∧ win0_6.index t = ![t.val, 0, 0] := by decide +kernel

theorem emb_q (t : Fin cfg0.N) (n : Fin 4096) (l : Fin 128) : (win0_3.blk t).view.emb (ix3 0 n l) = ix3 (pt t) n l := by
  funext a
  apply Fin.ext
  fin_cases a <;> blk_simp [places_out t, pt] <;> rfl

theorem emb_p (t : Fin cfg0.N) (n : Fin 4096) (l : Fin 128) : (win0_4.blk t).view.emb (ix3 0 n l) = ix3 (pt t) n l := by
  funext a
  apply Fin.ext
  fin_cases a <;> blk_simp [places_out t, pt] <;> rfl

theorem emb_sg (t : Fin cfg0.N) (n : Fin 4096) (l : Fin 128) : (win0_5.blk t).view.emb (ix3 0 n l) = ix3 (pt t) n l := by
  funext a
  apply Fin.ext
  fin_cases a <;> blk_simp [places_out t, pt] <;> rfl

theorem emb_t2 (t : Fin cfg0.N) (n : Fin 4096) (l : Fin 128) : (win0_6.blk t).view.emb (ix3 0 n l) = ix3 (pt t) n l := by
  funext a
  apply Fin.ext
  fin_cases a <;> blk_simp [places_out t, pt] <;> rfl

/-- A block's place is its first coordinate, its row, and its channel within the block. -/
theorem split (y : (⟨3, ![1, 4096, 128]⟩ : Shape).Idx) : ∃ (n : Fin 4096) (l : Fin 128), y = ix3 0 n l := by
  refine ⟨y 1, y 2, (eq_ix3 y).trans ?_⟩
  exact congrArg (fun z => ix3 z (y 1) (y 2)) (Subsingleton.elim (α := Fin 1) _ _)

theorem q_array : (dats m 0 c).arrAt 3 cfg0.N = byBlock (qOf (zA m c) (wA m c) (bA m c)) := by
  refine (dats m 0 c).arrAt_eq_of_covers 3 _ (by decide +kernel) fun t hf y => ?_
  blk_simp
  rw [show (dats m 0 c).after 3 t = qC m c t by dsimp only [dats]]
  obtain ⟨n, l, rfl⟩ := split y
  exact (qC_at m c t n l).trans (congrArg (byBlock (qOf (zA m c) (wA m c) (bA m c))) (emb_q t n l)).symm

theorem p_array : (dats m 0 c).arrAt 4 cfg0.N = byBlock (pOf (zA m c)) := by
  refine (dats m 0 c).arrAt_eq_of_covers 4 _ (by decide +kernel) fun t hf y => ?_
  blk_simp
  rw [show (dats m 0 c).after 4 t = pOut (zB m c t) by dsimp only [dats]]
  obtain ⟨n, l, rfl⟩ := split y
  exact (pOut_at m c t n l).trans (congrArg (byBlock (pOf (zA m c))) (emb_p t n l)).symm

theorem sg_array : (dats m 0 c).arrAt 5 cfg0.N = byBlock (sgOf (zA m c)) := by
  refine (dats m 0 c).arrAt_eq_of_covers 5 _ (by decide +kernel) fun t hf y => ?_
  blk_simp
  rw [show (dats m 0 c).after 5 t = sgOut (zB m c t) by dsimp only [dats]]
  obtain ⟨n, l, rfl⟩ := split y
  exact (sgOut_at m c t n l).trans (congrArg (byBlock (sgOf (zA m c))) (emb_sg t n l)).symm

theorem t2_array : (dats m 0 c).arrAt 6 cfg0.N = byBlock (t2Of (zA m c)) := by
  refine (dats m 0 c).arrAt_eq_of_covers 6 _ (by decide +kernel) fun t hf y => ?_
  blk_simp
  rw [show (dats m 0 c).after 6 t = t2Out (zB m c t) by dsimp only [dats]]
  obtain ⟨n, l, rfl⟩ := split y
  exact (t2Out_at m c t n l).trans (congrArg (byBlock (t2Of (zA m c))) (emb_t2 t n l)).symm

end Arrays

/-! ## The runs of the convolution's forward kernel: the arguments as they were, the counters at zero, and the four results -/

open Idealize.SL.Sem

/-- The arguments end as they were. -/
def Kept {F : FTy → Type} (m m' : (ℓ : Loc nD τ sig) → Buf (Elt F) ℓ) (c : Dev nD) : Prop :=
  Same m m' c main_arg0 ∧ Same m m' c main_arg1 ∧ Same m m' c main_arg2

section
variable {F : FTy → Type} [FloatOps F] (m : (ℓ : Loc nD τ sig) → Buf (Elt F) ℓ) (ρ : Dev nD → PrngReg)

/-- A buffer outside the call's windows keeps what the host left there. -/
theorem rest {b : Ref sig .tc} {c : Dev nD} {r : PUnit × MemSt nD τ sig (Elt F)} (h : Pipeline.FramePost cfgs (dats m) 0 (V m) r)
    (hV : V m c b = m ((c.tc : Thread nD τ).loc b))
    (hb : b ∈ Pipeline.restRefs sig spec0 := by exact Pipeline.mem_restRefs_of _ (by decide) (by decide)) : Same m r.2.mem c b :=
  ((h c).2 b hb).trans hV

theorem kept (r : PUnit × MemSt nD τ sig (Elt F)) (h : Pipeline.FramePost cfgs (dats m) 0 (V m) r) (c : Dev nD) : Kept m r.2.mem c :=
  ⟨rest m h (V_main_arg0 m c),
    rest m h (V_main_arg1 m c),
    rest m h (V_main_arg2 m c)⟩

/-- Every run ends with the arguments as they were and every counter at zero. -/
theorem run_frame : θ_run defs (onTc (τ := τ) (main (F := F))) ⟨m, fun _ => 0, ρ⟩
    (fun r => (∀ c : Dev nD, Kept m r.2.mem c) ∧ r.2.sem = fun _ => 0) :=
  (θ_run defs _ _).mono (fun r h => ⟨kept m r h.1, h.2⟩) (run_main m ρ)

end

/-- Over the extended reals every run ends with the four results, too. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      left r c main_v9_0 = byBlock (qOf (zA m c) (wA m c) (bA m c))
      ∧ left r c main_v9_1 = byBlock (pOf (zA m c))
      ∧ left r c main_v9_2 = byBlock (sgOf (zA m c))
      ∧ left r c main_v9_3 = byBlock (t2Of (zA m c)) ∧ Kept m r.2.mem c :=
  (θ_run defs _ _).mono (fun r h c => ⟨((h.1 c).1 3).trans (q_array m c), ((h.1 c).1 4).trans (p_array m c), ((h.1 c).1 5).trans (sg_array m c),
    ((h.1 c).1 6).trans (t2_array m c), kept m r h.1 c⟩) (run_main m ρ)

end Cert.ConvFwd

end
-- ==== Proof.ConvFwd.Reference.lean ====
/- The convolution and its saved values as the reference computes them, as elements of the arguments. -/
module

public import proofs.«01_k».proof.Proof.ConvFwd.Spec
public import proofs.«01_k».proof.Proof.BwdIn.Reference
public import proofs.«01_k».proof.Proof.Gen.Reference4Ideal.Run

@[expose] public section

noncomputable section

namespace Cert.ConvFwd.Ref

open Idealize.ShloMosaic Idealize.ShloMosaic.TcCoe Idealize.SL.Sem Cert.Reference4Ideal Cert.Reference4Ideal.Gen Cert.Reference4Ideal.Value
open Cert.Hand Cert.BwdIn
open Cert.ConvBack (gate)

variable (m : (ℓ : Loc nD τ sig) → Buf (Elt Ideal) ℓ) (c : Dev nD)

/-- An argument's contents. -/
abbrev arg (r : Ref sig .tc) : Buf (Elt Ideal) ((c.tc : Thread nD τ).loc r) := m ((c.tc : Thread nD τ).loc r)

/-! ## The arguments by their places -/

def zA (n : Fin 4096) (e : Fin 6144) : EReal := arg m c main_arg0 (ix2 n e)
def wA (o : Fin 31) (k : Fin 1024) : EReal := arg m c main_arg1 (ix2 o k)
def bA (k : Fin 1024) : EReal := arg m c main_arg2 (ix1 k)

/-! ## The arrays the results are made of -/

/-- One everywhere. -/
abbrev ones : FVec Ideal S4096x1024 .f32 := broadcastInDim S4096x1024 ![] bcast_S_S4096x1024 (constant S_ .f32 0x3F800000#32)

/-- The values. -/
abbrev valsV : FVec Ideal S4096x1024 .f32 := extractStridedSlice S4096x1024 ![0, 0] (arg m c main_arg0) slices_S4096x6144_S4096x1024_0_0

/-- The gates' logistic values. -/
abbrev sgV : FVec Ideal S4096x1024 .f32 :=
  Host.divf ones (addf ones (Host.exp (Host.negf (extractStridedSlice S4096x1024 ![0, 1024] (arg m c main_arg0) slices_S4096x6144_S4096x1024_0_1024))))

/-- The gated rows. -/
abbrev pV : FVec Ideal S4096x1024 .f32 := mulf (valsV m c) (sgV m c)

/-- Fifteen rows of zeros. -/
abbrev none15 : FVec Ideal S15x1024 .f32 := broadcastInDim S15x1024 ![] bcast_S_S15x1024 (constant S_ .f32 0x00000000#32)

/-- Rows between fifteen rows of zeros and fifteen rows of zeros. -/
abbrev joined (X : FVec Ideal S4096x1024 .f32) : FVec Ideal S4126x1024 .f32 :=
  concatenate S4126x1024 0 [⟨S15x1024, none15⟩, ⟨S4096x1024, X⟩, ⟨S15x1024, none15⟩] concatenates_S15x1024_S4096x1024_S15x1024_S4126x1024_d0

/-- The row that each tap of each row reads. -/
abbrev starts : IVec S31x4096x1 32 :=
  broadcastInDim S31x4096x1 ![0, 1] bcast_S31x4096_S31x4096x1_0_1
    (addi (broadcastInDim S31x4096 ![0, 1] bcast_S31x1_S31x4096_0_1 (broadcastInDim S31x1 ![0] bcast_S31_S31x1_0 (iotaInDim S31 32 0)))
      (broadcastInDim S31x4096 ![0, 1] bcast_S1x4096_S31x4096_0_1 (broadcastInDim S1x4096 ![1] bcast_S4096_S1x4096_1 (iotaInDim S4096 32 0))))

/-- The rows that the taps read. -/
abbrev taken (X : FVec Ideal S4096x1024 .f32) : FVec Ideal S31x4096x1024 .f32 :=
  Host.gather gather_S4126x1024_S31x4096x1_S31x4096x1024_2_0_n_n_0_2_11024 (joined X) starts

/-- The convolution of rows. -/
abbrev qV (X : FVec Ideal S4096x1024 .f32) : FVec Ideal S4096x1024 .f32 :=
  addf (Host.reduceAdd (mulf (taken X) (broadcastInDim S31x4096x1024 ![0, 1, 2] bcast_S31x1x1024_S31x4096x1024_0_1_2
      (broadcastInDim S31x1x1024 ![0, 2] bcast_S31x1024_S31x1x1024_0_2 (arg m c main_arg1))))
      (constant S_ .f32 0x00000000#32) reducesTo_S31x4096x1024_S4096x1024_d0 h_S_)
    (broadcastInDim S4096x1024 ![0, 1] bcast_S1x1024_S4096x1024_0_1 (broadcastInDim S1x1024 ![1] bcast_S1024_S1x1024_1 (arg m c main_arg2)))

/-- Rows by blocks of channels. -/
abbrev out (X : FVec Ideal S4096x1024 .f32) : FVec Ideal S8x4096x128 .f32 :=
  transpose S8x4096x128 [1, 0, 2] (shapeCast _ X shapeCasts_S4096x1024_S4096x8x128) transposes_S4096x8x128_S8x4096x128_1_0_2

/-! ## Their elements -/

theorem out_at (X : FVec Ideal S4096x1024 .f32) (b : Fin 8) (n : Fin 4096) (l : Fin 128) :
    out X (ix3 b n l) = X (ix2 n ⟨b.val * 128 + l.val, by omega⟩) := by
  unfold out
  pointwise

theorem sgV_at (n : Fin 4096) (k : Fin 1024) : (sgV m c (ix2 n k) : EReal) = sgOf (zA m c) n k := by
  unfold sgV
  pointwise
  rfl

theorem pV_at (n : Fin 4096) (k : Fin 1024) : (pV m c (ix2 n k) : EReal) = pOf (zA m c) n k := by
  have h := sgV_at m c n k
  unfold pOf
  rw [← h]
  unfold pV
  generalize sgV m c = X
  pointwise
  rfl

theorem joined_at (X : FVec Ideal S4096x1024 .f32) (j : Fin 4126) (k : Fin 1024) :
    (joined X (ix2 j k) : EReal) = padded (fun i => X (ix2 i k)) j.val := by
  unfold joined
  pointwise
  unfold padded
  by_cases h : 15 ≤ j.val ∧ j.val < 4111
  · rw [dif_pos h, dif_neg (show ¬ j.val < 15 by omega)]
    exact dif_pos (show j.val - 15 < 4096 by omega)
  · rw [dif_neg h]
    by_cases h' : j.val < 15
    · exact dif_pos h'
    · exact (dif_neg h').trans (dif_neg (show ¬ j.val - 15 < 4096 by omega))

theorem taken_at (X : FVec Ideal S4096x1024 .f32) (o : Fin 31) (n : Fin 4096) (k : Fin 1024) :
    (taken X (ix3 o n k) : EReal) = padded (fun i => X (ix2 i k)) (n.val + o.val) := by
  refine (gather_row (by decide) gather_S4126x1024_S31x4096x1_S31x4096x1024_2_0_n_n_0_2_11024_wf _ _ o n k).trans ((joined_at X _ k).trans ?_)
  refine congrArg (padded fun i => X (ix2 i k)) ?_
  have e : (starts (ix3 o n 0)).toInt.toNat = n.val + o.val := by
    refine Eq.trans ?_ (Cert.BwdIn.Ref.small_word o n)
    unfold starts
    pointwise
  show min (starts (ix3 o n 0)).toInt.toNat (4126 - 1) = n.val + o.val
  rw [e]
  omega

theorem qV_at (n : Fin 4096) (k : Fin 1024) : (qV m c (pV m c) (ix2 n k) : EReal) = qOf (zA m c) (wA m c) (bA m c) n k := by
  have h : ∀ o : Fin 31, (taken (pV m c) (ix3 o n k) : EReal) = padded (fun i => pOf (zA m c) i k) (n.val + o.val) := fun o =>
    (taken_at _ o n k).trans (congrArg (fun p => padded p (n.val + o.val)) (funext fun i => pV_at m c i k))
  unfold qV qOf
  generalize taken (pV m c) = T at h ⊢
  pointwise
  refine (add_comm _ _).trans (congrArg (fun s : EReal => bA m c k + s) (Finset.sum_congr (M := EReal) rfl fun o _ => ?_))
  rw [h o]
  exact mul_comm _ _

theorem sg_at (n : Fin 4096) (k : Fin 1024) : (mulf ones (sgV m c) (ix2 n k) : EReal) = sgOf (zA m c) n k := by
  refine Eq.trans ?_ (sgV_at m c n k)
  generalize sgV m c = X
  pointwise

theorem t2_at (n : Fin 4096) (k : Fin 1024) :
    (mulf (mulf (valsV m c) ones) (mulf (sgV m c) (subf ones (sgV m c))) (ix2 n k) : EReal) = t2Of (zA m c) n k := by
  have h := sgV_at m c n k
  unfold t2Of pOf
  rw [← h, mul_assoc]
  generalize sgV m c = X
  pointwise
  rfl

/-! ## The run -/

/-- The arguments end as they were. -/
def Kept (m' : (ℓ : Loc nD τ sig) → Buf (Elt Ideal) ℓ) (c : Dev nD) : Prop :=
  Same m m' c main_arg0 ∧ Same m m' c main_arg1 ∧ Same m m' c main_arg2

/-- Rows that agree at every place agree by blocks of channels. -/
theorem out_eq (X : FVec Ideal S4096x1024 .f32) (f : Fin 4096 → Fin 1024 → EReal) (h : ∀ n k, (X (ix2 n k) : EReal) = f n k) :
    out X = byBlock f := by
  funext j
  obtain ⟨b, n, l, rfl⟩ := three j
  exact (out_at X b n l).trans (h _ _)

/-- Every run ends with the four results and the arguments as they were. -/
theorem run_values (ρ : Dev nD → PrngReg) :
    θ_run defs (onTc (τ := τ) (main (F := Ideal))) ⟨m, fun _ => 0, ρ⟩ fun r => ∀ c : Dev nD,
      left r c main_v41 = byBlock (qOf (zA m c) (wA m c) (bA m c))
      ∧ left r c main_v43 = byBlock (pOf (zA m c))
      ∧ left r c main_v45 = byBlock (sgOf (zA m c))
      ∧ left r c main_v47 = byBlock (t2Of (zA m c))
      ∧ Kept m r.2.mem c := by
  refine (θ_run defs _ _).mono (fun r h c => ?_) (run m ρ)
  obtain ⟨h0, h1, h2, h3, ha⟩ := h c
  exact ⟨(h0.trans (show _ = out (qV m c (pV m c)) from rfl)).trans (out_eq _ _ (qV_at m c)),
    (h1.trans (show _ = out (pV m c) from rfl)).trans (out_eq _ _ (pV_at m c)),
    (h2.trans (show _ = out (mulf ones (sgV m c)) from rfl)).trans (out_eq _ _ (sg_at m c)),
    (h3.trans (show _ = out (mulf (mulf (valsV m c) ones) (mulf (sgV m c) (subf ones (sgV m c)))) from rfl)).trans (out_eq _ _ (t2_at m c)), ha⟩

end Cert.ConvFwd.Ref

end
-- ==== Proof.ConvFwd.Equal.lean ====
/- The convolution's forward kernel computes what the reference does: its frames, and the equality of the results. -/
module

public import proofs.«01_k».proof.Defs
public import proofs.«01_k».proof.Proof.ConvFwd.Values
public import proofs.«01_k».proof.Proof.ConvFwd.Reference
public import proofs.«01_k».proof.Proof.Gen.Kernel4

@[expose] public section

noncomputable section

namespace Cert.ConvFwd

open Idealize.ShloMosaic Idealize.ShloMosaic.TcCoe Idealize.SL.Sem

/-- The kernel and its idealization are one program, at two kinds of elements: the idealization's run is the kernel's. -/
theorem same_program : Cert.quiescent_Kernel4
    = ∀ (m : (ℓ : Loc Cert.Kernel4Ideal.nD Cert.Kernel4Ideal.τ Cert.Kernel4Ideal.sig) → Buf (Elt Bits) ℓ) (ρ : Dev Cert.Kernel4Ideal.nD → PrngReg), True →
        θ_run Cert.Kernel4Ideal.defs (onTc (τ := Cert.Kernel4Ideal.τ) (Cert.Kernel4Ideal.main (F := Bits))) ⟨m, fun _ => 0, ρ⟩
          (fun r => (∀ c : Dev Cert.Kernel4Ideal.nD, Kept m r.2.mem c) ∧ r.2.sem = fun _ => 0) := by
  sl_kernel_rfl

theorem frame_kernel : Cert.quiescent_Kernel4 := same_program.mpr fun m ρ _ => run_frame (F := Bits) m ρ

theorem frame_kernelIdeal : Cert.quiescent_Kernel4Ideal := fun m ρ _ => run_frame (F := Ideal) m ρ

theorem frame_referenceIdeal : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run m ρ)

theorem values : Cert.algebraic_Kernel4Ideal_Reference4Ideal := by
  intro m ρ m' ρ' _ hargs
  have hz : ∀ c, Ref.zA m' c = zA m c := fun c => funext fun n => funext fun k => congrFun (hargs c).1 (ix2 n k)
  have hw : ∀ c, Ref.wA m' c = wA m c := fun c => funext fun n => funext fun k => congrFun (hargs c).2.1 (ix2 n k)
  have hb : ∀ c, Ref.bA m' c = bA m c := fun c => funext fun k => congrFun (hargs c).2.2 (ix1 k)
  refine ⟨_, _, _, _, run_values m ρ, (θ_run Cert.Reference4Ideal.defs _ _).mono (fun r h c => ?_) (Ref.run_values m' ρ')⟩
  have h := h c
  rw [hz, hw, hb] at h
  exact h

end Cert.ConvFwd

end
-- ==== Proof.Front.Body.lean ====
/- The body of the front kernel as a function on the contents of its blocks and its scratch array, written with a loop over the
   row tiles of a block. `body_eq` says that the two are one program. -/
module

public import proofs.«01_k».proof.Proof.Gen.Kernel5Ideal
public import proofs.«01_k».proof.Proof.Lib.Mem

@[expose] public section

noncomputable section

namespace Cert.Front

open Idealize.ShloMosaic Idealize.SL.Sem Cert.Kernel5Ideal Cert.Hand Cert.Hand.Mem
open Facts₀

variable {F : FTy → Type} [FloatOps F]

/-- The grid's points. -/
def point (n : Fin 32) : grid0.Coords := fun a => ⟨n.val, by obtain rfl : a = 0 := Subsingleton.elim _ _; exact n.2⟩

/-- The body's memrefs: the rows, the modulation, the norm's weight, the projection's weights; the normed rows, the projected
rows; and all the normed rows. -/
inductive Slot where
  | x | mod | g | w | h | z | all
  deriving DecidableEq

instance : Fintype Slot := ⟨{.x, .mod, .g, .w, .h, .z, .all}, fun b => by cases b <;> decide⟩

/-- Each memref's shape -/
@[reducible] def Slot.shape : Slot → Shape
  | .x => S512x1024 | .mod => S1x3072 | .g => S1x1024 | .w => S12x2x512x512
  | .h => S512x1024 | .z => S1x2048x512 | .all => S4096x1024

/-- and element type. -/
@[reducible] def Slot.elt : Slot → EltTy
  | .x => .f32 | .mod => .f32 | .g => .f32 | .w => .bf16 | .h => .bf16 | .z => .f32 | .all => .bf16

/-- The memrefs one run of the body is given. -/
abbrev Args : Type := (b : Slot) → Memref sig .tc .vmem b.shape b.elt

/-- They are one bank. -/
@[reducible] def bank (R : Args) : Bank sig Slot := ⟨Slot.shape, Slot.elt, R⟩

/-- What they hold. -/
abbrev St (F : FTy → Type) : Type := (b : Slot) → b.shape.Idx → Elt F b.elt

/-- A body on that bank. -/
abbrev Code (F : FTy → Type) (R : Args) (α : Type) : Type := Mem (bank R) (Elt F) α

/-! ## The rectangles -/

theorem inb_row (k : Fin 32) : ∀ a, (![16 * k.val, 0] : Fin 2 → Nat) a + S16x1024.size a ≤ S512x1024.size a := by
  revert k; decide

theorem inb_all (n : Fin 8) (k : Fin 32) : ∀ a, (![512 * n.val + 16 * k.val, 0] : Fin 2 → Nat) a + S16x1024.size a ≤ S4096x1024.size a := by
  revert n k; decide

theorem inb_half (r : Fin 2) : ∀ a, (![2048 * r.val, 0] : Fin 2 → Nat) a + S2048x1024.size a ≤ S4096x1024.size a := by
  revert r; decide

theorem inb_block (b : Fin 12) : ∀ a, (![b.val, 0, 0, 0] : Fin 4 → Nat) a + S1x2x512x512.size a ≤ S12x2x512x512.size a := by
  revert b; decide

/-- A tile of 16 rows of a block. -/
@[reducible] def rRow (k : Fin 32) : Rect S512x1024 := Rect.unit (s := S512x1024) ![16 * k.val, 0] S16x1024.size (inb_row k)
/-- The same tile among all the rows, of block `n`. -/
@[reducible] def rAll (n : Fin 8) (k : Fin 32) : Rect S4096x1024 :=
  Rect.unit (s := S4096x1024) ![512 * n.val + 16 * k.val, 0] S16x1024.size (inb_all n k)
/-- Half of the rows. -/
@[reducible] def rHalf (r : Fin 2) : Rect S4096x1024 := Rect.unit (s := S4096x1024) ![2048 * r.val, 0] S2048x1024.size (inb_half r)
/-- A block of the weights. -/
@[reducible] def rBlock (b : Fin 12) : Rect S12x2x512x512 := Rect.unit (s := S12x2x512x512) ![b.val, 0, 0, 0] S1x2x512x512.size (inb_block b)

theorem packed_row (k : Fin 32) : (rRow k).PackedRows (EltTy.packing .bf16) := by
  revert k; decide +kernel

theorem packed_all (n : Fin 8) (k : Fin 32) : (rAll n k).PackedRows (EltTy.packing .bf16) := by
  revert n k; decide +kernel

/-- The block of the weights that a point from the ninth on multiplies by: the first three, then two of the next six by turns,
then the last three, each at two points. -/
def blockOf (n : Fin 32) : Fin 12 :=
  ⟨if (n.val - 8) / 2 < 3 ∨ 9 ≤ (n.val - 8) / 2 then (n.val - 8) / 2 else 3 * (((n.val - 8) / 2 - 3) % 2 + 1) + ((n.val - 8) / 2 - 3) / 2, by
    have := n.2; split <;> omega⟩

/-- The half of the rows that it multiplies. -/
def halfOf (n : Fin 32) : Fin 2 := ⟨n.val % 2, by omega⟩

variable (R : Args) (hR : ∀ b, (R b).IsWhole)

/-- A load of a rectangle of a memref. -/
@[reducible] def ld (b : Slot) (r : Rect b.shape) (h : 0 < r.shape.numel) : Code F R (r.shape.Idx → Elt F b.elt) :=
  rd (A := bank R) b r (View.loadsAt_vmem h)

/-- A store over a rectangle of a memref. -/
@[reducible] def st (b : Slot) (r : Rect b.shape) (w : r.shape.Idx → Elt F b.elt) (h : 0 < r.shape.numel)
    (he : b.elt.bits = 32) : Code F R PUnit :=
  wr (A := bank R) b r w (View.stores_vmem_bits_univ h he)

/-- A store of normed rows. -/
@[reducible] def stH (r : Rect S512x1024) (w : r.shape.Idx → Elt F .bf16) (h : 0 < r.shape.numel) (hp : r.PackedRows (EltTy.packing .bf16)) :
    Code F R PUnit :=
  wr (A := bank R) .h r w (View.stores_vmem h ((hR .h).storeExact_slice rfl _ hp) (fun _ => rfl))

/-- A store of normed rows among all of them. -/
@[reducible] def stAll (r : Rect S4096x1024) (w : r.shape.Idx → Elt F .bf16) (h : 0 < r.shape.numel) (hp : r.PackedRows (EltTy.packing .bf16)) :
    Code F R PUnit :=
  wr (A := bank R) .all r w (View.stores_vmem h ((hR .all).storeExact_slice rfl _ hp) (fun _ => rfl))

/-! ## The arithmetic -/

/-- Sixteen rows normed and modulated. -/
def normed (s c g : FVec F S1x1024 .f32) (x : FVec F S16x1024 .f32) : FVec F S16x1024 .bf16 :=
  truncf .bf16 (addf (mulf (mulf (mulf x (broadcastTo S16x1024 (rsqrt (addf (divf
      (shapeCast S16x1 (multiReduction .add [1] S16 (mulf x x) 0x00000000#32 reduces_S16x1024_S16 (.inl rfl) rfl) shapeCasts_S16_S16x1)
      (broadcast S16x1 (Scalar.ofBits .f32 0x44800000#32))) (broadcast S16x1 (Scalar.ofBits .f32 0x358637BD#32)))) broadcasts_S16x1_S16x1024))
    (broadcastTo S16x1024 (shapeCast S1x1024 g shapeCasts_S1x1024_S1x1024) broadcasts_S1x1024_S16x1024))
    (broadcastTo S16x1024 (addf (broadcast S1x1024 (Scalar.ofBits .f32 0x3F800000#32)) (shapeCast S1x1024 c shapeCasts_S1x1024_S1x1024))
      broadcasts_S1x1024_S16x1024))
    (broadcastTo S16x1024 (shapeCast S1x1024 s shapeCasts_S1x1024_S1x1024) broadcasts_S1x1024_S16x1024)) bitsLt_bf16_f32

/-- Half of the rows times a block of the weights. -/
def product (v : FVec F S2048x1024 .bf16) (w : FVec F S1x2x512x512 .bf16) : FVec F S1x2048x512 .f32 :=
  shapeCast S1x2048x512 (matmul dot_S2048x1024_S1024x512_S2048x512_1_0_0_1_n_n none v
    (shapeCast S1024x512 (shapeCast S2x512x512 w shapeCasts_S1x2x512x512_S2x512x512) shapeCasts_S2x512x512_S1024x512)
    (constant S2048x512 .f32 0x00000000#32)) shapeCasts_S2048x512_S1x2048x512

/-! ## The parts of the body -/

/-- One tile of rows, normed into its block and among all the rows. -/
def tile (n : Fin 8) (s c g : FVec F S1x1024 .f32) (k : Fin 32) : Code F R PUnit := do
  let x ← ld R .x (rRow k) h_S16x1024
  let _ ← ld R .h (rRow k) h_S16x1024
  stH R hR (rRow k) (normed s c g x) h_S16x1024 (packed_row k)
  let _ ← ld R .all (rAll n k) h_S16x1024
  stAll R hR (rAll n k) (shapeCast S16x1024 (normed s c g x) shapeCasts_S16x1024_S16x1024) h_S16x1024 (packed_all n k)

/-- A block of rows. -/
def rowsPart (n : Fin 8) : Code F R PUnit := do
  let s ← ld R .mod (Rect.unit (s := S1x3072) ![0, 0] S1x1024.size inb_S1x3072_S1x1024_0_0) h_S1x1024
  let c ← ld R .mod (Rect.unit (s := S1x3072) ![0, 1024] S1x1024.size inb_S1x3072_S1x1024_0_1024) h_S1x1024
  let g ← ld R .g (Rect.unit (s := S1x1024) ![0, 0] S1x1024.size inb_S1x1024_S1x1024_0_0) h_S1x1024
  steps (tile R hR n s c g)

/-- Half of the rows times a block of the weights. -/
def productPart (n : Fin 32) : Code F R PUnit := do
  let v ← ld R .all (rHalf (halfOf n)) h_S2048x1024
  let w ← ld R .w (rBlock (blockOf n)) h_S1x2x512x512
  let _ ← ld R .z (Rect.unit (s := S1x2048x512) ![0, 0, 0] S1x2048x512.size inb_S1x2048x512_S1x2048x512_0_0_0) h_S1x2048x512
  st R .z (Rect.unit (s := S1x2048x512) ![0, 0, 0] S1x2048x512.size inb_S1x2048x512_S1x2048x512_0_0_0) (product v w) h_S1x2048x512 rfl

/-- The body at a point. -/
def code (n : Fin 32) : Code F R PUnit := if h : n.val < 8 then rowsPart R hR ⟨n.val, h⟩ else productPart R n

end Cert.Front

end
-- ==== Proof.Front.Run.lean ====
/- What the body of the front kernel computes. -/
module

public import proofs.«01_k».proof.Proof.Front.Body
public import proofs.«01_k».proof.Proof.Lib.Progress
public import Idealize.ShloMosaic.Lib.PointwiseCore

@[expose] public section

noncomputable section

namespace Cert.Front

open Idealize.ShloMosaic Idealize.SL.Sem Cert.Kernel5Ideal Cert.Hand Cert.Hand.Mem
open Facts₀

variable {F : FTy → Type} [FloatOps F]

/-- The tile of 16 rows that a row of a block is in. -/
def tileOf (n : Fin 512) : Fin 32 := ⟨n.val / 16, by omega⟩

/-- A row's place in its tile. -/
def within (n : Fin 512) : Fin 16 := ⟨n.val % 16, by omega⟩

/-- A block by its tiles. -/
def ofTiles (D : Fin 32 → FVec F S16x1024 .bf16) : S512x1024.Idx → F .bf16 := fun j => D (tileOf (j 0)) (ix2 (within (j 0)) (j 1))

/-- The shift, -/
abbrev shiftOf (M : S1x3072.Idx → F .f32) : FVec F S1x1024 .f32 :=
  fun x => M ((Rect.unit (s := S1x3072) ![0, 0] S1x1024.size inb_S1x3072_S1x1024_0_0).emb x)
/-- the scale -/
abbrev scaleOf (M : S1x3072.Idx → F .f32) : FVec F S1x1024 .f32 :=
  fun x => M ((Rect.unit (s := S1x3072) ![0, 1024] S1x1024.size inb_S1x3072_S1x1024_0_1024).emb x)
/-- and the norm's weight. -/
abbrev gainOf (G : S1x1024.Idx → F .f32) : FVec F S1x1024 .f32 :=
  fun x => G ((Rect.unit (s := S1x1024) ![0, 0] S1x1024.size inb_S1x1024_S1x1024_0_0).emb x)

/-- A tile of normed rows, -/
def normTile (s c g : FVec F S1x1024 .f32) (X : S512x1024.Idx → F .f32) (k : Fin 32) : FVec F S16x1024 .bf16 :=
  normed s c g fun x => X ((rRow k).emb x)

/-- and a block of them. -/
def normBlock (M : S1x3072.Idx → F .f32) (G : S1x1024.Idx → F .f32) (X : S512x1024.Idx → F .f32) : S512x1024.Idx → F .bf16 :=
  ofTiles (normTile (shiftOf M) (scaleOf M) (gainOf G) X)

/-- All the rows with block `n` put in. -/
def put (n : Fin 8) (H : S512x1024.Idx → F .bf16) (A : S4096x1024.Idx → F .bf16) : S4096x1024.Idx → F .bf16 :=
  fun j => if h : 512 * n.val ≤ (j 0).val ∧ (j 0).val < 512 * n.val + 512 then H (ix2 ⟨(j 0).val - 512 * n.val, by omega⟩ (j 1)) else A j

/-- The projected rows of a point. -/
def projBlock (n : Fin 32) (A : S4096x1024.Idx → F .bf16) (W : S12x2x512x512.Idx → F .bf16) : S1x2048x512.Idx → F .f32 :=
  product (fun x => A ((rHalf (halfOf n)).emb x)) (fun x => W ((rBlock (blockOf n)).emb x))

variable (R : Args) (hR : ∀ b, (R b).IsWhole) (S : St F)

/-! ## Times and places -/

/-- When a place of a block is written. -/
def tRow (j : S512x1024.Idx) : ℕ := (j 0).val / 16

theorem tRow_iff (k : Fin 32) (j : S512x1024.Idx) : tRow j = k.val ↔ j ∈ (rRow k).set := by
  have h1 : (j 1).val < 1024 := (j 1).isLt
  rw [Rect.mem_set_unit]
  constructor
  · intro e a
    unfold tRow at e
    fin_cases a
    · show 16 * k.val ≤ (j 0).val ∧ (j 0).val < 16 * k.val + 16; omega
    · show 0 ≤ (j 1).val ∧ (j 1).val < 0 + 1024; omega
  · intro e
    have e0 : 16 * k.val ≤ (j 0).val ∧ (j 0).val < 16 * k.val + 16 := e 0
    unfold tRow
    omega

theorem tRow_lt (j : S512x1024.Idx) : tRow j < 32 := by
  have h0 : (j 0).val < 512 := (j 0).isLt
  unfold tRow
  omega

theorem tile_at (D : Fin 32 → FVec F S16x1024 .bf16) (k : Fin 32) (r : Fin 16) (l : Fin 1024) (n : Fin 512) (h : n.val = 16 * k.val + r.val) :
    ofTiles D (ix2 n l) = D k (ix2 r l) := by
  have e1 : tileOf n = k := Fin.ext (by unfold tileOf; dsimp only; omega)
  have e2 : within n = r := Fin.ext (by unfold within; dsimp only; omega)
  exact congrArg₂ (fun a b => D a (ix2 b l)) e1 e2

theorem row_step (D : Fin 32 → FVec F S16x1024 .bf16) (X : S512x1024.Idx → F .bf16) (k : Fin 32) :
    (rRow k).overlay (prog tRow (ofTiles D) X k.val) (D k) = prog tRow (ofTiles D) X (k.val + 1) := by
  refine prog_step (rRow k) tRow _ _ _ _ (tRow_iff k) fun x => ?_
  obtain ⟨r, l, rfl⟩ : ∃ (r : Fin 16) (l : Fin 1024), x = ix2 r l := ⟨x 0, x 1, eq_ix2 x⟩
  have e : (rRow k).emb (ix2 r l) = ix2 ⟨16 * k.val + r.val, by omega⟩ l := by
    refine emb_eq fun a => ?_; fin_cases a <;> simp [ix2]
  rw [e]
  exact (tile_at D k r l _ rfl).symm

theorem row_end (D : Fin 32 → FVec F S16x1024 .bf16) (X : S512x1024.Idx → F .bf16) : prog tRow (ofTiles D) X 32 = ofTiles D :=
  prog_end _ _ _ _ fun j => .inl (tRow_lt j)

/-- When a place among all the rows is written, at block `n`. -/
def tAll (n : Fin 8) (j : S4096x1024.Idx) : ℕ :=
  if 512 * n.val ≤ (j 0).val ∧ (j 0).val < 512 * n.val + 512 then ((j 0).val - 512 * n.val) / 16 else 32

theorem tAll_iff (n : Fin 8) (k : Fin 32) (j : S4096x1024.Idx) : tAll n j = k.val ↔ j ∈ (rAll n k).set := by
  have h1 : (j 1).val < 1024 := (j 1).isLt
  have hk := k.isLt
  rw [Rect.mem_set_unit]
  constructor
  · intro e a
    unfold tAll at e
    split at e
    · fin_cases a
      · show 512 * n.val + 16 * k.val ≤ (j 0).val ∧ (j 0).val < 512 * n.val + 16 * k.val + 16; omega
      · show 0 ≤ (j 1).val ∧ (j 1).val < 0 + 1024; omega
    · omega
  · intro e
    have e0 : 512 * n.val + 16 * k.val ≤ (j 0).val ∧ (j 0).val < 512 * n.val + 16 * k.val + 16 := e 0
    unfold tAll
    rw [if_pos (by omega)]
    omega

theorem all_step (n : Fin 8) (D : Fin 32 → FVec F S16x1024 .bf16) (X : S4096x1024.Idx → F .bf16) (k : Fin 32) :
    (rAll n k).overlay (prog (tAll n) (put n (ofTiles D) X) X k.val) (shapeCast S16x1024 (D k) shapeCasts_S16x1024_S16x1024)
      = prog (tAll n) (put n (ofTiles D) X) X (k.val + 1) := by
  refine prog_step (rAll n k) (tAll n) _ _ _ _ (tAll_iff n k) fun x => ?_
  obtain ⟨r, l, rfl⟩ : ∃ (r : Fin 16) (l : Fin 1024), x = ix2 r l := ⟨x 0, x 1, eq_ix2 x⟩
  have e : (rAll n k).emb (ix2 r l) = ix2 ⟨512 * n.val + 16 * k.val + r.val, by omega⟩ l := by
    refine emb_eq fun a => ?_; fin_cases a <;> simp [ix2]
  rw [e]
  refine Eq.trans ?_ (dif_pos (show 512 * n.val ≤ 512 * n.val + 16 * k.val + r.val ∧ 512 * n.val + 16 * k.val + r.val < 512 * n.val + 512 by omega)).symm
  refine Eq.trans ?_ (tile_at D k r l _ (show 512 * n.val + 16 * k.val + r.val - 512 * n.val = _ by omega)).symm
  generalize D k = G
  pointwise

theorem all_end (n : Fin 8) (D : Fin 32 → FVec F S16x1024 .bf16) (X : S4096x1024.Idx → F .bf16) :
    prog (tAll n) (put n (ofTiles D) X) X 32 = put n (ofTiles D) X := by
  refine prog_end _ _ _ _ fun j => ?_
  unfold tAll
  by_cases h : 512 * n.val ≤ (j 0).val ∧ (j 0).val < 512 * n.val + 512
  · left
    rw [if_pos h]
    omega
  · right
    exact Eq.symm (show put n (ofTiles D) X j = X j from dif_neg h)

/-! ## The rows -/

/-- What the memrefs hold when the normed block is `h` and all the rows are `a`. -/
def withRows (h : S512x1024.Idx → F .bf16) (a : S4096x1024.Idx → F .bf16) : St F
  | .x => S .x | .mod => S .mod | .g => S .g | .w => S .w | .z => S .z
  | .h => h | .all => a

theorem withRows_self : withRows S (S .h) (S .all) = S := by
  funext b
  cases b <;> rfl

theorem run_tile (n : Fin 8) (s c g : FVec F S1x1024 .f32) (k : Fin 32) (h : S512x1024.Idx → F .bf16) (a : S4096x1024.Idx → F .bf16) :
    (run (tile R hR n s c g k) (withRows S h a)).2 = withRows S ((rRow k).overlay h (normTile s c g (S .x) k))
      ((rAll n k).overlay a (shapeCast S16x1024 (normTile s c g (S .x) k) shapeCasts_S16x1024_S16x1024)) := by
  funext b
  cases b
  all_goals sl_kernel_rfl

theorem run_tiles (n : Fin 8) (s c g : FVec F S1x1024 .f32) :
    (run (steps (tile R hR n s c g)) S).2
      = withRows S (ofTiles (normTile s c g (S .x))) (put n (ofTiles (normTile s c g (S .x))) (S .all)) := by
  have key := run_steps (tile R hR n s c g)
    (fun k => withRows S (prog tRow (ofTiles (normTile s c g (S .x))) (S .h) k) (prog (tAll n) (put n (ofTiles (normTile s c g (S .x))) (S .all)) (S .all) k))
    (fun k => by rw [run_tile, row_step, all_step])
  rw [prog_zero, prog_zero, withRows_self, row_end, all_end] at key
  exact key

theorem run_rows (n : Fin 8) : (run (rowsPart R hR n) S).2
    = withRows S (normBlock (S .mod) (S .g) (S .x)) (put n (normBlock (S .mod) (S .g) (S .x)) (S .all)) :=
  (show (run (rowsPart R hR n) S).2 = (run (steps (tile R hR n (shiftOf (S .mod)) (scaleOf (S .mod)) (gainOf (S .g)))) S).2 from rfl).trans
    (run_tiles R hR S n _ _ _)

/-! ## The products -/

theorem whole_z (X w : S1x2048x512.Idx → F .f32) :
    (Rect.unit (s := S1x2048x512) ![0, 0, 0] S1x2048x512.size inb_S1x2048x512_S1x2048x512_0_0_0).overlay X w = w := by
  have e : ∀ x, (Rect.unit (s := S1x2048x512) ![0, 0, 0] S1x2048x512.size inb_S1x2048x512_S1x2048x512_0_0_0).emb x = x := by
    intro x; refine emb_eq fun a => ?_; fin_cases a <;> simp
  exact overlay_all _ _ _ _ (fun x => congrArg w (e x).symm) fun j => ⟨j, e j⟩

/-- What the memrefs hold when the projected rows are `z`. -/
def withProduct (z : S1x2048x512.Idx → F .f32) : St F
  | .x => S .x | .mod => S .mod | .g => S .g | .w => S .w | .h => S .h | .all => S .all
  | .z => z

theorem run_product (n : Fin 32) : (run (productPart R n) S).2 = withProduct S (projBlock n (S .all) (S .w)) := by
  rw [← whole_z (S .z) (projBlock n (S .all) (S .w))]
  funext b
  cases b
  all_goals sl_kernel_rfl

/-! ## The body -/

/-- What the memrefs hold after the body. -/
def next (n : Fin 32) : St F
  | .x => S .x | .mod => S .mod | .g => S .g | .w => S .w
  | .h => if n.val < 8 then normBlock (S .mod) (S .g) (S .x) else S .h
  | .z => if n.val < 8 then S .z else projBlock n (S .all) (S .w)
  | .all => if h : n.val < 8 then put ⟨n.val, h⟩ (normBlock (S .mod) (S .g) (S .x)) (S .all) else S .all

theorem next_rows (n : Fin 32) : next S n .h = if n.val < 8 then normBlock (S .mod) (S .g) (S .x) else S .h := rfl

theorem next_products (n : Fin 32) : next S n .z = if n.val < 8 then S .z else projBlock n (S .all) (S .w) := rfl

theorem run_code (n : Fin 32) : (run (code R hR n) S).2 = next S n := by
  unfold code
  by_cases h : n.val < 8
  · rw [dif_pos h, run_rows]
    funext b
    cases b
    · rfl
    · rfl
    · rfl
    · rfl
    · exact (if_pos h).symm
    · exact (if_pos h).symm
    · exact Eq.symm (show next S n .all = put ⟨n.val, h⟩ _ _ from dif_pos h)
  · rw [dif_neg h, run_product]
    funext b
    cases b
    · rfl
    · rfl
    · rfl
    · rfl
    · exact (if_neg h).symm
    · exact (if_neg h).symm
    · exact Eq.symm (show next S n .all = S .all from dif_neg h)

end Cert.Front

end
-- ==== Proof.Front.BodyEq.lean ====
/- The printed body of the front kernel is the one written with a loop over row tiles. -/
module

public import proofs.«01_k».proof.Proof.Front.Body
public import proofs.«01_k».proof.Proof.Gen.Kernel5Ideal.Skeleton

@[expose] public section

noncomputable section

namespace Cert.Front

open Idealize.ShloMosaic Idealize.SL.Sem Cert.Kernel5Ideal Cert.Kernel5Ideal.Gen Cert.Hand Cert.Hand.Mem

variable {F : FTy → Type} [FloatOps F]

/-- A program on the body's memrefs. -/
abbrev Run (F : FTy → Type) (α : Type) : Type 1 := Prog (TpuEff nD τ sig (Elt F) Λ₀ .tc) α

/-- What the printed body is at a point. -/
abbrev printed (n : Fin 32) (R : Args) (h : ∀ b, (R b).IsWhole) : Run F PUnit :=
  cc0_front (F := F) (point n) (R .x) (h _) (R .mod) (h _) (R .g) (h _) (R .w) (h _) (R .h) (h _) (R .z) (h _) (R .all) (h _)

/-- A point that norms rows, around its loop. -/
def around (R : Args) (A : FVec F S1x1024 .f32 → FVec F S1x1024 .f32 → FVec F S1x1024 .f32 → Run F PUnit) : Run F PUnit := do
  let s ← toProg (ld R .mod (Rect.unit (s := S1x3072) ![0, 0] S1x1024.size inb_S1x3072_S1x1024_0_0) h_S1x1024)
  let c ← toProg (ld R .mod (Rect.unit (s := S1x3072) ![0, 1024] S1x1024.size inb_S1x3072_S1x1024_0_1024) h_S1x1024)
  let g ← toProg (ld R .g (Rect.unit (s := S1x1024) ![0, 0] S1x1024.size inb_S1x1024_S1x1024_0_0) h_S1x1024)
  A s c g
  pure ⟨⟩

/-- A point that norms rows, by its number. -/
abbrev rowPoint (n : Fin 8) : Fin 32 := ⟨n.val, by omega⟩

theorem norms (n : Fin 8) : k0_cond1 (point (rowPoint n)) = 1#1 := by revert n; decide +kernel

/-- One trip of the loop. -/
abbrev trip (n : Fin 8) (R : Args) (h : ∀ b, (R b).IsWhole) (s c g : FVec F S1x1024 .f32) : Fin k0_t1_loop.trips → PUnit → Run F PUnit :=
  k0_t1_body (F := F) (point (rowPoint n)) (R .x) (h _) (R .mod) (h _) (R .g) (h _) (R .w) (h _) (R .h) (h _) (R .z) (h _) (R .all) (h _) (norms n) s c g

theorem body_loop (n : Fin 8) (R : Args) (h : ∀ b, (R b).IsWhole) :
    printed (F := F) (rowPoint n) R h
      = around R fun s c g => Scf.Loop.for k0_t1_loop (k0_t1_ok (point (rowPoint n)) (norms n)) ⟨⟩ (trip n R h s c g) := by
  fin_cases n <;> sl_kernel_rfl

theorem loop_code (n : Fin 8) (R : Args) (h : ∀ b, (R b).IsWhole) :
    around R (fun s c g => Scf.forFrom (trip (F := F) n R h s c g) (List.finRange _) ⟨⟩) = toProg (rowsPart R h n) := by
  fin_cases n <;> sl_kernel_rfl

theorem rows_eq (n : Fin 8) (R : Args) (h : ∀ b, (R b).IsWhole) : printed (F := F) (rowPoint n) R h = toProg (rowsPart R h n) := by
  refine (body_loop n R h).trans (Eq.trans ?_ (loop_code n R h))
  exact congrArg (around R) (funext fun s => funext fun c => funext fun g => Scf.for_eq _ _ _ _ _ _)

/-- A point that multiplies, by its number. -/
abbrev productPoint (n : Fin 24) : Fin 32 := ⟨n.val + 8, by omega⟩

theorem product_eq (n : Fin 24) (R : Args) (h : ∀ b, (R b).IsWhole) :
    printed (F := F) (productPoint n) R h = toProg (productPart R (productPoint n)) := by
  fin_cases n <;> sl_kernel_rfl

theorem body_eq (n : Fin 32) (R : Args) (h : ∀ b, (R b).IsWhole) : printed (F := F) n R h = toProg (code R h n) := by
  unfold code
  by_cases hn : n.val < 8
  · rw [dif_pos hn]
    exact rows_eq ⟨n.val, hn⟩ R h
  · rw [dif_neg hn]
    obtain ⟨k, rfl⟩ : ∃ k : Fin 24, n = productPoint k := ⟨⟨n.val - 8, by omega⟩, Fin.ext (by dsimp only; omega)⟩
    exact product_eq k R h

end Cert.Front

end
-- ==== Proof.Front.Frame.lean ====
/- The run of the pipeline over the body of the front kernel. -/
module

public import proofs.«01_k».proof.Proof.Front.Run
public import proofs.«01_k».proof.Proof.Front.BodyEq
public import proofs.«01_k».proof.Proof.Gen.Kernel5Ideal.Frame
public import Idealize.ShloMosaic.Lib.Pipeline.TableIdle

@[expose] public section

noncomputable section

namespace Cert.Front

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel5Ideal Cert.Kernel5Ideal.Gen Cert.Hand Cert.Hand.Mem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks at a point -/

/-- The grid's points by number. -/
abbrev pt (t : Fin cfg0.N) : Fin 32 := t.cast N_0

theorem coords_eq (t : Fin cfg0.N) : cfg0.grid.coords t = point (pt t) := by
  revert t; decide +kernel

/-- The point that norms a block of rows. -/
abbrev atBlock (n : Fin 8) : Fin cfg0.N := (rowPoint n).cast N_0.symm

/-- The block of rows that the rows' windows are at: the last one where the products are taken. -/
def blockNo (t : Fin cfg0.N) : Fin 8 := ⟨min t.val 7, by omega⟩

def xB (c : Dev nD) (t : Fin cfg0.N) : S512x1024.Idx → F .f32 := iblk m c 0 t
def modB (c : Dev nD) (t : Fin cfg0.N) : S1x3072.Idx → F .f32 := iblk m c 1 t
def gB (c : Dev nD) (t : Fin cfg0.N) : S1x1024.Idx → F .f32 := iblk m c 2 t
def wB (c : Dev nD) (t : Fin cfg0.N) : S12x2x512x512.Idx → F .bf16 := iblk m c 3 t

/-- A block of normed rows, -/
def hC (c : Dev nD) (n : Fin 8) : S512x1024.Idx → F .bf16 := normBlock (modB m c (atBlock n)) (gB m c (atBlock n)) (xB m c (atBlock n))

/-- all of them, -/
def allC (c : Dev nD) : S4096x1024.Idx → F .bf16 := fun j =>
  hC m c ⟨(j 0).val / 512, by have h : (j 0).val < 4096 := (j 0).isLt; omega⟩ (ix2 ⟨(j 0).val % 512, by omega⟩ (j 1))

/-- and the projected rows of a point. -/
def zC (c : Dev nD) (t : Fin cfg0.N) : S1x2048x512.Idx → F .f32 := projBlock (pt t) (allC m c) (wB m c t)

/-! ## The proof data -/

/-- What the body carries between points: before point `k` the scratch array holds the rows normed so far. -/
def carried (c : Dev nD) (k : ℕ) : sProp 𝕄 :=
  iprop(∃ a : S4096x1024.Idx → F .bf16, ⌜∀ j, (j 0).val < 512 * k → a j = allC m c j⌝
    ∗ owns (c : Thread nD τ) (Memref.whole cc0_scratch0) fullShare a ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => hC m c (blockNo t)
    | ⟨5, _⟩ => zC m c t
  Φ t := carried m c t.val
  q _ := fullShare
  owed _ := 0

theorem A_eq (c : Dev nD) (w : Fin cfg0.W) : (dats m 0 c).A w = V m c (Pipeline.arrRef spec0 w) := by dsimp only [dats]

/-- The body's memrefs at a point. -/
def args (t : Fin cfg0.N) : Args
  | .x => st0_0 t | .mod => st0_1 t | .g => st0_2 t | .w => st0_3 t | .h => st0_4 t | .z => st0_5 t | .all => Memref.whole cc0_scratch0

theorem args_whole (t : Fin cfg0.N) (b : Slot) : (args t b).IsWhole := by
  cases b
  · exact hstage0_0 _
  · exact hstage0_1 _
  · exact hstage0_2 _
  · exact hstage0_3 _
  · exact hstage0_4 _
  · exact hstage0_5 _
  · exact Memref.isWhole_whole _

theorem body_code (t : Fin cfg0.N) : bodyAt0 (F := F) t = toProg (code (args t) (args_whole t) (pt t)) := by
  have h := body_eq (F := F) (pt t) (args t) (args_whole t)
  unfold printed at h
  rw [← coords_eq] at h
  exact h

theorem held_eq (t : Fin cfg0.N) (c : Dev nD) (S : St F) : (held (bank (args t)) c S : sProp 𝕄)
    = iprop(owns (c : Thread nD τ) (st0_0 t) fullShare (S .x)
      ∗ owns (c : Thread nD τ) (st0_1 t) fullShare (S .mod)
      ∗ owns (c : Thread nD τ) (st0_2 t) fullShare (S .g)
      ∗ owns (c : Thread nD τ) (st0_3 t) fullShare (S .w)
      ∗ owns (c : Thread nD τ) (st0_4 t) fullShare (S .h)
      ∗ owns (c : Thread nD τ) (st0_5 t) fullShare (S .z)
      ∗ owns (c : Thread nD τ) (Memref.whole cc0_scratch0) fullShare (S .all)) := by
  unfold held
  exact bigSep_univ_eq_bigSepL [Slot.x, .mod, .g, .w, .h, .z, .all] (by decide) (by decide) _

/-! ## What a point changes -/

/-- What the memrefs hold when the body starts at `t`. -/
def found (c : Dev nD) (t : Fin cfg0.N) (h : S512x1024.Idx → F .bf16) (z : S1x2048x512.Idx → F .f32) (a : S4096x1024.Idx → F .bf16) : St F
  | .x => xB m c t | .mod => modB m c t | .g => gB m c t | .w => wB m c t | .h => h | .z => z | .all => a

theorem atBlock_pt (t : Fin cfg0.N) (h : (pt t).val < 8) : atBlock ⟨(pt t).val, h⟩ = t := Fin.ext rfl

/-- A point that norms rows puts its block among the rows normed so far; the others leave them. -/
theorem next_all (c : Dev nD) (t : Fin cfg0.N) (h : S512x1024.Idx → F .bf16) (z : S1x2048x512.Idx → F .f32) (a : S4096x1024.Idx → F .bf16)
    (ha : ∀ j, (j 0).val < 512 * t.val → a j = allC m c j) (j : S4096x1024.Idx) (hj : (j 0).val < 512 * (t.val + 1)) :
    next (found m c t h z a) (pt t) .all j = allC m c j := by
  unfold next
  by_cases hn : (pt t).val < 8
  · refine (congrFun (dif_pos hn) j).trans ?_
    unfold put
    change t.val < 8 at hn
    by_cases hb : 512 * t.val ≤ (j 0).val ∧ (j 0).val < 512 * t.val + 512
    · refine (dif_pos hb).trans ?_
      have e1 : (⟨(j 0).val / 512, by omega⟩ : Fin 8) = ⟨t.val, hn⟩ := Fin.ext (by dsimp only; omega)
      have e2 : (⟨(j 0).val % 512, by omega⟩ : Fin 512) = ⟨(j 0).val - 512 * t.val, by omega⟩ := Fin.ext (by dsimp only; omega)
      unfold allC
      rw [e1, e2]
      rfl
    · refine (dif_neg hb).trans (ha j (by omega))
  · refine (congrFun (dif_neg hn) j).trans (ha j ?_)
    have h0 : (j 0).val < 4096 := (j 0).isLt
    change ¬ t.val < 8 at hn
    omega

/-- From the ninth point on all the rows are normed. -/
theorem all_normed (c : Dev nD) (t : Fin cfg0.N) (hn : ¬ (pt t).val < 8) (a : S4096x1024.Idx → F .bf16)
    (ha : ∀ j, (j 0).val < 512 * t.val → a j = allC m c j) : a = allC m c := by
  funext j
  have h0 : (j 0).val < 4096 := (j 0).isLt
  change ¬ t.val < 8 at hn
  exact ha j (by omega)

theorem next_h (c : Dev nD) (t : Fin cfg0.N) (h : S512x1024.Idx → F .bf16) (z : S1x2048x512.Idx → F .f32) (a : S4096x1024.Idx → F .bf16) :
    next (found m c t h z a) (pt t) .h = if (pt t).val < 8 then hC m c (blockNo t) else h := by
  rw [next_rows]
  by_cases hn : (pt t).val < 8
  · rw [if_pos hn, if_pos hn]
    have e : blockNo t = ⟨(pt t).val, hn⟩ := Fin.ext (by change t.val < 8 at hn; change min t.val 7 = t.val; omega)
    unfold hC
    rw [e, atBlock_pt]
    rfl
  · rw [if_neg hn, if_neg hn]
    rfl

theorem next_z (c : Dev nD) (t : Fin cfg0.N) (h : S512x1024.Idx → F .bf16) (z : S1x2048x512.Idx → F .f32) (a : S4096x1024.Idx → F .bf16)
    (ha : ∀ j, (j 0).val < 512 * t.val → a j = allC m c j) :
    next (found m c t h z a) (pt t) .z = if (pt t).val < 8 then z else zC m c t := by
  rw [next_products]
  by_cases hn : (pt t).val < 8
  · rw [if_pos hn, if_pos hn]
    rfl
  · rw [if_neg hn, if_neg hn]
    unfold zC
    rw [← all_normed m c t hn a ha]
    rfl

theorem idle_h (t : Fin cfg0.N) : cfg0.idle 4 (cfg0.grid.coords t) = !decide ((pt t).val < 8) := by
  revert t; decide +kernel

theorem idle_z (t : Fin cfg0.N) : cfg0.idle 5 (cfg0.grid.coords t) = decide ((pt t).val < 8) := by
  revert t; decide +kernel

theorem fresh_h (t : Fin cfg0.N) : ¬ (pt t).val < 8 → cfg0.fresh 4 t.val = false := by
  revert t; decide +kernel

theorem flush_z (t : Fin cfg0.N) : (pt t).val < 8 → (cfg0.win 5).flush t = false := by
  revert t; decide +kernel

/-- Where the products are taken the window of the normed rows still holds the last block. -/
theorem before_h (c : Dev nD) (t : Fin cfg0.N) (hn : ¬ (pt t).val < 8) (d) : (dats m 0 c).before 4 t d = hC m c (blockNo t) := by
  change ¬ t.val < 8 at hn
  have key := (dats m 0 c).before_out_traj 4 rfl (fun _ _ => rfl) (fun t ht hi _ => by
    rw [idle_h] at hi
    have h8 : ¬ t.val < 8 := by simpa using hi
    have e : blockNo t = blockNo ⟨t.val - 1, by omega⟩ := Fin.ext (by change min t.val 7 = min (t.val - 1) 7; omega)
    exact congrArg (hC m c) e) t.val t rfl d
  rw [fresh_h t hn] at key
  have e : blockNo t = blockNo ⟨t.val - 1, by omega⟩ := Fin.ext (by change min t.val 7 = min (t.val - 1) 7; omega)
  exact key.trans (congrArg (hC m c) e.symm)

/-- The normed rows' output is left at its block. -/
theorem leaves_h (c : Dev nD) (t : Fin cfg0.N) (d) : (owns (c : Thread nD τ) (st0_4 t) fullShare
      (if (pt t).val < 8 then hC m c (blockNo t) else (dats m 0 c).before 4 t d) : sProp 𝕄) ⊢ (dats m 0 c).leavesExact 4 t := by
  by_cases h : (pt t).val < 8
  · rw [if_pos h]
    unfold Dat.leavesExact
    rw [idle_h, decide_eq_true h]
    exact .rfl
  · rw [if_neg h]
    cases hf : (cfg0.win 4).flush t
    · rw [Dat.leavesExact_idle _ _ _ (by rw [idle_h]; simpa using h) hf]
      iintro H
      iexists d
      iexact H
    · rw [before_h m c t h]
      unfold Dat.leavesExact
      rw [idle_h, decide_eq_false h, hf]
      exact .rfl

/-- The projected rows' output is left as it was where rows are normed, and at its products at the other points. -/
theorem leaves_z (c : Dev nD) (t : Fin cfg0.N) (d) : (owns (c : Thread nD τ) (st0_5 t) fullShare
      (if (pt t).val < 8 then (dats m 0 c).before 5 t d else zC m c t) : sProp 𝕄) ⊢ (dats m 0 c).leavesExact 5 t := by
  by_cases h : (pt t).val < 8
  · rw [if_pos h, Dat.leavesExact_idle _ _ _ (by rw [idle_z]; simpa using h) (flush_z t h)]
    iintro H
    iexists d
    iexact H
  · rw [if_neg h]
    unfold Dat.leavesExact
    rw [idle_z, decide_eq_false h]
    exact .rfl

/-! ## The body's triple -/

/-- What a window holds when the body starts. -/
abbrev entered (c : Dev nD) (w : Fin cfg0.W) (t : Fin cfg0.N) : sProp 𝕄 :=
  iprop(∃ d, owns (c : Thread nD τ) ((cfg0.win w).stage (cfg0.slots t w)) fullShare ((dats m 0 c).before w t d))

def bodyPre (c : Dev nD) (t : Fin cfg0.N) : sProp 𝕄 :=
  iprop((dats m 0 c).Φ t.castSucc ∗ (dats m 0 c).owesAt () t.castSucc
    ∗ entered m c 0 t ∗ entered m c 1 t ∗ entered m c 2 t ∗ entered m c 3 t ∗ entered m c 4 t ∗ entered m c 5 t)

/-- A window that is never idle is left at what the body leaves there. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t)

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost entered
  rw [leaves_live m c 0 t rfl, leaves_live m c 1 t rfl, leaves_live m c 2 t rfl, leaves_live m c 3 t rfl]
  rw [body_code]
  simp only [before0_0_of m _ (A_eq m c 0) (fun _ => rfl), before0_1_of m _ (A_eq m c 1) (fun _ => rfl),
    before0_2_of m _ (A_eq m c 2) (fun _ => rfl), before0_3_of m _ (A_eq m c 3) (fun _ => rfl)]
  rw [show (dats m 0 c).Φ t.castSucc = carried m c t.val from rfl, show (dats m 0 c).Φ t.succ = carried m c (t.val + 1) from rfl]
  unfold Dat.owesAt Pipeline.owesWithin
  rw [show (dats m 0 c).owed t.castSucc = 0 from rfl, show (dats m 0 c).owed t.succ = 0 from rfl]
  unfold carried
  iintro ⟨⟨%a, %ha, Ha, Hg⟩, Howe, ⟨%d0, H0⟩, ⟨%d1, H1⟩, ⟨%d2, H2⟩, ⟨%d3, H3⟩, ⟨%d4, H4⟩, ⟨%d5, H5⟩⟩
  have eh := next_h m c t ((dats m 0 c).before 4 t d4) ((dats m 0 c).before 5 t d5) a
  have ez := next_z m c t ((dats m 0 c).before 4 t d4) ((dats m 0 c).before 5 t d5) a ha
  have ea := next_all m c t ((dats m 0 c).before 4 t d4) ((dats m 0 c).before 5 t d5) a ha
  iapply (sound_all (defs := defs₀ (F := F)) Variants.none c none Set.univ (code (args t) (args_whole t) (pt t))
    (found m c t ((dats m 0 c).before 4 t d4) ((dats m 0 c).before 5 t d5) a)) $$ [H0 H1 H2 H3 H4 H5 Ha]
  · rw [held_eq]
    isplitl [H0]; · iexact H0
    isplitl [H1]; · iexact H1
    isplitl [H2]; · iexact H2
    isplitl [H3]; · iexact H3
    isplitl [H4]; · iexact H4
    isplitl [H5]; · iexact H5
    iexact Ha
  rw [run_code, held_eq, eh, ez]
  iintro ⟨H0, H1, H2, H3, H4, H5, Ha⟩
  isplitl [Ha Hg]
  · iexists (next (found m c t ((dats m 0 c).before 4 t d4) ((dats m 0 c).before 5 t d5) a) (pt t) .all)
    isplitr
    · ipureintro; exact ea
    isplitl [Ha]; · iexact Ha
    iexact Hg
  isplitl [Howe]; · iexact Howe
  isplitl [H0]; · iexact H0
  isplitl [H1]; · iexact H1
  isplitl [H2]; · iexact H2
  isplitl [H3]; · iexact H3
  isplitl [H4]
  · iapply (leaves_h m c t d4)
    iexact H4
  · iapply (leaves_z m c t d5)
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem carried_in (c : Dev nD) : (Pipeline.ΦA spec0 c : sProp 𝕄) ⊢ carried m c 0 := by
  unfold Pipeline.ΦA carried
  rw [scopedRest0_eq]
  iintro ⟨⟨%a, Ha⟩, Hg⟩
  iexists a
  isplitr
  · ipureintro; exact fun j hj => absurd hj (by omega)
  simp only [owns_whole]
  iframe

theorem carried_out (c : Dev nD) (k : ℕ) : (carried m c k : sProp 𝕄) ⊢ Pipeline.ΦA spec0 c := by
  unfold Pipeline.ΦA carried
  rw [scopedRest0_eq]
  simp only [owns_whole_eq]
  iintro ⟨%a, -, ⟨%a', -, Ha⟩, Hg⟩
  isplitl [Ha]
  · iexists a'; iexact Ha
  iexact Hg

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_in m c) (hout := fun c => carried_out m c _)

end Cert.Front

end
-- ==== Proof.Front.Spec.lean ====
/- The results of the front of the step as elements of its arguments: the normed rows, and their projection by groups of channels. -/
module

public import proofs.«01_k».proof.Proof.BwdIn.Spec

@[expose] public section

noncomputable section

namespace Cert.Front

open Idealize.ShloMosaic Cert.BwdIn

/-- The column of the projection at a place of a group: the six groups start with the third and end with the first two. -/
def column (g : Fin 6) (k : Fin 1024) : Fin 6144 := ⟨(g.val + 2) % 6 * 1024 + k.val, by omega⟩

/-- The projection at a row and a place of a group. -/
def projected (x : Fin 4096 → Fin 1024 → EReal) (g : Fin 1024 → EReal) (mod : Fin 3072 → EReal) (w : Fin 1024 → Fin 6144 → EReal)
    (q : Fin 6) (n : Fin 4096) (k : Fin 1024) : EReal := proj x g mod w n (column q k)

end Cert.Front

end
-- ==== Proof.Front.Blocks.lean ====
/- What the blocks of the front kernel hold, as elements of the arguments. -/
module

public import proofs.«01_k».proof.Proof.Front.Frame
public import proofs.«01_k».proof.Proof.Front.Spec
public import proofs.«01_k».proof.Proof.Lib.Reals
public import Idealize.ShloMosaic.Lib.Pipeline.ValueKit
public import Idealize.ShloMosaic.Lib.StableHlo.ReadAt

@[expose] public section

noncomputable section

namespace Cert.Front

open Idealize.ShloMosaic Idealize.ShloMosaic.TcCoe Cert.Kernel5Ideal Cert.Kernel5Ideal.Gen Cert.Hand

variable (m : (ℓ : Loc nD τ sig) → Buf (Elt Ideal) ℓ) (c : Dev nD)

/-- An argument's contents. -/
abbrev arg (r : Ref sig .tc) : Buf (Elt Ideal) ((c.tc : Thread nD τ).loc r) := m ((c.tc : Thread nD τ).loc r)

/-! ## The arguments by their places -/

def xA (n : Fin 4096) (k : Fin 1024) : EReal := arg m c main_arg0 (ix2 n k)
def gA (k : Fin 1024) : EReal := arg m c main_arg1 (ix1 k)
def modA (k : Fin 3072) : EReal := arg m c main_arg2 (ix1 k)
def wA (k : Fin 1024) (e : Fin 6144) : EReal := arg m c main_arg3 (ix2 k e)

/-! ## What the region finds -/

theorem x_at (n : Fin 4096) (k : Fin 1024) : V m c main_arg0 (ix2 n k) = xA m c n k :=
  congrFun (V_main_arg0 m c) (ix2 n k)

theorem mod_at (k : Fin 3072) : V m c main_v3 (ix2 0 k) = modA m c k := by
  unfold V
  after_reads_at
  rfl

theorem g_at (k : Fin 1024) : V m c main_v4 (ix2 0 k) = gA m c k := by
  unfold V
  after_reads_at
  rfl

theorem w_at (b : Fin 12) (h : Fin 2) (r l : Fin 512) :
    V m c main_v2 (ix4 b h r l) = wA m c ⟨h.val * 512 + r.val, by omega⟩ ⟨b.val * 512 + l.val, by omega⟩ := by
  unfold V
  after_reads_at
  rfl

/-! ## The blocks -/

/-- The blocks' places in their arrays. -/
theorem places : ∀ t : Fin cfg0.N, win0_0.index t = ![min t.val 7, 0] ∧ win0_1.index t = ![0, 0] ∧ win0_2.index t = ![0, 0]
    ∧ win0_3.index t = ![0, 0, 0, 0] := by decide +kernel

/-- A row of a block. -/
def rowOf (n : Fin 8) (r : Fin 512) : Fin 4096 := ⟨n.val * 512 + r.val, by omega⟩

theorem xB_read (n : Fin 8) (r : Fin 512) (k : Fin 1024) : xB m c (atBlock n) (ix2 r k) = xA m c (rowOf n r) k := by
  have e : xB m c (atBlock n) (ix2 r k) = V m c main_arg0 (ix2 (rowOf n r) k) := by
    unfold xB
    blk_ext [iblk, rowOf, places (atBlock n)]
    show min n.val 7 * 512 + r.val = n.val * 512 + r.val
    omega
  exact e.trans (x_at m c _ _)

theorem modB_read (t : Fin cfg0.N) (k : Fin 3072) : modB m c t (ix2 0 k) = modA m c k := by
  have e : modB m c t (ix2 0 k) = V m c main_v3 (ix2 0 k) := by
    unfold modB
    blk_ext [iblk, places t]
  exact e.trans (mod_at m c k)

theorem gB_read (t : Fin cfg0.N) (k : Fin 1024) : gB m c t (ix2 0 k) = gA m c k := by
  have e : gB m c t (ix2 0 k) = V m c main_v4 (ix2 0 k) := by
    unfold gB
    blk_ext [iblk, places t]
  exact e.trans (g_at m c k)

theorem wB_read (t : Fin cfg0.N) (b : Fin 12) (h : Fin 2) (r l : Fin 512) :
    wB m c t (ix4 b h r l) = wA m c ⟨h.val * 512 + r.val, by omega⟩ ⟨b.val * 512 + l.val, by omega⟩ := by
  have e : wB m c t (ix4 b h r l) = V m c main_v2 (ix4 b h r l) := by
    unfold wB
    blk_ext [iblk, places t]
  exact e.trans (w_at m c b h r l)

end Cert.Front

end
-- ==== Proof.Front.Values.lean ====
/- What the front kernel leaves, at every place. -/
module

public import proofs.«01_k».proof.Proof.Front.Blocks

@[expose] public section

noncomputable section

namespace Cert.Front

open Idealize.ShloMosaic Idealize.ShloMosaic.TcCoe Cert.Kernel5Ideal Cert.Kernel5Ideal.Gen Cert.Hand Cert.BwdIn

/-! ## The arithmetic, by places -/

theorem normed_at (s c g : FVec Ideal S1x1024 .f32) (x : FVec Ideal S16x1024 .f32) (r : Fin 16) (k : Fin 1024) :
    (normed s c g x (ix2 r k) : EReal)
      = x (ix2 r k) * BwdIn.inv (fun i => x (ix2 r i)) * g (ix2 0 k) * (1 + c (ix2 0 k)) + s (ix2 0 k) := by
  unfold normed BwdIn.inv
  pointwise

theorem product_at (v : FVec Ideal S2048x1024 .bf16) (w : FVec Ideal S1x2x512x512 .bf16) (r : Fin 2048) (l : Fin 512) :
    (product v w (ix3 0 r l) : EReal)
      = ∑ k : Fin 1024, (v (ix2 r k) : EReal) * w (ix4 0 ⟨k.val / 512, by omega⟩ ⟨k.val % 512, by omega⟩ l) := by
  unfold product
  pointwise

section Arrays

variable (m : (ℓ : Loc nD τ sig) → Buf (Elt Ideal) ℓ) (c : Dev nD)

/-! ## The blocks' results -/

theorem x_row (n : Fin 8) (r : Fin 512) (k : Fin 1024) :
    xB m c (atBlock n) ((rRow (tileOf r)).emb (ix2 (within r) k)) = xA m c (rowOf n r) k := by
  refine Eq.trans (congrArg (xB m c (atBlock n)) ?_) (xB_read m c n r k)
  refine emb_eq fun a => ?_; fin_cases a <;> simp [ix2, tileOf, within]; omega

theorem shift_row (t : Fin cfg0.N) (k : Fin 1024) : shiftOf (modB m c t) (ix2 0 k) = modA m c ⟨k.val, by omega⟩ := by
  refine Eq.trans (congrArg (modB m c t) ?_) (modB_read m c t ⟨k.val, by omega⟩)
  refine emb_eq fun a => ?_; fin_cases a <;> simp [ix2]

theorem scale_row (t : Fin cfg0.N) (k : Fin 1024) : scaleOf (modB m c t) (ix2 0 k) = modA m c ⟨1024 + k.val, by omega⟩ := by
  refine Eq.trans (congrArg (modB m c t) ?_) (modB_read m c t ⟨1024 + k.val, by omega⟩)
  refine emb_eq fun a => ?_; fin_cases a <;> simp [ix2]

theorem gain_row (t : Fin cfg0.N) (k : Fin 1024) : gainOf (gB m c t) (ix2 0 k) = gA m c k := by
  refine Eq.trans (congrArg (gB m c t) ?_) (gB_read m c t k)
  refine emb_eq fun a => ?_; fin_cases a <;> simp [ix2]

theorem hC_at (n : Fin 8) (r : Fin 512) (k : Fin 1024) :
    (hC m c n (ix2 r k) : EReal) = hid (xA m c) (gA m c) (modA m c) (rowOf n r) k := by
  unfold hC normBlock
  refine (normed_at _ _ _ _ (within r) k).trans ?_
  rw [shift_row, scale_row, gain_row]
  unfold hid scale1
  have e : ∀ i, xB m c (atBlock n) ((rRow (tileOf r)).emb (ix2 (within r) i)) = xA m c (rowOf n r) i := x_row m c n r
  exact congrArg₂ (fun (a : EReal) (b : Fin 1024 → EReal) => a * BwdIn.inv b * gA m c k * (1 + modA m c ⟨1024 + k.val, by omega⟩) + modA m c ⟨k.val, by omega⟩)
    (e k) (funext e)

theorem allC_at (n : Fin 4096) (k : Fin 1024) : (allC m c (ix2 n k) : EReal) = hid (xA m c) (gA m c) (modA m c) n k := by
  refine (hC_at m c ⟨n.val / 512, by omega⟩ ⟨n.val % 512, by omega⟩ k).trans ?_
  refine congrArg (fun i => hid (xA m c) (gA m c) (modA m c) i k) (Fin.ext ?_)
  show n.val / 512 * 512 + n.val % 512 = n.val
  omega

/-- A row of half of the rows. -/
def rowIn (h : Fin 2) (r : Fin 2048) : Fin 4096 := ⟨h.val * 2048 + r.val, by omega⟩

theorem all_row (h : Fin 2) (r : Fin 2048) (k : Fin 1024) :
    allC m c ((rHalf h).emb (ix2 r k)) = allC m c (ix2 (rowIn h r) k) := by
  refine congrArg (allC m c) ?_
  refine emb_eq fun a => ?_; fin_cases a <;> simp [ix2, rowIn]; omega

theorem w_row (t : Fin cfg0.N) (b : Fin 12) (h : Fin 2) (r l : Fin 512) :
    wB m c t ((rBlock b).emb (ix4 0 h r l)) = wA m c ⟨h.val * 512 + r.val, by omega⟩ ⟨b.val * 512 + l.val, by omega⟩ := by
  refine Eq.trans (congrArg (wB m c t) ?_) (wB_read m c t b h r l)
  refine emb_eq fun a => ?_; fin_cases a <;> simp [ix4]

theorem zC_at (t : Fin cfg0.N) (r : Fin 2048) (l : Fin 512) : (zC m c t (ix3 0 r l) : EReal)
    = proj (xA m c) (gA m c) (modA m c) (wA m c) (rowIn (halfOf (pt t)) r) ⟨(blockOf (pt t)).val * 512 + l.val, by omega⟩ := by
  unfold zC projBlock
  refine (product_at _ _ r l).trans ?_
  unfold proj
  refine Finset.sum_congr (M := EReal) rfl fun k _ => ?_
  rw [w_row, all_row, allC_at]
  refine congrArg (fun i => hid (xA m c) (gA m c) (modA m c) (rowIn (halfOf (pt t)) r) k * wA m c i _) (Fin.ext ?_)
  show k.val / 512 * 512 + k.val % 512 = k.val
  omega

/-! ## The results' arrays -/

theorem place_h : ∀ t : Fin cfg0.N, win0_4.index t = ![(blockNo t).val, 0] := by decide +kernel

theorem place_z : ∀ t : Fin cfg0.N, ¬ (pt t).val < 8 →
    win0_5.index t = ![((blockOf (pt t)).val / 2 + 4) % 6, (halfOf (pt t)).val, (blockOf (pt t)).val % 2] := by decide +kernel

theorem emb_h (t : Fin cfg0.N) (r : Fin 512) (k : Fin 1024) : (win0_4.blk t).view.emb (ix2 r k) = ix2 (rowOf (blockNo t) r) k := by
  funext a
  apply Fin.ext
  fin_cases a <;> blk_simp [place_h t, rowOf] <;> rfl

/-- The group that a block of the weights gives half of. -/
def groupOf (b : Fin 12) : Fin 6 := ⟨(b.val / 2 + 4) % 6, by omega⟩

theorem emb_z (t : Fin cfg0.N) (h : ¬ (pt t).val < 8) (r : Fin 2048) (l : Fin 512) : (win0_5.blk t).view.emb (ix3 0 r l)
    = ix3 (groupOf (blockOf (pt t))) (rowIn (halfOf (pt t)) r) ⟨(blockOf (pt t)).val % 2 * 512 + l.val, by omega⟩ := by
  funext a
  apply Fin.ext
  fin_cases a <;> blk_simp [place_z t h, groupOf, rowIn] <;> rfl

/-- The normed rows as an array, -/
def hArr : S4096x1024.Idx → EReal := fun j => hid (xA m c) (gA m c) (modA m c) (j 0) (j 1)

/-- and the projected rows. -/
def zArr : S6x4096x1024.Idx → EReal := fun j => projected (xA m c) (gA m c) (modA m c) (wA m c) (j 0) (j 1) (j 2)

theorem h_array : (dats m 0 c).arrAt 4 cfg0.N = hArr m c := by
  refine (dats m 0 c).arrAt_eq_of_covers 4 _ (by decide +kernel) fun t hf y => ?_
  blk_simp
  rw [show (dats m 0 c).after 4 t = hC m c (blockNo t) by dsimp only [dats]]
  obtain ⟨r, k, rfl⟩ := two y
  exact (hC_at m c (blockNo t) r k).trans (congrArg (hArr m c) (emb_h t r k)).symm

theorem z_array : (dats m 0 c).arrAt 5 cfg0.N = zArr m c := by
  refine (dats m 0 c).arrAt_eq_of_covers 5 _ (by decide +kernel) fun t hf y => ?_
  have h : ¬ (pt t).val < 8 := fun h => Bool.false_ne_true ((flush_z t h).symm.trans hf)
  blk_simp
  rw [show (dats m 0 c).after 5 t = zC m c t by dsimp only [dats]]
  obtain ⟨z, r, l, rfl⟩ := three y
  obtain rfl : z = 0 := Subsingleton.elim _ _
  refine (zC_at m c t r l).trans (Eq.trans ?_ (congrArg (zArr m c) (emb_z t h r l)).symm)
  unfold zArr projected
  refine congrArg (proj (xA m c) (gA m c) (modA m c) (wA m c) (rowIn (halfOf (pt t)) r)) (Fin.ext ?_)
  show (blockOf (pt t)).val * 512 + l.val
    = (((blockOf (pt t)).val / 2 + 4) % 6 + 2) % 6 * 1024 + ((blockOf (pt t)).val % 2 * 512 + l.val)
  have := (blockOf (pt t)).isLt
  omega

end Arrays

/-! ## The runs of the front kernel: the arguments as they were, the counters at zero, and the two results -/

open Idealize.SL.Sem

/-- The arguments end as they were. -/
def Kept {F : FTy → Type} (m m' : (ℓ : Loc nD τ sig) → Buf (Elt F) ℓ) (c : Dev nD) : Prop :=
  Same m m' c main_arg0 ∧ Same m m' c main_arg1 ∧ Same m m' c main_arg2 ∧ Same m m' c main_arg3

section
variable {F : FTy → Type} [FloatOps F] (m : (ℓ : Loc nD τ sig) → Buf (Elt F) ℓ) (ρ : Dev nD → PrngReg)

/-- A buffer outside the call's windows keeps what the host left there. -/
theorem rest {b : Ref sig .tc} {c : Dev nD} {r : PUnit × MemSt nD τ sig (Elt F)} (h : Pipeline.FramePost cfgs (dats m) 0 (V m) r)
    (hV : V m c b = m ((c.tc : Thread nD τ).loc b))
    (hb : b ∈ Pipeline.restRefs sig spec0 := by exact Pipeline.mem_restRefs_of _ (by decide) (by decide)) : Same m r.2.mem c b :=
  ((h c).2 b hb).trans hV

theorem kept (r : PUnit × MemSt nD τ sig (Elt F)) (h : Pipeline.FramePost cfgs (dats m) 0 (V m) r) (c : Dev nD) : Kept m r.2.mem c :=
  ⟨((h c).1 0).trans (((dats m 0 c).arrAt_in 0 rfl _).trans (V_main_arg0 m c)),
    rest m h (V_main_arg1 m c),
    rest m h (V_main_arg2 m c),
    rest m h (V_main_arg3 m c)⟩

/-- Every run ends with the arguments as they were and every counter at zero. -/
theorem run_frame : θ_run defs (onTc (τ := τ) (main (F := F))) ⟨m, fun _ => 0, ρ⟩
    (fun r => (∀ c : Dev nD, Kept m r.2.mem c) ∧ r.2.sem = fun _ => 0) :=
  (θ_run defs _ _).mono (fun r h => ⟨kept m r h.1, h.2⟩) (run_main m ρ)

end

/-- Over the extended reals every run ends with the two results, too. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      left r c main_v5_0 = hArr m c ∧ left r c main_v5_1 = zArr m c ∧ Kept m r.2.mem c :=
  (θ_run defs _ _).mono (fun r h c => ⟨((h.1 c).1 4).trans (h_array m c), ((h.1 c).1 5).trans (z_array m c), kept m r h.1 c⟩) (run_main m ρ)

end Cert.Front

end
-- ==== Proof.Front.Reference.lean ====
/- The normed rows and their projection as the reference computes them, as elements of the arguments. -/
module

public import proofs.«01_k».proof.Proof.Lib.Mem
public import proofs.«01_k».proof.Proof.Front.Spec
public import proofs.«01_k».proof.Proof.Gen.Reference5Ideal.Run
public import Idealize.ShloMosaic.Lib.StableHlo.ReadAt
public import Idealize.ShloMosaic.Lib.Pointwise

@[expose] public section

noncomputable section

namespace Cert.Front.Ref

open Idealize.ShloMosaic Idealize.ShloMosaic.TcCoe Idealize.SL.Sem Cert.Reference5Ideal Cert.Reference5Ideal.Gen Cert.Reference5Ideal.Value Cert.Hand
open Cert.BwdIn

variable (m : (ℓ : Loc nD τ sig) → Buf (Elt Ideal) ℓ) (c : Dev nD)

/-- An argument's contents. -/
abbrev arg (r : Ref sig .tc) : Buf (Elt Ideal) ((c.tc : Thread nD τ).loc r) := m ((c.tc : Thread nD τ).loc r)

/-! ## The arguments by their places -/

def xA (n : Fin 4096) (k : Fin 1024) : EReal := arg m c main_arg0 (ix2 n k)
def gA (k : Fin 1024) : EReal := arg m c main_arg1 (ix1 k)
def modA (k : Fin 3072) : EReal := arg m c main_arg2 (ix1 k)
def wA (k : Fin 1024) (e : Fin 6144) : EReal := arg m c main_arg3 (ix2 k e)

/-! ## The arrays the results are made of -/

variable (x : FVec Ideal S4096x1024 .f32) (g : FVec Ideal S1024 .f32) (mod : FVec Ideal S3072 .f32) (w : FVec Ideal S1024x6144 .f32)

/-- One over the root mean square of every row, in a column. -/
abbrev rootV : FVec Ideal S4096x1 .f32 :=
  Host.rsqrt (addf (Host.divf (broadcastInDim S4096x1 ![0] bcast_S4096_S4096x1_0
      (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32)))

/-- A row of channels in every row. -/
abbrev inRows (v : FVec Ideal S1024 .f32) : FVec Ideal S4096x1024 .f32 :=
  broadcastInDim S4096x1024 ![0, 1] bcast_S1x1024_S4096x1024_0_1 (broadcastInDim S1x1024 ![1] bcast_S1024_S1x1024_1 v)

/-- The normed rows. -/
abbrev hidV : FVec Ideal S4096x1024 .f32 :=
  addf (mulf (mulf (mulf x (broadcastInDim S4096x1024 ![0, 1] bcast_S4096x1_S4096x1024_0_1 (rootV x))) (inRows g))
    (inRows (addf (broadcastInDim S1024 ![] bcast_S_S1024 (constant S_ .f32 0x3F800000#32))
      (extractStridedSlice S1024 ![1024] mod slices_S3072_S1024_1024))))
    (inRows (extractStridedSlice S1024 ![0] mod slices_S3072_S1024_0))

/-- The projection of rows by groups of channels, the first group first. -/
abbrev groupsV (X : FVec Ideal S4096x1024 .f32) : FVec Ideal S6x4096x1024 .f32 :=
  transpose S6x4096x1024 [1, 0, 2] (shapeCast _ (Host.dotGeneral dot_S4096x1024_S1024x6144_S4096x6144_1_0_0_1_n_n none X w)
    shapeCasts_S4096x6144_S4096x6x1024) transposes_S4096x6x1024_S6x4096x1024_1_0_2

/-- Groups from the third on, then the first two. -/
abbrev turned (Z : FVec Ideal S6x4096x1024 .f32) : FVec Ideal S6x4096x1024 .f32 :=
  concatenate S6x4096x1024 0 [⟨S4x4096x1024, extractStridedSlice S4x4096x1024 ![2, 0, 0] Z slices_S6x4096x1024_S4x4096x1024_2_0_0⟩,
    ⟨S2x4096x1024, extractStridedSlice S2x4096x1024 ![0, 0, 0] Z slices_S6x4096x1024_S2x4096x1024_0_0_0⟩]
    concatenates_S4x4096x1024_S2x4096x1024_S6x4096x1024_d0

/-! ## Their elements -/

theorem hidV_at (n : Fin 4096) (k : Fin 1024) : (hidV x g mod (ix2 n k) : EReal) = hid (fun n k => x (ix2 n k)) (fun k => g (ix1 k)) (fun k => mod (ix1 k)) n k := by
  unfold hidV rootV inRows
  pointwise
  rfl

theorem groupsV_at (X : FVec Ideal S4096x1024 .f32) (q : Fin 6) (n : Fin 4096) (k : Fin 1024) :
    (groupsV w X (ix3 q n k) : EReal) = ∑ i : Fin 1024, (X (ix2 n i) : EReal) * (w (ix2 i ⟨q.val * 1024 + k.val, by omega⟩) : EReal) := by
  unfold groupsV
  pointwise

theorem turned_at (Z : FVec Ideal S6x4096x1024 .f32) (q : Fin 6) (n : Fin 4096) (k : Fin 1024) :
    turned Z (ix3 q n k) = Z (ix3 ⟨(q.val + 2) % 6, by omega⟩ n k) := by
  unfold turned
  pointwise
  by_cases h : q.val < 4
  · refine (dif_pos h).trans (congrArg (fun i => Z (ix3 i n k)) (Fin.ext ?_))
    dsimp only
    omega
  · refine (dif_neg h).trans (congrArg (fun i => Z (ix3 i n k)) (Fin.ext ?_))
    dsimp only
    omega

/-! ## The results -/

/-- The normed rows of the arguments. -/
abbrev hidM : FVec Ideal S4096x1024 .f32 := hidV (arg m c main_arg0) (arg m c main_arg1) (arg m c main_arg2)

/-- The normed rows as an array, -/
def hArr : S4096x1024.Idx → EReal := fun j => hid (xA m c) (gA m c) (modA m c) (j 0) (j 1)

/-- and the projected rows. -/
def zArr : S6x4096x1024.Idx → EReal := fun j => projected (xA m c) (gA m c) (modA m c) (wA m c) (j 0) (j 1) (j 2)

theorem h_eq : (truncf .bf16 (hidM m c) bitsLt_bf16_f32 : FVec Ideal S4096x1024 .bf16) = hArr m c := by
  funext j
  obtain ⟨n, k, rfl⟩ := two j
  exact hidV_at _ _ _ n k

theorem z_eq : turned (groupsV (arg m c main_arg3) (hidM m c)) = zArr m c := by
  funext j
  obtain ⟨q, n, k, rfl⟩ := three j
  refine (turned_at _ q n k).trans ((groupsV_at (arg m c main_arg3) (hidM m c) _ n k).trans ?_)
  exact Finset.sum_congr (M := EReal) rfl fun i _ => congrArg (fun a : EReal => a * wA m c i (column q k)) (hidV_at _ _ _ n i)

/-! ## The run -/

/-- The arguments end as they were. -/
def Kept (m' : (ℓ : Loc nD τ sig) → Buf (Elt Ideal) ℓ) (c : Dev nD) : Prop :=
  Same m m' c main_arg0 ∧ Same m m' c main_arg1 ∧ Same m m' c main_arg2 ∧ Same m m' c main_arg3

/-- Every run ends with the two results and the arguments as they were. -/
theorem run_values (ρ : Dev nD → PrngReg) :
    θ_run defs (onTc (τ := τ) (main (F := Ideal))) ⟨m, fun _ => 0, ρ⟩ fun r => ∀ c : Dev nD,
      left r c main_v27 = hArr m c
      ∧ left r c main_v30 = zArr m c
      ∧ Kept m r.2.mem c := by
  refine (θ_run defs _ _).mono (fun r h c => ?_) (run m ρ)
  obtain ⟨h0, h1, ha⟩ := h c
  exact ⟨(h0.trans (show _ = truncf .bf16 (hidM m c) bitsLt_bf16_f32 from rfl)).trans (h_eq m c),
    (h1.trans (show _ = turned (groupsV (arg m c main_arg3) (hidM m c)) from rfl)).trans (z_eq m c), ha⟩

end Cert.Front.Ref

end
-- ==== Proof.Front.Equal.lean ====
/- The front kernel computes what the reference does: its frames, and the equality of the results. -/
module

public import proofs.«01_k».proof.Defs
public import proofs.«01_k».proof.Proof.Front.Values
public import proofs.«01_k».proof.Proof.Front.Reference
public import proofs.«01_k».proof.Proof.Gen.Kernel5

@[expose] public section

noncomputable section

namespace Cert.Front

open Idealize.ShloMosaic Idealize.ShloMosaic.TcCoe Idealize.SL.Sem

/-- The kernel and its idealization are one program, at two kinds of elements: the idealization's run is the kernel's. -/
theorem same_program : Cert.quiescent_Kernel5
    = ∀ (m : (ℓ : Loc Cert.Kernel5Ideal.nD Cert.Kernel5Ideal.τ Cert.Kernel5Ideal.sig) → Buf (Elt Bits) ℓ) (ρ : Dev Cert.Kernel5Ideal.nD → PrngReg), True →
        θ_run Cert.Kernel5Ideal.defs (onTc (τ := Cert.Kernel5Ideal.τ) (Cert.Kernel5Ideal.main (F := Bits))) ⟨m, fun _ => 0, ρ⟩
          (fun r => (∀ c : Dev Cert.Kernel5Ideal.nD, Kept m r.2.mem c) ∧ r.2.sem = fun _ => 0) := by
  sl_kernel_rfl

theorem frame_kernel : Cert.quiescent_Kernel5 := same_program.mpr fun m ρ _ => run_frame (F := Bits) m ρ

theorem frame_kernelIdeal : Cert.quiescent_Kernel5Ideal := fun m ρ _ => run_frame (F := Ideal) m ρ

theorem frame_referenceIdeal : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run m ρ)

theorem values : Cert.algebraic_Kernel5Ideal_Reference5Ideal := by
  intro m ρ m' ρ' _ hargs
  have hx : ∀ c, Ref.xA m' c = xA m c := fun c => funext fun n => funext fun k => congrFun (hargs c).1 (ix2 n k)
  have hg : ∀ c, Ref.gA m' c = gA m c := fun c => funext fun k => congrFun (hargs c).2.1 (ix1 k)
  have hm : ∀ c, Ref.modA m' c = modA m c := fun c => funext fun k => congrFun (hargs c).2.2.1 (ix1 k)
  have hw : ∀ c, Ref.wA m' c = wA m c := fun c => funext fun k => funext fun e => congrFun (hargs c).2.2.2 (ix2 k e)
  have hh : ∀ c, Ref.hArr m' c = hArr m c := fun c => by unfold Ref.hArr hArr; rw [hx, hg, hm]
  have hz : ∀ c, Ref.zArr m' c = zArr m c := fun c => by unfold Ref.zArr zArr; rw [hx, hg, hm, hw]
  refine ⟨_, _, run_values m ρ, (θ_run Cert.Reference5Ideal.defs _ _).mono (fun r h c => ?_) (Ref.run_values m' ρ')⟩
  have h := h c
  rw [hh, hz] at h
  exact h

end Cert.Front

end
-- ==== Proof.Ada.Body.lean ====
/- The body of the conditioning's weight kernel as a function on the contents of its blocks and its two scratch arrays. `body_eq` says
   that the two are one program. -/
module

public import proofs.«01_k».proof.Proof.Gen.Kernel6Ideal
public import proofs.«01_k».proof.Proof.Lib.Mem

@[expose] public section

noncomputable section

namespace Cert.Ada

open Idealize.ShloMosaic Idealize.SL.Sem Cert.Kernel6Ideal Cert.Hand Cert.Hand.Mem
open Facts₀

variable {F : FTy → Type} [FloatOps F]

/-- The grid's points. -/
def point (n : Fin 4) : grid0.Coords := fun a => ⟨n.val, by obtain rfl : a = 0 := Subsingleton.elim _ _; exact n.2⟩

/-- The body's memrefs: the conditioning, two packs of sums, a block of the weights with its two moments; the block's gradient, step and
moments, the biases' gradient; and the modulation's gradient with the columns that belong to the weights. -/
inductive Slot where
  | c | p1 | p2 | w | m | v | g | d | mo | vo | gb | dm | sel
  deriving DecidableEq

instance : Fintype Slot := ⟨{.c, .p1, .p2, .w, .m, .v, .g, .d, .mo, .vo, .gb, .dm, .sel}, fun b => by cases b <;> decide⟩

/-- Each memref's shape. -/
@[reducible] def Slot.shape : Slot → Shape
  | .c => S8x256 | .p1 => S16x1024 | .p2 => S24x1024 | .w => S256x768 | .m => S256x768 | .v => S256x768
  | .g => S256x768 | .d => S256x768 | .mo => S256x768 | .vo => S256x768 | .gb => S1x3072 | .dm => S8x3072 | .sel => S8x768

/-- The memrefs one run of the body is given. -/
abbrev Args : Type := (b : Slot) → Memref sig .tc .vmem b.shape .f32

/-- They are one bank. -/
@[reducible] def bank (R : Args) : Bank sig Slot := ⟨Slot.shape, fun _ => .f32, R⟩

/-- What they hold. -/
abbrev St (F : FTy → Type) : Type := (b : Slot) → b.shape.Idx → F .f32

/-- A body on that bank. -/
abbrev Code (F : FTy → Type) (R : Args) (α : Type) : Type := Mem (bank R) (Elt F) α

/-! ## The rectangles -/

/-- Rows of the packs, -/
@[reducible] def rShift : Rect S24x1024 := Rect.unit (s := S24x1024) ![0, 0] S8x1024.size inb_S24x1024_S8x1024_0_0
@[reducible] def rScale : Rect S24x1024 := Rect.unit (s := S24x1024) ![8, 0] S8x1024.size inb_S24x1024_S8x1024_8_0
@[reducible] def rGate : Rect S16x1024 := Rect.unit (s := S16x1024) ![0, 0] S8x1024.size inb_S16x1024_S8x1024_0_0
/-- thirds of the modulation's columns, -/
@[reducible] def rFirst : Rect S8x3072 := Rect.unit (s := S8x3072) ![0, 0] S8x1024.size inb_S8x3072_S8x1024_0_0
@[reducible] def rSecond : Rect S8x3072 := Rect.unit (s := S8x3072) ![0, 1024] S8x1024.size inb_S8x3072_S8x1024_0_1024
@[reducible] def rThird : Rect S8x3072 := Rect.unit (s := S8x3072) ![0, 2048] S8x1024.size inb_S8x3072_S8x1024_0_2048
/-- and quarters of them. -/
@[reducible] def rQuarter0 : Rect S8x3072 := Rect.unit (s := S8x3072) ![0, 0] S8x768.size inb_S8x3072_S8x768_0_0
@[reducible] def rQuarter1 : Rect S8x3072 := Rect.unit (s := S8x3072) ![0, 768] S8x768.size inb_S8x3072_S8x768_0_768
@[reducible] def rQuarter2 : Rect S8x3072 := Rect.unit (s := S8x3072) ![0, 1536] S8x768.size inb_S8x3072_S8x768_0_1536
@[reducible] def rQuarter3 : Rect S8x3072 := Rect.unit (s := S8x3072) ![0, 2304] S8x768.size inb_S8x3072_S8x768_0_2304
/-- Whole arrays. -/
@[reducible] def rMod : Rect S8x3072 := Rect.unit (s := S8x3072) ![0, 0] S8x3072.size inb_S8x3072_S8x3072_0_0
@[reducible] def rBias : Rect S1x3072 := Rect.unit (s := S1x3072) ![0, 0] S1x3072.size inb_S1x3072_S1x3072_0_0
@[reducible] def rSel : Rect S8x768 := Rect.unit (s := S8x768) ![0, 0] S8x768.size inb_S8x768_S8x768_0_0
@[reducible] def rCond : Rect S8x256 := Rect.unit (s := S8x256) ![0, 0] S8x256.size inb_S8x256_S8x256_0_0
@[reducible] def rBlock : Rect S256x768 := Rect.unit (s := S256x768) ![0, 0] S256x768.size inb_S256x768_S256x768_0_0

variable (R : Args)

/-- A load of a rectangle of a memref. -/
@[reducible] def ld (b : Slot) (r : Rect b.shape) (h : 0 < r.shape.numel) : Code F R (r.shape.Idx → F .f32) :=
  rd (A := bank R) b r (View.loadsAt_vmem h)

/-- A store over a rectangle of a memref. -/
@[reducible] def st (b : Slot) (r : Rect b.shape) (w : r.shape.Idx → F .f32) (h : 0 < r.shape.numel) : Code F R PUnit :=
  wr (A := bank R) b r w (View.stores_vmem_bits_univ h rfl)

/-! ## The arithmetic -/

/-- Rows as they are stored. -/
def stored (v : FVec F S8x1024 .f32) : FVec F S8x1024 .f32 :=
  shapeCast S8x1024 (shapeCast S8x1024 v shapeCasts_S8x1024_S8x1024) shapeCasts_S8x1024_S8x1024

/-- The sum of the rows. -/
def summed (v : FVec F S8x3072 .f32) : FVec F S1x3072 .f32 :=
  shapeCast S1x3072 (multiReduction .add [0] S3072 v 0x00000000#32 reduces_S8x3072_S3072 (.inl rfl) rfl) shapeCasts_S3072_S1x3072

/-- The quarter of the columns that is taken. -/
def picked (a b c d : FVec F S8x768 .f32) : FVec F S8x768 .f32 :=
  shapeCast S8x768 (Scalar.select 0#1 d (Scalar.select 0#1 c (Scalar.select 0#1 b (Scalar.select 1#1 a
    (broadcast S8x768 (Scalar.ofBits .f32 0x00000000#32))))) : FVec F S8x768 .f32) shapeCasts_S8x768_S8x768

/-- A block of the weights' gradient. -/
def product (c : FVec F S8x256 .f32) (s : FVec F S8x768 .f32) : FVec F S256x768 .f32 :=
  matmul dot_S8x256_S8x768_S256x768_0_0_1_1_n_n none (truncf .bf16 (shapeCast S8x256 c shapeCasts_S8x256_S8x256) bitsLt_bf16_f32)
    (truncf .bf16 s bitsLt_bf16_f32) (constant S256x768 .f32 0x00000000#32)

/-- A constant over a block. -/
abbrev over (b : BitVec 32) : FVec F S256x768 .f32 := broadcast S256x768 (Scalar.ofBits .f32 b)

/-- The new first moment, -/
def first (g m : FVec F S256x768 .f32) : FVec F S256x768 .f32 := addf (mulf (over 0x3F666666#32) m) (mulf (over 0x3DCCCCCD#32) g)

/-- the new second moment -/
def second (g v : FVec F S256x768 .f32) : FVec F S256x768 .f32 := addf (mulf (over 0x3F7FBE77#32) v) (mulf (over 0x3A83126F#32) (mulf g g))

/-- and the step. -/
def delta (w m v : FVec F S256x768 .f32) : FVec F S256x768 .f32 :=
  mulf (over 0xBA83126F#32) (addf (divf (divf m (over 0x3F26BD02#32)) (addf (sqrt (divf v (over 0x3C231ACC#32))) (over 0x322BCC77#32)))
    (mulf (over 0x3C23D70A#32) w))

/-! ## The parts of the body -/

/-- The first point puts the modulation's gradient together, sums its rows and takes a quarter of its columns. -/
def gather : Code F R PUnit := do
  let a ← ld R .p2 rShift h_S8x1024
  let _ ← ld R .dm rFirst h_S8x1024
  st R .dm rFirst (stored a) h_S8x1024
  let b ← ld R .p2 rScale h_S8x1024
  let _ ← ld R .dm rSecond h_S8x1024
  st R .dm rSecond (stored b) h_S8x1024
  let c ← ld R .p1 rGate h_S8x1024
  let _ ← ld R .dm rThird h_S8x1024
  st R .dm rThird (stored c) h_S8x1024
  let all ← ld R .dm rMod h_S8x3072
  let _ ← ld R .gb rBias h_S1x3072
  st R .gb rBias (summed all) h_S1x3072
  let q0 ← ld R .dm rQuarter0 h_S8x768
  let q1 ← ld R .dm rQuarter1 h_S8x768
  let q2 ← ld R .dm rQuarter2 h_S8x768
  let q3 ← ld R .dm rQuarter3 h_S8x768
  let _ ← ld R .sel rSel h_S8x768
  st R .sel rSel (picked q0 q1 q2 q3) h_S8x768

/-- A block of the weights: its gradient, its step and its moments. -/
def block : Code F R PUnit := do
  let c ← ld R .c rCond h_S8x256
  let s ← ld R .sel rSel h_S8x768
  let w ← ld R .w rBlock h_S256x768
  let m ← ld R .m rBlock h_S256x768
  let v ← ld R .v rBlock h_S256x768
  let _ ← ld R .g rBlock h_S256x768
  st R .g rBlock (product c s) h_S256x768
  let _ ← ld R .d rBlock h_S256x768
  st R .d rBlock (delta w (first (product c s) m) (second (product c s) v)) h_S256x768
  let _ ← ld R .mo rBlock h_S256x768
  st R .mo rBlock (first (product c s) m) h_S256x768
  let _ ← ld R .vo rBlock h_S256x768
  st R .vo rBlock (second (product c s) v) h_S256x768

/-- The body at the first point -/
def opening : Code F R PUnit := do
  gather R
  block R

/-- and at any. -/
def code (n : Fin 4) : Code F R PUnit := if n.val < 1 then opening R else block R

/-! ## The printed body -/

/-- What the printed body is at a point. -/
abbrev printed (n : Fin 4) (R : Args) (h : ∀ b, (R b).IsWhole) : Prog (TpuEff nD τ sig (Elt F) Λ₀ .tc) PUnit :=
  cc0_adamw_w_ada (F := F) (point n) (R .c) (h _) (R .p1) (h _) (R .p2) (h _) (R .w) (h _) (R .m) (h _) (R .v) (h _) (R .g) (h _) (R .d) (h _)
    (R .mo) (h _) (R .vo) (h _) (R .gb) (h _) (R .dm) (h _) (R .sel) (h _)

theorem opening_eq (h : ∀ b, (R b).IsWhole) : printed (F := F) 0 R h = toProg (opening R) := by
  sl_kernel_rfl

/-- A point after the first. -/
abbrev later (n : Fin 3) : Fin 4 := ⟨n.val + 1, by omega⟩

theorem later_eq (n : Fin 3) (h : ∀ b, (R b).IsWhole) : printed (F := F) (later n) R h = toProg (block R) := by
  fin_cases n <;> sl_kernel_rfl

theorem body_eq (n : Fin 4) (h : ∀ b, (R b).IsWhole) : printed (F := F) n R h = toProg (code R n) := by
  unfold code
  by_cases hn : n.val < 1
  · rw [if_pos hn]
    obtain rfl : n = 0 := Fin.ext (by show n.val = 0; omega)
    exact opening_eq R h
  · rw [if_neg hn]
    obtain ⟨k, rfl⟩ : ∃ k : Fin 3, n = later k := ⟨⟨n.val - 1, by omega⟩, Fin.ext (by dsimp only; omega)⟩
    exact later_eq R k h

end Cert.Ada

end
-- ==== Proof.Ada.Run.lean ====
/- What the body of the conditioning's weight kernel computes. -/
module

public import proofs.«01_k».proof.Proof.Ada.Body
public import proofs.«01_k».proof.Proof.Lib.Progress
public import Idealize.ShloMosaic.Lib.PointwiseCore

@[expose] public section

noncomputable section

namespace Cert.Ada

open Idealize.ShloMosaic Idealize.SL.Sem Cert.Kernel6Ideal Cert.Hand Cert.Hand.Mem
open Facts₀

variable {F : FTy → Type} [FloatOps F]

/-- The modulation's gradient from the two packs: the shift's and the scale's from the second, the gate's from the first. -/
def stack (P1 : S16x1024.Idx → F .f32) (P2 : S24x1024.Idx → F .f32) : S8x3072.Idx → F .f32 := fun j =>
  if (j 1).val < 1024 then P2 (ix2 ⟨(j 0).val, by have h : (j 0).val < 8 := (j 0).isLt; omega⟩ ⟨(j 1).val % 1024, by omega⟩)
  else if (j 1).val < 2048 then P2 (ix2 ⟨8 + (j 0).val, by have h : (j 0).val < 8 := (j 0).isLt; omega⟩ ⟨(j 1).val % 1024, by omega⟩)
  else P1 (ix2 ⟨(j 0).val, by have h : (j 0).val < 8 := (j 0).isLt; omega⟩ ⟨(j 1).val % 1024, by omega⟩)

/-- The columns that belong to the weights. -/
def columns (D : S8x3072.Idx → F .f32) : S8x768.Idx → F .f32 := fun j => D (rQuarter0.emb j)

theorem stored_eq (v : FVec F S8x1024 .f32) : stored v = v := by
  funext j
  obtain ⟨r, l, rfl⟩ := two j
  unfold stored
  pointwise

theorem picked_eq (a b c d : FVec F S8x768 .f32) : picked a b c d = a := by
  funext j
  obtain ⟨r, l, rfl⟩ := two j
  unfold picked
  rw [show (Scalar.select 0#1 d (Scalar.select 0#1 c (Scalar.select 0#1 b (Scalar.select 1#1 a
    (broadcast S8x768 (Scalar.ofBits .f32 0x00000000#32))))) : FVec F S8x768 .f32) = a from rfl]
  pointwise

/-! ## Whole arrays -/

theorem mod_place (j : S8x3072.Idx) : rMod.emb j = j := by
  refine emb_eq fun a => ?_; fin_cases a <;> simp
theorem bias_place (j : S1x3072.Idx) : rBias.emb j = j := by
  refine emb_eq fun a => ?_; fin_cases a <;> simp
theorem sel_place (j : S8x768.Idx) : rSel.emb j = j := by
  refine emb_eq fun a => ?_; fin_cases a <;> simp
theorem cond_place (j : S8x256.Idx) : rCond.emb j = j := by
  refine emb_eq fun a => ?_; fin_cases a <;> simp
theorem block_place (j : S256x768.Idx) : rBlock.emb j = j := by
  refine emb_eq fun a => ?_; fin_cases a <;> simp

theorem bias_whole (X w : S1x3072.Idx → F .f32) : rBias.overlay X w = w :=
  overlay_all _ _ _ _ (fun x => congrArg w (bias_place x).symm) fun j => ⟨j, bias_place j⟩
theorem sel_whole (X w : S8x768.Idx → F .f32) : rSel.overlay X w = w :=
  overlay_all _ _ _ _ (fun x => congrArg w (sel_place x).symm) fun j => ⟨j, sel_place j⟩
theorem block_whole (X w : S256x768.Idx → F .f32) : rBlock.overlay X w = w :=
  overlay_all _ _ _ _ (fun x => congrArg w (block_place x).symm) fun j => ⟨j, block_place j⟩

/-! ## The modulation's gradient -/

/-- The third of the columns that a place is in. -/
def third (j : S8x3072.Idx) : ℕ := (j 1).val / 1024

theorem third_iff (k : Fin 3) (inb : ∀ a, (![0, 1024 * k.val] : Fin 2 → Nat) a + S8x1024.size a ≤ S8x3072.size a) (j : S8x3072.Idx) :
    third j = k.val ↔ j ∈ (Rect.unit (s := S8x3072) ![0, 1024 * k.val] S8x1024.size inb).set := by
  have h0 : (j 0).val < 8 := (j 0).isLt
  rw [Rect.mem_set_unit]
  constructor
  · intro e a
    unfold third at e
    fin_cases a
    · show 0 ≤ (j 0).val ∧ (j 0).val < 0 + 8; omega
    · show 1024 * k.val ≤ (j 1).val ∧ (j 1).val < 1024 * k.val + 1024; omega
  · intro e
    have e1 : 1024 * k.val ≤ (j 1).val ∧ (j 1).val < 1024 * k.val + 1024 := e 1
    unfold third
    omega

theorem stacked (P1 : S16x1024.Idx → F .f32) (P2 : S24x1024.Idx → F .f32) (X : S8x3072.Idx → F .f32) :
    rThird.overlay (rSecond.overlay (rFirst.overlay X (stored fun x => P2 (rShift.emb x))) (stored fun x => P2 (rScale.emb x)))
      (stored fun x => P1 (rGate.emb x)) = stack P1 P2 := by
  rw [stored_eq, stored_eq, stored_eq, ← prog_zero third (stack P1 P2) X]
  rw [prog_step rFirst third _ _ 0 _ (third_iff 0 _) fun x => ?_, prog_step rSecond third _ _ 1 _ (third_iff 1 _) fun x => ?_,
    prog_step rThird third _ _ 2 _ (third_iff 2 _) fun x => ?_]
  · refine prog_end _ _ _ _ fun j => .inl ?_
    have h1 : (j 1).val < 3072 := (j 1).isLt
    unfold third
    omega
  · obtain ⟨r, l, rfl⟩ : ∃ (r : Fin 8) (l : Fin 1024), x = ix2 r l := ⟨x 0, x 1, eq_ix2 x⟩
    have e : rThird.emb (ix2 r l) = ix2 r ⟨2048 + l.val, by omega⟩ := by
      refine emb_eq fun a => ?_; fin_cases a <;> simp [ix2]
    rw [e]
    refine Eq.trans (congrArg P1 ?_) ((if_neg (show ¬ 2048 + l.val < 1024 by omega)).trans (if_neg (show ¬ 2048 + l.val < 2048 by omega))).symm
    refine emb_eq fun a => ?_; fin_cases a <;> simp [ix2]
    omega
  · obtain ⟨r, l, rfl⟩ : ∃ (r : Fin 8) (l : Fin 1024), x = ix2 r l := ⟨x 0, x 1, eq_ix2 x⟩
    have e : rSecond.emb (ix2 r l) = ix2 r ⟨1024 + l.val, by omega⟩ := by
      refine emb_eq fun a => ?_; fin_cases a <;> simp [ix2]
    rw [e]
    refine Eq.trans (congrArg P2 ?_) ((if_neg (show ¬ 1024 + l.val < 1024 by omega)).trans (if_pos (show 1024 + l.val < 2048 by omega))).symm
    refine emb_eq fun a => ?_; fin_cases a <;> simp [ix2]
    omega
  · obtain ⟨r, l, rfl⟩ : ∃ (r : Fin 8) (l : Fin 1024), x = ix2 r l := ⟨x 0, x 1, eq_ix2 x⟩
    have e : rFirst.emb (ix2 r l) = ix2 r ⟨l.val, by omega⟩ := by
      refine emb_eq fun a => ?_; fin_cases a <;> simp [ix2]
    rw [e]
    refine Eq.trans (congrArg P2 ?_) (if_pos (show l.val < 1024 from l.isLt)).symm
    refine emb_eq fun a => ?_; fin_cases a <;> simp [ix2]
    omega

variable (R : Args) (S : St F)

/-- What the memrefs hold when the modulation's gradient, the biases' and the weights' columns are these. -/
def withMod (D : S8x3072.Idx → F .f32) (g : S1x3072.Idx → F .f32) (s : S8x768.Idx → F .f32) : St F
  | .c => S .c | .p1 => S .p1 | .p2 => S .p2 | .w => S .w | .m => S .m | .v => S .v
  | .g => S .g | .d => S .d | .mo => S .mo | .vo => S .vo
  | .gb => g | .dm => D | .sel => s

/-- What they hold after the first point's part. -/
def gathered : St F := withMod S (stack (S .p1) (S .p2)) (summed (stack (S .p1) (S .p2))) (columns (stack (S .p1) (S .p2)))

/-- The same from the contents `D` that the three stores leave. -/
def raw (D : S8x3072.Idx → F .f32) : St F :=
  withMod S D (rBias.overlay (S .gb) (summed fun x => D (rMod.emb x)))
    (rSel.overlay (S .sel) (picked (fun x => D (rQuarter0.emb x)) (fun x => D (rQuarter1.emb x)) (fun x => D (rQuarter2.emb x))
      (fun x => D (rQuarter3.emb x))))

theorem raw_eq (D : S8x3072.Idx → F .f32) : raw S D = withMod S D (summed D) (columns D) := by
  unfold raw
  rw [bias_whole, sel_whole, picked_eq]
  exact congrArg (fun E => withMod S D (summed E) (columns D)) (funext fun x => congrArg D (mod_place x))

theorem run_gather : (run (gather R) S).2 = gathered S := by
  unfold gathered
  rw [← raw_eq, ← stacked (S .p1) (S .p2) (S .dm)]
  funext b
  cases b
  all_goals sl_kernel_rfl

/-- What they hold after a block of the weights. -/
def updated : St F
  | .c => S .c | .p1 => S .p1 | .p2 => S .p2 | .w => S .w | .m => S .m | .v => S .v
  | .gb => S .gb | .dm => S .dm | .sel => S .sel
  | .g => product (S .c) (S .sel)
  | .d => delta (S .w) (first (product (S .c) (S .sel)) (S .m)) (second (product (S .c) (S .sel)) (S .v))
  | .mo => first (product (S .c) (S .sel)) (S .m)
  | .vo => second (product (S .c) (S .sel)) (S .v)

/-- The same from the contents as they are read, over what was there. -/
def rawBlock (c : FVec F S8x256 .f32) (s : FVec F S8x768 .f32) (w m v : FVec F S256x768 .f32) : St F
  | .c => S .c | .p1 => S .p1 | .p2 => S .p2 | .w => S .w | .m => S .m | .v => S .v
  | .gb => S .gb | .dm => S .dm | .sel => S .sel
  | .g => rBlock.overlay (S .g) (product c s)
  | .d => rBlock.overlay (S .d) (delta w (first (product c s) m) (second (product c s) v))
  | .mo => rBlock.overlay (S .mo) (first (product c s) m)
  | .vo => rBlock.overlay (S .vo) (second (product c s) v)

theorem rawBlock_eq : rawBlock S (S .c) (S .sel) (S .w) (S .m) (S .v) = updated S := by
  funext b
  cases b
  all_goals first | rfl | exact block_whole _ _

theorem run_block : (run (block R) S).2 = updated S := by
  rw [← rawBlock_eq]
  have e : (run (block R) S).2 = rawBlock S (fun x => S .c (rCond.emb x)) (fun x => S .sel (rSel.emb x)) (fun x => S .w (rBlock.emb x))
      (fun x => S .m (rBlock.emb x)) (fun x => S .v (rBlock.emb x)) := by
    funext b
    cases b
    all_goals sl_kernel_rfl
  exact e.trans (congr (congr (congr (congr (congrArg (rawBlock S) (funext fun x => congrArg (S .c) (cond_place x)))
    (funext fun x => congrArg (S .sel) (sel_place x))) (funext fun x => congrArg (S .w) (block_place x)))
    (funext fun x => congrArg (S .m) (block_place x))) (funext fun x => congrArg (S .v) (block_place x)))

/-- What they hold after the body. -/
def next (n : Fin 4) : St F := updated (if n.val < 1 then gathered S else S)

theorem run_code (n : Fin 4) : (run (code R n) S).2 = next S n := by
  unfold code next
  by_cases h : n.val < 1
  · rw [if_pos h, if_pos h, ← run_gather R S, ← run_block R]
    unfold opening
    rw [run_bind]
  · rw [if_neg h, if_neg h, run_block]

end Cert.Ada

end
-- ==== Proof.Ada.Frame.lean ====
/- The run of the pipeline over the body of the conditioning's weight kernel. -/
module

public import proofs.«01_k».proof.Proof.Ada.Run
public import proofs.«01_k».proof.Proof.Gen.Kernel6Ideal.Frame
public import Idealize.ShloMosaic.Lib.Pipeline.TableIdle

@[expose] public section

noncomputable section

namespace Cert.Ada

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel6Ideal Cert.Kernel6Ideal.Gen Cert.Hand Cert.Hand.Mem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks at a point -/

/-- The grid's points by number. -/
abbrev pt (t : Fin cfg0.N) : Fin 4 := t.cast N_0

theorem coords_eq (t : Fin cfg0.N) : cfg0.grid.coords t = point (pt t) := by
  revert t; decide +kernel

/-- The first point. -/
abbrev start : Fin cfg0.N := (0 : Fin 4).cast N_0.symm

def cB (c : Dev nD) (t : Fin cfg0.N) : S8x256.Idx → F .f32 := iblk m c 0 t
def p1B (c : Dev nD) (t : Fin cfg0.N) : S16x1024.Idx → F .f32 := iblk m c 1 t
def p2B (c : Dev nD) (t : Fin cfg0.N) : S24x1024.Idx → F .f32 := iblk m c 2 t
def wB (c : Dev nD) (t : Fin cfg0.N) : S256x768.Idx → F .f32 := iblk m c 3 t
def mB (c : Dev nD) (t : Fin cfg0.N) : S256x768.Idx → F .f32 := iblk m c 4 t
def vB (c : Dev nD) (t : Fin cfg0.N) : S256x768.Idx → F .f32 := iblk m c 5 t

/-- The modulation's gradient, -/
def modC (c : Dev nD) : S8x3072.Idx → F .f32 := stack (p1B m c start) (p2B m c start)

/-- the biases', -/
def gbC (c : Dev nD) : S1x3072.Idx → F .f32 := summed (modC m c)

/-- a block of the weights', -/
def gC (c : Dev nD) (t : Fin cfg0.N) : S256x768.Idx → F .f32 := product (cB m c t) (columns (modC m c))

/-- its moments -/
def moC (c : Dev nD) (t : Fin cfg0.N) : S256x768.Idx → F .f32 := first (gC m c t) (mB m c t)
def voC (c : Dev nD) (t : Fin cfg0.N) : S256x768.Idx → F .f32 := second (gC m c t) (vB m c t)

/-- and its step. -/
def dC (c : Dev nD) (t : Fin cfg0.N) : S256x768.Idx → F .f32 := delta (wB m c t) (moC m c t) (voC m c t)

/-! ## The proof data -/

/-- What the body carries between points: after the first one the second scratch array holds the weights' columns. -/
def carried (c : Dev nD) (k : ℕ) : sProp 𝕄 :=
  iprop(∃ a : S8x3072.Idx → F .f32, ∃ s : S8x768.Idx → F .f32, ⌜0 < k → s = columns (modC m c)⌝
    ∗ owns (c : Thread nD τ) (Memref.whole cc0_scratch0) fullShare a ∗ owns (c : Thread nD τ) (Memref.whole cc0_scratch1) fullShare s
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => gC m c t
    | ⟨7, _⟩ => dC m c t
    | ⟨8, _⟩ => moC m c t
    | ⟨9, _⟩ => voC m c t
    | ⟨10, _⟩ => gbC m c
  Φ t := carried m c t.val
  q _ := fullShare
  owed _ := 0

theorem A_eq (c : Dev nD) (w : Fin cfg0.W) : (dats m 0 c).A w = V m c (Pipeline.arrRef spec0 w) := by dsimp only [dats]

/-- The body's memrefs at a point. -/
def args (t : Fin cfg0.N) : Args
  | .c => st0_0 t | .p1 => st0_1 t | .p2 => st0_2 t | .w => st0_3 t | .m => st0_4 t | .v => st0_5 t | .g => st0_6 t | .d => st0_7 t | .mo => st0_8 t | .vo => st0_9 t | .gb => st0_10 t
  | .dm => Memref.whole cc0_scratch0 | .sel => Memref.whole cc0_scratch1

theorem args_whole (t : Fin cfg0.N) (b : Slot) : (args t b).IsWhole := by
  cases b
  · exact hstage0_0 _
  · exact hstage0_1 _
  · exact hstage0_2 _
  · exact hstage0_3 _
  · exact hstage0_4 _
  · exact hstage0_5 _
  · exact hstage0_6 _
  · exact hstage0_7 _
  · exact hstage0_8 _
  · exact hstage0_9 _
  · exact hstage0_10 _
  · exact Memref.isWhole_whole _
  · exact Memref.isWhole_whole _

theorem body_code (t : Fin cfg0.N) : bodyAt0 (F := F) t = toProg (code (args t) (pt t)) := by
  have h := body_eq (F := F) (args t) (pt t) (args_whole t)
  unfold printed at h
  rw [← coords_eq] at h
  exact h

theorem held_eq (t : Fin cfg0.N) (c : Dev nD) (S : St F) : (held (bank (args t)) c S : sProp 𝕄)
    = iprop(owns (c : Thread nD τ) (st0_0 t) fullShare (S .c)
      ∗ owns (c : Thread nD τ) (st0_1 t) fullShare (S .p1)
      ∗ owns (c : Thread nD τ) (st0_2 t) fullShare (S .p2)
      ∗ owns (c : Thread nD τ) (st0_3 t) fullShare (S .w)
      ∗ owns (c : Thread nD τ) (st0_4 t) fullShare (S .m)
      ∗ owns (c : Thread nD τ) (st0_5 t) fullShare (S .v)
      ∗ owns (c : Thread nD τ) (st0_6 t) fullShare (S .g)
      ∗ owns (c : Thread nD τ) (st0_7 t) fullShare (S .d)
      ∗ owns (c : Thread nD τ) (st0_8 t) fullShare (S .mo)
      ∗ owns (c : Thread nD τ) (st0_9 t) fullShare (S .vo)
      ∗ owns (c : Thread nD τ) (st0_10 t) fullShare (S .gb)
      ∗ owns (c : Thread nD τ) (Memref.whole cc0_scratch0) fullShare (S .dm)
      ∗ owns (c : Thread nD τ) (Memref.whole cc0_scratch1) fullShare (S .sel)) := by
  unfold held
  exact bigSep_univ_eq_bigSepL [Slot.c, .p1, .p2, .w, .m, .v, .g, .d, .mo, .vo, .gb, .dm, .sel] (by decide) (by decide) _

/-! ## What a point changes -/

/-- What the results' memrefs and the scratch arrays hold before a point. -/
structure Old (F : FTy → Type) where
  g : S256x768.Idx → F .f32
  d : S256x768.Idx → F .f32
  mo : S256x768.Idx → F .f32
  vo : S256x768.Idx → F .f32
  gb : S1x3072.Idx → F .f32
  dm : S8x3072.Idx → F .f32
  sel : S8x768.Idx → F .f32

/-- What the memrefs hold when the body starts at `t`. -/
def found (c : Dev nD) (t : Fin cfg0.N) (o : Old F) : St F
  | .c => cB m c t | .p1 => p1B m c t | .p2 => p2B m c t | .w => wB m c t | .m => mB m c t | .v => vB m c t
  | .g => o.g | .d => o.d | .mo => o.mo | .vo => o.vo | .gb => o.gb | .dm => o.dm | .sel => o.sel

/-- The contents that a block of the weights is computed from. -/
abbrev ready (c : Dev nD) (t : Fin cfg0.N) (o : Old F) : St F := if (pt t).val < 1 then gathered (found m c t o) else found m c t o

theorem ready_in (c : Dev nD) (t : Fin cfg0.N) (o : Old F) : ready m c t o .c = cB m c t ∧ ready m c t o .p1 = p1B m c t
    ∧ ready m c t o .p2 = p2B m c t ∧ ready m c t o .w = wB m c t ∧ ready m c t o .m = mB m c t ∧ ready m c t o .v = vB m c t := by
  unfold ready
  split
  · exact ⟨rfl, rfl, rfl, rfl, rfl, rfl⟩
  · exact ⟨rfl, rfl, rfl, rfl, rfl, rfl⟩

theorem start_of (t : Fin cfg0.N) (h : (pt t).val < 1) : t = start := Fin.ext (by change t.val < 1 at h; show t.val = 0; omega)

theorem ready_sel (c : Dev nD) (t : Fin cfg0.N) (o : Old F) (ho : 0 < t.val → o.sel = columns (modC m c)) :
    ready m c t o .sel = columns (modC m c) := by
  by_cases h : (pt t).val < 1
  · obtain rfl := start_of t h
    unfold ready
    rw [if_pos h]
    rfl
  · unfold ready
    rw [if_neg h]
    change ¬ t.val < 1 at h
    exact ho (by omega)

theorem ready_gb (c : Dev nD) (t : Fin cfg0.N) (o : Old F) : ready m c t o .gb = if (pt t).val < 1 then gbC m c else o.gb := by
  by_cases h : (pt t).val < 1
  · rw [if_pos h]
    obtain rfl := start_of t h
    unfold ready
    rw [if_pos h]
    rfl
  · rw [if_neg h]
    unfold ready
    rw [if_neg h]
    rfl

/-- What the memrefs hold when the body ends at `t`. -/
theorem next_found (c : Dev nD) (t : Fin cfg0.N) (o : Old F) (ho : 0 < t.val → o.sel = columns (modC m c)) :
    next (found m c t o) (pt t) .c = cB m c t ∧ next (found m c t o) (pt t) .p1 = p1B m c t ∧ next (found m c t o) (pt t) .p2 = p2B m c t
    ∧ next (found m c t o) (pt t) .w = wB m c t ∧ next (found m c t o) (pt t) .m = mB m c t ∧ next (found m c t o) (pt t) .v = vB m c t
    ∧ next (found m c t o) (pt t) .g = gC m c t ∧ next (found m c t o) (pt t) .d = dC m c t ∧ next (found m c t o) (pt t) .mo = moC m c t
    ∧ next (found m c t o) (pt t) .vo = voC m c t ∧ next (found m c t o) (pt t) .gb = (if (pt t).val < 1 then gbC m c else o.gb)
    ∧ next (found m c t o) (pt t) .sel = columns (modC m c) := by
  obtain ⟨h0, h1, h2, h3, h4, h5⟩ := ready_in m c t o
  have hs := ready_sel m c t o ho
  have hg : product (ready m c t o .c) (ready m c t o .sel) = gC m c t := by rw [h0, hs]; rfl
  refine ⟨h0, h1, h2, h3, h4, h5, hg, ?_, ?_, ?_, ready_gb m c t o, hs⟩
  · show delta (ready m c t o .w) (first (product (ready m c t o .c) (ready m c t o .sel)) (ready m c t o .m))
      (second (product (ready m c t o .c) (ready m c t o .sel)) (ready m c t o .v)) = _
    rw [hg, h3, h4, h5]
    rfl
  · show first (product (ready m c t o .c) (ready m c t o .sel)) (ready m c t o .m) = _
    rw [hg, h4]
    rfl
  · show second (product (ready m c t o .c) (ready m c t o .sel)) (ready m c t o .v) = _
    rw [hg, h5]
    rfl

theorem idle_gb (t : Fin cfg0.N) : cfg0.idle 10 (cfg0.grid.coords t) = !decide ((pt t).val < 1) := by
  revert t; decide +kernel

theorem fresh_gb (t : Fin cfg0.N) : ¬ (pt t).val < 1 → cfg0.fresh 10 t.val = false := by
  revert t; decide +kernel

/-- After the first point the biases' window holds their gradient. -/
theorem before_gb (c : Dev nD) (t : Fin cfg0.N) (hn : ¬ (pt t).val < 1) (d) : (dats m 0 c).before 10 t d = gbC m c := by
  change ¬ t.val < 1 at hn
  have key := (dats m 0 c).before_out_traj 10 rfl (fun _ _ => rfl) (fun t ht hi _ => rfl) t.val t rfl d
  rw [fresh_gb t hn] at key
  exact key

/-- The biases' output is left at their gradient. -/
theorem leaves_gb (c : Dev nD) (t : Fin cfg0.N) (d) : (owns (c : Thread nD τ) (st0_10 t) fullShare
      (if (pt t).val < 1 then gbC m c else (dats m 0 c).before 10 t d) : sProp 𝕄) ⊢ (dats m 0 c).leavesExact 10 t := by
  by_cases h : (pt t).val < 1
  · rw [if_pos h]
    unfold Dat.leavesExact
    rw [idle_gb, decide_eq_true h]
    exact .rfl
  · rw [if_neg h]
    cases hf : (cfg0.win 10).flush t
    · rw [Dat.leavesExact_idle _ _ _ (by rw [idle_gb]; simpa using h) hf]
      iintro H
      iexists d
      iexact H
    · rw [before_gb m c t h]
      unfold Dat.leavesExact
      rw [idle_gb, decide_eq_false h, hf]
      exact .rfl

/-! ## The body's triple -/

/-- What a window holds when the body starts. -/
abbrev entered (c : Dev nD) (w : Fin cfg0.W) (t : Fin cfg0.N) : sProp 𝕄 :=
  iprop(∃ d, owns (c : Thread nD τ) ((cfg0.win w).stage (cfg0.slots t w)) fullShare ((dats m 0 c).before w t d))

def bodyPre (c : Dev nD) (t : Fin cfg0.N) : sProp 𝕄 :=
  iprop((dats m 0 c).Φ t.castSucc ∗ (dats m 0 c).owesAt () t.castSucc
    ∗ entered m c 0 t ∗ entered m c 1 t ∗ entered m c 2 t ∗ entered m c 3 t ∗ entered m c 4 t ∗ entered m c 5 t ∗ entered m c 6 t
    ∗ entered m c 7 t ∗ entered m c 8 t ∗ entered m c 9 t ∗ entered m c 10 t)

/-- A window that is never idle is left at what the body leaves there. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t ∗ (dats m 0 c).leavesExact 9 t ∗ (dats m 0 c).leavesExact 10 t)

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost entered
  rw [leaves_live m c 0 t rfl, leaves_live m c 1 t rfl, leaves_live m c 2 t rfl, leaves_live m c 3 t rfl, leaves_live m c 4 t rfl, leaves_live m c 5 t rfl, leaves_live m c 6 t rfl, leaves_live m c 7 t rfl, leaves_live m c 8 t rfl, leaves_live m c 9 t rfl]
  rw [body_code]
  simp only [before0_0_of m _ (A_eq m c 0) (fun _ => rfl), before0_1_of m _ (A_eq m c 1) (fun _ => rfl),
    before0_2_of m _ (A_eq m c 2) (fun _ => rfl), before0_3_of m _ (A_eq m c 3) (fun _ => rfl),
    before0_4_of m _ (A_eq m c 4) (fun _ => rfl), before0_5_of m _ (A_eq m c 5) (fun _ => rfl)]
  rw [show (dats m 0 c).Φ t.castSucc = carried m c t.val from rfl, show (dats m 0 c).Φ t.succ = carried m c (t.val + 1) from rfl]
  unfold Dat.owesAt Pipeline.owesWithin
  rw [show (dats m 0 c).owed t.castSucc = 0 from rfl, show (dats m 0 c).owed t.succ = 0 from rfl]
  unfold carried
  iintro ⟨⟨%a, %s, %hs, Ha, Hs, Hr⟩, Howe, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨e0, e1, e2, e3, e4, e5, e6, e7, e8, e9, e10, es⟩ := next_found m c t
    ⟨(dats m 0 c).before 6 t d6, (dats m 0 c).before 7 t d7, (dats m 0 c).before 8 t d8, (dats m 0 c).before 9 t d9, (dats m 0 c).before 10 t d10, a, s⟩ hs
  iapply (sound_all (defs := defs₀ (F := F)) Variants.none c none Set.univ (code (args t) (pt t))
    (found m c t ⟨(dats m 0 c).before 6 t d6, (dats m 0 c).before 7 t d7, (dats m 0 c).before 8 t d8, (dats m 0 c).before 9 t d9,
      (dats m 0 c).before 10 t d10, a, s⟩)) $$ [H0 H1 H2 H3 H4 H5 H6 H7 H8 H9 H10 Ha Hs]
  · simp only [held_eq, found, cB, p1B, p2B, wB, mB, vB]
    iframe
  rw [run_code, held_eq, e0, e1, e2, e3, e4, e5, e6, e7, e8, e9, e10, es]
  iintro ⟨H0, H1, H2, H3, H4, H5, H6, H7, H8, H9, H10, Ha, Hs⟩
  isplitl [Ha Hs Hr]
  · iexists _, _
    isplitr
    · ipureintro; exact fun _ => rfl
    iframe
  iframe Howe H0 H1 H2 H3 H4 H5 H6 H7 H8 H9
  iapply (leaves_gb m c t d10)
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem carried_in (c : Dev nD) : (Pipeline.ΦA spec0 c : sProp 𝕄) ⊢ carried m c 0 := by
  unfold Pipeline.ΦA carried
  rw [scopedRest0_eq]
  iintro ⟨⟨⟨%a, Ha⟩, %s, Hs⟩, Hr⟩
  iexists a, s
  isplitr
  · ipureintro; exact fun h => absurd h (by omega)
  simp only [owns_whole]
  iframe

theorem carried_out (c : Dev nD) (k : ℕ) : (carried m c k : sProp 𝕄) ⊢ Pipeline.ΦA spec0 c := by
  unfold Pipeline.ΦA carried
  rw [scopedRest0_eq]
  simp only [owns_whole_eq]
  iintro ⟨%a, %s, -, ⟨%a', -, Ha⟩, ⟨%s', -, Hs⟩, Hr⟩
  isplitl [Ha Hs]
  · isplitl [Ha]
    · iexists a'; iexact Ha
    iexists s'; iexact Hs
  iexact Hr

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_in m c) (hout := fun c => carried_out m c _)

end Cert.Ada

end
-- ==== Proof.Ada.Spec.lean ====
/- The results of the conditioning's weight update as elements of its arguments: the gradients of the weights and of the biases, and the
   optimiser's step with its two moments. -/
module

public import proofs.«01_k».proof.Proof.BwdIn.Spec

@[expose] public section

noncomputable section

namespace Cert.Ada

open Idealize.ShloMosaic

/-- The gradient of a weight: over the devices, the activated conditioning by the modulation's gradient. -/
def grad (c : Fin 8 → Fin 1024 → EReal) (dmod : Fin 8 → Fin 3072 → EReal) (k : Fin 1024) (e : Fin 768) : EReal :=
  ∑ b, c b k * Ideal.div 1 (1 + Ideal.exp (-(c b k))) * dmod b ⟨e.val, by omega⟩

/-- The gradient of a bias. -/
def gradB (dmod : Fin 8 → Fin 3072 → EReal) (e : Fin 3072) : EReal := ∑ b, dmod b e

/-- The new first moment, -/
def newM (g m : EReal) : EReal := Ideal.ofBits .f32 0x3F666666#32 * m + Ideal.ofBits .f32 0x3DCCCCCD#32 * g

/-- the new second moment -/
def newV (g v : EReal) : EReal := Ideal.ofBits .f32 0x3F7FBE77#32 * v + Ideal.ofBits .f32 0x3A83126F#32 * (g * g)

/-- and the step, from both. -/
def step (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

end Cert.Ada

end
-- ==== Proof.Ada.Blocks.lean ====
/- What the blocks of the conditioning's weight kernel hold, as elements of the arguments. -/
module

public import proofs.«01_k».proof.Proof.Ada.Frame
public import proofs.«01_k».proof.Proof.Ada.Spec
public import proofs.«01_k».proof.Proof.Lib.Reals
public import Idealize.ShloMosaic.Lib.Pipeline.ValueKit
public import Idealize.ShloMosaic.Lib.StableHlo.ReadAt

@[expose] public section

noncomputable section

namespace Cert.Ada

open Idealize.ShloMosaic Idealize.ShloMosaic.TcCoe Cert.Kernel6Ideal Cert.Kernel6Ideal.Gen Cert.Hand

variable (m : (ℓ : Loc nD τ sig) → Buf (Elt Ideal) ℓ) (c : Dev nD)

/-- An argument's contents. -/
abbrev arg (r : Ref sig .tc) : Buf (Elt Ideal) ((c.tc : Thread nD τ).loc r) := m ((c.tc : Thread nD τ).loc r)

/-! ## The arguments by their places -/

def cA (b : Fin 8) (k : Fin 1024) : EReal := arg m c main_arg0 (ix2 b k)
def modA (b : Fin 8) (e : Fin 3072) : EReal := arg m c main_arg1 (ix2 b e)
def wA (k : Fin 1024) (e : Fin 768) : EReal := arg m c main_arg2 (ix2 k e)
def mA (k : Fin 1024) (e : Fin 768) : EReal := arg m c main_arg3 (ix2 k e)
def vA (k : Fin 1024) (e : Fin 768) : EReal := arg m c main_arg4 (ix2 k e)

/-! ## What the region finds -/

theorem c_at (b : Fin 8) (k : Fin 1024) : V m c main_v7 (ix2 b k) = cA m c b k * Ideal.div 1 (1 + Ideal.exp (-(cA m c b k))) := by
  rw [← sigmoid_eq]
  unfold V
  after_reads_at
  rfl

/-- The first eight rows of the packs. -/
theorem gate_at (b : Fin 8) (k : Fin 1024) : V m c main_v12 (ix2 ⟨b.val, by omega⟩ k) = modA m c b ⟨2048 + k.val, by omega⟩ := by
  unfold V
  after_reads_at
  rfl

theorem shift_at (b : Fin 8) (k : Fin 1024) : V m c main_v13 (ix2 ⟨b.val, by omega⟩ k) = modA m c b ⟨k.val, by omega⟩ := by
  unfold V
  after_reads_at
  refine (congrFun (StableHlo.unary_result _ _ _ _ _ _) _).trans ?_
  after_reads_at
  rfl

/-- The next eight rows of the second one. -/
theorem scale_at (b : Fin 8) (k : Fin 1024) : V m c main_v13 (ix2 ⟨8 + b.val, by omega⟩ k) = modA m c b ⟨1024 + k.val, by omega⟩ := by
  unfold V
  after_reads_at
  refine (congrFun (StableHlo.unary_result _ _ _ _ _ _) _).trans ?_
  after_reads_at
  rfl

/-! ## The blocks -/

/-- The blocks' places in their arrays. -/
theorem places : ∀ t : Fin cfg0.N, win0_0.index t = ![0, t.val] ∧ win0_1.index t = ![0, 0] ∧ win0_2.index t = ![0, 0]
    ∧ win0_3.index t = ![t.val, 0] ∧ win0_4.index t = ![t.val, 0] ∧ win0_5.index t = ![t.val, 0] := by decide +kernel

/-- A row of a block of the weights. -/
def rowOf (t : Fin cfg0.N) (r : Fin 256) : Fin 1024 := ⟨(pt t).val * 256 + r.val, by have h := (pt t).isLt; omega⟩

theorem cB_read (t : Fin cfg0.N) (b : Fin 8) (r : Fin 256) :
    cB m c t (ix2 b r) = cA m c b (rowOf t r) * Ideal.div 1 (1 + Ideal.exp (-(cA m c b (rowOf t r)))) := by
  have e : cB m c t (ix2 b r) = V m c main_v7 (ix2 b (rowOf t r)) := by
    unfold cB
    blk_ext [iblk, rowOf, places t]
    rfl
  exact e.trans (c_at m c _ _)

theorem p1B_read (t : Fin cfg0.N) (r : Fin 16) (k : Fin 1024) : p1B m c t (ix2 r k) = V m c main_v12 (ix2 r k) := by
  unfold p1B
  blk_ext [iblk, places t]

theorem p2B_read (t : Fin cfg0.N) (r : Fin 24) (k : Fin 1024) : p2B m c t (ix2 r k) = V m c main_v13 (ix2 r k) := by
  unfold p2B
  blk_ext [iblk, places t]

theorem wB_read (t : Fin cfg0.N) (r : Fin 256) (e : Fin 768) : wB m c t (ix2 r e) = wA m c (rowOf t r) e := by
  have e : wB m c t (ix2 r e) = V m c main_arg2 (ix2 (rowOf t r) e) := by
    unfold wB
    blk_ext [iblk, rowOf, places t]
    rfl
  exact e.trans (congrFun (V_main_arg2 m c) _)

theorem mB_read (t : Fin cfg0.N) (r : Fin 256) (e : Fin 768) : mB m c t (ix2 r e) = mA m c (rowOf t r) e := by
  have e : mB m c t (ix2 r e) = V m c main_arg3 (ix2 (rowOf t r) e) := by
    unfold mB
    blk_ext [iblk, rowOf, places t]
    rfl
  exact e.trans (congrFun (V_main_arg3 m c) _)

theorem vB_read (t : Fin cfg0.N) (r : Fin 256) (e : Fin 768) : vB m c t (ix2 r e) = vA m c (rowOf t r) e := by
  have e : vB m c t (ix2 r e) = V m c main_arg4 (ix2 (rowOf t r) e) := by
    unfold vB
    blk_ext [iblk, rowOf, places t]
    rfl
  exact e.trans (congrFun (V_main_arg4 m c) _)

/-- The packs hold the modulation's gradient. -/
theorem modC_at (b : Fin 8) (e : Fin 3072) : modC m c (ix2 b e) = modA m c b e := by
  unfold modC stack
  by_cases h : e.val < 1024
  · refine (if_pos h).trans ((p2B_read m c _ _ _).trans ((shift_at m c b _).trans (congrArg (modA m c b) (Fin.ext ?_))))
    show e.val % 1024 = e.val
    omega
  refine (if_neg h).trans ?_
  by_cases h' : e.val < 2048
  · refine (if_pos h').trans ((p2B_read m c _ _ _).trans ((scale_at m c b _).trans (congrArg (modA m c b) (Fin.ext ?_))))
    show 1024 + e.val % 1024 = e.val
    omega
  · refine (if_neg h').trans ((p1B_read m c _ _ _).trans ((gate_at m c b _).trans (congrArg (modA m c b) (Fin.ext ?_))))
    show 2048 + e.val % 1024 = e.val
    omega

end Cert.Ada

end
-- ==== Proof.Ada.Values.lean ====
/- What the conditioning's weight kernel leaves, at every place. -/
module

public import proofs.«01_k».proof.Proof.Ada.Blocks

@[expose] public section

noncomputable section

namespace Cert.Ada

open Idealize.ShloMosaic Idealize.ShloMosaic.TcCoe Cert.Kernel6Ideal Cert.Kernel6Ideal.Gen Cert.Hand

/-! ## The arithmetic, by places -/

theorem product_at (a : FVec Ideal S8x256 .f32) (s : FVec Ideal S8x768 .f32) (r : Fin 256) (e : Fin 768) :
    (product a s (ix2 r e) : EReal) = ∑ b : Fin 8, (a (ix2 b r) : EReal) * s (ix2 b e) := by
  unfold product
  pointwise

theorem summed_at (v : FVec Ideal S8x3072 .f32) (e : Fin 3072) : (summed v (ix2 0 e) : EReal) = ∑ b : Fin 8, (v (ix2 b e) : EReal) := by
  unfold summed
  pointwise

theorem first_at (g m : FVec Ideal S256x768 .f32) (r : Fin 256) (e : Fin 768) :
    (first g m (ix2 r e) : EReal) = newM (g (ix2 r e)) (m (ix2 r e)) := by
  unfold first newM
  pointwise

theorem second_at (g v : FVec Ideal S256x768 .f32) (r : Fin 256) (e : Fin 768) :
    (second g v (ix2 r e) : EReal) = newV (g (ix2 r e)) (v (ix2 r e)) := by
  unfold second newV
  pointwise

theorem delta_at (w m v : FVec Ideal S256x768 .f32) (r : Fin 256) (e : Fin 768) :
    (delta w m v (ix2 r e) : EReal) = step (w (ix2 r e)) (m (ix2 r e)) (v (ix2 r e)) := by
  unfold delta step
  pointwise

section Arrays

variable (m : (ℓ : Loc nD τ sig) → Buf (Elt Ideal) ℓ) (c : Dev nD)

/-! ## The results by places -/

def gF (k : Fin 1024) (e : Fin 768) : EReal := grad (cA m c) (modA m c) k e
def moF (k : Fin 1024) (e : Fin 768) : EReal := newM (gF m c k e) (mA m c k e)
def voF (k : Fin 1024) (e : Fin 768) : EReal := newV (gF m c k e) (vA m c k e)
def dF (k : Fin 1024) (e : Fin 768) : EReal := step (wA m c k e) (moF m c k e) (voF m c k e)

/-! ## The blocks' results -/

theorem columns_at (b : Fin 8) (e : Fin 768) : columns (modC m c) (ix2 b e) = modA m c b ⟨e.val, by omega⟩ := by
  refine Eq.trans (congrArg (modC m c) ?_) (modC_at m c b ⟨e.val, by omega⟩)
  refine emb_eq fun a => ?_; fin_cases a <;> simp [ix2]

theorem gC_at (t : Fin cfg0.N) (r : Fin 256) (e : Fin 768) : (gC m c t (ix2 r e) : EReal) = gF m c (rowOf t r) e := by
  unfold gC gF grad
  refine (product_at _ _ r e).trans (Finset.sum_congr (M := EReal) rfl fun b _ => ?_)
  rw [cB_read, columns_at]

theorem moC_at (t : Fin cfg0.N) (r : Fin 256) (e : Fin 768) : (moC m c t (ix2 r e) : EReal) = moF m c (rowOf t r) e := by
  unfold moC moF
  refine (first_at _ _ r e).trans ?_
  rw [gC_at, mB_read]

theorem voC_at (t : Fin cfg0.N) (r : Fin 256) (e : Fin 768) : (voC m c t (ix2 r e) : EReal) = voF m c (rowOf t r) e := by
  unfold voC voF
  refine (second_at _ _ r e).trans ?_
  rw [gC_at, vB_read]

theorem dC_at (t : Fin cfg0.N) (r : Fin 256) (e : Fin 768) : (dC m c t (ix2 r e) : EReal) = dF m c (rowOf t r) e := by
  unfold dC dF
  refine (delta_at _ _ _ r e).trans ?_
  rw [wB_read, moC_at, voC_at]

theorem gbC_at (e : Fin 3072) : (gbC m c (ix2 0 e) : EReal) = gradB (modA m c) e := by
  unfold gbC gradB
  refine (summed_at _ e).trans (Finset.sum_congr (M := EReal) rfl fun b _ => ?_)
  exact modC_at m c b e

/-! ## The results' arrays -/

theorem places_out : ∀ t : Fin cfg0.N, win0_6.index t = ![t.val, 0] ∧ win0_7.index t = ![t.val, 0] ∧ win0_8.index t = ![t.val, 0]
    ∧ win0_9.index t = ![t.val, 0] ∧ win0_10.index t = ![0, 0] := by decide +kernel

/-- A function of a weight's place as an array, -/
def arr (f : Fin 1024 → Fin 768 → EReal) : S1024x768.Idx → EReal := fun j => f (j 0) (j 1)

/-- and the biases' gradient. -/
def bArr : S1x3072.Idx → EReal := fun j => gradB (modA m c) (j 1)

/-- The weights' gradient is left whole. -/
theorem g_array : (dats m 0 c).arrAt 6 cfg0.N = arr (gF m c) := by
  refine (dats m 0 c).arrAt_eq_of_covers 6 _ (by decide +kernel) fun t hf y => ?_
  have he : ∀ (r : Fin 256) (e : Fin 768), (win0_6.blk t).view.emb (ix2 r e) = ix2 (rowOf t r) e := fun r e => by
    funext a
    apply Fin.ext
    fin_cases a <;> blk_simp [places_out t, rowOf] <;> rfl
  blk_simp
  rw [show (dats m 0 c).after 6 t = gC m c t by dsimp only [dats]]
  obtain ⟨r, e, rfl⟩ := two y
  exact (gC_at m c t r e).trans (congrArg (arr (gF m c)) (he r e)).symm

/-- So are the step -/
theorem d_array : (dats m 0 c).arrAt 7 cfg0.N = arr (dF m c) := by
  refine (dats m 0 c).arrAt_eq_of_covers 7 _ (by decide +kernel) fun t hf y => ?_
  have he : ∀ (r : Fin 256) (e : Fin 768), (win0_7.blk t).view.emb (ix2 r e) = ix2 (rowOf t r) e := fun r e => by
    funext a
    apply Fin.ext
    fin_cases a <;> blk_simp [places_out t, rowOf] <;> rfl
  blk_simp
  rw [show (dats m 0 c).after 7 t = dC m c t by dsimp only [dats]]
  obtain ⟨r, e, rfl⟩ := two y
  exact (dC_at m c t r e).trans (congrArg (arr (dF m c)) (he r e)).symm

/-- and the moments. -/
theorem mo_array : (dats m 0 c).arrAt 8 cfg0.N = arr (moF m c) := by
  refine (dats m 0 c).arrAt_eq_of_covers 8 _ (by decide +kernel) fun t hf y => ?_
  have he : ∀ (r : Fin 256) (e : Fin 768), (win0_8.blk t).view.emb (ix2 r e) = ix2 (rowOf t r) e := fun r e => by
    funext a
    apply Fin.ext
    fin_cases a <;> blk_simp [places_out t, rowOf] <;> rfl
  blk_simp
  rw [show (dats m 0 c).after 8 t = moC m c t by dsimp only [dats]]
  obtain ⟨r, e, rfl⟩ := two y
  exact (moC_at m c t r e).trans (congrArg (arr (moF m c)) (he r e)).symm

theorem vo_array : (dats m 0 c).arrAt 9 cfg0.N = arr (voF m c) := by
  refine (dats m 0 c).arrAt_eq_of_covers 9 _ (by decide +kernel) fun t hf y => ?_
  have he : ∀ (r : Fin 256) (e : Fin 768), (win0_9.blk t).view.emb (ix2 r e) = ix2 (rowOf t r) e := fun r e => by
    funext a
    apply Fin.ext
    fin_cases a <;> blk_simp [places_out t, rowOf] <;> rfl
  blk_simp
  rw [show (dats m 0 c).after 9 t = voC m c t by dsimp only [dats]]
  obtain ⟨r, e, rfl⟩ := two y
  exact (voC_at m c t r e).trans (congrArg (arr (voF m c)) (he r e)).symm

/-- And the biases' gradient, from the first point. -/
theorem gb_array : (dats m 0 c).arrAt 10 cfg0.N = bArr m c := by
  refine (dats m 0 c).arrAt_eq_of_covers 10 _ (by decide +kernel) fun t hf y => ?_
  have he : ∀ e : Fin 3072, (win0_10.blk t).view.emb (ix2 0 e) = ix2 0 e := fun e => by
    funext a
    apply Fin.ext
    fin_cases a <;> blk_simp [places_out t] <;> rfl
  blk_simp
  rw [show (dats m 0 c).after 10 t = gbC m c by dsimp only [dats]]
  obtain ⟨z, e, rfl⟩ := two y
  obtain rfl : z = 0 := Subsingleton.elim _ _
  exact (gbC_at m c e).trans (congrArg (bArr m c) (he e)).symm

end Arrays

/-! ## The runs of the conditioning's weight kernel: the arguments as they were, the counters at zero, and the five results -/

open Idealize.SL.Sem

/-- The arguments end as they were. -/
def Kept {F : FTy → Type} (m m' : (ℓ : Loc nD τ sig) → Buf (Elt F) ℓ) (c : Dev nD) : Prop :=
  Same m m' c main_arg0 ∧ Same m m' c main_arg1 ∧ Same m m' c main_arg2 ∧ Same m m' c main_arg3 ∧ Same m m' c main_arg4

section
variable {F : FTy → Type} [FloatOps F] (m : (ℓ : Loc nD τ sig) → Buf (Elt F) ℓ) (ρ : Dev nD → PrngReg)

/-- A buffer outside the call's windows keeps what the host left there. -/
theorem rest {b : Ref sig .tc} {c : Dev nD} {r : PUnit × MemSt nD τ sig (Elt F)} (h : Pipeline.FramePost cfgs (dats m) 0 (V m) r)
    (hV : V m c b = m ((c.tc : Thread nD τ).loc b))
    (hb : b ∈ Pipeline.restRefs sig spec0 := by exact Pipeline.mem_restRefs_of _ (by decide) (by decide)) : Same m r.2.mem c b :=
  ((h c).2 b hb).trans hV

theorem kept (r : PUnit × MemSt nD τ sig (Elt F)) (h : Pipeline.FramePost cfgs (dats m) 0 (V m) r) (c : Dev nD) : Kept m r.2.mem c :=
  ⟨rest m h (V_main_arg0 m c),
    rest m h (V_main_arg1 m c),
    ((h c).1 3).trans (((dats m 0 c).arrAt_in 3 rfl _).trans (V_main_arg2 m c)),
    ((h c).1 4).trans (((dats m 0 c).arrAt_in 4 rfl _).trans (V_main_arg3 m c)),
    ((h c).1 5).trans (((dats m 0 c).arrAt_in 5 rfl _).trans (V_main_arg4 m c))⟩

/-- Every run ends with the arguments as they were and every counter at zero. -/
theorem run_frame : θ_run defs (onTc (τ := τ) (main (F := F))) ⟨m, fun _ => 0, ρ⟩
    (fun r => (∀ c : Dev nD, Kept m r.2.mem c) ∧ r.2.sem = fun _ => 0) :=
  (θ_run defs _ _).mono (fun r h => ⟨kept m r h.1, h.2⟩) (run_main m ρ)

end

/-- Over the extended reals every run ends with the five results, too. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      left r c main_v14_0 = arr (gF m c) ∧ left r c main_v14_1 = arr (dF m c)
      ∧ left r c main_v14_2 = arr (moF m c) ∧ left r c main_v14_3 = arr (voF m c)
      ∧ left r c main_v14_4 = bArr m c ∧ Kept m r.2.mem c :=
  (θ_run defs _ _).mono (fun r h c => ⟨((h.1 c).1 6).trans (g_array m c), ((h.1 c).1 7).trans (d_array m c),
    ((h.1 c).1 8).trans (mo_array m c), ((h.1 c).1 9).trans (vo_array m c), ((h.1 c).1 10).trans (gb_array m c), kept m r h.1 c⟩)
    (run_main m ρ)

end Cert.Ada

end
-- ==== Proof.Ada.Reference.lean ====
/- The conditioning's gradients and the optimiser's step as the reference computes them, as elements of the arguments. -/
module

public import proofs.«01_k».proof.Proof.Lib.Mem
public import proofs.«01_k».proof.Proof.Ada.Spec
public import proofs.«01_k».proof.Proof.Gen.Reference6Ideal.Run
public import Idealize.ShloMosaic.Lib.StableHlo.ReadAt
public import Idealize.ShloMosaic.Lib.Pointwise

@[expose] public section

noncomputable section

namespace Cert.Ada.Ref

open Idealize.ShloMosaic Idealize.ShloMosaic.TcCoe Idealize.SL.Sem Cert.Reference6Ideal Cert.Reference6Ideal.Gen Cert.Reference6Ideal.Value Cert.Hand

variable (m : (ℓ : Loc nD τ sig) → Buf (Elt Ideal) ℓ) (c : Dev nD)

/-- An argument's contents. -/
abbrev arg (r : Ref sig .tc) : Buf (Elt Ideal) ((c.tc : Thread nD τ).loc r) := m ((c.tc : Thread nD τ).loc r)

/-! ## The arguments by their places -/

def cA (b : Fin 8) (k : Fin 1024) : EReal := arg m c main_arg0 (ix2 b k)
def modA (b : Fin 8) (e : Fin 3072) : EReal := arg m c main_arg1 (ix2 b e)
def wA (k : Fin 1024) (e : Fin 768) : EReal := arg m c main_arg2 (ix2 k e)
def mA (k : Fin 1024) (e : Fin 768) : EReal := arg m c main_arg3 (ix2 k e)
def vA (k : Fin 1024) (e : Fin 768) : EReal := arg m c main_arg4 (ix2 k e)

/-! ## The arrays the results are made of -/

variable (x : FVec Ideal S8x1024 .f32) (dm : FVec Ideal S8x3072 .f32) (g w u v : FVec Ideal S1024x768 .f32)

/-- A constant over the weights. -/
abbrev over (b : BitVec 32) : FVec Ideal S1024x768 .f32 := broadcastInDim S1024x768 ![] bcast_S_S1024x768 (constant S_ .f32 b)

/-- The weights' gradient, -/
abbrev gradV : FVec Ideal S1024x768 .f32 :=
  transpose S1024x768 [1, 0] (Host.dotGeneral dot_S8x768_S8x1024_S768x1024_0_0_1_1_n_n none
    (extractStridedSlice S8x768 ![0, 0] dm slices_S8x3072_S8x768_0_0)
    (mulf x (Host.divf (broadcastInDim S8x1024 ![] bcast_S_S8x1024 (constant S_ .f32 0x3F800000#32))
      (addf (broadcastInDim S8x1024 ![] bcast_S_S8x1024 (constant S_ .f32 0x3F800000#32)) (Host.exp (Host.negf x))))))
    transposes_S768x1024_S1024x768_1_0

/-- the moments, -/
abbrev firstV : FVec Ideal S1024x768 .f32 := addf (mulf (over 0x3F666666#32) u) (mulf (over 0x3DCCCCCD#32) g)
abbrev secondV : FVec Ideal S1024x768 .f32 := addf (mulf (over 0x3F7FBE77#32) v) (mulf (over 0x3A83126F#32) (mulf g g))

/-- the step -/
abbrev deltaV : FVec Ideal S1024x768 .f32 :=
  mulf (over 0xBA83126F#32) (addf (Host.divf (Host.divf u (over 0x3F26BD02#32))
    (addf (Host.sqrt (Host.divf v (over 0x3C231ACC#32))) (over 0x322BCC77#32))) (mulf (over 0x3C23D70A#32) w))

/-- and the biases' gradient. -/
abbrev biasV : FVec Ideal S1x3072 .f32 :=
  broadcastInDim S1x3072 ![1] bcast_S3072_S1x3072_1 (Host.reduceAdd dm (constant S_ .f32 0x00000000#32) reducesTo_S8x3072_S3072_d0 h_S_)

/-! ## Their elements -/

theorem gradV_at (k : Fin 1024) (e : Fin 768) :
    (gradV x dm (ix2 k e) : EReal) = grad (fun b k => x (ix2 b k)) (fun b e => dm (ix2 b e)) k e := by
  unfold gradV grad
  pointwise
  exact Finset.sum_congr (M := EReal) rfl fun b _ => mul_comm _ _

theorem firstV_at (k : Fin 1024) (e : Fin 768) : (firstV g u (ix2 k e) : EReal) = newM (g (ix2 k e)) (u (ix2 k e)) := by
  unfold firstV newM
  pointwise

theorem secondV_at (k : Fin 1024) (e : Fin 768) : (secondV g v (ix2 k e) : EReal) = newV (g (ix2 k e)) (v (ix2 k e)) := by
  unfold secondV newV
  pointwise

theorem deltaV_at (k : Fin 1024) (e : Fin 768) :
    (deltaV w u v (ix2 k e) : EReal) = step (w (ix2 k e)) (u (ix2 k e)) (v (ix2 k e)) := by
  unfold deltaV step
  pointwise

theorem biasV_at (e : Fin 3072) : (biasV dm (ix2 0 e) : EReal) = gradB (fun b e => dm (ix2 b e)) e := by
  unfold biasV gradB
  pointwise

/-! ## The results -/

/-- The arrays of the arguments. -/
abbrev gM : FVec Ideal S1024x768 .f32 := gradV (arg m c main_arg0) (arg m c main_arg1)
abbrev moM : FVec Ideal S1024x768 .f32 := firstV (gM m c) (arg m c main_arg3)
abbrev voM : FVec Ideal S1024x768 .f32 := secondV (gM m c) (arg m c main_arg4)
abbrev dM : FVec Ideal S1024x768 .f32 := deltaV (arg m c main_arg2) (moM m c) (voM m c)

/-- The results by places. -/
def gF (k : Fin 1024) (e : Fin 768) : EReal := grad (cA m c) (modA m c) k e
def moF (k : Fin 1024) (e : Fin 768) : EReal := newM (gF m c k e) (mA m c k e)
def voF (k : Fin 1024) (e : Fin 768) : EReal := newV (gF m c k e) (vA m c k e)
def dF (k : Fin 1024) (e : Fin 768) : EReal := step (wA m c k e) (moF m c k e) (voF m c k e)

/-- A function of a weight's place as an array, -/
def arr (f : Fin 1024 → Fin 768 → EReal) : S1024x768.Idx → EReal := fun j => f (j 0) (j 1)

/-- and the biases' gradient. -/
def bArr : S1x3072.Idx → EReal := fun j => gradB (modA m c) (j 1)

theorem gM_at (k : Fin 1024) (e : Fin 768) : (gM m c (ix2 k e) : EReal) = gF m c k e := gradV_at _ _ k e

theorem moM_at (k : Fin 1024) (e : Fin 768) : (moM m c (ix2 k e) : EReal) = moF m c k e :=
  (firstV_at (gM m c) _ k e).trans (congrArg (fun a => newM a (mA m c k e)) (gM_at m c k e))

theorem voM_at (k : Fin 1024) (e : Fin 768) : (voM m c (ix2 k e) : EReal) = voF m c k e :=
  (secondV_at (gM m c) _ k e).trans (congrArg (fun a => newV a (vA m c k e)) (gM_at m c k e))

theorem dM_at (k : Fin 1024) (e : Fin 768) : (dM m c (ix2 k e) : EReal) = dF m c k e :=
  (deltaV_at _ (moM m c) (voM m c) k e).trans (congrArg₂ (fun a b => step (wA m c k e) a b) (moM_at m c k e) (voM_at m c k e))

/-- An array that is a function at every place. -/
theorem arr_eq (A : FVec Ideal S1024x768 .f32) (f : Fin 1024 → Fin 768 → EReal) (h : ∀ k e, (A (ix2 k e) : EReal) = f k e) : A = arr f := by
  funext j
  obtain ⟨k, e, rfl⟩ := two j
  exact h k e

theorem b_eq : biasV (arg m c main_arg1) = bArr m c := by
  funext j
  obtain ⟨z, e, rfl⟩ := two j
  obtain rfl : z = 0 := Subsingleton.elim _ _
  exact biasV_at _ e

/-! ## The run -/

/-- The arguments end as they were. -/
def Kept (m' : (ℓ : Loc nD τ sig) → Buf (Elt Ideal) ℓ) (c : Dev nD) : Prop :=
  Same m m' c main_arg0 ∧ Same m m' c main_arg1 ∧ Same m m' c main_arg2 ∧ Same m m' c main_arg3 ∧ Same m m' c main_arg4

/-- Every run ends with the five results and the arguments as they were. -/
theorem run_values (ρ : Dev nD → PrngReg) :
    θ_run defs (onTc (τ := τ) (main (F := Ideal))) ⟨m, fun _ => 0, ρ⟩ fun r => ∀ c : Dev nD,
      left r c main_v4 = arr (gF m c)
      ∧ left r c main_v28 = arr (dF m c)
      ∧ left r c main_v9 = arr (moF m c)
      ∧ left r c main_v15 = arr (voF m c)
      ∧ left r c main_v30 = bArr m c
      ∧ Kept m r.2.mem c := by
  refine (θ_run defs _ _).mono (fun r h c => ?_) (run m ρ)
  obtain ⟨h0, h1, h2, h3, h4, ha⟩ := h c
  exact ⟨(h0.trans (show _ = gM m c from rfl)).trans (arr_eq _ _ (gM_at m c)),
    (h1.trans (show _ = dM m c from rfl)).trans (arr_eq _ _ (dM_at m c)),
    (h2.trans (show _ = moM m c from rfl)).trans (arr_eq _ _ (moM_at m c)),
    (h3.trans (show _ = voM m c from rfl)).trans (arr_eq _ _ (voM_at m c)),
    (h4.trans (show _ = biasV (arg m c main_arg1) from rfl)).trans (b_eq m c), ha⟩

end Cert.Ada.Ref

end
-- ==== Proof.Ada.Equal.lean ====
/- The conditioning's weight kernel computes what the reference does: its frames, and the equality of the results. -/
module

public import proofs.«01_k».proof.Defs
public import proofs.«01_k».proof.Proof.Ada.Values
public import proofs.«01_k».proof.Proof.Ada.Reference
public import proofs.«01_k».proof.Proof.Gen.Kernel6

@[expose] public section

noncomputable section

namespace Cert.Ada

open Idealize.ShloMosaic Idealize.ShloMosaic.TcCoe Idealize.SL.Sem

/-- The kernel and its idealization are one program, at two kinds of elements: the idealization's run is the kernel's. -/
theorem same_program : Cert.quiescent_Kernel6
    = ∀ (m : (ℓ : Loc Cert.Kernel6Ideal.nD Cert.Kernel6Ideal.τ Cert.Kernel6Ideal.sig) → Buf (Elt Bits) ℓ) (ρ : Dev Cert.Kernel6Ideal.nD → PrngReg), True →
        θ_run Cert.Kernel6Ideal.defs (onTc (τ := Cert.Kernel6Ideal.τ) (Cert.Kernel6Ideal.main (F := Bits))) ⟨m, fun _ => 0, ρ⟩
          (fun r => (∀ c : Dev Cert.Kernel6Ideal.nD, Kept m r.2.mem c) ∧ r.2.sem = fun _ => 0) := by
  sl_kernel_rfl

theorem frame_kernel : Cert.quiescent_Kernel6 := same_program.mpr fun m ρ _ => run_frame (F := Bits) m ρ

theorem frame_kernelIdeal : Cert.quiescent_Kernel6Ideal := fun m ρ _ => run_frame (F := Ideal) m ρ

theorem frame_referenceIdeal : Cert.quiescent_Reference6Ideal := fun m ρ _ =>
  (θ_run Cert.Reference6Ideal.defs _ _).mono (fun r h => ⟨fun c => (h c).2.2.2.2.2, sem_eq_zero_of_no_sems (by decide) r.2⟩)
    (Cert.Reference6Ideal.Value.run m ρ)

theorem values : Cert.algebraic_Kernel6Ideal_Reference6Ideal := by
  intro m ρ m' ρ' _ hargs
  have hc : ∀ c, Ref.cA m' c = cA m c := fun c => funext fun b => funext fun k => congrFun (hargs c).1 (ix2 b k)
  have hd : ∀ c, Ref.modA m' c = modA m c := fun c => funext fun b => funext fun e => congrFun (hargs c).2.1 (ix2 b e)
  have hw : ∀ c, Ref.wA m' c = wA m c := fun c => funext fun k => funext fun e => congrFun (hargs c).2.2.1 (ix2 k e)
  have hm : ∀ c, Ref.mA m' c = mA m c := fun c => funext fun k => funext fun e => congrFun (hargs c).2.2.2.1 (ix2 k e)
  have hv : ∀ c, Ref.vA m' c = vA m c := fun c => funext fun k => funext fun e => congrFun (hargs c).2.2.2.2 (ix2 k e)
  have hg : ∀ c, Ref.gF m' c = gF m c := fun c => funext fun k => funext fun e => by unfold Ref.gF gF; rw [hc, hd]
  have hmo : ∀ c, Ref.moF m' c = moF m c := fun c => funext fun k => funext fun e => by unfold Ref.moF moF; rw [hg, hm]
  have hvo : ∀ c, Ref.voF m' c = voF m c := fun c => funext fun k => funext fun e => by unfold Ref.voF voF; rw [hg, hv]
  have hdl : ∀ c, Ref.dF m' c = dF m c := fun c => funext fun k => funext fun e => by unfold Ref.dF dF; rw [hmo, hvo, hw]
  have hb : ∀ c, Ref.bArr m' c = bArr m c := fun c => by unfold Ref.bArr bArr; rw [hd]
  refine ⟨_, _, _, _, _, run_values m ρ, (θ_run Cert.Reference6Ideal.defs _ _).mono (fun r h c => ?_) (Ref.run_values m' ρ')⟩
  have h := h c
  rw [hg, hdl, hmo, hvo, hb] at h
  exact h

end Cert.Ada

end
-- ==== Proof.lean ====
/- The claim, put together: the runs, and the equality of the results. -/
module

public import proofs.«01_k».proof.Proof.Gen.Kernel
public import proofs.«01_k».proof.Proof.Middle.Equal
public import proofs.«01_k».proof.Proof.ConvBack.Equal
public import proofs.«01_k».proof.Proof.ConvFwd.Equal
public import proofs.«01_k».proof.Proof.Front.Equal
public import proofs.«01_k».proof.Proof.Ada.Equal

@[expose] public section

noncomputable section

namespace Cert.Proof

open Idealize.ShloMosaic Idealize.ShloMosaic.TcCoe Idealize.SL.Sem Cert.BwdIn

/-- The kernel and its idealization are one program, at two kinds of elements: the idealization's run is the kernel's. -/
theorem same_program : Cert.quiescent_Kernel
    = ∀ (m : (ℓ : Loc Cert.KernelIdeal.nD Cert.KernelIdeal.τ Cert.KernelIdeal.sig) → Buf (Elt Bits) ℓ) (ρ : Dev Cert.KernelIdeal.nD → PrngReg), True →
        θ_run Cert.KernelIdeal.defs (onTc (τ := Cert.KernelIdeal.τ) (Cert.KernelIdeal.main (F := Bits))) ⟨m, fun _ => 0, ρ⟩
          (fun r => (∀ c : Dev Cert.KernelIdeal.nD, Kept m r.2.mem c) ∧ r.2.sem = fun _ => 0) := by
  sl_kernel_rfl

theorem frame_kernel : Cert.quiescent_Kernel := same_program.mpr fun m ρ _ => run_frame (F := Bits) m ρ

theorem frame_kernelIdeal : Cert.quiescent_KernelIdeal := fun m ρ _ => run_frame (F := Ideal) m ρ

theorem frame_kernelIdeal_finite : Cert.quiescent_KernelIdeal_pre_finite := fun m ρ _ => run_frame (F := Ideal) m ρ

theorem frame_referenceIdeal : Cert.quiescent_ReferenceIdeal := fun m ρ _ => Ref.run_frame m ρ

theorem frame_referenceIdeal_finite : Cert.quiescent_ReferenceIdeal_pre_finite := fun m ρ _ => Ref.run_frame m ρ

theorem values : Cert.algebraic_KernelIdeal_ReferenceIdeal_pre_finite := by
  intro m ρ m' ρ' hpre hargs
  have hx : ∀ c, Ref.xA m' c = xA m c := fun c => funext fun n => funext fun k => congrFun (hargs c).1 (ix2 n k)
  have hg : ∀ c, Ref.gA m' c = gA m c := fun c => funext fun k => congrFun (hargs c).2.1 (ix1 k)
  have hm : ∀ c, Ref.modA m' c = modA m c := fun c => funext fun k => congrFun (hargs c).2.2.1 (ix1 k)
  have hw : ∀ c, Ref.wA m' c = wA m c := fun c => funext fun k => funext fun e => congrFun (hargs c).2.2.2.1 (ix2 k e)
  have hd : ∀ c, Ref.dx2A m' c = dx2A m c := fun c => funext fun n => funext fun k => congrFun (hargs c).2.2.2.2.2.2.1 (ix2 n k)
  have hz : ∀ c, Ref.dzA m' c = dzA m c := fun c => funext fun n => funext fun e => congrFun (hargs c).2.2.2.2.2.2.2.1 (ix2 n e)
  have hq : ∀ c, Ref.dqA m' c = dqA m c := fun c => funext fun n => funext fun k => congrFun (hargs c).2.2.2.2.2.2.2.2 (ix2 n k)
  refine ⟨_, _, _, run_values m ρ, (θ_run Cert.ReferenceIdeal.defs _ _).mono (fun r h c => ?_) (Ref.run_values m' ρ')⟩
  obtain ⟨h0, h1, h2, ha⟩ := h c
  rw [hx, hg, hm, hw, hz] at h0 h1
  rw [hx, hg, hm, hw] at h2
  rw [hd] at h0
  rw [hq] at h2
  exact ⟨h0.trans (funext fun j => (grads_agree m hpre c (j 0) (j 1)).symm), h1, h2, ha⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  finite_facts, Cert.Middle.finite2_facts,
  frame_kernel, frame_kernelIdeal, frame_kernelIdeal_finite, frame_referenceIdeal, frame_referenceIdeal_finite,
  Cert.Middle.frame_kernel, Cert.Middle.frame_kernelIdeal, Cert.Middle.frame_kernelIdeal_finite, Cert.Middle.frame_referenceIdeal,
  Cert.Middle.frame_referenceIdeal_finite, Cert.ConvBack.frame_kernel, Cert.ConvBack.frame_kernelIdeal, Cert.ConvBack.frame_referenceIdeal,
  Cert.ConvFwd.frame_kernel, Cert.ConvFwd.frame_kernelIdeal, Cert.ConvFwd.frame_referenceIdeal,
  Cert.Front.frame_kernel, Cert.Front.frame_kernelIdeal, Cert.Front.frame_referenceIdeal,
  Cert.Ada.frame_kernel, Cert.Ada.frame_kernelIdeal, Cert.Ada.frame_referenceIdeal,
  trivial, values, trivial, Cert.Middle.values, trivial, Cert.ConvBack.values, trivial, Cert.ConvFwd.values, trivial,
  Cert.Front.values, trivial, Cert.Ada.values⟩

end Cert.Proof

end
